-- ==== Defs.lean ====
def Pre_Dq (m : (ℓ : Loc Cert.Dq.nD Cert.Dq.τ Cert.Dq.sig) → Buf (Elt Bits) ℓ) : Prop :=
  True

def Pre_DqIdeal (m : (ℓ : Loc Cert.DqIdeal.nD Cert.DqIdeal.τ Cert.DqIdeal.sig) → Buf (Elt Ideal) ℓ) : Prop :=
  True

def Pre_DqIdeal_finite [hPre_finite : Cert.Pre_finite.Facts] (m : (ℓ : Loc Cert.DqIdeal.nD Cert.DqIdeal.τ Cert.DqIdeal.sig) → Buf (Elt Ideal) ℓ) : Prop :=
  ∀ c : Dev Cert.DqIdeal.nD,
    (Cert.Pre_finite.fn (F := Ideal) (m ((c.tc : Thread Cert.DqIdeal.nD Cert.DqIdeal.τ).loc Cert.DqIdeal.main_arg0)) (m ((c.tc : Thread Cert.DqIdeal.nD Cert.DqIdeal.τ).loc Cert.DqIdeal.main_arg1)) (m ((c.tc : Thread Cert.DqIdeal.nD Cert.DqIdeal.τ).loc Cert.DqIdeal.main_arg2))).1 = (fun _ => 1#1)
    ∧ (Cert.Pre_finite.fn (F := Ideal) (m ((c.tc : Thread Cert.DqIdeal.nD Cert.DqIdeal.τ).loc Cert.DqIdeal.main_arg0)) (m ((c.tc : Thread Cert.DqIdeal.nD Cert.DqIdeal.τ).loc Cert.DqIdeal.main_arg1)) (m ((c.tc : Thread Cert.DqIdeal.nD Cert.DqIdeal.τ).loc Cert.DqIdeal.main_arg2))).2.1 = (fun _ => 1#1)
    ∧ (Cert.Pre_finite.fn (F := Ideal) (m ((c.tc : Thread Cert.DqIdeal.nD Cert.DqIdeal.τ).loc Cert.DqIdeal.main_arg0)) (m ((c.tc : Thread Cert.DqIdeal.nD Cert.DqIdeal.τ).loc Cert.DqIdeal.main_arg1)) (m ((c.tc : Thread Cert.DqIdeal.nD Cert.DqIdeal.τ).loc Cert.DqIdeal.main_arg2))).2.2 = (fun _ => 1#1)

def Pre_DqRefIdeal (m : (ℓ : Loc Cert.DqRefIdeal.nD Cert.DqRefIdeal.τ Cert.DqRefIdeal.sig) → Buf (Elt Ideal) ℓ) : Prop :=
  True

def Pre_DqRefIdeal_finite [hPre_finite : Cert.Pre_finite.Facts] (m : (ℓ : Loc Cert.DqRefIdeal.nD Cert.DqRefIdeal.τ Cert.DqRefIdeal.sig) → Buf (Elt Ideal) ℓ) : Prop :=
  ∀ c : Dev Cert.DqRefIdeal.nD,
    (Cert.Pre_finite.fn (F := Ideal) (m ((c.tc : Thread Cert.DqRefIdeal.nD Cert.DqRefIdeal.τ).loc Cert.DqRefIdeal.main_arg0)) (m ((c.tc : Thread Cert.DqRefIdeal.nD Cert.DqRefIdeal.τ).loc Cert.DqRefIdeal.main_arg1)) (m ((c.tc : Thread Cert.DqRefIdeal.nD Cert.DqRefIdeal.τ).loc Cert.DqRefIdeal.main_arg2))).1 = (fun _ => 1#1)
    ∧ (Cert.Pre_finite.fn (F := Ideal) (m ((c.tc : Thread Cert.DqRefIdeal.nD Cert.DqRefIdeal.τ).loc Cert.DqRefIdeal.main_arg0)) (m ((c.tc : Thread Cert.DqRefIdeal.nD Cert.DqRefIdeal.τ).loc Cert.DqRefIdeal.main_arg1)) (m ((c.tc : Thread Cert.DqRefIdeal.nD Cert.DqRefIdeal.τ).loc Cert.DqRefIdeal.main_arg2))).2.1 = (fun _ => 1#1)
    ∧ (Cert.Pre_finite.fn (F := Ideal) (m ((c.tc : Thread Cert.DqRefIdeal.nD Cert.DqRefIdeal.τ).loc Cert.DqRefIdeal.main_arg0)) (m ((c.tc : Thread Cert.DqRefIdeal.nD Cert.DqRefIdeal.τ).loc Cert.DqRefIdeal.main_arg1)) (m ((c.tc : Thread Cert.DqRefIdeal.nD Cert.DqRefIdeal.τ).loc Cert.DqRefIdeal.main_arg2))).2.2 = (fun _ => 1#1)

def Pre_Dkv (m : (ℓ : Loc Cert.Dkv.nD Cert.Dkv.τ Cert.Dkv.sig) → Buf (Elt Bits) ℓ) : Prop :=
  True

def Pre_DkvIdeal (m : (ℓ : Loc Cert.DkvIdeal.nD Cert.DkvIdeal.τ Cert.DkvIdeal.sig) → Buf (Elt Ideal) ℓ) : Prop :=
  True

def Pre_DkvIdeal_finite [hPre_finite : Cert.Pre_finite.Facts] (m : (ℓ : Loc Cert.DkvIdeal.nD Cert.DkvIdeal.τ Cert.DkvIdeal.sig) → Buf (Elt Ideal) ℓ) : Prop :=
  ∀ c : Dev Cert.DkvIdeal.nD,
    (Cert.Pre_finite.fn (F := Ideal) (m ((c.tc : Thread Cert.DkvIdeal.nD Cert.DkvIdeal.τ).loc Cert.DkvIdeal.main_arg0)) (m ((c.tc : Thread Cert.DkvIdeal.nD Cert.DkvIdeal.τ).loc Cert.DkvIdeal.main_arg1)) (m ((c.tc : Thread Cert.DkvIdeal.nD Cert.DkvIdeal.τ).loc Cert.DkvIdeal.main_arg2))).1 = (fun _ => 1#1)
    ∧ (Cert.Pre_finite.fn (F := Ideal) (m ((c.tc : Thread Cert.DkvIdeal.nD Cert.DkvIdeal.τ).loc Cert.DkvIdeal.main_arg0)) (m ((c.tc : Thread Cert.DkvIdeal.nD Cert.DkvIdeal.τ).loc Cert.DkvIdeal.main_arg1)) (m ((c.tc : Thread Cert.DkvIdeal.nD Cert.DkvIdeal.τ).loc Cert.DkvIdeal.main_arg2))).2.1 = (fun _ => 1#1)
    ∧ (Cert.Pre_finite.fn (F := Ideal) (m ((c.tc : Thread Cert.DkvIdeal.nD Cert.DkvIdeal.τ).loc Cert.DkvIdeal.main_arg0)) (m ((c.tc : Thread Cert.DkvIdeal.nD Cert.DkvIdeal.τ).loc Cert.DkvIdeal.main_arg1)) (m ((c.tc : Thread Cert.DkvIdeal.nD Cert.DkvIdeal.τ).loc Cert.DkvIdeal.main_arg2))).2.2 = (fun _ => 1#1)

def Pre_DkvRefIdeal (m : (ℓ : Loc Cert.DkvRefIdeal.nD Cert.DkvRefIdeal.τ Cert.DkvRefIdeal.sig) → Buf (Elt Ideal) ℓ) : Prop :=
  True

def Pre_DkvRefIdeal_finite [hPre_finite : Cert.Pre_finite.Facts] (m : (ℓ : Loc Cert.DkvRefIdeal.nD Cert.DkvRefIdeal.τ Cert.DkvRefIdeal.sig) → Buf (Elt Ideal) ℓ) : Prop :=
  ∀ c : Dev Cert.DkvRefIdeal.nD,
    (Cert.Pre_finite.fn (F := Ideal) (m ((c.tc : Thread Cert.DkvRefIdeal.nD Cert.DkvRefIdeal.τ).loc Cert.DkvRefIdeal.main_arg0)) (m ((c.tc : Thread Cert.DkvRefIdeal.nD Cert.DkvRefIdeal.τ).loc Cert.DkvRefIdeal.main_arg1)) (m ((c.tc : Thread Cert.DkvRefIdeal.nD Cert.DkvRefIdeal.τ).loc Cert.DkvRefIdeal.main_arg2))).1 = (fun _ => 1#1)
    ∧ (Cert.Pre_finite.fn (F := Ideal) (m ((c.tc : Thread Cert.DkvRefIdeal.nD Cert.DkvRefIdeal.τ).loc Cert.DkvRefIdeal.main_arg0)) (m ((c.tc : Thread Cert.DkvRefIdeal.nD Cert.DkvRefIdeal.τ).loc Cert.DkvRefIdeal.main_arg1)) (m ((c.tc : Thread Cert.DkvRefIdeal.nD Cert.DkvRefIdeal.τ).loc Cert.DkvRefIdeal.main_arg2))).2.1 = (fun _ => 1#1)
    ∧ (Cert.Pre_finite.fn (F := Ideal) (m ((c.tc : Thread Cert.DkvRefIdeal.nD Cert.DkvRefIdeal.τ).loc Cert.DkvRefIdeal.main_arg0)) (m ((c.tc : Thread Cert.DkvRefIdeal.nD Cert.DkvRefIdeal.τ).loc Cert.DkvRefIdeal.main_arg1)) (m ((c.tc : Thread Cert.DkvRefIdeal.nD Cert.DkvRefIdeal.τ).loc Cert.DkvRefIdeal.main_arg2))).2.2 = (fun _ => 1#1)

def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdIdeal_finite_fwd [hPre_finite_fwd : Cert.Pre_finite_fwd.Facts] (m : (ℓ : Loc Cert.FwdIdeal.nD Cert.FwdIdeal.τ Cert.FwdIdeal.sig) → Buf (Elt Ideal) ℓ) : Prop :=
  ∀ c : Dev Cert.FwdIdeal.nD,
    (Cert.Pre_finite_fwd.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1))).1 = (fun _ => 1#1)
    ∧ (Cert.Pre_finite_fwd.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1))).2 = (fun _ => 1#1)

def Pre_FwdRefIdeal (m : (ℓ : Loc Cert.FwdRefIdeal.nD Cert.FwdRefIdeal.τ Cert.FwdRefIdeal.sig) → Buf (Elt Ideal) ℓ) : Prop :=
  True

def Pre_FwdRefIdeal_finite_fwd [hPre_finite_fwd : Cert.Pre_finite_fwd.Facts] (m : (ℓ : Loc Cert.FwdRefIdeal.nD Cert.FwdRefIdeal.τ Cert.FwdRefIdeal.sig) → Buf (Elt Ideal) ℓ) : Prop :=
  ∀ c : Dev Cert.FwdRefIdeal.nD,
    (Cert.Pre_finite_fwd.fn (F := Ideal) (m ((c.tc : Thread Cert.FwdRefIdeal.nD Cert.FwdRefIdeal.τ).loc Cert.FwdRefIdeal.main_arg0)) (m ((c.tc : Thread Cert.FwdRefIdeal.nD Cert.FwdRefIdeal.τ).loc Cert.FwdRefIdeal.main_arg1))).1 = (fun _ => 1#1)
    ∧ (Cert.Pre_finite_fwd.fn (F := Ideal) (m ((c.tc : Thread Cert.FwdRefIdeal.nD Cert.FwdRefIdeal.τ).loc Cert.FwdRefIdeal.main_arg0)) (m ((c.tc : Thread Cert.FwdRefIdeal.nD Cert.FwdRefIdeal.τ).loc Cert.FwdRefIdeal.main_arg1))).2 = (fun _ => 1#1)

def Pre_FfnOutDx (m : (ℓ : Loc Cert.FfnOutDx.nD Cert.FfnOutDx.τ Cert.FfnOutDx.sig) → Buf (Elt Bits) ℓ) : Prop :=
  True

def Pre_FfnOutDxIdeal (m : (ℓ : Loc Cert.FfnOutDxIdeal.nD Cert.FfnOutDxIdeal.τ Cert.FfnOutDxIdeal.sig) → Buf (Elt Ideal) ℓ) : Prop :=
  True

def Pre_FfnOutDxRefIdeal (m : (ℓ : Loc Cert.FfnOutDxRefIdeal.nD Cert.FfnOutDxRefIdeal.τ Cert.FfnOutDxRefIdeal.sig) → Buf (Elt Ideal) ℓ) : Prop :=
  True

def Pre_FfnOutDw (m : (ℓ : Loc Cert.FfnOutDw.nD Cert.FfnOutDw.τ Cert.FfnOutDw.sig) → Buf (Elt Bits) ℓ) : Prop :=
  True

def Pre_FfnOutDwIdeal (m : (ℓ : Loc Cert.FfnOutDwIdeal.nD Cert.FfnOutDwIdeal.τ Cert.FfnOutDwIdeal.sig) → Buf (Elt Ideal) ℓ) : Prop :=
  True

def Pre_FfnOutDwRefIdeal (m : (ℓ : Loc Cert.FfnOutDwRefIdeal.nD Cert.FfnOutDwRefIdeal.τ Cert.FfnOutDwRefIdeal.sig) → Buf (Elt Ideal) ℓ) : Prop :=
  True

def Pre_FfnInDx (m : (ℓ : Loc Cert.FfnInDx.nD Cert.FfnInDx.τ Cert.FfnInDx.sig) → Buf (Elt Bits) ℓ) : Prop :=
  True

def Pre_FfnInDxIdeal (m : (ℓ : Loc Cert.FfnInDxIdeal.nD Cert.FfnInDxIdeal.τ Cert.FfnInDxIdeal.sig) → Buf (Elt Ideal) ℓ) : Prop :=
  True

def Pre_FfnInDxRefIdeal (m : (ℓ : Loc Cert.FfnInDxRefIdeal.nD Cert.FfnInDxRefIdeal.τ Cert.FfnInDxRefIdeal.sig) → Buf (Elt Ideal) ℓ) : Prop :=
  True

def Pre_FfnInDw (m : (ℓ : Loc Cert.FfnInDw.nD Cert.FfnInDw.τ Cert.FfnInDw.sig) → Buf (Elt Bits) ℓ) : Prop :=
  True

def Pre_FfnInDwIdeal (m : (ℓ : Loc Cert.FfnInDwIdeal.nD Cert.FfnInDwIdeal.τ Cert.FfnInDwIdeal.sig) → Buf (Elt Ideal) ℓ) : Prop :=
  True

def Pre_FfnInDwRefIdeal (m : (ℓ : Loc Cert.FfnInDwRefIdeal.nD Cert.FfnInDwRefIdeal.τ Cert.FfnInDwRefIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_QkvDx (m : (ℓ : Loc Cert.QkvDx.nD Cert.QkvDx.τ Cert.QkvDx.sig) → Buf (Elt Bits) ℓ) : Prop :=
  True

def Pre_QkvDxIdeal (m : (ℓ : Loc Cert.QkvDxIdeal.nD Cert.QkvDxIdeal.τ Cert.QkvDxIdeal.sig) → Buf (Elt Ideal) ℓ) : Prop :=
  True

def Pre_QkvDxRefIdeal (m : (ℓ : Loc Cert.QkvDxRefIdeal.nD Cert.QkvDxRefIdeal.τ Cert.QkvDxRefIdeal.sig) → Buf (Elt Ideal) ℓ) : Prop :=
  True

def Pre_QkvDw (m : (ℓ : Loc Cert.QkvDw.nD Cert.QkvDw.τ Cert.QkvDw.sig) → Buf (Elt Bits) ℓ) : Prop :=
  True

def Pre_QkvDwIdeal (m : (ℓ : Loc Cert.QkvDwIdeal.nD Cert.QkvDwIdeal.τ Cert.QkvDwIdeal.sig) → Buf (Elt Ideal) ℓ) : Prop :=
  True

def Pre_QkvDwRefIdeal (m : (ℓ : Loc Cert.QkvDwRefIdeal.nD Cert.QkvDwRefIdeal.τ Cert.QkvDwRefIdeal.sig) → Buf (Elt Ideal) ℓ) : Prop :=
  True

def Pre_ForgetDx (m : (ℓ : Loc Cert.ForgetDx.nD Cert.ForgetDx.τ Cert.ForgetDx.sig) → Buf (Elt Bits) ℓ) : Prop :=
  True

def Pre_ForgetDxIdeal (m : (ℓ : Loc Cert.ForgetDxIdeal.nD Cert.ForgetDxIdeal.τ Cert.ForgetDxIdeal.sig) → Buf (Elt Ideal) ℓ) : Prop :=
  True

def Pre_ForgetDxRefIdeal (m : (ℓ : Loc Cert.ForgetDxRefIdeal.nD Cert.ForgetDxRefIdeal.τ Cert.ForgetDxRefIdeal.sig) → Buf (Elt Ideal) ℓ) : Prop :=
  True

def Pre_ForgetDw (m : (ℓ : Loc Cert.ForgetDw.nD Cert.ForgetDw.τ Cert.ForgetDw.sig) → Buf (Elt Bits) ℓ) : Prop :=
  True

def Pre_ForgetDwIdeal (m : (ℓ : Loc Cert.ForgetDwIdeal.nD Cert.ForgetDwIdeal.τ Cert.ForgetDwIdeal.sig) → Buf (Elt Ideal) ℓ) : Prop :=
  True

def Pre_ForgetDwRefIdeal (m : (ℓ : Loc Cert.ForgetDwRefIdeal.nD Cert.ForgetDwRefIdeal.τ Cert.ForgetDwRefIdeal.sig) → Buf (Elt Ideal) ℓ) : Prop :=
  True

def Pre_GmInDx (m : (ℓ : Loc Cert.GmInDx.nD Cert.GmInDx.τ Cert.GmInDx.sig) → Buf (Elt Bits) ℓ) : Prop :=
  True

def Pre_GmInDxIdeal (m : (ℓ : Loc Cert.GmInDxIdeal.nD Cert.GmInDxIdeal.τ Cert.GmInDxIdeal.sig) → Buf (Elt Ideal) ℓ) : Prop :=
  True

def Pre_GmInDxRefIdeal (m : (ℓ : Loc Cert.GmInDxRefIdeal.nD Cert.GmInDxRefIdeal.τ Cert.GmInDxRefIdeal.sig) → Buf (Elt Ideal) ℓ) : Prop :=
  True

def Pre_GmInDw (m : (ℓ : Loc Cert.GmInDw.nD Cert.GmInDw.τ Cert.GmInDw.sig) → Buf (Elt Bits) ℓ) : Prop :=
  True

def Pre_GmInDwIdeal (m : (ℓ : Loc Cert.GmInDwIdeal.nD Cert.GmInDwIdeal.τ Cert.GmInDwIdeal.sig) → Buf (Elt Ideal) ℓ) : Prop :=
  True

def Pre_GmInDwRefIdeal (m : (ℓ : Loc Cert.GmInDwRefIdeal.nD Cert.GmInDwRefIdeal.τ Cert.GmInDwRefIdeal.sig) → Buf (Elt Ideal) ℓ) : Prop :=
  True

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInRefIdeal (m : (ℓ : Loc Cert.FfnInRefIdeal.nD Cert.FfnInRefIdeal.τ Cert.FfnInRefIdeal.sig) → Buf (Elt Ideal) ℓ) : Prop :=
  True

def Pre_FfnOut (m : (ℓ : Loc Cert.FfnOut.nD Cert.FfnOut.τ Cert.FfnOut.sig) → Buf (Elt Bits) ℓ) : Prop :=
  True

def Pre_FfnOutIdeal (m : (ℓ : Loc Cert.FfnOutIdeal.nD Cert.FfnOutIdeal.τ Cert.FfnOutIdeal.sig) → Buf (Elt Ideal) ℓ) : Prop :=
  True

def Pre_FfnOutRefIdeal (m : (ℓ : Loc Cert.FfnOutRefIdeal.nD Cert.FfnOutRefIdeal.τ Cert.FfnOutRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Forget (m : (ℓ : Loc Cert.Forget.nD Cert.Forget.τ Cert.Forget.sig) → Buf (Elt Bits) ℓ) : Prop :=
  True

def Pre_ForgetIdeal (m : (ℓ : Loc Cert.ForgetIdeal.nD Cert.ForgetIdeal.τ Cert.ForgetIdeal.sig) → Buf (Elt Ideal) ℓ) : Prop :=
  True

def Pre_ForgetRefIdeal (m : (ℓ : Loc Cert.ForgetRefIdeal.nD Cert.ForgetRefIdeal.τ Cert.ForgetRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_GmIn (m : (ℓ : Loc Cert.GmIn.nD Cert.GmIn.τ Cert.GmIn.sig) → Buf (Elt Bits) ℓ) : Prop :=
  True

def Pre_GmInIdeal (m : (ℓ : Loc Cert.GmInIdeal.nD Cert.GmInIdeal.τ Cert.GmInIdeal.sig) → Buf (Elt Ideal) ℓ) : Prop :=
  True

def Pre_GmInRefIdeal (m : (ℓ : Loc Cert.GmInRefIdeal.nD Cert.GmInRefIdeal.τ Cert.GmInRefIdeal.sig) → Buf (Elt Ideal) ℓ) : Prop :=
  True

def Pre_NormMod (m : (ℓ : Loc Cert.NormMod.nD Cert.NormMod.τ Cert.NormMod.sig) → Buf (Elt Bits) ℓ) : Prop :=
  True

def Pre_NormModIdeal (m : (ℓ : Loc Cert.NormModIdeal.nD Cert.NormModIdeal.τ Cert.NormModIdeal.sig) → Buf (Elt Ideal) ℓ) : Prop :=
  True

def Pre_NormModRefIdeal (m : (ℓ : Loc Cert.NormModRefIdeal.nD Cert.NormModRefIdeal.τ Cert.NormModRefIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdRefIdeal (m : (ℓ : Loc Cert.NormBwdRefIdeal.nD Cert.NormBwdRefIdeal.τ Cert.NormBwdRefIdeal.sig) → Buf (Elt Ideal) ℓ) : Prop :=
  True

def Pre_NormFirst (m : (ℓ : Loc Cert.NormFirst.nD Cert.NormFirst.τ Cert.NormFirst.sig) → Buf (Elt Bits) ℓ) : Prop :=
  True

def Pre_NormFirstIdeal (m : (ℓ : Loc Cert.NormFirstIdeal.nD Cert.NormFirstIdeal.τ Cert.NormFirstIdeal.sig) → Buf (Elt Ideal) ℓ) : Prop :=
  True

def Pre_NormFirstRefIdeal (m : (ℓ : Loc Cert.NormFirstRefIdeal.nD Cert.NormFirstRefIdeal.τ Cert.NormFirstRefIdeal.sig) → Buf (Elt Ideal) ℓ) : Prop :=
  True

def quiescent_Dq [hDq : Cert.Dq.Facts] : Prop :=
  ∀ (m : (ℓ : Loc Cert.Dq.nD Cert.Dq.τ Cert.Dq.sig) → Buf (Elt Bits) ℓ) (g : Dev Cert.Dq.nD → PrngReg), Pre_Dq m →
    θ_run (Cert.Dq.defs (F := Bits)) (onTc (τ := Cert.Dq.τ) (Cert.Dq.main (F := Bits))) ⟨m, fun _ => 0, g⟩ (fun r => (∀ c : Dev Cert.Dq.nD,
      r.2.mem ((c.tc : Thread Cert.Dq.nD Cert.Dq.τ).loc Cert.Dq.main_arg0) = m ((c.tc : Thread Cert.Dq.nD Cert.Dq.τ).loc Cert.Dq.main_arg0)
      ∧ r.2.mem ((c.tc : Thread Cert.Dq.nD Cert.Dq.τ).loc Cert.Dq.main_arg1) = m ((c.tc : Thread Cert.Dq.nD Cert.Dq.τ).loc Cert.Dq.main_arg1)
      ∧ r.2.mem ((c.tc : Thread Cert.Dq.nD Cert.Dq.τ).loc Cert.Dq.main_arg2) = m ((c.tc : Thread Cert.Dq.nD Cert.Dq.τ).loc Cert.Dq.main_arg2))
      ∧ r.2.sem = fun _ => 0)

def quiescent_DqIdeal [hDqIdeal : Cert.DqIdeal.Facts] : Prop :=
  ∀ (m : (ℓ : Loc Cert.DqIdeal.nD Cert.DqIdeal.τ Cert.DqIdeal.sig) → Buf (Elt Ideal) ℓ) (g : Dev Cert.DqIdeal.nD → PrngReg), Pre_DqIdeal m →
    θ_run (Cert.DqIdeal.defs (F := Ideal)) (onTc (τ := Cert.DqIdeal.τ) (Cert.DqIdeal.main (F := Ideal))) ⟨m, fun _ => 0, g⟩ (fun r => (∀ c : Dev Cert.DqIdeal.nD,
      r.2.mem ((c.tc : Thread Cert.DqIdeal.nD Cert.DqIdeal.τ).loc Cert.DqIdeal.main_arg0) = m ((c.tc : Thread Cert.DqIdeal.nD Cert.DqIdeal.τ).loc Cert.DqIdeal.main_arg0)
      ∧ r.2.mem ((c.tc : Thread Cert.DqIdeal.nD Cert.DqIdeal.τ).loc Cert.DqIdeal.main_arg1) = m ((c.tc : Thread Cert.DqIdeal.nD Cert.DqIdeal.τ).loc Cert.DqIdeal.main_arg1)
      ∧ r.2.mem ((c.tc : Thread Cert.DqIdeal.nD Cert.DqIdeal.τ).loc Cert.DqIdeal.main_arg2) = m ((c.tc : Thread Cert.DqIdeal.nD Cert.DqIdeal.τ).loc Cert.DqIdeal.main_arg2))
      ∧ r.2.sem = fun _ => 0)

def quiescent_DqIdeal_pre_finite [hDqIdeal : Cert.DqIdeal.Facts] [hPre_finite : Cert.Pre_finite.Facts] : Prop :=
  ∀ (m : (ℓ : Loc Cert.DqIdeal.nD Cert.DqIdeal.τ Cert.DqIdeal.sig) → Buf (Elt Ideal) ℓ) (g : Dev Cert.DqIdeal.nD → PrngReg), Pre_DqIdeal_finite m →
    θ_run (Cert.DqIdeal.defs (F := Ideal)) (onTc (τ := Cert.DqIdeal.τ) (Cert.DqIdeal.main (F := Ideal))) ⟨m, fun _ => 0, g⟩ (fun r => (∀ c : Dev Cert.DqIdeal.nD,
      r.2.mem ((c.tc : Thread Cert.DqIdeal.nD Cert.DqIdeal.τ).loc Cert.DqIdeal.main_arg0) = m ((c.tc : Thread Cert.DqIdeal.nD Cert.DqIdeal.τ).loc Cert.DqIdeal.main_arg0)
      ∧ r.2.mem ((c.tc : Thread Cert.DqIdeal.nD Cert.DqIdeal.τ).loc Cert.DqIdeal.main_arg1) = m ((c.tc : Thread Cert.DqIdeal.nD Cert.DqIdeal.τ).loc Cert.DqIdeal.main_arg1)
      ∧ r.2.mem ((c.tc : Thread Cert.DqIdeal.nD Cert.DqIdeal.τ).loc Cert.DqIdeal.main_arg2) = m ((c.tc : Thread Cert.DqIdeal.nD Cert.DqIdeal.τ).loc Cert.DqIdeal.main_arg2))
      ∧ r.2.sem = fun _ => 0)

def quiescent_DqRefIdeal [hDqRefIdeal : Cert.DqRefIdeal.Facts] : Prop :=
  ∀ (m : (ℓ : Loc Cert.DqRefIdeal.nD Cert.DqRefIdeal.τ Cert.DqRefIdeal.sig) → Buf (Elt Ideal) ℓ) (g : Dev Cert.DqRefIdeal.nD → PrngReg), Pre_DqRefIdeal m →
    θ_run (Cert.DqRefIdeal.defs (F := Ideal)) (onTc (τ := Cert.DqRefIdeal.τ) (Cert.DqRefIdeal.main (F := Ideal))) ⟨m, fun _ => 0, g⟩ (fun r => (∀ c : Dev Cert.DqRefIdeal.nD,
      r.2.mem ((c.tc : Thread Cert.DqRefIdeal.nD Cert.DqRefIdeal.τ).loc Cert.DqRefIdeal.main_arg0) = m ((c.tc : Thread Cert.DqRefIdeal.nD Cert.DqRefIdeal.τ).loc Cert.DqRefIdeal.main_arg0)
      ∧ r.2.mem ((c.tc : Thread Cert.DqRefIdeal.nD Cert.DqRefIdeal.τ).loc Cert.DqRefIdeal.main_arg1) = m ((c.tc : Thread Cert.DqRefIdeal.nD Cert.DqRefIdeal.τ).loc Cert.DqRefIdeal.main_arg1)
      ∧ r.2.mem ((c.tc : Thread Cert.DqRefIdeal.nD Cert.DqRefIdeal.τ).loc Cert.DqRefIdeal.main_arg2) = m ((c.tc : Thread Cert.DqRefIdeal.nD Cert.DqRefIdeal.τ).loc Cert.DqRefIdeal.main_arg2))
      ∧ r.2.sem = fun _ => 0)

def quiescent_DqRefIdeal_pre_finite [hDqRefIdeal : Cert.DqRefIdeal.Facts] [hPre_finite : Cert.Pre_finite.Facts] : Prop :=
  ∀ (m : (ℓ : Loc Cert.DqRefIdeal.nD Cert.DqRefIdeal.τ Cert.DqRefIdeal.sig) → Buf (Elt Ideal) ℓ) (g : Dev Cert.DqRefIdeal.nD → PrngReg), Pre_DqRefIdeal_finite m →
    θ_run (Cert.DqRefIdeal.defs (F := Ideal)) (onTc (τ := Cert.DqRefIdeal.τ) (Cert.DqRefIdeal.main (F := Ideal))) ⟨m, fun _ => 0, g⟩ (fun r => (∀ c : Dev Cert.DqRefIdeal.nD,
      r.2.mem ((c.tc : Thread Cert.DqRefIdeal.nD Cert.DqRefIdeal.τ).loc Cert.DqRefIdeal.main_arg0) = m ((c.tc : Thread Cert.DqRefIdeal.nD Cert.DqRefIdeal.τ).loc Cert.DqRefIdeal.main_arg0)
      ∧ r.2.mem ((c.tc : Thread Cert.DqRefIdeal.nD Cert.DqRefIdeal.τ).loc Cert.DqRefIdeal.main_arg1) = m ((c.tc : Thread Cert.DqRefIdeal.nD Cert.DqRefIdeal.τ).loc Cert.DqRefIdeal.main_arg1)
      ∧ r.2.mem ((c.tc : Thread Cert.DqRefIdeal.nD Cert.DqRefIdeal.τ).loc Cert.DqRefIdeal.main_arg2) = m ((c.tc : Thread Cert.DqRefIdeal.nD Cert.DqRefIdeal.τ).loc Cert.DqRefIdeal.main_arg2))
      ∧ r.2.sem = fun _ => 0)

def quiescent_Dkv [hDkv : Cert.Dkv.Facts] : Prop :=
  ∀ (m : (ℓ : Loc Cert.Dkv.nD Cert.Dkv.τ Cert.Dkv.sig) → Buf (Elt Bits) ℓ) (g : Dev Cert.Dkv.nD → PrngReg), Pre_Dkv m →
    θ_run (Cert.Dkv.defs (F := Bits)) (onTc (τ := Cert.Dkv.τ) (Cert.Dkv.main (F := Bits))) ⟨m, fun _ => 0, g⟩ (fun r => (∀ c : Dev Cert.Dkv.nD,
      r.2.mem ((c.tc : Thread Cert.Dkv.nD Cert.Dkv.τ).loc Cert.Dkv.main_arg0) = m ((c.tc : Thread Cert.Dkv.nD Cert.Dkv.τ).loc Cert.Dkv.main_arg0)
      ∧ r.2.mem ((c.tc : Thread Cert.Dkv.nD Cert.Dkv.τ).loc Cert.Dkv.main_arg1) = m ((c.tc : Thread Cert.Dkv.nD Cert.Dkv.τ).loc Cert.Dkv.main_arg1)
      ∧ r.2.mem ((c.tc : Thread Cert.Dkv.nD Cert.Dkv.τ).loc Cert.Dkv.main_arg2) = m ((c.tc : Thread Cert.Dkv.nD Cert.Dkv.τ).loc Cert.Dkv.main_arg2))
      ∧ r.2.sem = fun _ => 0)

def quiescent_DkvIdeal [hDkvIdeal : Cert.DkvIdeal.Facts] : Prop :=
  ∀ (m : (ℓ : Loc Cert.DkvIdeal.nD Cert.DkvIdeal.τ Cert.DkvIdeal.sig) → Buf (Elt Ideal) ℓ) (g : Dev Cert.DkvIdeal.nD → PrngReg), Pre_DkvIdeal m →
    θ_run (Cert.DkvIdeal.defs (F := Ideal)) (onTc (τ := Cert.DkvIdeal.τ) (Cert.DkvIdeal.main (F := Ideal))) ⟨m, fun _ => 0, g⟩ (fun r => (∀ c : Dev Cert.DkvIdeal.nD,
      r.2.mem ((c.tc : Thread Cert.DkvIdeal.nD Cert.DkvIdeal.τ).loc Cert.DkvIdeal.main_arg0) = m ((c.tc : Thread Cert.DkvIdeal.nD Cert.DkvIdeal.τ).loc Cert.DkvIdeal.main_arg0)
      ∧ r.2.mem ((c.tc : Thread Cert.DkvIdeal.nD Cert.DkvIdeal.τ).loc Cert.DkvIdeal.main_arg1) = m ((c.tc : Thread Cert.DkvIdeal.nD Cert.DkvIdeal.τ).loc Cert.DkvIdeal.main_arg1)
      ∧ r.2.mem ((c.tc : Thread Cert.DkvIdeal.nD Cert.DkvIdeal.τ).loc Cert.DkvIdeal.main_arg2) = m ((c.tc : Thread Cert.DkvIdeal.nD Cert.DkvIdeal.τ).loc Cert.DkvIdeal.main_arg2))
      ∧ r.2.sem = fun _ => 0)

def quiescent_DkvIdeal_pre_finite [hDkvIdeal : Cert.DkvIdeal.Facts] [hPre_finite : Cert.Pre_finite.Facts] : Prop :=
  ∀ (m : (ℓ : Loc Cert.DkvIdeal.nD Cert.DkvIdeal.τ Cert.DkvIdeal.sig) → Buf (Elt Ideal) ℓ) (g : Dev Cert.DkvIdeal.nD → PrngReg), Pre_DkvIdeal_finite m →
    θ_run (Cert.DkvIdeal.defs (F := Ideal)) (onTc (τ := Cert.DkvIdeal.τ) (Cert.DkvIdeal.main (F := Ideal))) ⟨m, fun _ => 0, g⟩ (fun r => (∀ c : Dev Cert.DkvIdeal.nD,
      r.2.mem ((c.tc : Thread Cert.DkvIdeal.nD Cert.DkvIdeal.τ).loc Cert.DkvIdeal.main_arg0) = m ((c.tc : Thread Cert.DkvIdeal.nD Cert.DkvIdeal.τ).loc Cert.DkvIdeal.main_arg0)
      ∧ r.2.mem ((c.tc : Thread Cert.DkvIdeal.nD Cert.DkvIdeal.τ).loc Cert.DkvIdeal.main_arg1) = m ((c.tc : Thread Cert.DkvIdeal.nD Cert.DkvIdeal.τ).loc Cert.DkvIdeal.main_arg1)
      ∧ r.2.mem ((c.tc : Thread Cert.DkvIdeal.nD Cert.DkvIdeal.τ).loc Cert.DkvIdeal.main_arg2) = m ((c.tc : Thread Cert.DkvIdeal.nD Cert.DkvIdeal.τ).loc Cert.DkvIdeal.main_arg2))
      ∧ r.2.sem = fun _ => 0)

def quiescent_DkvRefIdeal [hDkvRefIdeal : Cert.DkvRefIdeal.Facts] : Prop :=
  ∀ (m : (ℓ : Loc Cert.DkvRefIdeal.nD Cert.DkvRefIdeal.τ Cert.DkvRefIdeal.sig) → Buf (Elt Ideal) ℓ) (g : Dev Cert.DkvRefIdeal.nD → PrngReg), Pre_DkvRefIdeal m →
    θ_run (Cert.DkvRefIdeal.defs (F := Ideal)) (onTc (τ := Cert.DkvRefIdeal.τ) (Cert.DkvRefIdeal.main (F := Ideal))) ⟨m, fun _ => 0, g⟩ (fun r => (∀ c : Dev Cert.DkvRefIdeal.nD,
      r.2.mem ((c.tc : Thread Cert.DkvRefIdeal.nD Cert.DkvRefIdeal.τ).loc Cert.DkvRefIdeal.main_arg0) = m ((c.tc : Thread Cert.DkvRefIdeal.nD Cert.DkvRefIdeal.τ).loc Cert.DkvRefIdeal.main_arg0)
      ∧ r.2.mem ((c.tc : Thread Cert.DkvRefIdeal.nD Cert.DkvRefIdeal.τ).loc Cert.DkvRefIdeal.main_arg1) = m ((c.tc : Thread Cert.DkvRefIdeal.nD Cert.DkvRefIdeal.τ).loc Cert.DkvRefIdeal.main_arg1)
      ∧ r.2.mem ((c.tc : Thread Cert.DkvRefIdeal.nD Cert.DkvRefIdeal.τ).loc Cert.DkvRefIdeal.main_arg2) = m ((c.tc : Thread Cert.DkvRefIdeal.nD Cert.DkvRefIdeal.τ).loc Cert.DkvRefIdeal.main_arg2))
      ∧ r.2.sem = fun _ => 0)

def quiescent_DkvRefIdeal_pre_finite [hDkvRefIdeal : Cert.DkvRefIdeal.Facts] [hPre_finite : Cert.Pre_finite.Facts] : Prop :=
  ∀ (m : (ℓ : Loc Cert.DkvRefIdeal.nD Cert.DkvRefIdeal.τ Cert.DkvRefIdeal.sig) → Buf (Elt Ideal) ℓ) (g : Dev Cert.DkvRefIdeal.nD → PrngReg), Pre_DkvRefIdeal_finite m →
    θ_run (Cert.DkvRefIdeal.defs (F := Ideal)) (onTc (τ := Cert.DkvRefIdeal.τ) (Cert.DkvRefIdeal.main (F := Ideal))) ⟨m, fun _ => 0, g⟩ (fun r => (∀ c : Dev Cert.DkvRefIdeal.nD,
      r.2.mem ((c.tc : Thread Cert.DkvRefIdeal.nD Cert.DkvRefIdeal.τ).loc Cert.DkvRefIdeal.main_arg0) = m ((c.tc : Thread Cert.DkvRefIdeal.nD Cert.DkvRefIdeal.τ).loc Cert.DkvRefIdeal.main_arg0)
      ∧ r.2.mem ((c.tc : Thread Cert.DkvRefIdeal.nD Cert.DkvRefIdeal.τ).loc Cert.DkvRefIdeal.main_arg1) = m ((c.tc : Thread Cert.DkvRefIdeal.nD Cert.DkvRefIdeal.τ).loc Cert.DkvRefIdeal.main_arg1)
      ∧ r.2.mem ((c.tc : Thread Cert.DkvRefIdeal.nD Cert.DkvRefIdeal.τ).loc Cert.DkvRefIdeal.main_arg2) = m ((c.tc : Thread Cert.DkvRefIdeal.nD Cert.DkvRefIdeal.τ).loc Cert.DkvRefIdeal.main_arg2))
      ∧ r.2.sem = fun _ => 0)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1))
      ∧ r.2.sem = fun _ => 0)

def quiescent_FwdIdeal_pre_finite_fwd [hFwdIdeal : Cert.FwdIdeal.Facts] [hPre_finite_fwd : Cert.Pre_finite_fwd.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal_finite_fwd m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1))
      ∧ r.2.sem = fun _ => 0)

def quiescent_FwdRefIdeal [hFwdRefIdeal : Cert.FwdRefIdeal.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1))
      ∧ r.2.sem = fun _ => 0)

def quiescent_FwdRefIdeal_pre_finite_fwd [hFwdRefIdeal : Cert.FwdRefIdeal.Facts] [hPre_finite_fwd : Cert.Pre_finite_fwd.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal_finite_fwd m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1))
      ∧ r.2.sem = fun _ => 0)

def quiescent_FfnOutDx [hFfnOutDx : Cert.FfnOutDx.Facts] : Prop :=
  ∀ (m : (ℓ : Loc Cert.FfnOutDx.nD Cert.FfnOutDx.τ Cert.FfnOutDx.sig) → Buf (Elt Bits) ℓ) (g : Dev Cert.FfnOutDx.nD → PrngReg), Pre_FfnOutDx m →
    θ_run (Cert.FfnOutDx.defs (F := Bits)) (onTc (τ := Cert.FfnOutDx.τ) (Cert.FfnOutDx.main (F := Bits))) ⟨m, fun _ => 0, g⟩ (fun r => (∀ c : Dev Cert.FfnOutDx.nD,
      r.2.mem ((c.tc : Thread Cert.FfnOutDx.nD Cert.FfnOutDx.τ).loc Cert.FfnOutDx.main_arg0) = m ((c.tc : Thread Cert.FfnOutDx.nD Cert.FfnOutDx.τ).loc Cert.FfnOutDx.main_arg0)
      ∧ r.2.mem ((c.tc : Thread Cert.FfnOutDx.nD Cert.FfnOutDx.τ).loc Cert.FfnOutDx.main_arg1) = m ((c.tc : Thread Cert.FfnOutDx.nD Cert.FfnOutDx.τ).loc Cert.FfnOutDx.main_arg1))
      ∧ r.2.sem = fun _ => 0)

def quiescent_FfnOutDxIdeal [hFfnOutDxIdeal : Cert.FfnOutDxIdeal.Facts] : Prop :=
  ∀ (m : (ℓ : Loc Cert.FfnOutDxIdeal.nD Cert.FfnOutDxIdeal.τ Cert.FfnOutDxIdeal.sig) → Buf (Elt Ideal) ℓ) (g : Dev Cert.FfnOutDxIdeal.nD → PrngReg), Pre_FfnOutDxIdeal m →
    θ_run (Cert.FfnOutDxIdeal.defs (F := Ideal)) (onTc (τ := Cert.FfnOutDxIdeal.τ) (Cert.FfnOutDxIdeal.main (F := Ideal))) ⟨m, fun _ => 0, g⟩ (fun r => (∀ c : Dev Cert.FfnOutDxIdeal.nD,
      r.2.mem ((c.tc : Thread Cert.FfnOutDxIdeal.nD Cert.FfnOutDxIdeal.τ).loc Cert.FfnOutDxIdeal.main_arg0) = m ((c.tc : Thread Cert.FfnOutDxIdeal.nD Cert.FfnOutDxIdeal.τ).loc Cert.FfnOutDxIdeal.main_arg0)
      ∧ r.2.mem ((c.tc : Thread Cert.FfnOutDxIdeal.nD Cert.FfnOutDxIdeal.τ).loc Cert.FfnOutDxIdeal.main_arg1) = m ((c.tc : Thread Cert.FfnOutDxIdeal.nD Cert.FfnOutDxIdeal.τ).loc Cert.FfnOutDxIdeal.main_arg1))
      ∧ r.2.sem = fun _ => 0)

def quiescent_FfnOutDxRefIdeal [hFfnOutDxRefIdeal : Cert.FfnOutDxRefIdeal.Facts] : Prop :=
  ∀ (m : (ℓ : Loc Cert.FfnOutDxRefIdeal.nD Cert.FfnOutDxRefIdeal.τ Cert.FfnOutDxRefIdeal.sig) → Buf (Elt Ideal) ℓ) (g : Dev Cert.FfnOutDxRefIdeal.nD → PrngReg), Pre_FfnOutDxRefIdeal m →
    θ_run (Cert.FfnOutDxRefIdeal.defs (F := Ideal)) (onTc (τ := Cert.FfnOutDxRefIdeal.τ) (Cert.FfnOutDxRefIdeal.main (F := Ideal))) ⟨m, fun _ => 0, g⟩ (fun r => (∀ c : Dev Cert.FfnOutDxRefIdeal.nD,
      r.2.mem ((c.tc : Thread Cert.FfnOutDxRefIdeal.nD Cert.FfnOutDxRefIdeal.τ).loc Cert.FfnOutDxRefIdeal.main_arg0) = m ((c.tc : Thread Cert.FfnOutDxRefIdeal.nD Cert.FfnOutDxRefIdeal.τ).loc Cert.FfnOutDxRefIdeal.main_arg0)
      ∧ r.2.mem ((c.tc : Thread Cert.FfnOutDxRefIdeal.nD Cert.FfnOutDxRefIdeal.τ).loc Cert.FfnOutDxRefIdeal.main_arg1) = m ((c.tc : Thread Cert.FfnOutDxRefIdeal.nD Cert.FfnOutDxRefIdeal.τ).loc Cert.FfnOutDxRefIdeal.main_arg1))
      ∧ r.2.sem = fun _ => 0)

def quiescent_FfnOutDw [hFfnOutDw : Cert.FfnOutDw.Facts] : Prop :=
  ∀ (m : (ℓ : Loc Cert.FfnOutDw.nD Cert.FfnOutDw.τ Cert.FfnOutDw.sig) → Buf (Elt Bits) ℓ) (g : Dev Cert.FfnOutDw.nD → PrngReg), Pre_FfnOutDw m →
    θ_run (Cert.FfnOutDw.defs (F := Bits)) (onTc (τ := Cert.FfnOutDw.τ) (Cert.FfnOutDw.main (F := Bits))) ⟨m, fun _ => 0, g⟩ (fun r => (∀ c : Dev Cert.FfnOutDw.nD,
      r.2.mem ((c.tc : Thread Cert.FfnOutDw.nD Cert.FfnOutDw.τ).loc Cert.FfnOutDw.main_arg0) = m ((c.tc : Thread Cert.FfnOutDw.nD Cert.FfnOutDw.τ).loc Cert.FfnOutDw.main_arg0)
      ∧ r.2.mem ((c.tc : Thread Cert.FfnOutDw.nD Cert.FfnOutDw.τ).loc Cert.FfnOutDw.main_arg1) = m ((c.tc : Thread Cert.FfnOutDw.nD Cert.FfnOutDw.τ).loc Cert.FfnOutDw.main_arg1))
      ∧ r.2.sem = fun _ => 0)

def quiescent_FfnOutDwIdeal [hFfnOutDwIdeal : Cert.FfnOutDwIdeal.Facts] : Prop :=
  ∀ (m : (ℓ : Loc Cert.FfnOutDwIdeal.nD Cert.FfnOutDwIdeal.τ Cert.FfnOutDwIdeal.sig) → Buf (Elt Ideal) ℓ) (g : Dev Cert.FfnOutDwIdeal.nD → PrngReg), Pre_FfnOutDwIdeal m →
    θ_run (Cert.FfnOutDwIdeal.defs (F := Ideal)) (onTc (τ := Cert.FfnOutDwIdeal.τ) (Cert.FfnOutDwIdeal.main (F := Ideal))) ⟨m, fun _ => 0, g⟩ (fun r => (∀ c : Dev Cert.FfnOutDwIdeal.nD,
      r.2.mem ((c.tc : Thread Cert.FfnOutDwIdeal.nD Cert.FfnOutDwIdeal.τ).loc Cert.FfnOutDwIdeal.main_arg0) = m ((c.tc : Thread Cert.FfnOutDwIdeal.nD Cert.FfnOutDwIdeal.τ).loc Cert.FfnOutDwIdeal.main_arg0)
      ∧ r.2.mem ((c.tc : Thread Cert.FfnOutDwIdeal.nD Cert.FfnOutDwIdeal.τ).loc Cert.FfnOutDwIdeal.main_arg1) = m ((c.tc : Thread Cert.FfnOutDwIdeal.nD Cert.FfnOutDwIdeal.τ).loc Cert.FfnOutDwIdeal.main_arg1))
      ∧ r.2.sem = fun _ => 0)

def quiescent_FfnOutDwRefIdeal [hFfnOutDwRefIdeal : Cert.FfnOutDwRefIdeal.Facts] : Prop :=
  ∀ (m : (ℓ : Loc Cert.FfnOutDwRefIdeal.nD Cert.FfnOutDwRefIdeal.τ Cert.FfnOutDwRefIdeal.sig) → Buf (Elt Ideal) ℓ) (g : Dev Cert.FfnOutDwRefIdeal.nD → PrngReg), Pre_FfnOutDwRefIdeal m →
    θ_run (Cert.FfnOutDwRefIdeal.defs (F := Ideal)) (onTc (τ := Cert.FfnOutDwRefIdeal.τ) (Cert.FfnOutDwRefIdeal.main (F := Ideal))) ⟨m, fun _ => 0, g⟩ (fun r => (∀ c : Dev Cert.FfnOutDwRefIdeal.nD,
      r.2.mem ((c.tc : Thread Cert.FfnOutDwRefIdeal.nD Cert.FfnOutDwRefIdeal.τ).loc Cert.FfnOutDwRefIdeal.main_arg0) = m ((c.tc : Thread Cert.FfnOutDwRefIdeal.nD Cert.FfnOutDwRefIdeal.τ).loc Cert.FfnOutDwRefIdeal.main_arg0)
      ∧ r.2.mem ((c.tc : Thread Cert.FfnOutDwRefIdeal.nD Cert.FfnOutDwRefIdeal.τ).loc Cert.FfnOutDwRefIdeal.main_arg1) = m ((c.tc : Thread Cert.FfnOutDwRefIdeal.nD Cert.FfnOutDwRefIdeal.τ).loc Cert.FfnOutDwRefIdeal.main_arg1))
      ∧ r.2.sem = fun _ => 0)

def quiescent_FfnInDx [hFfnInDx : Cert.FfnInDx.Facts] : Prop :=
  ∀ (m : (ℓ : Loc Cert.FfnInDx.nD Cert.FfnInDx.τ Cert.FfnInDx.sig) → Buf (Elt Bits) ℓ) (g : Dev Cert.FfnInDx.nD → PrngReg), Pre_FfnInDx m →
    θ_run (Cert.FfnInDx.defs (F := Bits)) (onTc (τ := Cert.FfnInDx.τ) (Cert.FfnInDx.main (F := Bits))) ⟨m, fun _ => 0, g⟩ (fun r => (∀ c : Dev Cert.FfnInDx.nD,
      r.2.mem ((c.tc : Thread Cert.FfnInDx.nD Cert.FfnInDx.τ).loc Cert.FfnInDx.main_arg0) = m ((c.tc : Thread Cert.FfnInDx.nD Cert.FfnInDx.τ).loc Cert.FfnInDx.main_arg0)
      ∧ r.2.mem ((c.tc : Thread Cert.FfnInDx.nD Cert.FfnInDx.τ).loc Cert.FfnInDx.main_arg1) = m ((c.tc : Thread Cert.FfnInDx.nD Cert.FfnInDx.τ).loc Cert.FfnInDx.main_arg1))
      ∧ r.2.sem = fun _ => 0)

def quiescent_FfnInDxIdeal [hFfnInDxIdeal : Cert.FfnInDxIdeal.Facts] : Prop :=
  ∀ (m : (ℓ : Loc Cert.FfnInDxIdeal.nD Cert.FfnInDxIdeal.τ Cert.FfnInDxIdeal.sig) → Buf (Elt Ideal) ℓ) (g : Dev Cert.FfnInDxIdeal.nD → PrngReg), Pre_FfnInDxIdeal m →
    θ_run (Cert.FfnInDxIdeal.defs (F := Ideal)) (onTc (τ := Cert.FfnInDxIdeal.τ) (Cert.FfnInDxIdeal.main (F := Ideal))) ⟨m, fun _ => 0, g⟩ (fun r => (∀ c : Dev Cert.FfnInDxIdeal.nD,
      r.2.mem ((c.tc : Thread Cert.FfnInDxIdeal.nD Cert.FfnInDxIdeal.τ).loc Cert.FfnInDxIdeal.main_arg0) = m ((c.tc : Thread Cert.FfnInDxIdeal.nD Cert.FfnInDxIdeal.τ).loc Cert.FfnInDxIdeal.main_arg0)
      ∧ r.2.mem ((c.tc : Thread Cert.FfnInDxIdeal.nD Cert.FfnInDxIdeal.τ).loc Cert.FfnInDxIdeal.main_arg1) = m ((c.tc : Thread Cert.FfnInDxIdeal.nD Cert.FfnInDxIdeal.τ).loc Cert.FfnInDxIdeal.main_arg1))
      ∧ r.2.sem = fun _ => 0)

def quiescent_FfnInDxRefIdeal [hFfnInDxRefIdeal : Cert.FfnInDxRefIdeal.Facts] : Prop :=
  ∀ (m : (ℓ : Loc Cert.FfnInDxRefIdeal.nD Cert.FfnInDxRefIdeal.τ Cert.FfnInDxRefIdeal.sig) → Buf (Elt Ideal) ℓ) (g : Dev Cert.FfnInDxRefIdeal.nD → PrngReg), Pre_FfnInDxRefIdeal m →
    θ_run (Cert.FfnInDxRefIdeal.defs (F := Ideal)) (onTc (τ := Cert.FfnInDxRefIdeal.τ) (Cert.FfnInDxRefIdeal.main (F := Ideal))) ⟨m, fun _ => 0, g⟩ (fun r => (∀ c : Dev Cert.FfnInDxRefIdeal.nD,
      r.2.mem ((c.tc : Thread Cert.FfnInDxRefIdeal.nD Cert.FfnInDxRefIdeal.τ).loc Cert.FfnInDxRefIdeal.main_arg0) = m ((c.tc : Thread Cert.FfnInDxRefIdeal.nD Cert.FfnInDxRefIdeal.τ).loc Cert.FfnInDxRefIdeal.main_arg0)
      ∧ r.2.mem ((c.tc : Thread Cert.FfnInDxRefIdeal.nD Cert.FfnInDxRefIdeal.τ).loc Cert.FfnInDxRefIdeal.main_arg1) = m ((c.tc : Thread Cert.FfnInDxRefIdeal.nD Cert.FfnInDxRefIdeal.τ).loc Cert.FfnInDxRefIdeal.main_arg1))
      ∧ r.2.sem = fun _ => 0)

def quiescent_FfnInDw [hFfnInDw : Cert.FfnInDw.Facts] : Prop :=
  ∀ (m : (ℓ : Loc Cert.FfnInDw.nD Cert.FfnInDw.τ Cert.FfnInDw.sig) → Buf (Elt Bits) ℓ) (g : Dev Cert.FfnInDw.nD → PrngReg), Pre_FfnInDw m →
    θ_run (Cert.FfnInDw.defs (F := Bits)) (onTc (τ := Cert.FfnInDw.τ) (Cert.FfnInDw.main (F := Bits))) ⟨m, fun _ => 0, g⟩ (fun r => (∀ c : Dev Cert.FfnInDw.nD,
      r.2.mem ((c.tc : Thread Cert.FfnInDw.nD Cert.FfnInDw.τ).loc Cert.FfnInDw.main_arg0) = m ((c.tc : Thread Cert.FfnInDw.nD Cert.FfnInDw.τ).loc Cert.FfnInDw.main_arg0)
      ∧ r.2.mem ((c.tc : Thread Cert.FfnInDw.nD Cert.FfnInDw.τ).loc Cert.FfnInDw.main_arg1) = m ((c.tc : Thread Cert.FfnInDw.nD Cert.FfnInDw.τ).loc Cert.FfnInDw.main_arg1))
      ∧ r.2.sem = fun _ => 0)

def quiescent_FfnInDwIdeal [hFfnInDwIdeal : Cert.FfnInDwIdeal.Facts] : Prop :=
  ∀ (m : (ℓ : Loc Cert.FfnInDwIdeal.nD Cert.FfnInDwIdeal.τ Cert.FfnInDwIdeal.sig) → Buf (Elt Ideal) ℓ) (g : Dev Cert.FfnInDwIdeal.nD → PrngReg), Pre_FfnInDwIdeal m →
    θ_run (Cert.FfnInDwIdeal.defs (F := Ideal)) (onTc (τ := Cert.FfnInDwIdeal.τ) (Cert.FfnInDwIdeal.main (F := Ideal))) ⟨m, fun _ => 0, g⟩ (fun r => (∀ c : Dev Cert.FfnInDwIdeal.nD,
      r.2.mem ((c.tc : Thread Cert.FfnInDwIdeal.nD Cert.FfnInDwIdeal.τ).loc Cert.FfnInDwIdeal.main_arg0) = m ((c.tc : Thread Cert.FfnInDwIdeal.nD Cert.FfnInDwIdeal.τ).loc Cert.FfnInDwIdeal.main_arg0)
      ∧ r.2.mem ((c.tc : Thread Cert.FfnInDwIdeal.nD Cert.FfnInDwIdeal.τ).loc Cert.FfnInDwIdeal.main_arg1) = m ((c.tc : Thread Cert.FfnInDwIdeal.nD Cert.FfnInDwIdeal.τ).loc Cert.FfnInDwIdeal.main_arg1))
      ∧ r.2.sem = fun _ => 0)

def quiescent_FfnInDwRefIdeal [hFfnInDwRefIdeal : Cert.FfnInDwRefIdeal.Facts] : Prop :=
  ∀ (m : (ℓ : Loc Cert.FfnInDwRefIdeal.nD Cert.FfnInDwRefIdeal.τ Cert.FfnInDwRefIdeal.sig) → Buf (Elt Ideal) ℓ) (g : Dev Cert.FfnInDwRefIdeal.nD → PrngReg), Pre_FfnInDwRefIdeal m →
    θ_run (Cert.FfnInDwRefIdeal.defs (F := Ideal)) (onTc (τ := Cert.FfnInDwRefIdeal.τ) (Cert.FfnInDwRefIdeal.main (F := Ideal))) ⟨m, fun _ => 0, g⟩ (fun r => (∀ c : Dev Cert.FfnInDwRefIdeal.nD,
      r.2.mem ((c.tc : Thread Cert.FfnInDwRefIdeal.nD Cert.FfnInDwRefIdeal.τ).loc Cert.FfnInDwRefIdeal.main_arg0) = m ((c.tc : Thread Cert.FfnInDwRefIdeal.nD Cert.FfnInDwRefIdeal.τ).loc Cert.FfnInDwRefIdeal.main_arg0)
      ∧ r.2.mem ((c.tc : Thread Cert.FfnInDwRefIdeal.nD Cert.FfnInDwRefIdeal.τ).loc Cert.FfnInDwRefIdeal.main_arg1) = m ((c.tc : Thread Cert.FfnInDwRefIdeal.nD Cert.FfnInDwRefIdeal.τ).loc Cert.FfnInDwRefIdeal.main_arg1))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_QkvDx [hQkvDx : Cert.QkvDx.Facts] : Prop :=
  ∀ (m : (ℓ : Loc Cert.QkvDx.nD Cert.QkvDx.τ Cert.QkvDx.sig) → Buf (Elt Bits) ℓ) (g : Dev Cert.QkvDx.nD → PrngReg), Pre_QkvDx m →
    θ_run (Cert.QkvDx.defs (F := Bits)) (onTc (τ := Cert.QkvDx.τ) (Cert.QkvDx.main (F := Bits))) ⟨m, fun _ => 0, g⟩ (fun r => (∀ c : Dev Cert.QkvDx.nD,
      r.2.mem ((c.tc : Thread Cert.QkvDx.nD Cert.QkvDx.τ).loc Cert.QkvDx.main_arg0) = m ((c.tc : Thread Cert.QkvDx.nD Cert.QkvDx.τ).loc Cert.QkvDx.main_arg0)
      ∧ r.2.mem ((c.tc : Thread Cert.QkvDx.nD Cert.QkvDx.τ).loc Cert.QkvDx.main_arg1) = m ((c.tc : Thread Cert.QkvDx.nD Cert.QkvDx.τ).loc Cert.QkvDx.main_arg1)
      ∧ r.2.mem ((c.tc : Thread Cert.QkvDx.nD Cert.QkvDx.τ).loc Cert.QkvDx.main_arg2) = m ((c.tc : Thread Cert.QkvDx.nD Cert.QkvDx.τ).loc Cert.QkvDx.main_arg2))
      ∧ r.2.sem = fun _ => 0)

def quiescent_QkvDxIdeal [hQkvDxIdeal : Cert.QkvDxIdeal.Facts] : Prop :=
  ∀ (m : (ℓ : Loc Cert.QkvDxIdeal.nD Cert.QkvDxIdeal.τ Cert.QkvDxIdeal.sig) → Buf (Elt Ideal) ℓ) (g : Dev Cert.QkvDxIdeal.nD → PrngReg), Pre_QkvDxIdeal m →
    θ_run (Cert.QkvDxIdeal.defs (F := Ideal)) (onTc (τ := Cert.QkvDxIdeal.τ) (Cert.QkvDxIdeal.main (F := Ideal))) ⟨m, fun _ => 0, g⟩ (fun r => (∀ c : Dev Cert.QkvDxIdeal.nD,
      r.2.mem ((c.tc : Thread Cert.QkvDxIdeal.nD Cert.QkvDxIdeal.τ).loc Cert.QkvDxIdeal.main_arg0) = m ((c.tc : Thread Cert.QkvDxIdeal.nD Cert.QkvDxIdeal.τ).loc Cert.QkvDxIdeal.main_arg0)
      ∧ r.2.mem ((c.tc : Thread Cert.QkvDxIdeal.nD Cert.QkvDxIdeal.τ).loc Cert.QkvDxIdeal.main_arg1) = m ((c.tc : Thread Cert.QkvDxIdeal.nD Cert.QkvDxIdeal.τ).loc Cert.QkvDxIdeal.main_arg1)
      ∧ r.2.mem ((c.tc : Thread Cert.QkvDxIdeal.nD Cert.QkvDxIdeal.τ).loc Cert.QkvDxIdeal.main_arg2) = m ((c.tc : Thread Cert.QkvDxIdeal.nD Cert.QkvDxIdeal.τ).loc Cert.QkvDxIdeal.main_arg2))
      ∧ r.2.sem = fun _ => 0)

def quiescent_QkvDxRefIdeal [hQkvDxRefIdeal : Cert.QkvDxRefIdeal.Facts] : Prop :=
  ∀ (m : (ℓ : Loc Cert.QkvDxRefIdeal.nD Cert.QkvDxRefIdeal.τ Cert.QkvDxRefIdeal.sig) → Buf (Elt Ideal) ℓ) (g : Dev Cert.QkvDxRefIdeal.nD → PrngReg), Pre_QkvDxRefIdeal m →
    θ_run (Cert.QkvDxRefIdeal.defs (F := Ideal)) (onTc (τ := Cert.QkvDxRefIdeal.τ) (Cert.QkvDxRefIdeal.main (F := Ideal))) ⟨m, fun _ => 0, g⟩ (fun r => (∀ c : Dev Cert.QkvDxRefIdeal.nD,
      r.2.mem ((c.tc : Thread Cert.QkvDxRefIdeal.nD Cert.QkvDxRefIdeal.τ).loc Cert.QkvDxRefIdeal.main_arg0) = m ((c.tc : Thread Cert.QkvDxRefIdeal.nD Cert.QkvDxRefIdeal.τ).loc Cert.QkvDxRefIdeal.main_arg0)
      ∧ r.2.mem ((c.tc : Thread Cert.QkvDxRefIdeal.nD Cert.QkvDxRefIdeal.τ).loc Cert.QkvDxRefIdeal.main_arg1) = m ((c.tc : Thread Cert.QkvDxRefIdeal.nD Cert.QkvDxRefIdeal.τ).loc Cert.QkvDxRefIdeal.main_arg1)
      ∧ r.2.mem ((c.tc : Thread Cert.QkvDxRefIdeal.nD Cert.QkvDxRefIdeal.τ).loc Cert.QkvDxRefIdeal.main_arg2) = m ((c.tc : Thread Cert.QkvDxRefIdeal.nD Cert.QkvDxRefIdeal.τ).loc Cert.QkvDxRefIdeal.main_arg2))
      ∧ r.2.sem = fun _ => 0)

def quiescent_QkvDw [hQkvDw : Cert.QkvDw.Facts] : Prop :=
  ∀ (m : (ℓ : Loc Cert.QkvDw.nD Cert.QkvDw.τ Cert.QkvDw.sig) → Buf (Elt Bits) ℓ) (g : Dev Cert.QkvDw.nD → PrngReg), Pre_QkvDw m →
    θ_run (Cert.QkvDw.defs (F := Bits)) (onTc (τ := Cert.QkvDw.τ) (Cert.QkvDw.main (F := Bits))) ⟨m, fun _ => 0, g⟩ (fun r => (∀ c : Dev Cert.QkvDw.nD,
      r.2.mem ((c.tc : Thread Cert.QkvDw.nD Cert.QkvDw.τ).loc Cert.QkvDw.main_arg0) = m ((c.tc : Thread Cert.QkvDw.nD Cert.QkvDw.τ).loc Cert.QkvDw.main_arg0)
      ∧ r.2.mem ((c.tc : Thread Cert.QkvDw.nD Cert.QkvDw.τ).loc Cert.QkvDw.main_arg1) = m ((c.tc : Thread Cert.QkvDw.nD Cert.QkvDw.τ).loc Cert.QkvDw.main_arg1))
      ∧ r.2.sem = fun _ => 0)

def quiescent_QkvDwIdeal [hQkvDwIdeal : Cert.QkvDwIdeal.Facts] : Prop :=
  ∀ (m : (ℓ : Loc Cert.QkvDwIdeal.nD Cert.QkvDwIdeal.τ Cert.QkvDwIdeal.sig) → Buf (Elt Ideal) ℓ) (g : Dev Cert.QkvDwIdeal.nD → PrngReg), Pre_QkvDwIdeal m →
    θ_run (Cert.QkvDwIdeal.defs (F := Ideal)) (onTc (τ := Cert.QkvDwIdeal.τ) (Cert.QkvDwIdeal.main (F := Ideal))) ⟨m, fun _ => 0, g⟩ (fun r => (∀ c : Dev Cert.QkvDwIdeal.nD,
      r.2.mem ((c.tc : Thread Cert.QkvDwIdeal.nD Cert.QkvDwIdeal.τ).loc Cert.QkvDwIdeal.main_arg0) = m ((c.tc : Thread Cert.QkvDwIdeal.nD Cert.QkvDwIdeal.τ).loc Cert.QkvDwIdeal.main_arg0)
      ∧ r.2.mem ((c.tc : Thread Cert.QkvDwIdeal.nD Cert.QkvDwIdeal.τ).loc Cert.QkvDwIdeal.main_arg1) = m ((c.tc : Thread Cert.QkvDwIdeal.nD Cert.QkvDwIdeal.τ).loc Cert.QkvDwIdeal.main_arg1))
      ∧ r.2.sem = fun _ => 0)

def quiescent_QkvDwRefIdeal [hQkvDwRefIdeal : Cert.QkvDwRefIdeal.Facts] : Prop :=
  ∀ (m : (ℓ : Loc Cert.QkvDwRefIdeal.nD Cert.QkvDwRefIdeal.τ Cert.QkvDwRefIdeal.sig) → Buf (Elt Ideal) ℓ) (g : Dev Cert.QkvDwRefIdeal.nD → PrngReg), Pre_QkvDwRefIdeal m →
    θ_run (Cert.QkvDwRefIdeal.defs (F := Ideal)) (onTc (τ := Cert.QkvDwRefIdeal.τ) (Cert.QkvDwRefIdeal.main (F := Ideal))) ⟨m, fun _ => 0, g⟩ (fun r => (∀ c : Dev Cert.QkvDwRefIdeal.nD,
      r.2.mem ((c.tc : Thread Cert.QkvDwRefIdeal.nD Cert.QkvDwRefIdeal.τ).loc Cert.QkvDwRefIdeal.main_arg0) = m ((c.tc : Thread Cert.QkvDwRefIdeal.nD Cert.QkvDwRefIdeal.τ).loc Cert.QkvDwRefIdeal.main_arg0)
      ∧ r.2.mem ((c.tc : Thread Cert.QkvDwRefIdeal.nD Cert.QkvDwRefIdeal.τ).loc Cert.QkvDwRefIdeal.main_arg1) = m ((c.tc : Thread Cert.QkvDwRefIdeal.nD Cert.QkvDwRefIdeal.τ).loc Cert.QkvDwRefIdeal.main_arg1))
      ∧ r.2.sem = fun _ => 0)

def quiescent_ForgetDx [hForgetDx : Cert.ForgetDx.Facts] : Prop :=
  ∀ (m : (ℓ : Loc Cert.ForgetDx.nD Cert.ForgetDx.τ Cert.ForgetDx.sig) → Buf (Elt Bits) ℓ) (g : Dev Cert.ForgetDx.nD → PrngReg), Pre_ForgetDx m →
    θ_run (Cert.ForgetDx.defs (F := Bits)) (onTc (τ := Cert.ForgetDx.τ) (Cert.ForgetDx.main (F := Bits))) ⟨m, fun _ => 0, g⟩ (fun r => (∀ c : Dev Cert.ForgetDx.nD,
      r.2.mem ((c.tc : Thread Cert.ForgetDx.nD Cert.ForgetDx.τ).loc Cert.ForgetDx.main_arg0) = m ((c.tc : Thread Cert.ForgetDx.nD Cert.ForgetDx.τ).loc Cert.ForgetDx.main_arg0)
      ∧ r.2.mem ((c.tc : Thread Cert.ForgetDx.nD Cert.ForgetDx.τ).loc Cert.ForgetDx.main_arg1) = m ((c.tc : Thread Cert.ForgetDx.nD Cert.ForgetDx.τ).loc Cert.ForgetDx.main_arg1))
      ∧ r.2.sem = fun _ => 0)

def quiescent_ForgetDxIdeal [hForgetDxIdeal : Cert.ForgetDxIdeal.Facts] : Prop :=
  ∀ (m : (ℓ : Loc Cert.ForgetDxIdeal.nD Cert.ForgetDxIdeal.τ Cert.ForgetDxIdeal.sig) → Buf (Elt Ideal) ℓ) (g : Dev Cert.ForgetDxIdeal.nD → PrngReg), Pre_ForgetDxIdeal m →
    θ_run (Cert.ForgetDxIdeal.defs (F := Ideal)) (onTc (τ := Cert.ForgetDxIdeal.τ) (Cert.ForgetDxIdeal.main (F := Ideal))) ⟨m, fun _ => 0, g⟩ (fun r => (∀ c : Dev Cert.ForgetDxIdeal.nD,
      r.2.mem ((c.tc : Thread Cert.ForgetDxIdeal.nD Cert.ForgetDxIdeal.τ).loc Cert.ForgetDxIdeal.main_arg0) = m ((c.tc : Thread Cert.ForgetDxIdeal.nD Cert.ForgetDxIdeal.τ).loc Cert.ForgetDxIdeal.main_arg0)
      ∧ r.2.mem ((c.tc : Thread Cert.ForgetDxIdeal.nD Cert.ForgetDxIdeal.τ).loc Cert.ForgetDxIdeal.main_arg1) = m ((c.tc : Thread Cert.ForgetDxIdeal.nD Cert.ForgetDxIdeal.τ).loc Cert.ForgetDxIdeal.main_arg1))
      ∧ r.2.sem = fun _ => 0)

def quiescent_ForgetDxRefIdeal [hForgetDxRefIdeal : Cert.ForgetDxRefIdeal.Facts] : Prop :=
  ∀ (m : (ℓ : Loc Cert.ForgetDxRefIdeal.nD Cert.ForgetDxRefIdeal.τ Cert.ForgetDxRefIdeal.sig) → Buf (Elt Ideal) ℓ) (g : Dev Cert.ForgetDxRefIdeal.nD → PrngReg), Pre_ForgetDxRefIdeal m →
    θ_run (Cert.ForgetDxRefIdeal.defs (F := Ideal)) (onTc (τ := Cert.ForgetDxRefIdeal.τ) (Cert.ForgetDxRefIdeal.main (F := Ideal))) ⟨m, fun _ => 0, g⟩ (fun r => (∀ c : Dev Cert.ForgetDxRefIdeal.nD,
      r.2.mem ((c.tc : Thread Cert.ForgetDxRefIdeal.nD Cert.ForgetDxRefIdeal.τ).loc Cert.ForgetDxRefIdeal.main_arg0) = m ((c.tc : Thread Cert.ForgetDxRefIdeal.nD Cert.ForgetDxRefIdeal.τ).loc Cert.ForgetDxRefIdeal.main_arg0)
      ∧ r.2.mem ((c.tc : Thread Cert.ForgetDxRefIdeal.nD Cert.ForgetDxRefIdeal.τ).loc Cert.ForgetDxRefIdeal.main_arg1) = m ((c.tc : Thread Cert.ForgetDxRefIdeal.nD Cert.ForgetDxRefIdeal.τ).loc Cert.ForgetDxRefIdeal.main_arg1))
      ∧ r.2.sem = fun _ => 0)

def quiescent_ForgetDw [hForgetDw : Cert.ForgetDw.Facts] : Prop :=
  ∀ (m : (ℓ : Loc Cert.ForgetDw.nD Cert.ForgetDw.τ Cert.ForgetDw.sig) → Buf (Elt Bits) ℓ) (g : Dev Cert.ForgetDw.nD → PrngReg), Pre_ForgetDw m →
    θ_run (Cert.ForgetDw.defs (F := Bits)) (onTc (τ := Cert.ForgetDw.τ) (Cert.ForgetDw.main (F := Bits))) ⟨m, fun _ => 0, g⟩ (fun r => (∀ c : Dev Cert.ForgetDw.nD,
      r.2.mem ((c.tc : Thread Cert.ForgetDw.nD Cert.ForgetDw.τ).loc Cert.ForgetDw.main_arg0) = m ((c.tc : Thread Cert.ForgetDw.nD Cert.ForgetDw.τ).loc Cert.ForgetDw.main_arg0)
      ∧ r.2.mem ((c.tc : Thread Cert.ForgetDw.nD Cert.ForgetDw.τ).loc Cert.ForgetDw.main_arg1) = m ((c.tc : Thread Cert.ForgetDw.nD Cert.ForgetDw.τ).loc Cert.ForgetDw.main_arg1))
      ∧ r.2.sem = fun _ => 0)

def quiescent_ForgetDwIdeal [hForgetDwIdeal : Cert.ForgetDwIdeal.Facts] : Prop :=
  ∀ (m : (ℓ : Loc Cert.ForgetDwIdeal.nD Cert.ForgetDwIdeal.τ Cert.ForgetDwIdeal.sig) → Buf (Elt Ideal) ℓ) (g : Dev Cert.ForgetDwIdeal.nD → PrngReg), Pre_ForgetDwIdeal m →
    θ_run (Cert.ForgetDwIdeal.defs (F := Ideal)) (onTc (τ := Cert.ForgetDwIdeal.τ) (Cert.ForgetDwIdeal.main (F := Ideal))) ⟨m, fun _ => 0, g⟩ (fun r => (∀ c : Dev Cert.ForgetDwIdeal.nD,
      r.2.mem ((c.tc : Thread Cert.ForgetDwIdeal.nD Cert.ForgetDwIdeal.τ).loc Cert.ForgetDwIdeal.main_arg0) = m ((c.tc : Thread Cert.ForgetDwIdeal.nD Cert.ForgetDwIdeal.τ).loc Cert.ForgetDwIdeal.main_arg0)
      ∧ r.2.mem ((c.tc : Thread Cert.ForgetDwIdeal.nD Cert.ForgetDwIdeal.τ).loc Cert.ForgetDwIdeal.main_arg1) = m ((c.tc : Thread Cert.ForgetDwIdeal.nD Cert.ForgetDwIdeal.τ).loc Cert.ForgetDwIdeal.main_arg1))
      ∧ r.2.sem = fun _ => 0)

def quiescent_ForgetDwRefIdeal [hForgetDwRefIdeal : Cert.ForgetDwRefIdeal.Facts] : Prop :=
  ∀ (m : (ℓ : Loc Cert.ForgetDwRefIdeal.nD Cert.ForgetDwRefIdeal.τ Cert.ForgetDwRefIdeal.sig) → Buf (Elt Ideal) ℓ) (g : Dev Cert.ForgetDwRefIdeal.nD → PrngReg), Pre_ForgetDwRefIdeal m →
    θ_run (Cert.ForgetDwRefIdeal.defs (F := Ideal)) (onTc (τ := Cert.ForgetDwRefIdeal.τ) (Cert.ForgetDwRefIdeal.main (F := Ideal))) ⟨m, fun _ => 0, g⟩ (fun r => (∀ c : Dev Cert.ForgetDwRefIdeal.nD,
      r.2.mem ((c.tc : Thread Cert.ForgetDwRefIdeal.nD Cert.ForgetDwRefIdeal.τ).loc Cert.ForgetDwRefIdeal.main_arg0) = m ((c.tc : Thread Cert.ForgetDwRefIdeal.nD Cert.ForgetDwRefIdeal.τ).loc Cert.ForgetDwRefIdeal.main_arg0)
      ∧ r.2.mem ((c.tc : Thread Cert.ForgetDwRefIdeal.nD Cert.ForgetDwRefIdeal.τ).loc Cert.ForgetDwRefIdeal.main_arg1) = m ((c.tc : Thread Cert.ForgetDwRefIdeal.nD Cert.ForgetDwRefIdeal.τ).loc Cert.ForgetDwRefIdeal.main_arg1))
      ∧ r.2.sem = fun _ => 0)

def quiescent_GmInDx [hGmInDx : Cert.GmInDx.Facts] : Prop :=
  ∀ (m : (ℓ : Loc Cert.GmInDx.nD Cert.GmInDx.τ Cert.GmInDx.sig) → Buf (Elt Bits) ℓ) (g : Dev Cert.GmInDx.nD → PrngReg), Pre_GmInDx m →
    θ_run (Cert.GmInDx.defs (F := Bits)) (onTc (τ := Cert.GmInDx.τ) (Cert.GmInDx.main (F := Bits))) ⟨m, fun _ => 0, g⟩ (fun r => (∀ c : Dev Cert.GmInDx.nD,
      r.2.mem ((c.tc : Thread Cert.GmInDx.nD Cert.GmInDx.τ).loc Cert.GmInDx.main_arg0) = m ((c.tc : Thread Cert.GmInDx.nD Cert.GmInDx.τ).loc Cert.GmInDx.main_arg0)
      ∧ r.2.mem ((c.tc : Thread Cert.GmInDx.nD Cert.GmInDx.τ).loc Cert.GmInDx.main_arg1) = m ((c.tc : Thread Cert.GmInDx.nD Cert.GmInDx.τ).loc Cert.GmInDx.main_arg1))
      ∧ r.2.sem = fun _ => 0)

def quiescent_GmInDxIdeal [hGmInDxIdeal : Cert.GmInDxIdeal.Facts] : Prop :=
  ∀ (m : (ℓ : Loc Cert.GmInDxIdeal.nD Cert.GmInDxIdeal.τ Cert.GmInDxIdeal.sig) → Buf (Elt Ideal) ℓ) (g : Dev Cert.GmInDxIdeal.nD → PrngReg), Pre_GmInDxIdeal m →
    θ_run (Cert.GmInDxIdeal.defs (F := Ideal)) (onTc (τ := Cert.GmInDxIdeal.τ) (Cert.GmInDxIdeal.main (F := Ideal))) ⟨m, fun _ => 0, g⟩ (fun r => (∀ c : Dev Cert.GmInDxIdeal.nD,
      r.2.mem ((c.tc : Thread Cert.GmInDxIdeal.nD Cert.GmInDxIdeal.τ).loc Cert.GmInDxIdeal.main_arg0) = m ((c.tc : Thread Cert.GmInDxIdeal.nD Cert.GmInDxIdeal.τ).loc Cert.GmInDxIdeal.main_arg0)
      ∧ r.2.mem ((c.tc : Thread Cert.GmInDxIdeal.nD Cert.GmInDxIdeal.τ).loc Cert.GmInDxIdeal.main_arg1) = m ((c.tc : Thread Cert.GmInDxIdeal.nD Cert.GmInDxIdeal.τ).loc Cert.GmInDxIdeal.main_arg1))
      ∧ r.2.sem = fun _ => 0)

def quiescent_GmInDxRefIdeal [hGmInDxRefIdeal : Cert.GmInDxRefIdeal.Facts] : Prop :=
  ∀ (m : (ℓ : Loc Cert.GmInDxRefIdeal.nD Cert.GmInDxRefIdeal.τ Cert.GmInDxRefIdeal.sig) → Buf (Elt Ideal) ℓ) (g : Dev Cert.GmInDxRefIdeal.nD → PrngReg), Pre_GmInDxRefIdeal m →
    θ_run (Cert.GmInDxRefIdeal.defs (F := Ideal)) (onTc (τ := Cert.GmInDxRefIdeal.τ) (Cert.GmInDxRefIdeal.main (F := Ideal))) ⟨m, fun _ => 0, g⟩ (fun r => (∀ c : Dev Cert.GmInDxRefIdeal.nD,
      r.2.mem ((c.tc : Thread Cert.GmInDxRefIdeal.nD Cert.GmInDxRefIdeal.τ).loc Cert.GmInDxRefIdeal.main_arg0) = m ((c.tc : Thread Cert.GmInDxRefIdeal.nD Cert.GmInDxRefIdeal.τ).loc Cert.GmInDxRefIdeal.main_arg0)
      ∧ r.2.mem ((c.tc : Thread Cert.GmInDxRefIdeal.nD Cert.GmInDxRefIdeal.τ).loc Cert.GmInDxRefIdeal.main_arg1) = m ((c.tc : Thread Cert.GmInDxRefIdeal.nD Cert.GmInDxRefIdeal.τ).loc Cert.GmInDxRefIdeal.main_arg1))
      ∧ r.2.sem = fun _ => 0)

def quiescent_GmInDw [hGmInDw : Cert.GmInDw.Facts] : Prop :=
  ∀ (m : (ℓ : Loc Cert.GmInDw.nD Cert.GmInDw.τ Cert.GmInDw.sig) → Buf (Elt Bits) ℓ) (g : Dev Cert.GmInDw.nD → PrngReg), Pre_GmInDw m →
    θ_run (Cert.GmInDw.defs (F := Bits)) (onTc (τ := Cert.GmInDw.τ) (Cert.GmInDw.main (F := Bits))) ⟨m, fun _ => 0, g⟩ (fun r => (∀ c : Dev Cert.GmInDw.nD,
      r.2.mem ((c.tc : Thread Cert.GmInDw.nD Cert.GmInDw.τ).loc Cert.GmInDw.main_arg0) = m ((c.tc : Thread Cert.GmInDw.nD Cert.GmInDw.τ).loc Cert.GmInDw.main_arg0)
      ∧ r.2.mem ((c.tc : Thread Cert.GmInDw.nD Cert.GmInDw.τ).loc Cert.GmInDw.main_arg1) = m ((c.tc : Thread Cert.GmInDw.nD Cert.GmInDw.τ).loc Cert.GmInDw.main_arg1))
      ∧ r.2.sem = fun _ => 0)

def quiescent_GmInDwIdeal [hGmInDwIdeal : Cert.GmInDwIdeal.Facts] : Prop :=
  ∀ (m : (ℓ : Loc Cert.GmInDwIdeal.nD Cert.GmInDwIdeal.τ Cert.GmInDwIdeal.sig) → Buf (Elt Ideal) ℓ) (g : Dev Cert.GmInDwIdeal.nD → PrngReg), Pre_GmInDwIdeal m →
    θ_run (Cert.GmInDwIdeal.defs (F := Ideal)) (onTc (τ := Cert.GmInDwIdeal.τ) (Cert.GmInDwIdeal.main (F := Ideal))) ⟨m, fun _ => 0, g⟩ (fun r => (∀ c : Dev Cert.GmInDwIdeal.nD,
      r.2.mem ((c.tc : Thread Cert.GmInDwIdeal.nD Cert.GmInDwIdeal.τ).loc Cert.GmInDwIdeal.main_arg0) = m ((c.tc : Thread Cert.GmInDwIdeal.nD Cert.GmInDwIdeal.τ).loc Cert.GmInDwIdeal.main_arg0)
      ∧ r.2.mem ((c.tc : Thread Cert.GmInDwIdeal.nD Cert.GmInDwIdeal.τ).loc Cert.GmInDwIdeal.main_arg1) = m ((c.tc : Thread Cert.GmInDwIdeal.nD Cert.GmInDwIdeal.τ).loc Cert.GmInDwIdeal.main_arg1))
      ∧ r.2.sem = fun _ => 0)

def quiescent_GmInDwRefIdeal [hGmInDwRefIdeal : Cert.GmInDwRefIdeal.Facts] : Prop :=
  ∀ (m : (ℓ : Loc Cert.GmInDwRefIdeal.nD Cert.GmInDwRefIdeal.τ Cert.GmInDwRefIdeal.sig) → Buf (Elt Ideal) ℓ) (g : Dev Cert.GmInDwRefIdeal.nD → PrngReg), Pre_GmInDwRefIdeal m →
    θ_run (Cert.GmInDwRefIdeal.defs (F := Ideal)) (onTc (τ := Cert.GmInDwRefIdeal.τ) (Cert.GmInDwRefIdeal.main (F := Ideal))) ⟨m, fun _ => 0, g⟩ (fun r => (∀ c : Dev Cert.GmInDwRefIdeal.nD,
      r.2.mem ((c.tc : Thread Cert.GmInDwRefIdeal.nD Cert.GmInDwRefIdeal.τ).loc Cert.GmInDwRefIdeal.main_arg0) = m ((c.tc : Thread Cert.GmInDwRefIdeal.nD Cert.GmInDwRefIdeal.τ).loc Cert.GmInDwRefIdeal.main_arg0)
      ∧ r.2.mem ((c.tc : Thread Cert.GmInDwRefIdeal.nD Cert.GmInDwRefIdeal.τ).loc Cert.GmInDwRefIdeal.main_arg1) = m ((c.tc : Thread Cert.GmInDwRefIdeal.nD Cert.GmInDwRefIdeal.τ).loc Cert.GmInDwRefIdeal.main_arg1))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1))
      ∧ r.2.sem = fun _ => 0)

def quiescent_FfnOut [hFfnOut : Cert.FfnOut.Facts] : Prop :=
  ∀ (m : (ℓ : Loc Cert.FfnOut.nD Cert.FfnOut.τ Cert.FfnOut.sig) → Buf (Elt Bits) ℓ) (g : Dev Cert.FfnOut.nD → PrngReg), Pre_FfnOut m →
    θ_run (Cert.FfnOut.defs (F := Bits)) (onTc (τ := Cert.FfnOut.τ) (Cert.FfnOut.main (F := Bits))) ⟨m, fun _ => 0, g⟩ (fun r => (∀ c : Dev Cert.FfnOut.nD,
      r.2.mem ((c.tc : Thread Cert.FfnOut.nD Cert.FfnOut.τ).loc Cert.FfnOut.main_arg0) = m ((c.tc : Thread Cert.FfnOut.nD Cert.FfnOut.τ).loc Cert.FfnOut.main_arg0)
      ∧ r.2.mem ((c.tc : Thread Cert.FfnOut.nD Cert.FfnOut.τ).loc Cert.FfnOut.main_arg1) = m ((c.tc : Thread Cert.FfnOut.nD Cert.FfnOut.τ).loc Cert.FfnOut.main_arg1)
      ∧ r.2.mem ((c.tc : Thread Cert.FfnOut.nD Cert.FfnOut.τ).loc Cert.FfnOut.main_arg2) = m ((c.tc : Thread Cert.FfnOut.nD Cert.FfnOut.τ).loc Cert.FfnOut.main_arg2)
      ∧ r.2.mem ((c.tc : Thread Cert.FfnOut.nD Cert.FfnOut.τ).loc Cert.FfnOut.main_arg3) = m ((c.tc : Thread Cert.FfnOut.nD Cert.FfnOut.τ).loc Cert.FfnOut.main_arg3))
      ∧ r.2.sem = fun _ => 0)

def quiescent_FfnOutIdeal [hFfnOutIdeal : Cert.FfnOutIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg), Pre_FfnOutIdeal m →
    θ_run (Cert.FfnOutIdeal.defs (F := Ideal)) (onTc (τ := Cert.FfnOutIdeal.τ) (Cert.FfnOutIdeal.main (F := Ideal))) ⟨m, fun _ => 0, g⟩ (fun r => (∀ c : Dev Cert.FfnOutIdeal.nD,
      r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
      ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
      ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2)
      ∧ r.2.mem ((c.tc : Thread Cert.FfnOutIdeal.nD Cert.FfnOutIdeal.τ).loc Cert.FfnOutIdeal.main_arg3) = m ((c.tc : Thread Cert.FfnOutIdeal.nD Cert.FfnOutIdeal.τ).loc Cert.FfnOutIdeal.main_arg3))
      ∧ r.2.sem = fun _ => 0)

def quiescent_FfnOutRefIdeal [hFfnOutRefIdeal : Cert.FfnOutRefIdeal.Facts] : Prop :=
  ∀ (m : (ℓ : Loc Cert.FfnOutRefIdeal.nD Cert.FfnOutRefIdeal.τ Cert.FfnOutRefIdeal.sig) → Buf (Elt Ideal) ℓ) (g : Dev Cert.FfnOutRefIdeal.nD → PrngReg), Pre_FfnOutRefIdeal m →
    θ_run (Cert.FfnOutRefIdeal.defs (F := Ideal)) (onTc (τ := Cert.FfnOutRefIdeal.τ) (Cert.FfnOutRefIdeal.main (F := Ideal))) ⟨m, fun _ => 0, g⟩ (fun r => (∀ c : Dev Cert.FfnOutRefIdeal.nD,
      r.2.mem ((c.tc : Thread Cert.FfnOutRefIdeal.nD Cert.FfnOutRefIdeal.τ).loc Cert.FfnOutRefIdeal.main_arg0) = m ((c.tc : Thread Cert.FfnOutRefIdeal.nD Cert.FfnOutRefIdeal.τ).loc Cert.FfnOutRefIdeal.main_arg0)
      ∧ r.2.mem ((c.tc : Thread Cert.FfnOutRefIdeal.nD Cert.FfnOutRefIdeal.τ).loc Cert.FfnOutRefIdeal.main_arg1) = m ((c.tc : Thread Cert.FfnOutRefIdeal.nD Cert.FfnOutRefIdeal.τ).loc Cert.FfnOutRefIdeal.main_arg1)
      ∧ r.2.mem ((c.tc : Thread Cert.FfnOutRefIdeal.nD Cert.FfnOutRefIdeal.τ).loc Cert.FfnOutRefIdeal.main_arg2) = m ((c.tc : Thread Cert.FfnOutRefIdeal.nD Cert.FfnOutRefIdeal.τ).loc Cert.FfnOutRefIdeal.main_arg2)
      ∧ r.2.mem ((c.tc : Thread Cert.FfnOutRefIdeal.nD Cert.FfnOutRefIdeal.τ).loc Cert.FfnOutRefIdeal.main_arg3) = m ((c.tc : Thread Cert.FfnOutRefIdeal.nD Cert.FfnOutRefIdeal.τ).loc Cert.FfnOutRefIdeal.main_arg3))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1))
      ∧ r.2.sem = fun _ => 0)

def quiescent_Forget [hForget : Cert.Forget.Facts] : Prop :=
  ∀ (m : (ℓ : Loc Cert.Forget.nD Cert.Forget.τ Cert.Forget.sig) → Buf (Elt Bits) ℓ) (g : Dev Cert.Forget.nD → PrngReg), Pre_Forget m →
    θ_run (Cert.Forget.defs (F := Bits)) (onTc (τ := Cert.Forget.τ) (Cert.Forget.main (F := Bits))) ⟨m, fun _ => 0, g⟩ (fun r => (∀ c : Dev Cert.Forget.nD,
      r.2.mem ((c.tc : Thread Cert.Forget.nD Cert.Forget.τ).loc Cert.Forget.main_arg0) = m ((c.tc : Thread Cert.Forget.nD Cert.Forget.τ).loc Cert.Forget.main_arg0)
      ∧ r.2.mem ((c.tc : Thread Cert.Forget.nD Cert.Forget.τ).loc Cert.Forget.main_arg1) = m ((c.tc : Thread Cert.Forget.nD Cert.Forget.τ).loc Cert.Forget.main_arg1))
      ∧ r.2.sem = fun _ => 0)

def quiescent_ForgetIdeal [hForgetIdeal : Cert.ForgetIdeal.Facts] : Prop :=
  ∀ (m : (ℓ : Loc Cert.ForgetIdeal.nD Cert.ForgetIdeal.τ Cert.ForgetIdeal.sig) → Buf (Elt Ideal) ℓ) (g : Dev Cert.ForgetIdeal.nD → PrngReg), Pre_ForgetIdeal m →
    θ_run (Cert.ForgetIdeal.defs (F := Ideal)) (onTc (τ := Cert.ForgetIdeal.τ) (Cert.ForgetIdeal.main (F := Ideal))) ⟨m, fun _ => 0, g⟩ (fun r => (∀ c : Dev Cert.ForgetIdeal.nD,
      r.2.mem ((c.tc : Thread Cert.ForgetIdeal.nD Cert.ForgetIdeal.τ).loc Cert.ForgetIdeal.main_arg0) = m ((c.tc : Thread Cert.ForgetIdeal.nD Cert.ForgetIdeal.τ).loc Cert.ForgetIdeal.main_arg0)
      ∧ r.2.mem ((c.tc : Thread Cert.ForgetIdeal.nD Cert.ForgetIdeal.τ).loc Cert.ForgetIdeal.main_arg1) = m ((c.tc : Thread Cert.ForgetIdeal.nD Cert.ForgetIdeal.τ).loc Cert.ForgetIdeal.main_arg1))
      ∧ r.2.sem = fun _ => 0)

def quiescent_ForgetRefIdeal [hForgetRefIdeal : Cert.ForgetRefIdeal.Facts] : Prop :=
  ∀ (m : (ℓ : Loc Cert.ForgetRefIdeal.nD Cert.ForgetRefIdeal.τ Cert.ForgetRefIdeal.sig) → Buf (Elt Ideal) ℓ) (g : Dev Cert.ForgetRefIdeal.nD → PrngReg), Pre_ForgetRefIdeal m →
    θ_run (Cert.ForgetRefIdeal.defs (F := Ideal)) (onTc (τ := Cert.ForgetRefIdeal.τ) (Cert.ForgetRefIdeal.main (F := Ideal))) ⟨m, fun _ => 0, g⟩ (fun r => (∀ c : Dev Cert.ForgetRefIdeal.nD,
      r.2.mem ((c.tc : Thread Cert.ForgetRefIdeal.nD Cert.ForgetRefIdeal.τ).loc Cert.ForgetRefIdeal.main_arg0) = m ((c.tc : Thread Cert.ForgetRefIdeal.nD Cert.ForgetRefIdeal.τ).loc Cert.ForgetRefIdeal.main_arg0)
      ∧ r.2.mem ((c.tc : Thread Cert.ForgetRefIdeal.nD Cert.ForgetRefIdeal.τ).loc Cert.ForgetRefIdeal.main_arg1) = m ((c.tc : Thread Cert.ForgetRefIdeal.nD Cert.ForgetRefIdeal.τ).loc Cert.ForgetRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_GmIn [hGmIn : Cert.GmIn.Facts] : Prop :=
  ∀ (m : (ℓ : Loc Cert.GmIn.nD Cert.GmIn.τ Cert.GmIn.sig) → Buf (Elt Bits) ℓ) (g : Dev Cert.GmIn.nD → PrngReg), Pre_GmIn m →
    θ_run (Cert.GmIn.defs (F := Bits)) (onTc (τ := Cert.GmIn.τ) (Cert.GmIn.main (F := Bits))) ⟨m, fun _ => 0, g⟩ (fun r => (∀ c : Dev Cert.GmIn.nD,
      r.2.mem ((c.tc : Thread Cert.GmIn.nD Cert.GmIn.τ).loc Cert.GmIn.main_arg0) = m ((c.tc : Thread Cert.GmIn.nD Cert.GmIn.τ).loc Cert.GmIn.main_arg0)
      ∧ r.2.mem ((c.tc : Thread Cert.GmIn.nD Cert.GmIn.τ).loc Cert.GmIn.main_arg1) = m ((c.tc : Thread Cert.GmIn.nD Cert.GmIn.τ).loc Cert.GmIn.main_arg1))
      ∧ r.2.sem = fun _ => 0)

def quiescent_GmInIdeal [hGmInIdeal : Cert.GmInIdeal.Facts] : Prop :=
  ∀ (m : (ℓ : Loc Cert.GmInIdeal.nD Cert.GmInIdeal.τ Cert.GmInIdeal.sig) → Buf (Elt Ideal) ℓ) (g : Dev Cert.GmInIdeal.nD → PrngReg), Pre_GmInIdeal m →
    θ_run (Cert.GmInIdeal.defs (F := Ideal)) (onTc (τ := Cert.GmInIdeal.τ) (Cert.GmInIdeal.main (F := Ideal))) ⟨m, fun _ => 0, g⟩ (fun r => (∀ c : Dev Cert.GmInIdeal.nD,
      r.2.mem ((c.tc : Thread Cert.GmInIdeal.nD Cert.GmInIdeal.τ).loc Cert.GmInIdeal.main_arg0) = m ((c.tc : Thread Cert.GmInIdeal.nD Cert.GmInIdeal.τ).loc Cert.GmInIdeal.main_arg0)
      ∧ r.2.mem ((c.tc : Thread Cert.GmInIdeal.nD Cert.GmInIdeal.τ).loc Cert.GmInIdeal.main_arg1) = m ((c.tc : Thread Cert.GmInIdeal.nD Cert.GmInIdeal.τ).loc Cert.GmInIdeal.main_arg1))
      ∧ r.2.sem = fun _ => 0)

def quiescent_GmInRefIdeal [hGmInRefIdeal : Cert.GmInRefIdeal.Facts] : Prop :=
  ∀ (m : (ℓ : Loc Cert.GmInRefIdeal.nD Cert.GmInRefIdeal.τ Cert.GmInRefIdeal.sig) → Buf (Elt Ideal) ℓ) (g : Dev Cert.GmInRefIdeal.nD → PrngReg), Pre_GmInRefIdeal m →
    θ_run (Cert.GmInRefIdeal.defs (F := Ideal)) (onTc (τ := Cert.GmInRefIdeal.τ) (Cert.GmInRefIdeal.main (F := Ideal))) ⟨m, fun _ => 0, g⟩ (fun r => (∀ c : Dev Cert.GmInRefIdeal.nD,
      r.2.mem ((c.tc : Thread Cert.GmInRefIdeal.nD Cert.GmInRefIdeal.τ).loc Cert.GmInRefIdeal.main_arg0) = m ((c.tc : Thread Cert.GmInRefIdeal.nD Cert.GmInRefIdeal.τ).loc Cert.GmInRefIdeal.main_arg0)
      ∧ r.2.mem ((c.tc : Thread Cert.GmInRefIdeal.nD Cert.GmInRefIdeal.τ).loc Cert.GmInRefIdeal.main_arg1) = m ((c.tc : Thread Cert.GmInRefIdeal.nD Cert.GmInRefIdeal.τ).loc Cert.GmInRefIdeal.main_arg1))
      ∧ r.2.sem = fun _ => 0)

def quiescent_NormMod [hNormMod : Cert.NormMod.Facts] : Prop :=
  ∀ (m : (ℓ : Loc Cert.NormMod.nD Cert.NormMod.τ Cert.NormMod.sig) → Buf (Elt Bits) ℓ) (g : Dev Cert.NormMod.nD → PrngReg), Pre_NormMod m →
    θ_run (Cert.NormMod.defs (F := Bits)) (onTc (τ := Cert.NormMod.τ) (Cert.NormMod.main (F := Bits))) ⟨m, fun _ => 0, g⟩ (fun r => (∀ c : Dev Cert.NormMod.nD,
      r.2.mem ((c.tc : Thread Cert.NormMod.nD Cert.NormMod.τ).loc Cert.NormMod.main_arg0) = m ((c.tc : Thread Cert.NormMod.nD Cert.NormMod.τ).loc Cert.NormMod.main_arg0)
      ∧ r.2.mem ((c.tc : Thread Cert.NormMod.nD Cert.NormMod.τ).loc Cert.NormMod.main_arg1) = m ((c.tc : Thread Cert.NormMod.nD Cert.NormMod.τ).loc Cert.NormMod.main_arg1)
      ∧ r.2.mem ((c.tc : Thread Cert.NormMod.nD Cert.NormMod.τ).loc Cert.NormMod.main_arg2) = m ((c.tc : Thread Cert.NormMod.nD Cert.NormMod.τ).loc Cert.NormMod.main_arg2)
      ∧ r.2.mem ((c.tc : Thread Cert.NormMod.nD Cert.NormMod.τ).loc Cert.NormMod.main_arg3) = m ((c.tc : Thread Cert.NormMod.nD Cert.NormMod.τ).loc Cert.NormMod.main_arg3))
      ∧ r.2.sem = fun _ => 0)

def quiescent_NormModIdeal [hNormModIdeal : Cert.NormModIdeal.Facts] : Prop :=
  ∀ (m : (ℓ : Loc Cert.NormModIdeal.nD Cert.NormModIdeal.τ Cert.NormModIdeal.sig) → Buf (Elt Ideal) ℓ) (g : Dev Cert.NormModIdeal.nD → PrngReg), Pre_NormModIdeal m →
    θ_run (Cert.NormModIdeal.defs (F := Ideal)) (onTc (τ := Cert.NormModIdeal.τ) (Cert.NormModIdeal.main (F := Ideal))) ⟨m, fun _ => 0, g⟩ (fun r => (∀ c : Dev Cert.NormModIdeal.nD,
      r.2.mem ((c.tc : Thread Cert.NormModIdeal.nD Cert.NormModIdeal.τ).loc Cert.NormModIdeal.main_arg0) = m ((c.tc : Thread Cert.NormModIdeal.nD Cert.NormModIdeal.τ).loc Cert.NormModIdeal.main_arg0)
      ∧ r.2.mem ((c.tc : Thread Cert.NormModIdeal.nD Cert.NormModIdeal.τ).loc Cert.NormModIdeal.main_arg1) = m ((c.tc : Thread Cert.NormModIdeal.nD Cert.NormModIdeal.τ).loc Cert.NormModIdeal.main_arg1)
      ∧ r.2.mem ((c.tc : Thread Cert.NormModIdeal.nD Cert.NormModIdeal.τ).loc Cert.NormModIdeal.main_arg2) = m ((c.tc : Thread Cert.NormModIdeal.nD Cert.NormModIdeal.τ).loc Cert.NormModIdeal.main_arg2)
      ∧ r.2.mem ((c.tc : Thread Cert.NormModIdeal.nD Cert.NormModIdeal.τ).loc Cert.NormModIdeal.main_arg3) = m ((c.tc : Thread Cert.NormModIdeal.nD Cert.NormModIdeal.τ).loc Cert.NormModIdeal.main_arg3))
      ∧ r.2.sem = fun _ => 0)

def quiescent_NormModRefIdeal [hNormModRefIdeal : Cert.NormModRefIdeal.Facts] : Prop :=
  ∀ (m : (ℓ : Loc Cert.NormModRefIdeal.nD Cert.NormModRefIdeal.τ Cert.NormModRefIdeal.sig) → Buf (Elt Ideal) ℓ) (g : Dev Cert.NormModRefIdeal.nD → PrngReg), Pre_NormModRefIdeal m →
    θ_run (Cert.NormModRefIdeal.defs (F := Ideal)) (onTc (τ := Cert.NormModRefIdeal.τ) (Cert.NormModRefIdeal.main (F := Ideal))) ⟨m, fun _ => 0, g⟩ (fun r => (∀ c : Dev Cert.NormModRefIdeal.nD,
      r.2.mem ((c.tc : Thread Cert.NormModRefIdeal.nD Cert.NormModRefIdeal.τ).loc Cert.NormModRefIdeal.main_arg0) = m ((c.tc : Thread Cert.NormModRefIdeal.nD Cert.NormModRefIdeal.τ).loc Cert.NormModRefIdeal.main_arg0)
      ∧ r.2.mem ((c.tc : Thread Cert.NormModRefIdeal.nD Cert.NormModRefIdeal.τ).loc Cert.NormModRefIdeal.main_arg1) = m ((c.tc : Thread Cert.NormModRefIdeal.nD Cert.NormModRefIdeal.τ).loc Cert.NormModRefIdeal.main_arg1)
      ∧ r.2.mem ((c.tc : Thread Cert.NormModRefIdeal.nD Cert.NormModRefIdeal.τ).loc Cert.NormModRefIdeal.main_arg2) = m ((c.tc : Thread Cert.NormModRefIdeal.nD Cert.NormModRefIdeal.τ).loc Cert.NormModRefIdeal.main_arg2)
      ∧ r.2.mem ((c.tc : Thread Cert.NormModRefIdeal.nD Cert.NormModRefIdeal.τ).loc Cert.NormModRefIdeal.main_arg3) = m ((c.tc : Thread Cert.NormModRefIdeal.nD Cert.NormModRefIdeal.τ).loc Cert.NormModRefIdeal.main_arg3))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3)
      ∧ r.2.mem ((c.tc : Thread Cert.NormBwd.nD Cert.NormBwd.τ).loc Cert.NormBwd.main_arg4) = m ((c.tc : Thread Cert.NormBwd.nD Cert.NormBwd.τ).loc Cert.NormBwd.main_arg4)
      ∧ r.2.mem ((c.tc : Thread Cert.NormBwd.nD Cert.NormBwd.τ).loc Cert.NormBwd.main_arg5) = m ((c.tc : Thread Cert.NormBwd.nD Cert.NormBwd.τ).loc Cert.NormBwd.main_arg5)
      ∧ r.2.mem ((c.tc : Thread Cert.NormBwd.nD Cert.NormBwd.τ).loc Cert.NormBwd.main_arg6) = m ((c.tc : Thread Cert.NormBwd.nD Cert.NormBwd.τ).loc Cert.NormBwd.main_arg6)
      ∧ r.2.mem ((c.tc : Thread Cert.NormBwd.nD Cert.NormBwd.τ).loc Cert.NormBwd.main_arg7) = m ((c.tc : Thread Cert.NormBwd.nD Cert.NormBwd.τ).loc Cert.NormBwd.main_arg7))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
      ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4)
      ∧ r.2.mem ((c.tc : Thread Cert.NormBwdIdeal.nD Cert.NormBwdIdeal.τ).loc Cert.NormBwdIdeal.main_arg5) = m ((c.tc : Thread Cert.NormBwdIdeal.nD Cert.NormBwdIdeal.τ).loc Cert.NormBwdIdeal.main_arg5)
      ∧ r.2.mem ((c.tc : Thread Cert.NormBwdIdeal.nD Cert.NormBwdIdeal.τ).loc Cert.NormBwdIdeal.main_arg6) = m ((c.tc : Thread Cert.NormBwdIdeal.nD Cert.NormBwdIdeal.τ).loc Cert.NormBwdIdeal.main_arg6)
      ∧ r.2.mem ((c.tc : Thread Cert.NormBwdIdeal.nD Cert.NormBwdIdeal.τ).loc Cert.NormBwdIdeal.main_arg7) = m ((c.tc : Thread Cert.NormBwdIdeal.nD Cert.NormBwdIdeal.τ).loc Cert.NormBwdIdeal.main_arg7))
      ∧ r.2.sem = fun _ => 0)

def quiescent_NormBwdRefIdeal [hNormBwdRefIdeal : Cert.NormBwdRefIdeal.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3)
      ∧ r.2.mem ((c.tc : Thread Cert.NormBwdRefIdeal.nD Cert.NormBwdRefIdeal.τ).loc Cert.NormBwdRefIdeal.main_arg4) = m ((c.tc : Thread Cert.NormBwdRefIdeal.nD Cert.NormBwdRefIdeal.τ).loc Cert.NormBwdRefIdeal.main_arg4)
      ∧ r.2.mem ((c.tc : Thread Cert.NormBwdRefIdeal.nD Cert.NormBwdRefIdeal.τ).loc Cert.NormBwdRefIdeal.main_arg5) = m ((c.tc : Thread Cert.NormBwdRefIdeal.nD Cert.NormBwdRefIdeal.τ).loc Cert.NormBwdRefIdeal.main_arg5)
      ∧ r.2.mem ((c.tc : Thread Cert.NormBwdRefIdeal.nD Cert.NormBwdRefIdeal.τ).loc Cert.NormBwdRefIdeal.main_arg6) = m ((c.tc : Thread Cert.NormBwdRefIdeal.nD Cert.NormBwdRefIdeal.τ).loc Cert.NormBwdRefIdeal.main_arg6)
      ∧ r.2.mem ((c.tc : Thread Cert.NormBwdRefIdeal.nD Cert.NormBwdRefIdeal.τ).loc Cert.NormBwdRefIdeal.main_arg7) = m ((c.tc : Thread Cert.NormBwdRefIdeal.nD Cert.NormBwdRefIdeal.τ).loc Cert.NormBwdRefIdeal.main_arg7))
      ∧ r.2.sem = fun _ => 0)

def quiescent_NormFirst [hNormFirst : Cert.NormFirst.Facts] : Prop :=
  ∀ (m : (ℓ : Loc Cert.NormFirst.nD Cert.NormFirst.τ Cert.NormFirst.sig) → Buf (Elt Bits) ℓ) (g : Dev Cert.NormFirst.nD → PrngReg), Pre_NormFirst m →
    θ_run (Cert.NormFirst.defs (F := Bits)) (onTc (τ := Cert.NormFirst.τ) (Cert.NormFirst.main (F := Bits))) ⟨m, fun _ => 0, g⟩ (fun r => (∀ c : Dev Cert.NormFirst.nD,
      r.2.mem ((c.tc : Thread Cert.NormFirst.nD Cert.NormFirst.τ).loc Cert.NormFirst.main_arg0) = m ((c.tc : Thread Cert.NormFirst.nD Cert.NormFirst.τ).loc Cert.NormFirst.main_arg0)
      ∧ r.2.mem ((c.tc : Thread Cert.NormFirst.nD Cert.NormFirst.τ).loc Cert.NormFirst.main_arg1) = m ((c.tc : Thread Cert.NormFirst.nD Cert.NormFirst.τ).loc Cert.NormFirst.main_arg1)
      ∧ r.2.mem ((c.tc : Thread Cert.NormFirst.nD Cert.NormFirst.τ).loc Cert.NormFirst.main_arg2) = m ((c.tc : Thread Cert.NormFirst.nD Cert.NormFirst.τ).loc Cert.NormFirst.main_arg2)
      ∧ r.2.mem ((c.tc : Thread Cert.NormFirst.nD Cert.NormFirst.τ).loc Cert.NormFirst.main_arg3) = m ((c.tc : Thread Cert.NormFirst.nD Cert.NormFirst.τ).loc Cert.NormFirst.main_arg3)
      ∧ r.2.mem ((c.tc : Thread Cert.NormFirst.nD Cert.NormFirst.τ).loc Cert.NormFirst.main_arg4) = m ((c.tc : Thread Cert.NormFirst.nD Cert.NormFirst.τ).loc Cert.NormFirst.main_arg4)
      ∧ r.2.mem ((c.tc : Thread Cert.NormFirst.nD Cert.NormFirst.τ).loc Cert.NormFirst.main_arg5) = m ((c.tc : Thread Cert.NormFirst.nD Cert.NormFirst.τ).loc Cert.NormFirst.main_arg5))
      ∧ r.2.sem = fun _ => 0)

def quiescent_NormFirstIdeal [hNormFirstIdeal : Cert.NormFirstIdeal.Facts] : Prop :=
  ∀ (m : (ℓ : Loc Cert.NormFirstIdeal.nD Cert.NormFirstIdeal.τ Cert.NormFirstIdeal.sig) → Buf (Elt Ideal) ℓ) (g : Dev Cert.NormFirstIdeal.nD → PrngReg), Pre_NormFirstIdeal m →
    θ_run (Cert.NormFirstIdeal.defs (F := Ideal)) (onTc (τ := Cert.NormFirstIdeal.τ) (Cert.NormFirstIdeal.main (F := Ideal))) ⟨m, fun _ => 0, g⟩ (fun r => (∀ c : Dev Cert.NormFirstIdeal.nD,
      r.2.mem ((c.tc : Thread Cert.NormFirstIdeal.nD Cert.NormFirstIdeal.τ).loc Cert.NormFirstIdeal.main_arg0) = m ((c.tc : Thread Cert.NormFirstIdeal.nD Cert.NormFirstIdeal.τ).loc Cert.NormFirstIdeal.main_arg0)
      ∧ r.2.mem ((c.tc : Thread Cert.NormFirstIdeal.nD Cert.NormFirstIdeal.τ).loc Cert.NormFirstIdeal.main_arg1) = m ((c.tc : Thread Cert.NormFirstIdeal.nD Cert.NormFirstIdeal.τ).loc Cert.NormFirstIdeal.main_arg1)
      ∧ r.2.mem ((c.tc : Thread Cert.NormFirstIdeal.nD Cert.NormFirstIdeal.τ).loc Cert.NormFirstIdeal.main_arg2) = m ((c.tc : Thread Cert.NormFirstIdeal.nD Cert.NormFirstIdeal.τ).loc Cert.NormFirstIdeal.main_arg2)
      ∧ r.2.mem ((c.tc : Thread Cert.NormFirstIdeal.nD Cert.NormFirstIdeal.τ).loc Cert.NormFirstIdeal.main_arg3) = m ((c.tc : Thread Cert.NormFirstIdeal.nD Cert.NormFirstIdeal.τ).loc Cert.NormFirstIdeal.main_arg3)
      ∧ r.2.mem ((c.tc : Thread Cert.NormFirstIdeal.nD Cert.NormFirstIdeal.τ).loc Cert.NormFirstIdeal.main_arg4) = m ((c.tc : Thread Cert.NormFirstIdeal.nD Cert.NormFirstIdeal.τ).loc Cert.NormFirstIdeal.main_arg4)
      ∧ r.2.mem ((c.tc : Thread Cert.NormFirstIdeal.nD Cert.NormFirstIdeal.τ).loc Cert.NormFirstIdeal.main_arg5) = m ((c.tc : Thread Cert.NormFirstIdeal.nD Cert.NormFirstIdeal.τ).loc Cert.NormFirstIdeal.main_arg5))
      ∧ r.2.sem = fun _ => 0)

def quiescent_NormFirstRefIdeal [hNormFirstRefIdeal : Cert.NormFirstRefIdeal.Facts] : Prop :=
  ∀ (m : (ℓ : Loc Cert.NormFirstRefIdeal.nD Cert.NormFirstRefIdeal.τ Cert.NormFirstRefIdeal.sig) → Buf (Elt Ideal) ℓ) (g : Dev Cert.NormFirstRefIdeal.nD → PrngReg), Pre_NormFirstRefIdeal m →
    θ_run (Cert.NormFirstRefIdeal.defs (F := Ideal)) (onTc (τ := Cert.NormFirstRefIdeal.τ) (Cert.NormFirstRefIdeal.main (F := Ideal))) ⟨m, fun _ => 0, g⟩ (fun r => (∀ c : Dev Cert.NormFirstRefIdeal.nD,
      r.2.mem ((c.tc : Thread Cert.NormFirstRefIdeal.nD Cert.NormFirstRefIdeal.τ).loc Cert.NormFirstRefIdeal.main_arg0) = m ((c.tc : Thread Cert.NormFirstRefIdeal.nD Cert.NormFirstRefIdeal.τ).loc Cert.NormFirstRefIdeal.main_arg0)
      ∧ r.2.mem ((c.tc : Thread Cert.NormFirstRefIdeal.nD Cert.NormFirstRefIdeal.τ).loc Cert.NormFirstRefIdeal.main_arg1) = m ((c.tc : Thread Cert.NormFirstRefIdeal.nD Cert.NormFirstRefIdeal.τ).loc Cert.NormFirstRefIdeal.main_arg1)
      ∧ r.2.mem ((c.tc : Thread Cert.NormFirstRefIdeal.nD Cert.NormFirstRefIdeal.τ).loc Cert.NormFirstRefIdeal.main_arg2) = m ((c.tc : Thread Cert.NormFirstRefIdeal.nD Cert.NormFirstRefIdeal.τ).loc Cert.NormFirstRefIdeal.main_arg2)
      ∧ r.2.mem ((c.tc : Thread Cert.NormFirstRefIdeal.nD Cert.NormFirstRefIdeal.τ).loc Cert.NormFirstRefIdeal.main_arg3) = m ((c.tc : Thread Cert.NormFirstRefIdeal.nD Cert.NormFirstRefIdeal.τ).loc Cert.NormFirstRefIdeal.main_arg3)
      ∧ r.2.mem ((c.tc : Thread Cert.NormFirstRefIdeal.nD Cert.NormFirstRefIdeal.τ).loc Cert.NormFirstRefIdeal.main_arg4) = m ((c.tc : Thread Cert.NormFirstRefIdeal.nD Cert.NormFirstRefIdeal.τ).loc Cert.NormFirstRefIdeal.main_arg4)
      ∧ r.2.mem ((c.tc : Thread Cert.NormFirstRefIdeal.nD Cert.NormFirstRefIdeal.τ).loc Cert.NormFirstRefIdeal.main_arg5) = m ((c.tc : Thread Cert.NormFirstRefIdeal.nD Cert.NormFirstRefIdeal.τ).loc Cert.NormFirstRefIdeal.main_arg5))
      ∧ r.2.sem = fun _ => 0)

def preserves_Dq_DqIdeal : Prop :=
  True

def algebraic_DqIdeal_DqRefIdeal_pre_finite [hDqIdeal : Cert.DqIdeal.Facts] [hDqRefIdeal : Cert.DqRefIdeal.Facts] [hPre_finite : Cert.Pre_finite.Facts] : Prop :=
  ∀ (m : (ℓ : Loc Cert.DqIdeal.nD Cert.DqIdeal.τ Cert.DqIdeal.sig) → Buf (Elt Ideal) ℓ) (g : Dev Cert.DqIdeal.nD → PrngReg)
    (m' : (ℓ : Loc Cert.DqRefIdeal.nD Cert.DqRefIdeal.τ Cert.DqRefIdeal.sig) → Buf (Elt Ideal) ℓ) (g' : Dev Cert.DqRefIdeal.nD → PrngReg), Pre_DqIdeal_finite m →
    (∀ c : Dev Cert.DqIdeal.nD,
      m' ((c.tc : Thread Cert.DqRefIdeal.nD Cert.DqRefIdeal.τ).loc Cert.DqRefIdeal.main_arg0) = m ((c.tc : Thread Cert.DqIdeal.nD Cert.DqIdeal.τ).loc Cert.DqIdeal.main_arg0)
      ∧ m' ((c.tc : Thread Cert.DqRefIdeal.nD Cert.DqRefIdeal.τ).loc Cert.DqRefIdeal.main_arg1) = m ((c.tc : Thread Cert.DqIdeal.nD Cert.DqIdeal.τ).loc Cert.DqIdeal.main_arg1)
      ∧ m' ((c.tc : Thread Cert.DqRefIdeal.nD Cert.DqRefIdeal.τ).loc Cert.DqRefIdeal.main_arg2) = m ((c.tc : Thread Cert.DqIdeal.nD Cert.DqIdeal.τ).loc Cert.DqIdeal.main_arg2)) →
    ∃ (v0 : (c : Dev Cert.DqIdeal.nD) → Buf (Elt Ideal) ((c.tc : Thread Cert.DqIdeal.nD Cert.DqIdeal.τ).loc Cert.DqIdeal.main_v77_0)) (v1 : (c : Dev Cert.DqIdeal.nD) → Buf (Elt Ideal) ((c.tc : Thread Cert.DqIdeal.nD Cert.DqIdeal.τ).loc Cert.DqIdeal.main_v77_1)),
      θ_run (Cert.DqIdeal.defs (F := Ideal)) (onTc (τ := Cert.DqIdeal.τ) (Cert.DqIdeal.main (F := Ideal))) ⟨m, fun _ => 0, g⟩ (fun r => ∀ c : Dev Cert.DqIdeal.nD,
          r.2.mem ((c.tc : Thread Cert.DqIdeal.nD Cert.DqIdeal.τ).loc Cert.DqIdeal.main_v77_0) = v0 c
          ∧ r.2.mem ((c.tc : Thread Cert.DqIdeal.nD Cert.DqIdeal.τ).loc Cert.DqIdeal.main_v77_1) = v1 c
          ∧ r.2.mem ((c.tc : Thread Cert.DqIdeal.nD Cert.DqIdeal.τ).loc Cert.DqIdeal.main_arg0) = m ((c.tc : Thread Cert.DqIdeal.nD Cert.DqIdeal.τ).loc Cert.DqIdeal.main_arg0)
          ∧ r.2.mem ((c.tc : Thread Cert.DqIdeal.nD Cert.DqIdeal.τ).loc Cert.DqIdeal.main_arg1) = m ((c.tc : Thread Cert.DqIdeal.nD Cert.DqIdeal.τ).loc Cert.DqIdeal.main_arg1)
          ∧ r.2.mem ((c.tc : Thread Cert.DqIdeal.nD Cert.DqIdeal.τ).loc Cert.DqIdeal.main_arg2) = m ((c.tc : Thread Cert.DqIdeal.nD Cert.DqIdeal.τ).loc Cert.DqIdeal.main_arg2))
      ∧ θ_run (Cert.DqRefIdeal.defs (F := Ideal)) (onTc (τ := Cert.DqRefIdeal.τ) (Cert.DqRefIdeal.main (F := Ideal))) ⟨m', fun _ => 0, g'⟩ (fun r => ∀ c : Dev Cert.DqRefIdeal.nD,
          r.2.mem ((c.tc : Thread Cert.DqRefIdeal.nD Cert.DqRefIdeal.τ).loc Cert.DqRefIdeal.main_v86) = v0 c
          ∧ r.2.mem ((c.tc : Thread Cert.DqRefIdeal.nD Cert.DqRefIdeal.τ).loc Cert.DqRefIdeal.main_v87) = v1 c
          ∧ r.2.mem ((c.tc : Thread Cert.DqRefIdeal.nD Cert.DqRefIdeal.τ).loc Cert.DqRefIdeal.main_arg0) = m' ((c.tc : Thread Cert.DqRefIdeal.nD Cert.DqRefIdeal.τ).loc Cert.DqRefIdeal.main_arg0)
          ∧ r.2.mem ((c.tc : Thread Cert.DqRefIdeal.nD Cert.DqRefIdeal.τ).loc Cert.DqRefIdeal.main_arg1) = m' ((c.tc : Thread Cert.DqRefIdeal.nD Cert.DqRefIdeal.τ).loc Cert.DqRefIdeal.main_arg1)
          ∧ r.2.mem ((c.tc : Thread Cert.DqRefIdeal.nD Cert.DqRefIdeal.τ).loc Cert.DqRefIdeal.main_arg2) = m' ((c.tc : Thread Cert.DqRefIdeal.nD Cert.DqRefIdeal.τ).loc Cert.DqRefIdeal.main_arg2))

def preserves_Dkv_DkvIdeal : Prop :=
  True

def algebraic_DkvIdeal_DkvRefIdeal_pre_finite [hDkvIdeal : Cert.DkvIdeal.Facts] [hDkvRefIdeal : Cert.DkvRefIdeal.Facts] [hPre_finite : Cert.Pre_finite.Facts] : Prop :=
  ∀ (m : (ℓ : Loc Cert.DkvIdeal.nD Cert.DkvIdeal.τ Cert.DkvIdeal.sig) → Buf (Elt Ideal) ℓ) (g : Dev Cert.DkvIdeal.nD → PrngReg)
    (m' : (ℓ : Loc Cert.DkvRefIdeal.nD Cert.DkvRefIdeal.τ Cert.DkvRefIdeal.sig) → Buf (Elt Ideal) ℓ) (g' : Dev Cert.DkvRefIdeal.nD → PrngReg), Pre_DkvIdeal_finite m →
    (∀ c : Dev Cert.DkvIdeal.nD,
      m' ((c.tc : Thread Cert.DkvRefIdeal.nD Cert.DkvRefIdeal.τ).loc Cert.DkvRefIdeal.main_arg0) = m ((c.tc : Thread Cert.DkvIdeal.nD Cert.DkvIdeal.τ).loc Cert.DkvIdeal.main_arg0)
      ∧ m' ((c.tc : Thread Cert.DkvRefIdeal.nD Cert.DkvRefIdeal.τ).loc Cert.DkvRefIdeal.main_arg1) = m ((c.tc : Thread Cert.DkvIdeal.nD Cert.DkvIdeal.τ).loc Cert.DkvIdeal.main_arg1)
      ∧ m' ((c.tc : Thread Cert.DkvRefIdeal.nD Cert.DkvRefIdeal.τ).loc Cert.DkvRefIdeal.main_arg2) = m ((c.tc : Thread Cert.DkvIdeal.nD Cert.DkvIdeal.τ).loc Cert.DkvIdeal.main_arg2)) →
    ∃ (v0 : (c : Dev Cert.DkvIdeal.nD) → Buf (Elt Ideal) ((c.tc : Thread Cert.DkvIdeal.nD Cert.DkvIdeal.τ).loc Cert.DkvIdeal.main_v77_0)) (v1 : (c : Dev Cert.DkvIdeal.nD) → Buf (Elt Ideal) ((c.tc : Thread Cert.DkvIdeal.nD Cert.DkvIdeal.τ).loc Cert.DkvIdeal.main_v77_1)) (v2 : (c : Dev Cert.DkvIdeal.nD) → Buf (Elt Ideal) ((c.tc : Thread Cert.DkvIdeal.nD Cert.DkvIdeal.τ).loc Cert.DkvIdeal.main_v77_2)),
      θ_run (Cert.DkvIdeal.defs (F := Ideal)) (onTc (τ := Cert.DkvIdeal.τ) (Cert.DkvIdeal.main (F := Ideal))) ⟨m, fun _ => 0, g⟩ (fun r => ∀ c : Dev Cert.DkvIdeal.nD,
          r.2.mem ((c.tc : Thread Cert.DkvIdeal.nD Cert.DkvIdeal.τ).loc Cert.DkvIdeal.main_v77_0) = v0 c
          ∧ r.2.mem ((c.tc : Thread Cert.DkvIdeal.nD Cert.DkvIdeal.τ).loc Cert.DkvIdeal.main_v77_1) = v1 c
          ∧ r.2.mem ((c.tc : Thread Cert.DkvIdeal.nD Cert.DkvIdeal.τ).loc Cert.DkvIdeal.main_v77_2) = v2 c
          ∧ r.2.mem ((c.tc : Thread Cert.DkvIdeal.nD Cert.DkvIdeal.τ).loc Cert.DkvIdeal.main_arg0) = m ((c.tc : Thread Cert.DkvIdeal.nD Cert.DkvIdeal.τ).loc Cert.DkvIdeal.main_arg0)
          ∧ r.2.mem ((c.tc : Thread Cert.DkvIdeal.nD Cert.DkvIdeal.τ).loc Cert.DkvIdeal.main_arg1) = m ((c.tc : Thread Cert.DkvIdeal.nD Cert.DkvIdeal.τ).loc Cert.DkvIdeal.main_arg1)
          ∧ r.2.mem ((c.tc : Thread Cert.DkvIdeal.nD Cert.DkvIdeal.τ).loc Cert.DkvIdeal.main_arg2) = m ((c.tc : Thread Cert.DkvIdeal.nD Cert.DkvIdeal.τ).loc Cert.DkvIdeal.main_arg2))
      ∧ θ_run (Cert.DkvRefIdeal.defs (F := Ideal)) (onTc (τ := Cert.DkvRefIdeal.τ) (Cert.DkvRefIdeal.main (F := Ideal))) ⟨m', fun _ => 0, g'⟩ (fun r => ∀ c : Dev Cert.DkvRefIdeal.nD,
          r.2.mem ((c.tc : Thread Cert.DkvRefIdeal.nD Cert.DkvRefIdeal.τ).loc Cert.DkvRefIdeal.main_v91) = v0 c
          ∧ r.2.mem ((c.tc : Thread Cert.DkvRefIdeal.nD Cert.DkvRefIdeal.τ).loc Cert.DkvRefIdeal.main_v92) = v1 c
          ∧ r.2.mem ((c.tc : Thread Cert.DkvRefIdeal.nD Cert.DkvRefIdeal.τ).loc Cert.DkvRefIdeal.main_v93) = v2 c
          ∧ r.2.mem ((c.tc : Thread Cert.DkvRefIdeal.nD Cert.DkvRefIdeal.τ).loc Cert.DkvRefIdeal.main_arg0) = m' ((c.tc : Thread Cert.DkvRefIdeal.nD Cert.DkvRefIdeal.τ).loc Cert.DkvRefIdeal.main_arg0)
          ∧ r.2.mem ((c.tc : Thread Cert.DkvRefIdeal.nD Cert.DkvRefIdeal.τ).loc Cert.DkvRefIdeal.main_arg1) = m' ((c.tc : Thread Cert.DkvRefIdeal.nD Cert.DkvRefIdeal.τ).loc Cert.DkvRefIdeal.main_arg1)
          ∧ r.2.mem ((c.tc : Thread Cert.DkvRefIdeal.nD Cert.DkvRefIdeal.τ).loc Cert.DkvRefIdeal.main_arg2) = m' ((c.tc : Thread Cert.DkvRefIdeal.nD Cert.DkvRefIdeal.τ).loc Cert.DkvRefIdeal.main_arg2))

def preserves_Fwd_FwdIdeal : Prop :=
  IdealRules.named_const.Statement Cert.FwdIdeal.κ "mask" .f32 0xF149F2CA#32 ⊥

def algebraic_FwdIdeal_FwdRefIdeal_pre_finite_fwd [hFwdIdeal : Cert.FwdIdeal.Facts] [hFwdRefIdeal : Cert.FwdRefIdeal.Facts] [hPre_finite_fwd : Cert.Pre_finite_fwd.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.FwdRefIdeal.nD Cert.FwdRefIdeal.τ Cert.FwdRefIdeal.sig) → Buf (Elt Ideal) ℓ) (g' : Dev Cert.FwdRefIdeal.nD → PrngReg), Pre_FwdIdeal_finite_fwd m →
    (∀ c : Dev Cert.FwdIdeal.nD,
      m' ((c.tc : Thread Cert.FwdRefIdeal.nD Cert.FwdRefIdeal.τ).loc Cert.FwdRefIdeal.main_arg0) = m ((c.tc : Thread Cert.FwdIdeal.nD Cert.FwdIdeal.τ).loc Cert.FwdIdeal.main_arg0)
      ∧ m' ((c.tc : Thread Cert.FwdRefIdeal.nD Cert.FwdRefIdeal.τ).loc Cert.FwdRefIdeal.main_arg1) = m ((c.tc : Thread Cert.FwdIdeal.nD Cert.FwdIdeal.τ).loc Cert.FwdIdeal.main_arg1)) →
    ∃ (v0 : (c : Dev Cert.FwdIdeal.nD) → Buf (Elt Ideal) ((c.tc : Thread Cert.FwdIdeal.nD Cert.FwdIdeal.τ).loc Cert.FwdIdeal.main_v0_0)) (v1 : (c : Dev Cert.FwdIdeal.nD) → Buf (Elt Ideal) ((c.tc : Thread Cert.FwdIdeal.nD Cert.FwdIdeal.τ).loc Cert.FwdIdeal.main_v0_1)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v0_0) = v0 c
          ∧ r.2.mem ((c.tc : Thread Cert.FwdIdeal.nD Cert.FwdIdeal.τ).loc Cert.FwdIdeal.main_v0_1) = v1 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1))
      ∧ θ_run (Cert.FwdRefIdeal.defs (F := Ideal)) (onTc (τ := Cert.FwdRefIdeal.τ) (Cert.FwdRefIdeal.main (F := Ideal))) ⟨m', fun _ => 0, g'⟩ (fun r => ∀ c : Dev Cert.FwdRefIdeal.nD,
          r.2.mem ((c.tc : Thread Cert.FwdRefIdeal.nD Cert.FwdRefIdeal.τ).loc Cert.FwdRefIdeal.main_v74) = v0 c
          ∧ r.2.mem ((c.tc : Thread Cert.FwdRefIdeal.nD Cert.FwdRefIdeal.τ).loc Cert.FwdRefIdeal.main_v76) = v1 c
          ∧ r.2.mem ((c.tc : Thread Cert.FwdRefIdeal.nD Cert.FwdRefIdeal.τ).loc Cert.FwdRefIdeal.main_arg0) = m' ((c.tc : Thread Cert.FwdRefIdeal.nD Cert.FwdRefIdeal.τ).loc Cert.FwdRefIdeal.main_arg0)
          ∧ r.2.mem ((c.tc : Thread Cert.FwdRefIdeal.nD Cert.FwdRefIdeal.τ).loc Cert.FwdRefIdeal.main_arg1) = m' ((c.tc : Thread Cert.FwdRefIdeal.nD Cert.FwdRefIdeal.τ).loc Cert.FwdRefIdeal.main_arg1))

def preserves_FfnOutDx_FfnOutDxIdeal : Prop :=
  True

def algebraic_FfnOutDxIdeal_FfnOutDxRefIdeal [hFfnOutDxIdeal : Cert.FfnOutDxIdeal.Facts] [hFfnOutDxRefIdeal : Cert.FfnOutDxRefIdeal.Facts] : Prop :=
  ∀ (m : (ℓ : Loc Cert.FfnOutDxIdeal.nD Cert.FfnOutDxIdeal.τ Cert.FfnOutDxIdeal.sig) → Buf (Elt Ideal) ℓ) (g : Dev Cert.FfnOutDxIdeal.nD → PrngReg)
    (m' : (ℓ : Loc Cert.FfnOutDxRefIdeal.nD Cert.FfnOutDxRefIdeal.τ Cert.FfnOutDxRefIdeal.sig) → Buf (Elt Ideal) ℓ) (g' : Dev Cert.FfnOutDxRefIdeal.nD → PrngReg), Pre_FfnOutDxIdeal m →
    (∀ c : Dev Cert.FfnOutDxIdeal.nD,
      m' ((c.tc : Thread Cert.FfnOutDxRefIdeal.nD Cert.FfnOutDxRefIdeal.τ).loc Cert.FfnOutDxRefIdeal.main_arg0) = m ((c.tc : Thread Cert.FfnOutDxIdeal.nD Cert.FfnOutDxIdeal.τ).loc Cert.FfnOutDxIdeal.main_arg0)
      ∧ m' ((c.tc : Thread Cert.FfnOutDxRefIdeal.nD Cert.FfnOutDxRefIdeal.τ).loc Cert.FfnOutDxRefIdeal.main_arg1) = m ((c.tc : Thread Cert.FfnOutDxIdeal.nD Cert.FfnOutDxIdeal.τ).loc Cert.FfnOutDxIdeal.main_arg1)) →
    ∃ (v0 : (c : Dev Cert.FfnOutDxIdeal.nD) → Buf (Elt Ideal) ((c.tc : Thread Cert.FfnOutDxIdeal.nD Cert.FfnOutDxIdeal.τ).loc Cert.FfnOutDxIdeal.main_v0)),
      θ_run (Cert.FfnOutDxIdeal.defs (F := Ideal)) (onTc (τ := Cert.FfnOutDxIdeal.τ) (Cert.FfnOutDxIdeal.main (F := Ideal))) ⟨m, fun _ => 0, g⟩ (fun r => ∀ c : Dev Cert.FfnOutDxIdeal.nD,
          r.2.mem ((c.tc : Thread Cert.FfnOutDxIdeal.nD Cert.FfnOutDxIdeal.τ).loc Cert.FfnOutDxIdeal.main_v0) = v0 c
          ∧ r.2.mem ((c.tc : Thread Cert.FfnOutDxIdeal.nD Cert.FfnOutDxIdeal.τ).loc Cert.FfnOutDxIdeal.main_arg0) = m ((c.tc : Thread Cert.FfnOutDxIdeal.nD Cert.FfnOutDxIdeal.τ).loc Cert.FfnOutDxIdeal.main_arg0)
          ∧ r.2.mem ((c.tc : Thread Cert.FfnOutDxIdeal.nD Cert.FfnOutDxIdeal.τ).loc Cert.FfnOutDxIdeal.main_arg1) = m ((c.tc : Thread Cert.FfnOutDxIdeal.nD Cert.FfnOutDxIdeal.τ).loc Cert.FfnOutDxIdeal.main_arg1))
      ∧ θ_run (Cert.FfnOutDxRefIdeal.defs (F := Ideal)) (onTc (τ := Cert.FfnOutDxRefIdeal.τ) (Cert.FfnOutDxRefIdeal.main (F := Ideal))) ⟨m', fun _ => 0, g'⟩ (fun r => ∀ c : Dev Cert.FfnOutDxRefIdeal.nD,
          r.2.mem ((c.tc : Thread Cert.FfnOutDxRefIdeal.nD Cert.FfnOutDxRefIdeal.τ).loc Cert.FfnOutDxRefIdeal.main_v5) = v0 c
          ∧ r.2.mem ((c.tc : Thread Cert.FfnOutDxRefIdeal.nD Cert.FfnOutDxRefIdeal.τ).loc Cert.FfnOutDxRefIdeal.main_arg0) = m' ((c.tc : Thread Cert.FfnOutDxRefIdeal.nD Cert.FfnOutDxRefIdeal.τ).loc Cert.FfnOutDxRefIdeal.main_arg0)
          ∧ r.2.mem ((c.tc : Thread Cert.FfnOutDxRefIdeal.nD Cert.FfnOutDxRefIdeal.τ).loc Cert.FfnOutDxRefIdeal.main_arg1) = m' ((c.tc : Thread Cert.FfnOutDxRefIdeal.nD Cert.FfnOutDxRefIdeal.τ).loc Cert.FfnOutDxRefIdeal.main_arg1))

def preserves_FfnOutDw_FfnOutDwIdeal : Prop :=
  True

def algebraic_FfnOutDwIdeal_FfnOutDwRefIdeal [hFfnOutDwIdeal : Cert.FfnOutDwIdeal.Facts] [hFfnOutDwRefIdeal : Cert.FfnOutDwRefIdeal.Facts] : Prop :=
  ∀ (m : (ℓ : Loc Cert.FfnOutDwIdeal.nD Cert.FfnOutDwIdeal.τ Cert.FfnOutDwIdeal.sig) → Buf (Elt Ideal) ℓ) (g : Dev Cert.FfnOutDwIdeal.nD → PrngReg)
    (m' : (ℓ : Loc Cert.FfnOutDwRefIdeal.nD Cert.FfnOutDwRefIdeal.τ Cert.FfnOutDwRefIdeal.sig) → Buf (Elt Ideal) ℓ) (g' : Dev Cert.FfnOutDwRefIdeal.nD → PrngReg), Pre_FfnOutDwIdeal m →
    (∀ c : Dev Cert.FfnOutDwIdeal.nD,
      m' ((c.tc : Thread Cert.FfnOutDwRefIdeal.nD Cert.FfnOutDwRefIdeal.τ).loc Cert.FfnOutDwRefIdeal.main_arg0) = m ((c.tc : Thread Cert.FfnOutDwIdeal.nD Cert.FfnOutDwIdeal.τ).loc Cert.FfnOutDwIdeal.main_arg0)
      ∧ m' ((c.tc : Thread Cert.FfnOutDwRefIdeal.nD Cert.FfnOutDwRefIdeal.τ).loc Cert.FfnOutDwRefIdeal.main_arg1) = m ((c.tc : Thread Cert.FfnOutDwIdeal.nD Cert.FfnOutDwIdeal.τ).loc Cert.FfnOutDwIdeal.main_arg1)) →
    ∃ (v0 : (c : Dev Cert.FfnOutDwIdeal.nD) → Buf (Elt Ideal) ((c.tc : Thread Cert.FfnOutDwIdeal.nD Cert.FfnOutDwIdeal.τ).loc Cert.FfnOutDwIdeal.main_v0)),
      θ_run (Cert.FfnOutDwIdeal.defs (F := Ideal)) (onTc (τ := Cert.FfnOutDwIdeal.τ) (Cert.FfnOutDwIdeal.main (F := Ideal))) ⟨m, fun _ => 0, g⟩ (fun r => ∀ c : Dev Cert.FfnOutDwIdeal.nD,
          r.2.mem ((c.tc : Thread Cert.FfnOutDwIdeal.nD Cert.FfnOutDwIdeal.τ).loc Cert.FfnOutDwIdeal.main_v0) = v0 c
          ∧ r.2.mem ((c.tc : Thread Cert.FfnOutDwIdeal.nD Cert.FfnOutDwIdeal.τ).loc Cert.FfnOutDwIdeal.main_arg0) = m ((c.tc : Thread Cert.FfnOutDwIdeal.nD Cert.FfnOutDwIdeal.τ).loc Cert.FfnOutDwIdeal.main_arg0)
          ∧ r.2.mem ((c.tc : Thread Cert.FfnOutDwIdeal.nD Cert.FfnOutDwIdeal.τ).loc Cert.FfnOutDwIdeal.main_arg1) = m ((c.tc : Thread Cert.FfnOutDwIdeal.nD Cert.FfnOutDwIdeal.τ).loc Cert.FfnOutDwIdeal.main_arg1))
      ∧ θ_run (Cert.FfnOutDwRefIdeal.defs (F := Ideal)) (onTc (τ := Cert.FfnOutDwRefIdeal.τ) (Cert.FfnOutDwRefIdeal.main (F := Ideal))) ⟨m', fun _ => 0, g'⟩ (fun r => ∀ c : Dev Cert.FfnOutDwRefIdeal.nD,
          r.2.mem ((c.tc : Thread Cert.FfnOutDwRefIdeal.nD Cert.FfnOutDwRefIdeal.τ).loc Cert.FfnOutDwRefIdeal.main_v6) = v0 c
          ∧ r.2.mem ((c.tc : Thread Cert.FfnOutDwRefIdeal.nD Cert.FfnOutDwRefIdeal.τ).loc Cert.FfnOutDwRefIdeal.main_arg0) = m' ((c.tc : Thread Cert.FfnOutDwRefIdeal.nD Cert.FfnOutDwRefIdeal.τ).loc Cert.FfnOutDwRefIdeal.main_arg0)
          ∧ r.2.mem ((c.tc : Thread Cert.FfnOutDwRefIdeal.nD Cert.FfnOutDwRefIdeal.τ).loc Cert.FfnOutDwRefIdeal.main_arg1) = m' ((c.tc : Thread Cert.FfnOutDwRefIdeal.nD Cert.FfnOutDwRefIdeal.τ).loc Cert.FfnOutDwRefIdeal.main_arg1))

def preserves_FfnInDx_FfnInDxIdeal : Prop :=
  True

def algebraic_FfnInDxIdeal_FfnInDxRefIdeal [hFfnInDxIdeal : Cert.FfnInDxIdeal.Facts] [hFfnInDxRefIdeal : Cert.FfnInDxRefIdeal.Facts] : Prop :=
  ∀ (m : (ℓ : Loc Cert.FfnInDxIdeal.nD Cert.FfnInDxIdeal.τ Cert.FfnInDxIdeal.sig) → Buf (Elt Ideal) ℓ) (g : Dev Cert.FfnInDxIdeal.nD → PrngReg)
    (m' : (ℓ : Loc Cert.FfnInDxRefIdeal.nD Cert.FfnInDxRefIdeal.τ Cert.FfnInDxRefIdeal.sig) → Buf (Elt Ideal) ℓ) (g' : Dev Cert.FfnInDxRefIdeal.nD → PrngReg), Pre_FfnInDxIdeal m →
    (∀ c : Dev Cert.FfnInDxIdeal.nD,
      m' ((c.tc : Thread Cert.FfnInDxRefIdeal.nD Cert.FfnInDxRefIdeal.τ).loc Cert.FfnInDxRefIdeal.main_arg0) = m ((c.tc : Thread Cert.FfnInDxIdeal.nD Cert.FfnInDxIdeal.τ).loc Cert.FfnInDxIdeal.main_arg0)
      ∧ m' ((c.tc : Thread Cert.FfnInDxRefIdeal.nD Cert.FfnInDxRefIdeal.τ).loc Cert.FfnInDxRefIdeal.main_arg1) = m ((c.tc : Thread Cert.FfnInDxIdeal.nD Cert.FfnInDxIdeal.τ).loc Cert.FfnInDxIdeal.main_arg1)) →
    ∃ (v0 : (c : Dev Cert.FfnInDxIdeal.nD) → Buf (Elt Ideal) ((c.tc : Thread Cert.FfnInDxIdeal.nD Cert.FfnInDxIdeal.τ).loc Cert.FfnInDxIdeal.main_v0)),
      θ_run (Cert.FfnInDxIdeal.defs (F := Ideal)) (onTc (τ := Cert.FfnInDxIdeal.τ) (Cert.FfnInDxIdeal.main (F := Ideal))) ⟨m, fun _ => 0, g⟩ (fun r => ∀ c : Dev Cert.FfnInDxIdeal.nD,
          r.2.mem ((c.tc : Thread Cert.FfnInDxIdeal.nD Cert.FfnInDxIdeal.τ).loc Cert.FfnInDxIdeal.main_v0) = v0 c
          ∧ r.2.mem ((c.tc : Thread Cert.FfnInDxIdeal.nD Cert.FfnInDxIdeal.τ).loc Cert.FfnInDxIdeal.main_arg0) = m ((c.tc : Thread Cert.FfnInDxIdeal.nD Cert.FfnInDxIdeal.τ).loc Cert.FfnInDxIdeal.main_arg0)
          ∧ r.2.mem ((c.tc : Thread Cert.FfnInDxIdeal.nD Cert.FfnInDxIdeal.τ).loc Cert.FfnInDxIdeal.main_arg1) = m ((c.tc : Thread Cert.FfnInDxIdeal.nD Cert.FfnInDxIdeal.τ).loc Cert.FfnInDxIdeal.main_arg1))
      ∧ θ_run (Cert.FfnInDxRefIdeal.defs (F := Ideal)) (onTc (τ := Cert.FfnInDxRefIdeal.τ) (Cert.FfnInDxRefIdeal.main (F := Ideal))) ⟨m', fun _ => 0, g'⟩ (fun r => ∀ c : Dev Cert.FfnInDxRefIdeal.nD,
          r.2.mem ((c.tc : Thread Cert.FfnInDxRefIdeal.nD Cert.FfnInDxRefIdeal.τ).loc Cert.FfnInDxRefIdeal.main_v5) = v0 c
          ∧ r.2.mem ((c.tc : Thread Cert.FfnInDxRefIdeal.nD Cert.FfnInDxRefIdeal.τ).loc Cert.FfnInDxRefIdeal.main_arg0) = m' ((c.tc : Thread Cert.FfnInDxRefIdeal.nD Cert.FfnInDxRefIdeal.τ).loc Cert.FfnInDxRefIdeal.main_arg0)
          ∧ r.2.mem ((c.tc : Thread Cert.FfnInDxRefIdeal.nD Cert.FfnInDxRefIdeal.τ).loc Cert.FfnInDxRefIdeal.main_arg1) = m' ((c.tc : Thread Cert.FfnInDxRefIdeal.nD Cert.FfnInDxRefIdeal.τ).loc Cert.FfnInDxRefIdeal.main_arg1))

def preserves_FfnInDw_FfnInDwIdeal : Prop :=
  True

def algebraic_FfnInDwIdeal_FfnInDwRefIdeal [hFfnInDwIdeal : Cert.FfnInDwIdeal.Facts] [hFfnInDwRefIdeal : Cert.FfnInDwRefIdeal.Facts] : Prop :=
  ∀ (m : (ℓ : Loc Cert.FfnInDwIdeal.nD Cert.FfnInDwIdeal.τ Cert.FfnInDwIdeal.sig) → Buf (Elt Ideal) ℓ) (g : Dev Cert.FfnInDwIdeal.nD → PrngReg)
    (m' : (ℓ : Loc Cert.FfnInDwRefIdeal.nD Cert.FfnInDwRefIdeal.τ Cert.FfnInDwRefIdeal.sig) → Buf (Elt Ideal) ℓ) (g' : Dev Cert.FfnInDwRefIdeal.nD → PrngReg), Pre_FfnInDwIdeal m →
    (∀ c : Dev Cert.FfnInDwIdeal.nD,
      m' ((c.tc : Thread Cert.FfnInDwRefIdeal.nD Cert.FfnInDwRefIdeal.τ).loc Cert.FfnInDwRefIdeal.main_arg0) = m ((c.tc : Thread Cert.FfnInDwIdeal.nD Cert.FfnInDwIdeal.τ).loc Cert.FfnInDwIdeal.main_arg0)
      ∧ m' ((c.tc : Thread Cert.FfnInDwRefIdeal.nD Cert.FfnInDwRefIdeal.τ).loc Cert.FfnInDwRefIdeal.main_arg1) = m ((c.tc : Thread Cert.FfnInDwIdeal.nD Cert.FfnInDwIdeal.τ).loc Cert.FfnInDwIdeal.main_arg1)) →
    ∃ (v0 : (c : Dev Cert.FfnInDwIdeal.nD) → Buf (Elt Ideal) ((c.tc : Thread Cert.FfnInDwIdeal.nD Cert.FfnInDwIdeal.τ).loc Cert.FfnInDwIdeal.main_v0)),
      θ_run (Cert.FfnInDwIdeal.defs (F := Ideal)) (onTc (τ := Cert.FfnInDwIdeal.τ) (Cert.FfnInDwIdeal.main (F := Ideal))) ⟨m, fun _ => 0, g⟩ (fun r => ∀ c : Dev Cert.FfnInDwIdeal.nD,
          r.2.mem ((c.tc : Thread Cert.FfnInDwIdeal.nD Cert.FfnInDwIdeal.τ).loc Cert.FfnInDwIdeal.main_v0) = v0 c
          ∧ r.2.mem ((c.tc : Thread Cert.FfnInDwIdeal.nD Cert.FfnInDwIdeal.τ).loc Cert.FfnInDwIdeal.main_arg0) = m ((c.tc : Thread Cert.FfnInDwIdeal.nD Cert.FfnInDwIdeal.τ).loc Cert.FfnInDwIdeal.main_arg0)
          ∧ r.2.mem ((c.tc : Thread Cert.FfnInDwIdeal.nD Cert.FfnInDwIdeal.τ).loc Cert.FfnInDwIdeal.main_arg1) = m ((c.tc : Thread Cert.FfnInDwIdeal.nD Cert.FfnInDwIdeal.τ).loc Cert.FfnInDwIdeal.main_arg1))
      ∧ θ_run (Cert.FfnInDwRefIdeal.defs (F := Ideal)) (onTc (τ := Cert.FfnInDwRefIdeal.τ) (Cert.FfnInDwRefIdeal.main (F := Ideal))) ⟨m', fun _ => 0, g'⟩ (fun r => ∀ c : Dev Cert.FfnInDwRefIdeal.nD,
          r.2.mem ((c.tc : Thread Cert.FfnInDwRefIdeal.nD Cert.FfnInDwRefIdeal.τ).loc Cert.FfnInDwRefIdeal.main_v8) = v0 c
          ∧ r.2.mem ((c.tc : Thread Cert.FfnInDwRefIdeal.nD Cert.FfnInDwRefIdeal.τ).loc Cert.FfnInDwRefIdeal.main_arg0) = m' ((c.tc : Thread Cert.FfnInDwRefIdeal.nD Cert.FfnInDwRefIdeal.τ).loc Cert.FfnInDwRefIdeal.main_arg0)
          ∧ r.2.mem ((c.tc : Thread Cert.FfnInDwRefIdeal.nD Cert.FfnInDwRefIdeal.τ).loc Cert.FfnInDwRefIdeal.main_arg1) = m' ((c.tc : Thread Cert.FfnInDwRefIdeal.nD Cert.FfnInDwRefIdeal.τ).loc Cert.FfnInDwRefIdeal.main_arg1))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v0)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v0) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v5) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v6) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_QkvDx_QkvDxIdeal : Prop :=
  True

def algebraic_QkvDxIdeal_QkvDxRefIdeal [hQkvDxIdeal : Cert.QkvDxIdeal.Facts] [hQkvDxRefIdeal : Cert.QkvDxRefIdeal.Facts] : Prop :=
  ∀ (m : (ℓ : Loc Cert.QkvDxIdeal.nD Cert.QkvDxIdeal.τ Cert.QkvDxIdeal.sig) → Buf (Elt Ideal) ℓ) (g : Dev Cert.QkvDxIdeal.nD → PrngReg)
    (m' : (ℓ : Loc Cert.QkvDxRefIdeal.nD Cert.QkvDxRefIdeal.τ Cert.QkvDxRefIdeal.sig) → Buf (Elt Ideal) ℓ) (g' : Dev Cert.QkvDxRefIdeal.nD → PrngReg), Pre_QkvDxIdeal m →
    (∀ c : Dev Cert.QkvDxIdeal.nD,
      m' ((c.tc : Thread Cert.QkvDxRefIdeal.nD Cert.QkvDxRefIdeal.τ).loc Cert.QkvDxRefIdeal.main_arg0) = m ((c.tc : Thread Cert.QkvDxIdeal.nD Cert.QkvDxIdeal.τ).loc Cert.QkvDxIdeal.main_arg0)
      ∧ m' ((c.tc : Thread Cert.QkvDxRefIdeal.nD Cert.QkvDxRefIdeal.τ).loc Cert.QkvDxRefIdeal.main_arg1) = m ((c.tc : Thread Cert.QkvDxIdeal.nD Cert.QkvDxIdeal.τ).loc Cert.QkvDxIdeal.main_arg1)
      ∧ m' ((c.tc : Thread Cert.QkvDxRefIdeal.nD Cert.QkvDxRefIdeal.τ).loc Cert.QkvDxRefIdeal.main_arg2) = m ((c.tc : Thread Cert.QkvDxIdeal.nD Cert.QkvDxIdeal.τ).loc Cert.QkvDxIdeal.main_arg2)) →
    ∃ (v0 : (c : Dev Cert.QkvDxIdeal.nD) → Buf (Elt Ideal) ((c.tc : Thread Cert.QkvDxIdeal.nD Cert.QkvDxIdeal.τ).loc Cert.QkvDxIdeal.main_v0)),
      θ_run (Cert.QkvDxIdeal.defs (F := Ideal)) (onTc (τ := Cert.QkvDxIdeal.τ) (Cert.QkvDxIdeal.main (F := Ideal))) ⟨m, fun _ => 0, g⟩ (fun r => ∀ c : Dev Cert.QkvDxIdeal.nD,
          r.2.mem ((c.tc : Thread Cert.QkvDxIdeal.nD Cert.QkvDxIdeal.τ).loc Cert.QkvDxIdeal.main_v0) = v0 c
          ∧ r.2.mem ((c.tc : Thread Cert.QkvDxIdeal.nD Cert.QkvDxIdeal.τ).loc Cert.QkvDxIdeal.main_arg0) = m ((c.tc : Thread Cert.QkvDxIdeal.nD Cert.QkvDxIdeal.τ).loc Cert.QkvDxIdeal.main_arg0)
          ∧ r.2.mem ((c.tc : Thread Cert.QkvDxIdeal.nD Cert.QkvDxIdeal.τ).loc Cert.QkvDxIdeal.main_arg1) = m ((c.tc : Thread Cert.QkvDxIdeal.nD Cert.QkvDxIdeal.τ).loc Cert.QkvDxIdeal.main_arg1)
          ∧ r.2.mem ((c.tc : Thread Cert.QkvDxIdeal.nD Cert.QkvDxIdeal.τ).loc Cert.QkvDxIdeal.main_arg2) = m ((c.tc : Thread Cert.QkvDxIdeal.nD Cert.QkvDxIdeal.τ).loc Cert.QkvDxIdeal.main_arg2))
      ∧ θ_run (Cert.QkvDxRefIdeal.defs (F := Ideal)) (onTc (τ := Cert.QkvDxRefIdeal.τ) (Cert.QkvDxRefIdeal.main (F := Ideal))) ⟨m', fun _ => 0, g'⟩ (fun r => ∀ c : Dev Cert.QkvDxRefIdeal.nD,
          r.2.mem ((c.tc : Thread Cert.QkvDxRefIdeal.nD Cert.QkvDxRefIdeal.τ).loc Cert.QkvDxRefIdeal.main_v6) = v0 c
          ∧ r.2.mem ((c.tc : Thread Cert.QkvDxRefIdeal.nD Cert.QkvDxRefIdeal.τ).loc Cert.QkvDxRefIdeal.main_arg0) = m' ((c.tc : Thread Cert.QkvDxRefIdeal.nD Cert.QkvDxRefIdeal.τ).loc Cert.QkvDxRefIdeal.main_arg0)
          ∧ r.2.mem ((c.tc : Thread Cert.QkvDxRefIdeal.nD Cert.QkvDxRefIdeal.τ).loc Cert.QkvDxRefIdeal.main_arg1) = m' ((c.tc : Thread Cert.QkvDxRefIdeal.nD Cert.QkvDxRefIdeal.τ).loc Cert.QkvDxRefIdeal.main_arg1)
          ∧ r.2.mem ((c.tc : Thread Cert.QkvDxRefIdeal.nD Cert.QkvDxRefIdeal.τ).loc Cert.QkvDxRefIdeal.main_arg2) = m' ((c.tc : Thread Cert.QkvDxRefIdeal.nD Cert.QkvDxRefIdeal.τ).loc Cert.QkvDxRefIdeal.main_arg2))

def preserves_QkvDw_QkvDwIdeal : Prop :=
  True

def algebraic_QkvDwIdeal_QkvDwRefIdeal [hQkvDwIdeal : Cert.QkvDwIdeal.Facts] [hQkvDwRefIdeal : Cert.QkvDwRefIdeal.Facts] : Prop :=
  ∀ (m : (ℓ : Loc Cert.QkvDwIdeal.nD Cert.QkvDwIdeal.τ Cert.QkvDwIdeal.sig) → Buf (Elt Ideal) ℓ) (g : Dev Cert.QkvDwIdeal.nD → PrngReg)
    (m' : (ℓ : Loc Cert.QkvDwRefIdeal.nD Cert.QkvDwRefIdeal.τ Cert.QkvDwRefIdeal.sig) → Buf (Elt Ideal) ℓ) (g' : Dev Cert.QkvDwRefIdeal.nD → PrngReg), Pre_QkvDwIdeal m →
    (∀ c : Dev Cert.QkvDwIdeal.nD,
      m' ((c.tc : Thread Cert.QkvDwRefIdeal.nD Cert.QkvDwRefIdeal.τ).loc Cert.QkvDwRefIdeal.main_arg0) = m ((c.tc : Thread Cert.QkvDwIdeal.nD Cert.QkvDwIdeal.τ).loc Cert.QkvDwIdeal.main_arg0)
      ∧ m' ((c.tc : Thread Cert.QkvDwRefIdeal.nD Cert.QkvDwRefIdeal.τ).loc Cert.QkvDwRefIdeal.main_arg1) = m ((c.tc : Thread Cert.QkvDwIdeal.nD Cert.QkvDwIdeal.τ).loc Cert.QkvDwIdeal.main_arg1)) →
    ∃ (v0 : (c : Dev Cert.QkvDwIdeal.nD) → Buf (Elt Ideal) ((c.tc : Thread Cert.QkvDwIdeal.nD Cert.QkvDwIdeal.τ).loc Cert.QkvDwIdeal.main_v0)),
      θ_run (Cert.QkvDwIdeal.defs (F := Ideal)) (onTc (τ := Cert.QkvDwIdeal.τ) (Cert.QkvDwIdeal.main (F := Ideal))) ⟨m, fun _ => 0, g⟩ (fun r => ∀ c : Dev Cert.QkvDwIdeal.nD,
          r.2.mem ((c.tc : Thread Cert.QkvDwIdeal.nD Cert.QkvDwIdeal.τ).loc Cert.QkvDwIdeal.main_v0) = v0 c
          ∧ r.2.mem ((c.tc : Thread Cert.QkvDwIdeal.nD Cert.QkvDwIdeal.τ).loc Cert.QkvDwIdeal.main_arg0) = m ((c.tc : Thread Cert.QkvDwIdeal.nD Cert.QkvDwIdeal.τ).loc Cert.QkvDwIdeal.main_arg0)
          ∧ r.2.mem ((c.tc : Thread Cert.QkvDwIdeal.nD Cert.QkvDwIdeal.τ).loc Cert.QkvDwIdeal.main_arg1) = m ((c.tc : Thread Cert.QkvDwIdeal.nD Cert.QkvDwIdeal.τ).loc Cert.QkvDwIdeal.main_arg1))
      ∧ θ_run (Cert.QkvDwRefIdeal.defs (F := Ideal)) (onTc (τ := Cert.QkvDwRefIdeal.τ) (Cert.QkvDwRefIdeal.main (F := Ideal))) ⟨m', fun _ => 0, g'⟩ (fun r => ∀ c : Dev Cert.QkvDwRefIdeal.nD,
          r.2.mem ((c.tc : Thread Cert.QkvDwRefIdeal.nD Cert.QkvDwRefIdeal.τ).loc Cert.QkvDwRefIdeal.main_v8) = v0 c
          ∧ r.2.mem ((c.tc : Thread Cert.QkvDwRefIdeal.nD Cert.QkvDwRefIdeal.τ).loc Cert.QkvDwRefIdeal.main_arg0) = m' ((c.tc : Thread Cert.QkvDwRefIdeal.nD Cert.QkvDwRefIdeal.τ).loc Cert.QkvDwRefIdeal.main_arg0)
          ∧ r.2.mem ((c.tc : Thread Cert.QkvDwRefIdeal.nD Cert.QkvDwRefIdeal.τ).loc Cert.QkvDwRefIdeal.main_arg1) = m' ((c.tc : Thread Cert.QkvDwRefIdeal.nD Cert.QkvDwRefIdeal.τ).loc Cert.QkvDwRefIdeal.main_arg1))

def preserves_ForgetDx_ForgetDxIdeal : Prop :=
  True

def algebraic_ForgetDxIdeal_ForgetDxRefIdeal [hForgetDxIdeal : Cert.ForgetDxIdeal.Facts] [hForgetDxRefIdeal : Cert.ForgetDxRefIdeal.Facts] : Prop :=
  ∀ (m : (ℓ : Loc Cert.ForgetDxIdeal.nD Cert.ForgetDxIdeal.τ Cert.ForgetDxIdeal.sig) → Buf (Elt Ideal) ℓ) (g : Dev Cert.ForgetDxIdeal.nD → PrngReg)
    (m' : (ℓ : Loc Cert.ForgetDxRefIdeal.nD Cert.ForgetDxRefIdeal.τ Cert.ForgetDxRefIdeal.sig) → Buf (Elt Ideal) ℓ) (g' : Dev Cert.ForgetDxRefIdeal.nD → PrngReg), Pre_ForgetDxIdeal m →
    (∀ c : Dev Cert.ForgetDxIdeal.nD,
      m' ((c.tc : Thread Cert.ForgetDxRefIdeal.nD Cert.ForgetDxRefIdeal.τ).loc Cert.ForgetDxRefIdeal.main_arg0) = m ((c.tc : Thread Cert.ForgetDxIdeal.nD Cert.ForgetDxIdeal.τ).loc Cert.ForgetDxIdeal.main_arg0)
      ∧ m' ((c.tc : Thread Cert.ForgetDxRefIdeal.nD Cert.ForgetDxRefIdeal.τ).loc Cert.ForgetDxRefIdeal.main_arg1) = m ((c.tc : Thread Cert.ForgetDxIdeal.nD Cert.ForgetDxIdeal.τ).loc Cert.ForgetDxIdeal.main_arg1)) →
    ∃ (v0 : (c : Dev Cert.ForgetDxIdeal.nD) → Buf (Elt Ideal) ((c.tc : Thread Cert.ForgetDxIdeal.nD Cert.ForgetDxIdeal.τ).loc Cert.ForgetDxIdeal.main_v0)),
      θ_run (Cert.ForgetDxIdeal.defs (F := Ideal)) (onTc (τ := Cert.ForgetDxIdeal.τ) (Cert.ForgetDxIdeal.main (F := Ideal))) ⟨m, fun _ => 0, g⟩ (fun r => ∀ c : Dev Cert.ForgetDxIdeal.nD,
          r.2.mem ((c.tc : Thread Cert.ForgetDxIdeal.nD Cert.ForgetDxIdeal.τ).loc Cert.ForgetDxIdeal.main_v0) = v0 c
          ∧ r.2.mem ((c.tc : Thread Cert.ForgetDxIdeal.nD Cert.ForgetDxIdeal.τ).loc Cert.ForgetDxIdeal.main_arg0) = m ((c.tc : Thread Cert.ForgetDxIdeal.nD Cert.ForgetDxIdeal.τ).loc Cert.ForgetDxIdeal.main_arg0)
          ∧ r.2.mem ((c.tc : Thread Cert.ForgetDxIdeal.nD Cert.ForgetDxIdeal.τ).loc Cert.ForgetDxIdeal.main_arg1) = m ((c.tc : Thread Cert.ForgetDxIdeal.nD Cert.ForgetDxIdeal.τ).loc Cert.ForgetDxIdeal.main_arg1))
      ∧ θ_run (Cert.ForgetDxRefIdeal.defs (F := Ideal)) (onTc (τ := Cert.ForgetDxRefIdeal.τ) (Cert.ForgetDxRefIdeal.main (F := Ideal))) ⟨m', fun _ => 0, g'⟩ (fun r => ∀ c : Dev Cert.ForgetDxRefIdeal.nD,
          r.2.mem ((c.tc : Thread Cert.ForgetDxRefIdeal.nD Cert.ForgetDxRefIdeal.τ).loc Cert.ForgetDxRefIdeal.main_v5) = v0 c
          ∧ r.2.mem ((c.tc : Thread Cert.ForgetDxRefIdeal.nD Cert.ForgetDxRefIdeal.τ).loc Cert.ForgetDxRefIdeal.main_arg0) = m' ((c.tc : Thread Cert.ForgetDxRefIdeal.nD Cert.ForgetDxRefIdeal.τ).loc Cert.ForgetDxRefIdeal.main_arg0)
          ∧ r.2.mem ((c.tc : Thread Cert.ForgetDxRefIdeal.nD Cert.ForgetDxRefIdeal.τ).loc Cert.ForgetDxRefIdeal.main_arg1) = m' ((c.tc : Thread Cert.ForgetDxRefIdeal.nD Cert.ForgetDxRefIdeal.τ).loc Cert.ForgetDxRefIdeal.main_arg1))

def preserves_ForgetDw_ForgetDwIdeal : Prop :=
  True

def algebraic_ForgetDwIdeal_ForgetDwRefIdeal [hForgetDwIdeal : Cert.ForgetDwIdeal.Facts] [hForgetDwRefIdeal : Cert.ForgetDwRefIdeal.Facts] : Prop :=
  ∀ (m : (ℓ : Loc Cert.ForgetDwIdeal.nD Cert.ForgetDwIdeal.τ Cert.ForgetDwIdeal.sig) → Buf (Elt Ideal) ℓ) (g : Dev Cert.ForgetDwIdeal.nD → PrngReg)
    (m' : (ℓ : Loc Cert.ForgetDwRefIdeal.nD Cert.ForgetDwRefIdeal.τ Cert.ForgetDwRefIdeal.sig) → Buf (Elt Ideal) ℓ) (g' : Dev Cert.ForgetDwRefIdeal.nD → PrngReg), Pre_ForgetDwIdeal m →
    (∀ c : Dev Cert.ForgetDwIdeal.nD,
      m' ((c.tc : Thread Cert.ForgetDwRefIdeal.nD Cert.ForgetDwRefIdeal.τ).loc Cert.ForgetDwRefIdeal.main_arg0) = m ((c.tc : Thread Cert.ForgetDwIdeal.nD Cert.ForgetDwIdeal.τ).loc Cert.ForgetDwIdeal.main_arg0)
      ∧ m' ((c.tc : Thread Cert.ForgetDwRefIdeal.nD Cert.ForgetDwRefIdeal.τ).loc Cert.ForgetDwRefIdeal.main_arg1) = m ((c.tc : Thread Cert.ForgetDwIdeal.nD Cert.ForgetDwIdeal.τ).loc Cert.ForgetDwIdeal.main_arg1)) →
    ∃ (v0 : (c : Dev Cert.ForgetDwIdeal.nD) → Buf (Elt Ideal) ((c.tc : Thread Cert.ForgetDwIdeal.nD Cert.ForgetDwIdeal.τ).loc Cert.ForgetDwIdeal.main_v0)),
      θ_run (Cert.ForgetDwIdeal.defs (F := Ideal)) (onTc (τ := Cert.ForgetDwIdeal.τ) (Cert.ForgetDwIdeal.main (F := Ideal))) ⟨m, fun _ => 0, g⟩ (fun r => ∀ c : Dev Cert.ForgetDwIdeal.nD,
          r.2.mem ((c.tc : Thread Cert.ForgetDwIdeal.nD Cert.ForgetDwIdeal.τ).loc Cert.ForgetDwIdeal.main_v0) = v0 c
          ∧ r.2.mem ((c.tc : Thread Cert.ForgetDwIdeal.nD Cert.ForgetDwIdeal.τ).loc Cert.ForgetDwIdeal.main_arg0) = m ((c.tc : Thread Cert.ForgetDwIdeal.nD Cert.ForgetDwIdeal.τ).loc Cert.ForgetDwIdeal.main_arg0)
          ∧ r.2.mem ((c.tc : Thread Cert.ForgetDwIdeal.nD Cert.ForgetDwIdeal.τ).loc Cert.ForgetDwIdeal.main_arg1) = m ((c.tc : Thread Cert.ForgetDwIdeal.nD Cert.ForgetDwIdeal.τ).loc Cert.ForgetDwIdeal.main_arg1))
      ∧ θ_run (Cert.ForgetDwRefIdeal.defs (F := Ideal)) (onTc (τ := Cert.ForgetDwRefIdeal.τ) (Cert.ForgetDwRefIdeal.main (F := Ideal))) ⟨m', fun _ => 0, g'⟩ (fun r => ∀ c : Dev Cert.ForgetDwRefIdeal.nD,
          r.2.mem ((c.tc : Thread Cert.ForgetDwRefIdeal.nD Cert.ForgetDwRefIdeal.τ).loc Cert.ForgetDwRefIdeal.main_v8) = v0 c
          ∧ r.2.mem ((c.tc : Thread Cert.ForgetDwRefIdeal.nD Cert.ForgetDwRefIdeal.τ).loc Cert.ForgetDwRefIdeal.main_arg0) = m' ((c.tc : Thread Cert.ForgetDwRefIdeal.nD Cert.ForgetDwRefIdeal.τ).loc Cert.ForgetDwRefIdeal.main_arg0)
          ∧ r.2.mem ((c.tc : Thread Cert.ForgetDwRefIdeal.nD Cert.ForgetDwRefIdeal.τ).loc Cert.ForgetDwRefIdeal.main_arg1) = m' ((c.tc : Thread Cert.ForgetDwRefIdeal.nD Cert.ForgetDwRefIdeal.τ).loc Cert.ForgetDwRefIdeal.main_arg1))

def preserves_GmInDx_GmInDxIdeal : Prop :=
  True

def algebraic_GmInDxIdeal_GmInDxRefIdeal [hGmInDxIdeal : Cert.GmInDxIdeal.Facts] [hGmInDxRefIdeal : Cert.GmInDxRefIdeal.Facts] : Prop :=
  ∀ (m : (ℓ : Loc Cert.GmInDxIdeal.nD Cert.GmInDxIdeal.τ Cert.GmInDxIdeal.sig) → Buf (Elt Ideal) ℓ) (g : Dev Cert.GmInDxIdeal.nD → PrngReg)
    (m' : (ℓ : Loc Cert.GmInDxRefIdeal.nD Cert.GmInDxRefIdeal.τ Cert.GmInDxRefIdeal.sig) → Buf (Elt Ideal) ℓ) (g' : Dev Cert.GmInDxRefIdeal.nD → PrngReg), Pre_GmInDxIdeal m →
    (∀ c : Dev Cert.GmInDxIdeal.nD,
      m' ((c.tc : Thread Cert.GmInDxRefIdeal.nD Cert.GmInDxRefIdeal.τ).loc Cert.GmInDxRefIdeal.main_arg0) = m ((c.tc : Thread Cert.GmInDxIdeal.nD Cert.GmInDxIdeal.τ).loc Cert.GmInDxIdeal.main_arg0)
      ∧ m' ((c.tc : Thread Cert.GmInDxRefIdeal.nD Cert.GmInDxRefIdeal.τ).loc Cert.GmInDxRefIdeal.main_arg1) = m ((c.tc : Thread Cert.GmInDxIdeal.nD Cert.GmInDxIdeal.τ).loc Cert.GmInDxIdeal.main_arg1)) →
    ∃ (v0 : (c : Dev Cert.GmInDxIdeal.nD) → Buf (Elt Ideal) ((c.tc : Thread Cert.GmInDxIdeal.nD Cert.GmInDxIdeal.τ).loc Cert.GmInDxIdeal.main_v0)),
      θ_run (Cert.GmInDxIdeal.defs (F := Ideal)) (onTc (τ := Cert.GmInDxIdeal.τ) (Cert.GmInDxIdeal.main (F := Ideal))) ⟨m, fun _ => 0, g⟩ (fun r => ∀ c : Dev Cert.GmInDxIdeal.nD,
          r.2.mem ((c.tc : Thread Cert.GmInDxIdeal.nD Cert.GmInDxIdeal.τ).loc Cert.GmInDxIdeal.main_v0) = v0 c
          ∧ r.2.mem ((c.tc : Thread Cert.GmInDxIdeal.nD Cert.GmInDxIdeal.τ).loc Cert.GmInDxIdeal.main_arg0) = m ((c.tc : Thread Cert.GmInDxIdeal.nD Cert.GmInDxIdeal.τ).loc Cert.GmInDxIdeal.main_arg0)
          ∧ r.2.mem ((c.tc : Thread Cert.GmInDxIdeal.nD Cert.GmInDxIdeal.τ).loc Cert.GmInDxIdeal.main_arg1) = m ((c.tc : Thread Cert.GmInDxIdeal.nD Cert.GmInDxIdeal.τ).loc Cert.GmInDxIdeal.main_arg1))
      ∧ θ_run (Cert.GmInDxRefIdeal.defs (F := Ideal)) (onTc (τ := Cert.GmInDxRefIdeal.τ) (Cert.GmInDxRefIdeal.main (F := Ideal))) ⟨m', fun _ => 0, g'⟩ (fun r => ∀ c : Dev Cert.GmInDxRefIdeal.nD,
          r.2.mem ((c.tc : Thread Cert.GmInDxRefIdeal.nD Cert.GmInDxRefIdeal.τ).loc Cert.GmInDxRefIdeal.main_v5) = v0 c
          ∧ r.2.mem ((c.tc : Thread Cert.GmInDxRefIdeal.nD Cert.GmInDxRefIdeal.τ).loc Cert.GmInDxRefIdeal.main_arg0) = m' ((c.tc : Thread Cert.GmInDxRefIdeal.nD Cert.GmInDxRefIdeal.τ).loc Cert.GmInDxRefIdeal.main_arg0)
          ∧ r.2.mem ((c.tc : Thread Cert.GmInDxRefIdeal.nD Cert.GmInDxRefIdeal.τ).loc Cert.GmInDxRefIdeal.main_arg1) = m' ((c.tc : Thread Cert.GmInDxRefIdeal.nD Cert.GmInDxRefIdeal.τ).loc Cert.GmInDxRefIdeal.main_arg1))

def preserves_GmInDw_GmInDwIdeal : Prop :=
  True

def algebraic_GmInDwIdeal_GmInDwRefIdeal [hGmInDwIdeal : Cert.GmInDwIdeal.Facts] [hGmInDwRefIdeal : Cert.GmInDwRefIdeal.Facts] : Prop :=
  ∀ (m : (ℓ : Loc Cert.GmInDwIdeal.nD Cert.GmInDwIdeal.τ Cert.GmInDwIdeal.sig) → Buf (Elt Ideal) ℓ) (g : Dev Cert.GmInDwIdeal.nD → PrngReg)
    (m' : (ℓ : Loc Cert.GmInDwRefIdeal.nD Cert.GmInDwRefIdeal.τ Cert.GmInDwRefIdeal.sig) → Buf (Elt Ideal) ℓ) (g' : Dev Cert.GmInDwRefIdeal.nD → PrngReg), Pre_GmInDwIdeal m →
    (∀ c : Dev Cert.GmInDwIdeal.nD,
      m' ((c.tc : Thread Cert.GmInDwRefIdeal.nD Cert.GmInDwRefIdeal.τ).loc Cert.GmInDwRefIdeal.main_arg0) = m ((c.tc : Thread Cert.GmInDwIdeal.nD Cert.GmInDwIdeal.τ).loc Cert.GmInDwIdeal.main_arg0)
      ∧ m' ((c.tc : Thread Cert.GmInDwRefIdeal.nD Cert.GmInDwRefIdeal.τ).loc Cert.GmInDwRefIdeal.main_arg1) = m ((c.tc : Thread Cert.GmInDwIdeal.nD Cert.GmInDwIdeal.τ).loc Cert.GmInDwIdeal.main_arg1)) →
    ∃ (v0 : (c : Dev Cert.GmInDwIdeal.nD) → Buf (Elt Ideal) ((c.tc : Thread Cert.GmInDwIdeal.nD Cert.GmInDwIdeal.τ).loc Cert.GmInDwIdeal.main_v0)),
      θ_run (Cert.GmInDwIdeal.defs (F := Ideal)) (onTc (τ := Cert.GmInDwIdeal.τ) (Cert.GmInDwIdeal.main (F := Ideal))) ⟨m, fun _ => 0, g⟩ (fun r => ∀ c : Dev Cert.GmInDwIdeal.nD,
          r.2.mem ((c.tc : Thread Cert.GmInDwIdeal.nD Cert.GmInDwIdeal.τ).loc Cert.GmInDwIdeal.main_v0) = v0 c
          ∧ r.2.mem ((c.tc : Thread Cert.GmInDwIdeal.nD Cert.GmInDwIdeal.τ).loc Cert.GmInDwIdeal.main_arg0) = m ((c.tc : Thread Cert.GmInDwIdeal.nD Cert.GmInDwIdeal.τ).loc Cert.GmInDwIdeal.main_arg0)
          ∧ r.2.mem ((c.tc : Thread Cert.GmInDwIdeal.nD Cert.GmInDwIdeal.τ).loc Cert.GmInDwIdeal.main_arg1) = m ((c.tc : Thread Cert.GmInDwIdeal.nD Cert.GmInDwIdeal.τ).loc Cert.GmInDwIdeal.main_arg1))
      ∧ θ_run (Cert.GmInDwRefIdeal.defs (F := Ideal)) (onTc (τ := Cert.GmInDwRefIdeal.τ) (Cert.GmInDwRefIdeal.main (F := Ideal))) ⟨m', fun _ => 0, g'⟩ (fun r => ∀ c : Dev Cert.GmInDwRefIdeal.nD,
          r.2.mem ((c.tc : Thread Cert.GmInDwRefIdeal.nD Cert.GmInDwRefIdeal.τ).loc Cert.GmInDwRefIdeal.main_v8) = v0 c
          ∧ r.2.mem ((c.tc : Thread Cert.GmInDwRefIdeal.nD Cert.GmInDwRefIdeal.τ).loc Cert.GmInDwRefIdeal.main_arg0) = m' ((c.tc : Thread Cert.GmInDwRefIdeal.nD Cert.GmInDwRefIdeal.τ).loc Cert.GmInDwRefIdeal.main_arg0)
          ∧ r.2.mem ((c.tc : Thread Cert.GmInDwRefIdeal.nD Cert.GmInDwRefIdeal.τ).loc Cert.GmInDwRefIdeal.main_arg1) = m' ((c.tc : Thread Cert.GmInDwRefIdeal.nD Cert.GmInDwRefIdeal.τ).loc Cert.GmInDwRefIdeal.main_arg1))

def preserves_FfnIn_FfnInIdeal : Prop :=
  True

def algebraic_FfnInIdeal_FfnInRefIdeal [hFfnInIdeal : Cert.FfnInIdeal.Facts] [hFfnInRefIdeal : Cert.FfnInRefIdeal.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)) →
    ∃ (v0 : (c : Dev Cert.FfnInIdeal.nD) → Buf (Elt Ideal) ((c.tc : Thread Cert.FfnInIdeal.nD Cert.FfnInIdeal.τ).loc Cert.FfnInIdeal.main_v0)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v0) = v0 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v4) = v0 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1))

def preserves_FfnOut_FfnOutIdeal : Prop :=
  True

def algebraic_FfnOutIdeal_FfnOutRefIdeal [hFfnOutIdeal : Cert.FfnOutIdeal.Facts] [hFfnOutRefIdeal : Cert.FfnOutRefIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg)
    (m' : (ℓ : Loc Cert.FfnOutRefIdeal.nD Cert.FfnOutRefIdeal.τ Cert.FfnOutRefIdeal.sig) → Buf (Elt Ideal) ℓ) (g' : Dev Cert.FfnOutRefIdeal.nD → PrngReg), Pre_FfnOutIdeal m →
    (∀ c : Dev Cert.FfnOutIdeal.nD,
      m' ((c.tc : Thread Cert.FfnOutRefIdeal.nD Cert.FfnOutRefIdeal.τ).loc Cert.FfnOutRefIdeal.main_arg0) = m ((c.tc : Thread Cert.FfnOutIdeal.nD Cert.FfnOutIdeal.τ).loc Cert.FfnOutIdeal.main_arg0)
      ∧ m' ((c.tc : Thread Cert.FfnOutRefIdeal.nD Cert.FfnOutRefIdeal.τ).loc Cert.FfnOutRefIdeal.main_arg1) = m ((c.tc : Thread Cert.FfnOutIdeal.nD Cert.FfnOutIdeal.τ).loc Cert.FfnOutIdeal.main_arg1)
      ∧ m' ((c.tc : Thread Cert.FfnOutRefIdeal.nD Cert.FfnOutRefIdeal.τ).loc Cert.FfnOutRefIdeal.main_arg2) = m ((c.tc : Thread Cert.FfnOutIdeal.nD Cert.FfnOutIdeal.τ).loc Cert.FfnOutIdeal.main_arg2)
      ∧ m' ((c.tc : Thread Cert.FfnOutRefIdeal.nD Cert.FfnOutRefIdeal.τ).loc Cert.FfnOutRefIdeal.main_arg3) = m ((c.tc : Thread Cert.FfnOutIdeal.nD Cert.FfnOutIdeal.τ).loc Cert.FfnOutIdeal.main_arg3)) →
    ∃ (v0 : (c : Dev Cert.FfnOutIdeal.nD) → Buf (Elt Ideal) ((c.tc : Thread Cert.FfnOutIdeal.nD Cert.FfnOutIdeal.τ).loc Cert.FfnOutIdeal.main_v0_0)) (v1 : (c : Dev Cert.FfnOutIdeal.nD) → Buf (Elt Ideal) ((c.tc : Thread Cert.FfnOutIdeal.nD Cert.FfnOutIdeal.τ).loc Cert.FfnOutIdeal.main_v0_1)),
      θ_run (Cert.FfnOutIdeal.defs (F := Ideal)) (onTc (τ := Cert.FfnOutIdeal.τ) (Cert.FfnOutIdeal.main (F := Ideal))) ⟨m, fun _ => 0, g⟩ (fun r => ∀ c : Dev Cert.FfnOutIdeal.nD,
          r.2.mem ((c.tc : Thread Cert.FfnOutIdeal.nD Cert.FfnOutIdeal.τ).loc Cert.FfnOutIdeal.main_v0_0) = v0 c
          ∧ r.2.mem ((c.tc : Thread Cert.FfnOutIdeal.nD Cert.FfnOutIdeal.τ).loc Cert.FfnOutIdeal.main_v0_1) = v1 c
          ∧ r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
          ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
          ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2)
          ∧ r.2.mem ((c.tc : Thread Cert.FfnOutIdeal.nD Cert.FfnOutIdeal.τ).loc Cert.FfnOutIdeal.main_arg3) = m ((c.tc : Thread Cert.FfnOutIdeal.nD Cert.FfnOutIdeal.τ).loc Cert.FfnOutIdeal.main_arg3))
      ∧ θ_run (Cert.FfnOutRefIdeal.defs (F := Ideal)) (onTc (τ := Cert.FfnOutRefIdeal.τ) (Cert.FfnOutRefIdeal.main (F := Ideal))) ⟨m', fun _ => 0, g'⟩ (fun r => ∀ c : Dev Cert.FfnOutRefIdeal.nD,
          r.2.mem ((c.tc : Thread Cert.FfnOutRefIdeal.nD Cert.FfnOutRefIdeal.τ).loc Cert.FfnOutRefIdeal.main_v3) = v0 c
          ∧ r.2.mem ((c.tc : Thread Cert.FfnOutRefIdeal.nD Cert.FfnOutRefIdeal.τ).loc Cert.FfnOutRefIdeal.main_v6) = v1 c
          ∧ r.2.mem ((c.tc : Thread Cert.FfnOutRefIdeal.nD Cert.FfnOutRefIdeal.τ).loc Cert.FfnOutRefIdeal.main_arg0) = m' ((c.tc : Thread Cert.FfnOutRefIdeal.nD Cert.FfnOutRefIdeal.τ).loc Cert.FfnOutRefIdeal.main_arg0)
          ∧ r.2.mem ((c.tc : Thread Cert.FfnOutRefIdeal.nD Cert.FfnOutRefIdeal.τ).loc Cert.FfnOutRefIdeal.main_arg1) = m' ((c.tc : Thread Cert.FfnOutRefIdeal.nD Cert.FfnOutRefIdeal.τ).loc Cert.FfnOutRefIdeal.main_arg1)
          ∧ r.2.mem ((c.tc : Thread Cert.FfnOutRefIdeal.nD Cert.FfnOutRefIdeal.τ).loc Cert.FfnOutRefIdeal.main_arg2) = m' ((c.tc : Thread Cert.FfnOutRefIdeal.nD Cert.FfnOutRefIdeal.τ).loc Cert.FfnOutRefIdeal.main_arg2)
          ∧ r.2.mem ((c.tc : Thread Cert.FfnOutRefIdeal.nD Cert.FfnOutRefIdeal.τ).loc Cert.FfnOutRefIdeal.main_arg3) = m' ((c.tc : Thread Cert.FfnOutRefIdeal.nD Cert.FfnOutRefIdeal.τ).loc Cert.FfnOutRefIdeal.main_arg3))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)) →
    ∃ (v0 : (c : Dev Cert.QkvIdeal.nD) → Buf (Elt Ideal) ((c.tc : Thread Cert.QkvIdeal.nD Cert.QkvIdeal.τ).loc Cert.QkvIdeal.main_v0)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v0) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v4) = v0 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1))

def preserves_Forget_ForgetIdeal : Prop :=
  True

def algebraic_ForgetIdeal_ForgetRefIdeal [hForgetIdeal : Cert.ForgetIdeal.Facts] [hForgetRefIdeal : Cert.ForgetRefIdeal.Facts] : Prop :=
  ∀ (m : (ℓ : Loc Cert.ForgetIdeal.nD Cert.ForgetIdeal.τ Cert.ForgetIdeal.sig) → Buf (Elt Ideal) ℓ) (g : Dev Cert.ForgetIdeal.nD → PrngReg)
    (m' : (ℓ : Loc Cert.ForgetRefIdeal.nD Cert.ForgetRefIdeal.τ Cert.ForgetRefIdeal.sig) → Buf (Elt Ideal) ℓ) (g' : Dev Cert.ForgetRefIdeal.nD → PrngReg), Pre_ForgetIdeal m →
    (∀ c : Dev Cert.ForgetIdeal.nD,
      m' ((c.tc : Thread Cert.ForgetRefIdeal.nD Cert.ForgetRefIdeal.τ).loc Cert.ForgetRefIdeal.main_arg0) = m ((c.tc : Thread Cert.ForgetIdeal.nD Cert.ForgetIdeal.τ).loc Cert.ForgetIdeal.main_arg0)
      ∧ m' ((c.tc : Thread Cert.ForgetRefIdeal.nD Cert.ForgetRefIdeal.τ).loc Cert.ForgetRefIdeal.main_arg1) = m ((c.tc : Thread Cert.ForgetIdeal.nD Cert.ForgetIdeal.τ).loc Cert.ForgetIdeal.main_arg1)) →
    ∃ (v0 : (c : Dev Cert.ForgetIdeal.nD) → Buf (Elt Ideal) ((c.tc : Thread Cert.ForgetIdeal.nD Cert.ForgetIdeal.τ).loc Cert.ForgetIdeal.main_v0)),
      θ_run (Cert.ForgetIdeal.defs (F := Ideal)) (onTc (τ := Cert.ForgetIdeal.τ) (Cert.ForgetIdeal.main (F := Ideal))) ⟨m, fun _ => 0, g⟩ (fun r => ∀ c : Dev Cert.ForgetIdeal.nD,
          r.2.mem ((c.tc : Thread Cert.ForgetIdeal.nD Cert.ForgetIdeal.τ).loc Cert.ForgetIdeal.main_v0) = v0 c
          ∧ r.2.mem ((c.tc : Thread Cert.ForgetIdeal.nD Cert.ForgetIdeal.τ).loc Cert.ForgetIdeal.main_arg0) = m ((c.tc : Thread Cert.ForgetIdeal.nD Cert.ForgetIdeal.τ).loc Cert.ForgetIdeal.main_arg0)
          ∧ r.2.mem ((c.tc : Thread Cert.ForgetIdeal.nD Cert.ForgetIdeal.τ).loc Cert.ForgetIdeal.main_arg1) = m ((c.tc : Thread Cert.ForgetIdeal.nD Cert.ForgetIdeal.τ).loc Cert.ForgetIdeal.main_arg1))
      ∧ θ_run (Cert.ForgetRefIdeal.defs (F := Ideal)) (onTc (τ := Cert.ForgetRefIdeal.τ) (Cert.ForgetRefIdeal.main (F := Ideal))) ⟨m', fun _ => 0, g'⟩ (fun r => ∀ c : Dev Cert.ForgetRefIdeal.nD,
          r.2.mem ((c.tc : Thread Cert.ForgetRefIdeal.nD Cert.ForgetRefIdeal.τ).loc Cert.ForgetRefIdeal.main_v3) = v0 c
          ∧ r.2.mem ((c.tc : Thread Cert.ForgetRefIdeal.nD Cert.ForgetRefIdeal.τ).loc Cert.ForgetRefIdeal.main_arg0) = m' ((c.tc : Thread Cert.ForgetRefIdeal.nD Cert.ForgetRefIdeal.τ).loc Cert.ForgetRefIdeal.main_arg0)
          ∧ r.2.mem ((c.tc : Thread Cert.ForgetRefIdeal.nD Cert.ForgetRefIdeal.τ).loc Cert.ForgetRefIdeal.main_arg1) = m' ((c.tc : Thread Cert.ForgetRefIdeal.nD Cert.ForgetRefIdeal.τ).loc Cert.ForgetRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v0_0)) (v1 : (c : Dev Cert.OutIdeal.nD) → Buf (Elt Ideal) ((c.tc : Thread Cert.OutIdeal.nD Cert.OutIdeal.τ).loc Cert.OutIdeal.main_v0_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0_0) = v0 c
          ∧ r.2.mem ((c.tc : Thread Cert.OutIdeal.nD Cert.OutIdeal.τ).loc Cert.OutIdeal.main_v0_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v3) = v0 c
          ∧ r.2.mem ((c.tc : Thread Cert.OutRefIdeal.nD Cert.OutRefIdeal.τ).loc Cert.OutRefIdeal.main_v6) = v1 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_GmIn_GmInIdeal : Prop :=
  True

def algebraic_GmInIdeal_GmInRefIdeal [hGmInIdeal : Cert.GmInIdeal.Facts] [hGmInRefIdeal : Cert.GmInRefIdeal.Facts] : Prop :=
  ∀ (m : (ℓ : Loc Cert.GmInIdeal.nD Cert.GmInIdeal.τ Cert.GmInIdeal.sig) → Buf (Elt Ideal) ℓ) (g : Dev Cert.GmInIdeal.nD → PrngReg)
    (m' : (ℓ : Loc Cert.GmInRefIdeal.nD Cert.GmInRefIdeal.τ Cert.GmInRefIdeal.sig) → Buf (Elt Ideal) ℓ) (g' : Dev Cert.GmInRefIdeal.nD → PrngReg), Pre_GmInIdeal m →
    (∀ c : Dev Cert.GmInIdeal.nD,
      m' ((c.tc : Thread Cert.GmInRefIdeal.nD Cert.GmInRefIdeal.τ).loc Cert.GmInRefIdeal.main_arg0) = m ((c.tc : Thread Cert.GmInIdeal.nD Cert.GmInIdeal.τ).loc Cert.GmInIdeal.main_arg0)
      ∧ m' ((c.tc : Thread Cert.GmInRefIdeal.nD Cert.GmInRefIdeal.τ).loc Cert.GmInRefIdeal.main_arg1) = m ((c.tc : Thread Cert.GmInIdeal.nD Cert.GmInIdeal.τ).loc Cert.GmInIdeal.main_arg1)) →
    ∃ (v0 : (c : Dev Cert.GmInIdeal.nD) → Buf (Elt Ideal) ((c.tc : Thread Cert.GmInIdeal.nD Cert.GmInIdeal.τ).loc Cert.GmInIdeal.main_v0)),
      θ_run (Cert.GmInIdeal.defs (F := Ideal)) (onTc (τ := Cert.GmInIdeal.τ) (Cert.GmInIdeal.main (F := Ideal))) ⟨m, fun _ => 0, g⟩ (fun r => ∀ c : Dev Cert.GmInIdeal.nD,
          r.2.mem ((c.tc : Thread Cert.GmInIdeal.nD Cert.GmInIdeal.τ).loc Cert.GmInIdeal.main_v0) = v0 c
          ∧ r.2.mem ((c.tc : Thread Cert.GmInIdeal.nD Cert.GmInIdeal.τ).loc Cert.GmInIdeal.main_arg0) = m ((c.tc : Thread Cert.GmInIdeal.nD Cert.GmInIdeal.τ).loc Cert.GmInIdeal.main_arg0)
          ∧ r.2.mem ((c.tc : Thread Cert.GmInIdeal.nD Cert.GmInIdeal.τ).loc Cert.GmInIdeal.main_arg1) = m ((c.tc : Thread Cert.GmInIdeal.nD Cert.GmInIdeal.τ).loc Cert.GmInIdeal.main_arg1))
      ∧ θ_run (Cert.GmInRefIdeal.defs (F := Ideal)) (onTc (τ := Cert.GmInRefIdeal.τ) (Cert.GmInRefIdeal.main (F := Ideal))) ⟨m', fun _ => 0, g'⟩ (fun r => ∀ c : Dev Cert.GmInRefIdeal.nD,
          r.2.mem ((c.tc : Thread Cert.GmInRefIdeal.nD Cert.GmInRefIdeal.τ).loc Cert.GmInRefIdeal.main_v4) = v0 c
          ∧ r.2.mem ((c.tc : Thread Cert.GmInRefIdeal.nD Cert.GmInRefIdeal.τ).loc Cert.GmInRefIdeal.main_arg0) = m' ((c.tc : Thread Cert.GmInRefIdeal.nD Cert.GmInRefIdeal.τ).loc Cert.GmInRefIdeal.main_arg0)
          ∧ r.2.mem ((c.tc : Thread Cert.GmInRefIdeal.nD Cert.GmInRefIdeal.τ).loc Cert.GmInRefIdeal.main_arg1) = m' ((c.tc : Thread Cert.GmInRefIdeal.nD Cert.GmInRefIdeal.τ).loc Cert.GmInRefIdeal.main_arg1))

def preserves_NormMod_NormModIdeal : Prop :=
  True

def algebraic_NormModIdeal_NormModRefIdeal [hNormModIdeal : Cert.NormModIdeal.Facts] [hNormModRefIdeal : Cert.NormModRefIdeal.Facts] : Prop :=
  ∀ (m : (ℓ : Loc Cert.NormModIdeal.nD Cert.NormModIdeal.τ Cert.NormModIdeal.sig) → Buf (Elt Ideal) ℓ) (g : Dev Cert.NormModIdeal.nD → PrngReg)
    (m' : (ℓ : Loc Cert.NormModRefIdeal.nD Cert.NormModRefIdeal.τ Cert.NormModRefIdeal.sig) → Buf (Elt Ideal) ℓ) (g' : Dev Cert.NormModRefIdeal.nD → PrngReg), Pre_NormModIdeal m →
    (∀ c : Dev Cert.NormModIdeal.nD,
      m' ((c.tc : Thread Cert.NormModRefIdeal.nD Cert.NormModRefIdeal.τ).loc Cert.NormModRefIdeal.main_arg0) = m ((c.tc : Thread Cert.NormModIdeal.nD Cert.NormModIdeal.τ).loc Cert.NormModIdeal.main_arg0)
      ∧ m' ((c.tc : Thread Cert.NormModRefIdeal.nD Cert.NormModRefIdeal.τ).loc Cert.NormModRefIdeal.main_arg1) = m ((c.tc : Thread Cert.NormModIdeal.nD Cert.NormModIdeal.τ).loc Cert.NormModIdeal.main_arg1)
      ∧ m' ((c.tc : Thread Cert.NormModRefIdeal.nD Cert.NormModRefIdeal.τ).loc Cert.NormModRefIdeal.main_arg2) = m ((c.tc : Thread Cert.NormModIdeal.nD Cert.NormModIdeal.τ).loc Cert.NormModIdeal.main_arg2)
      ∧ m' ((c.tc : Thread Cert.NormModRefIdeal.nD Cert.NormModRefIdeal.τ).loc Cert.NormModRefIdeal.main_arg3) = m ((c.tc : Thread Cert.NormModIdeal.nD Cert.NormModIdeal.τ).loc Cert.NormModIdeal.main_arg3)) →
    ∃ (v0 : (c : Dev Cert.NormModIdeal.nD) → Buf (Elt Ideal) ((c.tc : Thread Cert.NormModIdeal.nD Cert.NormModIdeal.τ).loc Cert.NormModIdeal.main_v0)),
      θ_run (Cert.NormModIdeal.defs (F := Ideal)) (onTc (τ := Cert.NormModIdeal.τ) (Cert.NormModIdeal.main (F := Ideal))) ⟨m, fun _ => 0, g⟩ (fun r => ∀ c : Dev Cert.NormModIdeal.nD,
          r.2.mem ((c.tc : Thread Cert.NormModIdeal.nD Cert.NormModIdeal.τ).loc Cert.NormModIdeal.main_v0) = v0 c
          ∧ r.2.mem ((c.tc : Thread Cert.NormModIdeal.nD Cert.NormModIdeal.τ).loc Cert.NormModIdeal.main_arg0) = m ((c.tc : Thread Cert.NormModIdeal.nD Cert.NormModIdeal.τ).loc Cert.NormModIdeal.main_arg0)
          ∧ r.2.mem ((c.tc : Thread Cert.NormModIdeal.nD Cert.NormModIdeal.τ).loc Cert.NormModIdeal.main_arg1) = m ((c.tc : Thread Cert.NormModIdeal.nD Cert.NormModIdeal.τ).loc Cert.NormModIdeal.main_arg1)
          ∧ r.2.mem ((c.tc : Thread Cert.NormModIdeal.nD Cert.NormModIdeal.τ).loc Cert.NormModIdeal.main_arg2) = m ((c.tc : Thread Cert.NormModIdeal.nD Cert.NormModIdeal.τ).loc Cert.NormModIdeal.main_arg2)
          ∧ r.2.mem ((c.tc : Thread Cert.NormModIdeal.nD Cert.NormModIdeal.τ).loc Cert.NormModIdeal.main_arg3) = m ((c.tc : Thread Cert.NormModIdeal.nD Cert.NormModIdeal.τ).loc Cert.NormModIdeal.main_arg3))
      ∧ θ_run (Cert.NormModRefIdeal.defs (F := Ideal)) (onTc (τ := Cert.NormModRefIdeal.τ) (Cert.NormModRefIdeal.main (F := Ideal))) ⟨m', fun _ => 0, g'⟩ (fun r => ∀ c : Dev Cert.NormModRefIdeal.nD,
          r.2.mem ((c.tc : Thread Cert.NormModRefIdeal.nD Cert.NormModRefIdeal.τ).loc Cert.NormModRefIdeal.main_v18) = v0 c
          ∧ r.2.mem ((c.tc : Thread Cert.NormModRefIdeal.nD Cert.NormModRefIdeal.τ).loc Cert.NormModRefIdeal.main_arg0) = m' ((c.tc : Thread Cert.NormModRefIdeal.nD Cert.NormModRefIdeal.τ).loc Cert.NormModRefIdeal.main_arg0)
          ∧ r.2.mem ((c.tc : Thread Cert.NormModRefIdeal.nD Cert.NormModRefIdeal.τ).loc Cert.NormModRefIdeal.main_arg1) = m' ((c.tc : Thread Cert.NormModRefIdeal.nD Cert.NormModRefIdeal.τ).loc Cert.NormModRefIdeal.main_arg1)
          ∧ r.2.mem ((c.tc : Thread Cert.NormModRefIdeal.nD Cert.NormModRefIdeal.τ).loc Cert.NormModRefIdeal.main_arg2) = m' ((c.tc : Thread Cert.NormModRefIdeal.nD Cert.NormModRefIdeal.τ).loc Cert.NormModRefIdeal.main_arg2)
          ∧ r.2.mem ((c.tc : Thread Cert.NormModRefIdeal.nD Cert.NormModRefIdeal.τ).loc Cert.NormModRefIdeal.main_arg3) = m' ((c.tc : Thread Cert.NormModRefIdeal.nD Cert.NormModRefIdeal.τ).loc Cert.NormModRefIdeal.main_arg3))

def preserves_NormBwd_NormBwdIdeal : Prop :=
  True

def algebraic_NormBwdIdeal_NormBwdRefIdeal [hNormBwdIdeal : Cert.NormBwdIdeal.Facts] [hNormBwdRefIdeal : Cert.NormBwdRefIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdRefIdeal.nD Cert.NormBwdRefIdeal.τ Cert.NormBwdRefIdeal.sig) → Buf (Elt Ideal) ℓ) (g' : Dev Cert.NormBwdRefIdeal.nD → PrngReg), Pre_NormBwdIdeal m →
    (∀ c : Dev Cert.NormBwdIdeal.nD,
      m' ((c.tc : Thread Cert.NormBwdRefIdeal.nD Cert.NormBwdRefIdeal.τ).loc Cert.NormBwdRefIdeal.main_arg0) = m ((c.tc : Thread Cert.NormBwdIdeal.nD Cert.NormBwdIdeal.τ).loc Cert.NormBwdIdeal.main_arg0)
      ∧ m' ((c.tc : Thread Cert.NormBwdRefIdeal.nD Cert.NormBwdRefIdeal.τ).loc Cert.NormBwdRefIdeal.main_arg1) = m ((c.tc : Thread Cert.NormBwdIdeal.nD Cert.NormBwdIdeal.τ).loc Cert.NormBwdIdeal.main_arg1)
      ∧ m' ((c.tc : Thread Cert.NormBwdRefIdeal.nD Cert.NormBwdRefIdeal.τ).loc Cert.NormBwdRefIdeal.main_arg2) = m ((c.tc : Thread Cert.NormBwdIdeal.nD Cert.NormBwdIdeal.τ).loc Cert.NormBwdIdeal.main_arg2)
      ∧ m' ((c.tc : Thread Cert.NormBwdRefIdeal.nD Cert.NormBwdRefIdeal.τ).loc Cert.NormBwdRefIdeal.main_arg3) = m ((c.tc : Thread Cert.NormBwdIdeal.nD Cert.NormBwdIdeal.τ).loc Cert.NormBwdIdeal.main_arg3)
      ∧ m' ((c.tc : Thread Cert.NormBwdRefIdeal.nD Cert.NormBwdRefIdeal.τ).loc Cert.NormBwdRefIdeal.main_arg4) = m ((c.tc : Thread Cert.NormBwdIdeal.nD Cert.NormBwdIdeal.τ).loc Cert.NormBwdIdeal.main_arg4)
      ∧ m' ((c.tc : Thread Cert.NormBwdRefIdeal.nD Cert.NormBwdRefIdeal.τ).loc Cert.NormBwdRefIdeal.main_arg5) = m ((c.tc : Thread Cert.NormBwdIdeal.nD Cert.NormBwdIdeal.τ).loc Cert.NormBwdIdeal.main_arg5)
      ∧ m' ((c.tc : Thread Cert.NormBwdRefIdeal.nD Cert.NormBwdRefIdeal.τ).loc Cert.NormBwdRefIdeal.main_arg6) = m ((c.tc : Thread Cert.NormBwdIdeal.nD Cert.NormBwdIdeal.τ).loc Cert.NormBwdIdeal.main_arg6)
      ∧ m' ((c.tc : Thread Cert.NormBwdRefIdeal.nD Cert.NormBwdRefIdeal.τ).loc Cert.NormBwdRefIdeal.main_arg7) = m ((c.tc : Thread Cert.NormBwdIdeal.nD Cert.NormBwdIdeal.τ).loc Cert.NormBwdIdeal.main_arg7)) →
    ∃ (v0 : (c : Dev Cert.NormBwdIdeal.nD) → Buf (Elt Ideal) ((c.tc : Thread Cert.NormBwdIdeal.nD Cert.NormBwdIdeal.τ).loc Cert.NormBwdIdeal.main_v0_0)) (v1 : (c : Dev Cert.NormBwdIdeal.nD) → Buf (Elt Ideal) ((c.tc : Thread Cert.NormBwdIdeal.nD Cert.NormBwdIdeal.τ).loc Cert.NormBwdIdeal.main_v0_1)) (v2 : (c : Dev Cert.NormBwdIdeal.nD) → Buf (Elt Ideal) ((c.tc : Thread Cert.NormBwdIdeal.nD Cert.NormBwdIdeal.τ).loc Cert.NormBwdIdeal.main_v0_2)) (v3 : (c : Dev Cert.NormBwdIdeal.nD) → Buf (Elt Ideal) ((c.tc : Thread Cert.NormBwdIdeal.nD Cert.NormBwdIdeal.τ).loc Cert.NormBwdIdeal.main_v0_3)) (v4 : (c : Dev Cert.NormBwdIdeal.nD) → Buf (Elt Ideal) ((c.tc : Thread Cert.NormBwdIdeal.nD Cert.NormBwdIdeal.τ).loc Cert.NormBwdIdeal.main_v0_4)) (v5 : (c : Dev Cert.NormBwdIdeal.nD) → Buf (Elt Ideal) ((c.tc : Thread Cert.NormBwdIdeal.nD Cert.NormBwdIdeal.τ).loc Cert.NormBwdIdeal.main_v0_5)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v0_0) = v0 c
          ∧ r.2.mem ((c.tc : Thread Cert.NormBwdIdeal.nD Cert.NormBwdIdeal.τ).loc Cert.NormBwdIdeal.main_v0_1) = v1 c
          ∧ r.2.mem ((c.tc : Thread Cert.NormBwdIdeal.nD Cert.NormBwdIdeal.τ).loc Cert.NormBwdIdeal.main_v0_2) = v2 c
          ∧ r.2.mem ((c.tc : Thread Cert.NormBwdIdeal.nD Cert.NormBwdIdeal.τ).loc Cert.NormBwdIdeal.main_v0_3) = v3 c
          ∧ r.2.mem ((c.tc : Thread Cert.NormBwdIdeal.nD Cert.NormBwdIdeal.τ).loc Cert.NormBwdIdeal.main_v0_4) = v4 c
          ∧ r.2.mem ((c.tc : Thread Cert.NormBwdIdeal.nD Cert.NormBwdIdeal.τ).loc Cert.NormBwdIdeal.main_v0_5) = v5 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
          ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4)
          ∧ r.2.mem ((c.tc : Thread Cert.NormBwdIdeal.nD Cert.NormBwdIdeal.τ).loc Cert.NormBwdIdeal.main_arg5) = m ((c.tc : Thread Cert.NormBwdIdeal.nD Cert.NormBwdIdeal.τ).loc Cert.NormBwdIdeal.main_arg5)
          ∧ r.2.mem ((c.tc : Thread Cert.NormBwdIdeal.nD Cert.NormBwdIdeal.τ).loc Cert.NormBwdIdeal.main_arg6) = m ((c.tc : Thread Cert.NormBwdIdeal.nD Cert.NormBwdIdeal.τ).loc Cert.NormBwdIdeal.main_arg6)
          ∧ r.2.mem ((c.tc : Thread Cert.NormBwdIdeal.nD Cert.NormBwdIdeal.τ).loc Cert.NormBwdIdeal.main_arg7) = m ((c.tc : Thread Cert.NormBwdIdeal.nD Cert.NormBwdIdeal.τ).loc Cert.NormBwdIdeal.main_arg7))
      ∧ θ_run (Cert.NormBwdRefIdeal.defs (F := Ideal)) (onTc (τ := Cert.NormBwdRefIdeal.τ) (Cert.NormBwdRefIdeal.main (F := Ideal))) ⟨m', fun _ => 0, g'⟩ (fun r => ∀ c : Dev Cert.NormBwdRefIdeal.nD,
          r.2.mem ((c.tc : Thread Cert.NormBwdRefIdeal.nD Cert.NormBwdRefIdeal.τ).loc Cert.NormBwdRefIdeal.main_v48) = v0 c
          ∧ r.2.mem ((c.tc : Thread Cert.NormBwdRefIdeal.nD Cert.NormBwdRefIdeal.τ).loc Cert.NormBwdRefIdeal.main_v26) = v1 c
          ∧ r.2.mem ((c.tc : Thread Cert.NormBwdRefIdeal.nD Cert.NormBwdRefIdeal.τ).loc Cert.NormBwdRefIdeal.main_v23) = v2 c
          ∧ r.2.mem ((c.tc : Thread Cert.NormBwdRefIdeal.nD Cert.NormBwdRefIdeal.τ).loc Cert.NormBwdRefIdeal.main_v31) = v3 c
          ∧ r.2.mem ((c.tc : Thread Cert.NormBwdRefIdeal.nD Cert.NormBwdRefIdeal.τ).loc Cert.NormBwdRefIdeal.main_v57) = v4 c
          ∧ r.2.mem ((c.tc : Thread Cert.NormBwdRefIdeal.nD Cert.NormBwdRefIdeal.τ).loc Cert.NormBwdRefIdeal.main_v56) = v5 c
          ∧ r.2.mem ((c.tc : Thread Cert.NormBwdRefIdeal.nD Cert.NormBwdRefIdeal.τ).loc Cert.NormBwdRefIdeal.main_arg0) = m' ((c.tc : Thread Cert.NormBwdRefIdeal.nD Cert.NormBwdRefIdeal.τ).loc Cert.NormBwdRefIdeal.main_arg0)
          ∧ r.2.mem ((c.tc : Thread Cert.NormBwdRefIdeal.nD Cert.NormBwdRefIdeal.τ).loc Cert.NormBwdRefIdeal.main_arg1) = m' ((c.tc : Thread Cert.NormBwdRefIdeal.nD Cert.NormBwdRefIdeal.τ).loc Cert.NormBwdRefIdeal.main_arg1)
          ∧ r.2.mem ((c.tc : Thread Cert.NormBwdRefIdeal.nD Cert.NormBwdRefIdeal.τ).loc Cert.NormBwdRefIdeal.main_arg2) = m' ((c.tc : Thread Cert.NormBwdRefIdeal.nD Cert.NormBwdRefIdeal.τ).loc Cert.NormBwdRefIdeal.main_arg2)
          ∧ r.2.mem ((c.tc : Thread Cert.NormBwdRefIdeal.nD Cert.NormBwdRefIdeal.τ).loc Cert.NormBwdRefIdeal.main_arg3) = m' ((c.tc : Thread Cert.NormBwdRefIdeal.nD Cert.NormBwdRefIdeal.τ).loc Cert.NormBwdRefIdeal.main_arg3)
          ∧ r.2.mem ((c.tc : Thread Cert.NormBwdRefIdeal.nD Cert.NormBwdRefIdeal.τ).loc Cert.NormBwdRefIdeal.main_arg4) = m' ((c.tc : Thread Cert.NormBwdRefIdeal.nD Cert.NormBwdRefIdeal.τ).loc Cert.NormBwdRefIdeal.main_arg4)
          ∧ r.2.mem ((c.tc : Thread Cert.NormBwdRefIdeal.nD Cert.NormBwdRefIdeal.τ).loc Cert.NormBwdRefIdeal.main_arg5) = m' ((c.tc : Thread Cert.NormBwdRefIdeal.nD Cert.NormBwdRefIdeal.τ).loc Cert.NormBwdRefIdeal.main_arg5)
          ∧ r.2.mem ((c.tc : Thread Cert.NormBwdRefIdeal.nD Cert.NormBwdRefIdeal.τ).loc Cert.NormBwdRefIdeal.main_arg6) = m' ((c.tc : Thread Cert.NormBwdRefIdeal.nD Cert.NormBwdRefIdeal.τ).loc Cert.NormBwdRefIdeal.main_arg6)
          ∧ r.2.mem ((c.tc : Thread Cert.NormBwdRefIdeal.nD Cert.NormBwdRefIdeal.τ).loc Cert.NormBwdRefIdeal.main_arg7) = m' ((c.tc : Thread Cert.NormBwdRefIdeal.nD Cert.NormBwdRefIdeal.τ).loc Cert.NormBwdRefIdeal.main_arg7))

def preserves_NormFirst_NormFirstIdeal : Prop :=
  True

def algebraic_NormFirstIdeal_NormFirstRefIdeal [hNormFirstIdeal : Cert.NormFirstIdeal.Facts] [hNormFirstRefIdeal : Cert.NormFirstRefIdeal.Facts] : Prop :=
  ∀ (m : (ℓ : Loc Cert.NormFirstIdeal.nD Cert.NormFirstIdeal.τ Cert.NormFirstIdeal.sig) → Buf (Elt Ideal) ℓ) (g : Dev Cert.NormFirstIdeal.nD → PrngReg)
    (m' : (ℓ : Loc Cert.NormFirstRefIdeal.nD Cert.NormFirstRefIdeal.τ Cert.NormFirstRefIdeal.sig) → Buf (Elt Ideal) ℓ) (g' : Dev Cert.NormFirstRefIdeal.nD → PrngReg), Pre_NormFirstIdeal m →
    (∀ c : Dev Cert.NormFirstIdeal.nD,
      m' ((c.tc : Thread Cert.NormFirstRefIdeal.nD Cert.NormFirstRefIdeal.τ).loc Cert.NormFirstRefIdeal.main_arg0) = m ((c.tc : Thread Cert.NormFirstIdeal.nD Cert.NormFirstIdeal.τ).loc Cert.NormFirstIdeal.main_arg0)
      ∧ m' ((c.tc : Thread Cert.NormFirstRefIdeal.nD Cert.NormFirstRefIdeal.τ).loc Cert.NormFirstRefIdeal.main_arg1) = m ((c.tc : Thread Cert.NormFirstIdeal.nD Cert.NormFirstIdeal.τ).loc Cert.NormFirstIdeal.main_arg1)
      ∧ m' ((c.tc : Thread Cert.NormFirstRefIdeal.nD Cert.NormFirstRefIdeal.τ).loc Cert.NormFirstRefIdeal.main_arg2) = m ((c.tc : Thread Cert.NormFirstIdeal.nD Cert.NormFirstIdeal.τ).loc Cert.NormFirstIdeal.main_arg2)
      ∧ m' ((c.tc : Thread Cert.NormFirstRefIdeal.nD Cert.NormFirstRefIdeal.τ).loc Cert.NormFirstRefIdeal.main_arg3) = m ((c.tc : Thread Cert.NormFirstIdeal.nD Cert.NormFirstIdeal.τ).loc Cert.NormFirstIdeal.main_arg3)
      ∧ m' ((c.tc : Thread Cert.NormFirstRefIdeal.nD Cert.NormFirstRefIdeal.τ).loc Cert.NormFirstRefIdeal.main_arg4) = m ((c.tc : Thread Cert.NormFirstIdeal.nD Cert.NormFirstIdeal.τ).loc Cert.NormFirstIdeal.main_arg4)
      ∧ m' ((c.tc : Thread Cert.NormFirstRefIdeal.nD Cert.NormFirstRefIdeal.τ).loc Cert.NormFirstRefIdeal.main_arg5) = m ((c.tc : Thread Cert.NormFirstIdeal.nD Cert.NormFirstIdeal.τ).loc Cert.NormFirstIdeal.main_arg5)) →
    ∃ (v0 : (c : Dev Cert.NormFirstIdeal.nD) → Buf (Elt Ideal) ((c.tc : Thread Cert.NormFirstIdeal.nD Cert.NormFirstIdeal.τ).loc Cert.NormFirstIdeal.main_v0_0)) (v1 : (c : Dev Cert.NormFirstIdeal.nD) → Buf (Elt Ideal) ((c.tc : Thread Cert.NormFirstIdeal.nD Cert.NormFirstIdeal.τ).loc Cert.NormFirstIdeal.main_v0_1)) (v2 : (c : Dev Cert.NormFirstIdeal.nD) → Buf (Elt Ideal) ((c.tc : Thread Cert.NormFirstIdeal.nD Cert.NormFirstIdeal.τ).loc Cert.NormFirstIdeal.main_v0_2)) (v3 : (c : Dev Cert.NormFirstIdeal.nD) → Buf (Elt Ideal) ((c.tc : Thread Cert.NormFirstIdeal.nD Cert.NormFirstIdeal.τ).loc Cert.NormFirstIdeal.main_v0_3)),
      θ_run (Cert.NormFirstIdeal.defs (F := Ideal)) (onTc (τ := Cert.NormFirstIdeal.τ) (Cert.NormFirstIdeal.main (F := Ideal))) ⟨m, fun _ => 0, g⟩ (fun r => ∀ c : Dev Cert.NormFirstIdeal.nD,
          r.2.mem ((c.tc : Thread Cert.NormFirstIdeal.nD Cert.NormFirstIdeal.τ).loc Cert.NormFirstIdeal.main_v0_0) = v0 c
          ∧ r.2.mem ((c.tc : Thread Cert.NormFirstIdeal.nD Cert.NormFirstIdeal.τ).loc Cert.NormFirstIdeal.main_v0_1) = v1 c
          ∧ r.2.mem ((c.tc : Thread Cert.NormFirstIdeal.nD Cert.NormFirstIdeal.τ).loc Cert.NormFirstIdeal.main_v0_2) = v2 c
          ∧ r.2.mem ((c.tc : Thread Cert.NormFirstIdeal.nD Cert.NormFirstIdeal.τ).loc Cert.NormFirstIdeal.main_v0_3) = v3 c
          ∧ r.2.mem ((c.tc : Thread Cert.NormFirstIdeal.nD Cert.NormFirstIdeal.τ).loc Cert.NormFirstIdeal.main_arg0) = m ((c.tc : Thread Cert.NormFirstIdeal.nD Cert.NormFirstIdeal.τ).loc Cert.NormFirstIdeal.main_arg0)
          ∧ r.2.mem ((c.tc : Thread Cert.NormFirstIdeal.nD Cert.NormFirstIdeal.τ).loc Cert.NormFirstIdeal.main_arg1) = m ((c.tc : Thread Cert.NormFirstIdeal.nD Cert.NormFirstIdeal.τ).loc Cert.NormFirstIdeal.main_arg1)
          ∧ r.2.mem ((c.tc : Thread Cert.NormFirstIdeal.nD Cert.NormFirstIdeal.τ).loc Cert.NormFirstIdeal.main_arg2) = m ((c.tc : Thread Cert.NormFirstIdeal.nD Cert.NormFirstIdeal.τ).loc Cert.NormFirstIdeal.main_arg2)
          ∧ r.2.mem ((c.tc : Thread Cert.NormFirstIdeal.nD Cert.NormFirstIdeal.τ).loc Cert.NormFirstIdeal.main_arg3) = m ((c.tc : Thread Cert.NormFirstIdeal.nD Cert.NormFirstIdeal.τ).loc Cert.NormFirstIdeal.main_arg3)
          ∧ r.2.mem ((c.tc : Thread Cert.NormFirstIdeal.nD Cert.NormFirstIdeal.τ).loc Cert.NormFirstIdeal.main_arg4) = m ((c.tc : Thread Cert.NormFirstIdeal.nD Cert.NormFirstIdeal.τ).loc Cert.NormFirstIdeal.main_arg4)
          ∧ r.2.mem ((c.tc : Thread Cert.NormFirstIdeal.nD Cert.NormFirstIdeal.τ).loc Cert.NormFirstIdeal.main_arg5) = m ((c.tc : Thread Cert.NormFirstIdeal.nD Cert.NormFirstIdeal.τ).loc Cert.NormFirstIdeal.main_arg5))
      ∧ θ_run (Cert.NormFirstRefIdeal.defs (F := Ideal)) (onTc (τ := Cert.NormFirstRefIdeal.τ) (Cert.NormFirstRefIdeal.main (F := Ideal))) ⟨m', fun _ => 0, g'⟩ (fun r => ∀ c : Dev Cert.NormFirstRefIdeal.nD,
          r.2.mem ((c.tc : Thread Cert.NormFirstRefIdeal.nD Cert.NormFirstRefIdeal.τ).loc Cert.NormFirstRefIdeal.main_v48) = v0 c
          ∧ r.2.mem ((c.tc : Thread Cert.NormFirstRefIdeal.nD Cert.NormFirstRefIdeal.τ).loc Cert.NormFirstRefIdeal.main_v26) = v1 c
          ∧ r.2.mem ((c.tc : Thread Cert.NormFirstRefIdeal.nD Cert.NormFirstRefIdeal.τ).loc Cert.NormFirstRefIdeal.main_v23) = v2 c
          ∧ r.2.mem ((c.tc : Thread Cert.NormFirstRefIdeal.nD Cert.NormFirstRefIdeal.τ).loc Cert.NormFirstRefIdeal.main_v31) = v3 c
          ∧ r.2.mem ((c.tc : Thread Cert.NormFirstRefIdeal.nD Cert.NormFirstRefIdeal.τ).loc Cert.NormFirstRefIdeal.main_arg0) = m' ((c.tc : Thread Cert.NormFirstRefIdeal.nD Cert.NormFirstRefIdeal.τ).loc Cert.NormFirstRefIdeal.main_arg0)
          ∧ r.2.mem ((c.tc : Thread Cert.NormFirstRefIdeal.nD Cert.NormFirstRefIdeal.τ).loc Cert.NormFirstRefIdeal.main_arg1) = m' ((c.tc : Thread Cert.NormFirstRefIdeal.nD Cert.NormFirstRefIdeal.τ).loc Cert.NormFirstRefIdeal.main_arg1)
          ∧ r.2.mem ((c.tc : Thread Cert.NormFirstRefIdeal.nD Cert.NormFirstRefIdeal.τ).loc Cert.NormFirstRefIdeal.main_arg2) = m' ((c.tc : Thread Cert.NormFirstRefIdeal.nD Cert.NormFirstRefIdeal.τ).loc Cert.NormFirstRefIdeal.main_arg2)
          ∧ r.2.mem ((c.tc : Thread Cert.NormFirstRefIdeal.nD Cert.NormFirstRefIdeal.τ).loc Cert.NormFirstRefIdeal.main_arg3) = m' ((c.tc : Thread Cert.NormFirstRefIdeal.nD Cert.NormFirstRefIdeal.τ).loc Cert.NormFirstRefIdeal.main_arg3)
          ∧ r.2.mem ((c.tc : Thread Cert.NormFirstRefIdeal.nD Cert.NormFirstRefIdeal.τ).loc Cert.NormFirstRefIdeal.main_arg4) = m' ((c.tc : Thread Cert.NormFirstRefIdeal.nD Cert.NormFirstRefIdeal.τ).loc Cert.NormFirstRefIdeal.main_arg4)
          ∧ r.2.mem ((c.tc : Thread Cert.NormFirstRefIdeal.nD Cert.NormFirstRefIdeal.τ).loc Cert.NormFirstRefIdeal.main_arg5) = m' ((c.tc : Thread Cert.NormFirstRefIdeal.nD Cert.NormFirstRefIdeal.τ).loc Cert.NormFirstRefIdeal.main_arg5))

def Claim : Prop :=
  ∃ (hDq : Cert.Dq.Facts) (hDqIdeal : Cert.DqIdeal.Facts) (hDqRefIdeal : Cert.DqRefIdeal.Facts) (hDkv : Cert.Dkv.Facts) (hDkvIdeal : Cert.DkvIdeal.Facts) (hDkvRefIdeal : Cert.DkvRefIdeal.Facts) (hFwd : Cert.Fwd.Facts) (hFwdIdeal : Cert.FwdIdeal.Facts) (hFwdRefIdeal : Cert.FwdRefIdeal.Facts) (hFfnOutDx : Cert.FfnOutDx.Facts) (hFfnOutDxIdeal : Cert.FfnOutDxIdeal.Facts) (hFfnOutDxRefIdeal : Cert.FfnOutDxRefIdeal.Facts) (hFfnOutDw : Cert.FfnOutDw.Facts) (hFfnOutDwIdeal : Cert.FfnOutDwIdeal.Facts) (hFfnOutDwRefIdeal : Cert.FfnOutDwRefIdeal.Facts) (hFfnInDx : Cert.FfnInDx.Facts) (hFfnInDxIdeal : Cert.FfnInDxIdeal.Facts) (hFfnInDxRefIdeal : Cert.FfnInDxRefIdeal.Facts) (hFfnInDw : Cert.FfnInDw.Facts) (hFfnInDwIdeal : Cert.FfnInDwIdeal.Facts) (hFfnInDwRefIdeal : Cert.FfnInDwRefIdeal.Facts) (hOutDx : Cert.OutDx.Facts) (hOutDxIdeal : Cert.OutDxIdeal.Facts) (hOutDxRefIdeal : Cert.OutDxRefIdeal.Facts) (hOutDw : Cert.OutDw.Facts) (hOutDwIdeal : Cert.OutDwIdeal.Facts) (hOutDwRefIdeal : Cert.OutDwRefIdeal.Facts) (hQkvDx : Cert.QkvDx.Facts) (hQkvDxIdeal : Cert.QkvDxIdeal.Facts) (hQkvDxRefIdeal : Cert.QkvDxRefIdeal.Facts) (hQkvDw : Cert.QkvDw.Facts) (hQkvDwIdeal : Cert.QkvDwIdeal.Facts) (hQkvDwRefIdeal : Cert.QkvDwRefIdeal.Facts) (hForgetDx : Cert.ForgetDx.Facts) (hForgetDxIdeal : Cert.ForgetDxIdeal.Facts) (hForgetDxRefIdeal : Cert.ForgetDxRefIdeal.Facts) (hForgetDw : Cert.ForgetDw.Facts) (hForgetDwIdeal : Cert.ForgetDwIdeal.Facts) (hForgetDwRefIdeal : Cert.ForgetDwRefIdeal.Facts) (hGmInDx : Cert.GmInDx.Facts) (hGmInDxIdeal : Cert.GmInDxIdeal.Facts) (hGmInDxRefIdeal : Cert.GmInDxRefIdeal.Facts) (hGmInDw : Cert.GmInDw.Facts) (hGmInDwIdeal : Cert.GmInDwIdeal.Facts) (hGmInDwRefIdeal : Cert.GmInDwRefIdeal.Facts) (hFfnIn : Cert.FfnIn.Facts) (hFfnInIdeal : Cert.FfnInIdeal.Facts) (hFfnInRefIdeal : Cert.FfnInRefIdeal.Facts) (hFfnOut : Cert.FfnOut.Facts) (hFfnOutIdeal : Cert.FfnOutIdeal.Facts) (hFfnOutRefIdeal : Cert.FfnOutRefIdeal.Facts) (hQkv : Cert.Qkv.Facts) (hQkvIdeal : Cert.QkvIdeal.Facts) (hQkvRefIdeal : Cert.QkvRefIdeal.Facts) (hForget : Cert.Forget.Facts) (hForgetIdeal : Cert.ForgetIdeal.Facts) (hForgetRefIdeal : Cert.ForgetRefIdeal.Facts) (hOut : Cert.Out.Facts) (hOutIdeal : Cert.OutIdeal.Facts) (hOutRefIdeal : Cert.OutRefIdeal.Facts) (hGmIn : Cert.GmIn.Facts) (hGmInIdeal : Cert.GmInIdeal.Facts) (hGmInRefIdeal : Cert.GmInRefIdeal.Facts) (hNormMod : Cert.NormMod.Facts) (hNormModIdeal : Cert.NormModIdeal.Facts) (hNormModRefIdeal : Cert.NormModRefIdeal.Facts) (hNormBwd : Cert.NormBwd.Facts) (hNormBwdIdeal : Cert.NormBwdIdeal.Facts) (hNormBwdRefIdeal : Cert.NormBwdRefIdeal.Facts) (hNormFirst : Cert.NormFirst.Facts) (hNormFirstIdeal : Cert.NormFirstIdeal.Facts) (hNormFirstRefIdeal : Cert.NormFirstRefIdeal.Facts) (hPre_finite : Cert.Pre_finite.Facts) (hPre_finite_fwd : Cert.Pre_finite_fwd.Facts),
    quiescent_Dq (hDq := hDq)
    ∧ quiescent_DqIdeal (hDqIdeal := hDqIdeal)
    ∧ quiescent_DqIdeal_pre_finite (hDqIdeal := hDqIdeal) (hPre_finite := hPre_finite)
    ∧ quiescent_DqRefIdeal (hDqRefIdeal := hDqRefIdeal)
    ∧ quiescent_DqRefIdeal_pre_finite (hDqRefIdeal := hDqRefIdeal) (hPre_finite := hPre_finite)
    ∧ quiescent_Dkv (hDkv := hDkv)
    ∧ quiescent_DkvIdeal (hDkvIdeal := hDkvIdeal)
    ∧ quiescent_DkvIdeal_pre_finite (hDkvIdeal := hDkvIdeal) (hPre_finite := hPre_finite)
    ∧ quiescent_DkvRefIdeal (hDkvRefIdeal := hDkvRefIdeal)
    ∧ quiescent_DkvRefIdeal_pre_finite (hDkvRefIdeal := hDkvRefIdeal) (hPre_finite := hPre_finite)
    ∧ quiescent_Fwd (hFwd := hFwd)
    ∧ quiescent_FwdIdeal (hFwdIdeal := hFwdIdeal)
    ∧ quiescent_FwdIdeal_pre_finite_fwd (hFwdIdeal := hFwdIdeal) (hPre_finite_fwd := hPre_finite_fwd)
    ∧ quiescent_FwdRefIdeal (hFwdRefIdeal := hFwdRefIdeal)
    ∧ quiescent_FwdRefIdeal_pre_finite_fwd (hFwdRefIdeal := hFwdRefIdeal) (hPre_finite_fwd := hPre_finite_fwd)
    ∧ quiescent_FfnOutDx (hFfnOutDx := hFfnOutDx)
    ∧ quiescent_FfnOutDxIdeal (hFfnOutDxIdeal := hFfnOutDxIdeal)
    ∧ quiescent_FfnOutDxRefIdeal (hFfnOutDxRefIdeal := hFfnOutDxRefIdeal)
    ∧ quiescent_FfnOutDw (hFfnOutDw := hFfnOutDw)
    ∧ quiescent_FfnOutDwIdeal (hFfnOutDwIdeal := hFfnOutDwIdeal)
    ∧ quiescent_FfnOutDwRefIdeal (hFfnOutDwRefIdeal := hFfnOutDwRefIdeal)
    ∧ quiescent_FfnInDx (hFfnInDx := hFfnInDx)
    ∧ quiescent_FfnInDxIdeal (hFfnInDxIdeal := hFfnInDxIdeal)
    ∧ quiescent_FfnInDxRefIdeal (hFfnInDxRefIdeal := hFfnInDxRefIdeal)
    ∧ quiescent_FfnInDw (hFfnInDw := hFfnInDw)
    ∧ quiescent_FfnInDwIdeal (hFfnInDwIdeal := hFfnInDwIdeal)
    ∧ quiescent_FfnInDwRefIdeal (hFfnInDwRefIdeal := hFfnInDwRefIdeal)
    ∧ quiescent_OutDx (hOutDx := hOutDx)
    ∧ quiescent_OutDxIdeal (hOutDxIdeal := hOutDxIdeal)
    ∧ quiescent_OutDxRefIdeal (hOutDxRefIdeal := hOutDxRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_QkvDx (hQkvDx := hQkvDx)
    ∧ quiescent_QkvDxIdeal (hQkvDxIdeal := hQkvDxIdeal)
    ∧ quiescent_QkvDxRefIdeal (hQkvDxRefIdeal := hQkvDxRefIdeal)
    ∧ quiescent_QkvDw (hQkvDw := hQkvDw)
    ∧ quiescent_QkvDwIdeal (hQkvDwIdeal := hQkvDwIdeal)
    ∧ quiescent_QkvDwRefIdeal (hQkvDwRefIdeal := hQkvDwRefIdeal)
    ∧ quiescent_ForgetDx (hForgetDx := hForgetDx)
    ∧ quiescent_ForgetDxIdeal (hForgetDxIdeal := hForgetDxIdeal)
    ∧ quiescent_ForgetDxRefIdeal (hForgetDxRefIdeal := hForgetDxRefIdeal)
    ∧ quiescent_ForgetDw (hForgetDw := hForgetDw)
    ∧ quiescent_ForgetDwIdeal (hForgetDwIdeal := hForgetDwIdeal)
    ∧ quiescent_ForgetDwRefIdeal (hForgetDwRefIdeal := hForgetDwRefIdeal)
    ∧ quiescent_GmInDx (hGmInDx := hGmInDx)
    ∧ quiescent_GmInDxIdeal (hGmInDxIdeal := hGmInDxIdeal)
    ∧ quiescent_GmInDxRefIdeal (hGmInDxRefIdeal := hGmInDxRefIdeal)
    ∧ quiescent_GmInDw (hGmInDw := hGmInDw)
    ∧ quiescent_GmInDwIdeal (hGmInDwIdeal := hGmInDwIdeal)
    ∧ quiescent_GmInDwRefIdeal (hGmInDwRefIdeal := hGmInDwRefIdeal)
    ∧ quiescent_FfnIn (hFfnIn := hFfnIn)
    ∧ quiescent_FfnInIdeal (hFfnInIdeal := hFfnInIdeal)
    ∧ quiescent_FfnInRefIdeal (hFfnInRefIdeal := hFfnInRefIdeal)
    ∧ quiescent_FfnOut (hFfnOut := hFfnOut)
    ∧ quiescent_FfnOutIdeal (hFfnOutIdeal := hFfnOutIdeal)
    ∧ quiescent_FfnOutRefIdeal (hFfnOutRefIdeal := hFfnOutRefIdeal)
    ∧ quiescent_Qkv (hQkv := hQkv)
    ∧ quiescent_QkvIdeal (hQkvIdeal := hQkvIdeal)
    ∧ quiescent_QkvRefIdeal (hQkvRefIdeal := hQkvRefIdeal)
    ∧ quiescent_Forget (hForget := hForget)
    ∧ quiescent_ForgetIdeal (hForgetIdeal := hForgetIdeal)
    ∧ quiescent_ForgetRefIdeal (hForgetRefIdeal := hForgetRefIdeal)
    ∧ quiescent_Out (hOut := hOut)
    ∧ quiescent_OutIdeal (hOutIdeal := hOutIdeal)
    ∧ quiescent_OutRefIdeal (hOutRefIdeal := hOutRefIdeal)
    ∧ quiescent_GmIn (hGmIn := hGmIn)
    ∧ quiescent_GmInIdeal (hGmInIdeal := hGmInIdeal)
    ∧ quiescent_GmInRefIdeal (hGmInRefIdeal := hGmInRefIdeal)
    ∧ quiescent_NormMod (hNormMod := hNormMod)
    ∧ quiescent_NormModIdeal (hNormModIdeal := hNormModIdeal)
    ∧ quiescent_NormModRefIdeal (hNormModRefIdeal := hNormModRefIdeal)
    ∧ quiescent_NormBwd (hNormBwd := hNormBwd)
    ∧ quiescent_NormBwdIdeal (hNormBwdIdeal := hNormBwdIdeal)
    ∧ quiescent_NormBwdRefIdeal (hNormBwdRefIdeal := hNormBwdRefIdeal)
    ∧ quiescent_NormFirst (hNormFirst := hNormFirst)
    ∧ quiescent_NormFirstIdeal (hNormFirstIdeal := hNormFirstIdeal)
    ∧ quiescent_NormFirstRefIdeal (hNormFirstRefIdeal := hNormFirstRefIdeal)
    ∧ preserves_Dq_DqIdeal
    ∧ algebraic_DqIdeal_DqRefIdeal_pre_finite (hDqIdeal := hDqIdeal) (hDqRefIdeal := hDqRefIdeal) (hPre_finite := hPre_finite)
    ∧ preserves_Dkv_DkvIdeal
    ∧ algebraic_DkvIdeal_DkvRefIdeal_pre_finite (hDkvIdeal := hDkvIdeal) (hDkvRefIdeal := hDkvRefIdeal) (hPre_finite := hPre_finite)
    ∧ preserves_Fwd_FwdIdeal
    ∧ algebraic_FwdIdeal_FwdRefIdeal_pre_finite_fwd (hFwdIdeal := hFwdIdeal) (hFwdRefIdeal := hFwdRefIdeal) (hPre_finite_fwd := hPre_finite_fwd)
    ∧ preserves_FfnOutDx_FfnOutDxIdeal
    ∧ algebraic_FfnOutDxIdeal_FfnOutDxRefIdeal (hFfnOutDxIdeal := hFfnOutDxIdeal) (hFfnOutDxRefIdeal := hFfnOutDxRefIdeal)
    ∧ preserves_FfnOutDw_FfnOutDwIdeal
    ∧ algebraic_FfnOutDwIdeal_FfnOutDwRefIdeal (hFfnOutDwIdeal := hFfnOutDwIdeal) (hFfnOutDwRefIdeal := hFfnOutDwRefIdeal)
    ∧ preserves_FfnInDx_FfnInDxIdeal
    ∧ algebraic_FfnInDxIdeal_FfnInDxRefIdeal (hFfnInDxIdeal := hFfnInDxIdeal) (hFfnInDxRefIdeal := hFfnInDxRefIdeal)
    ∧ preserves_FfnInDw_FfnInDwIdeal
    ∧ algebraic_FfnInDwIdeal_FfnInDwRefIdeal (hFfnInDwIdeal := hFfnInDwIdeal) (hFfnInDwRefIdeal := hFfnInDwRefIdeal)
    ∧ preserves_OutDx_OutDxIdeal
    ∧ algebraic_OutDxIdeal_OutDxRefIdeal (hOutDxIdeal := hOutDxIdeal) (hOutDxRefIdeal := hOutDxRefIdeal)
    ∧ preserves_OutDw_OutDwIdeal
    ∧ algebraic_OutDwIdeal_OutDwRefIdeal (hOutDwIdeal := hOutDwIdeal) (hOutDwRefIdeal := hOutDwRefIdeal)
    ∧ preserves_QkvDx_QkvDxIdeal
    ∧ algebraic_QkvDxIdeal_QkvDxRefIdeal (hQkvDxIdeal := hQkvDxIdeal) (hQkvDxRefIdeal := hQkvDxRefIdeal)
    ∧ preserves_QkvDw_QkvDwIdeal
    ∧ algebraic_QkvDwIdeal_QkvDwRefIdeal (hQkvDwIdeal := hQkvDwIdeal) (hQkvDwRefIdeal := hQkvDwRefIdeal)
    ∧ preserves_ForgetDx_ForgetDxIdeal
    ∧ algebraic_ForgetDxIdeal_ForgetDxRefIdeal (hForgetDxIdeal := hForgetDxIdeal) (hForgetDxRefIdeal := hForgetDxRefIdeal)
    ∧ preserves_ForgetDw_ForgetDwIdeal
    ∧ algebraic_ForgetDwIdeal_ForgetDwRefIdeal (hForgetDwIdeal := hForgetDwIdeal) (hForgetDwRefIdeal := hForgetDwRefIdeal)
    ∧ preserves_GmInDx_GmInDxIdeal
    ∧ algebraic_GmInDxIdeal_GmInDxRefIdeal (hGmInDxIdeal := hGmInDxIdeal) (hGmInDxRefIdeal := hGmInDxRefIdeal)
    ∧ preserves_GmInDw_GmInDwIdeal
    ∧ algebraic_GmInDwIdeal_GmInDwRefIdeal (hGmInDwIdeal := hGmInDwIdeal) (hGmInDwRefIdeal := hGmInDwRefIdeal)
    ∧ preserves_FfnIn_FfnInIdeal
    ∧ algebraic_FfnInIdeal_FfnInRefIdeal (hFfnInIdeal := hFfnInIdeal) (hFfnInRefIdeal := hFfnInRefIdeal)
    ∧ preserves_FfnOut_FfnOutIdeal
    ∧ algebraic_FfnOutIdeal_FfnOutRefIdeal (hFfnOutIdeal := hFfnOutIdeal) (hFfnOutRefIdeal := hFfnOutRefIdeal)
    ∧ preserves_Qkv_QkvIdeal
    ∧ algebraic_QkvIdeal_QkvRefIdeal (hQkvIdeal := hQkvIdeal) (hQkvRefIdeal := hQkvRefIdeal)
    ∧ preserves_Forget_ForgetIdeal
    ∧ algebraic_ForgetIdeal_ForgetRefIdeal (hForgetIdeal := hForgetIdeal) (hForgetRefIdeal := hForgetRefIdeal)
    ∧ preserves_Out_OutIdeal
    ∧ algebraic_OutIdeal_OutRefIdeal (hOutIdeal := hOutIdeal) (hOutRefIdeal := hOutRefIdeal)
    ∧ preserves_GmIn_GmInIdeal
    ∧ algebraic_GmInIdeal_GmInRefIdeal (hGmInIdeal := hGmInIdeal) (hGmInRefIdeal := hGmInRefIdeal)
    ∧ preserves_NormMod_NormModIdeal
    ∧ algebraic_NormModIdeal_NormModRefIdeal (hNormModIdeal := hNormModIdeal) (hNormModRefIdeal := hNormModRefIdeal)
    ∧ preserves_NormBwd_NormBwdIdeal
    ∧ algebraic_NormBwdIdeal_NormBwdRefIdeal (hNormBwdIdeal := hNormBwdIdeal) (hNormBwdRefIdeal := hNormBwdRefIdeal)
    ∧ preserves_NormFirst_NormFirstIdeal
    ∧ algebraic_NormFirstIdeal_NormFirstRefIdeal (hNormFirstIdeal := hNormFirstIdeal) (hNormFirstRefIdeal := hNormFirstRefIdeal)
-- ==== Pre_finite.lean ====
abbrev S4096x6144 : Shape := ⟨2, ![4096, 6144]⟩
abbrev S16x1x4096 : Shape := ⟨3, ![16, 1, 4096]⟩
abbrev S4096x2048 : Shape := ⟨2, ![4096, 2048]⟩
abbrev S_ : Shape := ⟨0, ![]⟩

class Facts : Prop where
  bitsLt_bf16_f32 : FTy.bits .bf16 < FTy.bits .f32
  bcast_S_S4096x6144 : S_.BroadcastsInDim S4096x6144 (![] : Fin 0 → Fin S4096x6144.rank)
  bcast_S_S16x1x4096 : S_.BroadcastsInDim S16x1x4096 (![] : Fin 0 → Fin S16x1x4096.rank)
  bcast_S_S4096x2048 : S_.BroadcastsInDim S4096x2048 (![] : Fin 0 → Fin S4096x2048.rank)

variable [Facts]

def fn {F : FTy → Type} [FloatOps F] (main_arg0 : FVec F S4096x6144 .bf16) (main_arg1 : FVec F S16x1x4096 .f32) (main_arg2 : FVec F S4096x2048 .bf16) : IVec S4096x6144 1 × IVec S16x1x4096 1 × IVec S4096x2048 1 :=
  let main_v0 : FVec F S4096x6144 .f32 := (extf .f32 · bitsLt_bf16_f32) main_arg0
  let main_v1 : FVec F S4096x6144 .f32 := Host.absf main_v0
  let main_cst : FVec F S_ .f32 := constant S_ .f32 0x7F800000#32
  let main_v2 : FVec F S4096x6144 .f32 := broadcastInDim S4096x6144 ![] bcast_S_S4096x6144 main_cst
  let main_v3 : IVec S4096x6144 1 := cmpf .olt main_v1 main_v2
  let main_v4 : FVec F S16x1x4096 .f32 := Host.absf main_arg1
  let main_cst_0 : FVec F S_ .f32 := constant S_ .f32 0x7F800000#32
  let main_v5 : FVec F S16x1x4096 .f32 := broadcastInDim S16x1x4096 ![] bcast_S_S16x1x4096 main_cst_0
  let main_v6 : IVec S16x1x4096 1 := cmpf .olt main_v4 main_v5
  let main_v7 : FVec F S4096x2048 .f32 := (extf .f32 · bitsLt_bf16_f32) main_arg2
  let main_v8 : FVec F S4096x2048 .f32 := Host.absf main_v7
  let main_cst_1 : FVec F S_ .f32 := constant S_ .f32 0x7F800000#32
  let main_v9 : FVec F S4096x2048 .f32 := broadcastInDim S4096x2048 ![] bcast_S_S4096x2048 main_cst_1
  let main_v10 : IVec S4096x2048 1 := cmpf .olt main_v8 main_v9
  (main_v3, main_v6, main_v10)
-- ==== Pre_finite_fwd.lean ====
abbrev S4096x6144 : Shape := ⟨2, ![4096, 6144]⟩
abbrev S16x1x4096 : Shape := ⟨3, ![16, 1, 4096]⟩
abbrev S_ : Shape := ⟨0, ![]⟩

class Facts : Prop where
  bitsLt_bf16_f32 : FTy.bits .bf16 < FTy.bits .f32
  bcast_S_S4096x6144 : S_.BroadcastsInDim S4096x6144 (![] : Fin 0 → Fin S4096x6144.rank)
  bcast_S_S16x1x4096 : S_.BroadcastsInDim S16x1x4096 (![] : Fin 0 → Fin S16x1x4096.rank)

variable [Facts]

def fn {F : FTy → Type} [FloatOps F] (main_arg0 : FVec F S4096x6144 .bf16) (main_arg1 : FVec F S16x1x4096 .f32) : IVec S4096x6144 1 × IVec S16x1x4096 1 :=
  let main_v0 : FVec F S4096x6144 .f32 := (extf .f32 · bitsLt_bf16_f32) main_arg0
  let main_v1 : FVec F S4096x6144 .f32 := Host.absf main_v0
  let main_cst : FVec F S_ .f32 := constant S_ .f32 0x7F800000#32
  let main_v2 : FVec F S4096x6144 .f32 := broadcastInDim S4096x6144 ![] bcast_S_S4096x6144 main_cst
  let main_v3 : IVec S4096x6144 1 := cmpf .olt main_v1 main_v2
  let main_v4 : FVec F S16x1x4096 .f32 := Host.absf main_arg1
  let main_cst_0 : FVec F S_ .f32 := constant S_ .f32 0x7F800000#32
  let main_v5 : FVec F S16x1x4096 .f32 := broadcastInDim S16x1x4096 ![] bcast_S_S16x1x4096 main_cst_0
  let main_v6 : IVec S16x1x4096 1 := cmpf .olt main_v4 main_v5
  (main_v3, main_v6)
-- ==== Dq.lean ====
abbrev S4096x6144 : Shape := ⟨2, ![4096, 6144]⟩
abbrev S16x1x4096 : Shape := ⟨3, ![16, 1, 4096]⟩
abbrev S4096x2048 : Shape := ⟨2, ![4096, 2048]⟩
abbrev S16x4096 : Shape := ⟨2, ![16, 4096]⟩
abbrev S4096x16x128 : Shape := ⟨3, ![4096, 16, 128]⟩
abbrev S16x4096x128 : Shape := ⟨3, ![16, 4096, 128]⟩
abbrev S16x4096x4096 : Shape := ⟨3, ![16, 4096, 4096]⟩
abbrev S_ : Shape := ⟨0, ![]⟩
abbrev S16x4096x1 : Shape := ⟨3, ![16, 4096, 1]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1024x128 : Shape := ⟨2, ![1024, 128]⟩
abbrev S4096x128 : Shape := ⟨2, ![4096, 128]⟩
abbrev S1x1024x128 : Shape := ⟨3, ![1, 1024, 128]⟩
abbrev S1x1x4096 : Shape := ⟨3, ![1, 1, 4096]⟩
abbrev S1x1x1024 : Shape := ⟨3, ![1, 1, 1024]⟩
abbrev S1024 : Shape := ⟨1, ![1024]⟩
abbrev S1024x1 : Shape := ⟨2, ![1024, 1]⟩
abbrev S1x1024x1 : Shape := ⟨3, ![1, 1024, 1]⟩
abbrev S1024x1024 : Shape := ⟨2, ![1024, 1024]⟩
abbrev S1x1024 : Shape := ⟨2, ![1, 1024]⟩
abbrev S128x1024 : Shape := ⟨2, ![128, 1024]⟩

abbrev nBuf : Space → Nat
  | .hbm => 97
  | .vmem => 18
  | .smem => 0
  | _ => 0

abbrev bufTy : (tb : Table) → Fin (tcTables nBuf tb) → BufTy
  | .hbm, ⟨0, _⟩ => ⟨S4096x6144, .bf16⟩
  | .hbm, ⟨1, _⟩ => ⟨S16x1x4096, .f32⟩
  | .hbm, ⟨2, _⟩ => ⟨S4096x2048, .bf16⟩
  | .hbm, ⟨3, _⟩ => ⟨S4096x2048, .bf16⟩
  | .hbm, ⟨4, _⟩ => ⟨S4096x2048, .f32⟩
  | .hbm, ⟨5, _⟩ => ⟨S4096x2048, .bf16⟩
  | .hbm, ⟨6, _⟩ => ⟨S4096x2048, .f32⟩
  | .hbm, ⟨7, _⟩ => ⟨S4096x2048, .bf16⟩
  | .hbm, ⟨8, _⟩ => ⟨S4096x2048, .f32⟩
  | .hbm, ⟨9, _⟩ => ⟨S16x4096, .f32⟩
  | .hbm, ⟨10, _⟩ => ⟨S4096x16x128, .f32⟩
  | .hbm, ⟨11, _⟩ => ⟨S16x4096x128, .f32⟩
  | .hbm, ⟨12, _⟩ => ⟨S4096x16x128, .f32⟩
  | .hbm, ⟨13, _⟩ => ⟨S16x4096x128, .f32⟩
  | .hbm, ⟨14, _⟩ => ⟨S16x4096x4096, .f32⟩
  | .hbm, ⟨15, _⟩ => ⟨S_, .f32⟩
  | .hbm, ⟨16, _⟩ => ⟨S16x4096x4096, .f32⟩
  | .hbm, ⟨17, _⟩ => ⟨S16x4096x4096, .f32⟩
  | .hbm, ⟨18, _⟩ => ⟨S16x4096x1, .f32⟩
  | .hbm, ⟨19, _⟩ => ⟨S16x4096x4096, .f32⟩
  | .hbm, ⟨20, _⟩ => ⟨S16x4096x4096, .f32⟩
  | .hbm, ⟨21, _⟩ => ⟨S16x1x4096, .f32⟩
  | .hbm, ⟨22, _⟩ => ⟨S16x4096x4096, .f32⟩
  | .hbm, ⟨23, _⟩ => ⟨S16x4096x4096, .f32⟩
  | .hbm, ⟨24, _⟩ => ⟨S4096, .i32⟩
  | .hbm, ⟨25, _⟩ => ⟨S1x4096, .i32⟩
  | .hbm, ⟨26, _⟩ => ⟨S4096, .i32⟩
  | .hbm, ⟨27, _⟩ => ⟨S4096x1, .i32⟩
  | .hbm, ⟨28, _⟩ => ⟨S4096x4096, .i32⟩
  | .hbm, ⟨29, _⟩ => ⟨S4096x4096, .i32⟩
  | .hbm, ⟨30, _⟩ => ⟨S4096x4096, .i1⟩
  | .hbm, ⟨31, _⟩ => ⟨S_, .f32⟩
  | .hbm, ⟨32, _⟩ => ⟨S_, .f32⟩
  | .hbm, ⟨33, _⟩ => ⟨S16x4096x4096, .i1⟩
  | .hbm, ⟨34, _⟩ => ⟨S16x4096x4096, .f32⟩
  | .hbm, ⟨35, _⟩ => ⟨S16x4096x4096, .f32⟩
  | .hbm, ⟨36, _⟩ => ⟨S_, .f32⟩
  | .hbm, ⟨37, _⟩ => ⟨S16x4096, .f32⟩
  | .hbm, ⟨38, _⟩ => ⟨S16x4096x1, .f32⟩
  | .hbm, ⟨39, _⟩ => ⟨S16x4096x4096, .f32⟩
  | .hbm, ⟨40, _⟩ => ⟨S16x4096x4096, .f32⟩
  | .hbm, ⟨41, _⟩ => ⟨S16x4096x4096, .f32⟩
  | .hbm, ⟨42, _⟩ => ⟨S_, .f32⟩
  | .hbm, ⟨43, _⟩ => ⟨S16x4096, .f32⟩
  | .hbm, ⟨44, _⟩ => ⟨S16x4096, .f32⟩
  | .hbm, ⟨45, _⟩ => ⟨S16x4096, .f32⟩
  | .hbm, ⟨46, _⟩ => ⟨S16x4096, .f32⟩
  | .hbm, ⟨47, _⟩ => ⟨S4096x16x128, .f32⟩
  | .hbm, ⟨48, _⟩ => ⟨S16x4096x128, .f32⟩
  | .hbm, ⟨49, _⟩ => ⟨S4096x16x128, .f32⟩
  | .hbm, ⟨50, _⟩ => ⟨S16x4096x128, .f32⟩
  | .hbm, ⟨51, _⟩ => ⟨S16x4096x4096, .f32⟩
  | .hbm, ⟨52, _⟩ => ⟨S_, .f32⟩
  | .hbm, ⟨53, _⟩ => ⟨S16x4096x4096, .f32⟩
  | .hbm, ⟨54, _⟩ => ⟨S16x4096x4096, .f32⟩
  | .hbm, ⟨55, _⟩ => ⟨S16x4096x1, .f32⟩
  | .hbm, ⟨56, _⟩ => ⟨S16x4096x4096, .f32⟩
  | .hbm, ⟨57, _⟩ => ⟨S16x4096x4096, .f32⟩
  | .hbm, ⟨58, _⟩ => ⟨S16x1x4096, .f32⟩
  | .hbm, ⟨59, _⟩ => ⟨S16x4096x4096, .f32⟩
  | .hbm, ⟨60, _⟩ => ⟨S16x4096x4096, .f32⟩
  | .hbm, ⟨61, _⟩ => ⟨S4096, .i32⟩
  | .hbm, ⟨62, _⟩ => ⟨S1x4096, .i32⟩
  | .hbm, ⟨63, _⟩ => ⟨S4096, .i32⟩
  | .hbm, ⟨64, _⟩ => ⟨S4096x1, .i32⟩
  | .hbm, ⟨65, _⟩ => ⟨S4096x4096, .i32⟩
  | .hbm, ⟨66, _⟩ => ⟨S4096x4096, .i32⟩
  | .hbm, ⟨67, _⟩ => ⟨S4096x4096, .i1⟩
  | .hbm, ⟨68, _⟩ => ⟨S_, .f32⟩
  | .hbm, ⟨69, _⟩ => ⟨S_, .f32⟩
  | .hbm, ⟨70, _⟩ => ⟨S16x4096x4096, .i1⟩
  | .hbm, ⟨71, _⟩ => ⟨S16x4096x4096, .f32⟩
  | .hbm, ⟨72, _⟩ => ⟨S16x4096x4096, .f32⟩
  | .hbm, ⟨73, _⟩ => ⟨S_, .f32⟩
  | .hbm, ⟨74, _⟩ => ⟨S16x4096, .f32⟩
  | .hbm, ⟨75, _⟩ => ⟨S_, .f32⟩
  | .hbm, ⟨76, _⟩ => ⟨S16x4096, .f32⟩
  | .hbm, ⟨77, _⟩ => ⟨S16x4096, .f32⟩
  | .hbm, ⟨78, _⟩ => ⟨S16x4096x1, .f32⟩
  | .hbm, ⟨79, _⟩ => ⟨S16x4096x4096, .f32⟩
  | .hbm, ⟨80, _⟩ => ⟨S16x4096x4096, .f32⟩
  | .hbm, ⟨81, _⟩ => ⟨S16x4096x4096, .f32⟩
  | .hbm, ⟨82, _⟩ => ⟨S_, .f32⟩
  | .hbm, ⟨83, _⟩ => ⟨S16x4096, .f32⟩
  | .hbm, ⟨84, _⟩ => ⟨S16x4096x1, .f32⟩
  | .hbm, ⟨85, _⟩ => ⟨S16x4096x4096, .f32⟩
  | .hbm, ⟨86, _⟩ => ⟨S16x4096x4096, .f32⟩
  | .hbm, ⟨87, _⟩ => ⟨S4096x16x128, .f32⟩
  | .hbm, ⟨88, _⟩ => ⟨S16x4096x128, .f32⟩
  | .hbm, ⟨89, _⟩ => ⟨S16x4096x128, .f32⟩
  | .hbm, ⟨90, _⟩ => ⟨S4096x16x128, .f32⟩
  | .hbm, ⟨91, _⟩ => ⟨S4096x2048, .f32⟩
  | .hbm, ⟨92, _⟩ => ⟨S4096x2048, .bf16⟩
  | .hbm, ⟨93, _⟩ => ⟨S16x4096x1, .f32⟩
  | .hbm, ⟨94, _⟩ => ⟨S16x4096x128, .f32⟩
  | .hbm, ⟨95, _⟩ => ⟨S4096x2048, .bf16⟩
  | .hbm, ⟨96, _⟩ => ⟨S16x1x4096, .f32⟩
  | .local _ .vmem, ⟨0, _⟩ => ⟨S1024x128, .bf16⟩
  | .local _ .vmem, ⟨1, _⟩ => ⟨S1024x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S1024x128, .bf16⟩
  | .local _ .vmem, ⟨7, _⟩ => ⟨S1024x128, .bf16⟩
  | .local _ .vmem, ⟨8, _⟩ => ⟨S1024x128, .bf16⟩
  | .local _ .vmem, ⟨9, _⟩ => ⟨S1024x128, .bf16⟩
  | .local _ .vmem, ⟨10, _⟩ => ⟨S1x1024x128, .f32⟩
  | .local _ .vmem, ⟨11, _⟩ => ⟨S1x1024x128, .f32⟩
  | .local _ .vmem, ⟨12, _⟩ => ⟨S1x1x4096, .f32⟩
  | .local _ .vmem, ⟨13, _⟩ => ⟨S1x1x4096, .f32⟩
  | .local _ .vmem, ⟨14, _⟩ => ⟨S1024x128, .bf16⟩
  | .local _ .vmem, ⟨15, _⟩ => ⟨S1024x128, .bf16⟩
  | .local _ .vmem, ⟨16, _⟩ => ⟨S1x1x1024, .f32⟩
  | .local _ .vmem, ⟨17, _⟩ => ⟨S1x1x1024, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_cst_0 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v27 : Ref sig .tc := ⟨.hbm, 35, rfl⟩
abbrev main_cst_1 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_2 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_3 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_cst_4 : Ref sig .tc := ⟨.hbm, 68, rfl⟩
abbrev main_call1_v0 : Ref sig .tc := ⟨.hbm, 69, rfl⟩
abbrev main_call1_v1 : Ref sig .tc := ⟨.hbm, 70, rfl⟩
abbrev main_call1_v2 : Ref sig .tc := ⟨.hbm, 71, rfl⟩
abbrev main_v57 : Ref sig .tc := ⟨.hbm, 72, rfl⟩
abbrev main_cst_5 : Ref sig .tc := ⟨.hbm, 73, rfl⟩
abbrev main_v58 : Ref sig .tc := ⟨.hbm, 74, rfl⟩
abbrev main_cst_6 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_7 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77_0 : Ref sig .tc := ⟨.hbm, 95, rfl⟩
abbrev main_v77_1 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![16, 4], ![false, false]⟩

@[reducible] def k0_t1_loop (i : grid0.Coords) : Scf.Loop 32 :=
  let c0_i32 : BitVec 32 := 0#32
  let arg1 : BitVec 32 := BitVec.ofNat 32 (i 1).val
  let c1_i32 : BitVec 32 := 1#32
  let v13 : BitVec 32 := Scalar.muli arg1 c1_i32
  let v14 : BitVec 32 := Scalar.subi v13 c0_i32
  let c1_i32_10 : BitVec 32 := 1#32
  let v16 : BitVec 32 := Scalar.divsi v14 c1_i32_10
  let v17 : BitVec 32 := Scalar.muli v16 c1_i32_10
  let v18 : BitVec 32 := Scalar.addi c0_i32 v17
  let c1_i32_11 : BitVec 32 := 1#32
  ⟨c0_i32, v18, c1_i32_11⟩
def k0_mult1 (i : grid0.Coords) (k0_t1 : Fin (k0_t1_loop i).trips) : BitVec 32 :=
  let c0_i32 : BitVec 32 := 0#32
  let c1_i32_11 : BitVec 32 := 1#32
  let arg11 : BitVec 32 := Scf.iv c0_i32 c1_i32_11 k0_t1
  let c1024_i32_32 : BitVec 32 := 1024#32
  let v68 : BitVec 32 := Scalar.muli arg11 c1024_i32_32
  v68
def k0_off1 (i : grid0.Coords) (k0_t1 : Fin (k0_t1_loop i).trips) : Fin 2 → Nat :=
  let c0_i32 : BitVec 32 := 0#32
  let c1_i32_11 : BitVec 32 := 1#32
  let arg11 : BitVec 32 := Scf.iv c0_i32 c1_i32_11 k0_t1
  let c1024_i32_32 : BitVec 32 := 1024#32
  let v68 : BitVec 32 := Scalar.muli arg11 c1024_i32_32
  let v69 : BitVec 32 := v68
  let v70 : Index := Scalar.indexCast v69
  let c0_33 : Index := 0#32
  ![v70.toNat, 0]
def k0_off2 (i : grid0.Coords) (k0_t1 : Fin (k0_t1_loop i).trips) : Fin 3 → Nat :=
  let c0_37 : Index := 0#32
  let c0_38 : Index := 0#32
  let c0_i32 : BitVec 32 := 0#32
  let c1_i32_11 : BitVec 32 := 1#32
  let arg11 : BitVec 32 := Scf.iv c0_i32 c1_i32_11 k0_t1
  let c1024_i32_32 : BitVec 32 := 1024#32
  let v68 : BitVec 32 := Scalar.muli arg11 c1024_i32_32
  let v69 : BitVec 32 := v68
  let v77 : Index := Scalar.indexCast v69
  ![0, 0, v77.toNat]
@[reducible] def k0_t2_loop (i : grid0.Coords) : Scf.Loop 32 :=
  let c0_i32 : BitVec 32 := 0#32
  let arg1 : BitVec 32 := BitVec.ofNat 32 (i 1).val
  let c1_i32 : BitVec 32 := 1#32
  let v13 : BitVec 32 := Scalar.muli arg1 c1_i32
  let v14 : BitVec 32 := Scalar.subi v13 c0_i32
  let c1_i32_10 : BitVec 32 := 1#32
  let v16 : BitVec 32 := Scalar.divsi v14 c1_i32_10
  let v17 : BitVec 32 := Scalar.muli v16 c1_i32_10
  let v18 : BitVec 32 := Scalar.addi c0_i32 v17
  let v15 : BitVec 32 := Scalar.addi c0_i32 v14
  let c1_i32_12 : BitVec 32 := 1#32
  ⟨v18, v15, c1_i32_12⟩
def k0_mult2 (i : grid0.Coords) (k0_t2 : Fin (k0_t2_loop i).trips) : BitVec 32 :=
  let c0_i32 : BitVec 32 := 0#32
  let arg1 : BitVec 32 := BitVec.ofNat 32 (i 1).val
  let c1_i32 : BitVec 32 := 1#32
  let v13 : BitVec 32 := Scalar.muli arg1 c1_i32
  let v14 : BitVec 32 := Scalar.subi v13 c0_i32
  let c1_i32_10 : BitVec 32 := 1#32
  let v16 : BitVec 32 := Scalar.divsi v14 c1_i32_10
  let v17 : BitVec 32 := Scalar.muli v16 c1_i32_10
  let v18 : BitVec 32 := Scalar.addi c0_i32 v17
  let c1_i32_12 : BitVec 32 := 1#32
  let arg11 : BitVec 32 := Scf.iv v18 c1_i32_12 k0_t2
  let c1024_i32_32 : BitVec 32 := 1024#32
  let v68 : BitVec 32 := Scalar.muli arg11 c1024_i32_32
  v68
def k0_off3 (i : grid0.Coords) (k0_t2 : Fin (k0_t2_loop i).trips) : Fin 2 → Nat :=
  let c0_i32 : BitVec 32 := 0#32
  let arg1 : BitVec 32 := BitVec.ofNat 32 (i 1).val
  let c1_i32 : BitVec 32 := 1#32
  let v13 : BitVec 32 := Scalar.muli arg1 c1_i32
  let v14 : BitVec 32 := Scalar.subi v13 c0_i32
  let c1_i32_10 : BitVec 32 := 1#32
  let v16 : BitVec 32 := Scalar.divsi v14 c1_i32_10
  let v17 : BitVec 32 := Scalar.muli v16 c1_i32_10
  let v18 : BitVec 32 := Scalar.addi c0_i32 v17
  let c1_i32_12 : BitVec 32 := 1#32
  let arg11 : BitVec 32 := Scf.iv v18 c1_i32_12 k0_t2
  let c1024_i32_32 : BitVec 32 := 1024#32
  let v68 : BitVec 32 := Scalar.muli arg11 c1024_i32_32
  let v69 : BitVec 32 := v68
  let v70 : Index := Scalar.indexCast v69
  let c0_33 : Index := 0#32
  ![v70.toNat, 0]
def k0_off4 (i : grid0.Coords) (k0_t2 : Fin (k0_t2_loop i).trips) : Fin 3 → Nat :=
  let c0_37 : Index := 0#32
  let c0_38 : Index := 0#32
  let c0_i32 : BitVec 32 := 0#32
  let arg1 : BitVec 32 := BitVec.ofNat 32 (i 1).val
  let c1_i32 : BitVec 32 := 1#32
  let v13 : BitVec 32 := Scalar.muli arg1 c1_i32
  let v14 : BitVec 32 := Scalar.subi v13 c0_i32
  let c1_i32_10 : BitVec 32 := 1#32
  let v16 : BitVec 32 := Scalar.divsi v14 c1_i32_10
  let v17 : BitVec 32 := Scalar.muli v16 c1_i32_10
  let v18 : BitVec 32 := Scalar.addi c0_i32 v17
  let c1_i32_12 : BitVec 32 := 1#32
  let arg11 : BitVec 32 := Scf.iv v18 c1_i32_12 k0_t2
  let c1024_i32_32 : BitVec 32 := 1024#32
  let v68 : BitVec 32 := Scalar.muli arg11 c1024_i32_32
  let v69 : BitVec 32 := v68
  let v77 : Index := Scalar.indexCast v69
  ![0, 0, v77.toNat]
def k0_mult3 (i : grid0.Coords) : BitVec 32 :=
  let arg1 : BitVec 32 := BitVec.ofNat 32 (i 1).val
  let c1_i32_13 : BitVec 32 := 1#32
  let v21 : BitVec 32 := Scalar.muli arg1 c1_i32_13
  let c0_i32_14 : BitVec 32 := 0#32
  let v22 : BitVec 32 := Scalar.addi v21 c0_i32_14
  let c1024_i32 : BitVec 32 := 1024#32
  let v23 : BitVec 32 := Scalar.muli v22 c1024_i32
  v23
def k0_off5 (i : grid0.Coords) : Fin 2 → Nat :=
  let arg1 : BitVec 32 := BitVec.ofNat 32 (i 1).val
  let c1_i32_13 : BitVec 32 := 1#32
  let v21 : BitVec 32 := Scalar.muli arg1 c1_i32_13
  let c0_i32_14 : BitVec 32 := 0#32
  let v22 : BitVec 32 := Scalar.addi v21 c0_i32_14
  let c1024_i32 : BitVec 32 := 1024#32
  let v23 : BitVec 32 := Scalar.muli v22 c1024_i32
  let v24 : BitVec 32 := v23
  let v25 : Index := Scalar.indexCast v24
  let c0_15 : Index := 0#32
  ![v25.toNat, 0]
def k0_off6 (i : grid0.Coords) : Fin 3 → Nat :=
  let c0_19 : Index := 0#32
  let c0_20 : Index := 0#32
  let arg1 : BitVec 32 := BitVec.ofNat 32 (i 1).val
  let c1_i32_13 : BitVec 32 := 1#32
  let v21 : BitVec 32 := Scalar.muli arg1 c1_i32_13
  let c0_i32_14 : BitVec 32 := 0#32
  let v22 : BitVec 32 := Scalar.addi v21 c0_i32_14
  let c1024_i32 : BitVec 32 := 1024#32
  let v23 : BitVec 32 := Scalar.muli v22 c1024_i32
  let v24 : BitVec 32 := v23
  let v32 : Index := Scalar.indexCast v24
  ![0, 0, v32.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== DqRefIdeal.lean ====
abbrev S4096x6144 : Shape := ⟨2, ![4096, 6144]⟩
abbrev S16x1x4096 : Shape := ⟨3, ![16, 1, 4096]⟩
abbrev S4096x2048 : Shape := ⟨2, ![4096, 2048]⟩
abbrev S16x4096 : Shape := ⟨2, ![16, 4096]⟩
abbrev S4096x16x128 : Shape := ⟨3, ![4096, 16, 128]⟩
abbrev S16x4096x128 : Shape := ⟨3, ![16, 4096, 128]⟩
abbrev S16x4096x4096 : Shape := ⟨3, ![16, 4096, 4096]⟩
abbrev S_ : Shape := ⟨0, ![]⟩
abbrev S16x4096x1 : Shape := ⟨3, ![16, 4096, 1]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩

abbrev nBuf : Space → Nat
  | .hbm => 115
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S16x1x4096, .f32⟩
  | .hbm, ⟨2, _⟩ => ⟨S4096x2048, .bf16⟩
  | .hbm, ⟨3, _⟩ => ⟨S4096x2048, .bf16⟩
  | .hbm, ⟨4, _⟩ => ⟨S4096x2048, .f32⟩
  | .hbm, ⟨5, _⟩ => ⟨S4096x2048, .bf16⟩
  | .hbm, ⟨6, _⟩ => ⟨S4096x2048, .f32⟩
  | .hbm, ⟨7, _⟩ => ⟨S4096x2048, .bf16⟩
  | .hbm, ⟨8, _⟩ => ⟨S4096x2048, .f32⟩
  | .hbm, ⟨9, _⟩ => ⟨S16x4096, .f32⟩
  | .hbm, ⟨10, _⟩ => ⟨S4096x16x128, .f32⟩
  | .hbm, ⟨11, _⟩ => ⟨S16x4096x128, .f32⟩
  | .hbm, ⟨12, _⟩ => ⟨S4096x16x128, .f32⟩
  | .hbm, ⟨13, _⟩ => ⟨S16x4096x128, .f32⟩
  | .hbm, ⟨14, _⟩ => ⟨S16x4096x4096, .f32⟩
  | .hbm, ⟨15, _⟩ => ⟨S_, .f32⟩
  | .hbm, ⟨16, _⟩ => ⟨S16x4096x4096, .f32⟩
  | .hbm, ⟨17, _⟩ => ⟨S16x4096x4096, .f32⟩
  | .hbm, ⟨18, _⟩ => ⟨S16x4096x1, .f32⟩
  | .hbm, ⟨19, _⟩ => ⟨S16x4096x4096, .f32⟩
  | .hbm, ⟨20, _⟩ => ⟨S16x4096x4096, .f32⟩
  | .hbm, ⟨21, _⟩ => ⟨S16x1x4096, .f32⟩
  | .hbm, ⟨22, _⟩ => ⟨S16x4096x4096, .f32⟩
  | .hbm, ⟨23, _⟩ => ⟨S16x4096x4096, .f32⟩
  | .hbm, ⟨24, _⟩ => ⟨S4096, .i32⟩
  | .hbm, ⟨25, _⟩ => ⟨S1x4096, .i32⟩
  | .hbm, ⟨26, _⟩ => ⟨S4096, .i32⟩
  | .hbm, ⟨27, _⟩ => ⟨S4096x1, .i32⟩
  | .hbm, ⟨28, _⟩ => ⟨S4096x4096, .i32⟩
  | .hbm, ⟨29, _⟩ => ⟨S4096x4096, .i32⟩
  | .hbm, ⟨30, _⟩ => ⟨S4096x4096, .i1⟩
  | .hbm, ⟨31, _⟩ => ⟨S_, .f32⟩
  | .hbm, ⟨32, _⟩ => ⟨S_, .f32⟩
  | .hbm, ⟨33, _⟩ => ⟨S16x4096x4096, .i1⟩
  | .hbm, ⟨34, _⟩ => ⟨S16x4096x4096, .f32⟩
  | .hbm, ⟨35, _⟩ => ⟨S16x4096x4096, .f32⟩
  | .hbm, ⟨36, _⟩ => ⟨S_, .f32⟩
  | .hbm, ⟨37, _⟩ => ⟨S16x4096x4096, .f32⟩
  | .hbm, ⟨38, _⟩ => ⟨S_, .f32⟩
  | .hbm, ⟨39, _⟩ => ⟨S16x4096, .f32⟩
  | .hbm, ⟨40, _⟩ => ⟨S16x4096x1, .f32⟩
  | .hbm, ⟨41, _⟩ => ⟨S16x4096x4096, .f32⟩
  | .hbm, ⟨42, _⟩ => ⟨S16x4096x4096, .i1⟩
  | .hbm, ⟨43, _⟩ => ⟨S16x4096x4096, .f32⟩
  | .hbm, ⟨44, _⟩ => ⟨S_, .f32⟩
  | .hbm, ⟨45, _⟩ => ⟨S16x4096, .f32⟩
  | .hbm, ⟨46, _⟩ => ⟨S_, .f32⟩
  | .hbm, ⟨47, _⟩ => ⟨S16x4096, .f32⟩
  | .hbm, ⟨48, _⟩ => ⟨S16x4096, .f32⟩
  | .hbm, ⟨49, _⟩ => ⟨S_, .f32⟩
  | .hbm, ⟨50, _⟩ => ⟨S16x4096, .f32⟩
  | .hbm, ⟨51, _⟩ => ⟨S16x4096, .i1⟩
  | .hbm, ⟨52, _⟩ => ⟨S_, .f32⟩
  | .hbm, ⟨53, _⟩ => ⟨S16x4096, .f32⟩
  | .hbm, ⟨54, _⟩ => ⟨S16x4096, .i1⟩
  | .hbm, ⟨55, _⟩ => ⟨S_, .f32⟩
  | .hbm, ⟨56, _⟩ => ⟨S16x4096, .f32⟩
  | .hbm, ⟨57, _⟩ => ⟨S_, .f32⟩
  | .hbm, ⟨58, _⟩ => ⟨S16x4096, .f32⟩
  | .hbm, ⟨59, _⟩ => ⟨S_, .f32⟩
  | .hbm, ⟨60, _⟩ => ⟨S16x4096, .f32⟩
  | .hbm, ⟨61, _⟩ => ⟨S16x4096, .f32⟩
  | .hbm, ⟨62, _⟩ => ⟨S16x4096, .f32⟩
  | .hbm, ⟨63, _⟩ => ⟨S16x4096x1, .f32⟩
  | .hbm, ⟨64, _⟩ => ⟨S16x4096x4096, .f32⟩
  | .hbm, ⟨65, _⟩ => ⟨S16x4096x4096, .f32⟩
  | .hbm, ⟨66, _⟩ => ⟨S16x4096x4096, .f32⟩
  | .hbm, ⟨67, _⟩ => ⟨S_, .f32⟩
  | .hbm, ⟨68, _⟩ => ⟨S16x4096, .f32⟩
  | .hbm, ⟨69, _⟩ => ⟨S16x4096x1, .f32⟩
  | .hbm, ⟨70, _⟩ => ⟨S16x4096x4096, .f32⟩
  | .hbm, ⟨71, _⟩ => ⟨S16x4096x4096, .f32⟩
  | .hbm, ⟨72, _⟩ => ⟨S16x4096x1, .f32⟩
  | .hbm, ⟨73, _⟩ => ⟨S_, .f32⟩
  | .hbm, ⟨74, _⟩ => ⟨S16x4096x1, .f32⟩
  | .hbm, ⟨75, _⟩ => ⟨S16x4096x1, .f32⟩
  | .hbm, ⟨76, _⟩ => ⟨S4096x16x128, .f32⟩
  | .hbm, ⟨77, _⟩ => ⟨S16x4096x128, .f32⟩
  | .hbm, ⟨78, _⟩ => ⟨S16x4096x128, .f32⟩
  | .hbm, ⟨79, _⟩ => ⟨S4096x16x128, .f32⟩
  | .hbm, ⟨80, _⟩ => ⟨S4096x2048, .f32⟩
  | .hbm, ⟨81, _⟩ => ⟨S4096x2048, .f32⟩
  | .hbm, ⟨82, _⟩ => ⟨S4096x16x128, .f32⟩
  | .hbm, ⟨83, _⟩ => ⟨S16x4096x128, .f32⟩
  | .hbm, ⟨84, _⟩ => ⟨S16x4096x4096, .f32⟩
  | .hbm, ⟨85, _⟩ => ⟨S16x4096x4096, .f32⟩
  | .hbm, ⟨86, _⟩ => ⟨S16x4096x4096, .f32⟩
  | .hbm, ⟨87, _⟩ => ⟨S16x4096x4096, .f32⟩
  | .hbm, ⟨88, _⟩ => ⟨S_, .f32⟩
  | .hbm, ⟨89, _⟩ => ⟨S16x4096, .f32⟩
  | .hbm, ⟨90, _⟩ => ⟨S16x4096x1, .f32⟩
  | .hbm, ⟨91, _⟩ => ⟨S16x4096x1, .f32⟩
  | .hbm, ⟨92, _⟩ => ⟨S16x4096x4096, .f32⟩
  | .hbm, ⟨93, _⟩ => ⟨S16x4096x4096, .f32⟩
  | .hbm, ⟨94, _⟩ => ⟨S_, .f32⟩
  | .hbm, ⟨95, _⟩ => ⟨S16x4096, .f32⟩
  | .hbm, ⟨96, _⟩ => ⟨S16x4096x4096, .f32⟩
  | .hbm, ⟨97, _⟩ => ⟨S16x4096x4096, .f32⟩
  | .hbm, ⟨98, _⟩ => ⟨S16x4096x4096, .f32⟩
  | .hbm, ⟨99, _⟩ => ⟨S_, .f32⟩
  | .hbm, ⟨100, _⟩ => ⟨S16x4096x4096, .f32⟩
  | .hbm, ⟨101, _⟩ => ⟨S16x4096x4096, .f32⟩
  | .hbm, ⟨102, _⟩ => ⟨S_, .f32⟩
  | .hbm, ⟨103, _⟩ => ⟨S16x4096, .f32⟩
  | .hbm, ⟨104, _⟩ => ⟨S16x4096x1, .f32⟩
  | .hbm, ⟨105, _⟩ => ⟨S_, .f32⟩
  | .hbm, ⟨106, _⟩ => ⟨S16x4096, .f32⟩
  | .hbm, ⟨107, _⟩ => ⟨S_, .f32⟩
  | .hbm, ⟨108, _⟩ => ⟨S16x4096x4096, .f32⟩
  | .hbm, ⟨109, _⟩ => ⟨S16x4096x4096, .f32⟩
  | .hbm, ⟨110, _⟩ => ⟨S16x4096x128, .f32⟩
  | .hbm, ⟨111, _⟩ => ⟨S4096x16x128, .f32⟩
  | .hbm, ⟨112, _⟩ => ⟨S4096x2048, .f32⟩
  | .hbm, ⟨113, _⟩ => ⟨S4096x2048, .bf16⟩
  | .hbm, ⟨114, _⟩ => ⟨S16x1x4096, .f32⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_cst_0 : Ref sig .tc := ⟨.hbm, 31, rfl⟩
abbrev main_call0_v0 : Ref sig .tc := ⟨.hbm, 32, rfl⟩
abbrev main_v27_1 : Ref sig .tc := ⟨.hbm, 33, rfl⟩
abbrev main_call0_v2 : Ref sig .tc := ⟨.hbm, 34, rfl⟩
abbrev main_v27_0 : Ref sig .tc := ⟨.hbm, 35, rfl⟩
abbrev main_call0_cst : Ref sig .tc := ⟨.hbm, 36, rfl⟩
abbrev main_v27_2 : Ref sig .tc := ⟨.hbm, 37, rfl⟩
abbrev main_cst_1 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_2 : Ref sig .tc := ⟨.hbm, 44, rfl⟩
abbrev main_v33 : Ref sig .tc := ⟨.hbm, 45, rfl⟩
abbrev main_cst_3 : Ref sig .tc := ⟨.hbm, 46, rfl⟩
abbrev main_v34 : Ref sig .tc := ⟨.hbm, 47, rfl⟩
abbrev main_v35 : Ref sig .tc := ⟨.hbm, 48, rfl⟩
abbrev main_cst_4 : Ref sig .tc := ⟨.hbm, 49, rfl⟩
abbrev main_v36 : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_v39 : Ref sig .tc := ⟨.hbm, 54, rfl⟩
abbrev main_cst_6 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_9 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_10 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_cst_11 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_cst_12 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_call1_cst : Ref sig .tc := ⟨.hbm, 99, rfl⟩
abbrev main_call1_v0 : Ref sig .tc := ⟨.hbm, 100, rfl⟩
abbrev main_v77 : Ref sig .tc := ⟨.hbm, 101, rfl⟩
abbrev main_cst_13 : Ref sig .tc := ⟨.hbm, 102, rfl⟩
abbrev main_v78 : Ref sig .tc := ⟨.hbm, 103, rfl⟩
abbrev main_v79 : Ref sig .tc := ⟨.hbm, 104, rfl⟩
abbrev main_cst_14 : Ref sig .tc := ⟨.hbm, 105, rfl⟩
abbrev main_v80 : Ref sig .tc := ⟨.hbm, 106, rfl⟩
abbrev main_cst_15 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩

abbrev nD : Nat := 1
abbrev τ : Topo := Topo.v7x

variable {F : FTy → Type} [FloatOps F]
-- ==== Dkv.lean ====
abbrev S4096x6144 : Shape := ⟨2, ![4096, 6144]⟩
abbrev S16x1x4096 : Shape := ⟨3, ![16, 1, 4096]⟩
abbrev S4096x2048 : Shape := ⟨2, ![4096, 2048]⟩
abbrev S16x4096 : Shape := ⟨2, ![16, 4096]⟩
abbrev S4096x16x128 : Shape := ⟨3, ![4096, 16, 128]⟩
abbrev S16x4096x128 : Shape := ⟨3, ![16, 4096, 128]⟩
abbrev S16x4096x4096 : Shape := ⟨3, ![16, 4096, 4096]⟩
abbrev S_ : Shape := ⟨0, ![]⟩
abbrev S16x4096x1 : Shape := ⟨3, ![16, 4096, 1]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1024x128 : Shape := ⟨2, ![1024, 128]⟩
abbrev S4096x128 : Shape := ⟨2, ![4096, 128]⟩
abbrev S1x4096x128 : Shape := ⟨3, ![1, 4096, 128]⟩
abbrev S1x1x1024 : Shape := ⟨3, ![1, 1, 1024]⟩
abbrev S1x1024 : Shape := ⟨2, ![1, 1024]⟩
abbrev S1024 : Shape := ⟨1, ![1024]⟩
abbrev S1024x1 : Shape := ⟨2, ![1024, 1]⟩
abbrev S1x1024x1 : Shape := ⟨3, ![1, 1024, 1]⟩
abbrev S1024x1024 : Shape := ⟨2, ![1024, 1024]⟩

abbrev nBuf : Space → Nat
  | .hbm => 98
  | .vmem => 20
  | .smem => 0
  | _ => 0

abbrev bufTy : (tb : Table) → Fin (tcTables nBuf tb) → BufTy
  | .hbm, ⟨0, _⟩ => ⟨S4096x6144, .bf16⟩
  | .hbm, ⟨1, _⟩ => ⟨S16x1x4096, .f32⟩
  | .hbm, ⟨2, _⟩ => ⟨S4096x2048, .bf16⟩
  | .hbm, ⟨3, _⟩ => ⟨S4096x2048, .bf16⟩
  | .hbm, ⟨4, _⟩ => ⟨S4096x2048, .f32⟩
  | .hbm, ⟨5, _⟩ => ⟨S4096x2048, .bf16⟩
  | .hbm, ⟨6, _⟩ => ⟨S4096x2048, .f32⟩
  | .hbm, ⟨7, _⟩ => ⟨S4096x2048, .bf16⟩
  | .hbm, ⟨8, _⟩ => ⟨S4096x2048, .f32⟩
  | .hbm, ⟨9, _⟩ => ⟨S16x4096, .f32⟩
  | .hbm, ⟨10, _⟩ => ⟨S4096x16x128, .f32⟩
  | .hbm, ⟨11, _⟩ => ⟨S16x4096x128, .f32⟩
  | .hbm, ⟨12, _⟩ => ⟨S4096x16x128, .f32⟩
  | .hbm, ⟨13, _⟩ => ⟨S16x4096x128, .f32⟩
  | .hbm, ⟨14, _⟩ => ⟨S16x4096x4096, .f32⟩
  | .hbm, ⟨15, _⟩ => ⟨S_, .f32⟩
  | .hbm, ⟨16, _⟩ => ⟨S16x4096x4096, .f32⟩
  | .hbm, ⟨17, _⟩ => ⟨S16x4096x4096, .f32⟩
  | .hbm, ⟨18, _⟩ => ⟨S16x4096x1, .f32⟩
  | .hbm, ⟨19, _⟩ => ⟨S16x4096x4096, .f32⟩
  | .hbm, ⟨20, _⟩ => ⟨S16x4096x4096, .f32⟩
  | .hbm, ⟨21, _⟩ => ⟨S16x1x4096, .f32⟩
  | .hbm, ⟨22, _⟩ => ⟨S16x4096x4096, .f32⟩
  | .hbm, ⟨23, _⟩ => ⟨S16x4096x4096, .f32⟩
  | .hbm, ⟨24, _⟩ => ⟨S4096, .i32⟩
  | .hbm, ⟨25, _⟩ => ⟨S1x4096, .i32⟩
  | .hbm, ⟨26, _⟩ => ⟨S4096, .i32⟩
  | .hbm, ⟨27, _⟩ => ⟨S4096x1, .i32⟩
  | .hbm, ⟨28, _⟩ => ⟨S4096x4096, .i32⟩
  | .hbm, ⟨29, _⟩ => ⟨S4096x4096, .i32⟩
  | .hbm, ⟨30, _⟩ => ⟨S4096x4096, .i1⟩
  | .hbm, ⟨31, _⟩ => ⟨S_, .f32⟩
  | .hbm, ⟨32, _⟩ => ⟨S_, .f32⟩
  | .hbm, ⟨33, _⟩ => ⟨S16x4096x4096, .i1⟩
  | .hbm, ⟨34, _⟩ => ⟨S16x4096x4096, .f32⟩
  | .hbm, ⟨35, _⟩ => ⟨S16x4096x4096, .f32⟩
  | .hbm, ⟨36, _⟩ => ⟨S_, .f32⟩
  | .hbm, ⟨37, _⟩ => ⟨S16x4096, .f32⟩
  | .hbm, ⟨38, _⟩ => ⟨S16x4096x1, .f32⟩
  | .hbm, ⟨39, _⟩ => ⟨S16x4096x4096, .f32⟩
  | .hbm, ⟨40, _⟩ => ⟨S16x4096x4096, .f32⟩
  | .hbm, ⟨41, _⟩ => ⟨S16x4096x4096, .f32⟩
  | .hbm, ⟨42, _⟩ => ⟨S_, .f32⟩
  | .hbm, ⟨43, _⟩ => ⟨S16x4096, .f32⟩
  | .hbm, ⟨44, _⟩ => ⟨S16x4096, .f32⟩
  | .hbm, ⟨45, _⟩ => ⟨S16x4096, .f32⟩
  | .hbm, ⟨46, _⟩ => ⟨S16x4096, .f32⟩
  | .hbm, ⟨47, _⟩ => ⟨S4096x16x128, .f32⟩
  | .hbm, ⟨48, _⟩ => ⟨S16x4096x128, .f32⟩
  | .hbm, ⟨49, _⟩ => ⟨S4096x16x128, .f32⟩
  | .hbm, ⟨50, _⟩ => ⟨S16x4096x128, .f32⟩
  | .hbm, ⟨51, _⟩ => ⟨S16x4096x4096, .f32⟩
  | .hbm, ⟨52, _⟩ => ⟨S_, .f32⟩
  | .hbm, ⟨53, _⟩ => ⟨S16x4096x4096, .f32⟩
  | .hbm, ⟨54, _⟩ => ⟨S16x4096x4096, .f32⟩
  | .hbm, ⟨55, _⟩ => ⟨S16x4096x1, .f32⟩
  | .hbm, ⟨56, _⟩ => ⟨S16x4096x4096, .f32⟩
  | .hbm, ⟨57, _⟩ => ⟨S16x4096x4096, .f32⟩
  | .hbm, ⟨58, _⟩ => ⟨S16x1x4096, .f32⟩
  | .hbm, ⟨59, _⟩ => ⟨S16x4096x4096, .f32⟩
  | .hbm, ⟨60, _⟩ => ⟨S16x4096x4096, .f32⟩
  | .hbm, ⟨61, _⟩ => ⟨S4096, .i32⟩
  | .hbm, ⟨62, _⟩ => ⟨S1x4096, .i32⟩
  | .hbm, ⟨63, _⟩ => ⟨S4096, .i32⟩
  | .hbm, ⟨64, _⟩ => ⟨S4096x1, .i32⟩
  | .hbm, ⟨65, _⟩ => ⟨S4096x4096, .i32⟩
  | .hbm, ⟨66, _⟩ => ⟨S4096x4096, .i32⟩
  | .hbm, ⟨67, _⟩ => ⟨S4096x4096, .i1⟩
  | .hbm, ⟨68, _⟩ => ⟨S_, .f32⟩
  | .hbm, ⟨69, _⟩ => ⟨S_, .f32⟩
  | .hbm, ⟨70, _⟩ => ⟨S16x4096x4096, .i1⟩
  | .hbm, ⟨71, _⟩ => ⟨S16x4096x4096, .f32⟩
  | .hbm, ⟨72, _⟩ => ⟨S16x4096x4096, .f32⟩
  | .hbm, ⟨73, _⟩ => ⟨S_, .f32⟩
  | .hbm, ⟨74, _⟩ => ⟨S16x4096, .f32⟩
  | .hbm, ⟨75, _⟩ => ⟨S_, .f32⟩
  | .hbm, ⟨76, _⟩ => ⟨S16x4096, .f32⟩
  | .hbm, ⟨77, _⟩ => ⟨S16x4096, .f32⟩
  | .hbm, ⟨78, _⟩ => ⟨S16x4096x1, .f32⟩
  | .hbm, ⟨79, _⟩ => ⟨S16x4096x4096, .f32⟩
  | .hbm, ⟨80, _⟩ => ⟨S16x4096x4096, .f32⟩
  | .hbm, ⟨81, _⟩ => ⟨S16x4096x4096, .f32⟩
  | .hbm, ⟨82, _⟩ => ⟨S_, .f32⟩
  | .hbm, ⟨83, _⟩ => ⟨S16x4096, .f32⟩
  | .hbm, ⟨84, _⟩ => ⟨S16x4096x1, .f32⟩
  | .hbm, ⟨85, _⟩ => ⟨S16x4096x4096, .f32⟩
  | .hbm, ⟨86, _⟩ => ⟨S16x4096x4096, .f32⟩
  | .hbm, ⟨87, _⟩ => ⟨S4096x16x128, .f32⟩
  | .hbm, ⟨88, _⟩ => ⟨S16x4096x128, .f32⟩
  | .hbm, ⟨89, _⟩ => ⟨S16x4096x128, .f32⟩
  | .hbm, ⟨90, _⟩ => ⟨S4096x16x128, .f32⟩
  | .hbm, ⟨91, _⟩ => ⟨S4096x2048, .f32⟩
  | .hbm, ⟨92, _⟩ => ⟨S4096x2048, .bf16⟩
  | .hbm, ⟨93, _⟩ => ⟨S16x4096x1, .f32⟩
  | .hbm, ⟨94, _⟩ => ⟨S16x4096x128, .f32⟩
  | .hbm, ⟨95, _⟩ => ⟨S4096x2048, .bf16⟩
  | .hbm, ⟨96, _⟩ => ⟨S4096x2048, .bf16⟩
  | .hbm, ⟨97, _⟩ => ⟨S16x1x4096, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S4096x128, .bf16⟩
  | .local _ .vmem, ⟨5, _⟩ => ⟨S4096x128, .bf16⟩
  | .local _ .vmem, ⟨6, _⟩ => ⟨S4096x128, .bf16⟩
  | .local _ .vmem, ⟨7, _⟩ => ⟨S4096x128, .bf16⟩
  | .local _ .vmem, ⟨8, _⟩ => ⟨S4096x128, .bf16⟩
  | .local _ .vmem, ⟨9, _⟩ => ⟨S4096x128, .bf16⟩
  | .local _ .vmem, ⟨10, _⟩ => ⟨S1x4096x128, .f32⟩
  | .local _ .vmem, ⟨11, _⟩ => ⟨S1x4096x128, .f32⟩
  | .local _ .vmem, ⟨12, _⟩ => ⟨S1x1x1024, .f32⟩
  | .local _ .vmem, ⟨13, _⟩ => ⟨S1x1x1024, .f32⟩
  | .local _ .vmem, ⟨14, _⟩ => ⟨S1024x128, .bf16⟩
  | .local _ .vmem, ⟨15, _⟩ => ⟨S1024x128, .bf16⟩
  | .local _ .vmem, ⟨16, _⟩ => ⟨S1024x128, .bf16⟩
  | .local _ .vmem, ⟨17, _⟩ => ⟨S1024x128, .bf16⟩
  | .local _ .vmem, ⟨18, _⟩ => ⟨S1x1x1024, .f32⟩
  | .local _ .vmem, ⟨19, _⟩ => ⟨S1x1x1024, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_cst_0 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v27 : Ref sig .tc := ⟨.hbm, 35, rfl⟩
abbrev main_cst_1 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_2 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_3 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_cst_4 : Ref sig .tc := ⟨.hbm, 68, rfl⟩
abbrev main_call1_v0 : Ref sig .tc := ⟨.hbm, 69, rfl⟩
abbrev main_call1_v1 : Ref sig .tc := ⟨.hbm, 70, rfl⟩
abbrev main_call1_v2 : Ref sig .tc := ⟨.hbm, 71, rfl⟩
abbrev main_v57 : Ref sig .tc := ⟨.hbm, 72, rfl⟩
abbrev main_cst_5 : Ref sig .tc := ⟨.hbm, 73, rfl⟩
abbrev main_v58 : Ref sig .tc := ⟨.hbm, 74, rfl⟩
abbrev main_cst_6 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_7 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77_0 : Ref sig .tc := ⟨.hbm, 95, rfl⟩
abbrev main_v77_1 : Ref sig .tc := ⟨.hbm, 96, rfl⟩
abbrev main_v77_2 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let arg1 : BitVec 32 := BitVec.ofNat 32 (i 1).val
  let c1_i32 : BitVec 32 := 1#32
  let v7 : BitVec 32 := Scalar.muli arg1 c1_i32
  let c0_i32 : BitVec 32 := 0#32
  let v8 : BitVec 32 := Scalar.addi v7 c0_i32
  let c1024_i32 : BitVec 32 := 1024#32
  let v9 : BitVec 32 := Scalar.muli v8 c1024_i32
  v9
def k0_off1 (i : grid0.Coords) : Fin 2 → Nat :=
  let arg1 : BitVec 32 := BitVec.ofNat 32 (i 1).val
  let c1_i32 : BitVec 32 := 1#32
  let v7 : BitVec 32 := Scalar.muli arg1 c1_i32
  let c0_i32 : BitVec 32 := 0#32
  let v8 : BitVec 32 := Scalar.addi v7 c0_i32
  let c1024_i32 : BitVec 32 := 1024#32
  let v9 : BitVec 32 := Scalar.muli v8 c1024_i32
  let v10 : BitVec 32 := v9
  let v11 : Index := Scalar.indexCast v10
  let c0_8 : Index := 0#32
  ![v11.toNat, 0]
def k0_off2 (i : grid0.Coords) : Fin 3 → Nat :=
  let c0_12 : Index := 0#32
  let arg1 : BitVec 32 := BitVec.ofNat 32 (i 1).val
  let c1_i32 : BitVec 32 := 1#32
  let v7 : BitVec 32 := Scalar.muli arg1 c1_i32
  let c0_i32 : BitVec 32 := 0#32
  let v8 : BitVec 32 := Scalar.addi v7 c0_i32
  let c1024_i32 : BitVec 32 := 1024#32
  let v9 : BitVec 32 := Scalar.muli v8 c1024_i32
  let v10 : BitVec 32 := v9
  let v23 : Index := Scalar.indexCast v10
  let c0_13 : Index := 0#32
  ![0, v23.toNat, 0]
@[reducible] def k0_t1_loop (i : grid0.Coords) : Scf.Loop 32 :=
  let arg1 : BitVec 32 := BitVec.ofNat 32 (i 1).val
  let c1_i32_22 : BitVec 32 := 1#32
  let v54 : BitVec 32 := Scalar.addi arg1 c1_i32_22
  let c1_i32_23 : BitVec 32 := 1#32
  let v55 : BitVec 32 := Scalar.muli v54 c1_i32_23
  let c4_i32 : BitVec 32 := 4#32
  let v56 : BitVec 32 := Scalar.subi c4_i32 v55
  let c1_i32_24 : BitVec 32 := 1#32
  let v58 : BitVec 32 := Scalar.divsi v56 c1_i32_24
  let v59 : BitVec 32 := Scalar.muli v58 c1_i32_24
  let v60 : BitVec 32 := Scalar.addi v55 v59
  let c1_i32_25 : BitVec 32 := 1#32
  ⟨v55, v60, c1_i32_25⟩
def k0_mult2 (i : grid0.Coords) (k0_t1 : Fin (k0_t1_loop i).trips) : BitVec 32 :=
  let arg1 : BitVec 32 := BitVec.ofNat 32 (i 1).val
  let c1_i32_22 : BitVec 32 := 1#32
  let v54 : BitVec 32 := Scalar.addi arg1 c1_i32_22
  let c1_i32_23 : BitVec 32 := 1#32
  let v55 : BitVec 32 := Scalar.muli v54 c1_i32_23
  let c1_i32_25 : BitVec 32 := 1#32
  let arg12 : BitVec 32 := Scf.iv v55 c1_i32_25 k0_t1
  let c1024_i32_35 : BitVec 32 := 1024#32
  let v72 : BitVec 32 := Scalar.muli arg12 c1024_i32_35
  v72
def k0_off3 (i : grid0.Coords) (k0_t1 : Fin (k0_t1_loop i).trips) : Fin 2 → Nat :=
  let arg1 : BitVec 32 := BitVec.ofNat 32 (i 1).val
  let c1_i32_22 : BitVec 32 := 1#32
  let v54 : BitVec 32 := Scalar.addi arg1 c1_i32_22
  let c1_i32_23 : BitVec 32 := 1#32
  let v55 : BitVec 32 := Scalar.muli v54 c1_i32_23
  let c1_i32_25 : BitVec 32 := 1#32
  let arg12 : BitVec 32 := Scf.iv v55 c1_i32_25 k0_t1
  let c1024_i32_35 : BitVec 32 := 1024#32
  let v72 : BitVec 32 := Scalar.muli arg12 c1024_i32_35
  let v73 : BitVec 32 := v72
  let v74 : Index := Scalar.indexCast v73
  let c0_36 : Index := 0#32
  ![v74.toNat, 0]
def k0_off4 (i : grid0.Coords) (k0_t1 : Fin (k0_t1_loop i).trips) : Fin 3 → Nat :=
  let c0_40 : Index := 0#32
  let arg1 : BitVec 32 := BitVec.ofNat 32 (i 1).val
  let c1_i32_22 : BitVec 32 := 1#32
  let v54 : BitVec 32 := Scalar.addi arg1 c1_i32_22
  let c1_i32_23 : BitVec 32 := 1#32
  let v55 : BitVec 32 := Scalar.muli v54 c1_i32_23
  let c1_i32_25 : BitVec 32 := 1#32
  let arg12 : BitVec 32 := Scf.iv v55 c1_i32_25 k0_t1
  let c1024_i32_35 : BitVec 32 := 1024#32
  let v72 : BitVec 32 := Scalar.muli arg12 c1024_i32_35
  let v73 : BitVec 32 := v72
  let v86 : Index := Scalar.indexCast v73
  let c0_41 : Index := 0#32
  ![0, v86.toNat, 0]
@[reducible] def k0_t2_loop (i : grid0.Coords) : Scf.Loop 32 :=
  let arg1 : BitVec 32 := BitVec.ofNat 32 (i 1).val
  let c1_i32_22 : BitVec 32 := 1#32
  let v54 : BitVec 32 := Scalar.addi arg1 c1_i32_22
  let c1_i32_23 : BitVec 32 := 1#32
  let v55 : BitVec 32 := Scalar.muli v54 c1_i32_23
  let c4_i32 : BitVec 32 := 4#32
  let v56 : BitVec 32 := Scalar.subi c4_i32 v55
  let c1_i32_24 : BitVec 32 := 1#32
  let v58 : BitVec 32 := Scalar.divsi v56 c1_i32_24
  let v59 : BitVec 32 := Scalar.muli v58 c1_i32_24
  let v60 : BitVec 32 := Scalar.addi v55 v59
  let v57 : BitVec 32 := Scalar.addi v55 v56
  let c1_i32_26 : BitVec 32 := 1#32
  ⟨v60, v57, c1_i32_26⟩
def k0_mult3 (i : grid0.Coords) (k0_t2 : Fin (k0_t2_loop i).trips) : BitVec 32 :=
  let arg1 : BitVec 32 := BitVec.ofNat 32 (i 1).val
  let c1_i32_22 : BitVec 32 := 1#32
  let v54 : BitVec 32 := Scalar.addi arg1 c1_i32_22
  let c1_i32_23 : BitVec 32 := 1#32
  let v55 : BitVec 32 := Scalar.muli v54 c1_i32_23
  let c4_i32 : BitVec 32 := 4#32
  let v56 : BitVec 32 := Scalar.subi c4_i32 v55
  let c1_i32_24 : BitVec 32 := 1#32
  let v58 : BitVec 32 := Scalar.divsi v56 c1_i32_24
  let v59 : BitVec 32 := Scalar.muli v58 c1_i32_24
  let v60 : BitVec 32 := Scalar.addi v55 v59
  let c1_i32_26 : BitVec 32 := 1#32
  let arg12 : BitVec 32 := Scf.iv v60 c1_i32_26 k0_t2
  let c1024_i32_35 : BitVec 32 := 1024#32
  let v72 : BitVec 32 := Scalar.muli arg12 c1024_i32_35
  v72
def k0_off5 (i : grid0.Coords) (k0_t2 : Fin (k0_t2_loop i).trips) : Fin 2 → Nat :=
  let arg1 : BitVec 32 := BitVec.ofNat 32 (i 1).val
  let c1_i32_22 : BitVec 32 := 1#32
  let v54 : BitVec 32 := Scalar.addi arg1 c1_i32_22
  let c1_i32_23 : BitVec 32 := 1#32
  let v55 : BitVec 32 := Scalar.muli v54 c1_i32_23
  let c4_i32 : BitVec 32 := 4#32
  let v56 : BitVec 32 := Scalar.subi c4_i32 v55
  let c1_i32_24 : BitVec 32 := 1#32
  let v58 : BitVec 32 := Scalar.divsi v56 c1_i32_24
  let v59 : BitVec 32 := Scalar.muli v58 c1_i32_24
  let v60 : BitVec 32 := Scalar.addi v55 v59
  let c1_i32_26 : BitVec 32 := 1#32
  let arg12 : BitVec 32 := Scf.iv v60 c1_i32_26 k0_t2
  let c1024_i32_35 : BitVec 32 := 1024#32
  let v72 : BitVec 32 := Scalar.muli arg12 c1024_i32_35
  let v73 : BitVec 32 := v72
  let v74 : Index := Scalar.indexCast v73
  let c0_36 : Index := 0#32
  ![v74.toNat, 0]
def k0_off6 (i : grid0.Coords) (k0_t2 : Fin (k0_t2_loop i).trips) : Fin 3 → Nat :=
  let c0_40 : Index := 0#32
  let arg1 : BitVec 32 := BitVec.ofNat 32 (i 1).val
  let c1_i32_22 : BitVec 32 := 1#32
  let v54 : BitVec 32 := Scalar.addi arg1 c1_i32_22
  let c1_i32_23 : BitVec 32 := 1#32
  let v55 : BitVec 32 := Scalar.muli v54 c1_i32_23
  let c4_i32 : BitVec 32 := 4#32
  let v56 : BitVec 32 := Scalar.subi c4_i32 v55
  let c1_i32_24 : BitVec 32 := 1#32
  let v58 : BitVec 32 := Scalar.divsi v56 c1_i32_24
  let v59 : BitVec 32 := Scalar.muli v58 c1_i32_24
  let v60 : BitVec 32 := Scalar.addi v55 v59
  let c1_i32_26 : BitVec 32 := 1#32
  let arg12 : BitVec 32 := Scf.iv v60 c1_i32_26 k0_t2
  let c1024_i32_35 : BitVec 32 := 1024#32
  let v72 : BitVec 32 := Scalar.muli arg12 c1024_i32_35
  let v73 : BitVec 32 := v72
  let v86 : Index := Scalar.indexCast v73
  let c0_41 : Index := 0#32
  ![0, v86.toNat, 0]
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== DkvRefIdeal.lean ====
abbrev S4096x6144 : Shape := ⟨2, ![4096, 6144]⟩
abbrev S16x1x4096 : Shape := ⟨3, ![16, 1, 4096]⟩
abbrev S4096x2048 : Shape := ⟨2, ![4096, 2048]⟩
abbrev S16x4096 : Shape := ⟨2, ![16, 4096]⟩
abbrev S4096x16x128 : Shape := ⟨3, ![4096, 16, 128]⟩
abbrev S16x4096x128 : Shape := ⟨3, ![16, 4096, 128]⟩
abbrev S16x4096x4096 : Shape := ⟨3, ![16, 4096, 4096]⟩
abbrev S_ : Shape := ⟨0, ![]⟩
abbrev S16x4096x1 : Shape := ⟨3, ![16, 4096, 1]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x128x4096 : Shape := ⟨3, ![16, 128, 4096]⟩

abbrev nBuf : Space → Nat
  | .hbm => 121
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S16x1x4096, .f32⟩
  | .hbm, ⟨2, _⟩ => ⟨S4096x2048, .bf16⟩
  | .hbm, ⟨3, _⟩ => ⟨S4096x2048, .bf16⟩
  | .hbm, ⟨4, _⟩ => ⟨S4096x2048, .f32⟩
  | .hbm, ⟨5, _⟩ => ⟨S4096x2048, .bf16⟩
  | .hbm, ⟨6, _⟩ => ⟨S4096x2048, .f32⟩
  | .hbm, ⟨7, _⟩ => ⟨S4096x2048, .bf16⟩
  | .hbm, ⟨8, _⟩ => ⟨S4096x2048, .f32⟩
  | .hbm, ⟨9, _⟩ => ⟨S16x4096, .f32⟩
  | .hbm, ⟨10, _⟩ => ⟨S4096x16x128, .f32⟩
  | .hbm, ⟨11, _⟩ => ⟨S16x4096x128, .f32⟩
  | .hbm, ⟨12, _⟩ => ⟨S4096x16x128, .f32⟩
  | .hbm, ⟨13, _⟩ => ⟨S16x4096x128, .f32⟩
  | .hbm, ⟨14, _⟩ => ⟨S16x4096x4096, .f32⟩
  | .hbm, ⟨15, _⟩ => ⟨S_, .f32⟩
  | .hbm, ⟨16, _⟩ => ⟨S16x4096x4096, .f32⟩
  | .hbm, ⟨17, _⟩ => ⟨S16x4096x4096, .f32⟩
  | .hbm, ⟨18, _⟩ => ⟨S16x4096x1, .f32⟩
  | .hbm, ⟨19, _⟩ => ⟨S16x4096x4096, .f32⟩
  | .hbm, ⟨20, _⟩ => ⟨S16x4096x4096, .f32⟩
  | .hbm, ⟨21, _⟩ => ⟨S16x1x4096, .f32⟩
  | .hbm, ⟨22, _⟩ => ⟨S16x4096x4096, .f32⟩
  | .hbm, ⟨23, _⟩ => ⟨S16x4096x4096, .f32⟩
  | .hbm, ⟨24, _⟩ => ⟨S4096, .i32⟩
  | .hbm, ⟨25, _⟩ => ⟨S1x4096, .i32⟩
  | .hbm, ⟨26, _⟩ => ⟨S4096, .i32⟩
  | .hbm, ⟨27, _⟩ => ⟨S4096x1, .i32⟩
  | .hbm, ⟨28, _⟩ => ⟨S4096x4096, .i32⟩
  | .hbm, ⟨29, _⟩ => ⟨S4096x4096, .i32⟩
  | .hbm, ⟨30, _⟩ => ⟨S4096x4096, .i1⟩
  | .hbm, ⟨31, _⟩ => ⟨S_, .f32⟩
  | .hbm, ⟨32, _⟩ => ⟨S_, .f32⟩
  | .hbm, ⟨33, _⟩ => ⟨S16x4096x4096, .i1⟩
  | .hbm, ⟨34, _⟩ => ⟨S16x4096x4096, .f32⟩
  | .hbm, ⟨35, _⟩ => ⟨S16x4096x4096, .f32⟩
  | .hbm, ⟨36, _⟩ => ⟨S_, .f32⟩
  | .hbm, ⟨37, _⟩ => ⟨S16x4096x4096, .f32⟩
  | .hbm, ⟨38, _⟩ => ⟨S_, .f32⟩
  | .hbm, ⟨39, _⟩ => ⟨S16x4096, .f32⟩
  | .hbm, ⟨40, _⟩ => ⟨S16x4096x1, .f32⟩
  | .hbm, ⟨41, _⟩ => ⟨S16x4096x4096, .f32⟩
  | .hbm, ⟨42, _⟩ => ⟨S16x4096x4096, .i1⟩
  | .hbm, ⟨43, _⟩ => ⟨S16x4096x4096, .f32⟩
  | .hbm, ⟨44, _⟩ => ⟨S_, .f32⟩
  | .hbm, ⟨45, _⟩ => ⟨S16x4096, .f32⟩
  | .hbm, ⟨46, _⟩ => ⟨S_, .f32⟩
  | .hbm, ⟨47, _⟩ => ⟨S16x4096, .f32⟩
  | .hbm, ⟨48, _⟩ => ⟨S16x4096, .f32⟩
  | .hbm, ⟨49, _⟩ => ⟨S_, .f32⟩
  | .hbm, ⟨50, _⟩ => ⟨S16x4096, .f32⟩
  | .hbm, ⟨51, _⟩ => ⟨S16x4096, .i1⟩
  | .hbm, ⟨52, _⟩ => ⟨S_, .f32⟩
  | .hbm, ⟨53, _⟩ => ⟨S16x4096, .f32⟩
  | .hbm, ⟨54, _⟩ => ⟨S16x4096, .i1⟩
  | .hbm, ⟨55, _⟩ => ⟨S_, .f32⟩
  | .hbm, ⟨56, _⟩ => ⟨S16x4096, .f32⟩
  | .hbm, ⟨57, _⟩ => ⟨S_, .f32⟩
  | .hbm, ⟨58, _⟩ => ⟨S16x4096, .f32⟩
  | .hbm, ⟨59, _⟩ => ⟨S_, .f32⟩
  | .hbm, ⟨60, _⟩ => ⟨S16x4096, .f32⟩
  | .hbm, ⟨61, _⟩ => ⟨S16x4096, .f32⟩
  | .hbm, ⟨62, _⟩ => ⟨S16x4096, .f32⟩
  | .hbm, ⟨63, _⟩ => ⟨S16x4096x1, .f32⟩
  | .hbm, ⟨64, _⟩ => ⟨S16x4096x4096, .f32⟩
  | .hbm, ⟨65, _⟩ => ⟨S16x4096x4096, .f32⟩
  | .hbm, ⟨66, _⟩ => ⟨S16x4096x4096, .f32⟩
  | .hbm, ⟨67, _⟩ => ⟨S_, .f32⟩
  | .hbm, ⟨68, _⟩ => ⟨S16x4096, .f32⟩
  | .hbm, ⟨69, _⟩ => ⟨S16x4096x1, .f32⟩
  | .hbm, ⟨70, _⟩ => ⟨S16x4096x4096, .f32⟩
  | .hbm, ⟨71, _⟩ => ⟨S16x4096x4096, .f32⟩
  | .hbm, ⟨72, _⟩ => ⟨S16x4096x1, .f32⟩
  | .hbm, ⟨73, _⟩ => ⟨S_, .f32⟩
  | .hbm, ⟨74, _⟩ => ⟨S16x4096x1, .f32⟩
  | .hbm, ⟨75, _⟩ => ⟨S16x4096x1, .f32⟩
  | .hbm, ⟨76, _⟩ => ⟨S4096x16x128, .f32⟩
  | .hbm, ⟨77, _⟩ => ⟨S16x4096x128, .f32⟩
  | .hbm, ⟨78, _⟩ => ⟨S16x4096x128, .f32⟩
  | .hbm, ⟨79, _⟩ => ⟨S4096x16x128, .f32⟩
  | .hbm, ⟨80, _⟩ => ⟨S4096x2048, .f32⟩
  | .hbm, ⟨81, _⟩ => ⟨S4096x2048, .f32⟩
  | .hbm, ⟨82, _⟩ => ⟨S4096x16x128, .f32⟩
  | .hbm, ⟨83, _⟩ => ⟨S16x4096x128, .f32⟩
  | .hbm, ⟨84, _⟩ => ⟨S16x128x4096, .f32⟩
  | .hbm, ⟨85, _⟩ => ⟨S16x4096x128, .f32⟩
  | .hbm, ⟨86, _⟩ => ⟨S16x4096x4096, .f32⟩
  | .hbm, ⟨87, _⟩ => ⟨S4096x16x128, .f32⟩
  | .hbm, ⟨88, _⟩ => ⟨S4096x2048, .f32⟩
  | .hbm, ⟨89, _⟩ => ⟨S16x4096x4096, .f32⟩
  | .hbm, ⟨90, _⟩ => ⟨S16x4096x4096, .f32⟩
  | .hbm, ⟨91, _⟩ => ⟨S16x4096x4096, .f32⟩
  | .hbm, ⟨92, _⟩ => ⟨S_, .f32⟩
  | .hbm, ⟨93, _⟩ => ⟨S16x4096, .f32⟩
  | .hbm, ⟨94, _⟩ => ⟨S16x4096x1, .f32⟩
  | .hbm, ⟨95, _⟩ => ⟨S16x4096x1, .f32⟩
  | .hbm, ⟨96, _⟩ => ⟨S16x4096x4096, .f32⟩
  | .hbm, ⟨97, _⟩ => ⟨S16x4096x4096, .f32⟩
  | .hbm, ⟨98, _⟩ => ⟨S_, .f32⟩
  | .hbm, ⟨99, _⟩ => ⟨S16x4096, .f32⟩
  | .hbm, ⟨100, _⟩ => ⟨S16x4096x4096, .f32⟩
  | .hbm, ⟨101, _⟩ => ⟨S16x4096x4096, .f32⟩
  | .hbm, ⟨102, _⟩ => ⟨S16x4096x4096, .f32⟩
  | .hbm, ⟨103, _⟩ => ⟨S_, .f32⟩
  | .hbm, ⟨104, _⟩ => ⟨S16x4096x4096, .f32⟩
  | .hbm, ⟨105, _⟩ => ⟨S16x4096x4096, .f32⟩
  | .hbm, ⟨106, _⟩ => ⟨S16x4096x4096, .f32⟩
  | .hbm, ⟨107, _⟩ => ⟨S_, .f32⟩
  | .hbm, ⟨108, _⟩ => ⟨S16x4096, .f32⟩
  | .hbm, ⟨109, _⟩ => ⟨S16x1x4096, .f32⟩
  | .hbm, ⟨110, _⟩ => ⟨S_, .f32⟩
  | .hbm, ⟨111, _⟩ => ⟨S16x4096, .f32⟩
  | .hbm, ⟨112, _⟩ => ⟨S_, .f32⟩
  | .hbm, ⟨113, _⟩ => ⟨S16x4096x4096, .f32⟩
  | .hbm, ⟨114, _⟩ => ⟨S16x4096x4096, .f32⟩
  | .hbm, ⟨115, _⟩ => ⟨S16x4096x128, .f32⟩
  | .hbm, ⟨116, _⟩ => ⟨S4096x16x128, .f32⟩
  | .hbm, ⟨117, _⟩ => ⟨S4096x2048, .f32⟩
  | .hbm, ⟨118, _⟩ => ⟨S4096x2048, .bf16⟩
  | .hbm, ⟨119, _⟩ => ⟨S4096x2048, .bf16⟩
  | .hbm, ⟨120, _⟩ => ⟨S16x1x4096, .f32⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_cst_0 : Ref sig .tc := ⟨.hbm, 31, rfl⟩
abbrev main_call0_v0 : Ref sig .tc := ⟨.hbm, 32, rfl⟩
abbrev main_v27_1 : Ref sig .tc := ⟨.hbm, 33, rfl⟩
abbrev main_call0_v2 : Ref sig .tc := ⟨.hbm, 34, rfl⟩
abbrev main_v27_0 : Ref sig .tc := ⟨.hbm, 35, rfl⟩
abbrev main_call0_cst : Ref sig .tc := ⟨.hbm, 36, rfl⟩
abbrev main_v27_2 : Ref sig .tc := ⟨.hbm, 37, rfl⟩
abbrev main_cst_1 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_2 : Ref sig .tc := ⟨.hbm, 44, rfl⟩
abbrev main_v33 : Ref sig .tc := ⟨.hbm, 45, rfl⟩
abbrev main_cst_3 : Ref sig .tc := ⟨.hbm, 46, rfl⟩
abbrev main_v34 : Ref sig .tc := ⟨.hbm, 47, rfl⟩
abbrev main_v35 : Ref sig .tc := ⟨.hbm, 48, rfl⟩
abbrev main_cst_4 : Ref sig .tc := ⟨.hbm, 49, rfl⟩
abbrev main_v36 : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_v39 : Ref sig .tc := ⟨.hbm, 54, rfl⟩
abbrev main_cst_6 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_9 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_10 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_cst_11 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_cst_12 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_call1_cst : Ref sig .tc := ⟨.hbm, 103, rfl⟩
abbrev main_call1_v0 : Ref sig .tc := ⟨.hbm, 104, rfl⟩
abbrev main_v81 : Ref sig .tc := ⟨.hbm, 105, rfl⟩
abbrev main_v82 : Ref sig .tc := ⟨.hbm, 106, rfl⟩
abbrev main_cst_13 : Ref sig .tc := ⟨.hbm, 107, rfl⟩
abbrev main_v83 : Ref sig .tc := ⟨.hbm, 108, rfl⟩
abbrev main_v84 : Ref sig .tc := ⟨.hbm, 109, rfl⟩
abbrev main_cst_14 : Ref sig .tc := ⟨.hbm, 110, rfl⟩
abbrev main_v85 : Ref sig .tc := ⟨.hbm, 111, rfl⟩
abbrev main_cst_15 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩

abbrev nD : Nat := 1
abbrev τ : Topo := Topo.v7x

variable {F : FTy → Type} [FloatOps F]
-- ==== Fwd.lean ====
abbrev S4096x6144 : Shape := ⟨2, ![4096, 6144]⟩
abbrev S16x1x4096 : Shape := ⟨3, ![16, 1, 4096]⟩
abbrev S4096x2048 : Shape := ⟨2, ![4096, 2048]⟩
abbrev S16x4096x128 : Shape := ⟨3, ![16, 4096, 128]⟩
abbrev S1024x128 : Shape := ⟨2, ![1024, 128]⟩
abbrev S4096x128 : Shape := ⟨2, ![4096, 128]⟩
abbrev S1x1x4096 : Shape := ⟨3, ![1, 1, 4096]⟩
abbrev S1x1024x128 : Shape := ⟨3, ![1, 1024, 128]⟩
abbrev S1024x1 : Shape := ⟨2, ![1024, 1]⟩
abbrev S1024x1024 : Shape := ⟨2, ![1024, 1024]⟩
abbrev S1x1x1024 : Shape := ⟨3, ![1, 1, 1024]⟩
abbrev S1x1024 : Shape := ⟨2, ![1, 1024]⟩
abbrev S1024 : Shape := ⟨1, ![1024]⟩

abbrev nBuf : Space → Nat
  | .hbm => 4
  | .vmem => 12
  | .smem => 0
  | _ => 0

abbrev bufTy : (tb : Table) → Fin (tcTables nBuf tb) → BufTy
  | .hbm, ⟨0, _⟩ => ⟨S4096x6144, .bf16⟩
  | .hbm, ⟨1, _⟩ => ⟨S16x1x4096, .f32⟩
  | .hbm, ⟨2, _⟩ => ⟨S4096x2048, .bf16⟩
  | .hbm, ⟨3, _⟩ => ⟨S16x4096x128, .f32⟩
  | .local _ .vmem, ⟨0, _⟩ => ⟨S1024x128, .bf16⟩
  | .local _ .vmem, ⟨1, _⟩ => ⟨S1024x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S1x1x4096, .f32⟩
  | .local _ .vmem, ⟨7, _⟩ => ⟨S1x1x4096, .f32⟩
  | .local _ .vmem, ⟨8, _⟩ => ⟨S1024x128, .bf16⟩
  | .local _ .vmem, ⟨9, _⟩ => ⟨S1024x128, .bf16⟩
  | .local _ .vmem, ⟨10, _⟩ => ⟨S1x1024x128, .f32⟩
  | .local _ .vmem, ⟨11, _⟩ => ⟨S1x1024x128, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 4], ![false, false]⟩

@[reducible] def k0_t1_loop (i : grid0.Coords) : Scf.Loop 32 :=
  let c0_i32 : BitVec 32 := 0#32
  let arg1 : BitVec 32 := BitVec.ofNat 32 (i 1).val
  let c1_i32 : BitVec 32 := 1#32
  let v4 : BitVec 32 := Scalar.muli arg1 c1_i32
  let v5 : BitVec 32 := Scalar.subi v4 c0_i32
  let c1_i32_3 : BitVec 32 := 1#32
  let v7 : BitVec 32 := Scalar.divsi v5 c1_i32_3
  let v8 : BitVec 32 := Scalar.muli v7 c1_i32_3
  let v9 : BitVec 32 := Scalar.addi c0_i32 v8
  let c1_i32_4 : BitVec 32 := 1#32
  ⟨c0_i32, v9, c1_i32_4⟩
def k0_mult1 (i : grid0.Coords) (k0_t1 : Fin (k0_t1_loop i).trips) : BitVec 32 :=
  let c0_i32 : BitVec 32 := 0#32
  let c1_i32_4 : BitVec 32 := 1#32
  let arg8 : BitVec 32 := Scf.iv c0_i32 c1_i32_4 k0_t1
  let c1024_i32_24 : BitVec 32 := 1024#32
  let v63 : BitVec 32 := Scalar.muli arg8 c1024_i32_24
  v63
def k0_off1 (i : grid0.Coords) (k0_t1 : Fin (k0_t1_loop i).trips) : Fin 2 → Nat :=
  let c0_i32 : BitVec 32 := 0#32
  let c1_i32_4 : BitVec 32 := 1#32
  let arg8 : BitVec 32 := Scf.iv c0_i32 c1_i32_4 k0_t1
  let c1024_i32_24 : BitVec 32 := 1024#32
  let v63 : BitVec 32 := Scalar.muli arg8 c1024_i32_24
  let v64 : BitVec 32 := v63
  let v65 : Index := Scalar.indexCast v64
  let c0_25 : Index := 0#32
  ![v65.toNat, 0]
def k0_off2 (i : grid0.Coords) (k0_t1 : Fin (k0_t1_loop i).trips) : Fin 3 → Nat :=
  let c0_29 : Index := 0#32
  let c0_30 : Index := 0#32
  let c0_i32 : BitVec 32 := 0#32
  let c1_i32_4 : BitVec 32 := 1#32
  let arg8 : BitVec 32 := Scf.iv c0_i32 c1_i32_4 k0_t1
  let c1024_i32_24 : BitVec 32 := 1024#32
  let v63 : BitVec 32 := Scalar.muli arg8 c1024_i32_24
  let v64 : BitVec 32 := v63
  let v72 : Index := Scalar.indexCast v64
  ![0, 0, v72.toNat]
@[reducible] def k0_t2_loop (i : grid0.Coords) : Scf.Loop 32 :=
  let c0_i32 : BitVec 32 := 0#32
  let arg1 : BitVec 32 := BitVec.ofNat 32 (i 1).val
  let c1_i32 : BitVec 32 := 1#32
  let v4 : BitVec 32 := Scalar.muli arg1 c1_i32
  let v5 : BitVec 32 := Scalar.subi v4 c0_i32
  let c1_i32_3 : BitVec 32 := 1#32
  let v7 : BitVec 32 := Scalar.divsi v5 c1_i32_3
  let v8 : BitVec 32 := Scalar.muli v7 c1_i32_3
  let v9 : BitVec 32 := Scalar.addi c0_i32 v8
  let v6 : BitVec 32 := Scalar.addi c0_i32 v5
  let c1_i32_5 : BitVec 32 := 1#32
  ⟨v9, v6, c1_i32_5⟩
def k0_mult2 (i : grid0.Coords) (k0_t2 : Fin (k0_t2_loop i).trips) : BitVec 32 :=
  let c0_i32 : BitVec 32 := 0#32
  let arg1 : BitVec 32 := BitVec.ofNat 32 (i 1).val
  let c1_i32 : BitVec 32 := 1#32
  let v4 : BitVec 32 := Scalar.muli arg1 c1_i32
  let v5 : BitVec 32 := Scalar.subi v4 c0_i32
  let c1_i32_3 : BitVec 32 := 1#32
  let v7 : BitVec 32 := Scalar.divsi v5 c1_i32_3
  let v8 : BitVec 32 := Scalar.muli v7 c1_i32_3
  let v9 : BitVec 32 := Scalar.addi c0_i32 v8
  let c1_i32_5 : BitVec 32 := 1#32
  let arg8 : BitVec 32 := Scf.iv v9 c1_i32_5 k0_t2
  let c1024_i32_24 : BitVec 32 := 1024#32
  let v63 : BitVec 32 := Scalar.muli arg8 c1024_i32_24
  v63
def k0_off3 (i : grid0.Coords) (k0_t2 : Fin (k0_t2_loop i).trips) : Fin 2 → Nat :=
  let c0_i32 : BitVec 32 := 0#32
  let arg1 : BitVec 32 := BitVec.ofNat 32 (i 1).val
  let c1_i32 : BitVec 32 := 1#32
  let v4 : BitVec 32 := Scalar.muli arg1 c1_i32
  let v5 : BitVec 32 := Scalar.subi v4 c0_i32
  let c1_i32_3 : BitVec 32 := 1#32
  let v7 : BitVec 32 := Scalar.divsi v5 c1_i32_3
  let v8 : BitVec 32 := Scalar.muli v7 c1_i32_3
  let v9 : BitVec 32 := Scalar.addi c0_i32 v8
  let c1_i32_5 : BitVec 32 := 1#32
  let arg8 : BitVec 32 := Scf.iv v9 c1_i32_5 k0_t2
  let c1024_i32_24 : BitVec 32 := 1024#32
  let v63 : BitVec 32 := Scalar.muli arg8 c1024_i32_24
  let v64 : BitVec 32 := v63
  let v65 : Index := Scalar.indexCast v64
  let c0_25 : Index := 0#32
  ![v65.toNat, 0]
def k0_off4 (i : grid0.Coords) (k0_t2 : Fin (k0_t2_loop i).trips) : Fin 3 → Nat :=
  let c0_29 : Index := 0#32
  let c0_30 : Index := 0#32
  let c0_i32 : BitVec 32 := 0#32
  let arg1 : BitVec 32 := BitVec.ofNat 32 (i 1).val
  let c1_i32 : BitVec 32 := 1#32
  let v4 : BitVec 32 := Scalar.muli arg1 c1_i32
  let v5 : BitVec 32 := Scalar.subi v4 c0_i32
  let c1_i32_3 : BitVec 32 := 1#32
  let v7 : BitVec 32 := Scalar.divsi v5 c1_i32_3
  let v8 : BitVec 32 := Scalar.muli v7 c1_i32_3
  let v9 : BitVec 32 := Scalar.addi c0_i32 v8
  let c1_i32_5 : BitVec 32 := 1#32
  let arg8 : BitVec 32 := Scf.iv v9 c1_i32_5 k0_t2
  let c1024_i32_24 : BitVec 32 := 1024#32
  let v63 : BitVec 32 := Scalar.muli arg8 c1024_i32_24
  let v64 : BitVec 32 := v63
  let v72 : Index := Scalar.indexCast v64
  ![0, 0, v72.toNat]
def k0_mult3 (i : grid0.Coords) : BitVec 32 :=
  let arg1 : BitVec 32 := BitVec.ofNat 32 (i 1).val
  let c1_i32_6 : BitVec 32 := 1#32
  let v12 : BitVec 32 := Scalar.muli arg1 c1_i32_6
  let c0_i32_7 : BitVec 32 := 0#32
  let v13 : BitVec 32 := Scalar.addi v12 c0_i32_7
  let c1024_i32 : BitVec 32 := 1024#32
  let v14 : BitVec 32 := Scalar.muli v13 c1024_i32
  v14
def k0_off5 (i : grid0.Coords) : Fin 2 → Nat :=
  let arg1 : BitVec 32 := BitVec.ofNat 32 (i 1).val
  let c1_i32_6 : BitVec 32 := 1#32
  let v12 : BitVec 32 := Scalar.muli arg1 c1_i32_6
  let c0_i32_7 : BitVec 32 := 0#32
  let v13 : BitVec 32 := Scalar.addi v12 c0_i32_7
  let c1024_i32 : BitVec 32 := 1024#32
  let v14 : BitVec 32 := Scalar.muli v13 c1024_i32
  let v15 : BitVec 32 := v14
  let v16 : Index := Scalar.indexCast v15
  let c0_8 : Index := 0#32
  ![v16.toNat, 0]
def k0_off6 (i : grid0.Coords) : Fin 3 → Nat :=
  let c0_12 : Index := 0#32
  let c0_13 : Index := 0#32
  let arg1 : BitVec 32 := BitVec.ofNat 32 (i 1).val
  let c1_i32_6 : BitVec 32 := 1#32
  let v12 : BitVec 32 := Scalar.muli arg1 c1_i32_6
  let c0_i32_7 : BitVec 32 := 0#32
  let v13 : BitVec 32 := Scalar.addi v12 c0_i32_7
  let c1024_i32 : BitVec 32 := 1024#32
  let v14 : BitVec 32 := Scalar.muli v13 c1024_i32
  let v15 : BitVec 32 := v14
  let v23 : Index := Scalar.indexCast v15
  ![0, 0, v23.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FwdIdeal.lean ====
variable {F : FTy → Type} [FloatOps F] [Named F]
def κ : String → Option EReal := fun
  | "mask" => some ⊥
  | _ => none
-- ==== FwdRefIdeal.lean ====
abbrev S4096x6144 : Shape := ⟨2, ![4096, 6144]⟩
abbrev S16x1x4096 : Shape := ⟨3, ![16, 1, 4096]⟩
abbrev S4096x2048 : Shape := ⟨2, ![4096, 2048]⟩
abbrev S16x4096 : Shape := ⟨2, ![16, 4096]⟩
abbrev S4096x16x128 : Shape := ⟨3, ![4096, 16, 128]⟩
abbrev S16x4096x128 : Shape := ⟨3, ![16, 4096, 128]⟩
abbrev S16x4096x4096 : Shape := ⟨3, ![16, 4096, 4096]⟩
abbrev S_ : Shape := ⟨0, ![]⟩
abbrev S16x4096x1 : Shape := ⟨3, ![16, 4096, 1]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩

abbrev nBuf : Space → Nat
  | .hbm => 94
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S16x1x4096, .f32⟩
  | .hbm, ⟨2, _⟩ => ⟨S4096x2048, .bf16⟩
  | .hbm, ⟨3, _⟩ => ⟨S4096x2048, .f32⟩
  | .hbm, ⟨4, _⟩ => ⟨S4096x2048, .bf16⟩
  | .hbm, ⟨5, _⟩ => ⟨S4096x2048, .f32⟩
  | .hbm, ⟨6, _⟩ => ⟨S4096x2048, .bf16⟩
  | .hbm, ⟨7, _⟩ => ⟨S4096x2048, .f32⟩
  | .hbm, ⟨8, _⟩ => ⟨S16x4096, .f32⟩
  | .hbm, ⟨9, _⟩ => ⟨S4096x16x128, .f32⟩
  | .hbm, ⟨10, _⟩ => ⟨S16x4096x128, .f32⟩
  | .hbm, ⟨11, _⟩ => ⟨S4096x16x128, .f32⟩
  | .hbm, ⟨12, _⟩ => ⟨S16x4096x128, .f32⟩
  | .hbm, ⟨13, _⟩ => ⟨S16x4096x4096, .f32⟩
  | .hbm, ⟨14, _⟩ => ⟨S_, .f32⟩
  | .hbm, ⟨15, _⟩ => ⟨S16x4096x4096, .f32⟩
  | .hbm, ⟨16, _⟩ => ⟨S16x4096x4096, .f32⟩
  | .hbm, ⟨17, _⟩ => ⟨S16x4096x1, .f32⟩
  | .hbm, ⟨18, _⟩ => ⟨S16x4096x4096, .f32⟩
  | .hbm, ⟨19, _⟩ => ⟨S16x4096x4096, .f32⟩
  | .hbm, ⟨20, _⟩ => ⟨S16x1x4096, .f32⟩
  | .hbm, ⟨21, _⟩ => ⟨S16x4096x4096, .f32⟩
  | .hbm, ⟨22, _⟩ => ⟨S16x4096x4096, .f32⟩
  | .hbm, ⟨23, _⟩ => ⟨S4096, .i32⟩
  | .hbm, ⟨24, _⟩ => ⟨S1x4096, .i32⟩
  | .hbm, ⟨25, _⟩ => ⟨S4096, .i32⟩
  | .hbm, ⟨26, _⟩ => ⟨S4096x1, .i32⟩
  | .hbm, ⟨27, _⟩ => ⟨S4096x4096, .i32⟩
  | .hbm, ⟨28, _⟩ => ⟨S4096x4096, .i32⟩
  | .hbm, ⟨29, _⟩ => ⟨S4096x4096, .i1⟩
  | .hbm, ⟨30, _⟩ => ⟨S_, .f32⟩
  | .hbm, ⟨31, _⟩ => ⟨S_, .f32⟩
  | .hbm, ⟨32, _⟩ => ⟨S16x4096x4096, .i1⟩
  | .hbm, ⟨33, _⟩ => ⟨S16x4096x4096, .f32⟩
  | .hbm, ⟨34, _⟩ => ⟨S16x4096x4096, .f32⟩
  | .hbm, ⟨35, _⟩ => ⟨S_, .f32⟩
  | .hbm, ⟨36, _⟩ => ⟨S16x4096, .f32⟩
  | .hbm, ⟨37, _⟩ => ⟨S16x4096x1, .f32⟩
  | .hbm, ⟨38, _⟩ => ⟨S16x4096x4096, .f32⟩
  | .hbm, ⟨39, _⟩ => ⟨S16x4096x4096, .f32⟩
  | .hbm, ⟨40, _⟩ => ⟨S16x4096x4096, .f32⟩
  | .hbm, ⟨41, _⟩ => ⟨S_, .f32⟩
  | .hbm, ⟨42, _⟩ => ⟨S16x4096, .f32⟩
  | .hbm, ⟨43, _⟩ => ⟨S16x4096, .f32⟩
  | .hbm, ⟨44, _⟩ => ⟨S16x4096, .f32⟩
  | .hbm, ⟨45, _⟩ => ⟨S16x4096, .f32⟩
  | .hbm, ⟨46, _⟩ => ⟨S4096x16x128, .f32⟩
  | .hbm, ⟨47, _⟩ => ⟨S16x4096x128, .f32⟩
  | .hbm, ⟨48, _⟩ => ⟨S4096x16x128, .f32⟩
  | .hbm, ⟨49, _⟩ => ⟨S16x4096x128, .f32⟩
  | .hbm, ⟨50, _⟩ => ⟨S16x4096x4096, .f32⟩
  | .hbm, ⟨51, _⟩ => ⟨S_, .f32⟩
  | .hbm, ⟨52, _⟩ => ⟨S16x4096x4096, .f32⟩
  | .hbm, ⟨53, _⟩ => ⟨S16x4096x4096, .f32⟩
  | .hbm, ⟨54, _⟩ => ⟨S16x4096x1, .f32⟩
  | .hbm, ⟨55, _⟩ => ⟨S16x4096x4096, .f32⟩
  | .hbm, ⟨56, _⟩ => ⟨S16x4096x4096, .f32⟩
  | .hbm, ⟨57, _⟩ => ⟨S16x1x4096, .f32⟩
  | .hbm, ⟨58, _⟩ => ⟨S16x4096x4096, .f32⟩
  | .hbm, ⟨59, _⟩ => ⟨S16x4096x4096, .f32⟩
  | .hbm, ⟨60, _⟩ => ⟨S4096, .i32⟩
  | .hbm, ⟨61, _⟩ => ⟨S1x4096, .i32⟩
  | .hbm, ⟨62, _⟩ => ⟨S4096, .i32⟩
  | .hbm, ⟨63, _⟩ => ⟨S4096x1, .i32⟩
  | .hbm, ⟨64, _⟩ => ⟨S4096x4096, .i32⟩
  | .hbm, ⟨65, _⟩ => ⟨S4096x4096, .i32⟩
  | .hbm, ⟨66, _⟩ => ⟨S4096x4096, .i1⟩
  | .hbm, ⟨67, _⟩ => ⟨S_, .f32⟩
  | .hbm, ⟨68, _⟩ => ⟨S_, .f32⟩
  | .hbm, ⟨69, _⟩ => ⟨S16x4096x4096, .i1⟩
  | .hbm, ⟨70, _⟩ => ⟨S16x4096x4096, .f32⟩
  | .hbm, ⟨71, _⟩ => ⟨S16x4096x4096, .f32⟩
  | .hbm, ⟨72, _⟩ => ⟨S_, .f32⟩
  | .hbm, ⟨73, _⟩ => ⟨S16x4096, .f32⟩
  | .hbm, ⟨74, _⟩ => ⟨S_, .f32⟩
  | .hbm, ⟨75, _⟩ => ⟨S16x4096, .f32⟩
  | .hbm, ⟨76, _⟩ => ⟨S16x4096, .f32⟩
  | .hbm, ⟨77, _⟩ => ⟨S16x4096x1, .f32⟩
  | .hbm, ⟨78, _⟩ => ⟨S16x4096x4096, .f32⟩
  | .hbm, ⟨79, _⟩ => ⟨S16x4096x4096, .f32⟩
  | .hbm, ⟨80, _⟩ => ⟨S16x4096x4096, .f32⟩
  | .hbm, ⟨81, _⟩ => ⟨S_, .f32⟩
  | .hbm, ⟨82, _⟩ => ⟨S16x4096, .f32⟩
  | .hbm, ⟨83, _⟩ => ⟨S16x4096x1, .f32⟩
  | .hbm, ⟨84, _⟩ => ⟨S16x4096x4096, .f32⟩
  | .hbm, ⟨85, _⟩ => ⟨S16x4096x4096, .f32⟩
  | .hbm, ⟨86, _⟩ => ⟨S4096x16x128, .f32⟩
  | .hbm, ⟨87, _⟩ => ⟨S16x4096x128, .f32⟩
  | .hbm, ⟨88, _⟩ => ⟨S16x4096x128, .f32⟩
  | .hbm, ⟨89, _⟩ => ⟨S4096x16x128, .f32⟩
  | .hbm, ⟨90, _⟩ => ⟨S4096x2048, .f32⟩
  | .hbm, ⟨91, _⟩ => ⟨S4096x2048, .bf16⟩
  | .hbm, ⟨92, _⟩ => ⟨S16x4096x1, .f32⟩
  | .hbm, ⟨93, _⟩ => ⟨S16x4096x128, .f32⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_cst_0 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v27 : Ref sig .tc := ⟨.hbm, 34, rfl⟩
abbrev main_cst_1 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_2 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_cst_3 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_cst_4 : Ref sig .tc := ⟨.hbm, 67, rfl⟩
abbrev main_call1_v0 : Ref sig .tc := ⟨.hbm, 68, rfl⟩
abbrev main_call1_v1 : Ref sig .tc := ⟨.hbm, 69, rfl⟩
abbrev main_call1_v2 : Ref sig .tc := ⟨.hbm, 70, rfl⟩
abbrev main_v57 : Ref sig .tc := ⟨.hbm, 71, rfl⟩
abbrev main_cst_5 : Ref sig .tc := ⟨.hbm, 72, rfl⟩
abbrev main_v58 : Ref sig .tc := ⟨.hbm, 73, rfl⟩
abbrev main_cst_6 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_7 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩

abbrev nD : Nat := 1
abbrev τ : Topo := Topo.v7x

variable {F : FTy → Type} [FloatOps F]
-- ==== FfnOutDx.lean ====
abbrev S4096x2048 : Shape := ⟨2, ![4096, 2048]⟩
abbrev S5632x2048 : Shape := ⟨2, ![5632, 2048]⟩
abbrev S4096x5632 : Shape := ⟨2, ![4096, 5632]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S4096x5632, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .bf16⟩
  | .local _ .vmem, ⟨5, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnOutDxRefIdeal.lean ====
abbrev S4096x2048 : Shape := ⟨2, ![4096, 2048]⟩
abbrev S5632x2048 : Shape := ⟨2, ![5632, 2048]⟩
abbrev S_ : Shape := ⟨0, ![]⟩
abbrev S4096x5632 : Shape := ⟨2, ![4096, 5632]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S_, .f32⟩
  | .hbm, ⟨3, _⟩ => ⟨S4096x5632, .f32⟩
  | .hbm, ⟨4, _⟩ => ⟨S5632x2048, .f32⟩
  | .hbm, ⟨5, _⟩ => ⟨S4096x2048, .f32⟩
  | .hbm, ⟨6, _⟩ => ⟨S4096x2048, .f32⟩
  | .hbm, ⟨7, _⟩ => ⟨S4096x5632, .f32⟩
  | .hbm, ⟨8, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== FfnOutDw.lean ====
abbrev S4096x5632 : Shape := ⟨2, ![4096, 5632]⟩
abbrev S4096x2048 : Shape := ⟨2, ![4096, 2048]⟩
abbrev S5632x2048 : Shape := ⟨2, ![5632, 2048]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S5632x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnOutDwRefIdeal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S_, .f32⟩
  | .hbm, ⟨3, _⟩ => ⟨S5632x2048, .f32⟩
  | .hbm, ⟨4, _⟩ => ⟨S4096x5632, .f32⟩
  | .hbm, ⟨5, _⟩ => ⟨S4096x2048, .f32⟩
  | .hbm, ⟨6, _⟩ => ⟨S4096x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== FfnInDx.lean ====
abbrev S4096x11264 : Shape := ⟨2, ![4096, 11264]⟩
abbrev S11264x2048 : Shape := ⟨2, ![11264, 2048]⟩
abbrev S4096x2048 : Shape := ⟨2, ![4096, 2048]⟩
abbrev S512x2816 : Shape := ⟨2, ![512, 2816]⟩
abbrev S2816x1024 : Shape := ⟨2, ![2816, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x11264, .bf16⟩
  | .hbm, ⟨1, _⟩ => ⟨S11264x2048, .bf16⟩
  | .hbm, ⟨2, _⟩ => ⟨S4096x2048, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S2816x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnInDxRefIdeal.lean ====
abbrev S4096x11264 : Shape := ⟨2, ![4096, 11264]⟩
abbrev S11264x2048 : Shape := ⟨2, ![11264, 2048]⟩
abbrev S2048x11264 : Shape := ⟨2, ![2048, 11264]⟩
abbrev S_ : Shape := ⟨0, ![]⟩
abbrev S4096x2048 : Shape := ⟨2, ![4096, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x11264, .bf16⟩
  | .hbm, ⟨1, _⟩ => ⟨S11264x2048, .bf16⟩
  | .hbm, ⟨2, _⟩ => ⟨S2048x11264, .bf16⟩
  | .hbm, ⟨3, _⟩ => ⟨S_, .f32⟩
  | .hbm, ⟨4, _⟩ => ⟨S4096x2048, .f32⟩
  | .hbm, ⟨5, _⟩ => ⟨S2048x11264, .f32⟩
  | .hbm, ⟨6, _⟩ => ⟨S4096x11264, .f32⟩
  | .hbm, ⟨7, _⟩ => ⟨S4096x11264, .f32⟩
  | .hbm, ⟨8, _⟩ => ⟨S4096x2048, .f32⟩
  | _, _ => ⟨S4096x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== FfnInDw.lean ====
abbrev S4096x11264 : Shape := ⟨2, ![4096, 11264]⟩
abbrev S4096x2048 : Shape := ⟨2, ![4096, 2048]⟩
abbrev S11264x2048 : Shape := ⟨2, ![11264, 2048]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x11264, .bf16⟩
  | .hbm, ⟨1, _⟩ => ⟨S4096x2048, .bf16⟩
  | .hbm, ⟨2, _⟩ => ⟨S11264x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | _, _ => ⟨S4096x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 22, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnInDwRefIdeal.lean ====
abbrev S4096x11264 : Shape := ⟨2, ![4096, 11264]⟩
abbrev S4096x2048 : Shape := ⟨2, ![4096, 2048]⟩
abbrev S_ : Shape := ⟨0, ![]⟩
abbrev S11264x2048 : Shape := ⟨2, ![11264, 2048]⟩
abbrev S2048x11264 : Shape := ⟨2, ![2048, 11264]⟩

abbrev nBuf : Space → Nat
  | .hbm => 12
  | .vmem => 0
  | .smem => 0
  | _ => 0

abbrev bufTy : (tb : Table) → Fin (tcTables nBuf tb) → BufTy
  | .hbm, ⟨0, _⟩ => ⟨S4096x11264, .bf16⟩
  | .hbm, ⟨1, _⟩ => ⟨S4096x2048, .bf16⟩
  | .hbm, ⟨2, _⟩ => ⟨S_, .f32⟩
  | .hbm, ⟨3, _⟩ => ⟨S11264x2048, .f32⟩
  | .hbm, ⟨4, _⟩ => ⟨S4096x2048, .f32⟩
  | .hbm, ⟨5, _⟩ => ⟨S2048x11264, .f32⟩
  | .hbm, ⟨6, _⟩ => ⟨S4096x11264, .f32⟩
  | .hbm, ⟨7, _⟩ => ⟨S4096x11264, .f32⟩
  | .hbm, ⟨8, _⟩ => ⟨S11264x2048, .f32⟩
  | .hbm, ⟨9, _⟩ => ⟨S2048x11264, .f32⟩
  | .hbm, ⟨10, _⟩ => ⟨S11264x2048, .f32⟩
  | .hbm, ⟨11, _⟩ => ⟨S11264x2048, .bf16⟩
  | _, _ => ⟨S4096x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== OutDx.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxRefIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S_, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutDw.lean ====
abbrev S4096x2048 : Shape := ⟨2, ![4096, 2048]⟩
abbrev S2048x2048 : Shape := ⟨2, ![2048, 2048]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDwRefIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== QkvDx.lean ====
abbrev S4096x6144 : Shape := ⟨2, ![4096, 6144]⟩
abbrev S6144x2048 : Shape := ⟨2, ![6144, 2048]⟩
abbrev S4096x2048 : Shape := ⟨2, ![4096, 2048]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x6144, .bf16⟩
  | .hbm, ⟨1, _⟩ => ⟨S6144x2048, .bf16⟩
  | .hbm, ⟨2, _⟩ => ⟨S4096x2048, .f32⟩
  | .hbm, ⟨3, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== QkvDxRefIdeal.lean ====
abbrev S4096x6144 : Shape := ⟨2, ![4096, 6144]⟩
abbrev S6144x2048 : Shape := ⟨2, ![6144, 2048]⟩
abbrev S4096x2048 : Shape := ⟨2, ![4096, 2048]⟩
abbrev S2048x6144 : Shape := ⟨2, ![2048, 6144]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S6144x2048, .bf16⟩
  | .hbm, ⟨2, _⟩ => ⟨S4096x2048, .f32⟩
  | .hbm, ⟨3, _⟩ => ⟨S2048x6144, .bf16⟩
  | .hbm, ⟨4, _⟩ => ⟨S_, .f32⟩
  | .hbm, ⟨5, _⟩ => ⟨S4096x2048, .f32⟩
  | .hbm, ⟨6, _⟩ => ⟨S2048x6144, .f32⟩
  | .hbm, ⟨7, _⟩ => ⟨S4096x6144, .f32⟩
  | .hbm, ⟨8, _⟩ => ⟨S4096x6144, .f32⟩
  | .hbm, ⟨9, _⟩ => ⟨S4096x2048, .f32⟩
  | .hbm, ⟨10, _⟩ => ⟨S4096x2048, .f32⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== QkvDw.lean ====
abbrev S4096x6144 : Shape := ⟨2, ![4096, 6144]⟩
abbrev S4096x2048 : Shape := ⟨2, ![4096, 2048]⟩
abbrev S6144x2048 : Shape := ⟨2, ![6144, 2048]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x6144, .bf16⟩
  | .hbm, ⟨1, _⟩ => ⟨S4096x2048, .bf16⟩
  | .hbm, ⟨2, _⟩ => ⟨S6144x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvDwRefIdeal.lean ====
abbrev S4096x6144 : Shape := ⟨2, ![4096, 6144]⟩
abbrev S4096x2048 : Shape := ⟨2, ![4096, 2048]⟩
abbrev S_ : Shape := ⟨0, ![]⟩
abbrev S6144x2048 : Shape := ⟨2, ![6144, 2048]⟩
abbrev S2048x6144 : Shape := ⟨2, ![2048, 6144]⟩

abbrev nBuf : Space → Nat
  | .hbm => 12
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S4096x2048, .bf16⟩
  | .hbm, ⟨2, _⟩ => ⟨S_, .f32⟩
  | .hbm, ⟨3, _⟩ => ⟨S6144x2048, .f32⟩
  | .hbm, ⟨4, _⟩ => ⟨S4096x2048, .f32⟩
  | .hbm, ⟨5, _⟩ => ⟨S2048x6144, .f32⟩
  | .hbm, ⟨6, _⟩ => ⟨S4096x6144, .f32⟩
  | .hbm, ⟨7, _⟩ => ⟨S4096x6144, .f32⟩
  | .hbm, ⟨8, _⟩ => ⟨S6144x2048, .f32⟩
  | .hbm, ⟨9, _⟩ => ⟨S2048x6144, .f32⟩
  | .hbm, ⟨10, _⟩ => ⟨S6144x2048, .f32⟩
  | .hbm, ⟨11, _⟩ => ⟨S6144x2048, .bf16⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== ForgetDx.lean ====
abbrev S4096x128 : Shape := ⟨2, ![4096, 128]⟩
abbrev S128x2048 : Shape := ⟨2, ![128, 2048]⟩
abbrev S4096x2048 : Shape := ⟨2, ![4096, 2048]⟩
abbrev S1024x128 : Shape := ⟨2, ![1024, 128]⟩
abbrev S128x1024 : Shape := ⟨2, ![128, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x128, .bf16⟩
  | .hbm, ⟨1, _⟩ => ⟨S128x2048, .bf16⟩
  | .hbm, ⟨2, _⟩ => ⟨S4096x2048, .f32⟩
  | .local _ .vmem, ⟨0, _⟩ => ⟨S1024x128, .bf16⟩
  | .local _ .vmem, ⟨1, _⟩ => ⟨S1024x128, .bf16⟩
  | .local _ .vmem, ⟨2, _⟩ => ⟨S128x1024, .bf16⟩
  | .local _ .vmem, ⟨3, _⟩ => ⟨S128x1024, .bf16⟩
  | .local _ .vmem, ⟨4, _⟩ => ⟨S1024x1024, .f32⟩
  | .local _ .vmem, ⟨5, _⟩ => ⟨S1024x1024, .f32⟩
  | _, _ => ⟨S4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ForgetDxRefIdeal.lean ====
abbrev S4096x128 : Shape := ⟨2, ![4096, 128]⟩
abbrev S128x2048 : Shape := ⟨2, ![128, 2048]⟩
abbrev S2048x128 : Shape := ⟨2, ![2048, 128]⟩
abbrev S_ : Shape := ⟨0, ![]⟩
abbrev S4096x2048 : Shape := ⟨2, ![4096, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x128, .bf16⟩
  | .hbm, ⟨1, _⟩ => ⟨S128x2048, .bf16⟩
  | .hbm, ⟨2, _⟩ => ⟨S2048x128, .bf16⟩
  | .hbm, ⟨3, _⟩ => ⟨S_, .f32⟩
  | .hbm, ⟨4, _⟩ => ⟨S4096x2048, .f32⟩
  | .hbm, ⟨5, _⟩ => ⟨S2048x128, .f32⟩
  | .hbm, ⟨6, _⟩ => ⟨S4096x128, .f32⟩
  | .hbm, ⟨7, _⟩ => ⟨S4096x128, .f32⟩
  | .hbm, ⟨8, _⟩ => ⟨S4096x2048, .f32⟩
  | _, _ => ⟨S4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ForgetDw.lean ====
abbrev S4096x128 : Shape := ⟨2, ![4096, 128]⟩
abbrev S4096x2048 : Shape := ⟨2, ![4096, 2048]⟩
abbrev S128x2048 : Shape := ⟨2, ![128, 2048]⟩
abbrev S4096x1024 : Shape := ⟨2, ![4096, 1024]⟩
abbrev S128x1024 : Shape := ⟨2, ![128, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x128, .bf16⟩
  | .hbm, ⟨1, _⟩ => ⟨S4096x2048, .bf16⟩
  | .hbm, ⟨2, _⟩ => ⟨S128x2048, .bf16⟩
  | .local _ .vmem, ⟨0, _⟩ => ⟨S4096x128, .bf16⟩
  | .local _ .vmem, ⟨1, _⟩ => ⟨S4096x1024, .bf16⟩
  | .local _ .vmem, ⟨2, _⟩ => ⟨S4096x1024, .bf16⟩
  | .local _ .vmem, ⟨3, _⟩ => ⟨S128x1024, .bf16⟩
  | .local _ .vmem, ⟨4, _⟩ => ⟨S128x1024, .bf16⟩
  | _, _ => ⟨S4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 1 → Memref sig .tc .vmem S4096x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ForgetDwRefIdeal.lean ====
abbrev S4096x128 : Shape := ⟨2, ![4096, 128]⟩
abbrev S4096x2048 : Shape := ⟨2, ![4096, 2048]⟩
abbrev S_ : Shape := ⟨0, ![]⟩
abbrev S128x2048 : Shape := ⟨2, ![128, 2048]⟩
abbrev S2048x128 : Shape := ⟨2, ![2048, 128]⟩

abbrev nBuf : Space → Nat
  | .hbm => 12
  | .vmem => 0
  | .smem => 0
  | _ => 0

abbrev bufTy : (tb : Table) → Fin (tcTables nBuf tb) → BufTy
  | .hbm, ⟨0, _⟩ => ⟨S4096x128, .bf16⟩
  | .hbm, ⟨1, _⟩ => ⟨S4096x2048, .bf16⟩
  | .hbm, ⟨2, _⟩ => ⟨S_, .f32⟩
  | .hbm, ⟨3, _⟩ => ⟨S128x2048, .f32⟩
  | .hbm, ⟨4, _⟩ => ⟨S4096x2048, .f32⟩
  | .hbm, ⟨5, _⟩ => ⟨S2048x128, .f32⟩
  | .hbm, ⟨6, _⟩ => ⟨S4096x128, .f32⟩
  | .hbm, ⟨7, _⟩ => ⟨S4096x128, .f32⟩
  | .hbm, ⟨8, _⟩ => ⟨S128x2048, .f32⟩
  | .hbm, ⟨9, _⟩ => ⟨S2048x128, .f32⟩
  | .hbm, ⟨10, _⟩ => ⟨S128x2048, .f32⟩
  | .hbm, ⟨11, _⟩ => ⟨S128x2048, .bf16⟩
  | _, _ => ⟨S4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== GmInDx.lean ====
abbrev S4096x4096 : Shape := ⟨2, ![4096, 4096]⟩
abbrev S4096x2048 : Shape := ⟨2, ![4096, 2048]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GmInDxRefIdeal.lean ====
abbrev S4096x4096 : Shape := ⟨2, ![4096, 4096]⟩
abbrev S4096x2048 : Shape := ⟨2, ![4096, 2048]⟩
abbrev S2048x4096 : Shape := ⟨2, ![2048, 4096]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S2048x4096, .bf16⟩
  | .hbm, ⟨3, _⟩ => ⟨S_, .f32⟩
  | .hbm, ⟨4, _⟩ => ⟨S4096x2048, .f32⟩
  | .hbm, ⟨5, _⟩ => ⟨S2048x4096, .f32⟩
  | .hbm, ⟨6, _⟩ => ⟨S4096x4096, .f32⟩
  | .hbm, ⟨7, _⟩ => ⟨S4096x4096, .f32⟩
  | .hbm, ⟨8, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GmInDw.lean ====
abbrev S4096x4096 : Shape := ⟨2, ![4096, 4096]⟩
abbrev S4096x2048 : Shape := ⟨2, ![4096, 2048]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GmInDwRefIdeal.lean ====
abbrev S4096x4096 : Shape := ⟨2, ![4096, 4096]⟩
abbrev S4096x2048 : Shape := ⟨2, ![4096, 2048]⟩
abbrev S_ : Shape := ⟨0, ![]⟩
abbrev S2048x4096 : Shape := ⟨2, ![2048, 4096]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S_, .f32⟩
  | .hbm, ⟨3, _⟩ => ⟨S4096x2048, .f32⟩
  | .hbm, ⟨4, _⟩ => ⟨S4096x2048, .f32⟩
  | .hbm, ⟨5, _⟩ => ⟨S2048x4096, .f32⟩
  | .hbm, ⟨6, _⟩ => ⟨S4096x4096, .f32⟩
  | .hbm, ⟨7, _⟩ => ⟨S4096x4096, .f32⟩
  | .hbm, ⟨8, _⟩ => ⟨S4096x2048, .f32⟩
  | .hbm, ⟨9, _⟩ => ⟨S2048x4096, .f32⟩
  | .hbm, ⟨10, _⟩ => ⟨S4096x2048, .f32⟩
  | .hbm, ⟨11, _⟩ => ⟨S4096x2048, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== FfnIn.lean ====
abbrev S4096x2048 : Shape := ⟨2, ![4096, 2048]⟩
abbrev S11264x2048 : Shape := ⟨2, ![11264, 2048]⟩
abbrev S4096x11264 : Shape := ⟨2, ![4096, 11264]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S11264x2048, .bf16⟩
  | .hbm, ⟨2, _⟩ => ⟨S4096x11264, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnInRefIdeal.lean ====
abbrev S4096x2048 : Shape := ⟨2, ![4096, 2048]⟩
abbrev S11264x2048 : Shape := ⟨2, ![11264, 2048]⟩
abbrev S2048x11264 : Shape := ⟨2, ![2048, 11264]⟩
abbrev S4096x11264 : Shape := ⟨2, ![4096, 11264]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S11264x2048, .bf16⟩
  | .hbm, ⟨2, _⟩ => ⟨S2048x11264, .bf16⟩
  | .hbm, ⟨3, _⟩ => ⟨S4096x2048, .f32⟩
  | .hbm, ⟨4, _⟩ => ⟨S2048x11264, .f32⟩
  | .hbm, ⟨5, _⟩ => ⟨S4096x11264, .f32⟩
  | .hbm, ⟨6, _⟩ => ⟨S4096x11264, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== FfnOut.lean ====
abbrev S4096x5632 : Shape := ⟨2, ![4096, 5632]⟩
abbrev S5632x2048 : Shape := ⟨2, ![5632, 2048]⟩
abbrev S4096x2048 : Shape := ⟨2, ![4096, 2048]⟩
abbrev S1x2048 : Shape := ⟨2, ![1, 2048]⟩
abbrev S512x5632 : Shape := ⟨2, ![512, 5632]⟩
abbrev S5632x1024 : Shape := ⟨2, ![5632, 1024]⟩
abbrev S512x1024 : Shape := ⟨2, ![512, 1024]⟩
abbrev S1x1024 : Shape := ⟨2, ![1, 1024]⟩

abbrev nBuf : Space → Nat
  | .hbm => 6
  | .vmem => 12
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S1x2048, .f32⟩
  | .hbm, ⟨4, _⟩ => ⟨S4096x2048, .bf16⟩
  | .hbm, ⟨5, _⟩ => ⟨S4096x2048, .f32⟩
  | .local _ .vmem, ⟨0, _⟩ => ⟨S512x5632, .bf16⟩
  | .local _ .vmem, ⟨1, _⟩ => ⟨S512x5632, .bf16⟩
  | .local _ .vmem, ⟨2, _⟩ => ⟨S5632x1024, .bf16⟩
  | .local _ .vmem, ⟨3, _⟩ => ⟨S5632x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S5632x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== FfnOutRefIdeal.lean ====
abbrev S4096x5632 : Shape := ⟨2, ![4096, 5632]⟩
abbrev S5632x2048 : Shape := ⟨2, ![5632, 2048]⟩
abbrev S4096x2048 : Shape := ⟨2, ![4096, 2048]⟩
abbrev S1x2048 : Shape := ⟨2, ![1, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S1x2048, .f32⟩
  | .hbm, ⟨4, _⟩ => ⟨S4096x5632, .f32⟩
  | .hbm, ⟨5, _⟩ => ⟨S5632x2048, .f32⟩
  | .hbm, ⟨6, _⟩ => ⟨S4096x2048, .f32⟩
  | .hbm, ⟨7, _⟩ => ⟨S4096x2048, .bf16⟩
  | .hbm, ⟨8, _⟩ => ⟨S4096x2048, .f32⟩
  | .hbm, ⟨9, _⟩ => ⟨S4096x2048, .f32⟩
  | .hbm, ⟨10, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Qkv.lean ====
abbrev S4096x2048 : Shape := ⟨2, ![4096, 2048]⟩
abbrev S6144x2048 : Shape := ⟨2, ![6144, 2048]⟩
abbrev S4096x6144 : Shape := ⟨2, ![4096, 6144]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S6144x2048, .bf16⟩
  | .hbm, ⟨2, _⟩ => ⟨S4096x6144, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvRefIdeal.lean ====
abbrev S4096x2048 : Shape := ⟨2, ![4096, 2048]⟩
abbrev S6144x2048 : Shape := ⟨2, ![6144, 2048]⟩
abbrev S2048x6144 : Shape := ⟨2, ![2048, 6144]⟩
abbrev S4096x6144 : Shape := ⟨2, ![4096, 6144]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S6144x2048, .bf16⟩
  | .hbm, ⟨2, _⟩ => ⟨S2048x6144, .bf16⟩
  | .hbm, ⟨3, _⟩ => ⟨S4096x2048, .f32⟩
  | .hbm, ⟨4, _⟩ => ⟨S2048x6144, .f32⟩
  | .hbm, ⟨5, _⟩ => ⟨S4096x6144, .f32⟩
  | .hbm, ⟨6, _⟩ => ⟨S4096x6144, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Forget.lean ====
abbrev S4096x2048 : Shape := ⟨2, ![4096, 2048]⟩
abbrev S128x2048 : Shape := ⟨2, ![128, 2048]⟩
abbrev S4096x128 : Shape := ⟨2, ![4096, 128]⟩
abbrev S1024x2048 : Shape := ⟨2, ![1024, 2048]⟩
abbrev S1024x128 : Shape := ⟨2, ![1024, 128]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S128x2048, .bf16⟩
  | .hbm, ⟨2, _⟩ => ⟨S4096x128, .f32⟩
  | .local _ .vmem, ⟨0, _⟩ => ⟨S1024x2048, .bf16⟩
  | .local _ .vmem, ⟨1, _⟩ => ⟨S1024x2048, .bf16⟩
  | .local _ .vmem, ⟨2, _⟩ => ⟨S128x2048, .bf16⟩
  | .local _ .vmem, ⟨3, _⟩ => ⟨S1024x128, .f32⟩
  | .local _ .vmem, ⟨4, _⟩ => ⟨S1024x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S128x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ForgetRefIdeal.lean ====
abbrev S4096x2048 : Shape := ⟨2, ![4096, 2048]⟩
abbrev S128x2048 : Shape := ⟨2, ![128, 2048]⟩
abbrev S2048x128 : Shape := ⟨2, ![2048, 128]⟩
abbrev S4096x128 : Shape := ⟨2, ![4096, 128]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S128x2048, .bf16⟩
  | .hbm, ⟨2, _⟩ => ⟨S2048x128, .bf16⟩
  | .hbm, ⟨3, _⟩ => ⟨S4096x2048, .f32⟩
  | .hbm, ⟨4, _⟩ => ⟨S2048x128, .f32⟩
  | .hbm, ⟨5, _⟩ => ⟨S4096x128, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Out.lean ====
abbrev S4096x2048 : Shape := ⟨2, ![4096, 2048]⟩
abbrev S2048x2048 : Shape := ⟨2, ![2048, 2048]⟩
abbrev S1x2048 : Shape := ⟨2, ![1, 2048]⟩
abbrev S1024x2048 : Shape := ⟨2, ![1024, 2048]⟩
abbrev S2048x1024 : Shape := ⟨2, ![2048, 1024]⟩
abbrev S1024x1024 : Shape := ⟨2, ![1024, 1024]⟩
abbrev S1x1024 : Shape := ⟨2, ![1, 1024]⟩

abbrev nBuf : Space → Nat
  | .hbm => 6
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S1x2048, .f32⟩
  | .hbm, ⟨4, _⟩ => ⟨S4096x2048, .bf16⟩
  | .hbm, ⟨5, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | .local _ .vmem, ⟨11, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== OutRefIdeal.lean ====
abbrev S4096x2048 : Shape := ⟨2, ![4096, 2048]⟩
abbrev S2048x2048 : Shape := ⟨2, ![2048, 2048]⟩
abbrev S1x2048 : Shape := ⟨2, ![1, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S2048x2048, .f32⟩
  | .hbm, ⟨6, _⟩ => ⟨S4096x2048, .f32⟩
  | .hbm, ⟨7, _⟩ => ⟨S4096x2048, .bf16⟩
  | .hbm, ⟨8, _⟩ => ⟨S4096x2048, .f32⟩
  | .hbm, ⟨9, _⟩ => ⟨S4096x2048, .f32⟩
  | .hbm, ⟨10, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== GmIn.lean ====
abbrev S4096x2048 : Shape := ⟨2, ![4096, 2048]⟩
abbrev S4096x4096 : Shape := ⟨2, ![4096, 4096]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GmInRefIdeal.lean ====
abbrev S4096x2048 : Shape := ⟨2, ![4096, 2048]⟩
abbrev S2048x4096 : Shape := ⟨2, ![2048, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x4096, .bf16⟩
  | .hbm, ⟨3, _⟩ => ⟨S4096x2048, .f32⟩
  | .hbm, ⟨4, _⟩ => ⟨S2048x4096, .f32⟩
  | .hbm, ⟨5, _⟩ => ⟨S4096x4096, .f32⟩
  | .hbm, ⟨6, _⟩ => ⟨S4096x4096, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== NormMod.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormModRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 27
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== NormBwd.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 14
  | .vmem => 20
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S4096x2048, .f32⟩
  | .hbm, ⟨5, _⟩ => ⟨S4096x2048, .f32⟩
  | .hbm, ⟨6, _⟩ => ⟨S4096x2048, .bf16⟩
  | .hbm, ⟨7, _⟩ => ⟨S1x2048, .f32⟩
  | .hbm, ⟨8, _⟩ => ⟨S4096x2048, .f32⟩
  | .hbm, ⟨9, _⟩ => ⟨S1x2048, .f32⟩
  | .hbm, ⟨10, _⟩ => ⟨S1x2048, .f32⟩
  | .hbm, ⟨11, _⟩ => ⟨S1x2048, .f32⟩
  | .hbm, ⟨12, _⟩ => ⟨S4096x2048, .bf16⟩
  | .hbm, ⟨13, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | .local _ .vmem, ⟨12, _⟩ => ⟨S256x2048, .f32⟩
  | .local _ .vmem, ⟨13, _⟩ => ⟨S256x2048, .f32⟩
  | .local _ .vmem, ⟨14, _⟩ => ⟨S1x2048, .f32⟩
  | .local _ .vmem, ⟨15, _⟩ => ⟨S1x2048, .f32⟩
  | .local _ .vmem, ⟨16, _⟩ => ⟨S1x2048, .f32⟩
  | .local _ .vmem, ⟨17, _⟩ => ⟨S256x2048, .bf16⟩
  | .local _ .vmem, ⟨18, _⟩ => ⟨S256x2048, .bf16⟩
  | .local _ .vmem, ⟨19, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v54 : BitVec 32 := Scalar.extui v0
  let c0_i32_26 : BitVec 32 := 0#32
  let v55 : BitVec 1 := Scalar.cmpi .ne v54 c0_i32_26
  v55

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v56 : BitVec 1 := Scalar.xori v0 v_true
  let v57 : BitVec 32 := Scalar.extui v56
  let c0_i32_27 : BitVec 32 := 0#32
  let v58 : BitVec 1 := Scalar.cmpi .ne v57 c0_i32_27
  v58

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v59 : BitVec 32 := Scalar.extui v0
  let c0_i32_28 : BitVec 32 := 0#32
  let v60 : BitVec 1 := Scalar.cmpi .ne v59 c0_i32_28
  v60

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_29 : BitVec 1 := 1#1
  let v61 : BitVec 1 := Scalar.xori v0 true_29
  let v62 : BitVec 32 := Scalar.extui v61
  let c0_i32_30 : BitVec 32 := 0#32
  let v63 : BitVec 1 := Scalar.cmpi .ne v62 c0_i32_30
  v63

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let v64 : BitVec 32 := Scalar.extui v0
  let c0_i32_31 : BitVec 32 := 0#32
  let v65 : BitVec 1 := Scalar.cmpi .ne v64 c0_i32_31
  v65

def k0_cond6 (i : grid0.Coords) : BitVec 1 :=
  let arg0 : BitVec 32 := BitVec.ofNat 32 (i 0).val
  let c0_i32 : BitVec 32 := 0#32
  let v0 : BitVec 1 := Scalar.cmpi .eq arg0 c0_i32
  let true_32 : BitVec 1 := 1#1
  let v66 : BitVec 1 := Scalar.xori v0 true_32
  let v67 : BitVec 32 := Scalar.extui v66
  let c0_i32_33 : BitVec 32 := 0#32
  let v68 : BitVec 1 := Scalar.cmpi .ne v67 c0_i32_33
  v68

def k0_cond7 (i : grid0.Coords) : BitVec 1 :=
  let arg0 : BitVec 32 := BitVec.ofNat 32 (i 0).val
  let c0_i32 : BitVec 32 := 0#32
  let v0 : BitVec 1 := Scalar.cmpi .eq arg0 c0_i32
  let v69 : BitVec 32 := Scalar.extui v0
  let c0_i32_34 : BitVec 32 := 0#32
  let v70 : BitVec 1 := Scalar.cmpi .ne v69 c0_i32_34
  v70

def k0_cond8 (i : grid0.Coords) : BitVec 1 :=
  let arg0 : BitVec 32 := BitVec.ofNat 32 (i 0).val
  let c0_i32 : BitVec 32 := 0#32
  let v0 : BitVec 1 := Scalar.cmpi .eq arg0 c0_i32
  let true_35 : BitVec 1 := 1#1
  let v71 : BitVec 1 := Scalar.xori v0 true_35
  let v72 : BitVec 32 := Scalar.extui v71
  let c0_i32_36 : BitVec 32 := 0#32
  let v73 : BitVec 1 := Scalar.cmpi .ne v72 c0_i32_36
  v73

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== NormBwdRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 78
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S4096x2048, .f32⟩
  | .hbm, ⟨5, _⟩ => ⟨S4096x2048, .f32⟩
  | .hbm, ⟨6, _⟩ => ⟨S4096x2048, .bf16⟩
  | .hbm, ⟨7, _⟩ => ⟨S1x2048, .f32⟩
  | .hbm, ⟨8, _⟩ => ⟨S4096x2048, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S1x2048, .f32⟩
  | .hbm, ⟨29, _⟩ => ⟨S1x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S_, .f32⟩
  | .hbm, ⟨36, _⟩ => ⟨S2048, .f32⟩
  | .hbm, ⟨37, _⟩ => ⟨S1x2048, .f32⟩
  | .hbm, ⟨38, _⟩ => ⟨S4096x2048, .f32⟩
  | .hbm, ⟨39, _⟩ => ⟨S_, .f32⟩
  | .hbm, ⟨40, _⟩ => ⟨S2048, .f32⟩
  | .hbm, ⟨41, _⟩ => ⟨S1x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S_, .f32⟩
  | .hbm, ⟨46, _⟩ => ⟨S2048, .f32⟩
  | .hbm, ⟨47, _⟩ => ⟨S1x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S_, .f32⟩
  | .hbm, ⟨52, _⟩ => ⟨S4096, .f32⟩
  | .hbm, ⟨53, _⟩ => ⟨S4096x1, .f32⟩
  | .hbm, ⟨54, _⟩ => ⟨S4096x2048, .f32⟩
  | .hbm, ⟨55, _⟩ => ⟨S4096x2048, .f32⟩
  | .hbm, ⟨56, _⟩ => ⟨S4096x1, .f32⟩
  | .hbm, ⟨57, _⟩ => ⟨S_, .f32⟩
  | .hbm, ⟨58, _⟩ => ⟨S4096x1, .f32⟩
  | .hbm, ⟨59, _⟩ => ⟨S4096x1, .f32⟩
  | .hbm, ⟨60, _⟩ => ⟨S_, .f32⟩
  | .hbm, ⟨61, _⟩ => ⟨S4096, .f32⟩
  | .hbm, ⟨62, _⟩ => ⟨S4096x2048, .f32⟩
  | .hbm, ⟨63, _⟩ => ⟨S4096x2048, .f32⟩
  | .hbm, ⟨64, _⟩ => ⟨S4096x2048, .f32⟩
  | .hbm, ⟨65, _⟩ => ⟨S4096x2048, .f32⟩
  | .hbm, ⟨66, _⟩ => ⟨S4096x2048, .f32⟩
  | .hbm, ⟨67, _⟩ => ⟨S4096x2048, .f32⟩
  | .hbm, ⟨68, _⟩ => ⟨S4096x2048, .f32⟩
  | .hbm, ⟨69, _⟩ => ⟨S4096x2048, .f32⟩
  | .hbm, ⟨70, _⟩ => ⟨S4096x2048, .f32⟩
  | .hbm, ⟨71, _⟩ => ⟨S4096x2048, .f32⟩
  | .hbm, ⟨72, _⟩ => ⟨S4096x2048, .f32⟩
  | .hbm, ⟨73, _⟩ => ⟨S4096x2048, .f32⟩
  | .hbm, ⟨74, _⟩ => ⟨S_, .f32⟩
  | .hbm, ⟨75, _⟩ => ⟨S2048, .f32⟩
  | .hbm, ⟨76, _⟩ => ⟨S1x2048, .f32⟩
  | .hbm, ⟨77, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_6 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_8 : Ref sig .tc := ⟨.hbm, 57, rfl⟩
abbrev main_v40 : Ref sig .tc := ⟨.hbm, 58, rfl⟩
abbrev main_v41 : Ref sig .tc := ⟨.hbm, 59, rfl⟩
abbrev main_cst_9 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_10 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩

abbrev nD : Nat := 1
abbrev τ : Topo := Topo.v7x

variable {F : FTy → Type} [FloatOps F]
-- ==== NormFirst.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 10
  | .vmem => 14
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S1x2048, .f32⟩
  | .hbm, ⟨8, _⟩ => ⟨S1x2048, .f32⟩
  | .hbm, ⟨9, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S1x2048, .f32⟩
  | .local _ .vmem, ⟨12, _⟩ => ⟨S1x2048, .f32⟩
  | .local _ .vmem, ⟨13, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v44 : BitVec 32 := Scalar.extui v0
  let c0_i32_19 : BitVec 32 := 0#32
  let v45 : BitVec 1 := Scalar.cmpi .ne v44 c0_i32_19
  v45

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v46 : BitVec 1 := Scalar.xori v0 v_true
  let v47 : BitVec 32 := Scalar.extui v46
  let c0_i32_20 : BitVec 32 := 0#32
  let v48 : BitVec 1 := Scalar.cmpi .ne v47 c0_i32_20
  v48

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v49 : BitVec 32 := Scalar.extui v0
  let c0_i32_21 : BitVec 32 := 0#32
  let v50 : BitVec 1 := Scalar.cmpi .ne v49 c0_i32_21
  v50

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_22 : BitVec 1 := 1#1
  let v51 : BitVec 1 := Scalar.xori v0 true_22
  let v52 : BitVec 32 := Scalar.extui v51
  let c0_i32_23 : BitVec 32 := 0#32
  let v53 : BitVec 1 := Scalar.cmpi .ne v52 c0_i32_23
  v53

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let v54 : BitVec 32 := Scalar.extui v0
  let c0_i32_24 : BitVec 32 := 0#32
  let v55 : BitVec 1 := Scalar.cmpi .ne v54 c0_i32_24
  v55

def k0_cond6 (i : grid0.Coords) : BitVec 1 :=
  let arg0 : BitVec 32 := BitVec.ofNat 32 (i 0).val
  let c0_i32 : BitVec 32 := 0#32
  let v0 : BitVec 1 := Scalar.cmpi .eq arg0 c0_i32
  let true_25 : BitVec 1 := 1#1
  let v56 : BitVec 1 := Scalar.xori v0 true_25
  let v57 : BitVec 32 := Scalar.extui v56
  let c0_i32_26 : BitVec 32 := 0#32
  let v58 : BitVec 1 := Scalar.cmpi .ne v57 c0_i32_26
  v58

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== NormFirstRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 66
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S1x2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S2048, .f32⟩
  | .hbm, ⟨35, _⟩ => ⟨S1x2048, .f32⟩
  | .hbm, ⟨36, _⟩ => ⟨S4096x2048, .f32⟩
  | .hbm, ⟨37, _⟩ => ⟨S_, .f32⟩
  | .hbm, ⟨38, _⟩ => ⟨S2048, .f32⟩
  | .hbm, ⟨39, _⟩ => ⟨S1x2048, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S_, .f32⟩
  | .hbm, ⟨44, _⟩ => ⟨S2048, .f32⟩
  | .hbm, ⟨45, _⟩ => ⟨S1x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S_, .f32⟩
  | .hbm, ⟨50, _⟩ => ⟨S4096, .f32⟩
  | .hbm, ⟨51, _⟩ => ⟨S4096x1, .f32⟩
  | .hbm, ⟨52, _⟩ => ⟨S4096x2048, .f32⟩
  | .hbm, ⟨53, _⟩ => ⟨S4096x2048, .f32⟩
  | .hbm, ⟨54, _⟩ => ⟨S4096x1, .f32⟩
  | .hbm, ⟨55, _⟩ => ⟨S_, .f32⟩
  | .hbm, ⟨56, _⟩ => ⟨S4096x1, .f32⟩
  | .hbm, ⟨57, _⟩ => ⟨S4096x1, .f32⟩
  | .hbm, ⟨58, _⟩ => ⟨S_, .f32⟩
  | .hbm, ⟨59, _⟩ => ⟨S4096, .f32⟩
  | .hbm, ⟨60, _⟩ => ⟨S4096x2048, .f32⟩
  | .hbm, ⟨61, _⟩ => ⟨S4096x2048, .f32⟩
  | .hbm, ⟨62, _⟩ => ⟨S4096x2048, .f32⟩
  | .hbm, ⟨63, _⟩ => ⟨S4096x2048, .f32⟩
  | .hbm, ⟨64, _⟩ => ⟨S4096x2048, .f32⟩
  | .hbm, ⟨65, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩

abbrev nD : Nat := 1
abbrev τ : Topo := Topo.v7x

variable {F : FTy → Type} [FloatOps F]
-- ==== Proof.Softmax.lean ====
/- One row of a masked softmax and its derivative, over the extended reals, when the row's scores are real numbers.
   `logit` is a row of scores with `-∞` at the keys that are not visible; `prob` is the softmax of the row; `dscore` is the
   derivative of a loss through the softmax, from the derivative `g` with respect to the probabilities. The programs
   compute both with the row's greatest score subtracted and in different orders: the lemmas say that each
   of those orders gives `prob` and `dscore`. -/
module

public import Idealize.ShloMosaic.PureOps.Ideal
public import Idealize.ShloMosaic.PureOps.Ideal.Laws

@[expose] public section

noncomputable section

namespace Cert.Softmax

open Idealize.ShloMosaic

/-- A sum of real numbers is the same sum over the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A choice between two real numbers. -/
theorem coe_ite (p : Prop) [Decidable p] (a b : ℝ) : (if p then (a : EReal) else (b : EReal)) = ((if p then a else b : ℝ) : EReal) := by
  split <;> rfl

/-- The quotient of two real numbers, the divisor not zero. -/
theorem div_real (a b : ℝ) (h : b ≠ 0) : Ideal.div (a : EReal) (b : EReal) = ((a / b : ℝ) : EReal) := by
  rw [Ideal.div_coe h, ← EReal.coe_mul]; congr 1; ring

/-- The logarithm of a positive real number. -/
theorem log_real (a : ℝ) (h : 0 < a) : Ideal.log (a : EReal) = (Real.log a : EReal) := by
  rw [Ideal.log_coe, if_neg (not_le.mpr h)]

variable {n : ℕ} (vis : Fin n → Prop) [DecidablePred vis] (x g : Fin n → ℝ)

/-- A row of scores, `-∞` at the keys that are not visible. -/
def logit (k : Fin n) : EReal := if vis k then (x k : EReal) else ⊥

/-- The exponential of a visible score less `M`; zero at a key that is not visible. -/
def ex (M : ℝ) (k : Fin n) : ℝ := if vis k then Real.exp (x k - M) else 0

/-- The softmax of the row. -/
def prob (k : Fin n) : ℝ := ex vis x 0 k / ∑ j, ex vis x 0 j

/-- The derivative with respect to the row's scores, from the derivative `g` with respect to its probabilities. -/
def dscore (k : Fin n) : ℝ := prob vis x k * (g k - ∑ j, prob vis x j * g j)

/-- The greatest entry of a row with a visible key is a real number. -/
theorem max_real (h : ∃ k, vis k) : ∃ M : ℝ, Finset.univ.fold max (⊥ : EReal) (logit vis x) = M := by
  obtain ⟨k, hk⟩ := h
  have h1 : Finset.univ.fold max (⊥ : EReal) (logit vis x) < ⊤ := by
    rw [Finset.fold_max_lt]
    refine ⟨bot_lt_top, fun j _ => ?_⟩
    unfold logit; split
    · exact EReal.coe_lt_top _
    · exact bot_lt_top
  have h2 : ⊥ < Finset.univ.fold max (⊥ : EReal) (logit vis x) := by
    rw [Finset.lt_fold_max]
    refine Or.inr ⟨k, Finset.mem_univ _, ?_⟩
    rw [logit, if_pos hk]; exact EReal.bot_lt_coe _
  exact ⟨_, (EReal.coe_toReal h1.ne h2.ne').symm⟩

/-- The exponential of a row's entry less a real number. -/
theorem exp_logit (M : ℝ) (k : Fin n) : Ideal.exp (logit vis x k - (M : EReal)) = (ex vis x M k : EReal) := by
  unfold logit ex; split
  · rw [← EReal.coe_sub, Ideal.exp_coe]
  · rw [EReal.bot_sub]; rfl

theorem ex_nonneg (M : ℝ) (k : Fin n) : 0 ≤ ex vis x M k := by
  unfold ex; split
  · exact (Real.exp_pos _).le
  · exact le_rfl

/-- The normaliser of a row with a visible key is positive. -/
theorem norm_pos (h : ∃ k, vis k) (M : ℝ) : 0 < ∑ k, ex vis x M k := by
  obtain ⟨k, hk⟩ := h
  refine Finset.sum_pos' (fun j _ => ex_nonneg vis x M j) ⟨k, Finset.mem_univ _, ?_⟩
  rw [ex, if_pos hk]; exact Real.exp_pos _

/-- Subtracting `M` from every score scales the exponentials. -/
theorem ex_shift (M : ℝ) (k : Fin n) : ex vis x M k = Real.exp (-M) * ex vis x 0 k := by
  unfold ex; split
  · rw [← Real.exp_add]; congr 1; ring
  · rw [mul_zero]

/-- The softmax does not depend on the number subtracted. -/
theorem ex_div (M : ℝ) (k : Fin n) : ex vis x M k / ∑ j, ex vis x M j = prob vis x k := by
  unfold prob
  simp only [ex_shift vis x M, ← Finset.mul_sum]
  exact mul_div_mul_left _ _ (Real.exp_pos _).ne'

/-- A visible score less the row's log-sum, exponentiated, is the probability. -/
theorem exp_sub_lse (h : ∃ k, vis k) (M : ℝ) (k : Fin n) (hk : vis k) :
    Real.exp (x k - (M + Real.log (∑ j, ex vis x M j))) = prob vis x k := by
  rw [← ex_div vis x M, ← sub_sub, Real.exp_sub, Real.exp_log (norm_pos vis x h M), ex, if_pos hk]

theorem prob_of_not (k : Fin n) (hk : ¬ vis k) : prob vis x k = 0 := by
  rw [prob, ex, if_neg hk, zero_div]

theorem dscore_of_not (k : Fin n) (hk : ¬ vis k) : dscore vis x g k = 0 := by
  rw [dscore, prob_of_not vis x k hk, zero_mul]

/-- The softmax, as a quotient of exponentials over the extended reals. -/
theorem div_eq_prob (h : ∃ k, vis k) (M : ℝ) (k : Fin n) :
    Ideal.div (ex vis x M k : EReal) ((∑ j, ex vis x M j : ℝ) : EReal) = (prob vis x k : EReal) := by
  rw [div_real _ _ (norm_pos vis x h M).ne', ex_div]

/-- The derivative through a quotient of exponentials, as the quotient rule writes it. -/
theorem quotient_rule (h : ∃ k, vis k) (M : ℝ) (k : Fin n) :
    (Ideal.div (g k : EReal) ((∑ j, ex vis x M j : ℝ) : EReal)
      + -(∑ j, ((g j : EReal) * Ideal.div 1 (((∑ i, ex vis x M i : ℝ) : EReal) * ((∑ i, ex vis x M i : ℝ) : EReal))) * (ex vis x M j : EReal)))
      * (ex vis x M k : EReal) = (dscore vis x g k : EReal) := by
  have hZ := (norm_pos vis x h M).ne'
  rw [div_real _ _ hZ, ← EReal.coe_one, ← EReal.coe_mul, div_real _ _ (mul_ne_zero hZ hZ)]
  simp only [← EReal.coe_mul, ← coe_sum, ← EReal.coe_neg, ← EReal.coe_add]
  congr 1
  rw [dscore, ← ex_div vis x M k]
  have e1 : ∑ j, prob vis x j * g j = ∑ j, (ex vis x M j / ∑ i, ex vis x M i) * g j := by simp only [ex_div]
  rw [e1]
  have e2 : ∑ j, g j * (1 / ((∑ i, ex vis x M i) * ∑ i, ex vis x M i)) * ex vis x M j
      = (∑ j, (ex vis x M j / ∑ i, ex vis x M i) * g j) / ∑ i, ex vis x M i := by
    rw [Finset.sum_div]; refine Finset.sum_congr rfl fun j _ => ?_
    field_simp
  rw [e2]
  field_simp
  ring

/-- The derivative from the row's log-sum and the inner product of the output with its derivative. -/
theorem from_lse (h : ∃ k, vis k) (M : ℝ) (k : Fin n) {d : ℕ} (o v : Fin d → ℝ) (w : Fin n → Fin d → ℝ)
    (hg : ∀ j, g j = ∑ i, v i * w j i) (ho : ∀ i, o i = ∑ j, prob vis x j * w j i) :
    (if vis k then Real.exp (x k - (M + Real.log (∑ j, ex vis x M j))) else 0) * (g k - ∑ i, v i * o i) = dscore vis x g k := by
  by_cases hk : vis k
  · rw [if_pos hk, exp_sub_lse vis x h M k hk, dscore]
    congr 2
    simp only [ho, hg, Finset.mul_sum]
    rw [Finset.sum_comm]
    refine Finset.sum_congr rfl fun j _ => Finset.sum_congr rfl fun i _ => by ring
  · rw [if_neg hk, zero_mul, dscore_of_not vis x g k hk]

end Cert.Softmax
-- ==== Proof.Online.lean ====
/- A softmax row computed block by block. The kernel carries the greatest score so far, the sum of the exponentials less that score, and the
   same sum weighted by each coordinate of the values; a new block rescales what is carried to the new greatest score. After any
   number of blocks what is carried is the sum over the keys so far, whatever number has been taken off. -/
module

public import proofs.«01_k».proof.Proof.Softmax

@[expose] public section

noncomputable section

namespace Cert.Softmax

open Idealize.ShloMosaic

variable {N : ℕ}

/-- The sum of the first `n` terms. -/
def part (g : Fin N → ℝ) (n : ℕ) : ℝ := ∑ k ∈ Finset.range n, if h : k < N then g ⟨k, h⟩ else 0

theorem part_zero (g : Fin N → ℝ) : part g 0 = 0 := by simp [part]

/-- One more block of `B` terms. -/
theorem part_block (g : Fin N → ℝ) (n B : ℕ) (hn : n + B ≤ N) : part g (n + B) = part g n + ∑ b : Fin B, g ⟨n + b.val, by omega⟩ := by
  unfold part
  rw [Finset.sum_range_add, ← Fin.sum_univ_eq_sum_range (fun b => if h : n + b < N then g ⟨n + b, h⟩ else 0)]
  exact congrArg _ (Finset.sum_congr rfl fun b _ => dif_pos (show n + b.val < N by omega))

/-- All terms, when those from `n` on are zero. -/
theorem part_all (g : Fin N → ℝ) (n : ℕ) (hn : n ≤ N) (h0 : ∀ k : Fin N, n ≤ k.val → g k = 0) : part g n = ∑ k, g k := by
  have h1 : ∑ k, g k = part g N := by
    unfold part
    rw [← Fin.sum_univ_eq_sum_range (fun k => if h : k < N then g ⟨k, h⟩ else 0)]
    exact Finset.sum_congr rfl fun k _ => by rw [dif_pos k.isLt]
  rw [h1]
  refine Finset.sum_subset (Finset.range_subset_range.mpr hn) fun k hk hk' => ?_
  have h2 := Finset.mem_range.mp hk
  rw [dif_pos h2]
  exact h0 ⟨k, h2⟩ (by simpa using hk')

variable (vis : Fin N → Prop) [DecidablePred vis] (x : Fin N → ℝ)

/-- Taking off `M'` in place of `M`. -/
theorem ex_move (M M' : ℝ) (k : Fin N) : Real.exp (M - M') * ex vis x M k = ex vis x M' k := by
  unfold ex; split
  · rw [← Real.exp_add]; congr 1; ring
  · rw [mul_zero]

theorem part_move (M M' : ℝ) (w : Fin N → ℝ) (n : ℕ) :
    Real.exp (M - M') * part (fun k => ex vis x M k * w k) n = part (fun k => ex vis x M' k * w k) n := by
  unfold part
  rw [Finset.mul_sum]
  refine Finset.sum_congr rfl fun k _ => ?_
  split
  · rw [← mul_assoc, ex_move]
  · rw [mul_zero]

/-- A row's log-sum does not depend on the number taken off. -/
theorem log_sum (h : ∃ k, vis k) (M : ℝ) : M + Real.log (∑ k, ex vis x M k) = Real.log (∑ k, ex vis x 0 k) := by
  have e : ∑ k, ex vis x M k = Real.exp (-M) * ∑ k, ex vis x 0 k := by
    rw [Finset.mul_sum]; exact Finset.sum_congr rfl fun k _ => ex_shift vis x M k
  rw [e, Real.log_mul (Real.exp_pos _).ne' (norm_pos vis x h 0).ne', Real.log_exp]
  ring

/-- What is carried after the first `n` keys, for values `w`: nothing at the start, then the sums so far with some real number taken off. -/
def Carried {d : ℕ} (w : Fin N → Fin d → ℝ) (n : ℕ) (m l : EReal) (acc : Fin d → EReal) : Prop :=
  (n = 0 ∧ m = ⊥ ∧ l = 0 ∧ ∀ i, acc i = 0) ∨
    ∃ M : ℝ, m = (M : EReal) ∧ l = (part (ex vis x M) n : EReal) ∧ ∀ i, acc i = (part (fun k => ex vis x M k * w k i) n : EReal)

/-- One block's sum after rescaling. -/
theorem add_block (M M' : ℝ) (w : Fin N → ℝ) (n B : ℕ) (hn : n + B ≤ N) (s v : Fin B → EReal)
    (hs : ∀ b, s b = logit vis x ⟨n + b.val, by omega⟩) (hv : ∀ b, v b = (w ⟨n + b.val, by omega⟩ : EReal)) :
    Ideal.exp ((M : EReal) - (M' : EReal)) * (part (fun k => ex vis x M k * w k) n : EReal) + ∑ b, Ideal.exp (s b - (M' : EReal)) * v b
      = (part (fun k => ex vis x M' k * w k) (n + B) : EReal) := by
  rw [part_block _ _ _ hn, ← EReal.coe_sub, Ideal.exp_coe, ← EReal.coe_mul, part_move, EReal.coe_add, coe_sum]
  refine congrArg _ (Finset.sum_congr rfl fun b _ => ?_)
  rw [hs, hv, exp_logit, EReal.coe_mul]

/-- The first block's sum. -/
theorem first_block (M' : ℝ) (w : Fin N → ℝ) (B : ℕ) (hn : 0 + B ≤ N) (s v : Fin B → EReal)
    (hs : ∀ b, s b = logit vis x ⟨0 + b.val, by omega⟩) (hv : ∀ b, v b = (w ⟨0 + b.val, by omega⟩ : EReal)) :
    Ideal.exp ((⊥ : EReal) - (M' : EReal)) * 0 + ∑ b, Ideal.exp (s b - (M' : EReal)) * v b
      = (part (fun k => ex vis x M' k * w k) (0 + B) : EReal) := by
  rw [part_block _ _ _ hn, part_zero, mul_zero, EReal.coe_add, coe_sum]
  refine congrArg _ (Finset.sum_congr rfl fun b _ => ?_)
  rw [hs, hv, exp_logit, EReal.coe_mul]

/-- The greatest of a real number and a block's scores. -/
theorem max_block (M : ℝ) (B : ℕ) (s : Fin B → EReal) (hs : ∀ b, s b < ⊤) : ∃ M' : ℝ, max (M : EReal) (Finset.univ.fold max (⊥ : EReal) s) = M' := by
  have h1 : max (M : EReal) (Finset.univ.fold max (⊥ : EReal) s) < ⊤ := by
    rw [max_lt_iff, Finset.fold_max_lt]
    exact ⟨EReal.coe_lt_top _, bot_lt_top, fun b _ => hs b⟩
  have h2 : ⊥ < max (M : EReal) (Finset.univ.fold max (⊥ : EReal) s) := lt_max_of_lt_left (EReal.bot_lt_coe _)
  exact ⟨_, (EReal.coe_toReal h1.ne h2.ne').symm⟩

/-- The greatest of a block's scores, one of them visible. -/
theorem max_first (B : ℕ) (s : Fin B → EReal) (hs : ∀ b, s b < ⊤) (b : Fin B) (hb : ⊥ < s b) :
    ∃ M' : ℝ, max (⊥ : EReal) (Finset.univ.fold max (⊥ : EReal) s) = M' := by
  have h1 : max (⊥ : EReal) (Finset.univ.fold max (⊥ : EReal) s) < ⊤ := by
    rw [max_lt_iff, Finset.fold_max_lt]
    exact ⟨bot_lt_top, bot_lt_top, fun b _ => hs b⟩
  have h2 : ⊥ < max (⊥ : EReal) (Finset.univ.fold max (⊥ : EReal) s) := by
    refine lt_max_of_lt_right ?_
    rw [Finset.lt_fold_max]
    exact Or.inr ⟨b, Finset.mem_univ _, hb⟩
  exact ⟨_, (EReal.coe_toReal h1.ne h2.ne').symm⟩

theorem logit_lt_top (k : Fin N) : logit vis x k < ⊤ := by
  unfold logit; split
  · exact EReal.coe_lt_top _
  · exact bot_lt_top

/-- One block: the carried sums go over to those of `B` more keys. -/
theorem Carried.step {d : ℕ} {w : Fin N → Fin d → ℝ} {n B : ℕ} {m l : EReal} {acc : Fin d → EReal} (C : Carried vis x w n m l acc)
    (hn : n + B ≤ N) (h0 : n = 0 → ∃ b : Fin B, vis ⟨n + b.val, by omega⟩) (s : Fin B → EReal) (v : Fin B → Fin d → EReal)
    (hs : ∀ b, s b = logit vis x ⟨n + b.val, by omega⟩) (hv : ∀ b i, v b i = (w ⟨n + b.val, by omega⟩ i : EReal)) {m' l' : EReal} {acc' : Fin d → EReal}
    (hm : m' = max m (Finset.univ.fold max (⊥ : EReal) s)) (hl : l' = Ideal.exp (m - m') * l + ∑ b, Ideal.exp (s b - m'))
    (ha : ∀ i, acc' i = Ideal.exp (m - m') * acc i + ∑ b, Ideal.exp (s b - m') * v b i) :
    ∃ M : ℝ, m' = (M : EReal) ∧ l' = (part (ex vis x M) (n + B) : EReal) ∧ ∀ i, acc' i = (part (fun k => ex vis x M k * w k i) (n + B) : EReal) := by
  have top : ∀ b, s b < ⊤ := fun b => by rw [hs]; exact logit_lt_top vis x _
  rcases C with ⟨rfl, rfl, rfl, h⟩ | ⟨M, rfl, rfl, h⟩
  · obtain ⟨b, hb⟩ := h0 rfl
    obtain ⟨M', hM'⟩ := max_first B s top b (by rw [hs, logit, if_pos hb]; exact EReal.bot_lt_coe _)
    rw [hM'] at hm; subst hm
    refine ⟨M', rfl, ?_, fun i => ?_⟩
    · have := first_block vis x M' (fun _ => 1) B hn s (fun _ => 1) hs (fun b => EReal.coe_one.symm)
      simp only [mul_one] at this
      rw [hl]; exact this
    · rw [ha, h]
      exact first_block vis x M' (fun k => w k i) B hn s (fun b => v b i) hs (fun b => hv b i)
  · obtain ⟨M', hM'⟩ := max_block M B s top
    rw [hM'] at hm; subst hm
    refine ⟨M', rfl, ?_, fun i => ?_⟩
    · have := add_block vis x M M' (fun _ => 1) n B hn s (fun _ => 1) hs (fun b => EReal.coe_one.symm)
      simp only [mul_one] at this
      rw [hl]; exact this
    · rw [ha, h]
      exact add_block vis x M M' (fun k => w k i) n B hn s (fun b => v b i) hs (fun b => hv b i)

/-- Adding one number to every score. -/
theorem ex_add (c M : ℝ) (k : Fin N) : ex vis (fun k => x k - c) M k = ex vis x (M + c) k := by
  unfold ex; split
  · congr 1; ring
  · rfl

/-- The weighted sum over the normaliser is the softmax's weighted sum. -/
theorem weighted (h : ∃ k, vis k) (M : ℝ) (w : Fin N → ℝ) :
    Ideal.div ((∑ k, ex vis x M k * w k : ℝ) : EReal) ((∑ k, ex vis x M k : ℝ) : EReal) = ((∑ k, prob vis x k * w k : ℝ) : EReal) := by
  rw [div_real _ _ (norm_pos vis x h M).ne', Finset.sum_div]
  congr 1
  refine Finset.sum_congr rfl fun k _ => ?_
  rw [← ex_div vis x M k]; ring

end Cert.Softmax
-- ==== Proof.Words.lean ====
/- Comparisons of small counters held in 32-bit words, and a choice by such a comparison. -/
module

public import Idealize.ShloMosaic.PureOps.Ideal

@[expose] public section

namespace Cert.Words

open Idealize.ShloMosaic

/-- Two numbers below `2 ^ 31` compare as their words do. -/
theorem sle_ofNat (a b : ℕ) (ha : a < 2 ^ 31) (hb : b < 2 ^ 31) : (BitVec.ofNat 32 a).sle (BitVec.ofNat 32 b) = decide (a ≤ b) := by
  have h1 : (BitVec.ofNat 32 a).toInt = a := by rw [BitVec.toInt_eq_toNat_cond, BitVec.toNat_ofNat, Nat.mod_eq_of_lt (by omega)]; split <;> omega
  have h2 : (BitVec.ofNat 32 b).toInt = b := by rw [BitVec.toInt_eq_toNat_cond, BitVec.toNat_ofNat, Nat.mod_eq_of_lt (by omega)]; split <;> omega
  rw [BitVec.sle, h1, h2]; simp only [Nat.cast_le]

/-- A choice by the signed comparison of two small numbers. -/
theorem select_sle {α : Type} (a b : ℕ) (ha : a < 2 ^ 31) (hb : b < 2 ^ 31) (x y : α) :
    Scalar.select (IntOp.cmpi CmpIPredicate.sle (BitVec.ofNat 32 a) (BitVec.ofNat 32 b)) x y = if a ≤ b then x else y := by
  have h : IntOp.cmpi CmpIPredicate.sle (BitVec.ofNat 32 a) (BitVec.ofNat 32 b) = BitVec.ofBool (decide (a ≤ b)) := by
    rw [← sle_ofNat a b ha hb]; rfl
  rw [h, Scalar.select]
  by_cases hab : a ≤ b
  · rw [if_pos hab, if_pos (by rw [decide_eq_true hab]; rfl)]
  · rw [if_neg hab, if_neg (by rw [decide_eq_false hab]; decide)]

/-- The same with a zero added to the first. -/
theorem select_sle_add {α : Type} (a b : ℕ) (ha : a < 2 ^ 31) (hb : b < 2 ^ 31) (x y : α) :
    Scalar.select (IntOp.cmpi CmpIPredicate.sle (IntOp.addi (BitVec.ofNat 32 a) 0#32) (BitVec.ofNat 32 b)) x y = if a ≤ b then x else y := by
  have h : IntOp.addi (BitVec.ofNat 32 a) 0#32 = BitVec.ofNat 32 a := BitVec.add_zero _
  rw [h, select_sle a b ha hb]

end Cert.Words
-- ==== Proof.Heads.lean ====
/- How the 16 heads of 128 coordinates lie in the arrays: head `h`'s coordinate `d` is column `128 * h + d` of an array of 2048 columns, and of
   each third — queries, keys, values — of the array of 6144 columns. -/
module

public import Idealize.ShloMosaic.PureOps.Ideal
public import Idealize.ShloMosaic.Lib.Pointwise

@[expose] public section

noncomputable section

namespace Cert.Heads

open Idealize.ShloMosaic

/-- The column of head `h`'s coordinate `d`. -/
def col (h : Fin 16) (d : Fin 128) : Fin 2048 := ⟨128 * h.val + d.val, by have := h.isLt; have := d.isLt; omega⟩
/-- The same in the queries' third. -/
def qcol (h : Fin 16) (d : Fin 128) : Fin 6144 := ⟨128 * h.val + d.val, by have := h.isLt; have := d.isLt; omega⟩
/-- The same in the keys' third. -/
def kcol (h : Fin 16) (d : Fin 128) : Fin 6144 := ⟨2048 + (128 * h.val + d.val), by have := h.isLt; have := d.isLt; omega⟩
/-- The same in the values' third. -/
def vcol (h : Fin 16) (d : Fin 128) : Fin 6144 := ⟨4096 + (128 * h.val + d.val), by have := h.isLt; have := d.isLt; omega⟩
/-- The head of a column. -/
def head (j : Fin 2048) : Fin 16 := ⟨j.val / 128, by have := j.isLt; omega⟩
/-- The coordinate of a column within its head. -/
def coord (j : Fin 2048) : Fin 128 := ⟨j.val % 128, Nat.mod_lt _ (by decide)⟩

theorem head_col (h : Fin 16) (d : Fin 128) : head (col h d) = h := Fin.ext (by simp only [head, col]; have := d.isLt; omega)
theorem coord_col (h : Fin 16) (d : Fin 128) : coord (col h d) = d := Fin.ext (by simp only [coord, col]; have := d.isLt; omega)
theorem col_head (j : Fin 2048) : col (head j) (coord j) = j := Fin.ext (by simp only [head, coord, col]; omega)

/-- The scores' scale `1 / √128`, as the word both programs hold for it. -/
abbrev scale : EReal := Ideal.ofBits FTy.f32 0x3DB504F3#32

/-- The derivative of the score of query `r` and key `k` of head `h`, from the queries, keys and values `A`, the running sums `R` of the forget gates,
    the output's derivative `D`, the output `O` and the log-sums `L`: zero at a later key. -/
def dscore (A : (⟨2, ![4096, 6144]⟩ : Shape).Idx → EReal) (R : (⟨3, ![16, 1, 4096]⟩ : Shape).Idx → EReal) (D O : (⟨2, ![4096, 2048]⟩ : Shape).Idx → EReal)
    (L : (⟨3, ![16, 4096, 128]⟩ : Shape).Idx → EReal) (h : Fin 16) (r k : Fin 4096) : EReal :=
  if k.val ≤ r.val then
    Ideal.exp ((∑ x, A (ix2 r (qcol h x)) * A (ix2 k (kcol h x))) * scale - R (ix3 h 0 k) - L (ix3 h r 0))
      * (∑ x, D (ix2 r (col h x)) * A (ix2 k (vcol h x)) - ∑ x, D (ix2 r (col h x)) * O (ix2 r (col h x)))
  else 0

end Cert.Heads
-- ==== Proof.FwdBlock.lean ====
/- What one grid point of the forward kernel computes. The point holds 1024 queries of one head and walks the keys in blocks of 1024, first the
   blocks wholly before its own queries, then its own block under the causal mask, carrying each query's greatest score,
   normaliser and weighted sum of the values. -/
module

public import proofs.«01_k».proof.Proof.Gen.FwdIdeal.Value
public import proofs.«01_k».proof.Proof.Online
public import proofs.«01_k».proof.Proof.Words
public import proofs.«01_k».proof.Proof.Heads
public import Idealize.ShloMosaic.Lib.Pipeline.ValueKit
public import Idealize.ShloMosaic.Lib.Pointwise
public import Idealize.ShloMosaic.Lib.WholeRead

@[expose] public section

set_option maxRecDepth 16384

noncomputable section

namespace Cert.FwdIdeal.Block

open Idealize.ShloMosaic Idealize.SL.Sem Cert.FwdIdeal Cert.FwdIdeal.Gen Cert.Heads Cert.Softmax

/-- The kernel's word for "no score" is −∞ in the ideal reading. -/
theorem mask_eq : Named.named (F := Ideal) Cert.FwdIdeal.κ "mask" (φ := .f32) 0xF149F2CA#32 = (⊥ : EReal) :=
  IdealRules.named_const.ideal_named_scalar _ _ _ _ rfl

/-- The keys query `a` of query block `n` sees. -/
def sees (n : ℕ) (a : Fin 1024) (k : Fin 4096) : Prop := k.val ≤ 1024 * n + a.val

instance (n : ℕ) (a : Fin 1024) : DecidablePred (sees n a) := fun k => inferInstanceAs (Decidable (k.val ≤ 1024 * n + a.val))

/-- Rows of the head's keys (or values) from row `1024 * n` on. -/
theorem ld_rows (K : Vec Ideal S4096x128 .bf16) (off : Fin 2 → ℕ) (n : ℕ) (e : off = ![1024 * n, 0]) (h) (b : Fin 1024) (d : Fin 128)
    (hb : 1024 * n + b.val < 4096) :
    View.ld K (Rect.unit (s := S4096x128) off ![1024, 128] h) (ix2 b d) = K (ix2 ⟨1024 * n + b.val, hb⟩ d) := by
  subst e
  refine congrArg K (funext fun a => Fin.ext ?_)
  fin_cases a <;> simp [Rect.unit, Rect.emb]

/-- The forget-gate sums from key `1024 * n` on. -/
theorem ld_gate (R : Vec Ideal S1x1x4096 .f32) (off : Fin 3 → ℕ) (n : ℕ) (e : off = ![0, 0, 1024 * n]) (h) (b : Fin 1024)
    (hb : 1024 * n + b.val < 4096) :
    View.ld R (Rect.unit (s := S1x1x4096) off ![1, 1, 1024] h) (ix3 0 0 b) = R (ix3 0 0 ⟨1024 * n + b.val, hb⟩) := by
  subst e
  refine congrArg R (funext fun a => Fin.ext ?_)
  fin_cases a <;> simp [Rect.unit, Rect.emb]

theorem off1 : ∀ (t : Fin cfg0.N) (k : Fin (k0_t1_loop (grid0.coords t)).trips), k0_off1 (grid0.coords t) k = ![1024 * k.val, 0] :=
  (by decide +kernel : ∀ (t : Fin grid0.N) (k : Fin (k0_t1_loop (grid0.coords t)).trips), _)
theorem off2 : ∀ (t : Fin cfg0.N) (k : Fin (k0_t1_loop (grid0.coords t)).trips), k0_off2 (grid0.coords t) k = ![0, 0, 1024 * k.val] :=
  (by decide +kernel : ∀ (t : Fin grid0.N) (k : Fin (k0_t1_loop (grid0.coords t)).trips), _)
theorem off5 : ∀ t : Fin cfg0.N, k0_off5 (grid0.coords t) = ![1024 * (grid0.coords t 1).val, 0] := (by decide +kernel : ∀ t : Fin grid0.N, _)
theorem off6 : ∀ t : Fin cfg0.N, k0_off6 (grid0.coords t) = ![0, 0, 1024 * (grid0.coords t 1).val] := (by decide +kernel : ∀ t : Fin grid0.N, _)
theorem trips : ∀ t : Fin cfg0.N, (k0_t1_loop (grid0.coords t)).trips = (grid0.coords t 1).val := (by decide +kernel : ∀ t : Fin grid0.N, _)
theorem trips1 : ∀ t : Fin cfg0.N, Scf.trips (0#32) (Scalar.addi (0#32) (Scalar.muli (Scalar.divsi (Scalar.subi (Scalar.muli (BitVec.ofNat 32 (grid0.coords t 1).val) 1#32) 0#32) 1#32) 1#32)) 1#32
    = (grid0.coords t 1).val := (by decide +kernel : ∀ t : Fin grid0.N, _)
theorem trips2 : ∀ t : Fin cfg0.N, Scf.trips (Scalar.addi (0#32) (Scalar.muli (Scalar.divsi (Scalar.subi (Scalar.muli (BitVec.ofNat 32 (grid0.coords t 1).val) 1#32) 0#32) 1#32) 1#32))
    (Scalar.addi (0#32) (Scalar.subi (Scalar.muli (BitVec.ofNat 32 (grid0.coords t 1).val) 1#32) 0#32)) 1#32 = 0 := (by decide +kernel : ∀ t : Fin grid0.N, _)
theorem coord_lt : ∀ t : Fin cfg0.N, (grid0.coords t 1).val < 4 := (by decide +kernel : ∀ t : Fin grid0.N, _)

/-! ### The steps at one entry -/

theorem max_entry (Q : Vec Ideal S1024x128 .bf16) (g : FVec Ideal S1024x1 .f32) (K' : Vec Ideal S1024x128 .bf16) (R' : Vec Ideal S1x1x1024 .f32) (a : Fin 1024) :
    k0_pay11 Q g K' R' (ix2 a 0) = max (g (ix2 a 0)) (Finset.univ.fold max (⊥ : EReal) fun b : Fin 1024 => k0_pay10 Q K' R' (ix2 a b)) := by
  pointwise [k0_pay11]
  rfl

theorem sum_entry (Q : Vec Ideal S1024x128 .bf16) (g l : FVec Ideal S1024x1 .f32) (K' : Vec Ideal S1024x128 .bf16) (R' : Vec Ideal S1x1x1024 .f32) (a : Fin 1024) :
    k0_pay14 Q g l K' R' (ix2 a 0) = Ideal.exp (g (ix2 a 0) - k0_pay11 Q g K' R' (ix2 a 0)) * l (ix2 a 0)
      + ∑ b : Fin 1024, Ideal.exp (k0_pay10 Q K' R' (ix2 a b) - k0_pay11 Q g K' R' (ix2 a 0)) := by
  pointwise [k0_pay14, k0_pay12, k0_pay13]

theorem acc_entry (Q : Vec Ideal S1024x128 .bf16) (g : FVec Ideal S1024x1 .f32) (acc : FVec Ideal S1024x128 .f32) (K' V' : Vec Ideal S1024x128 .bf16) (R' : Vec Ideal S1x1x1024 .f32)
    (a : Fin 1024) (d : Fin 128) :
    k0_pay15 Q g acc K' V' R' (ix2 a d) = Ideal.exp (g (ix2 a 0) - k0_pay11 Q g K' R' (ix2 a 0)) * acc (ix2 a d)
      + ∑ b : Fin 1024, Ideal.exp (k0_pay10 Q K' R' (ix2 a b) - k0_pay11 Q g K' R' (ix2 a 0)) * V' (ix2 b d) := by
  pointwise [k0_pay15, k0_pay12, k0_pay13]

theorem own_row (Q K' : Vec Ideal S1024x128 .bf16) (R' : Vec Ideal S1x1x1024 .f32) (g : FVec Ideal S1024x1 .f32) (a : Fin 1024) :
    k0_pay1 g (k0_pay23 Q K' R') (ix2 a 0) = max (g (ix2 a 0)) (Finset.univ.fold max (⊥ : EReal) fun b : Fin 1024 => k0_pay22 Q K' R' (ix2 a b)) := by
  pointwise [k0_pay1, k0_pay23]
  rfl

theorem own_sum (g l : FVec Ideal S1024x1 .f32) (s : FVec Ideal S1024x1024 .f32) (x : FVec Ideal S1024 .f32) (a : Fin 1024) :
    k0_pay4 g l s x (ix2 a 0) = Ideal.exp (g (ix2 a 0) - k0_pay1 g x (ix2 a 0)) * l (ix2 a 0) + ∑ b : Fin 1024, Ideal.exp (s (ix2 a b) - k0_pay1 g x (ix2 a 0)) := by
  pointwise [k0_pay4, k0_pay3, k0_pay2]

/-- A point's output: the weighted sum over the normaliser. -/
theorem own_out (g l : FVec Ideal S1024x1 .f32) (acc : FVec Ideal S1024x128 .f32) (V' : Vec Ideal S1024x128 .bf16) (s : FVec Ideal S1024x1024 .f32) (x : FVec Ideal S1024 .f32)
    (a : Fin 1024) (d : Fin 128) :
    k0_pay5 g l acc V' s x (ix2 a d) = Ideal.div (Ideal.exp (g (ix2 a 0) - k0_pay1 g x (ix2 a 0)) * acc (ix2 a d)
        + ∑ b : Fin 1024, Ideal.exp (s (ix2 a b) - k0_pay1 g x (ix2 a 0)) * V' (ix2 b d)) (k0_pay4 g l s x (ix2 a 0)) := by
  pointwise [k0_pay5, k0_pay3, k0_pay2]

/-- A point's log-sum: the greatest score plus the logarithm of the normaliser, on every lane. -/
theorem own_log (g l : FVec Ideal S1024x1 .f32) (s : FVec Ideal S1024x1024 .f32) (x : FVec Ideal S1024 .f32) (a : Fin 1024) (z : Fin 128) :
    k0_pay6 g l s x (ix3 0 a z) = k0_pay1 g x (ix2 a 0) + Ideal.log (k0_pay4 g l s x (ix2 a 0)) := by
  pointwise [k0_pay6]

section
variable (n : ℕ) (Q : Vec Ideal S1024x128 .bf16) (K : Vec Ideal S4096x128 .bf16) (R : Vec Ideal S1x1x4096 .f32) (y : Fin 1024 → Fin 4096 → ℝ)
  (hy : ∀ a k, (∑ x, Q (ix2 a x) * K (ix2 k x)) * scale - R (ix3 0 0 k) = (y a k : EReal))
include hy

/-- The scores against a block of keys wholly before the queries. -/
theorem before_scores (j : ℕ) (hj : j < n) (hn : n < 4) (K' : Vec Ideal S1024x128 .bf16) (R' : Vec Ideal S1x1x1024 .f32)
    (hK : ∀ b d, K' (ix2 b d) = K (ix2 ⟨1024 * j + b.val, by omega⟩ d)) (hR : ∀ b, R' (ix3 0 0 b) = R (ix3 0 0 ⟨1024 * j + b.val, by omega⟩)) (a b : Fin 1024) :
    k0_pay10 Q K' R' (ix2 a b) = logit (sees n a) (y a) ⟨1024 * j + b.val, by omega⟩ := by
  rw [logit, if_pos (by show 1024 * j + b.val ≤ _; have := b.isLt; omega), ← hy]
  pointwise [k0_pay10]
  simp only [hK, hR]

/-- The scores against the block of keys at the queries themselves. -/
theorem own_scores (hn : n < 4) (K' : Vec Ideal S1024x128 .bf16) (R' : Vec Ideal S1x1x1024 .f32)
    (hK : ∀ b d, K' (ix2 b d) = K (ix2 ⟨1024 * n + b.val, by omega⟩ d)) (hR : ∀ b, R' (ix3 0 0 b) = R (ix3 0 0 ⟨1024 * n + b.val, by omega⟩)) (a b : Fin 1024) :
    k0_pay22 Q K' R' (ix2 a b) = logit (sees n a) (y a) ⟨1024 * n + b.val, by omega⟩ := by
  rw [logit, ← hy]
  pointwise [k0_pay22]
  rw [Cert.Words.select_sle_add b.val a.val (by have := b.isLt; omega) (by have := a.isLt; omega), mask_eq]
  simp only [hK, hR, sees, Nat.add_le_add_iff_left]
end

end Cert.FwdIdeal.Block
-- ==== Proof.FwdPoint.lean ====
/- What the forward kernel's grid points leave: through the loop over the earlier key blocks, then over the point's own block, the carried numbers
   are the sums over the keys so far; the outputs are the weighted sum over the normaliser, and the log-sum. -/
module

public import proofs.«01_k».proof.Proof.FwdBlock

@[expose] public section

set_option maxRecDepth 16384

noncomputable section

namespace Cert.FwdIdeal.Block

open Idealize.ShloMosaic Idealize.SL.Sem Cert.FwdIdeal Cert.FwdIdeal.Gen Cert.Heads Cert.Softmax

variable (m : (ℓ : Loc nD τ sig) → Buf (Elt Ideal) ℓ) (c : Dev nD) (t : Fin cfg0.N)
  (Q : Vec Ideal S1024x128 .bf16) (K V : Vec Ideal S4096x128 .bf16) (R : Vec Ideal S1x1x4096 .f32)

/-- What the loop over the earlier key blocks carries before block `j`. -/
def carried (j : ℕ) :=
  st_k0_t1 Variants.none c none (grid0.coords t) (ms0_0 t) (hs0_0 t) (ms0_1 t) (hs0_1 t) (ms0_2 t) (hs0_2 t) (ms0_3 t) (hs0_3 t) (ms0_4 t) (hs0_4 t)
    (ms0_5 t) (hs0_5 t) Q ((hs0_1 t).unread K) ((hs0_2 t).unread V) ((hs0_3 t).unread R) (k0_pay7, k0_pay8, k0_pay9) j

variable (y : Fin 1024 → Fin 4096 → ℝ) (w : Fin 4096 → Fin 128 → ℝ)

/-- The carried numbers of query `a` are those of the first `1024 * j` keys. -/
def Good (j : ℕ) (a : Fin 1024) : Prop :=
  Carried (sees (grid0.coords t 1).val a) (y a) w (1024 * j) ((carried c t Q K V R j).1 (ix2 a 0)) ((carried c t Q K V R j).2.1 (ix2 a 0))
    (fun d => (carried c t Q K V R j).2.2 (ix2 a d))

variable (hy : ∀ a k, (∑ x, Q (ix2 a x) * K (ix2 k x)) * scale - R (ix3 0 0 k) = (y a k : EReal)) (hw : ∀ k d, V (ix2 k d) = (w k d : EReal))

theorem good_zero (a : Fin 1024) : Good c t Q K V R y w 0 a := by
  refine Or.inl ⟨rfl, ?_, ?_, fun d => ?_⟩
  · unfold carried
    rw [st_k0_t1_zero]
    pointwise [k0_pay7]
    exact mask_eq
  · unfold carried
    rw [st_k0_t1_zero]
    pointwise [k0_pay8]
  · unfold carried
    rw [st_k0_t1_zero]
    pointwise [k0_pay9]

include hy hw

/-- One block of the loop. -/
theorem good_succ (j : ℕ) (hj : j < (grid0.coords t 1).val) (a : Fin 1024) (C : Good c t Q K V R y w j a) : Good c t Q K V R y w (j + 1) a := by
  have hn := coord_lt t
  have hk : j < (k0_t1_loop (grid0.coords t)).trips := by rw [trips]; exact hj
  have e1 := off1 t ⟨j, hk⟩
  have e2 := off2 t ⟨j, hk⟩
  unfold Good at C ⊢
  have C' := C
  unfold carried at C ⊢
  rw [show j + 1 = (⟨j, hk⟩ : Fin (k0_t1_loop (grid0.coords t)).trips).val + 1 from rfl, st_k0_t1_succ]
  unfold tripR_k0_t1 trip_k0_t1
  dsimp only
  have hK : ∀ b d, (View.readAt (Elt Ideal) (ms0_1 t).view (Rect.unit (s := S4096x128) (k0_off1 (grid0.coords t) ⟨j, hk⟩) ![1024, 128] (k0_off1_inb (grid0.coords t) ⟨j, hk⟩)).toLoadRect ((hs0_1 t).unread K)) (ix2 b d)
      = K (ix2 ⟨1024 * j + b.val, by have := b.isLt; omega⟩ d) :=
    fun b d => (Memref.IsWhole.readAt_unread (hs0_1 t) K _ _).trans (ld_rows K _ j e1 _ b d _)
  have hV : ∀ b d, (View.readAt (Elt Ideal) (ms0_2 t).view (Rect.unit (s := S4096x128) (k0_off1 (grid0.coords t) ⟨j, hk⟩) ![1024, 128] (k0_off1_inb (grid0.coords t) ⟨j, hk⟩)).toLoadRect ((hs0_2 t).unread V)) (ix2 b d)
      = V (ix2 ⟨1024 * j + b.val, by have := b.isLt; omega⟩ d) :=
    fun b d => (Memref.IsWhole.readAt_unread (hs0_2 t) V _ _).trans (ld_rows V _ j e1 _ b d _)
  have hR : ∀ b, (View.readAt (Elt Ideal) (ms0_3 t).view (Rect.unit (s := S1x1x4096) (k0_off2 (grid0.coords t) ⟨j, hk⟩) ![1, 1, 1024] (k0_off2_inb (grid0.coords t) ⟨j, hk⟩)).toLoadRect ((hs0_3 t).unread R)) (ix3 0 0 b)
      = R (ix3 0 0 ⟨1024 * j + b.val, by have := b.isLt; omega⟩) :=
    fun b => (Memref.IsWhole.readAt_unread (hs0_3 t) R _ _).trans (ld_gate R _ j e2 _ b _)
  refine Or.inr ?_
  exact Carried.step (sees (grid0.coords t 1).val a) (y a) (B := 1024) C (by omega)
    (fun h => ⟨0, by show 1024 * j + 0 ≤ _; omega⟩) _ (fun b d => _)
    (fun b => before_scores (grid0.coords t 1).val Q K R y hy j hj hn _ _ hK hR a b) (fun b d => (hV b d).trans (hw _ d))
    (max_entry Q _ _ _ a) (sum_entry Q _ _ _ _ a) (fun d => acc_entry Q _ _ _ _ _ a d)

/-- What the loop carries when it ends. -/
theorem good (j : ℕ) (hj : j ≤ (grid0.coords t 1).val) (a : Fin 1024) : Good c t Q K V R y w j a := by
  induction j with
  | zero => exact good_zero c t Q K V R y w a
  | succ j ih => exact good_succ c t Q K V R y w hy hw j (by omega) a (ih (by omega))

/-- The keys of a point's own block. -/
abbrev ownK : Vec Ideal S1024x128 .bf16 := View.ld K (Rect.unit (s := S4096x128) (k0_off5 (grid0.coords t)) ![1024, 128] (k0_off5_inb _))
/-- The values of a point's own block. -/
abbrev ownV : Vec Ideal S1024x128 .bf16 := View.ld V (Rect.unit (s := S4096x128) (k0_off5 (grid0.coords t)) ![1024, 128] (k0_off5_inb _))
/-- The forget-gate sums of a point's own block. -/
abbrev ownR : Vec Ideal S1x1x1024 .f32 := View.ld R (Rect.unit (s := S1x1x4096) (k0_off6 (grid0.coords t)) ![1, 1, 1024] (k0_off6_inb _))

/-- After the own block the carried numbers are the sums over all keys. -/
theorem ended (a : Fin 1024) (g l : FVec Ideal S1024x1 .f32) (acc : FVec Ideal S1024x128 .f32)
    (C : Carried (sees (grid0.coords t 1).val a) (y a) w (1024 * (grid0.coords t 1).val) (g (ix2 a 0)) (l (ix2 a 0)) (fun d => acc (ix2 a d))) :
    ∃ M : ℝ, k0_pay1 g (k0_pay23 Q (ownK t K) (ownR t R)) (ix2 a 0) = (M : EReal)
      ∧ k0_pay4 g l (k0_pay22 Q (ownK t K) (ownR t R)) (k0_pay23 Q (ownK t K) (ownR t R)) (ix2 a 0) = ((∑ k, ex (sees (grid0.coords t 1).val a) (y a) M k : ℝ) : EReal)
      ∧ ∀ d, Ideal.exp (g (ix2 a 0) - k0_pay1 g (k0_pay23 Q (ownK t K) (ownR t R)) (ix2 a 0)) * acc (ix2 a d)
          + ∑ b : Fin 1024, Ideal.exp (k0_pay22 Q (ownK t K) (ownR t R) (ix2 a b) - k0_pay1 g (k0_pay23 Q (ownK t K) (ownR t R)) (ix2 a 0)) * ownV t V (ix2 b d)
        = ((∑ k, ex (sees (grid0.coords t 1).val a) (y a) M k * w k d : ℝ) : EReal) := by
  have hn := coord_lt t
  have hK : ∀ b d, ownK t K (ix2 b d) = K (ix2 ⟨1024 * (grid0.coords t 1).val + b.val, by have := b.isLt; omega⟩ d) :=
    fun b d => ld_rows K _ _ (off5 t) (k0_off5_inb _) b d _
  have hV : ∀ b d, ownV t V (ix2 b d) = V (ix2 ⟨1024 * (grid0.coords t 1).val + b.val, by have := b.isLt; omega⟩ d) :=
    fun b d => ld_rows V _ _ (off5 t) (k0_off5_inb _) b d _
  have hR : ∀ b, ownR t R (ix3 0 0 b) = R (ix3 0 0 ⟨1024 * (grid0.coords t 1).val + b.val, by have := b.isLt; omega⟩) :=
    fun b => ld_gate R _ _ (off6 t) (k0_off6_inb _) b _
  have z : ∀ (M : ℝ) (k : Fin 4096), 1024 * (grid0.coords t 1).val + 1024 ≤ k.val → ex (sees (grid0.coords t 1).val a) (y a) M k = 0 := fun M k h =>
    if_neg (by show ¬ k.val ≤ _; have := a.isLt; omega)
  obtain ⟨M, h1, h2, h3⟩ := Carried.step (sees (grid0.coords t 1).val a) (y a) (B := 1024) C (by omega)
    (fun h => ⟨0, by show 1024 * (grid0.coords t 1).val + 0 ≤ _; omega⟩) _ (fun b d => ownV t V (ix2 b d))
    (fun b => own_scores (grid0.coords t 1).val Q K R y hy hn _ _ hK hR a b) (fun b d => (hV b d).trans (hw _ d))
    (own_row Q _ _ g a) (own_sum g l _ _ a) (fun d => rfl)
  refine ⟨M, h1, h2.trans (congrArg _ (part_all _ _ (by omega) (z M))), fun d => (h3 d).trans (congrArg _ (part_all _ _ (by omega) fun k h => ?_))⟩
  rw [z M k h, zero_mul]

omit hy hw in
/-- A query sees itself. -/
theorem sees_self (n : ℕ) (hn : n < 4) (a : Fin 1024) : ∃ k, sees n a k := ⟨⟨1024 * n + a.val, by have := a.isLt; omega⟩, le_refl _⟩

end Cert.FwdIdeal.Block
-- ==== Proof.FwdResults.lean ====
/- The two blocks one grid point of the forward kernel writes: the softmax's weighted sums of the values, and the log-sums on every lane. -/
module

public import proofs.«01_k».proof.Proof.FwdPoint

@[expose] public section

set_option maxRecDepth 16384

noncomputable section

namespace Cert.FwdIdeal.Block

open Idealize.ShloMosaic Idealize.SL.Sem Cert.FwdIdeal Cert.FwdIdeal.Gen Cert.Heads Cert.Softmax

/-- The score of query `a` and key `k` of a point's blocks, the query's own gate sum left out. -/
def pair (Q : Vec Ideal S1024x128 .bf16) (K : Vec Ideal S4096x128 .bf16) (R : Vec Ideal S1x1x4096 .f32) (a : Fin 1024) (k : Fin 4096) : EReal :=
  (∑ x, Q (ix2 a x) * K (ix2 k x)) * scale - R (ix3 0 0 k)

variable (m : (ℓ : Loc nD τ sig) → Buf (Elt Ideal) ℓ) (c : Dev nD) (t : Fin cfg0.N) (y : Fin 1024 → Fin 4096 → ℝ) (w : Fin 4096 → Fin 128 → ℝ)
  (hy : ∀ a k, pair (iblk m c 0 t) (iblk m c 1 t) (iblk m c 3 t) a k = (y a k : EReal))
  (hw : ∀ k d, (iblk m c 2 t : Vec Ideal S4096x128 .bf16) (ix2 k d) = (w k d : EReal))
include hy hw

/-- A point's block of the output. -/
theorem after4 (a : Fin 1024) (d : Fin 128) :
    (dats m 0 c).after 4 t (ix2 a d) = ((∑ k, prob (sees (grid0.coords t 1).val a) (y a) k * w k d : ℝ) : EReal) := by
  have hn := coord_lt t
  have C := good c t (iblk m c 0 t) (iblk m c 1 t) (iblk m c 2 t) (iblk m c 3 t) y w hy hw _ le_rfl a
  unfold Good carried at C
  obtain ⟨M, -, h2, h3⟩ := ended t (iblk m c 0 t) (iblk m c 1 t) (iblk m c 2 t) (iblk m c 3 t) y w hy hw a _ _ _ C
  rw [after0_4]; unfold outsAt0
  frame_out
  rw [trips1, trips2, st_k0_t2_zero]
  refine (own_out _ _ _ _ _ _ a d).trans ((congrArg₂ Ideal.div (h3 d) h2).trans ?_)
  exact weighted (sees (grid0.coords t 1).val a) (y a) (sees_self _ hn a) M (fun k => w k d)

/-- A point's block of the log-sums. -/
theorem after5 (a : Fin 1024) (z : Fin 128) :
    (dats m 0 c).after 5 t (ix3 0 a z) = (Real.log (∑ k, ex (sees (grid0.coords t 1).val a) (y a) 0 k) : EReal) := by
  have hn := coord_lt t
  have C := good c t (iblk m c 0 t) (iblk m c 1 t) (iblk m c 2 t) (iblk m c 3 t) y w hy hw _ le_rfl a
  unfold Good carried at C
  obtain ⟨M, h1, h2, -⟩ := ended t (iblk m c 0 t) (iblk m c 1 t) (iblk m c 2 t) (iblk m c 3 t) y w hy hw a _ _ _ C
  rw [after0_5]; unfold outsAt0
  frame_out
  rw [trips1, trips2, st_k0_t2_zero]
  refine (own_log _ _ _ _ a z).trans ((congrArg₂ (fun u v : EReal => u + Ideal.log v) h1 h2).trans ?_)
  rw [log_real _ (norm_pos _ _ (sees_self _ hn a) M), ← EReal.coe_add]
  exact congrArg _ (log_sum (sees (grid0.coords t 1).val a) (y a) (sees_self _ hn a) M)

end Cert.FwdIdeal.Block
-- ==== Proof.Attn.lean ====
/- The forgetting attention over the real numbers: the scores of a head, the derivative of its probabilities, its output, and the derivative of
   its scores; and these same quantities as the programs write them, over the extended reals. -/
module

public import proofs.«01_k».proof.Proof.Heads
public import proofs.«01_k».proof.Proof.Softmax

@[expose] public section

noncomputable section

namespace Cert.Attn

open Idealize.ShloMosaic Cert.Heads Cert.Softmax

/-- The scores' scale is a real number. -/
theorem scale_real : ∃ s : ℝ, scale = (s : EReal) := by
  unfold scale Ideal.ofBits Ideal.ieee
  dsimp only
  rw [if_neg (by decide), if_neg (by decide)]
  exact ⟨_, rfl⟩

/-- The scale as a real number. -/
def s : ℝ := scale_real.choose
theorem scale_eq : scale = (s : EReal) := scale_real.choose_spec

/-- The word of minus infinity. -/
theorem bot_word : Ideal.ofBits FTy.f32 0xFF800000#32 = (⊥ : EReal) := by simp [Ideal.ofBits, Ideal.ieee]

variable (a : (⟨2, ![4096, 6144]⟩ : Shape).Idx → ℝ) (f : (⟨3, ![16, 1, 4096]⟩ : Shape).Idx → ℝ) (e : (⟨2, ![4096, 2048]⟩ : Shape).Idx → ℝ)

/-- A key is visible to the queries at and after it. -/
abbrev vis (r k : Fin 4096) : Prop := k.val ≤ r.val

theorem vis_self (r : Fin 4096) : ∃ k, vis r k := ⟨r, le_rfl⟩

/-- The score of query `r` and key `k`. -/
def x (h : Fin 16) (r k : Fin 4096) : ℝ := (∑ d, a (ix2 r (qcol h d)) * a (ix2 k (kcol h d))) * s + f (ix3 h 0 r) - f (ix3 h 0 k)

/-- The derivative of the probability of key `k` at query `r`. -/
def g (h : Fin 16) (r k : Fin 4096) : ℝ := ∑ d, e (ix2 r (col h d)) * a (ix2 k (vcol h d))

/-- The attention's output. -/
def out (h : Fin 16) (r : Fin 4096) (d : Fin 128) : ℝ := ∑ k, prob (vis r) (x a f h r) k * a (ix2 k (vcol h d))

/-- The derivative of the score of query `r` and key `k`. -/
def ds (h : Fin 16) (r k : Fin 4096) : ℝ := Softmax.dscore (vis r) (x a f h r) (g a e h r) k

/-- The scores as the programs write them. -/
theorem score_coe (h : Fin 16) (r k : Fin 4096) :
    (∑ d, (a (ix2 r (qcol h d)) : EReal) * (a (ix2 k (kcol h d)) : EReal)) * scale + (f (ix3 h 0 r) : EReal) - (f (ix3 h 0 k) : EReal) = (x a f h r k : EReal) := by
  rw [scale_eq]
  simp only [← EReal.coe_mul, ← coe_sum, ← EReal.coe_add, ← EReal.coe_sub]
  rfl

/-- The derivative of a score, from the output and the row's log-sum. -/
theorem dscore_coe (O : (⟨2, ![4096, 2048]⟩ : Shape).Idx → EReal) (L : (⟨3, ![16, 4096, 128]⟩ : Shape).Idx → EReal) (h : Fin 16) (r k : Fin 4096) (M : ℝ)
    (hO : ∀ d, O (ix2 r (col h d)) = (out a f h r d : EReal))
    (hL : L (ix3 h r 0) = ((M + Real.log (∑ j, ex (vis r) (x a f h r) M j) - f (ix3 h 0 r) : ℝ) : EReal)) :
    Heads.dscore (fun i => (a i : EReal)) (fun i => (f i : EReal)) (fun i => (e i : EReal)) O L h r k = (ds a f e h r k : EReal) := by
  unfold Heads.dscore ds
  simp only [hO, hL, scale_eq]
  simp only [← EReal.coe_mul, ← coe_sum, ← EReal.coe_sub, Ideal.exp_coe]
  rw [← from_lse (vis r) (x a f h r) (g a e h r) (vis_self r) M k (fun d => out a f h r d) (fun d => e (ix2 r (col h d))) (fun j d => a (ix2 j (vcol h d)))
    (fun j => rfl) (fun d => rfl)]
  by_cases hk : k.val ≤ r.val
  · rw [if_pos hk, if_pos hk, EReal.coe_mul, g, x]
    refine congrArg (fun u : ℝ => ((Real.exp u : ℝ) : EReal) * _) ?_
    ring
  · rw [if_neg hk, if_neg hk, zero_mul]; rfl

end Cert.Attn
-- ==== Proof.FwdArray.lean ====
/- The forward kernel's two result arrays, entry by entry, at arguments that are real numbers: the attention's output and each query's log-sum, the
   query's own gate sum left out of it. -/
module

public import proofs.«01_k».proof.Proof.FwdResults
public import proofs.«01_k».proof.Proof.Attn

@[expose] public section

set_option maxRecDepth 16384

noncomputable section

namespace Cert.FwdIdeal.Block

open Idealize.ShloMosaic Idealize.SL.Sem Cert.FwdIdeal Cert.FwdIdeal.Gen Cert.Heads Cert.Softmax Cert.Attn

variable (m : (ℓ : Loc nD τ sig) → Buf (Elt Ideal) ℓ) (c : Dev nD)

/-- Where each window's block lies, from the point's head and query block. -/
theorem idx : ∀ t : Fin cfg0.N, win0_0.index t = ![(grid0.coords t 1).val, (grid0.coords t 0).val]
    ∧ win0_1.index t = ![0, 16 + (grid0.coords t 0).val] ∧ win0_2.index t = ![0, 32 + (grid0.coords t 0).val]
    ∧ win0_3.index t = ![(grid0.coords t 0).val, 0, 0]
    ∧ win0_4.index t = ![(grid0.coords t 1).val, (grid0.coords t 0).val] ∧ win0_5.index t = ![(grid0.coords t 0).val, (grid0.coords t 1).val, 0] :=
  (by decide +kernel : ∀ t : Fin grid0.N, _)

theorem coord0_lt : ∀ t : Fin cfg0.N, (grid0.coords t 0).val < 16 := (by decide +kernel : ∀ t : Fin grid0.N, _)

/-- The head of a point. -/
def hd (t : Fin cfg0.N) : Fin 16 := ⟨(grid0.coords t 0).val, coord0_lt t⟩
/-- The token of a point's query `a`. -/
def tok (t : Fin cfg0.N) (a : Fin 1024) : Fin 4096 := ⟨1024 * (grid0.coords t 1).val + a.val, by have := coord_lt t; have := a.isLt; omega⟩

variable (t : Fin cfg0.N)

/-- The device's arrays, whatever they hold. -/
abbrev Arrays (c : Dev nD) := (b : Ref sig .tc) → Buf (Elt Ideal) ((c.tc : Thread nD τ).loc b)

theorem opened0 (X : Arrays c) (y : S1024x128.Idx) :
    ((cfg0.win 0).blk t).view.read (Elt Ideal) (X (Pipeline.arrRef spec0 0)) y = X main_arg0 ((win0_0.blk t).view.emb y) := rfl
theorem place0 (a : Fin 1024) (d : Fin 128) : (win0_0.blk t).view.emb (ix2 a d) = ix2 (tok t a) (qcol (hd t) d) := by
  unfold tok qcol hd; blk_ext [(idx t).1]
theorem read0 (a : Fin 1024) (d : Fin 128) : (iblk m c 0 t : Vec Ideal S1024x128 .bf16) (ix2 a d) = V m c main_arg0 (ix2 (tok t a) (qcol (hd t) d)) :=
  (opened0 c t (V m c) _).trans (congrArg (V m c main_arg0) (place0 t a d))
theorem opened1 (X : Arrays c) (y : S4096x128.Idx) :
    ((cfg0.win 1).blk t).view.read (Elt Ideal) (X (Pipeline.arrRef spec0 1)) y = X main_arg0 ((win0_1.blk t).view.emb y) := rfl
theorem place1 (k : Fin 4096) (d : Fin 128) : (win0_1.blk t).view.emb (ix2 k d) = ix2 k (kcol (hd t) d) := by
  unfold kcol hd; blk_ext [(idx t).2.1]
theorem read1 (k : Fin 4096) (d : Fin 128) : (iblk m c 1 t : Vec Ideal S4096x128 .bf16) (ix2 k d) = V m c main_arg0 (ix2 k (kcol (hd t) d)) :=
  (opened1 c t (V m c) _).trans (congrArg (V m c main_arg0) (place1 t k d))
theorem opened2 (X : Arrays c) (y : S4096x128.Idx) :
    ((cfg0.win 2).blk t).view.read (Elt Ideal) (X (Pipeline.arrRef spec0 2)) y = X main_arg0 ((win0_2.blk t).view.emb y) := rfl
theorem place2 (k : Fin 4096) (d : Fin 128) : (win0_2.blk t).view.emb (ix2 k d) = ix2 k (vcol (hd t) d) := by
  unfold vcol hd; blk_ext [(idx t).2.2.1]
theorem read2 (k : Fin 4096) (d : Fin 128) : (iblk m c 2 t : Vec Ideal S4096x128 .bf16) (ix2 k d) = V m c main_arg0 (ix2 k (vcol (hd t) d)) :=
  (opened2 c t (V m c) _).trans (congrArg (V m c main_arg0) (place2 t k d))
theorem opened3 (X : Arrays c) (y : S1x1x4096.Idx) :
    ((cfg0.win 3).blk t).view.read (Elt Ideal) (X (Pipeline.arrRef spec0 3)) y = X main_arg1 ((win0_3.blk t).view.emb y) := rfl
theorem place3 (k : Fin 4096) : (win0_3.blk t).view.emb (ix3 0 0 k) = ix3 (hd t) 0 k := by
  unfold hd; blk_ext [(idx t).2.2.2.1]
theorem read3 (k : Fin 4096) : (iblk m c 3 t : Vec Ideal S1x1x4096 .f32) (ix3 0 0 k) = V m c main_arg1 (ix3 (hd t) 0 k) :=
  (opened3 c t (V m c) _).trans (congrArg (V m c main_arg1) (place3 t k))

variable (a : S4096x6144.Idx → ℝ) (f : S16x1x4096.Idx → ℝ)
  (ha : m ((c.tc : Thread nD τ).loc main_arg0) = fun i => (a i : EReal))
  (hf : m ((c.tc : Thread nD τ).loc main_arg1) = fun i => (f i : EReal))

/-- A point's scores are the head's, the query's own gate sum left out. -/
def short (q : Fin 1024) (k : Fin 4096) : ℝ := x a f (hd t) (tok t q) k - f (ix3 (hd t) 0 (tok t q))

include ha hf

theorem pair_real (q : Fin 1024) (k : Fin 4096) : pair (iblk m c 0 t) (iblk m c 1 t) (iblk m c 3 t) q k = (short t a f q k : EReal) := by
  have h0 : V m c main_arg0 = fun i => (a i : EReal) := (V_main_arg0 m c).trans ha
  have h1 : V m c main_arg1 = fun i => (f i : EReal) := (V_main_arg1 m c).trans hf
  have e : short t a f q k = (∑ d, a (ix2 (tok t q) (qcol (hd t) d)) * a (ix2 k (kcol (hd t) d))) * s - f (ix3 (hd t) 0 k) := by
    unfold short x; ring
  rw [e]
  unfold pair
  simp only [read0, read1, read3]
  rw [h0, h1, scale_eq]
  simp only [← EReal.coe_mul, ← coe_sum, ← EReal.coe_sub]

omit hf in
theorem values_real (k : Fin 4096) (d : Fin 128) : (iblk m c 2 t : Vec Ideal S4096x128 .bf16) (ix2 k d) = (a (ix2 k (vcol (hd t) d)) : EReal) :=
  (read2 m c t k d).trans (congrFun ((V_main_arg0 m c).trans ha) _)

omit ha hf in
/-- The softmax does not see the query's own gate sum. -/
theorem prob_short (q : Fin 1024) (k : Fin 4096) : prob (sees (grid0.coords t 1).val q) (short t a f q) k = prob (vis (tok t q)) (x a f (hd t) (tok t q)) k := by
  rw [← ex_div (vis (tok t q)) (x a f (hd t) (tok t q)) (0 + f (ix3 (hd t) 0 (tok t q)))]
  simp only [← ex_add]
  rfl

omit ha hf in
/-- The log-sum less the query's own gate sum. -/
theorem log_short (q : Fin 1024) : Real.log (∑ k, ex (sees (grid0.coords t 1).val q) (short t a f q) 0 k)
    = Real.log (∑ k, ex (vis (tok t q)) (x a f (hd t) (tok t q)) 0 k) - f (ix3 (hd t) 0 (tok t q)) := by
  rw [← log_sum (vis (tok t q)) (x a f (hd t) (tok t q)) (vis_self _) (0 + f (ix3 (hd t) 0 (tok t q)))]
  simp only [← ex_add]
  rw [zero_add, add_sub_cancel_left]
  rfl

/-- The output. -/
theorem array4 : (dats m 0 c).arrAt 4 cfg0.N = fun y : S4096x2048.Idx => (out a f (head (y 1)) (y 0) (coord (y 1)) : EReal) := by
  refine (dats m 0 c).arrAt_eq_of_covers 4 _ (by decide +kernel) fun t hfl y => ?_
  blk_simp
  obtain ⟨q, d, rfl⟩ : ∃ (q : Fin 1024) (d : Fin 128), y = ix2 q d := ⟨y 0, y 1, eq_ix2 y⟩
  rw [after4 m c t (short t a f) (fun k d => a (ix2 k (vcol (hd t) d))) (pair_real m c t a f ha hf) (values_real m c t a ha)]
  have e0 : (win0_4.blk t).view.emb (ix2 q d) = ix2 (tok t q) (col (hd t) d) := by
    unfold tok col hd; blk_ext [(idx t).2.2.2.2.1]
  rw [e0]
  show _ = (out a f (head (col (hd t) d)) (tok t q) (coord (col (hd t) d)) : EReal)
  rw [head_col, coord_col]
  simp only [prob_short]
  rfl

/-- The log-sums, on every lane. -/
theorem array5 : (dats m 0 c).arrAt 5 cfg0.N = fun y : S16x4096x128.Idx =>
    ((Real.log (∑ k, ex (vis (y 1)) (x a f (y 0) (y 1)) 0 k) - f (ix3 (y 0) 0 (y 1)) : ℝ) : EReal) := by
  refine (dats m 0 c).arrAt_eq_of_covers 5 _ (by decide +kernel) fun t hfl y => ?_
  blk_simp
  obtain ⟨q, z, rfl⟩ : ∃ (q : Fin 1024) (z : Fin 128), y = ix3 0 q z := ⟨y 1, y 2, by
    refine (eq_ix3 y).trans ?_
    congr 1; exact Subsingleton.elim (α := Fin 1) _ _⟩
  rw [after5 m c t (short t a f) (fun k d => a (ix2 k (vcol (hd t) d))) (pair_real m c t a f ha hf) (values_real m c t a ha)]
  have e0 : (win0_5.blk t).view.emb (ix3 0 q z) = ix3 (hd t) (tok t q) z := by
    unfold tok hd; blk_ext [(idx t).2.2.2.2.2]
  rw [e0, log_short]
  rfl

end Cert.FwdIdeal.Block
-- ==== Proof.Sums.lean ====
/- Sums over the keys taken block by block: a sum over `Fin N` is the sum of a function on the natural numbers that is zero
   from `N` on, and such a sum grows one block of `B` terms at a time. -/
module

public import Mathlib.Data.EReal.Operations
public import Mathlib.Algebra.BigOperators.Intervals
public import Mathlib.Algebra.BigOperators.Fin

@[expose] public section

noncomputable section

namespace Cert.Sums

variable {N : ℕ}

/-- A function on `Fin N` continued by zero. -/
def ext (g : Fin N → EReal) (k : ℕ) : EReal := if h : k < N then g ⟨k, h⟩ else 0

theorem ext_of_lt (g : Fin N → EReal) (k : ℕ) (h : k < N) : ext g k = g ⟨k, h⟩ := dif_pos h

/-- The whole sum, when the function is zero from `n` on, is the sum of the first `n` terms. -/
theorem sum_eq_range (g : Fin N → EReal) (n : ℕ) (hn : n ≤ N) (h0 : ∀ k : Fin N, n ≤ k.val → g k = 0) :
    ∑ k, g k = ∑ k ∈ Finset.range n, ext g k := by
  have h1 : ∑ k, g k = ∑ k ∈ Finset.range N, ext g k := by
    rw [← Fin.sum_univ_eq_sum_range]
    exact Finset.sum_congr rfl fun k _ => (ext_of_lt g k.val k.isLt).symm
  rw [h1]
  refine (Finset.sum_subset (Finset.range_subset_range.mpr hn) fun k hk hk' => ?_).symm
  have h2 := Finset.mem_range.mp hk
  rw [ext_of_lt g k h2]
  exact h0 ⟨k, h2⟩ (by simpa using hk')

/-- The whole sum, when the function is zero below `n`, is the sum of the terms from `n` on. -/
theorem sum_eq_Ico (g : Fin N → EReal) (n : ℕ) (h0 : ∀ k : Fin N, k.val < n → g k = 0) :
    ∑ k, g k = ∑ k ∈ Finset.Ico n N, ext g k := by
  have h1 : ∑ k, g k = ∑ k ∈ Finset.range N, ext g k := by
    rw [← Fin.sum_univ_eq_sum_range]
    exact Finset.sum_congr rfl fun k _ => (ext_of_lt g k.val k.isLt).symm
  rw [h1, Finset.range_eq_Ico]
  refine (Finset.sum_subset (Finset.Ico_subset_Ico_left (Nat.zero_le n)) fun k hk hk' => ?_).symm
  have h2 := (Finset.mem_Ico.mp hk).2
  rw [ext_of_lt g k h2]
  exact h0 ⟨k, h2⟩ (by simp only [Finset.mem_Ico, not_and] at hk'; by_contra h3; exact hk' (not_lt.mp h3) h2)

/-- One more block of `B` terms. -/
theorem sum_block (f : ℕ → EReal) (B n : ℕ) :
    ∑ k ∈ Finset.range (B * (n + 1)), f k = ∑ k ∈ Finset.range (B * n), f k + ∑ b : Fin B, f (B * n + b.val) := by
  rw [Nat.mul_succ, Finset.sum_range_add, Fin.sum_univ_eq_sum_range (fun b => f (B * n + b))]

end Cert.Sums
-- ==== Proof.DqBlock.lean ====
/- What one grid point of the kernel for the gradient of the queries computes. The point holds 1024 queries of one head and walks
   the keys in blocks of 1024: first the blocks wholly before its own queries, then its own block under
   the causal mask. Its two results are the sums over all visible keys of the scores' derivative, against the keys
   and alone. -/
module

public import proofs.«01_k».proof.Proof.Gen.DqIdeal.Value
public import proofs.«01_k».proof.Proof.Sums
public import proofs.«01_k».proof.Proof.Words
public import proofs.«01_k».proof.Proof.Heads
public import Idealize.ShloMosaic.Lib.Pipeline.ValueKit
public import Idealize.ShloMosaic.Lib.Pointwise
public import Idealize.ShloMosaic.Lib.WholeRead

@[expose] public section

set_option maxRecDepth 16384

noncomputable section

namespace Cert.DqIdeal.Block

open Idealize.ShloMosaic Idealize.SL.Sem Cert.DqIdeal Cert.DqIdeal.Gen Cert.Heads

/-- The derivative of the score of key `k` for query `a` of query block `n`, from that block's queries, output derivatives, outputs and log-sums
    and the head's keys, values and forget-gate sums: zero at a later key. -/
def ds (n : ℕ) (Q D O : Vec Ideal S1024x128 .bf16) (L : Vec Ideal S1x1024x1 .f32) (K V : Vec Ideal S4096x128 .bf16)
    (R : Vec Ideal S1x1x4096 .f32) (a : Fin 1024) (k : Fin 4096) : EReal :=
  if k.val ≤ 1024 * n + a.val then
    Ideal.exp ((∑ x, Q (ix2 a x) * K (ix2 k x)) * scale - R (ix3 0 0 k) - L (ix3 0 a 0))
      * (∑ x, D (ix2 a x) * V (ix2 k x) - ∑ x, D (ix2 a x) * O (ix2 a x))
  else 0

/-- Rows of the head's keys (or values) from row `1024 * n` on. -/
theorem ld_rows (K : Vec Ideal S4096x128 .bf16) (off : Fin 2 → ℕ) (n : ℕ) (e : off = ![1024 * n, 0]) (h) (b : Fin 1024) (d : Fin 128)
    (hb : 1024 * n + b.val < 4096) :
    View.ld K (Rect.unit (s := S4096x128) off ![1024, 128] h) (ix2 b d) = K (ix2 ⟨1024 * n + b.val, hb⟩ d) := by
  subst e
  refine congrArg K (funext fun a => Fin.ext ?_)
  fin_cases a <;> simp [Rect.unit, Rect.emb]

/-- The forget-gate sums from key `1024 * n` on. -/
theorem ld_gate (R : Vec Ideal S1x1x4096 .f32) (off : Fin 3 → ℕ) (n : ℕ) (e : off = ![0, 0, 1024 * n]) (h) (b : Fin 1024)
    (hb : 1024 * n + b.val < 4096) :
    View.ld R (Rect.unit (s := S1x1x4096) off ![1, 1, 1024] h) (ix3 0 0 b) = R (ix3 0 0 ⟨1024 * n + b.val, hb⟩) := by
  subst e
  refine congrArg R (funext fun a => Fin.ext ?_)
  fin_cases a <;> simp [Rect.unit, Rect.emb]

theorem off1 : ∀ (t : Fin cfg0.N) (k : Fin (k0_t1_loop (grid0.coords t)).trips), k0_off1 (grid0.coords t) k = ![1024 * k.val, 0] :=
  (by decide +kernel : ∀ (t : Fin grid0.N) (k : Fin (k0_t1_loop (grid0.coords t)).trips), _)
theorem off2 : ∀ (t : Fin cfg0.N) (k : Fin (k0_t1_loop (grid0.coords t)).trips), k0_off2 (grid0.coords t) k = ![0, 0, 1024 * k.val] :=
  (by decide +kernel : ∀ (t : Fin grid0.N) (k : Fin (k0_t1_loop (grid0.coords t)).trips), _)
theorem off5 : ∀ t : Fin cfg0.N, k0_off5 (grid0.coords t) = ![1024 * (grid0.coords t 1).val, 0] := (by decide +kernel : ∀ t : Fin grid0.N, _)
theorem off6 : ∀ t : Fin cfg0.N, k0_off6 (grid0.coords t) = ![0, 0, 1024 * (grid0.coords t 1).val] := (by decide +kernel : ∀ t : Fin grid0.N, _)
theorem trips : ∀ t : Fin cfg0.N, (k0_t1_loop (grid0.coords t)).trips = (grid0.coords t 1).val := (by decide +kernel : ∀ t : Fin grid0.N, _)
theorem trips1 : ∀ t : Fin cfg0.N, Scf.trips (0#32) (Scalar.addi (0#32) (Scalar.muli (Scalar.divsi (Scalar.subi (Scalar.muli (BitVec.ofNat 32 (grid0.coords t 1).val) 1#32) 0#32) 1#32) 1#32)) 1#32
    = (grid0.coords t 1).val := (by decide +kernel : ∀ t : Fin grid0.N, _)
theorem trips2 : ∀ t : Fin cfg0.N, Scf.trips (Scalar.addi (0#32) (Scalar.muli (Scalar.divsi (Scalar.subi (Scalar.muli (BitVec.ofNat 32 (grid0.coords t 1).val) 1#32) 0#32) 1#32) 1#32))
    (Scalar.addi (0#32) (Scalar.subi (Scalar.muli (BitVec.ofNat 32 (grid0.coords t 1).val) 1#32) 0#32)) 1#32 = 0 := (by decide +kernel : ∀ t : Fin grid0.N, _)
theorem coord_lt : ∀ t : Fin cfg0.N, (grid0.coords t 1).val < 4 := (by decide +kernel : ∀ t : Fin grid0.N, _)

section
variable (n : ℕ) (Q D O : Vec Ideal S1024x128 .bf16) (L : Vec Ideal S1x1024x1 .f32) (K V : Vec Ideal S4096x128 .bf16) (R : Vec Ideal S1x1x4096 .f32)

/-- A block of keys wholly before the queries. -/
theorem before_block (j : ℕ) (hj : j < n) (hn : n < 4) (K' V' : Vec Ideal S1024x128 .bf16) (R' : Vec Ideal S1x1x1024 .f32)
    (hK : ∀ b d, K' (ix2 b d) = K (ix2 ⟨1024 * j + b.val, by omega⟩ d)) (hV : ∀ b d, V' (ix2 b d) = V (ix2 ⟨1024 * j + b.val, by omega⟩ d))
    (hR : ∀ b, R' (ix3 0 0 b) = R (ix3 0 0 ⟨1024 * j + b.val, by omega⟩)) (a b : Fin 1024) :
    k0_pay8 Q D O L K' V' R' (ix2 a b) = ds n Q D O L K V R a ⟨1024 * j + b.val, by omega⟩ := by
  rw [ds, if_pos (by show 1024 * j + b.val ≤ _; have := b.isLt; omega)]
  pointwise [k0_pay8, k0_pay5, k0_pay4]
  simp only [hK, hV, hR]

/-- The block of keys at the queries themselves. -/
theorem own_block (hn : n < 4) (K' V' : Vec Ideal S1024x128 .bf16) (R' : Vec Ideal S1x1x1024 .f32)
    (hK : ∀ b d, K' (ix2 b d) = K (ix2 ⟨1024 * n + b.val, by omega⟩ d)) (hV : ∀ b d, V' (ix2 b d) = V (ix2 ⟨1024 * n + b.val, by omega⟩ d))
    (hR : ∀ b, R' (ix3 0 0 b) = R (ix3 0 0 ⟨1024 * n + b.val, by omega⟩)) (a b : Fin 1024) :
    k0_pay1 D (k0_pay4 D O) (k0_pay5 L) V' (k0_pay14 Q K') R' (ix2 a b) = ds n Q D O L K V R a ⟨1024 * n + b.val, by omega⟩ := by
  rw [ds]
  pointwise [k0_pay1, k0_pay5, k0_pay4, k0_pay14]
  rw [Cert.Words.select_sle_add b.val a.val (by have := b.isLt; omega) (by have := a.isLt; omega)]
  simp only [hK, hV, hR, Nat.add_le_add_iff_left]
end

open Cert.Sums Cert.Heads

variable (m : (ℓ : Loc nD τ sig) → Buf (Elt Ideal) ℓ) (c : Dev nD) (t : Fin cfg0.N)
  (Q D O : Vec Ideal S1024x128 .bf16) (L : Vec Ideal S1x1024x1 .f32) (K V : Vec Ideal S4096x128 .bf16) (R : Vec Ideal S1x1x4096 .f32)

/-- The derivative of a score times one coordinate of its key. -/
def dsK (n : ℕ) (a : Fin 1024) (d : Fin 128) (k : Fin 4096) : EReal := ds n Q D O L K V R a k * K (ix2 k d)

/-- What the loop over the earlier key blocks carries before block `j`. -/
def carried (j : ℕ) :=
  st_k0_t1 Variants.none c none (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) (ms0_8 t) (hs0_8 t) Q D O L ((hs0_1 t).unread K) ((hs0_2 t).unread V) ((hs0_6 t).unread R)
    (k0_pay6, k0_pay7) j

/-- One block of the loop adds that block's terms. -/
theorem carried_succ (j : ℕ) (hj : j < (grid0.coords t 1).val) (a : Fin 1024) :
    (∀ d, (carried c t Q D O L K V R (j + 1)).1 (ix2 a d) = (carried c t Q D O L K V R j).1 (ix2 a d)
        + ∑ b : Fin 1024, ext (dsK Q D O L K V R (grid0.coords t 1).val a d) (1024 * j + b.val))
      ∧ (carried c t Q D O L K V R (j + 1)).2 (ix2 a 0) = (carried c t Q D O L K V R j).2 (ix2 a 0)
        + ∑ b : Fin 1024, ext (ds (grid0.coords t 1).val Q D O L K V R a) (1024 * j + b.val) := by
  have hn := coord_lt t
  have hk : j < (k0_t1_loop (grid0.coords t)).trips := by rw [trips]; exact hj
  unfold carried
  rw [show j + 1 = (⟨j, hk⟩ : Fin (k0_t1_loop (grid0.coords t)).trips).val + 1 from rfl, st_k0_t1_succ]
  unfold tripR_k0_t1 trip_k0_t1
  dsimp only
  have e1 := off1 t ⟨j, hk⟩
  have e2 := off2 t ⟨j, hk⟩
  have B := before_block (grid0.coords t 1).val Q D O L K V R j hj hn
    (View.readAt (Elt Ideal) (ms0_1 t).view (Rect.unit (s := S4096x128) (k0_off1 (grid0.coords t) ⟨j, hk⟩) ![1024, 128] (k0_off1_inb (grid0.coords t) ⟨j, hk⟩)).toLoadRect ((hs0_1 t).unread K))
    (View.readAt (Elt Ideal) (ms0_2 t).view (Rect.unit (s := S4096x128) (k0_off1 (grid0.coords t) ⟨j, hk⟩) ![1024, 128] (k0_off1_inb (grid0.coords t) ⟨j, hk⟩)).toLoadRect ((hs0_2 t).unread V))
    (View.readAt (Elt Ideal) (ms0_6 t).view (Rect.unit (s := S1x1x4096) (k0_off2 (grid0.coords t) ⟨j, hk⟩) ![1, 1, 1024] (k0_off2_inb (grid0.coords t) ⟨j, hk⟩)).toLoadRect ((hs0_6 t).unread R))
    (fun b d => (Memref.IsWhole.readAt_unread (hs0_1 t) K _ _).trans (ld_rows K _ j e1 _ b d _))
    (fun b d => (Memref.IsWhole.readAt_unread (hs0_2 t) V _ _).trans (ld_rows V _ j e1 _ b d _))
    (fun b => (Memref.IsWhole.readAt_unread (hs0_6 t) R _ _).trans (ld_gate R _ j e2 _ b _)) a
  constructor
  · intro d
    pointwise [k0_pay9]
    congr 1
    refine Finset.sum_congr rfl fun b _ => ?_
    rw [B, ext_of_lt _ _ (by have := b.isLt; omega), dsK]
    congr 1
    exact (Memref.IsWhole.readAt_unread (hs0_1 t) K _ _).trans (ld_rows K _ j e1 _ b d _)
  · pointwise [k0_pay10]
    congr 1
    refine Finset.sum_congr rfl fun b _ => ?_
    rw [B, ext_of_lt _ _ (by have := b.isLt; omega)]

/-- What the loop carries before block `j`: the terms of the keys before that block. -/
theorem carried_eq (j : ℕ) (hj : j ≤ (grid0.coords t 1).val) (a : Fin 1024) :
    (∀ d, (carried c t Q D O L K V R j).1 (ix2 a d) = ∑ k ∈ Finset.range (1024 * j), ext (dsK Q D O L K V R (grid0.coords t 1).val a d) k)
      ∧ (carried c t Q D O L K V R j).2 (ix2 a 0) = ∑ k ∈ Finset.range (1024 * j), ext (ds (grid0.coords t 1).val Q D O L K V R a) k := by
  induction j with
  | zero =>
    unfold carried
    rw [st_k0_t1_zero]
    constructor
    · intro d; pointwise [k0_pay6]; simp
    · pointwise [k0_pay7]; simp
  | succ j ih =>
    have h := carried_succ c t Q D O L K V R j (by omega) a
    have i := ih (by omega)
    exact ⟨fun d => by rw [h.1 d, i.1 d, sum_block], by rw [h.2, i.2, sum_block]⟩

/-- The visible keys of a query end with the point's own block of keys. -/
theorem ds_later (n : ℕ) (a : Fin 1024) (k : Fin 4096) (h : 1024 * (n + 1) ≤ k.val) : ds n Q D O L K V R a k = 0 := by
  rw [ds, if_neg (by have := a.isLt; omega)]

/-- The log-sums of a point's queries: one lane of the block that carries them. -/
abbrev lsum : Vec Ideal S1x1024x1 .f32 :=
  View.ld (iblk m c 5 t) (Rect.unit (s := S1x1024x128) ![0, 0, 0] ![1, 1024, 1] inb_S1x1024x128_S1x1024x1_0_0_0)

/-- The derivatives of a point's scores. -/
abbrev point (a : Fin 1024) (k : Fin 4096) : EReal :=
  ds (grid0.coords t 1).val (iblk m c 0 t) (iblk m c 4 t) (iblk m c 3 t) (lsum m c t) (iblk m c 1 t) (iblk m c 2 t) (iblk m c 6 t) a k

/-- A point's own block of keys. -/
theorem own (a b : Fin 1024) :
    k0_pay1 (iblk m c 4 t) (k0_pay4 (iblk m c 4 t) (iblk m c 3 t)) (k0_pay5 (lsum m c t))
        (View.ld (iblk m c 2 t) (Rect.unit (s := S4096x128) (k0_off5 (grid0.coords t)) ![1024, 128] (k0_off5_inb _)))
        (k0_pay14 (iblk m c 0 t) (View.ld (iblk m c 1 t) (Rect.unit (s := S4096x128) (k0_off5 (grid0.coords t)) ![1024, 128] (k0_off5_inb _))))
        (View.ld (iblk m c 6 t) (Rect.unit (s := S1x1x4096) (k0_off6 (grid0.coords t)) ![1, 1, 1024] (k0_off6_inb _))) (ix2 a b)
      = ext (point m c t a) (1024 * (grid0.coords t 1).val + b.val) := by
  have hn := coord_lt t
  rw [ext_of_lt _ _ (by have := b.isLt; omega)]
  exact own_block (grid0.coords t 1).val (iblk m c 0 t) (iblk m c 4 t) (iblk m c 3 t) (lsum m c t) (iblk m c 1 t) (iblk m c 2 t) (iblk m c 6 t) hn _ _ _
    (fun b d => ld_rows (iblk m c 1 t) _ _ (off5 t) (k0_off5_inb _) b d _) (fun b d => ld_rows (iblk m c 2 t) _ _ (off5 t) (k0_off5_inb _) b d _)
    (fun b => ld_gate (iblk m c 6 t) _ _ (off6 t) (k0_off6_inb _) b _) a b

/-- The first result: the carried sums and the own block's terms, scaled. -/
theorem first_result (D' : FVec Ideal S1024x1 .f32) (L' : FVec Ideal S1024x1 .f32) (acc : FVec Ideal S1024x128 .f32) (K' V' : Vec Ideal S1024x128 .bf16)
    (s : FVec Ideal S1024x1024 .f32) (R' : Vec Ideal S1x1x1024 .f32) (a : Fin 1024) (d : Fin 128) :
    k0_pay2 D D' L' acc K' V' s R' (ix2 a d) = (acc (ix2 a d) + ∑ b, k0_pay1 D D' L' V' s R' (ix2 a b) * K' (ix2 b d)) * scale := by
  pointwise [k0_pay2]

/-- The second result: the carried sums and the own block's terms. -/
theorem second_result (D' : FVec Ideal S1024x1 .f32) (L' : FVec Ideal S1024x1 .f32) (acc : FVec Ideal S1024x1 .f32) (V' : Vec Ideal S1024x128 .bf16)
    (s : FVec Ideal S1024x1024 .f32) (R' : Vec Ideal S1x1x1024 .f32) (a : Fin 1024) :
    k0_pay3 D D' L' acc V' s R' (ix3 0 0 a) = acc (ix2 a 0) + ∑ b, k0_pay1 D D' L' V' s R' (ix2 a b) := by
  pointwise [k0_pay3]

/-- A point's block of the queries' gradient. -/
theorem after7 (a : Fin 1024) (d : Fin 128) :
    (dats m 0 c).after 7 t (ix2 a d) = (∑ k, point m c t a k * (iblk m c 1 t : Vec Ideal S4096x128 .bf16) (ix2 k d)) * scale := by
  have hn := coord_lt t
  rw [after0_7]; unfold outsAt0
  frame_out
  rw [trips1, trips2, st_k0_t2_zero]
  have C := (carried_eq c t (iblk m c 0 t) (iblk m c 4 t) (iblk m c 3 t) (lsum m c t) (iblk m c 1 t) (iblk m c 2 t) (iblk m c 6 t) _ le_rfl a).1 d
  unfold carried at C
  rw [first_result]
  refine (congrArg (fun u : EReal => (u + _) * scale) C).trans (congrArg (· * scale) ?_)
  rw [sum_eq_range (fun k => point m c t a k * (iblk m c 1 t : Vec Ideal S4096x128 .bf16) (ix2 k d)) (1024 * ((grid0.coords t 1).val + 1)) (by omega)
    (fun k hk => by rw [point, ds_later _ _ _ _ _ _ _ _ _ _ hk, zero_mul]), sum_block]
  refine congrArg₂ (· + ·) rfl (Finset.sum_congr rfl fun b _ => ?_)
  have hb : 1024 * (grid0.coords t 1).val + b.val < 4096 := by have := b.isLt; omega
  refine (congrArg₂ (· * ·) (own m c t a b) (ld_rows (iblk m c 1 t) _ _ (off5 t) (k0_off5_inb _) b d hb)).trans ?_
  rw [ext_of_lt _ _ hb, ext_of_lt _ _ hb]

/-- A point's block of the queries' share of the forget gates' gradient. -/
theorem after8 (a : Fin 1024) : (dats m 0 c).after 8 t (ix3 0 0 a) = ∑ k, point m c t a k := by
  have hn := coord_lt t
  rw [after0_8]; unfold outsAt0
  frame_out
  rw [trips1, trips2, st_k0_t2_zero]
  have C := (carried_eq c t (iblk m c 0 t) (iblk m c 4 t) (iblk m c 3 t) (lsum m c t) (iblk m c 1 t) (iblk m c 2 t) (iblk m c 6 t) _ le_rfl a).2
  unfold carried at C
  rw [second_result]
  refine (congrArg (fun u : EReal => u + _) C).trans ?_
  rw [sum_eq_range (point m c t a) (1024 * ((grid0.coords t 1).val + 1)) (by omega) (fun k hk => by rw [point, ds_later _ _ _ _ _ _ _ _ _ _ hk]), sum_block]
  exact congrArg₂ (· + ·) rfl (Finset.sum_congr rfl fun b _ => own m c t a b)

end Cert.DqIdeal.Block
-- ==== Proof.DqArray.lean ====
/- The two result arrays of the kernel for the gradient of the queries, entry by entry, over the arrays the kernel takes. -/
module

public import proofs.«01_k».proof.Proof.DqBlock
public import proofs.«01_k».proof.Proof.Heads

@[expose] public section

set_option maxRecDepth 16384

noncomputable section

namespace Cert.DqIdeal.Block

open Idealize.ShloMosaic Idealize.SL.Sem Cert.DqIdeal Cert.DqIdeal.Gen Cert.Heads

variable (m : (ℓ : Loc nD τ sig) → Buf (Elt Ideal) ℓ) (c : Dev nD)

/-- Where each window's block lies, from the point's head and query block. -/
theorem idx : ∀ t : Fin cfg0.N, win0_0.index t = ![(grid0.coords t 1).val, (grid0.coords t 0).val]
    ∧ win0_1.index t = ![0, 16 + (grid0.coords t 0).val] ∧ win0_2.index t = ![0, 32 + (grid0.coords t 0).val]
    ∧ win0_3.index t = ![(grid0.coords t 1).val, (grid0.coords t 0).val] ∧ win0_4.index t = ![(grid0.coords t 1).val, (grid0.coords t 0).val]
    ∧ win0_5.index t = ![(grid0.coords t 0).val, (grid0.coords t 1).val, 0] ∧ win0_6.index t = ![(grid0.coords t 0).val, 0, 0]
    ∧ win0_7.index t = ![(grid0.coords t 1).val, (grid0.coords t 0).val] ∧ win0_8.index t = ![(grid0.coords t 0).val, 0, (grid0.coords t 1).val] :=
  (by decide +kernel : ∀ t : Fin grid0.N, _)

theorem coord0_lt : ∀ t : Fin cfg0.N, (grid0.coords t 0).val < 16 := (by decide +kernel : ∀ t : Fin grid0.N, _)

/-- The head of a point. -/
def hd (t : Fin cfg0.N) : Fin 16 := ⟨(grid0.coords t 0).val, coord0_lt t⟩
/-- The token of a point's query `a`. -/
def tok (t : Fin cfg0.N) (a : Fin 1024) : Fin 4096 := ⟨1024 * (grid0.coords t 1).val + a.val, by have := coord_lt t; have := a.isLt; omega⟩

variable (t : Fin cfg0.N)

/-- The device's arrays, whatever they hold. -/
abbrev Arrays (c : Dev nD) := (b : Ref sig .tc) → Buf (Elt Ideal) ((c.tc : Thread nD τ).loc b)

theorem opened0 (X : Arrays c) (y : S1024x128.Idx) :
    ((cfg0.win 0).blk t).view.read (Elt Ideal) (X (Pipeline.arrRef spec0 0)) y = X main_arg0 ((win0_0.blk t).view.emb y) := rfl
theorem place0 (a : Fin 1024) (d : Fin 128) : (win0_0.blk t).view.emb (ix2 a d) = ix2 (tok t a) (qcol (hd t) d) := by
  unfold tok qcol hd; blk_ext [(idx t).1]
theorem read0 (a : Fin 1024) (d : Fin 128) : (iblk m c 0 t : Vec Ideal S1024x128 .bf16) (ix2 a d) = V m c main_arg0 (ix2 (tok t a) (qcol (hd t) d)) :=
  (opened0 c t (V m c) _).trans (congrArg (V m c main_arg0) (place0 t a d))
theorem opened1 (X : Arrays c) (y : S4096x128.Idx) :
    ((cfg0.win 1).blk t).view.read (Elt Ideal) (X (Pipeline.arrRef spec0 1)) y = X main_arg0 ((win0_1.blk t).view.emb y) := rfl
theorem place1 (k : Fin 4096) (d : Fin 128) : (win0_1.blk t).view.emb (ix2 k d) = ix2 k (kcol (hd t) d) := by
  unfold kcol hd; blk_ext [(idx t).2.1]
theorem read1 (k : Fin 4096) (d : Fin 128) : (iblk m c 1 t : Vec Ideal S4096x128 .bf16) (ix2 k d) = V m c main_arg0 (ix2 k (kcol (hd t) d)) :=
  (opened1 c t (V m c) _).trans (congrArg (V m c main_arg0) (place1 t k d))
theorem opened2 (X : Arrays c) (y : S4096x128.Idx) :
    ((cfg0.win 2).blk t).view.read (Elt Ideal) (X (Pipeline.arrRef spec0 2)) y = X main_arg0 ((win0_2.blk t).view.emb y) := rfl
theorem place2 (k : Fin 4096) (d : Fin 128) : (win0_2.blk t).view.emb (ix2 k d) = ix2 k (vcol (hd t) d) := by
  unfold vcol hd; blk_ext [(idx t).2.2.1]
theorem read2 (k : Fin 4096) (d : Fin 128) : (iblk m c 2 t : Vec Ideal S4096x128 .bf16) (ix2 k d) = V m c main_arg0 (ix2 k (vcol (hd t) d)) :=
  (opened2 c t (V m c) _).trans (congrArg (V m c main_arg0) (place2 t k d))
theorem opened3 (X : Arrays c) (y : S1024x128.Idx) :
    ((cfg0.win 3).blk t).view.read (Elt Ideal) (X (Pipeline.arrRef spec0 3)) y = X main_v74 ((win0_3.blk t).view.emb y) := rfl
theorem place3 (a : Fin 1024) (d : Fin 128) : (win0_3.blk t).view.emb (ix2 a d) = ix2 (tok t a) (col (hd t) d) := by
  unfold tok col hd; blk_ext [(idx t).2.2.2.1]
theorem read3 (a : Fin 1024) (d : Fin 128) : (iblk m c 3 t : Vec Ideal S1024x128 .bf16) (ix2 a d) = V m c main_v74 (ix2 (tok t a) (col (hd t) d)) :=
  (opened3 c t (V m c) _).trans (congrArg (V m c main_v74) (place3 t a d))
theorem opened4 (X : Arrays c) (y : S1024x128.Idx) :
    ((cfg0.win 4).blk t).view.read (Elt Ideal) (X (Pipeline.arrRef spec0 4)) y = X main_arg2 ((win0_4.blk t).view.emb y) := rfl
theorem place4 (a : Fin 1024) (d : Fin 128) : (win0_4.blk t).view.emb (ix2 a d) = ix2 (tok t a) (col (hd t) d) := by
  unfold tok col hd; blk_ext [(idx t).2.2.2.2.1]
theorem read4 (a : Fin 1024) (d : Fin 128) : (iblk m c 4 t : Vec Ideal S1024x128 .bf16) (ix2 a d) = V m c main_arg2 (ix2 (tok t a) (col (hd t) d)) :=
  (opened4 c t (V m c) _).trans (congrArg (V m c main_arg2) (place4 t a d))
theorem opened5 (X : Arrays c) (y : S1x1024x128.Idx) :
    ((cfg0.win 5).blk t).view.read (Elt Ideal) (X (Pipeline.arrRef spec0 5)) y = X main_v76 ((win0_5.blk t).view.emb y) := rfl
theorem place5 (a : Fin 1024) : (win0_5.blk t).view.emb (ix3 0 a 0) = ix3 (hd t) (tok t a) 0 := by
  unfold tok hd; blk_ext [(idx t).2.2.2.2.2.1]
theorem read5 (a : Fin 1024) : (iblk m c 5 t : Vec Ideal S1x1024x128 .f32) (ix3 0 a 0) = V m c main_v76 (ix3 (hd t) (tok t a) 0) :=
  (opened5 c t (V m c) _).trans (congrArg (V m c main_v76) (place5 t a))
theorem opened6 (X : Arrays c) (y : S1x1x4096.Idx) :
    ((cfg0.win 6).blk t).view.read (Elt Ideal) (X (Pipeline.arrRef spec0 6)) y = X main_arg1 ((win0_6.blk t).view.emb y) := rfl
theorem place6 (k : Fin 4096) : (win0_6.blk t).view.emb (ix3 0 0 k) = ix3 (hd t) 0 k := by
  unfold hd; blk_ext [(idx t).2.2.2.2.2.2.1]
theorem read6 (k : Fin 4096) : (iblk m c 6 t : Vec Ideal S1x1x4096 .f32) (ix3 0 0 k) = V m c main_arg1 (ix3 (hd t) 0 k) :=
  (opened6 c t (V m c) _).trans (congrArg (V m c main_arg1) (place6 t k))
/-- One lane of a block of 128 equal lanes. -/
theorem ld_lane (L : Vec Ideal S1x1024x128 .f32) (h) (a : Fin 1024) :
    View.ld L (Rect.unit (s := S1x1024x128) ![0, 0, 0] ![1, 1024, 1] h) (ix3 0 a 0) = L (ix3 0 a 0) := by
  refine congrArg L (funext fun b => Fin.ext ?_)
  fin_cases b <;> simp [Rect.unit, Rect.emb]

theorem readL (a : Fin 1024) : lsum m c t (ix3 0 a 0) = V m c main_v76 (ix3 (hd t) (tok t a) 0) :=
  (ld_lane (iblk m c 5 t) _ a).trans (read5 m c t a)

/-- A point's derivative of a score is the array's. -/
theorem point_eq (a : Fin 1024) (k : Fin 4096) :
    point m c t a k = dscore (V m c main_arg0) (V m c main_arg1) (V m c main_arg2) (V m c main_v74) (V m c main_v76) (hd t) (tok t a) k := by
  unfold point ds dscore
  simp only [read0, read1, read2, read3, read4, readL, read6]
  rfl

/-- The gradient of the queries. -/
theorem array7 : (dats m 0 c).arrAt 7 cfg0.N = fun y : S4096x2048.Idx =>
    (∑ k, dscore (V m c main_arg0) (V m c main_arg1) (V m c main_arg2) (V m c main_v74) (V m c main_v76) (head (y 1)) (y 0) k
      * (V m c main_arg0 : S4096x6144.Idx → EReal) (ix2 k (kcol (head (y 1)) (coord (y 1))))) * scale := by
  refine (dats m 0 c).arrAt_eq_of_covers 7 _ (by decide +kernel) fun t hf y => ?_
  blk_simp
  obtain ⟨a, d, rfl⟩ : ∃ (a : Fin 1024) (d : Fin 128), y = ix2 a d := ⟨y 0, y 1, eq_ix2 y⟩
  rw [after7]
  have e0 : (win0_7.blk t).view.emb (ix2 a d) = ix2 (tok t a) (col (hd t) d) := by
    unfold tok col hd; blk_ext [(idx t).2.2.2.2.2.2.2.1]
  rw [e0]
  simp only [point_eq, read1]
  show _ = (∑ k, dscore _ _ _ _ _ (head (col (hd t) d)) (tok t a) k * (V m c main_arg0 : S4096x6144.Idx → EReal) (ix2 k (kcol (head (col (hd t) d)) (coord (col (hd t) d))))) * scale
  rw [head_col, coord_col]

/-- The queries' share of the gradient of the forget gates' running sums. -/
theorem array8 : (dats m 0 c).arrAt 8 cfg0.N = fun y : S16x1x4096.Idx =>
    ∑ k, dscore (V m c main_arg0) (V m c main_arg1) (V m c main_arg2) (V m c main_v74) (V m c main_v76) (y 0) (y 2) k := by
  refine (dats m 0 c).arrAt_eq_of_covers 8 _ (by decide +kernel) fun t hf y => ?_
  blk_simp
  obtain ⟨a, rfl⟩ : ∃ a : Fin 1024, y = ix3 0 0 a := ⟨y 2, by
    refine (eq_ix3 y).trans ?_
    congr 1 <;> exact Subsingleton.elim (α := Fin 1) _ _⟩
  rw [after8]
  have e0 : (win0_8.blk t).view.emb (ix3 0 0 a) = ix3 (hd t) 0 (tok t a) := by
    unfold tok hd; blk_ext [(idx t).2.2.2.2.2.2.2.2]
  rw [e0]
  simp only [point_eq]
  rfl

end Cert.DqIdeal.Block
-- ==== Proof.DqHost.lean ====
/- What the forward lines hand the kernel for the gradient of the queries: the log-sum of each query's scores and the attention's output, over
   the packed projections and the running sums of the forget gates. -/
module

public import proofs.«01_k».proof.Proof.DqArray
public import proofs.«01_k».proof.Proof.Attn
public import proofs.«01_k».proof.Proof.Words

@[expose] public section

set_option maxRecDepth 16384

noncomputable section

namespace Cert.DqIdeal.Forward

open Idealize.ShloMosaic Idealize.SL.Sem Cert.DqIdeal Cert.DqIdeal.Gen Cert.Heads Cert.Words Cert.Attn Cert.Softmax

/-- The packed queries, keys and values. -/
abbrev Packed := FVec Ideal S4096x6144 .f32
/-- The running sums of the forget gates' logarithms. -/
abbrev Gates := FVec Ideal S16x1x4096 .f32

/-- A third of the packed array, split into heads. -/
def qheads (A : Packed) : FVec Ideal S16x4096x128 .f32 :=
  transpose S16x4096x128 [1, 0, 2] (shapeCast S4096x16x128 (extractStridedSlice S4096x2048 ![0, 0] A slices_S4096x6144_S4096x2048_0_0) shapeCasts_S4096x2048_S4096x16x128) transposes_S4096x16x128_S16x4096x128_1_0_2
/-- The keys' third. -/
def kheads (A : Packed) : FVec Ideal S16x4096x128 .f32 :=
  transpose S16x4096x128 [1, 0, 2] (shapeCast S4096x16x128 (extractStridedSlice S4096x2048 ![0, 2048] A slices_S4096x6144_S4096x2048_0_2048) shapeCasts_S4096x2048_S4096x16x128) transposes_S4096x16x128_S16x4096x128_1_0_2
/-- The values' third. -/
def vheads (A : Packed) : FVec Ideal S16x4096x128 .f32 :=
  transpose S16x4096x128 [1, 0, 2] (shapeCast S4096x16x128 (extractStridedSlice S4096x2048 ![0, 4096] A slices_S4096x6144_S4096x2048_0_4096) shapeCasts_S4096x2048_S4096x16x128) transposes_S4096x16x128_S16x4096x128_1_0_2
/-- The running sums as a matrix. -/
def sums (R : Gates) : FVec Ideal S16x4096 .f32 := shapeCast S16x4096 R shapeCasts_S16x1x4096_S16x4096
/-- The scores before the mask. -/
def scores (A : Packed) (R : Gates) : FVec Ideal S16x4096x4096 .f32 :=
  subf (addf (mulf (Host.dotGeneral dot_S16x4096x128_S16x4096x128_S16x4096x4096_2_2_1_1_0_0 none (qheads A) (kheads A))
      (broadcastInDim S16x4096x4096 ![] bcast_S_S16x4096x4096 (constant S_ .f32 0x3DB504F3#32)))
      (broadcastInDim S16x4096x4096 ![0, 1, 2] bcast_S16x4096x1_S16x4096x4096_0_1_2 (broadcastInDim S16x4096x1 ![0, 1] bcast_S16x4096_S16x4096x1_0_1 (sums R))))
    (broadcastInDim S16x4096x4096 ![0, 1, 2] bcast_S16x1x4096_S16x4096x4096_0_1_2 (broadcastInDim S16x1x4096 ![0, 2] bcast_S16x4096_S16x1x4096_0_2 (sums R)))
/-- The masked scores. -/
def masked (A : Packed) (R : Gates) : FVec Ideal S16x4096x4096 .f32 :=
  select (broadcastInDim S16x4096x4096 ![1, 2] bcast_S4096x4096_S16x4096x4096_1_2
      (cmpi .sle (broadcastInDim S4096x4096 ![0, 1] bcast_S1x4096_S4096x4096_0_1 (broadcastInDim S1x4096 ![1] bcast_S4096_S1x4096_1 (iotaInDim S4096 32 0)))
        (broadcastInDim S4096x4096 ![0, 1] bcast_S4096x1_S4096x4096_0_1 (broadcastInDim S4096x1 ![0] bcast_S4096_S4096x1_0 (iotaInDim S4096 32 0)))))
    (scores A R) (broadcastInDim S16x4096x4096 ![] bcast_S_S16x4096x4096 (constant S_ .f32 0xFF800000#32))
/-- Each row's greatest entry. -/
def top (X : FVec Ideal S16x4096x4096 .f32) : FVec Ideal S16x4096 .f32 :=
  Host.reduce FloatOps.maximumf X (constant S_ .f32 0xFF800000#32) reducesTo_S16x4096x4096_S16x4096_d2 h_S_
/-- The exponentials of the entries, a number taken off each row. -/
def exps (X : FVec Ideal S16x4096x4096 .f32) (M : FVec Ideal S16x4096 .f32) : FVec Ideal S16x4096x4096 .f32 :=
  Host.exp (subf X (broadcastInDim S16x4096x4096 ![0, 1, 2] bcast_S16x4096x1_S16x4096x4096_0_1_2 (broadcastInDim S16x4096x1 ![0, 1] bcast_S16x4096_S16x4096x1_0_1 M)))
/-- Each row's sum. -/
def total (E : FVec Ideal S16x4096x4096 .f32) : FVec Ideal S16x4096 .f32 :=
  Host.reduceAdd E (constant S_ .f32 0x00000000#32) reducesTo_S16x4096x4096_S16x4096_d2 h_S_
/-- The log-sums the kernel takes. -/
def lse (X : FVec Ideal S16x4096x4096 .f32) (R : Gates) : FVec Ideal S16x4096x128 .f32 :=
  broadcastInDim S16x4096x128 ![0, 1, 2] bcast_S16x4096x1_S16x4096x128_0_1_2 (broadcastInDim S16x4096x1 ![0, 1] bcast_S16x4096_S16x4096x1_0_1
    (subf (addf (top X) (Host.log (total (exps X (top X))))) (sums R)))
/-- The attention's output from its weights. -/
def output (E : FVec Ideal S16x4096x4096 .f32) (A : Packed) : FVec Ideal S4096x2048 .f32 :=
  shapeCast S4096x2048 (transpose S4096x16x128 [1, 0, 2]
    (Host.dotGeneral dot_S16x4096x4096_S16x4096x128_S16x4096x128_2_1_1_2_0_0 none
      (Host.divf E (broadcastInDim S16x4096x4096 ![0, 1, 2] bcast_S16x4096x1_S16x4096x4096_0_1_2 (broadcastInDim S16x4096x1 ![0, 1] bcast_S16x4096_S16x4096x1_0_1 (total E))))
      (vheads A)) transposes_S16x4096x128_S4096x16x128_1_0_2) shapeCasts_S4096x16x128_S4096x2048
/-- The number the output's rows take off. -/
def top' (X : FVec Ideal S16x4096x4096 .f32) : FVec Ideal S16x4096 .f32 :=
  maximumf (broadcastInDim S16x4096 ![] bcast_S_S16x4096 (constant S_ .f32 0xFF800000#32)) (top X)

variable (m : (ℓ : Loc nD τ sig) → Buf (Elt Ideal) ℓ) (c : Dev nD)

theorem lse_array : V m c main_v76 = lse (masked (m ((c.tc : Thread nD τ).loc main_arg0)) (m ((c.tc : Thread nD τ).loc main_arg1))) (m ((c.tc : Thread nD τ).loc main_arg1)) := by
  unfold V
  simp only [hostOps0, hostOps0_1, hostOps0_2, hostOps0_3, hostOps0_4, List.flatten_cons, List.flatten_nil, List.cons_append, List.nil_append]
  entry_read
  unfold lse total exps top masked scores sums qheads kheads
  rfl

theorem output_array : V m c main_v74 = output (exps (masked (m ((c.tc : Thread nD τ).loc main_arg0)) (m ((c.tc : Thread nD τ).loc main_arg1))) (top' (masked (m ((c.tc : Thread nD τ).loc main_arg0)) (m ((c.tc : Thread nD τ).loc main_arg1))))) (m ((c.tc : Thread nD τ).loc main_arg0)) := by
  unfold V
  simp only [hostOps0, hostOps0_1, hostOps0_2, hostOps0_3, hostOps0_4, List.flatten_cons, List.flatten_nil, List.cons_append, List.nil_append]
  entry_read
  unfold output total exps top' top masked scores sums qheads kheads vheads
  rfl

variable (a : S4096x6144.Idx → ℝ) (f : S16x1x4096.Idx → ℝ)

/-- The arguments over the real numbers. -/
abbrev A' : Packed := fun i => (a i : EReal)
/-- The same of the gates' sums. -/
abbrev R' : Gates := fun i => (f i : EReal)

theorem masked_word (A : Packed) (R : Gates) (h : Fin 16) (r k : Fin 4096) : masked A R (ix3 h r k)
    = Scalar.select (IntOp.cmpi CmpIPredicate.sle (BitVec.ofNat 32 k.val) (BitVec.ofNat 32 r.val))
      ((∑ d : Fin 128, A (ix2 r ⟨h.val * 128 + d.val, by omega⟩) * A (ix2 k ⟨2048 + (h.val * 128 + d.val), by omega⟩)) * scale + R (ix3 h 0 r) - R (ix3 h 0 k))
      (Ideal.ofBits FTy.f32 0xFF800000#32) := by
  pointwise [masked, scores, sums, qheads, kheads]

theorem qcol_eq (h : Fin 16) (d : Fin 128) (p) : (⟨h.val * 128 + d.val, p⟩ : Fin 6144) = qcol h d := Fin.ext (by simp only [qcol]; omega)
theorem kcol_eq (h : Fin 16) (d : Fin 128) (p) : (⟨2048 + (h.val * 128 + d.val), p⟩ : Fin 6144) = kcol h d := Fin.ext (by simp only [kcol]; omega)

/-- A row of masked scores. -/
theorem masked_at (h : Fin 16) (r k : Fin 4096) : masked (A' a) (R' f) (ix3 h r k) = logit (vis r) (x a f h r) k := by
  rw [masked_word, select_sle k.val r.val (by omega) (by omega), bot_word]
  simp only [qcol_eq, kcol_eq]
  rw [score_coe]; rfl

theorem top_word (X : FVec Ideal S16x4096x4096 .f32) (h : Fin 16) (r : Fin 4096) :
    top X (ix2 h r) = Finset.fold max (Ideal.ofBits FTy.f32 0xFF800000#32) (fun k => X (ix3 h r k)) Finset.univ := by
  pointwise [top]

/-- Each row's greatest score is a real number. -/
theorem top_real (h : Fin 16) (r : Fin 4096) : ∃ M : ℝ, top (masked (A' a) (R' f)) (ix2 h r) = (M : EReal) := by
  rw [top_word, bot_word]
  simp only [masked_at]
  exact max_real (vis r) (x a f h r) (vis_self r)

theorem exps_at (X : FVec Ideal S16x4096x4096 .f32) (M : FVec Ideal S16x4096 .f32) (h : Fin 16) (r k : Fin 4096) :
    exps X M (ix3 h r k) = Ideal.exp (X (ix3 h r k) - M (ix2 h r)) := by
  unfold exps
  change Ideal.exp (_ - broadcastInDim _ _ _ _ _) = _
  pointwise []

theorem total_at (E : FVec Ideal S16x4096x4096 .f32) (h : Fin 16) (r : Fin 4096) : total E (ix2 h r) = ∑ k, E (ix3 h r k) := by
  pointwise [total]

theorem lse_form (u b v : FVec Ideal S16x4096 .f32) (h : Fin 16) (r : Fin 4096) (d : Fin 128) :
    broadcastInDim S16x4096x128 ![0, 1, 2] bcast_S16x4096x1_S16x4096x128_0_1_2 (broadcastInDim S16x4096x1 ![0, 1] bcast_S16x4096_S16x4096x1_0_1
      (subf (addf b (Host.log u)) v)) (ix3 h r d) = b (ix2 h r) + Ideal.log (u (ix2 h r)) - v (ix2 h r) := by
  pointwise []

theorem lse_at (X : FVec Ideal S16x4096x4096 .f32) (R : Gates) (h : Fin 16) (r : Fin 4096) (d : Fin 128) :
    lse X R (ix3 h r d) = top X (ix2 h r) + Ideal.log (total (exps X (top X)) (ix2 h r)) - sums R (ix2 h r) := by
  unfold lse
  exact lse_form _ _ _ h r d

theorem sums_at (R : Gates) (h : Fin 16) (r : Fin 4096) : sums R (ix2 h r) = R (ix3 h 0 r) := by
  pointwise [sums]

/-- The exponentials of a row, whatever real number it takes off. -/
theorem exps_real (M : FVec Ideal S16x4096 .f32) (h : Fin 16) (r : Fin 4096) (μ : ℝ) (hM : M (ix2 h r) = (μ : EReal)) (k : Fin 4096) :
    exps (masked (A' a) (R' f)) M (ix3 h r k) = (ex (vis r) (x a f h r) μ k : EReal) := by
  rw [exps_at, hM, masked_at, exp_logit]

theorem total_real (M : FVec Ideal S16x4096 .f32) (h : Fin 16) (r : Fin 4096) (μ : ℝ) (hM : M (ix2 h r) = (μ : EReal)) :
    total (exps (masked (A' a) (R' f)) M) (ix2 h r) = ((∑ k, ex (vis r) (x a f h r) μ k : ℝ) : EReal) := by
  rw [total_at, coe_sum]
  exact Finset.sum_congr rfl fun k _ => exps_real a f M h r μ hM k

/-- The log-sum the kernel takes, up to the number its row takes off. -/
theorem lse_real (h : Fin 16) (r : Fin 4096) (d : Fin 128) : ∃ M : ℝ,
    lse (masked (A' a) (R' f)) (R' f) (ix3 h r d) = ((M + Real.log (∑ j, ex (vis r) (x a f h r) M j) - f (ix3 h 0 r) : ℝ) : EReal) := by
  obtain ⟨M, hM⟩ := top_real a f h r
  refine ⟨M, ?_⟩
  rw [lse_at, total_real a f _ h r M hM, hM, sums_at, log_real _ (norm_pos (vis r) (x a f h r) (vis_self r) M)]
  rw [EReal.coe_sub, EReal.coe_add]

theorem max_at (X Y : FVec Ideal S16x4096 .f32) (h : Fin 16) (r : Fin 4096) : maximumf X Y (ix2 h r) = max (X (ix2 h r)) (Y (ix2 h r)) := rfl

theorem top'_at (X : FVec Ideal S16x4096x4096 .f32) (h : Fin 16) (r : Fin 4096) : top' X (ix2 h r) = top X (ix2 h r) := by
  unfold top'
  rw [max_at]
  have h0 : broadcastInDim S16x4096 ![] bcast_S_S16x4096 (constant (F := Ideal) S_ .f32 0xFF800000#32) (ix2 h r) = (⊥ : EReal) := bot_word
  rw [h0]
  exact max_eq_right bot_le

theorem output_form (E : FVec Ideal S16x4096x4096 .f32) (A : Packed) (h : Fin 16) (r : Fin 4096) (j : Fin 2048) (d : Fin 128) (hj : head j = h) (hd : coord j = d) :
    output E A (ix2 r j) = ∑ k, Ideal.div (E (ix3 h r k)) (∑ i, E (ix3 h r i)) * A (ix2 k (vcol h d)) := by
  subst hj; subst hd
  have e : vcol (head j) (coord j) = ⟨4096 + j.val, by omega⟩ := Fin.ext (by simp only [vcol, head, coord]; omega)
  rw [e]
  pointwise [output, total, vheads]
  rfl

/-- The output the kernel takes. -/
theorem output_real (h : Fin 16) (r : Fin 4096) (d : Fin 128) :
    output (exps (masked (A' a) (R' f)) (top' (masked (A' a) (R' f)))) (A' a) (ix2 r (col h d)) = (out a f h r d : EReal) := by
  obtain ⟨M, hM⟩ := top_real a f h r
  rw [output_form _ _ h r (col h d) d (head_col h d) (coord_col h d)]
  simp only [exps_real a f _ h r M ((top'_at _ h r).trans hM)]
  rw [← coe_sum]
  simp only [div_eq_prob (vis r) (x a f h r) (vis_self r) M, ← EReal.coe_mul, ← coe_sum]
  rfl

end Cert.DqIdeal.Forward
-- ==== Proof.FwdRef.lean ====
/- The forward reference's two result arrays at arguments that are real numbers. It runs the lines that also stand before the kernel for the gradient
   of the queries, so the two arrays are the ones read there. -/
module

public import proofs.«01_k».proof.Proof.DqHost
public import proofs.«01_k».proof.Proof.Online
public import proofs.«01_k».proof.Proof.Gen.FwdRefIdeal.Read

@[expose] public section

set_option maxRecDepth 16384

noncomputable section

namespace Cert.FwdRefIdeal.Entry

open Idealize.ShloMosaic Cert.Heads Cert.Attn Cert.Softmax
open Cert.DqIdeal.Forward (masked exps top top' total scores sums qheads kheads vheads lse output lse_real output_real Packed Gates)

theorem output_term (A : Packed) (R : Gates) : Cert.FwdRefIdeal.Read.val_main_v74 (F := Ideal) A R = output (exps (masked A R) (top' (masked A R))) A := by
  unfold output total exps top' top masked scores sums qheads kheads vheads
  rfl

theorem lse_term (A : Packed) (R : Gates) : Cert.FwdRefIdeal.Read.val_main_v76 (F := Ideal) A R = lse (masked A R) R := by
  unfold lse total exps top masked scores sums qheads kheads
  rfl

variable (a : (⟨2, ![4096, 6144]⟩ : Shape).Idx → ℝ) (f : (⟨3, ![16, 1, 4096]⟩ : Shape).Idx → ℝ)

/-- The output. -/
theorem output_array (A : Packed) (R : Gates) (hA : A = fun i => (a i : EReal)) (hR : R = fun i => (f i : EReal)) :
    Cert.FwdRefIdeal.Read.val_main_v74 (F := Ideal) A R = fun y : (⟨2, ![4096, 2048]⟩ : Shape).Idx => (out a f (head (y 1)) (y 0) (coord (y 1)) : EReal) := by
  subst hA; subst hR
  rw [output_term]
  funext y
  obtain ⟨r, j, rfl⟩ : ∃ (r : Fin 4096) (j : Fin 2048), y = ix2 r j := ⟨y 0, y 1, eq_ix2 y⟩
  have h := output_real a f (head j) r (coord j)
  rw [col_head] at h
  exact h

/-- The log-sums. -/
theorem lse_array (A : Packed) (R : Gates) (hA : A = fun i => (a i : EReal)) (hR : R = fun i => (f i : EReal)) :
    Cert.FwdRefIdeal.Read.val_main_v76 (F := Ideal) A R = fun y : (⟨3, ![16, 4096, 128]⟩ : Shape).Idx =>
      ((Real.log (∑ k, ex (vis (y 1)) (x a f (y 0) (y 1)) 0 k) - f (ix3 (y 0) 0 (y 1)) : ℝ) : EReal) := by
  subst hA; subst hR
  rw [lse_term]
  funext y
  obtain ⟨M, h⟩ := lse_real a f (y 0) (y 1) (y 2)
  rw [log_sum (vis (y 1)) (x a f (y 0) (y 1)) (vis_self _) M] at h
  exact (congrArg _ (eq_ix3 y)).trans h

end Cert.FwdRefIdeal.Entry
-- ==== Proof.Finite.lean ====
/- What the precondition says: every entry of the arguments is a real number. -/
module

public import proofs.«01_k».proof.Pre_finite
public import Idealize.ShloMosaic.PureOps.Ideal
public import Idealize.ShloMosaic.Lib.Pointwise

@[expose] public section

noncomputable section

namespace Cert.Finite

open Idealize.ShloMosaic

theorem facts : Cert.Pre_finite.Facts := ⟨by decide, by decide, by decide, by decide⟩

theorem top_word : Ideal.ofBits FTy.f32 0x7F800000#32 = (⊤ : EReal) := by simp [Ideal.ofBits, Ideal.ieee]

/-- A value whose magnitude is below infinity is a real number. -/
theorem real_of_lt (x : EReal) (h : Ideal.cmp .olt (max x (-x)) (Ideal.ofBits FTy.f32 0x7F800000#32) = 1#1) : x = (x.toReal : EReal) := by
  rw [top_word, Ideal.cmp] at h
  have h1 : max x (-x) < ⊤ := by
    by_contra hc
    simp only [hc, decide_false] at h
    exact absurd h (by decide)
  have h2 : x ≠ ⊤ := fun e => by rw [e] at h1; simp at h1
  have h3 : x ≠ ⊥ := fun e => by rw [e] at h1; simp at h1
  exact (EReal.coe_toReal h2 h3).symm

/-- An array all of whose magnitudes are below infinity holds real numbers. -/
theorem real_array {s : Shape} {φ : FTy} (X : FVec Ideal s φ)
    (h : (fun i => Ideal.cmp .olt (max (X i) (-(X i) : EReal)) (Ideal.ofBits FTy.f32 0x7F800000#32)) = fun _ => 1#1) :
    X = fun i => ((EReal.toReal (X i) : ℝ) : EReal) :=
  funext fun i => real_of_lt (X i) (congrFun h i)

attribute [local instance] facts

/-- The precondition over the three arguments. -/
theorem real_args (A : FVec Ideal Pre_finite.S4096x6144 .bf16) (R : FVec Ideal Pre_finite.S16x1x4096 .f32) (D : FVec Ideal Pre_finite.S4096x2048 .bf16)
    (h : (Pre_finite.fn (F := Ideal) A R D).1 = (fun _ => 1#1) ∧ (Pre_finite.fn (F := Ideal) A R D).2.1 = (fun _ => 1#1)
      ∧ (Pre_finite.fn (F := Ideal) A R D).2.2 = (fun _ => 1#1)) :
    (A = fun i => ((EReal.toReal (A i) : ℝ) : EReal)) ∧ (R = fun i => ((EReal.toReal (R i) : ℝ) : EReal)) ∧ D = fun i => ((EReal.toReal (D i) : ℝ) : EReal) :=
  ⟨real_array A h.1, real_array R h.2.1, real_array D h.2.2⟩

end Cert.Finite
-- ==== Proof.FwdClaims.lean ====
/- The claims about the forward attention. -/
module

public import proofs.«01_k».proof.Defs
public import proofs.«01_k».proof.Proof.FwdArray
public import proofs.«01_k».proof.Proof.FwdRef
public import proofs.«01_k».proof.Proof.Finite
public import proofs.«01_k».proof.Proof.Gen.Fwd
public import proofs.«01_k».proof.Proof.Gen.Fwd.Frame
public import proofs.«01_k».proof.Proof.Gen.FwdRefIdeal.Run
public import proofs.«01_k».proof.Proof.Gen.FwdRefIdeal
public import Idealize.ShloMosaic.Lib.Claim

@[expose] public section

set_option maxRecDepth 16384

noncomputable section

namespace Cert.Proof.Fwd

open Idealize.ShloMosaic Idealize.SL.Sem Cert.Heads Cert.Attn

theorem finite_facts : Cert.Pre_finite_fwd.Facts := ⟨by decide, by decide, by decide⟩

attribute [local instance] Cert.Fwd.Gen.facts Cert.FwdIdeal.Gen.facts Cert.FwdRefIdeal.Gen.facts finite_facts

/-- The precondition over the two arguments. -/
theorem real_args (A : FVec Ideal Cert.Pre_finite_fwd.S4096x6144 .bf16) (R : FVec Ideal Cert.Pre_finite_fwd.S16x1x4096 .f32)
    (h : (Cert.Pre_finite_fwd.fn (F := Ideal) A R).1 = (fun _ => 1#1) ∧ (Cert.Pre_finite_fwd.fn (F := Ideal) A R).2 = (fun _ => 1#1)) :
    (A = fun i => ((EReal.toReal (A i) : ℝ) : EReal)) ∧ R = fun i => ((EReal.toReal (R i) : ℝ) : EReal) :=
  ⟨Cert.Finite.real_array A h.1, Cert.Finite.real_array R h.2⟩

theorem frame_p : Cert.quiescent_Fwd := fun m ρ _ => Cert.Fwd.Gen.frame m ρ
theorem frame_pi : Cert.quiescent_FwdIdeal := fun m ρ _ => Cert.FwdIdeal.Gen.frame m ρ
theorem frame_pi_finite : Cert.quiescent_FwdIdeal_pre_finite_fwd := fun m ρ _ => Cert.FwdIdeal.Gen.frame m ρ
theorem frame_ri : Cert.quiescent_FwdRefIdeal := fun m ρ _ =>
  (θ_run Cert.FwdRefIdeal.defs _ _).mono (fun r h => ⟨fun c => (h c).2.2, sem_eq_zero_of_no_sems (by decide) r.2⟩) (Cert.FwdRefIdeal.Value.run (F := Ideal) m ρ)
theorem frame_ri_finite : Cert.quiescent_FwdRefIdeal_pre_finite_fwd := fun m ρ _ => frame_ri m ρ trivial
/-- The one word the ideal reading changes is the kernel's "no score". -/
theorem preserves : Cert.preserves_Fwd_FwdIdeal := IdealRules.named_const.statement Cert.FwdIdeal.κ "mask" .f32 0xF149F2CA#32 ⊥ rfl

/-- Over the extended reals the kernel's results and the reference's are equal wherever every entry of the arguments is a real number. -/
theorem algebraic : Cert.algebraic_FwdIdeal_FwdRefIdeal_pre_finite_fwd := by
  intro m g m' g' hpre hagree
  refine ⟨_, _, Cert.FwdIdeal.Value.run_blocks m g, ?_⟩
  refine (θ_run Cert.FwdRefIdeal.defs _ _).mono (fun r h c => ?_) (Cert.FwdRefIdeal.Value.run (F := Ideal) m' g')
  obtain ⟨h0, h1, h2⟩ := h c
  obtain ⟨ha, hf⟩ := real_args _ _ (hpre c)
  obtain ⟨e0, e1⟩ := hagree c
  refine ⟨h0.trans ?_, h1.trans ?_, h2⟩
  · refine (Cert.FwdRefIdeal.Read.val_main_v74_eq m' c).trans ?_
    refine (Cert.FwdRefIdeal.Entry.output_array _ _ _ _ (e0.trans ha) (e1.trans hf)).trans ?_
    exact (Cert.FwdIdeal.Block.array4 m c _ _ ha hf).symm
  · refine (Cert.FwdRefIdeal.Read.val_main_v76_eq m' c).trans ?_
    refine (Cert.FwdRefIdeal.Entry.lse_array _ _ _ _ (e0.trans ha) (e1.trans hf)).trans ?_
    exact (Cert.FwdIdeal.Block.array5 m c _ _ ha hf).symm

end Cert.Proof.Fwd
-- ==== Proof.Norm.lean ====
/- The normalisation of one row of 2048 entries by its root mean square, and the derivative with respect to the row. The gradient is written twice: as
   the kernel computes it, and as differentiating the forward lines gives it; the two are equal. -/
module

public import Idealize.ShloMosaic.PureOps.Ideal
public import proofs.«01_k».proof.Proof.Softmax

@[expose] public section

set_option maxRecDepth 16384

noncomputable section

namespace Cert.Norm

open Idealize.ShloMosaic

/-- The number of entries of a row, the term added to the mean of the squares, and the numbers 1 and -1/2. -/
abbrev width : EReal := Ideal.ofBits .f32 0x45000000#32
abbrev eps : EReal := Ideal.ofBits .f32 0x358637BD#32
abbrev one : EReal := Ideal.ofBits .f32 0x3F800000#32
abbrev half : EReal := Ideal.ofBits .f32 0xBF000000#32

theorem width_real : width = ((2048 : ℝ) : EReal) := by
  unfold width Ideal.ofBits Ideal.ieee
  dsimp only
  rw [if_neg (by decide), if_neg (by decide), if_neg (by decide), show (BitVec.extractLsb' 23 8 0x45000000#32).toNat = 138 by decide,
    show (BitVec.extractLsb' 0 23 0x45000000#32).toNat = 0 by decide]
  norm_num
theorem one_real : one = ((1 : ℝ) : EReal) := by
  unfold one Ideal.ofBits Ideal.ieee
  dsimp only
  rw [if_neg (by decide), if_neg (by decide), if_neg (by decide), show (BitVec.extractLsb' 23 8 0x3F800000#32).toNat = 127 by decide,
    show (BitVec.extractLsb' 0 23 0x3F800000#32).toNat = 0 by decide]
  norm_num
theorem half_real : half = ((-(1 / 2) : ℝ) : EReal) := by
  unfold half Ideal.ofBits Ideal.ieee
  dsimp only
  rw [if_neg (by decide), if_neg (by decide), if_pos (by decide), show (BitVec.extractLsb' 23 8 0xBF000000#32).toNat = 126 by decide,
    show (BitVec.extractLsb' 0 23 0xBF000000#32).toNat = 0 by decide]
  norm_num
theorem eps_real : ∃ e : ℝ, 0 < e ∧ eps = (e : EReal) := by
  unfold eps Ideal.ofBits Ideal.ieee
  dsimp only
  rw [if_neg (by decide), if_neg (by decide), if_neg (by decide)]
  exact ⟨_, by positivity, rfl⟩

variable (X G S H : Fin 2048 → EReal)

/-- The mean of the squares. -/
def square : EReal := Ideal.div (∑ k, X k * X k) width + eps
/-- The factor that normalises the row. -/
def factor : EReal := Ideal.rsqrt (square X)
/-- An entry of the normalised row, scaled and shifted. -/
def scaled (B : Fin 2048 → EReal) (j : Fin 2048) : EReal := X j * factor X * G j * (one + S j) + B j
/-- The gradient with respect to an entry of the normalised row. -/
def inner (j : Fin 2048) : EReal := H j * (one + S j) * G j
/-- The gradient with respect to the row, as the kernel computes it. -/
def back (j : Fin 2048) : EReal :=
  factor X * (inner G S H j - X j * factor X * Ideal.div (∑ k, inner G S H k * (X k * factor X)) width)
/-- The gradient with respect to the mean of the squares, over the row's entries. -/
def spread : EReal := Ideal.div ((∑ k, X k * inner G S H k) * (half * Ideal.div (factor X) (square X))) width
/-- The gradient with respect to the row, as the forward lines' derivative. -/
def derived (j : Fin 2048) : EReal := inner G S H j * factor X + X j * spread X G S H + spread X G S H * X j

/-- Dividing by the number of entries. -/
theorem div_width (z : EReal) : Ideal.div z width = (((2048 : ℝ)⁻¹ : ℝ) : EReal) * z := by
  unfold Ideal.div
  rw [width_real, if_neg (by norm_num), EReal.coe_inv, mul_comm]

/-- A real factor that is not negative comes out of a sum, whatever the terms are. -/
theorem factor_out {K : Type} (r : ℝ) (hr : 0 ≤ r) (f : K → EReal) (A : Finset K) : ∑ k ∈ A, (r : EReal) * f k = (r : EReal) * ∑ k ∈ A, f k := by
  classical
  induction A using Finset.induction_on with
  | empty => simp
  | insert k A hk ih =>
    rw [Finset.sum_insert hk, Finset.sum_insert hk, ih, EReal.left_distrib_of_nonneg_of_ne_top (EReal.coe_nonneg.mpr hr) (EReal.coe_ne_top r)]

/-- Twice a real multiple. -/
theorem twice (a : ℝ) (M : EReal) : (a : EReal) * M + (a : EReal) * M = ((2 * a : ℝ) : EReal) * M := by
  have pos (b : ℝ) (hb : 0 ≤ b) (N : EReal) : (b : EReal) * N + (b : EReal) * N = ((2 * b : ℝ) : EReal) * N := by
    rw [← EReal.right_distrib_of_nonneg (EReal.coe_nonneg.mpr hb) (EReal.coe_nonneg.mpr hb), ← EReal.coe_add, two_mul]
  rcases le_total 0 a with h | h
  · exact pos a h M
  · have e := pos (-a) (by linarith) (-M)
    rwa [show 2 * -a = -(2 * a) by ring, EReal.coe_neg, EReal.coe_neg, neg_mul_neg, neg_mul_neg] at e

/-- Where an entry of the row is infinite, so is the mean of the squares. -/
theorem square_top (k : Fin 2048) (h : X k = ⊤ ∨ X k = ⊥) : square X = ⊤ := by
  have hn (z : EReal) : 0 ≤ z * z := by
    induction z with
    | bot => simp
    | top => simp
    | coe r => exact_mod_cast mul_self_nonneg r
  have hk : X k * X k = ⊤ := by rcases h with h | h <;> simp [h]
  have hs : ∑ i, X i * X i = ⊤ :=
    top_le_iff.mp (hk ▸ Finset.single_le_sum (f := fun i => X i * X i) (fun i _ => hn (X i)) (Finset.mem_univ k))
  obtain ⟨e, he, hε⟩ := eps_real
  unfold square
  rw [div_width, hs, hε, EReal.coe_mul_top_of_pos (by norm_num), EReal.top_add_coe]

/-- The two gradients are equal: for a row of real numbers, … -/
theorem back_eq_real (x : Fin 2048 → ℝ) (hX : X = fun k => (x k : EReal)) (j : Fin 2048) : back X G S H j = derived X G S H j := by
  subst hX
  obtain ⟨e, he, hε⟩ := eps_real
  have hs : square (fun k => (x k : EReal)) = (((∑ k, x k * x k) / 2048 + e : ℝ) : EReal) := by
    unfold square
    rw [hε, width_real, EReal.coe_add, ← Softmax.div_real _ _ (by norm_num), Softmax.coe_sum]
    simp only [EReal.coe_mul]
  have hp : 0 < (∑ k, x k * x k) / 2048 + e := by
    have : 0 ≤ ∑ k, x k * x k := Finset.sum_nonneg fun k _ => mul_self_nonneg _
    positivity
  generalize hQ : (∑ k, x k * x k) / 2048 + e = Q at hs hp
  have hf : factor (fun k => (x k : EReal)) = (((Real.sqrt Q)⁻¹ : ℝ) : EReal) := by
    unfold factor
    rw [hs, Ideal.rsqrt_coe, if_neg (not_lt.mpr hp.le), if_neg hp.ne']
  have hr : (Real.sqrt Q)⁻¹ / Q = (Real.sqrt Q)⁻¹ * (Real.sqrt Q)⁻¹ * (Real.sqrt Q)⁻¹ := by
    have h1 := Real.mul_self_sqrt hp.le
    have h2 : Real.sqrt Q ≠ 0 := (Real.sqrt_pos.mpr hp).ne'
    have h3 : Q = Real.sqrt Q * Real.sqrt Q := h1.symm
    rw [div_eq_mul_inv]
    conv_lhs => rw [h3, Real.sqrt_mul_self (Real.sqrt_nonneg Q)]
    field_simp
  have h0 : 0 ≤ (Real.sqrt Q)⁻¹ := by positivity
  generalize hR : (Real.sqrt Q)⁻¹ = r at hf hr h0
  unfold back derived spread
  generalize inner G S H = I
  have e1 : ∑ k, I k * ((x k : EReal) * (r : EReal)) = (r : EReal) * ∑ k, (x k : EReal) * I k := by
    rw [← factor_out r h0]
    exact Finset.sum_congr rfl fun k _ => by rw [← mul_assoc, mul_comm, mul_comm (I k)]
  rw [hf, hs, e1, half_real, Softmax.div_real _ _ hp.ne', hr, div_width, div_width]
  generalize ∑ k, (x k : EReal) * I k = M
  have eL : (r : EReal) * ((x j : EReal) * (r : EReal) * ((((2048 : ℝ)⁻¹ : ℝ) : EReal) * ((r : EReal) * M)))
      = ((x j * (2048 : ℝ)⁻¹ * (r * r * r) : ℝ) : EReal) * M := by
    rw [show x j * (2048 : ℝ)⁻¹ * (r * r * r) = r * ((x j * r) * ((2048 : ℝ)⁻¹ * r)) by ring]
    simp only [EReal.coe_mul, mul_assoc]
  have eR : (x j : EReal) * ((((2048 : ℝ)⁻¹ : ℝ) : EReal) * (M * (((-(1 / 2) : ℝ) : EReal) * ((r * r * r : ℝ) : EReal))))
      = ((x j * (2048 : ℝ)⁻¹ * (-(1 / 2) * (r * r * r)) : ℝ) : EReal) * M := by
    rw [mul_comm M]
    simp only [EReal.coe_mul, mul_assoc]
  rw [mul_comm _ ((x j : EReal)), add_assoc, eR, twice, sub_eq_add_neg,
    EReal.left_distrib_of_nonneg_of_ne_top (EReal.coe_nonneg.mpr h0) (EReal.coe_ne_top r), mul_neg, eL, mul_comm (I j),
    show 2 * (x j * (2048 : ℝ)⁻¹ * (-(1 / 2) * (r * r * r))) = -(x j * (2048 : ℝ)⁻¹ * (r * r * r)) by ring, EReal.coe_neg, neg_mul]

/-- … and for one with an infinite entry, where both are zero. -/
theorem back_eq (j : Fin 2048) : back X G S H j = derived X G S H j := by
  by_cases h : ∃ k, X k = ⊤ ∨ X k = ⊥
  · obtain ⟨k, hk⟩ := h
    have hf : factor X = 0 := by
      unfold factor
      rw [square_top X k hk]
      rfl
    have hq : spread X G S H = 0 := by
      unfold spread
      rw [hf, square_top X k hk, div_width]
      simp [Ideal.div]
    unfold back derived
    rw [hq, hf]
    simp
  · push Not at h
    exact back_eq_real X G S H (fun k => (X k).toReal) (funext fun k => (EReal.coe_toReal (h k).1 (h k).2).symm) j

end Cert.Norm
-- ==== Proof.NormGrad.lean ====
/- The gradient of the norm over whole arrays: what it is for each of the six results, written with the row formulas of `Norm`. -/
module

public import proofs.«01_k».proof.Proof.Norm
public import proofs.«01_k».proof.Proof.Sums
public import Idealize.ShloMosaic.Lib.Pipeline.ValueKit

@[expose] public section

set_option maxRecDepth 16384

noncomputable section

namespace Cert.NormGrad

open Idealize.ShloMosaic

/-- An array with a row for every token. -/
abbrev Big := (⟨2, ![4096, 2048]⟩ : Shape).Idx → EReal
/-- A single row, the same for every token. -/
abbrev One := (⟨2, ![1, 2048]⟩ : Shape).Idx → EReal

/-- A token's row. -/
abbrev row (A : Big) (r : Fin 4096) (k : Fin 2048) : EReal := A (ix2 r k)
/-- The entries of a single row. -/
abbrev vec (A : One) (k : Fin 2048) : EReal := A (ix2 0 k)

variable (X : Big) (G S : One) (H D Y : Big) (T : One)

/-- The gradient of the norm's argument, added to what arrives beside it. -/
def dx : Big := fun y => D (ix2 (y 0) (y 1)) + Norm.back (row X (y 0)) (vec G) (vec S) (row H (y 0)) (y 1)
/-- The scale's gradient: one token's term, … -/
def dscTerm (j : Fin 2048) (r : Fin 4096) : EReal := H (ix2 r j) * (X (ix2 r j) * Norm.factor (row X r) * G (ix2 0 j))
/-- … and the sum over the tokens. -/
def dsc : One := fun y => ∑ r, dscTerm X G H (y 1) r
/-- The shift's gradient. -/
def dsh : One := fun y => ∑ r : Fin 4096, H (ix2 r (y 1))
/-- The gain's gradient: one token's term, … -/
def dgTerm (j : Fin 2048) (r : Fin 4096) : EReal := H (ix2 r j) * (Norm.one + S (ix2 0 j)) * (X (ix2 r j) * Norm.factor (row X r))
/-- … and the sum over the tokens. -/
def dg : One := fun y => ∑ r, dgTerm X S H (y 1) r
/-- The gradient of the branch that was added before the norm. -/
def dy : Big := fun y => dx X G S H D y * T (ix2 0 (y 1))
/-- The gradient of that branch's gate. -/
def dgate : One := fun y => ∑ r, dx X G S H D (ix2 r (y 1)) * Y (ix2 r (y 1))

/-- A sum over the tokens, added up 256 at a time. -/
theorem total (N : ℕ) (hN : N = 16) (u : (n : ℕ) → n < N → EReal) (f : Fin 4096 → EReal)
    (h0 : ∀ h : 0 < N, u 0 h = ∑ a : Fin 256, f ⟨256 * 0 + a.val, by have := a.isLt; omega⟩)
    (hs : ∀ (n : ℕ) (h : n + 1 < N), u (n + 1) h = u n (Nat.lt_of_succ_lt h) + ∑ a : Fin 256, f ⟨256 * (n + 1) + a.val, by have := a.isLt; omega⟩) :
    ∀ (n : ℕ) (h : n < N), n = 15 → u n h = ∑ r, f r := by
  have key : ∀ (n : ℕ) (h : n < N), u n h = ∑ k ∈ Finset.range (256 * (n + 1)), Sums.ext f k := by
    intro n
    induction n with
    | zero =>
      intro h
      rw [h0 h, Sums.sum_block, show Finset.range (256 * 0) = ∅ from rfl, Finset.sum_empty, zero_add]
      exact Finset.sum_congr rfl fun a _ => (Sums.ext_of_lt f _ _).symm
    | succ n ih =>
      intro h
      rw [hs n h, ih, Sums.sum_block _ _ (n + 1)]
      exact congrArg _ (Finset.sum_congr rfl fun a _ => (Sums.ext_of_lt f _ _).symm)
  rintro n h rfl
  rw [key, Sums.sum_eq_range f 4096 le_rfl (fun k hk => absurd hk (by have := k.isLt; omega))]

end Cert.NormGrad
-- ==== Proof.NormBwdBlock.lean ====
/- One block of the norm's gradient: what a point computes from its 256 rows. -/
module

public import proofs.«01_k».proof.Proof.NormGrad
public import proofs.«01_k».proof.Proof.Gen.NormBwdIdeal
public import proofs.«01_k».proof.Proof.Gen.NormBwdIdeal.Value
public import Idealize.ShloMosaic.Lib.Pipeline.ValueKit
public import Idealize.ShloMosaic.Lib.Pointwise

@[expose] public section

set_option maxRecDepth 16384

noncomputable section

namespace Cert.NormBwdIdeal.Block

open Idealize.ShloMosaic Cert.NormBwdIdeal Cert.NormBwdIdeal.Gen

/-- A block's row. -/
def trow (A : Vec Ideal S256x2048 .f32) (a : Fin 256) (k : Fin 2048) : EReal := A (ix2 a k)
/-- The entries of a single row. -/
def tvec (A : Vec Ideal S1x2048 .f32) (k : Fin 2048) : EReal := A (ix2 0 k)

variable (X : Vec Ideal S256x2048 .f32) (G S : Vec Ideal S1x2048 .f32) (H D : Vec Ideal S256x2048 .f32) (Y : Vec Ideal S256x2048 .bf16) (T O : Vec Ideal S1x2048 .f32)

theorem factor (a : Fin 256) : k0_pay2 X (ix2 a 0) = Norm.factor (trow X a) := by
  unfold Norm.factor Norm.square trow
  pointwise [k0_pay2]

theorem scaled (a : Fin 256) (j : Fin 2048) : k0_pay3 X (ix2 a j) = trow X a j * Norm.factor (trow X a) := by
  rw [← factor]
  unfold trow
  generalize h : k0_pay2 X = J
  pointwise [k0_pay3, h]

theorem opened (a : Fin 256) (j : Fin 2048) : k0_pay4 H S (ix2 a j) = trow H a j * (Norm.one + tvec S j) := by
  unfold trow tvec
  pointwise [k0_pay4]

/-- The gradient of the argument. -/
theorem dx (a : Fin 256) (j : Fin 2048) : k0_pay5 X G H S D (ix2 a j) = trow D a j + Norm.back (trow X a) (tvec G) (tvec S) (trow H a) j := by
  unfold Norm.back Norm.inner
  simp only [← opened, ← scaled]
  simp only [← factor]
  unfold trow tvec
  generalize h : k0_pay2 X = J
  generalize h3 : k0_pay3 X = K
  generalize h4 : k0_pay4 H S = L
  pointwise [k0_pay5, h, h3, h4]

/-- The block's part of the scale's gradient. -/
def dscPart (j : Fin 2048) (a : Fin 256) : EReal := trow H a j * (trow X a j * Norm.factor (trow X a) * tvec G j)
/-- The block's part of the gain's gradient. -/
def dgPart (j : Fin 2048) (a : Fin 256) : EReal := trow H a j * (Norm.one + tvec S j) * (trow X a j * Norm.factor (trow X a))

theorem dsc_first (j : Fin 2048) : k0_pay7 (k0_pay6 X G H) (ix2 0 j) = ∑ a, dscPart X G H j a := by
  unfold dscPart
  simp only [← scaled]
  unfold trow tvec
  generalize h3 : k0_pay3 X = K
  pointwise [k0_pay7, k0_pay6, h3]

theorem dsh_first (j : Fin 2048) : k0_pay8 H (ix2 0 j) = ∑ a, trow H a j := by
  unfold trow
  pointwise [k0_pay8]

theorem dg_first (j : Fin 2048) : k0_pay9 (k0_pay3 X) (k0_pay4 H S) (ix2 0 j) = ∑ a, dgPart X S H j a := by
  unfold dgPart
  simp only [← scaled, ← opened]
  generalize h3 : k0_pay3 X = K
  generalize h4 : k0_pay4 H S = L
  pointwise [k0_pay9]

theorem dsc_next (j : Fin 2048) : k0_pay12 (k0_pay6 X G H) O (ix2 0 j) = O (ix2 0 j) + ∑ a, dscPart X G H j a := by
  rw [← dsc_first]
  generalize h : k0_pay7 (k0_pay6 X G H) = J
  pointwise [k0_pay12, h]

theorem dsh_next (j : Fin 2048) : k0_pay13 H O (ix2 0 j) = O (ix2 0 j) + ∑ a, trow H a j := by
  rw [← dsh_first]
  generalize h : k0_pay8 H = J
  pointwise [k0_pay13, h]

theorem dg_next (j : Fin 2048) : k0_pay14 (k0_pay3 X) (k0_pay4 H S) O (ix2 0 j) = O (ix2 0 j) + ∑ a, dgPart X S H j a := by
  rw [← dg_first]
  generalize h : k0_pay9 (k0_pay3 X) (k0_pay4 H S) = J
  pointwise [k0_pay14, h]

theorem dy (E : FVec Ideal S256x2048 .f32) (a : Fin 256) (j : Fin 2048) : k0_pay10 E T (ix2 a j) = E (ix2 a j) * tvec T j := by
  unfold tvec
  pointwise [k0_pay10]

theorem dgate_first (E : FVec Ideal S256x2048 .f32) (j : Fin 2048) : k0_pay11 E Y (ix2 0 j) = ∑ a : Fin 256, E (ix2 a j) * Y (ix2 a j) := by
  pointwise [k0_pay11]

theorem dgate_next (E : FVec Ideal S256x2048 .f32) (j : Fin 2048) : k0_pay1 (k0_pay11 E Y) O (ix2 0 j) = O (ix2 0 j) + ∑ a : Fin 256, E (ix2 a j) * Y (ix2 a j) := by
  rw [← dgate_first]
  generalize h : k0_pay11 E Y = J
  pointwise [k0_pay1, h]

end Cert.NormBwdIdeal.Block
-- ==== Proof.NormBwdArray.lean ====
/- The arrays the norm's gradient leaves: a point computes 256 rows, and adds their part to the four sums over the tokens. -/
module

public import proofs.«01_k».proof.Proof.NormBwdBlock
public import Idealize.ShloMosaic.Lib.WholeRead

@[expose] public section

set_option maxRecDepth 16384

noncomputable section

namespace Cert.NormBwdIdeal.Block

open Idealize.ShloMosaic Idealize.SL.Sem Cert.NormBwdIdeal Cert.NormBwdIdeal.Gen

variable (m : (ℓ : Loc nD τ sig) → Buf (Elt Ideal) ℓ) (c : Dev nD) (t : Fin cfg0.N)

/-- Where each window's block lies. -/
theorem idx : ∀ t : Fin cfg0.N, t.val < 16 ∧ win0_0.index t = ![t.val, 0] ∧ win0_1.index t = ![0, 0] ∧ win0_2.index t = ![0, 0] ∧ win0_4.index t = ![t.val, 0]
    ∧ win0_5.index t = ![t.val, 0] ∧ win0_6.index t = ![t.val, 0] ∧ win0_7.index t = ![0, 0] ∧ win0_8.index t = ![t.val, 0] ∧ win0_9.index t = ![0, 0]
    ∧ win0_10.index t = ![0, 0] ∧ win0_11.index t = ![0, 0] ∧ win0_12.index t = ![t.val, 0] ∧ win0_13.index t = ![0, 0] :=
  (by decide +kernel : ∀ t : Fin grid0.N, _)

/-- The device's arrays, whatever they hold. -/
abbrev Arrays (c : Dev nD) := (b : Ref sig .tc) → Buf (Elt Ideal) ((c.tc : Thread nD τ).loc b)

/-- The token that a point's row `a` is. -/
def tok (a : Fin 256) : Fin 4096 := ⟨256 * t.val + a.val, by have := (idx t).1; have := a.isLt; omega⟩

theorem opened0 (X : Arrays c) (y : S256x2048.Idx) :
    ((cfg0.win 0).blk t).view.read (Elt Ideal) (X (Pipeline.arrRef spec0 0)) y = X main_arg0 ((win0_0.blk t).view.emb y) := rfl
theorem place0 (a : Fin 256) (j : Fin 2048) : (win0_0.blk t).view.emb (ix2 a j) = ix2 (tok t a) j := by
  unfold tok; blk_ext [(idx t).2.1]
theorem read0 (a : Fin 256) (j : Fin 2048) : (iblk m c 0 t : Vec Ideal S256x2048 .f32) (ix2 a j) = V m c main_arg0 (ix2 (tok t a) j) :=
  (opened0 c t (V m c) _).trans (congrArg (V m c main_arg0) (place0 t a j))
theorem row0 (a : Fin 256) : trow (iblk m c 0 t) a = NormGrad.row (V m c main_arg0) (tok t a) := funext fun j => read0 m c t a j
theorem opened4 (X : Arrays c) (y : S256x2048.Idx) :
    ((cfg0.win 4).blk t).view.read (Elt Ideal) (X (Pipeline.arrRef spec0 4)) y = X main_arg4 ((win0_4.blk t).view.emb y) := rfl
theorem place4 (a : Fin 256) (j : Fin 2048) : (win0_4.blk t).view.emb (ix2 a j) = ix2 (tok t a) j := by
  unfold tok; blk_ext [(idx t).2.2.2.2.1]
theorem read4 (a : Fin 256) (j : Fin 2048) : (iblk m c 4 t : Vec Ideal S256x2048 .f32) (ix2 a j) = V m c main_arg4 (ix2 (tok t a) j) :=
  (opened4 c t (V m c) _).trans (congrArg (V m c main_arg4) (place4 t a j))
theorem row4 (a : Fin 256) : trow (iblk m c 4 t) a = NormGrad.row (V m c main_arg4) (tok t a) := funext fun j => read4 m c t a j
theorem opened5 (X : Arrays c) (y : S256x2048.Idx) :
    ((cfg0.win 5).blk t).view.read (Elt Ideal) (X (Pipeline.arrRef spec0 5)) y = X main_arg5 ((win0_5.blk t).view.emb y) := rfl
theorem place5 (a : Fin 256) (j : Fin 2048) : (win0_5.blk t).view.emb (ix2 a j) = ix2 (tok t a) j := by
  unfold tok; blk_ext [(idx t).2.2.2.2.2.1]
theorem read5 (a : Fin 256) (j : Fin 2048) : (iblk m c 5 t : Vec Ideal S256x2048 .f32) (ix2 a j) = V m c main_arg5 (ix2 (tok t a) j) :=
  (opened5 c t (V m c) _).trans (congrArg (V m c main_arg5) (place5 t a j))
theorem row5 (a : Fin 256) : trow (iblk m c 5 t) a = NormGrad.row (V m c main_arg5) (tok t a) := funext fun j => read5 m c t a j
theorem opened6 (X : Arrays c) (y : S256x2048.Idx) :
    ((cfg0.win 6).blk t).view.read (Elt Ideal) (X (Pipeline.arrRef spec0 6)) y = X main_arg6 ((win0_6.blk t).view.emb y) := rfl
theorem place6 (a : Fin 256) (j : Fin 2048) : (win0_6.blk t).view.emb (ix2 a j) = ix2 (tok t a) j := by
  unfold tok; blk_ext [(idx t).2.2.2.2.2.2.1]
theorem read6 (a : Fin 256) (j : Fin 2048) : (iblk m c 6 t : Vec Ideal S256x2048 .bf16) (ix2 a j) = V m c main_arg6 (ix2 (tok t a) j) :=
  (opened6 c t (V m c) _).trans (congrArg (V m c main_arg6) (place6 t a j))
theorem opened1 (X : Arrays c) (y : S1x2048.Idx) :
    ((cfg0.win 1).blk t).view.read (Elt Ideal) (X (Pipeline.arrRef spec0 1)) y = X main_arg1 ((win0_1.blk t).view.emb y) := rfl
theorem place1 (j : Fin 2048) : (win0_1.blk t).view.emb (ix2 0 j) = ix2 0 j := by
  blk_ext [(idx t).2.2.1]
theorem vec1 : tvec (iblk m c 1 t) = NormGrad.vec (V m c main_arg1) :=
  funext fun j => (opened1 c t (V m c) _).trans (congrArg (V m c main_arg1) (place1 t j))
theorem opened2 (X : Arrays c) (y : S1x2048.Idx) :
    ((cfg0.win 2).blk t).view.read (Elt Ideal) (X (Pipeline.arrRef spec0 2)) y = X main_arg2 ((win0_2.blk t).view.emb y) := rfl
theorem place2 (j : Fin 2048) : (win0_2.blk t).view.emb (ix2 0 j) = ix2 0 j := by
  blk_ext [(idx t).2.2.2.1]
theorem vec2 : tvec (iblk m c 2 t) = NormGrad.vec (V m c main_arg2) :=
  funext fun j => (opened2 c t (V m c) _).trans (congrArg (V m c main_arg2) (place2 t j))
theorem opened7 (X : Arrays c) (y : S1x2048.Idx) :
    ((cfg0.win 7).blk t).view.read (Elt Ideal) (X (Pipeline.arrRef spec0 7)) y = X main_arg7 ((win0_7.blk t).view.emb y) := rfl
theorem place7 (j : Fin 2048) : (win0_7.blk t).view.emb (ix2 0 j) = ix2 0 j := by
  blk_ext [(idx t).2.2.2.2.2.2.2.1]
theorem vec7 : tvec (iblk m c 7 t) = NormGrad.vec (V m c main_arg7) :=
  funext fun j => (opened7 c t (V m c) _).trans (congrArg (V m c main_arg7) (place7 t j))

/-- The rows a point computes of the argument's gradient. -/
theorem dx_rows (a : Fin 256) (j : Fin 2048) :
    k0_pay5 (iblk m c 0 t) (iblk m c 1 t) (iblk m c 4 t) (iblk m c 2 t) (iblk m c 5 t) (ix2 a j) = NormGrad.dx (V m c main_arg0) (V m c main_arg1) (V m c main_arg2) (V m c main_arg4) (V m c main_arg5) (ix2 (tok t a) j) := by
  refine (dx (iblk m c 0 t) (iblk m c 1 t) (iblk m c 2 t) (iblk m c 4 t) (iblk m c 5 t) a j).trans ?_
  rw [row0, row4, row5, vec1, vec2]
  rfl

/-- What a point adds to each sum. -/
theorem dsc_rows (j : Fin 2048) : ∑ a, dscPart (iblk m c 0 t) (iblk m c 1 t) (iblk m c 4 t) j a
    = ∑ a : Fin 256, NormGrad.dscTerm (V m c main_arg0) (V m c main_arg1) (V m c main_arg4) j (tok t a) := by
  refine Finset.sum_congr rfl fun a _ => ?_
  unfold dscPart
  rw [row0, row4, vec1]
  rfl
theorem dsh_rows (j : Fin 2048) : ∑ a, trow (iblk m c 4 t) a j = ∑ a : Fin 256, NormGrad.row (V m c main_arg4) (tok t a) j :=
  Finset.sum_congr rfl fun a _ => by rw [row4]
theorem dg_rows (j : Fin 2048) : ∑ a, dgPart (iblk m c 0 t) (iblk m c 2 t) (iblk m c 4 t) j a
    = ∑ a : Fin 256, NormGrad.dgTerm (V m c main_arg0) (V m c main_arg2) (V m c main_arg4) j (tok t a) := by
  refine Finset.sum_congr rfl fun a _ => ?_
  unfold dgPart
  rw [row0, row4, vec2]
  rfl
/-- One token's term of the gate's gradient. -/
def dgateTerm (j : Fin 2048) (r : Fin 4096) : EReal := NormGrad.dx (V m c main_arg0) (V m c main_arg1) (V m c main_arg2) (V m c main_arg4) (V m c main_arg5) (ix2 r j) * V m c main_arg6 (ix2 r j)
theorem dgate_rows (j : Fin 2048) :
    ∑ a : Fin 256, k0_pay5 (iblk m c 0 t) (iblk m c 1 t) (iblk m c 4 t) (iblk m c 2 t) (iblk m c 5 t) (ix2 a j) * (iblk m c 6 t : Vec Ideal S256x2048 .bf16) (ix2 a j)
      = ∑ a : Fin 256, dgateTerm m c j (tok t a) :=
  Finset.sum_congr rfl fun a _ => congrArg₂ (· * ·) (dx_rows m c t a j) (read6 m c t a j)

/-- A point's rows of the argument's gradient, as it leaves them. -/
theorem after8 (a : Fin 256) (j : Fin 2048) : (dats m 0 c).after 8 t (ix2 a j) = NormGrad.dx (V m c main_arg0) (V m c main_arg1) (V m c main_arg2) (V m c main_arg4) (V m c main_arg5) (ix2 (tok t a) j) := by
  have hN := (idx t).1
  rw [after0_8]
  by_cases h0 : t.val % 16 = 0
  · rw [outsAt0_A m c t h0 (by omega) h0 (by omega) h0 (by omega) h0 (by omega)]
    unfold out0_A_8
    frame_out
    exact dx_rows m c t a j
  · rw [outsAt0_B m c t h0 (by omega) h0 (by omega) h0 (by omega) h0 (by omega)]
    unfold out0_B_8
    frame_out
    exact dx_rows m c t a j

/-- A point's rows of the earlier branch's gradient. -/
theorem after12 (a : Fin 256) (j : Fin 2048) : (dats m 0 c).after 12 t (ix2 a j) = NormGrad.dy (V m c main_arg0) (V m c main_arg1) (V m c main_arg2) (V m c main_arg4) (V m c main_arg5) (V m c main_arg7) (ix2 (tok t a) j) := by
  have hN := (idx t).1
  have e : k0_pay10 (k0_pay5 (iblk m c 0 t) (iblk m c 1 t) (iblk m c 4 t) (iblk m c 2 t) (iblk m c 5 t)) (iblk m c 7 t) (ix2 a j) = NormGrad.dy (V m c main_arg0) (V m c main_arg1) (V m c main_arg2) (V m c main_arg4) (V m c main_arg5) (V m c main_arg7) (ix2 (tok t a) j) := by
    refine (dy (iblk m c 7 t) _ a j).trans ?_
    rw [dx_rows, vec7]
    rfl
  rw [after0_12]
  by_cases h0 : t.val % 16 = 0
  · rw [outsAt0_A m c t h0 (by omega) h0 (by omega) h0 (by omega) h0 (by omega)]
    unfold out0_A_12
    frame_out
    exact e
  · rw [outsAt0_B m c t h0 (by omega) h0 (by omega) h0 (by omega) h0 (by omega)]
    unfold out0_B_12
    frame_out
    exact e

/-- The sum for the scale after the last point. -/
theorem after9 (h : t.val = 15) (j : Fin 2048) : (dats m 0 c).after 9 t (ix2 0 j) = ∑ r : Fin 4096, (NormGrad.dscTerm (V m c main_arg0) (V m c main_arg1) (V m c main_arg4) j) r := by
  rw [after0_9]
  refine NormGrad.total cfg0.N N_0 (fun n hn => (outsAt0 m c n hn).2.1 (ix2 0 j)) (NormGrad.dscTerm (V m c main_arg0) (V m c main_arg1) (V m c main_arg4) j) (fun hn => ?_) (fun n hn => ?_) t.val t.isLt h
  · rw [outsAt0_A m c ⟨0, hn⟩ rfl (by simp) rfl (by simp) rfl (by simp) rfl (by simp)]
    unfold out0_A_9
    frame_out
    exact (dsc_first _ _ _ j).trans (dsc_rows m c ⟨0, hn⟩ j)
  · have hN : n + 1 < 16 := (idx ⟨n + 1, hn⟩).1
    rw [outsAt0_B m c ⟨n + 1, hn⟩ (by dsimp only; omega) (by dsimp only; omega) (by dsimp only; omega) (by dsimp only; omega) (by dsimp only; omega) (by dsimp only; omega) (by dsimp only; omega) (by dsimp only; omega)]
    unfold out0_B_9
    frame_out
    exact (dsc_next _ _ _ _ j).trans (congrArg₂ (· + ·) rfl (dsc_rows m c ⟨n + 1, hn⟩ j))

/-- The sum for the shift after the last point. -/
theorem after10 (h : t.val = 15) (j : Fin 2048) : (dats m 0 c).after 10 t (ix2 0 j) = ∑ r : Fin 4096, (fun r => NormGrad.row (V m c main_arg4) r j) r := by
  rw [after0_10]
  refine NormGrad.total cfg0.N N_0 (fun n hn => (outsAt0 m c n hn).2.2.1 (ix2 0 j)) (fun r => NormGrad.row (V m c main_arg4) r j) (fun hn => ?_) (fun n hn => ?_) t.val t.isLt h
  · rw [outsAt0_A m c ⟨0, hn⟩ rfl (by simp) rfl (by simp) rfl (by simp) rfl (by simp)]
    unfold out0_A_10
    frame_out
    exact (dsh_first _ j).trans (dsh_rows m c ⟨0, hn⟩ j)
  · have hN : n + 1 < 16 := (idx ⟨n + 1, hn⟩).1
    rw [outsAt0_B m c ⟨n + 1, hn⟩ (by dsimp only; omega) (by dsimp only; omega) (by dsimp only; omega) (by dsimp only; omega) (by dsimp only; omega) (by dsimp only; omega) (by dsimp only; omega) (by dsimp only; omega)]
    unfold out0_B_10
    frame_out
    exact (dsh_next _ _ j).trans (congrArg₂ (· + ·) rfl (dsh_rows m c ⟨n + 1, hn⟩ j))

/-- The sum for the gain after the last point. -/
theorem after11 (h : t.val = 15) (j : Fin 2048) : (dats m 0 c).after 11 t (ix2 0 j) = ∑ r : Fin 4096, (NormGrad.dgTerm (V m c main_arg0) (V m c main_arg2) (V m c main_arg4) j) r := by
  rw [after0_11]
  refine NormGrad.total cfg0.N N_0 (fun n hn => (outsAt0 m c n hn).2.2.2.1 (ix2 0 j)) (NormGrad.dgTerm (V m c main_arg0) (V m c main_arg2) (V m c main_arg4) j) (fun hn => ?_) (fun n hn => ?_) t.val t.isLt h
  · rw [outsAt0_A m c ⟨0, hn⟩ rfl (by simp) rfl (by simp) rfl (by simp) rfl (by simp)]
    unfold out0_A_11
    frame_out
    exact (dg_first _ _ _ j).trans (dg_rows m c ⟨0, hn⟩ j)
  · have hN : n + 1 < 16 := (idx ⟨n + 1, hn⟩).1
    rw [outsAt0_B m c ⟨n + 1, hn⟩ (by dsimp only; omega) (by dsimp only; omega) (by dsimp only; omega) (by dsimp only; omega) (by dsimp only; omega) (by dsimp only; omega) (by dsimp only; omega) (by dsimp only; omega)]
    unfold out0_B_11
    frame_out
    exact (dg_next _ _ _ _ j).trans (congrArg₂ (· + ·) rfl (dg_rows m c ⟨n + 1, hn⟩ j))

/-- The sum for the gate after the last point. -/
theorem after13 (h : t.val = 15) (j : Fin 2048) : (dats m 0 c).after 13 t (ix2 0 j) = ∑ r : Fin 4096, (dgateTerm m c j) r := by
  rw [after0_13]
  refine NormGrad.total cfg0.N N_0 (fun n hn => (outsAt0 m c n hn).2.2.2.2.2 (ix2 0 j)) (dgateTerm m c j) (fun hn => ?_) (fun n hn => ?_) t.val t.isLt h
  · rw [outsAt0_A m c ⟨0, hn⟩ rfl (by simp) rfl (by simp) rfl (by simp) rfl (by simp)]
    unfold out0_A_13
    frame_out
    exact (dgate_first _ _ j).trans (dgate_rows m c ⟨0, hn⟩ j)
  · have hN : n + 1 < 16 := (idx ⟨n + 1, hn⟩).1
    rw [outsAt0_B m c ⟨n + 1, hn⟩ (by dsimp only; omega) (by dsimp only; omega) (by dsimp only; omega) (by dsimp only; omega) (by dsimp only; omega) (by dsimp only; omega) (by dsimp only; omega) (by dsimp only; omega)]
    unfold out0_B_13
    frame_out
    exact (dgate_next _ _ _ j).trans (congrArg₂ (· + ·) rfl (dgate_rows m c ⟨n + 1, hn⟩ j))

theorem array8 : (dats m 0 c).arrAt 8 cfg0.N = NormGrad.dx (V m c main_arg0) (V m c main_arg1) (V m c main_arg2) (V m c main_arg4) (V m c main_arg5) := by
  refine (dats m 0 c).arrAt_eq_of_covers 8 _ (by decide +kernel) fun t hf y => ?_
  blk_simp
  obtain ⟨a, j, rfl⟩ : ∃ (a : Fin 256) (j : Fin 2048), y = ix2 a j := ⟨y 0, y 1, eq_ix2 y⟩
  refine (after8 m c t a j).trans ?_
  have e0 : (win0_8.blk t).view.emb (ix2 a j) = ix2 (tok t a) j := by
    unfold tok; blk_ext [(idx t).2.2.2.2.2.2.2.2.1]
  exact congrArg (NormGrad.dx (V m c main_arg0) (V m c main_arg1) (V m c main_arg2) (V m c main_arg4) (V m c main_arg5)) e0.symm

theorem array12 : (dats m 0 c).arrAt 12 cfg0.N = NormGrad.dy (V m c main_arg0) (V m c main_arg1) (V m c main_arg2) (V m c main_arg4) (V m c main_arg5) (V m c main_arg7) := by
  refine (dats m 0 c).arrAt_eq_of_covers 12 _ (by decide +kernel) fun t hf y => ?_
  blk_simp
  obtain ⟨a, j, rfl⟩ : ∃ (a : Fin 256) (j : Fin 2048), y = ix2 a j := ⟨y 0, y 1, eq_ix2 y⟩
  refine (after12 m c t a j).trans ?_
  have e0 : (win0_12.blk t).view.emb (ix2 a j) = ix2 (tok t a) j := by
    unfold tok; blk_ext [(idx t).2.2.2.2.2.2.2.2.2.2.2.2.1]
  exact congrArg (NormGrad.dy (V m c main_arg0) (V m c main_arg1) (V m c main_arg2) (V m c main_arg4) (V m c main_arg5) (V m c main_arg7)) e0.symm

theorem array9 : (dats m 0 c).arrAt 9 cfg0.N = NormGrad.dsc (V m c main_arg0) (V m c main_arg1) (V m c main_arg4) := by
  refine (dats m 0 c).arrAt_eq_of_covers 9 _ (by decide +kernel) fun t hf y => ?_
  blk_simp
  obtain ⟨j, rfl⟩ : ∃ j : Fin 2048, y = ix2 0 j := ⟨y 1, (eq_ix2 y).trans (congrArg (fun i => ix2 i (y 1)) (Subsingleton.elim (α := Fin 1) _ _))⟩
  refine (after9 m c t (by have := (flush0_9 t).mp hf; have := (idx t).1; omega) j).trans ?_
  have e0 : (win0_9.blk t).view.emb (ix2 0 j) = ix2 0 j := by
    blk_ext [(idx t).2.2.2.2.2.2.2.2.2.1]
  exact congrArg (NormGrad.dsc (V m c main_arg0) (V m c main_arg1) (V m c main_arg4)) e0.symm

theorem array10 : (dats m 0 c).arrAt 10 cfg0.N = NormGrad.dsh (V m c main_arg4) := by
  refine (dats m 0 c).arrAt_eq_of_covers 10 _ (by decide +kernel) fun t hf y => ?_
  blk_simp
  obtain ⟨j, rfl⟩ : ∃ j : Fin 2048, y = ix2 0 j := ⟨y 1, (eq_ix2 y).trans (congrArg (fun i => ix2 i (y 1)) (Subsingleton.elim (α := Fin 1) _ _))⟩
  refine (after10 m c t (by have := (flush0_10 t).mp hf; have := (idx t).1; omega) j).trans ?_
  have e0 : (win0_10.blk t).view.emb (ix2 0 j) = ix2 0 j := by
    blk_ext [(idx t).2.2.2.2.2.2.2.2.2.2.1]
  exact congrArg (NormGrad.dsh (V m c main_arg4)) e0.symm

theorem array11 : (dats m 0 c).arrAt 11 cfg0.N = NormGrad.dg (V m c main_arg0) (V m c main_arg2) (V m c main_arg4) := by
  refine (dats m 0 c).arrAt_eq_of_covers 11 _ (by decide +kernel) fun t hf y => ?_
  blk_simp
  obtain ⟨j, rfl⟩ : ∃ j : Fin 2048, y = ix2 0 j := ⟨y 1, (eq_ix2 y).trans (congrArg (fun i => ix2 i (y 1)) (Subsingleton.elim (α := Fin 1) _ _))⟩
  refine (after11 m c t (by have := (flush0_11 t).mp hf; have := (idx t).1; omega) j).trans ?_
  have e0 : (win0_11.blk t).view.emb (ix2 0 j) = ix2 0 j := by
    blk_ext [(idx t).2.2.2.2.2.2.2.2.2.2.2.1]
  exact congrArg (NormGrad.dg (V m c main_arg0) (V m c main_arg2) (V m c main_arg4)) e0.symm

theorem array13 : (dats m 0 c).arrAt 13 cfg0.N = NormGrad.dgate (V m c main_arg0) (V m c main_arg1) (V m c main_arg2) (V m c main_arg4) (V m c main_arg5) (V m c main_arg6) := by
  refine (dats m 0 c).arrAt_eq_of_covers 13 _ (by decide +kernel) fun t hf y => ?_
  blk_simp
  obtain ⟨j, rfl⟩ : ∃ j : Fin 2048, y = ix2 0 j := ⟨y 1, (eq_ix2 y).trans (congrArg (fun i => ix2 i (y 1)) (Subsingleton.elim (α := Fin 1) _ _))⟩
  refine (after13 m c t (by have := (flush0_13 t).mp hf; have := (idx t).1; omega) j).trans ?_
  have e0 : (win0_13.blk t).view.emb (ix2 0 j) = ix2 0 j := by
    blk_ext [(idx t).2.2.2.2.2.2.2.2.2.2.2.2.2]
  exact congrArg (NormGrad.dgate (V m c main_arg0) (V m c main_arg1) (V m c main_arg2) (V m c main_arg4) (V m c main_arg5) (V m c main_arg6)) e0.symm

end Cert.NormBwdIdeal.Block
-- ==== Proof.NormBwdRef.lean ====
/- The six results of the norm's gradient as the reference computes them, read one entry at a time. -/
module

public import proofs.«01_k».proof.Proof.NormGrad
public import proofs.«01_k».proof.Proof.Gen.NormBwdRefIdeal
public import proofs.«01_k».proof.Proof.Gen.NormBwdRefIdeal.Read
public import Idealize.ShloMosaic.Lib.Pipeline.ValueKit
public import Idealize.ShloMosaic.Lib.Pointwise

@[expose] public section

set_option maxRecDepth 16384

noncomputable section

namespace Cert.NormBwdRefIdeal.Entry

open Idealize.ShloMosaic Cert.NormBwdRefIdeal Cert.NormBwdRefIdeal.Read

/-- A row of an array. -/
abbrev row (A : (⟨2, ![4096, 2048]⟩ : Shape).Idx → EReal) (r : Fin 4096) (k : Fin 2048) : EReal := A (ix2 r k)
/-- The one row of a factor. -/
abbrev vec (A : (⟨2, ![1, 2048]⟩ : Shape).Idx → EReal) (k : Fin 2048) : EReal := A (ix2 0 k)

variable (X : (⟨S4096x2048, .f32⟩ : BufTy).Contents (Elt Ideal)) (G S : (⟨S1x2048, .f32⟩ : BufTy).Contents (Elt Ideal))
  (H D : (⟨S4096x2048, .f32⟩ : BufTy).Contents (Elt Ideal)) (Y : (⟨S4096x2048, .bf16⟩ : BufTy).Contents (Elt Ideal)) (T : (⟨S1x2048, .f32⟩ : BufTy).Contents (Elt Ideal))

theorem square (r : Fin 4096) : val_main_v6 (F := Ideal) X (ix2 r 0) = Norm.square (row X r) := by
  unfold Norm.square
  pointwise [val_main_v6, val_main_v5, val_main_v4, val_main_v3, val_main_v2, val_main_v1, val_main_v0, val_main_cst, val_main_cst_0, val_main_cst_1]

theorem factor (r : Fin 4096) : val_main_v7 (F := Ideal) X (ix2 r 0) = Norm.factor (row X r) := by
  exact congrArg Ideal.rsqrt (square X r)

theorem inner (r : Fin 4096) (j : Fin 2048) : val_main_v33 (F := Ideal) G S H (ix2 r j) = Norm.inner (vec G) (vec S) (row H r) j := by
  unfold Norm.inner
  pointwise [val_main_v33, val_main_v32, val_main_v28, val_main_v27, val_main_v21, val_main_v16, val_main_v15, val_main_cst_3]

theorem spread (r : Fin 4096) : val_main_v42 (F := Ideal) X G S H (ix1 r) = Norm.spread (row X r) (vec G) (vec S) (row H r) := by
  unfold Norm.spread
  simp only [← inner, ← factor, ← square]
  generalize h : val_main_v33 (F := Ideal) G S H = I
  generalize h7 : val_main_v7 (F := Ideal) X = J
  generalize h6 : val_main_v6 (F := Ideal) X = K
  pointwise [val_main_v42, val_main_v41, val_main_v40, val_main_v39, val_main_v36, val_main_v35, val_main_v34, val_main_v10, val_main_v9, val_main_v8, val_main_cst_2,
    val_main_cst_7, val_main_cst_8, val_main_cst_9, h, h7, h6]
  exact Fin.sum_univ_one _

theorem derived (r : Fin 4096) (j : Fin 2048) :
    val_main_v48 (F := Ideal) X G S H D (ix2 r j) = D (ix2 r j) + Norm.derived (row X r) (vec G) (vec S) (row H r) j := by
  unfold Norm.derived
  simp only [← inner, ← factor, ← spread]
  generalize h : val_main_v33 (F := Ideal) G S H = I
  generalize h7 : val_main_v7 (F := Ideal) X = J
  generalize h6 : val_main_v42 (F := Ideal) X G S H = K
  pointwise [val_main_v48, val_main_v47, val_main_v46, val_main_v45, val_main_v44, val_main_v43, val_main_v38, val_main_v37, h, h7, h6]

/-- The gradients with respect to the scale, the shift and the gain. -/
theorem scale_sum (j : Fin 2048) : val_main_v26 (F := Ideal) X G H (ix2 0 j) = ∑ r : Fin 4096, X (ix2 r j) * Norm.factor (row X r) * G (ix2 0 j) * H (ix2 r j) := by
  simp only [← factor]
  generalize h7 : val_main_v7 (F := Ideal) X = J
  pointwise [val_main_v26, val_main_v25, val_main_v24, val_main_v21, val_main_v14, val_main_v13, val_main_v12, val_main_v11, val_main_cst_5, h7]

theorem shift_sum (j : Fin 2048) : val_main_v23 (F := Ideal) H (ix2 0 j) = ∑ r : Fin 4096, H (ix2 r j) := by
  pointwise [val_main_v23, val_main_v22, val_main_cst_4]

theorem gain_sum (j : Fin 2048) : val_main_v31 (F := Ideal) X S H (ix2 0 j) = ∑ r : Fin 4096, X (ix2 r j) * Norm.factor (row X r) * (H (ix2 r j) * (Norm.one + S (ix2 0 j))) := by
  simp only [← factor]
  generalize h7 : val_main_v7 (F := Ideal) X = J
  pointwise [val_main_v31, val_main_v30, val_main_v29, val_main_v28, val_main_v27, val_main_v21, val_main_v16, val_main_v15, val_main_v12, val_main_v11, val_main_cst_3, val_main_cst_6, h7]

/-- The gradients with respect to the earlier branch and to its gate. -/
theorem branch (r : Fin 4096) (j : Fin 2048) :
    val_main_v57 (F := Ideal) X G S H D T (ix2 r j) = T (ix2 0 j) * val_main_v48 (F := Ideal) X G S H D (ix2 r j) := by
  generalize h : val_main_v48 (F := Ideal) X G S H D = J
  pointwise [val_main_v57, val_main_v53, val_main_v52, h]

theorem gate_sum (j : Fin 2048) :
    val_main_v56 (F := Ideal) X G S H D Y (ix2 0 j) = ∑ r : Fin 4096, val_main_v48 (F := Ideal) X G S H D (ix2 r j) * Y (ix2 r j) := by
  generalize h : val_main_v48 (F := Ideal) X G S H D = J
  pointwise [val_main_v56, val_main_v55, val_main_v54, val_main_v49, val_main_cst_10, h]

/-- The six results over whole arrays. -/
theorem dx_array : val_main_v48 (F := Ideal) X G S H D = NormGrad.dx X G S H D := by
  funext y
  obtain ⟨r, j, rfl⟩ : ∃ (r : Fin 4096) (j : Fin 2048), y = ix2 r j := ⟨y 0, y 1, eq_ix2 y⟩
  exact (derived X G S H D r j).trans (congrArg (fun e : EReal => D (ix2 r j) + e) (Norm.back_eq (row X r) (vec G) (vec S) (row H r) j).symm)

theorem single (y : (⟨2, ![1, 2048]⟩ : Shape).Idx) : ∃ j : Fin 2048, y = ix2 0 j :=
  ⟨y 1, (eq_ix2 y).trans (congrArg (fun i => ix2 i (y 1)) (Subsingleton.elim (α := Fin 1) _ _))⟩

theorem dsc_array : val_main_v26 (F := Ideal) X G H = NormGrad.dsc X G H := by
  funext y
  obtain ⟨j, rfl⟩ := single y
  exact (scale_sum X G H j).trans (Finset.sum_congr rfl fun r _ => mul_comm _ _)

theorem dsh_array : val_main_v23 (F := Ideal) H = NormGrad.dsh H := by
  funext y
  obtain ⟨j, rfl⟩ := single y
  exact shift_sum H j

theorem dg_array : val_main_v31 (F := Ideal) X S H = NormGrad.dg X S H := by
  funext y
  obtain ⟨j, rfl⟩ := single y
  exact (gain_sum X S H j).trans (Finset.sum_congr rfl fun r _ => mul_comm _ _)

theorem dy_array : val_main_v57 (F := Ideal) X G S H D T = NormGrad.dy X G S H D T := by
  funext y
  obtain ⟨r, j, rfl⟩ : ∃ (r : Fin 4096) (j : Fin 2048), y = ix2 r j := ⟨y 0, y 1, eq_ix2 y⟩
  exact (branch X G S H D T r j).trans ((mul_comm _ _).trans (congrArg (fun e : EReal => e * T (ix2 0 j)) (congrFun (dx_array X G S H D) _)))

theorem dgate_array : val_main_v56 (F := Ideal) X G S H D Y = NormGrad.dgate X G S H D Y := by
  funext y
  obtain ⟨j, rfl⟩ := single y
  exact (gate_sum X G S H D Y j).trans (Finset.sum_congr rfl fun r _ => congrArg (fun e : EReal => e * Y (ix2 r j)) (congrFun (dx_array X G S H D) _))

end Cert.NormBwdRefIdeal.Entry
-- ==== Proof.NormBwd.lean ====
/- The claims about the norm's gradient. -/
module

public import proofs.«01_k».proof.Defs
public import proofs.«01_k».proof.Proof.NormBwdArray
public import proofs.«01_k».proof.Proof.NormBwdRef
public import proofs.«01_k».proof.Proof.Gen.NormBwd
public import proofs.«01_k».proof.Proof.Gen.NormBwd.Frame
public import proofs.«01_k».proof.Proof.Gen.NormBwdIdeal
public import proofs.«01_k».proof.Proof.Gen.NormBwdIdeal.Value
public import proofs.«01_k».proof.Proof.Gen.NormBwdRefIdeal
public import proofs.«01_k».proof.Proof.Gen.NormBwdRefIdeal.Run
public import proofs.«01_k».proof.Proof.Gen.NormBwdRefIdeal.Read
public import Idealize.ShloMosaic.Lib.Claim

@[expose] public section

set_option maxRecDepth 16384

noncomputable section

namespace Cert.Proof.NormBwd

open Idealize.ShloMosaic Idealize.SL.Sem

attribute [local instance] Cert.NormBwd.Gen.facts Cert.NormBwdIdeal.Gen.facts Cert.NormBwdRefIdeal.Gen.facts

theorem frame_p : Cert.quiescent_NormBwd := fun m ρ _ => Cert.NormBwd.Gen.frame m ρ
theorem frame_pi : Cert.quiescent_NormBwdIdeal := fun m ρ _ => Cert.NormBwdIdeal.Gen.frame m ρ
theorem frame_ri : Cert.quiescent_NormBwdRefIdeal := fun m ρ _ =>
  (θ_run Cert.NormBwdRefIdeal.defs _ _).mono (fun r h => ⟨fun c => (h c).2.2.2.2.2.2, sem_eq_zero_of_no_sems (by decide) r.2⟩) (Cert.NormBwdRefIdeal.Value.run (F := Ideal) m ρ)
theorem preserves : Cert.preserves_NormBwd_NormBwdIdeal := trivial

/-- Over the extended reals the kernel's six results and the reference's are equal. -/
theorem algebraic : Cert.algebraic_NormBwdIdeal_NormBwdRefIdeal := by
  intro m g m' g' _ hagree
  refine ⟨_, _, _, _, _, _, Cert.NormBwdIdeal.Value.run_blocks m g, ?_⟩
  refine (θ_run Cert.NormBwdRefIdeal.defs _ _).mono (fun r h c => ?_) (Cert.NormBwdRefIdeal.Value.run (F := Ideal) m' g')
  obtain ⟨h0, h1, h2, h3, h4, h5, hk⟩ := h c
  obtain ⟨e0, e1, e2, e3, e4, e5, e6, e7⟩ := hagree c
  refine ⟨h0.trans ?_, h1.trans ?_, h2.trans ?_, h3.trans ?_, h4.trans ?_, h5.trans ?_, hk⟩
  · refine (Cert.NormBwdRefIdeal.Read.val_main_v48_eq m' c).trans ?_
    rw [e0, e1, e2, e4, e5]
    exact (Cert.NormBwdRefIdeal.Entry.dx_array _ _ _ _ _).trans (Cert.NormBwdIdeal.Block.array8 m c).symm
  · refine (Cert.NormBwdRefIdeal.Read.val_main_v26_eq _ _ _).trans ?_
    rw [e0, e1, e4]
    exact (Cert.NormBwdRefIdeal.Entry.dsc_array _ _ _).trans (Cert.NormBwdIdeal.Block.array9 m c).symm
  · refine (Cert.NormBwdRefIdeal.Read.val_main_v23_eq _).trans ?_
    rw [e4]
    exact (Cert.NormBwdRefIdeal.Entry.dsh_array _).trans (Cert.NormBwdIdeal.Block.array10 m c).symm
  · refine (Cert.NormBwdRefIdeal.Read.val_main_v31_eq _ _ _).trans ?_
    rw [e0, e2, e4]
    exact (Cert.NormBwdRefIdeal.Entry.dg_array _ _ _).trans (Cert.NormBwdIdeal.Block.array11 m c).symm
  · refine (Cert.NormBwdRefIdeal.Read.val_main_v57_eq m' c).trans ?_
    rw [e0, e1, e2, e4, e5, e7]
    exact (Cert.NormBwdRefIdeal.Entry.dy_array _ _ _ _ _ _).trans (Cert.NormBwdIdeal.Block.array12 m c).symm
  · refine (Cert.NormBwdRefIdeal.Read.val_main_v56_eq m' c).trans ?_
    rw [e0, e1, e2, e4, e5, e6]
    exact (Cert.NormBwdRefIdeal.Entry.dgate_array _ _ _ _ _ _).trans (Cert.NormBwdIdeal.Block.array13 m c).symm

end Cert.Proof.NormBwd
-- ==== Proof.NormMod.lean ====
/- The norm with its modulation: the call and the reference compute the same row by row. -/
module

public import proofs.«01_k».proof.Defs
public import proofs.«01_k».proof.Proof.NormGrad
public import proofs.«01_k».proof.Proof.Gen.NormMod
public import proofs.«01_k».proof.Proof.Gen.NormMod.Frame
public import proofs.«01_k».proof.Proof.Gen.NormModIdeal
public import proofs.«01_k».proof.Proof.Gen.NormModIdeal.Value
public import proofs.«01_k».proof.Proof.Gen.NormModRefIdeal
public import proofs.«01_k».proof.Proof.Gen.NormModRefIdeal.Run
public import proofs.«01_k».proof.Proof.Gen.NormModRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.NormGrad

open Idealize.ShloMosaic

/-- The modulated norm. -/
def value (X : Big) (G S B : One) : Big := fun y => Norm.scaled (row X (y 0)) (vec G) (vec S) (vec B) (y 1)

end Cert.NormGrad

namespace Cert.NormModIdeal.Entry

open Idealize.ShloMosaic Idealize.SL.Sem Cert.NormModIdeal Cert.NormModIdeal.Gen

/-- A block's row. -/
def trow (A : Vec Ideal S256x2048 .f32) (a : Fin 256) (k : Fin 2048) : EReal := A (ix2 a k)
/-- The entries of a single row. -/
def tvec (A : Vec Ideal S1x2048 .f32) (k : Fin 2048) : EReal := A (ix2 0 k)

/-- What a point computes from its rows. -/
theorem block (X : Vec Ideal S256x2048 .f32) (G S B : Vec Ideal S1x2048 .f32) (a : Fin 256) (j : Fin 2048) :
    k0_pay1 X G S B (ix2 a j) = Norm.scaled (trow X a) (tvec G) (tvec S) (tvec B) j := by
  unfold Norm.scaled Norm.factor Norm.square trow tvec
  pointwise [k0_pay1]

variable (m : (ℓ : Loc nD τ sig) → Buf (Elt Ideal) ℓ) (c : Dev nD) (t : Fin cfg0.N)

/-- Where each window's block lies. -/
theorem idx : ∀ t : Fin cfg0.N, t.val < 16 ∧ win0_0.index t = ![t.val, 0] ∧ win0_1.index t = ![0, 0] ∧ win0_2.index t = ![0, 0] ∧ win0_3.index t = ![0, 0]
    ∧ win0_4.index t = ![t.val, 0] :=
  (by decide +kernel : ∀ t : Fin grid0.N, _)

/-- The device's arrays, whatever they hold. -/
abbrev Arrays (c : Dev nD) := (b : Ref sig .tc) → Buf (Elt Ideal) ((c.tc : Thread nD τ).loc b)

/-- The token that a point's row `a` is. -/
def tok (a : Fin 256) : Fin 4096 := ⟨256 * t.val + a.val, by have := (idx t).1; have := a.isLt; omega⟩

theorem opened0 (X : Arrays c) (y : S256x2048.Idx) :
    ((cfg0.win 0).blk t).view.read (Elt Ideal) (X (Pipeline.arrRef spec0 0)) y = X main_arg0 ((win0_0.blk t).view.emb y) := rfl
theorem place0 (a : Fin 256) (j : Fin 2048) : (win0_0.blk t).view.emb (ix2 a j) = ix2 (tok t a) j := by
  unfold tok; blk_ext [(idx t).2.1]
theorem row0 (a : Fin 256) : trow (iblk m c 0 t) a = NormGrad.row (V m c main_arg0) (tok t a) :=
  funext fun j => (opened0 c t (V m c) _).trans (congrArg (V m c main_arg0) (place0 t a j))
theorem opened1 (X : Arrays c) (y : S1x2048.Idx) :
    ((cfg0.win 1).blk t).view.read (Elt Ideal) (X (Pipeline.arrRef spec0 1)) y = X main_arg1 ((win0_1.blk t).view.emb y) := rfl
theorem place1 (j : Fin 2048) : (win0_1.blk t).view.emb (ix2 0 j) = ix2 0 j := by
  blk_ext [(idx t).2.2.1]
theorem vec1 : tvec (iblk m c 1 t) = NormGrad.vec (V m c main_arg1) :=
  funext fun j => (opened1 c t (V m c) _).trans (congrArg (V m c main_arg1) (place1 t j))
theorem opened2 (X : Arrays c) (y : S1x2048.Idx) :
    ((cfg0.win 2).blk t).view.read (Elt Ideal) (X (Pipeline.arrRef spec0 2)) y = X main_arg2 ((win0_2.blk t).view.emb y) := rfl
theorem place2 (j : Fin 2048) : (win0_2.blk t).view.emb (ix2 0 j) = ix2 0 j := by
  blk_ext [(idx t).2.2.2.1]
theorem vec2 : tvec (iblk m c 2 t) = NormGrad.vec (V m c main_arg2) :=
  funext fun j => (opened2 c t (V m c) _).trans (congrArg (V m c main_arg2) (place2 t j))
theorem opened3 (X : Arrays c) (y : S1x2048.Idx) :
    ((cfg0.win 3).blk t).view.read (Elt Ideal) (X (Pipeline.arrRef spec0 3)) y = X main_arg3 ((win0_3.blk t).view.emb y) := rfl
theorem place3 (j : Fin 2048) : (win0_3.blk t).view.emb (ix2 0 j) = ix2 0 j := by
  blk_ext [(idx t).2.2.2.2.1]
theorem vec3 : tvec (iblk m c 3 t) = NormGrad.vec (V m c main_arg3) :=
  funext fun j => (opened3 c t (V m c) _).trans (congrArg (V m c main_arg3) (place3 t j))

/-- The rows a point leaves. -/
theorem after4 (a : Fin 256) (j : Fin 2048) :
    (dats m 0 c).after 4 t (ix2 a j) = NormGrad.value (V m c main_arg0) (V m c main_arg1) (V m c main_arg2) (V m c main_arg3) (ix2 (tok t a) j) := by
  rw [after0_4]
  unfold out0_4
  frame_out
  refine (block (iblk m c 0 t) (iblk m c 1 t) (iblk m c 2 t) (iblk m c 3 t) a j).trans ?_
  rw [row0, vec1, vec2, vec3]
  rfl

/-- The result. -/
theorem array : (dats m 0 c).arrAt 4 cfg0.N = NormGrad.value (V m c main_arg0) (V m c main_arg1) (V m c main_arg2) (V m c main_arg3) := by
  refine (dats m 0 c).arrAt_eq_of_covers 4 _ (by decide +kernel) fun t hf y => ?_
  blk_simp
  obtain ⟨a, j, rfl⟩ : ∃ (a : Fin 256) (j : Fin 2048), y = ix2 a j := ⟨y 0, y 1, eq_ix2 y⟩
  refine (after4 m c t a j).trans ?_
  have e0 : (win0_4.blk t).view.emb (ix2 a j) = ix2 (tok t a) j := by
    unfold tok; blk_ext [(idx t).2.2.2.2.2]
  exact congrArg (NormGrad.value (V m c main_arg0) (V m c main_arg1) (V m c main_arg2) (V m c main_arg3)) e0.symm

end Cert.NormModIdeal.Entry

namespace Cert.NormModRefIdeal.Entry

open Idealize.ShloMosaic Idealize.SL.Sem Cert.NormModRefIdeal Cert.NormModRefIdeal.Read

/-- The reference's result. -/
theorem value (X : (⟨S4096x2048, .f32⟩ : BufTy).Contents (Elt Ideal)) (G S B : (⟨S1x2048, .f32⟩ : BufTy).Contents (Elt Ideal)) :
    val_main_v18 (F := Ideal) X G S B = NormGrad.value X G S B := by
  funext y
  obtain ⟨r, j, rfl⟩ : ∃ (r : Fin 4096) (j : Fin 2048), y = ix2 r j := ⟨y 0, y 1, eq_ix2 y⟩
  refine Eq.trans ?_ (show Norm.scaled (NormGrad.row X r) (NormGrad.vec G) (NormGrad.vec S) (NormGrad.vec B) j = _ from rfl)
  unfold Norm.scaled Norm.factor Norm.square
  pointwise [val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]

end Cert.NormModRefIdeal.Entry

namespace Cert.Proof.NormMod

open Idealize.ShloMosaic Idealize.SL.Sem

attribute [local instance] Cert.NormMod.Gen.facts Cert.NormModIdeal.Gen.facts Cert.NormModRefIdeal.Gen.facts

theorem frame_p : Cert.quiescent_NormMod := fun m ρ _ => Cert.NormMod.Gen.frame m ρ
theorem frame_pi : Cert.quiescent_NormModIdeal := fun m ρ _ => Cert.NormModIdeal.Gen.frame m ρ
theorem frame_ri : Cert.quiescent_NormModRefIdeal := fun m ρ _ =>
  (θ_run Cert.NormModRefIdeal.defs _ _).mono (fun r h => ⟨fun c => (h c).2, sem_eq_zero_of_no_sems (by decide) r.2⟩) (Cert.NormModRefIdeal.Value.run (F := Ideal) m ρ)
theorem preserves : Cert.preserves_NormMod_NormModIdeal := trivial

/-- Over the extended reals the call and the reference leave the same result. -/
theorem algebraic : Cert.algebraic_NormModIdeal_NormModRefIdeal := by
  intro m g m' g' _ hagree
  refine ⟨_, Cert.NormModIdeal.Value.run_blocks m g, ?_⟩
  refine (θ_run Cert.NormModRefIdeal.defs _ _).mono (fun r h c => ?_) (Cert.NormModRefIdeal.Value.run (F := Ideal) m' g')
  obtain ⟨h0, h1⟩ := h c
  obtain ⟨e0, e1, e2, e3⟩ := hagree c
  refine ⟨h0.trans ?_, h1⟩
  refine (Cert.NormModRefIdeal.Read.val_main_v18_eq _ _ _ _).trans ?_
  rw [e0, e1, e2, e3]
  exact (Cert.NormModRefIdeal.Entry.value _ _ _ _).trans (Cert.NormModIdeal.Entry.array m c).symm

end Cert.Proof.NormMod
-- ==== Proof.NormFirstBlock.lean ====
/- One block of the first norm's gradient: what a point computes from its 256 rows. -/
module

public import proofs.«01_k».proof.Proof.NormGrad
public import proofs.«01_k».proof.Proof.Gen.NormFirstIdeal
public import proofs.«01_k».proof.Proof.Gen.NormFirstIdeal.Value
public import Idealize.ShloMosaic.Lib.Pipeline.ValueKit
public import Idealize.ShloMosaic.Lib.Pointwise

@[expose] public section

set_option maxRecDepth 16384

noncomputable section

namespace Cert.NormFirstIdeal.Block

open Idealize.ShloMosaic Cert.NormFirstIdeal Cert.NormFirstIdeal.Gen

/-- A block's row. -/
def trow (A : Vec Ideal S256x2048 .f32) (a : Fin 256) (k : Fin 2048) : EReal := A (ix2 a k)
/-- The entries of a single row. -/
def tvec (A : Vec Ideal S1x2048 .f32) (k : Fin 2048) : EReal := A (ix2 0 k)

variable (X : Vec Ideal S256x2048 .f32) (G S : Vec Ideal S1x2048 .f32) (H D : Vec Ideal S256x2048 .f32) (O : Vec Ideal S1x2048 .f32)

theorem factor (a : Fin 256) : k0_pay7 X (ix2 a 0) = Norm.factor (trow X a) := by
  unfold Norm.factor Norm.square trow
  pointwise [k0_pay7]

theorem scaled (a : Fin 256) (j : Fin 2048) : k0_pay8 X (ix2 a j) = trow X a j * Norm.factor (trow X a) := by
  rw [← factor]
  unfold trow
  generalize h : k0_pay7 X = J
  pointwise [k0_pay8, h]

theorem opened (a : Fin 256) (j : Fin 2048) : k0_pay9 H S (ix2 a j) = trow H a j * (Norm.one + tvec S j) := by
  unfold trow tvec
  pointwise [k0_pay9]

/-- The gradient of the argument. -/
theorem dx (a : Fin 256) (j : Fin 2048) : k0_pay10 X G H S D (ix2 a j) = trow D a j + Norm.back (trow X a) (tvec G) (tvec S) (trow H a) j := by
  unfold Norm.back Norm.inner
  simp only [← opened, ← scaled]
  simp only [← factor]
  unfold trow tvec
  generalize h : k0_pay7 X = J
  generalize h3 : k0_pay8 X = K
  generalize h4 : k0_pay9 H S = L
  pointwise [k0_pay10, h, h3, h4]

/-- The block's part of the scale's gradient. -/
def dscPart (j : Fin 2048) (a : Fin 256) : EReal := trow H a j * (trow X a j * Norm.factor (trow X a) * tvec G j)
/-- The block's part of the gain's gradient. -/
def dgPart (j : Fin 2048) (a : Fin 256) : EReal := trow H a j * (Norm.one + tvec S j) * (trow X a j * Norm.factor (trow X a))

theorem dsc_first (j : Fin 2048) : k0_pay1 (k0_pay11 X G H) (ix2 0 j) = ∑ a, dscPart X G H j a := by
  unfold dscPart
  simp only [← scaled]
  unfold trow tvec
  generalize h3 : k0_pay8 X = K
  pointwise [k0_pay1, k0_pay11, h3]

theorem dsh_first (j : Fin 2048) : k0_pay2 H (ix2 0 j) = ∑ a, trow H a j := by
  unfold trow
  pointwise [k0_pay2]

theorem dg_first (j : Fin 2048) : k0_pay3 (k0_pay8 X) (k0_pay9 H S) (ix2 0 j) = ∑ a, dgPart X S H j a := by
  unfold dgPart
  simp only [← scaled, ← opened]
  generalize h3 : k0_pay8 X = K
  generalize h4 : k0_pay9 H S = L
  pointwise [k0_pay3]

theorem dsc_next (j : Fin 2048) : k0_pay4 (k0_pay11 X G H) O (ix2 0 j) = O (ix2 0 j) + ∑ a, dscPart X G H j a := by
  rw [← dsc_first]
  generalize h : k0_pay1 (k0_pay11 X G H) = J
  pointwise [k0_pay4, h]

theorem dsh_next (j : Fin 2048) : k0_pay5 H O (ix2 0 j) = O (ix2 0 j) + ∑ a, trow H a j := by
  rw [← dsh_first]
  generalize h : k0_pay2 H = J
  pointwise [k0_pay5, h]

theorem dg_next (j : Fin 2048) : k0_pay6 (k0_pay8 X) (k0_pay9 H S) O (ix2 0 j) = O (ix2 0 j) + ∑ a, dgPart X S H j a := by
  rw [← dg_first]
  generalize h : k0_pay3 (k0_pay8 X) (k0_pay9 H S) = J
  pointwise [k0_pay6, h]

end Cert.NormFirstIdeal.Block
-- ==== Proof.NormFirstArray.lean ====
/- The arrays the first norm's gradient leaves: a point computes 256 rows, and adds their part to the three sums over the tokens. -/
module

public import proofs.«01_k».proof.Proof.NormFirstBlock
public import Idealize.ShloMosaic.Lib.WholeRead

@[expose] public section

set_option maxRecDepth 16384

noncomputable section

namespace Cert.NormFirstIdeal.Block

open Idealize.ShloMosaic Idealize.SL.Sem Cert.NormFirstIdeal Cert.NormFirstIdeal.Gen

variable (m : (ℓ : Loc nD τ sig) → Buf (Elt Ideal) ℓ) (c : Dev nD) (t : Fin cfg0.N)

/-- Where each window's block lies. -/
theorem idx : ∀ t : Fin cfg0.N, t.val < 16 ∧ win0_0.index t = ![t.val, 0] ∧ win0_1.index t = ![0, 0] ∧ win0_2.index t = ![0, 0] ∧ win0_4.index t = ![t.val, 0]
    ∧ win0_5.index t = ![t.val, 0] ∧ win0_6.index t = ![t.val, 0] ∧ win0_7.index t = ![0, 0] ∧ win0_8.index t = ![0, 0] ∧ win0_9.index t = ![0, 0] :=
  (by decide +kernel : ∀ t : Fin grid0.N, _)

/-- The device's arrays, whatever they hold. -/
abbrev Arrays (c : Dev nD) := (b : Ref sig .tc) → Buf (Elt Ideal) ((c.tc : Thread nD τ).loc b)

/-- The token that a point's row `a` is. -/
def tok (a : Fin 256) : Fin 4096 := ⟨256 * t.val + a.val, by have := (idx t).1; have := a.isLt; omega⟩

theorem opened0 (X : Arrays c) (y : S256x2048.Idx) :
    ((cfg0.win 0).blk t).view.read (Elt Ideal) (X (Pipeline.arrRef spec0 0)) y = X main_arg0 ((win0_0.blk t).view.emb y) := rfl
theorem place0 (a : Fin 256) (j : Fin 2048) : (win0_0.blk t).view.emb (ix2 a j) = ix2 (tok t a) j := by
  unfold tok; blk_ext [(idx t).2.1]
theorem read0 (a : Fin 256) (j : Fin 2048) : (iblk m c 0 t : Vec Ideal S256x2048 .f32) (ix2 a j) = V m c main_arg0 (ix2 (tok t a) j) :=
  (opened0 c t (V m c) _).trans (congrArg (V m c main_arg0) (place0 t a j))
theorem row0 (a : Fin 256) : trow (iblk m c 0 t) a = NormGrad.row (V m c main_arg0) (tok t a) := funext fun j => read0 m c t a j
theorem opened4 (X : Arrays c) (y : S256x2048.Idx) :
    ((cfg0.win 4).blk t).view.read (Elt Ideal) (X (Pipeline.arrRef spec0 4)) y = X main_arg4 ((win0_4.blk t).view.emb y) := rfl
theorem place4 (a : Fin 256) (j : Fin 2048) : (win0_4.blk t).view.emb (ix2 a j) = ix2 (tok t a) j := by
  unfold tok; blk_ext [(idx t).2.2.2.2.1]
theorem read4 (a : Fin 256) (j : Fin 2048) : (iblk m c 4 t : Vec Ideal S256x2048 .f32) (ix2 a j) = V m c main_arg4 (ix2 (tok t a) j) :=
  (opened4 c t (V m c) _).trans (congrArg (V m c main_arg4) (place4 t a j))
theorem row4 (a : Fin 256) : trow (iblk m c 4 t) a = NormGrad.row (V m c main_arg4) (tok t a) := funext fun j => read4 m c t a j
theorem opened5 (X : Arrays c) (y : S256x2048.Idx) :
    ((cfg0.win 5).blk t).view.read (Elt Ideal) (X (Pipeline.arrRef spec0 5)) y = X main_arg5 ((win0_5.blk t).view.emb y) := rfl
theorem place5 (a : Fin 256) (j : Fin 2048) : (win0_5.blk t).view.emb (ix2 a j) = ix2 (tok t a) j := by
  unfold tok; blk_ext [(idx t).2.2.2.2.2.1]
theorem read5 (a : Fin 256) (j : Fin 2048) : (iblk m c 5 t : Vec Ideal S256x2048 .f32) (ix2 a j) = V m c main_arg5 (ix2 (tok t a) j) :=
  (opened5 c t (V m c) _).trans (congrArg (V m c main_arg5) (place5 t a j))
theorem row5 (a : Fin 256) : trow (iblk m c 5 t) a = NormGrad.row (V m c main_arg5) (tok t a) := funext fun j => read5 m c t a j
theorem opened1 (X : Arrays c) (y : S1x2048.Idx) :
    ((cfg0.win 1).blk t).view.read (Elt Ideal) (X (Pipeline.arrRef spec0 1)) y = X main_arg1 ((win0_1.blk t).view.emb y) := rfl
theorem place1 (j : Fin 2048) : (win0_1.blk t).view.emb (ix2 0 j) = ix2 0 j := by
  blk_ext [(idx t).2.2.1]
theorem vec1 : tvec (iblk m c 1 t) = NormGrad.vec (V m c main_arg1) :=
  funext fun j => (opened1 c t (V m c) _).trans (congrArg (V m c main_arg1) (place1 t j))
theorem opened2 (X : Arrays c) (y : S1x2048.Idx) :
    ((cfg0.win 2).blk t).view.read (Elt Ideal) (X (Pipeline.arrRef spec0 2)) y = X main_arg2 ((win0_2.blk t).view.emb y) := rfl
theorem place2 (j : Fin 2048) : (win0_2.blk t).view.emb (ix2 0 j) = ix2 0 j := by
  blk_ext [(idx t).2.2.2.1]
theorem vec2 : tvec (iblk m c 2 t) = NormGrad.vec (V m c main_arg2) :=
  funext fun j => (opened2 c t (V m c) _).trans (congrArg (V m c main_arg2) (place2 t j))

/-- The rows a point computes of the argument's gradient. -/
theorem dx_rows (a : Fin 256) (j : Fin 2048) :
    k0_pay10 (iblk m c 0 t) (iblk m c 1 t) (iblk m c 4 t) (iblk m c 2 t) (iblk m c 5 t) (ix2 a j) = NormGrad.dx (V m c main_arg0) (V m c main_arg1) (V m c main_arg2) (V m c main_arg4) (V m c main_arg5) (ix2 (tok t a) j) := by
  refine (dx (iblk m c 0 t) (iblk m c 1 t) (iblk m c 2 t) (iblk m c 4 t) (iblk m c 5 t) a j).trans ?_
  rw [row0, row4, row5, vec1, vec2]
  rfl

/-- What a point adds to each sum. -/
theorem dsc_rows (j : Fin 2048) : ∑ a, dscPart (iblk m c 0 t) (iblk m c 1 t) (iblk m c 4 t) j a
    = ∑ a : Fin 256, NormGrad.dscTerm (V m c main_arg0) (V m c main_arg1) (V m c main_arg4) j (tok t a) := by
  refine Finset.sum_congr rfl fun a _ => ?_
  unfold dscPart
  rw [row0, row4, vec1]
  rfl
theorem dsh_rows (j : Fin 2048) : ∑ a, trow (iblk m c 4 t) a j = ∑ a : Fin 256, NormGrad.row (V m c main_arg4) (tok t a) j :=
  Finset.sum_congr rfl fun a _ => by rw [row4]
theorem dg_rows (j : Fin 2048) : ∑ a, dgPart (iblk m c 0 t) (iblk m c 2 t) (iblk m c 4 t) j a
    = ∑ a : Fin 256, NormGrad.dgTerm (V m c main_arg0) (V m c main_arg2) (V m c main_arg4) j (tok t a) := by
  refine Finset.sum_congr rfl fun a _ => ?_
  unfold dgPart
  rw [row0, row4, vec2]
  rfl
/-- A point's rows of the argument's gradient, as it leaves them. -/
theorem after6 (a : Fin 256) (j : Fin 2048) : (dats m 0 c).after 6 t (ix2 a j) = NormGrad.dx (V m c main_arg0) (V m c main_arg1) (V m c main_arg2) (V m c main_arg4) (V m c main_arg5) (ix2 (tok t a) j) := by
  have hN := (idx t).1
  rw [after0_6]
  by_cases h0 : t.val % 16 = 0
  · rw [outsAt0_A m c t h0 (by omega) h0 (by omega) h0 (by omega)]
    unfold out0_A_6
    frame_out
    exact dx_rows m c t a j
  · rw [outsAt0_B m c t h0 (by omega) h0 (by omega) h0 (by omega)]
    unfold out0_B_6
    frame_out
    exact dx_rows m c t a j

/-- The sum for the scale after the last point. -/
theorem after7 (h : t.val = 15) (j : Fin 2048) : (dats m 0 c).after 7 t (ix2 0 j) = ∑ r : Fin 4096, (NormGrad.dscTerm (V m c main_arg0) (V m c main_arg1) (V m c main_arg4) j) r := by
  rw [after0_7]
  refine NormGrad.total cfg0.N N_0 (fun n hn => (outsAt0 m c n hn).2.1 (ix2 0 j)) (NormGrad.dscTerm (V m c main_arg0) (V m c main_arg1) (V m c main_arg4) j) (fun hn => ?_) (fun n hn => ?_) t.val t.isLt h
  · rw [outsAt0_A m c ⟨0, hn⟩ rfl (by simp) rfl (by simp) rfl (by simp)]
    unfold out0_A_7
    frame_out
    exact (dsc_first _ _ _ j).trans (dsc_rows m c ⟨0, hn⟩ j)
  · have hN : n + 1 < 16 := (idx ⟨n + 1, hn⟩).1
    rw [outsAt0_B m c ⟨n + 1, hn⟩ (by dsimp only; omega) (by dsimp only; omega) (by dsimp only; omega) (by dsimp only; omega) (by dsimp only; omega) (by dsimp only; omega)]
    unfold out0_B_7
    frame_out
    exact (dsc_next _ _ _ _ j).trans (congrArg₂ (· + ·) rfl (dsc_rows m c ⟨n + 1, hn⟩ j))

/-- The sum for the shift after the last point. -/
theorem after8 (h : t.val = 15) (j : Fin 2048) : (dats m 0 c).after 8 t (ix2 0 j) = ∑ r : Fin 4096, (fun r => NormGrad.row (V m c main_arg4) r j) r := by
  rw [after0_8]
  refine NormGrad.total cfg0.N N_0 (fun n hn => (outsAt0 m c n hn).2.2.1 (ix2 0 j)) (fun r => NormGrad.row (V m c main_arg4) r j) (fun hn => ?_) (fun n hn => ?_) t.val t.isLt h
  · rw [outsAt0_A m c ⟨0, hn⟩ rfl (by simp) rfl (by simp) rfl (by simp)]
    unfold out0_A_8
    frame_out
    exact (dsh_first _ j).trans (dsh_rows m c ⟨0, hn⟩ j)
  · have hN : n + 1 < 16 := (idx ⟨n + 1, hn⟩).1
    rw [outsAt0_B m c ⟨n + 1, hn⟩ (by dsimp only; omega) (by dsimp only; omega) (by dsimp only; omega) (by dsimp only; omega) (by dsimp only; omega) (by dsimp only; omega)]
    unfold out0_B_8
    frame_out
    exact (dsh_next _ _ j).trans (congrArg₂ (· + ·) rfl (dsh_rows m c ⟨n + 1, hn⟩ j))

/-- The sum for the gain after the last point. -/
theorem after9 (h : t.val = 15) (j : Fin 2048) : (dats m 0 c).after 9 t (ix2 0 j) = ∑ r : Fin 4096, (NormGrad.dgTerm (V m c main_arg0) (V m c main_arg2) (V m c main_arg4) j) r := by
  rw [after0_9]
  refine NormGrad.total cfg0.N N_0 (fun n hn => (outsAt0 m c n hn).2.2.2 (ix2 0 j)) (NormGrad.dgTerm (V m c main_arg0) (V m c main_arg2) (V m c main_arg4) j) (fun hn => ?_) (fun n hn => ?_) t.val t.isLt h
  · rw [outsAt0_A m c ⟨0, hn⟩ rfl (by simp) rfl (by simp) rfl (by simp)]
    unfold out0_A_9
    frame_out
    exact (dg_first _ _ _ j).trans (dg_rows m c ⟨0, hn⟩ j)
  · have hN : n + 1 < 16 := (idx ⟨n + 1, hn⟩).1
    rw [outsAt0_B m c ⟨n + 1, hn⟩ (by dsimp only; omega) (by dsimp only; omega) (by dsimp only; omega) (by dsimp only; omega) (by dsimp only; omega) (by dsimp only; omega)]
    unfold out0_B_9
    frame_out
    exact (dg_next _ _ _ _ j).trans (congrArg₂ (· + ·) rfl (dg_rows m c ⟨n + 1, hn⟩ j))

theorem array6 : (dats m 0 c).arrAt 6 cfg0.N = NormGrad.dx (V m c main_arg0) (V m c main_arg1) (V m c main_arg2) (V m c main_arg4) (V m c main_arg5) := by
  refine (dats m 0 c).arrAt_eq_of_covers 6 _ (by decide +kernel) fun t hf y => ?_
  blk_simp
  obtain ⟨a, j, rfl⟩ : ∃ (a : Fin 256) (j : Fin 2048), y = ix2 a j := ⟨y 0, y 1, eq_ix2 y⟩
  refine (after6 m c t a j).trans ?_
  have e0 : (win0_6.blk t).view.emb (ix2 a j) = ix2 (tok t a) j := by
    unfold tok; blk_ext [(idx t).2.2.2.2.2.2.1]
  exact congrArg (NormGrad.dx (V m c main_arg0) (V m c main_arg1) (V m c main_arg2) (V m c main_arg4) (V m c main_arg5)) e0.symm

theorem array7 : (dats m 0 c).arrAt 7 cfg0.N = NormGrad.dsc (V m c main_arg0) (V m c main_arg1) (V m c main_arg4) := by
  refine (dats m 0 c).arrAt_eq_of_covers 7 _ (by decide +kernel) fun t hf y => ?_
  blk_simp
  obtain ⟨j, rfl⟩ : ∃ j : Fin 2048, y = ix2 0 j := ⟨y 1, (eq_ix2 y).trans (congrArg (fun i => ix2 i (y 1)) (Subsingleton.elim (α := Fin 1) _ _))⟩
  refine (after7 m c t (by have := (flush0_7 t).mp hf; have := (idx t).1; omega) j).trans ?_
  have e0 : (win0_7.blk t).view.emb (ix2 0 j) = ix2 0 j := by
    blk_ext [(idx t).2.2.2.2.2.2.2.1]
  exact congrArg (NormGrad.dsc (V m c main_arg0) (V m c main_arg1) (V m c main_arg4)) e0.symm

theorem array8 : (dats m 0 c).arrAt 8 cfg0.N = NormGrad.dsh (V m c main_arg4) := by
  refine (dats m 0 c).arrAt_eq_of_covers 8 _ (by decide +kernel) fun t hf y => ?_
  blk_simp
  obtain ⟨j, rfl⟩ : ∃ j : Fin 2048, y = ix2 0 j := ⟨y 1, (eq_ix2 y).trans (congrArg (fun i => ix2 i (y 1)) (Subsingleton.elim (α := Fin 1) _ _))⟩
  refine (after8 m c t (by have := (flush0_8 t).mp hf; have := (idx t).1; omega) j).trans ?_
  have e0 : (win0_8.blk t).view.emb (ix2 0 j) = ix2 0 j := by
    blk_ext [(idx t).2.2.2.2.2.2.2.2.1]
  exact congrArg (NormGrad.dsh (V m c main_arg4)) e0.symm

theorem array9 : (dats m 0 c).arrAt 9 cfg0.N = NormGrad.dg (V m c main_arg0) (V m c main_arg2) (V m c main_arg4) := by
  refine (dats m 0 c).arrAt_eq_of_covers 9 _ (by decide +kernel) fun t hf y => ?_
  blk_simp
  obtain ⟨j, rfl⟩ : ∃ j : Fin 2048, y = ix2 0 j := ⟨y 1, (eq_ix2 y).trans (congrArg (fun i => ix2 i (y 1)) (Subsingleton.elim (α := Fin 1) _ _))⟩
  refine (after9 m c t (by have := (flush0_9 t).mp hf; have := (idx t).1; omega) j).trans ?_
  have e0 : (win0_9.blk t).view.emb (ix2 0 j) = ix2 0 j := by
    blk_ext [(idx t).2.2.2.2.2.2.2.2.2]
  exact congrArg (NormGrad.dg (V m c main_arg0) (V m c main_arg2) (V m c main_arg4)) e0.symm

end Cert.NormFirstIdeal.Block
-- ==== Proof.NormFirstRef.lean ====
/- The four results of the first norm's gradient as the reference computes them, read one entry at a time. -/
module

public import proofs.«01_k».proof.Proof.NormGrad
public import proofs.«01_k».proof.Proof.Gen.NormFirstRefIdeal
public import proofs.«01_k».proof.Proof.Gen.NormFirstRefIdeal.Read
public import Idealize.ShloMosaic.Lib.Pipeline.ValueKit
public import Idealize.ShloMosaic.Lib.Pointwise

@[expose] public section

set_option maxRecDepth 16384

noncomputable section

namespace Cert.NormFirstRefIdeal.Entry

open Idealize.ShloMosaic Cert.NormFirstRefIdeal Cert.NormFirstRefIdeal.Read

/-- A row of an array. -/
abbrev row (A : (⟨2, ![4096, 2048]⟩ : Shape).Idx → EReal) (r : Fin 4096) (k : Fin 2048) : EReal := A (ix2 r k)
/-- The one row of a factor. -/
abbrev vec (A : (⟨2, ![1, 2048]⟩ : Shape).Idx → EReal) (k : Fin 2048) : EReal := A (ix2 0 k)

variable (X : (⟨S4096x2048, .f32⟩ : BufTy).Contents (Elt Ideal)) (G S : (⟨S1x2048, .f32⟩ : BufTy).Contents (Elt Ideal))
  (H D : (⟨S4096x2048, .f32⟩ : BufTy).Contents (Elt Ideal))

theorem square (r : Fin 4096) : val_main_v6 (F := Ideal) X (ix2 r 0) = Norm.square (row X r) := by
  unfold Norm.square
  pointwise [val_main_v6, val_main_v5, val_main_v4, val_main_v3, val_main_v2, val_main_v1, val_main_v0, val_main_cst, val_main_cst_0, val_main_cst_1]

theorem factor (r : Fin 4096) : val_main_v7 (F := Ideal) X (ix2 r 0) = Norm.factor (row X r) := by
  exact congrArg Ideal.rsqrt (square X r)

theorem inner (r : Fin 4096) (j : Fin 2048) : val_main_v33 (F := Ideal) G S H (ix2 r j) = Norm.inner (vec G) (vec S) (row H r) j := by
  unfold Norm.inner
  pointwise [val_main_v33, val_main_v32, val_main_v28, val_main_v27, val_main_v21, val_main_v16, val_main_v15, val_main_cst_3]

theorem spread (r : Fin 4096) : val_main_v42 (F := Ideal) X G S H (ix1 r) = Norm.spread (row X r) (vec G) (vec S) (row H r) := by
  unfold Norm.spread
  simp only [← inner, ← factor, ← square]
  generalize h : val_main_v33 (F := Ideal) G S H = I
  generalize h7 : val_main_v7 (F := Ideal) X = J
  generalize h6 : val_main_v6 (F := Ideal) X = K
  pointwise [val_main_v42, val_main_v41, val_main_v40, val_main_v39, val_main_v36, val_main_v35, val_main_v34, val_main_v10, val_main_v9, val_main_v8, val_main_cst_2,
    val_main_cst_7, val_main_cst_8, val_main_cst_9, h, h7, h6]
  exact Fin.sum_univ_one _

theorem derived (r : Fin 4096) (j : Fin 2048) :
    val_main_v48 (F := Ideal) X G S H D (ix2 r j) = D (ix2 r j) + Norm.derived (row X r) (vec G) (vec S) (row H r) j := by
  unfold Norm.derived
  simp only [← inner, ← factor, ← spread]
  generalize h : val_main_v33 (F := Ideal) G S H = I
  generalize h7 : val_main_v7 (F := Ideal) X = J
  generalize h6 : val_main_v42 (F := Ideal) X G S H = K
  pointwise [val_main_v48, val_main_v47, val_main_v46, val_main_v45, val_main_v44, val_main_v43, val_main_v38, val_main_v37, h, h7, h6]

/-- The gradients with respect to the scale, the shift and the gain. -/
theorem scale_sum (j : Fin 2048) : val_main_v26 (F := Ideal) X G H (ix2 0 j) = ∑ r : Fin 4096, X (ix2 r j) * Norm.factor (row X r) * G (ix2 0 j) * H (ix2 r j) := by
  simp only [← factor]
  generalize h7 : val_main_v7 (F := Ideal) X = J
  pointwise [val_main_v26, val_main_v25, val_main_v24, val_main_v21, val_main_v14, val_main_v13, val_main_v12, val_main_v11, val_main_cst_5, h7]

theorem shift_sum (j : Fin 2048) : val_main_v23 (F := Ideal) H (ix2 0 j) = ∑ r : Fin 4096, H (ix2 r j) := by
  pointwise [val_main_v23, val_main_v22, val_main_cst_4]

theorem gain_sum (j : Fin 2048) : val_main_v31 (F := Ideal) X S H (ix2 0 j) = ∑ r : Fin 4096, X (ix2 r j) * Norm.factor (row X r) * (H (ix2 r j) * (Norm.one + S (ix2 0 j))) := by
  simp only [← factor]
  generalize h7 : val_main_v7 (F := Ideal) X = J
  pointwise [val_main_v31, val_main_v30, val_main_v29, val_main_v28, val_main_v27, val_main_v21, val_main_v16, val_main_v15, val_main_v12, val_main_v11, val_main_cst_3, val_main_cst_6, h7]

/-- The four results over whole arrays. -/
theorem dx_array : val_main_v48 (F := Ideal) X G S H D = NormGrad.dx X G S H D := by
  funext y
  obtain ⟨r, j, rfl⟩ : ∃ (r : Fin 4096) (j : Fin 2048), y = ix2 r j := ⟨y 0, y 1, eq_ix2 y⟩
  exact (derived X G S H D r j).trans (congrArg (fun e : EReal => D (ix2 r j) + e) (Norm.back_eq (row X r) (vec G) (vec S) (row H r) j).symm)

theorem single (y : (⟨2, ![1, 2048]⟩ : Shape).Idx) : ∃ j : Fin 2048, y = ix2 0 j :=
  ⟨y 1, (eq_ix2 y).trans (congrArg (fun i => ix2 i (y 1)) (Subsingleton.elim (α := Fin 1) _ _))⟩

theorem dsc_array : val_main_v26 (F := Ideal) X G H = NormGrad.dsc X G H := by
  funext y
  obtain ⟨j, rfl⟩ := single y
  exact (scale_sum X G H j).trans (Finset.sum_congr rfl fun r _ => mul_comm _ _)

theorem dsh_array : val_main_v23 (F := Ideal) H = NormGrad.dsh H := by
  funext y
  obtain ⟨j, rfl⟩ := single y
  exact shift_sum H j

theorem dg_array : val_main_v31 (F := Ideal) X S H = NormGrad.dg X S H := by
  funext y
  obtain ⟨j, rfl⟩ := single y
  exact (gain_sum X S H j).trans (Finset.sum_congr rfl fun r _ => mul_comm _ _)

end Cert.NormFirstRefIdeal.Entry
-- ==== Proof.NormFirst.lean ====
/- The claims about the first norm's gradient. -/
module

public import proofs.«01_k».proof.Defs
public import proofs.«01_k».proof.Proof.NormFirstArray
public import proofs.«01_k».proof.Proof.NormFirstRef
public import proofs.«01_k».proof.Proof.Gen.NormFirst
public import proofs.«01_k».proof.Proof.Gen.NormFirst.Frame
public import proofs.«01_k».proof.Proof.Gen.NormFirstIdeal
public import proofs.«01_k».proof.Proof.Gen.NormFirstIdeal.Value
public import proofs.«01_k».proof.Proof.Gen.NormFirstRefIdeal
public import proofs.«01_k».proof.Proof.Gen.NormFirstRefIdeal.Run
public import proofs.«01_k».proof.Proof.Gen.NormFirstRefIdeal.Read
public import Idealize.ShloMosaic.Lib.Claim

@[expose] public section

set_option maxRecDepth 16384

noncomputable section

namespace Cert.Proof.NormFirst

open Idealize.ShloMosaic Idealize.SL.Sem

attribute [local instance] Cert.NormFirst.Gen.facts Cert.NormFirstIdeal.Gen.facts Cert.NormFirstRefIdeal.Gen.facts

theorem frame_p : Cert.quiescent_NormFirst := fun m ρ _ => Cert.NormFirst.Gen.frame m ρ
theorem frame_pi : Cert.quiescent_NormFirstIdeal := fun m ρ _ => Cert.NormFirstIdeal.Gen.frame m ρ
theorem frame_ri : Cert.quiescent_NormFirstRefIdeal := fun m ρ _ =>
  (θ_run Cert.NormFirstRefIdeal.defs _ _).mono (fun r h => ⟨fun c => (h c).2.2.2.2, sem_eq_zero_of_no_sems (by decide) r.2⟩) (Cert.NormFirstRefIdeal.Value.run (F := Ideal) m ρ)
theorem preserves : Cert.preserves_NormFirst_NormFirstIdeal := trivial

/-- Over the extended reals the kernel's four results and the reference's are equal. -/
theorem algebraic : Cert.algebraic_NormFirstIdeal_NormFirstRefIdeal := by
  intro m g m' g' _ hagree
  refine ⟨_, _, _, _, Cert.NormFirstIdeal.Value.run_blocks m g, ?_⟩
  refine (θ_run Cert.NormFirstRefIdeal.defs _ _).mono (fun r h c => ?_) (Cert.NormFirstRefIdeal.Value.run (F := Ideal) m' g')
  obtain ⟨h0, h1, h2, h3, hk⟩ := h c
  obtain ⟨e0, e1, e2, e3, e4, e5⟩ := hagree c
  refine ⟨h0.trans ?_, h1.trans ?_, h2.trans ?_, h3.trans ?_, hk⟩
  · refine (Cert.NormFirstRefIdeal.Read.val_main_v48_eq m' c).trans ?_
    rw [e0, e1, e2, e4, e5]
    exact (Cert.NormFirstRefIdeal.Entry.dx_array _ _ _ _ _).trans (Cert.NormFirstIdeal.Block.array6 m c).symm
  · refine (Cert.NormFirstRefIdeal.Read.val_main_v26_eq _ _ _).trans ?_
    rw [e0, e1, e4]
    exact (Cert.NormFirstRefIdeal.Entry.dsc_array _ _ _).trans (Cert.NormFirstIdeal.Block.array7 m c).symm
  · refine (Cert.NormFirstRefIdeal.Read.val_main_v23_eq _).trans ?_
    rw [e4]
    exact (Cert.NormFirstRefIdeal.Entry.dsh_array _).trans (Cert.NormFirstIdeal.Block.array8 m c).symm
  · refine (Cert.NormFirstRefIdeal.Read.val_main_v31_eq _ _ _).trans ?_
    rw [e0, e2, e4]
    exact (Cert.NormFirstRefIdeal.Entry.dg_array _ _ _).trans (Cert.NormFirstIdeal.Block.array9 m c).symm

end Cert.Proof.NormFirst
-- ==== Proof.DqEq.lean ====
/- The kernel's two result arrays at arguments that are real numbers. -/
module

public import proofs.«01_k».proof.Proof.DqHost

@[expose] public section

set_option maxRecDepth 16384

noncomputable section

namespace Cert.DqIdeal.Forward

open Idealize.ShloMosaic Idealize.SL.Sem Cert.DqIdeal Cert.DqIdeal.Gen Cert.Heads Cert.Attn Cert.Softmax

variable (m : (ℓ : Loc nD τ sig) → Buf (Elt Ideal) ℓ) (c : Dev nD)
  (a : S4096x6144.Idx → ℝ) (f : S16x1x4096.Idx → ℝ) (e : S4096x2048.Idx → ℝ)
  (ha : m ((c.tc : Thread nD τ).loc main_arg0) = fun i => (a i : EReal))
  (hf : m ((c.tc : Thread nD τ).loc main_arg1) = fun i => (f i : EReal))
  (he : m ((c.tc : Thread nD τ).loc main_arg2) = fun i => (e i : EReal))

include ha hf he in
/-- The derivative of a score, as the kernel has it. -/
theorem ds_real (h : Fin 16) (r k : Fin 4096) :
    Heads.dscore (V m c main_arg0) (V m c main_arg1) (V m c main_arg2) (V m c main_v74) (V m c main_v76) h r k = (ds a f e h r k : EReal) := by
  have h0 : V m c main_arg0 = fun i => (a i : EReal) := (V_main_arg0 m c).trans ha
  have h1 : V m c main_arg1 = fun i => (f i : EReal) := (V_main_arg1 m c).trans hf
  have h2 : V m c main_arg2 = fun i => (e i : EReal) := (V_main_arg2 m c).trans he
  have h3 := output_array m c
  have h4 := lse_array m c
  rw [ha, hf] at h3 h4
  rw [h0, h1, h2, h3, h4]
  obtain ⟨M, hM⟩ := lse_real a f h r 0
  exact dscore_coe a f e _ _ h r k M (fun d => output_real a f h r d) hM

include ha hf he in
theorem queries (y : S4096x2048.Idx) : (dats m 0 c).arrAt 7 cfg0.N y
    = (((∑ k, ds a f e (head (y 1)) (y 0) k * a (ix2 k (kcol (head (y 1)) (coord (y 1))))) * s : ℝ) : EReal) := by
  have h0 : V m c main_arg0 = fun i => (a i : EReal) := (V_main_arg0 m c).trans ha
  refine (congrFun (Block.array7 m c) y).trans ?_
  refine (congrArg (fun u : EReal => u * scale) (Finset.sum_congr rfl fun k _ =>
    congrArg₂ (fun u v : EReal => u * v) (ds_real m c a f e ha hf he (head (y 1)) (y 0) k) (congrFun h0 (ix2 k (kcol (head (y 1)) (coord (y 1))))))).trans ?_
  rw [scale_eq]
  simp only [← EReal.coe_mul, ← coe_sum]

include ha hf he in
theorem gates (y : S16x1x4096.Idx) : (dats m 0 c).arrAt 8 cfg0.N y = ((∑ k, ds a f e (y 0) (y 2) k : ℝ) : EReal) := by
  refine (congrFun (Block.array8 m c) y).trans ((Finset.sum_congr rfl fun k _ => ds_real m c a f e ha hf he (y 0) (y 2) k).trans (coe_sum _ _).symm)

end Cert.DqIdeal.Forward
-- ==== Proof.DqRef.lean ====
/- The reference for the gradient of the queries, entry by entry, at arguments that are real numbers. -/
module

public import proofs.«01_k».proof.Proof.Gen.DqRefIdeal.Read
public import proofs.«01_k».proof.Proof.Attn
public import proofs.«01_k».proof.Proof.Words
public import Idealize.ShloMosaic.Lib.Pointwise

@[expose] public section

set_option maxRecDepth 16384

noncomputable section

namespace Cert.DqRefIdeal.Entry

open Idealize.ShloMosaic Idealize.SL.Sem Cert.DqRefIdeal Cert.DqRefIdeal.Gen Cert.DqRefIdeal.Read Cert.Heads Cert.Words Cert.Attn Cert.Softmax

/-- The packed queries, keys and values. -/
abbrev Packed := FVec Ideal S4096x6144 .bf16
/-- The running sums of the forget gates' logarithms. -/
abbrev Gates := FVec Ideal S16x1x4096 .f32
/-- The output's derivative. -/
abbrev Deriv := FVec Ideal S4096x2048 .bf16

section Words
variable (A : Packed) (R : Gates) (D : Deriv) (h : Fin 16) (r k : Fin 4096)

theorem masked_word : val_main_v27_0 (F := Ideal) A R (ix3 h r k)
    = Scalar.select (IntOp.cmpi CmpIPredicate.sle (BitVec.ofNat 32 k.val) (BitVec.ofNat 32 r.val))
      ((∑ d : Fin 128, A (ix2 r ⟨h.val * 128 + d.val, by omega⟩) * A (ix2 k ⟨2048 + (h.val * 128 + d.val), by omega⟩)) * scale + R (ix3 h 0 r) - R (ix3 h 0 k))
      (Ideal.ofBits FTy.f32 0xFF800000#32) := by
  pointwise [val_main_v27_0, val_main_v27_1, val_main_call0_v2, val_main_call0_v0, val_main_call0_cst, val_main_v26, val_main_v25, val_main_v24, val_main_v23, val_main_v22, val_main_v21, val_main_v20, val_main_v19, val_main_v18, val_main_v17, val_main_v16, val_main_v15, val_main_v14, val_main_v13, val_main_v12, val_main_cst, val_main_v11, val_main_v10, val_main_v9, val_main_v8, val_main_v7, val_main_v6, val_main_v3, val_main_v2, val_main_v1, val_main_v0]
  rfl

theorem top_word : val_main_v28 (F := Ideal) A R (ix2 h r)
    = Finset.fold max (Ideal.ofBits FTy.f32 0xFF800000#32) (fun k => val_main_v27_0 (F := Ideal) A R (ix3 h r k)) Finset.univ := by
  unfold val_main_v28 val_main_cst_1
  generalize val_main_v27_0 (F := Ideal) A R = X
  pointwise []
theorem less_at : val_main_v35 (F := Ideal) A R (ix2 h r) = val_main_v28 (F := Ideal) A R (ix2 h r) := by
  unfold val_main_v35
  have e : ∀ X Y : FVec Ideal S16x4096 .f32, maximumf X Y (ix2 h r) = max (X (ix2 h r)) (Y (ix2 h r)) := fun _ _ => rfl
  have h0 : val_main_v34 (F := Ideal) (ix2 h r) = (⊥ : EReal) := bot_word
  rw [e, h0]
  exact max_eq_right bot_le

theorem exps_at : val_main_v48 (F := Ideal) A R (ix3 h r k)
    = Ideal.exp (val_main_v27_0 (F := Ideal) A R (ix3 h r k) - val_main_v35 (F := Ideal) A R (ix2 h r)) := by
  unfold val_main_v48 val_main_v47 val_main_v46 val_main_v45
  generalize val_main_v35 (F := Ideal) A R = M
  generalize val_main_v27_0 (F := Ideal) A R = X
  change Ideal.exp (_ - broadcastInDim _ _ _ _ _) = _
  pointwise []

theorem total_at : val_main_v49 (F := Ideal) A R (ix2 h r) = ∑ k, val_main_v48 (F := Ideal) A R (ix3 h r k) := by
  unfold val_main_v49 val_main_cst_9
  generalize val_main_v48 (F := Ideal) A R = E
  pointwise []

theorem deriv_word : val_main_v64 (F := Ideal) A D (ix3 h r k)
    = ∑ d : Fin 128, D (ix2 r ⟨h.val * 128 + d.val, by omega⟩) * A (ix2 k ⟨4096 + (h.val * 128 + d.val), by omega⟩) := by
  pointwise [val_main_v64, val_main_v63, val_main_v62, val_main_v61, val_main_v57, val_main_v56, val_main_v5, val_main_v4]

theorem inner_at : val_main_v68 (F := Ideal) A R D (ix2 h r)
    = ∑ k, val_main_v64 (F := Ideal) A D (ix3 h r k) * Ideal.div 1 (val_main_v49 (F := Ideal) A R (ix2 h r) * val_main_v49 (F := Ideal) A R (ix2 h r))
        * val_main_v48 (F := Ideal) A R (ix3 h r k) := by
  unfold val_main_v68 val_main_v67 val_main_v66 val_main_v65 val_main_v55 val_main_v54 val_main_v53 val_main_v50
  generalize val_main_v49 (F := Ideal) A R = Z
  generalize val_main_v48 (F := Ideal) A R = E
  generalize val_main_v64 (F := Ideal) A D = G
  pointwise [val_main_cst_10, val_main_cst_11]

theorem weighed_at : val_main_v77 (F := Ideal) A R D (ix3 h r k)
    = Scalar.select (val_main_v27_1 (F := Ideal) (ix3 h r k))
      ((Ideal.div (val_main_v64 (F := Ideal) A D (ix3 h r k)) (val_main_v49 (F := Ideal) A R (ix2 h r)) + -(val_main_v68 (F := Ideal) A R D (ix2 h r)))
        * val_main_v48 (F := Ideal) A R (ix3 h r k)) 0 := by
  unfold val_main_v77 val_main_v76 val_main_v75 val_main_v74 val_main_v73 val_main_v72 val_main_v71 val_main_v70 val_main_v69 val_main_v50
  generalize val_main_v49 (F := Ideal) A R = Z
  generalize val_main_v48 (F := Ideal) A R = E
  generalize val_main_v64 (F := Ideal) A D = G
  generalize val_main_v68 (F := Ideal) A R D = I
  generalize val_main_v27_1 (F := Ideal) = m
  pointwise [val_main_cst_12, val_main_call1_v0, val_main_call1_cst]
  simp only [Fin.sum_univ_one, Finset.univ_unique, Finset.sum_singleton]

theorem mask_word : val_main_v27_1 (F := Ideal) (ix3 h r k) = IntOp.cmpi CmpIPredicate.sle (BitVec.ofNat 32 k.val) (BitVec.ofNat 32 r.val) := by
  pointwise [val_main_v27_1, val_main_v26, val_main_v25, val_main_v24, val_main_v23, val_main_v22, val_main_v21, val_main_v20]

theorem gates_at : val_main_v87 (F := Ideal) A R D (ix3 h 0 r) = ∑ k, val_main_v77 (F := Ideal) A R D (ix3 h r k) := by
  unfold val_main_v87 val_main_v80 val_main_v79 val_main_v78
  generalize val_main_v77 (F := Ideal) A R D = G
  pointwise [val_main_cst_13, val_main_cst_14]
  simp only [Finset.univ_unique, Finset.sum_singleton]

theorem queries_word (j : Fin 2048) : val_main_v86 (F := Ideal) A R D (ix2 r j)
    = ∑ k : Fin 4096, (val_main_v77 (F := Ideal) A R D (ix3 (head j) r k) * scale) * A (ix2 k ⟨2048 + j.val, by omega⟩) := by
  unfold val_main_v86 val_main_v85 val_main_v84 val_main_v83 val_main_v82 val_main_v81
  generalize val_main_v77 (F := Ideal) A R D = G
  pointwise [val_main_v10, val_main_v9, val_main_v3, val_main_v2, val_main_cst_15, head]
end Words

variable (a : S4096x6144.Idx → ℝ) (f : S16x1x4096.Idx → ℝ) (e : S4096x2048.Idx → ℝ) (h : Fin 16) (r k : Fin 4096)

/-- The arguments over the real numbers. -/
abbrev A' : Packed := fun i => (a i : EReal)
/-- The same of the gates' sums. -/
abbrev R' : Gates := fun i => (f i : EReal)
/-- The same of the output's derivative. -/
abbrev D' : Deriv := fun i => (e i : EReal)

theorem qcol_eq (d : Fin 128) (p) : (⟨h.val * 128 + d.val, p⟩ : Fin 6144) = qcol h d := Fin.ext (by simp only [qcol]; omega)
theorem kcol_eq (d : Fin 128) (p) : (⟨2048 + (h.val * 128 + d.val), p⟩ : Fin 6144) = kcol h d := Fin.ext (by simp only [kcol]; omega)
theorem vcol_eq (d : Fin 128) (p) : (⟨4096 + (h.val * 128 + d.val), p⟩ : Fin 6144) = vcol h d := Fin.ext (by simp only [vcol]; omega)
theorem col_eq (d : Fin 128) (p) : (⟨h.val * 128 + d.val, p⟩ : Fin 2048) = col h d := Fin.ext (by simp only [col]; omega)

/-- A row of masked scores. -/
theorem masked_at : val_main_v27_0 (F := Ideal) (A' a) (R' f) (ix3 h r k) = logit (vis r) (x a f h r) k := by
  rw [masked_word, select_sle k.val r.val (by omega) (by omega), bot_word]
  simp only [qcol_eq, kcol_eq]
  rw [score_coe]; rfl

/-- Each row takes off a real number. -/
theorem less_real : ∃ M : ℝ, val_main_v35 (F := Ideal) (A' a) (R' f) (ix2 h r) = (M : EReal) := by
  rw [less_at, top_word, bot_word]
  simp only [masked_at]
  exact max_real (vis r) (x a f h r) (vis_self r)

theorem deriv_real : val_main_v64 (F := Ideal) (A' a) (D' e) (ix3 h r k) = (g a e h r k : EReal) := by
  rw [deriv_word]
  simp only [vcol_eq, col_eq, ← EReal.coe_mul, ← coe_sum]
  rfl

/-- The derivative of a score. -/
theorem weighed_real : val_main_v77 (F := Ideal) (A' a) (R' f) (D' e) (ix3 h r k) = (ds a f e h r k : EReal) := by
  obtain ⟨M, hM⟩ := less_real a f h r
  have hE : ∀ j, val_main_v48 (F := Ideal) (A' a) (R' f) (ix3 h r j) = (ex (vis r) (x a f h r) M j : EReal) := fun j => by
    rw [exps_at, hM, masked_at, exp_logit]
  have hZ : val_main_v49 (F := Ideal) (A' a) (R' f) (ix2 h r) = ((∑ j, ex (vis r) (x a f h r) M j : ℝ) : EReal) := by
    rw [total_at, coe_sum]
    exact Finset.sum_congr rfl fun j _ => hE j
  rw [weighed_at, mask_word, select_sle k.val r.val (by omega) (by omega), inner_at]
  simp only [hE, hZ, deriv_real]
  by_cases hk : k.val ≤ r.val
  · rw [if_pos hk]
    exact quotient_rule (vis r) (x a f h r) (g a e h r) (vis_self r) M k
  · rw [if_neg hk, ds, dscore_of_not _ _ _ _ hk]; rfl

/-- The derivative of the gates' sums along the queries. -/
theorem gates_real : val_main_v87 (F := Ideal) (A' a) (R' f) (D' e) (ix3 h 0 r) = ((∑ k, ds a f e h r k : ℝ) : EReal) := by
  rw [gates_at, coe_sum]
  exact Finset.sum_congr rfl fun k _ => weighed_real a f e h r k

/-- The derivative of the queries. -/
theorem queries_real (j : Fin 2048) : val_main_v86 (F := Ideal) (A' a) (R' f) (D' e) (ix2 r j)
    = (((∑ k, ds a f e (head j) r k * a (ix2 k (kcol (head j) (coord j)))) * s : ℝ) : EReal) := by
  rw [queries_word]
  have c : (⟨2048 + j.val, by omega⟩ : Fin 6144) = kcol (head j) (coord j) := Fin.ext (by simp only [kcol, head, coord]; omega)
  simp only [weighed_real, c, scale_eq, ← EReal.coe_mul, ← coe_sum]
  rw [Finset.sum_mul]
  exact congrArg _ (Finset.sum_congr rfl fun k _ => by ring)

/-- The derivative of the queries as an array. -/
theorem queries_array (A : Packed) (R : Gates) (D : Deriv) (ha : A = fun i => (a i : EReal)) (hf : R = fun i => (f i : EReal)) (he : D = fun i => (e i : EReal)) :
    val_main_v86 (F := Ideal) A R D = fun y : S4096x2048.Idx =>
      (((∑ k, ds a f e (head (y 1)) (y 0) k * a (ix2 k (kcol (head (y 1)) (coord (y 1))))) * s : ℝ) : EReal) := by
  subst ha; subst hf; subst he
  refine funext fun y => ?_
  obtain ⟨r, j, rfl⟩ : ∃ (r : Fin 4096) (j : Fin 2048), y = ix2 r j := ⟨y 0, y 1, eq_ix2 y⟩
  exact queries_real a f e r j

/-- The derivative of the gates' sums along the queries as an array. -/
theorem gates_array (A : Packed) (R : Gates) (D : Deriv) (ha : A = fun i => (a i : EReal)) (hf : R = fun i => (f i : EReal)) (he : D = fun i => (e i : EReal)) :
    val_main_v87 (F := Ideal) A R D = fun y : S16x1x4096.Idx => ((∑ k, ds a f e (y 0) (y 2) k : ℝ) : EReal) := by
  subst ha; subst hf; subst he
  refine funext fun y => ?_
  obtain ⟨h, r, rfl⟩ : ∃ (h : Fin 16) (r : Fin 4096), y = ix3 h 0 r :=
    ⟨y 0, y 2, (eq_ix3 y).trans (congrArg (fun u => ix3 (y 0) u (y 2)) (Subsingleton.elim (α := Fin 1) _ _))⟩
  exact gates_real a f e h r

end Cert.DqRefIdeal.Entry
-- ==== Proof.DqClaims.lean ====
/- The claims about the gradient of the queries. -/
module

public import proofs.«01_k».proof.Defs
public import proofs.«01_k».proof.Proof.DqEq
public import proofs.«01_k».proof.Proof.DqRef
public import proofs.«01_k».proof.Proof.Finite
public import proofs.«01_k».proof.Proof.Gen.Dq
public import proofs.«01_k».proof.Proof.Gen.Dq.Frame
public import proofs.«01_k».proof.Proof.Gen.DqRefIdeal.Run
public import proofs.«01_k».proof.Proof.Gen.DqRefIdeal
public import Idealize.ShloMosaic.Lib.Claim

@[expose] public section

set_option maxRecDepth 16384

noncomputable section

namespace Cert.Proof.Dq

open Idealize.ShloMosaic Idealize.SL.Sem Cert.Heads Cert.Attn

attribute [local instance] Cert.Dq.Gen.facts Cert.DqIdeal.Gen.facts Cert.DqRefIdeal.Gen.facts Cert.Finite.facts

theorem frame_p : Cert.quiescent_Dq := fun m ρ _ => Cert.Dq.Gen.frame m ρ
theorem frame_pi : Cert.quiescent_DqIdeal := fun m ρ _ => Cert.DqIdeal.Gen.frame m ρ
theorem frame_pi_finite : Cert.quiescent_DqIdeal_pre_finite := fun m ρ _ => Cert.DqIdeal.Gen.frame m ρ
theorem frame_ri : Cert.quiescent_DqRefIdeal := fun m ρ _ =>
  (θ_run Cert.DqRefIdeal.defs _ _).mono (fun r h => ⟨fun c => (h c).2.2, sem_eq_zero_of_no_sems (by decide) r.2⟩) (Cert.DqRefIdeal.Value.run (F := Ideal) m ρ)
theorem frame_ri_finite : Cert.quiescent_DqRefIdeal_pre_finite := fun m ρ _ => frame_ri m ρ trivial
theorem preserves : Cert.preserves_Dq_DqIdeal := trivial

/-- Over the extended reals the kernel's results and the reference's are equal wherever every entry of the arguments is a real number. -/
theorem algebraic : Cert.algebraic_DqIdeal_DqRefIdeal_pre_finite := by
  intro m g m' g' hpre hagree
  refine ⟨_, _, Cert.DqIdeal.Value.run_blocks m g, ?_⟩
  refine (θ_run Cert.DqRefIdeal.defs _ _).mono (fun r h c => ?_) (Cert.DqRefIdeal.Value.run (F := Ideal) m' g')
  obtain ⟨h0, h1, h2⟩ := h c
  obtain ⟨ha, hf, he⟩ := Cert.Finite.real_args _ _ _ (hpre c)
  obtain ⟨e0, e1, e2⟩ := hagree c
  refine ⟨h0.trans ?_, h1.trans ?_, h2⟩
  · refine (Cert.DqRefIdeal.Read.val_main_v86_eq m' c).trans ?_
    refine (Cert.DqRefIdeal.Entry.queries_array _ _ _ _ _ _ (e0.trans ha) (e1.trans hf) (e2.trans he)).trans ?_
    exact (funext fun y => Cert.DqIdeal.Forward.queries m c _ _ _ ha hf he y).symm
  · refine (Cert.DqRefIdeal.Read.val_main_v87_eq m' c).trans ?_
    refine (Cert.DqRefIdeal.Entry.gates_array _ _ _ _ _ _ (e0.trans ha) (e1.trans hf) (e2.trans he)).trans ?_
    exact (funext fun y => Cert.DqIdeal.Forward.gates m c _ _ _ ha hf he y).symm

end Cert.Proof.Dq
-- ==== Proof.BlockSums.lean ====
/- Sums over the queries taken block by block from a block on, and block sums taken away one after the other. -/
module

public import proofs.«01_k».proof.Proof.Sums
public import proofs.«01_k».proof.Proof.Softmax

@[expose] public section

noncomputable section

namespace Cert.Sums

/-- One more block of `B` terms, of a sum that starts at block `m`. -/
theorem sum_block_from (f : ℕ → EReal) (B m n : ℕ) (h : m ≤ n) :
    ∑ k ∈ Finset.Ico (B * m) (B * (n + 1)), f k = ∑ k ∈ Finset.Ico (B * m) (B * n), f k + ∑ b : Fin B, f (B * n + b.val) := by
  rw [← Finset.sum_Ico_consecutive f (Nat.mul_le_mul_left B h) (Nat.mul_le_mul_left B (Nat.le_succ n)), Nat.mul_succ, Finset.sum_Ico_eq_sum_range f (B * n),
    Nat.add_sub_cancel_left, Fin.sum_univ_eq_sum_range (fun b => f (B * n + b))]

/-- Taking real block sums away one after the other takes the whole sum away. -/
theorem sum_neg_blocks (f : ℕ → EReal) (φ : ℕ → ℝ) (hf : ∀ k, f k = (φ k : EReal)) (B m n : ℕ) (h : m ≤ n) :
    ∑ i ∈ Finset.Ico m n, -(∑ b : Fin B, f (B * i + b.val)) = -(∑ k ∈ Finset.Ico (B * m) (B * n), f k) := by
  have hs (s : Finset ℕ) : ∑ k ∈ s, f k = ((∑ k ∈ s, φ k : ℝ) : EReal) := by rw [Softmax.coe_sum]; exact Finset.sum_congr rfl fun k _ => hf k
  induction n, h using Nat.le_induction with
  | base => simp
  | succ n h ih =>
    rw [Finset.sum_Ico_succ_top h, ih, sum_block_from f B m n h, hs, Fin.sum_univ_eq_sum_range (fun b => f (B * n + b)) B,
      show ∑ b ∈ Finset.range B, f (B * n + b) = ((∑ b ∈ Finset.range B, φ (B * n + b) : ℝ) : EReal) by
        rw [Softmax.coe_sum]; exact Finset.sum_congr rfl fun b _ => hf _]
    norm_cast
    ring

end Cert.Sums
-- ==== Proof.DkvBlock.lean ====
/- What one grid point of the kernel for the gradients of the keys and values computes. The point holds 1024 keys of one head and walks
   the queries in blocks of 1024: first the block at its own keys under the causal mask, then the blocks after it. Its three
   results are sums over all queries that see a key: of the scores' derivative against the queries, of the probabilities against the output's
   derivative, and of the scores' derivative alone, taken away block by block. -/
module

public import proofs.«01_k».proof.Proof.Gen.DkvIdeal.Value
public import proofs.«01_k».proof.Proof.BlockSums
public import proofs.«01_k».proof.Proof.Words
public import proofs.«01_k».proof.Proof.Heads
public import Idealize.ShloMosaic.Lib.Pipeline.ValueKit
public import Idealize.ShloMosaic.Lib.Pointwise
public import Idealize.ShloMosaic.Lib.WholeRead

@[expose] public section

set_option maxRecDepth 16384

noncomputable section

namespace Cert.DkvIdeal.Block

open Idealize.ShloMosaic Idealize.SL.Sem Cert.DkvIdeal Cert.DkvIdeal.Gen Cert.Heads Cert.Sums

section
variable (n : ℕ) (K V : Vec Ideal S1024x128 .bf16) (Q O D : Vec Ideal S4096x128 .bf16) (L : Vec Ideal S1x4096x128 .f32) (R : Vec Ideal S1x1x1024 .f32)

/-- The probability of key `b` of key block `n` at query `r`: zero at an earlier query. -/
def pr (b : Fin 1024) (r : Fin 4096) : EReal :=
  if 1024 * n + b.val ≤ r.val then Ideal.exp ((∑ x, Q (ix2 r x) * K (ix2 b x)) * scale - R (ix3 0 0 b) - L (ix3 0 r 0)) else 0

/-- The derivative of the score of query `r` and key `b` of key block `n`: zero at an earlier query. -/
def ds (b : Fin 1024) (r : Fin 4096) : EReal :=
  if 1024 * n + b.val ≤ r.val then
    Ideal.exp ((∑ x, Q (ix2 r x) * K (ix2 b x)) * scale - R (ix3 0 0 b) - L (ix3 0 r 0))
      * (∑ x, D (ix2 r x) * V (ix2 b x) - ∑ x, D (ix2 r x) * O (ix2 r x))
  else 0

/-- The derivative of a score times one coordinate of its query. -/
def dsQ (b : Fin 1024) (d : Fin 128) (r : Fin 4096) : EReal := ds n K V Q O D L R b r * Q (ix2 r d)
/-- A probability times one coordinate of the output's derivative at its query. -/
def prD (b : Fin 1024) (d : Fin 128) (r : Fin 4096) : EReal := pr n K Q L R b r * D (ix2 r d)
end

/-- Rows of the head's queries (or outputs, or output derivatives) from row `1024 * i` on. -/
theorem ld_rows (X : Vec Ideal S4096x128 .bf16) (off : Fin 2 → ℕ) (i : ℕ) (e : off = ![1024 * i, 0]) (h) (a : Fin 1024) (d : Fin 128)
    (ha : 1024 * i + a.val < 4096) :
    View.ld X (Rect.unit (s := S4096x128) off ![1024, 128] h) (ix2 a d) = X (ix2 ⟨1024 * i + a.val, ha⟩ d) := by
  subst e
  refine congrArg X (funext fun a => Fin.ext ?_)
  fin_cases a <;> simp [Rect.unit, Rect.emb]

/-- One lane of the log-sums from query `1024 * i` on. -/
theorem ld_lsum (L : Vec Ideal S1x4096x128 .f32) (off : Fin 3 → ℕ) (i : ℕ) (e : off = ![0, 1024 * i, 0]) (h) (a : Fin 1024)
    (ha : 1024 * i + a.val < 4096) :
    View.ld L (Rect.unit (s := S1x4096x128) off ![1, 1024, 1] h) (ix3 0 a 0) = L (ix3 0 ⟨1024 * i + a.val, ha⟩ 0) := by
  subst e
  refine congrArg L (funext fun a => Fin.ext ?_)
  fin_cases a <;> simp [Rect.unit, Rect.emb]

theorem off1 : ∀ t : Fin cfg0.N, k0_off1 (grid0.coords t) = ![1024 * (grid0.coords t 1).val, 0] := (by decide +kernel : ∀ t : Fin grid0.N, _)
theorem off2 : ∀ t : Fin cfg0.N, k0_off2 (grid0.coords t) = ![0, 1024 * (grid0.coords t 1).val, 0] := (by decide +kernel : ∀ t : Fin grid0.N, _)
theorem off3 : ∀ (t : Fin cfg0.N) (k : Fin (k0_t1_loop (grid0.coords t)).trips), k0_off3 (grid0.coords t) k = ![1024 * ((grid0.coords t 1).val + 1 + k.val), 0] :=
  (by decide +kernel : ∀ (t : Fin grid0.N) (k : Fin (k0_t1_loop (grid0.coords t)).trips), _)
theorem off4 : ∀ (t : Fin cfg0.N) (k : Fin (k0_t1_loop (grid0.coords t)).trips), k0_off4 (grid0.coords t) k = ![0, 1024 * ((grid0.coords t 1).val + 1 + k.val), 0] :=
  (by decide +kernel : ∀ (t : Fin grid0.N) (k : Fin (k0_t1_loop (grid0.coords t)).trips), _)
theorem trips : ∀ t : Fin cfg0.N, (k0_t1_loop (grid0.coords t)).trips = 3 - (grid0.coords t 1).val := (by decide +kernel : ∀ t : Fin grid0.N, _)
theorem trips2 : ∀ t : Fin cfg0.N, (k0_t2_loop (grid0.coords t)).trips = 0 := (by decide +kernel : ∀ t : Fin grid0.N, _)
theorem coord_lt : ∀ t : Fin cfg0.N, (grid0.coords t 1).val < 4 := (by decide +kernel : ∀ t : Fin grid0.N, _)

section
variable (n : ℕ) (K V : Vec Ideal S1024x128 .bf16) (Q O D : Vec Ideal S4096x128 .bf16) (L : Vec Ideal S1x4096x128 .f32) (R : Vec Ideal S1x1x1024 .f32)
  (i : ℕ) (hi : i < 4) (Q' O' D' : Vec Ideal S1024x128 .bf16) (L' : Vec Ideal S1x1024x1 .f32)
  (hQ : ∀ a d, Q' (ix2 a d) = Q (ix2 ⟨1024 * i + a.val, by omega⟩ d)) (hO : ∀ a d, O' (ix2 a d) = O (ix2 ⟨1024 * i + a.val, by omega⟩ d))
  (hD : ∀ a d, D' (ix2 a d) = D (ix2 ⟨1024 * i + a.val, by omega⟩ d)) (hL : ∀ a, L' (ix3 0 a 0) = L (ix3 0 ⟨1024 * i + a.val, by omega⟩ 0))

include hQ hL in
/-- The probabilities of a block of queries wholly after the keys. -/
theorem later_pr (hn : n < i) (a b : Fin 1024) :
    k0_pay6 K (k0_pay19 R) Q' L' (ix2 a b) = pr n K Q L R b ⟨1024 * i + a.val, by omega⟩ := by
  rw [pr, if_pos (by show _ ≤ 1024 * i + a.val; have := b.isLt; omega)]
  pointwise [k0_pay6, k0_pay19]
  simp only [hQ, hL]

include hQ hO hD hL in
/-- The derivatives of the scores of a block of queries wholly after the keys. -/
theorem later_ds (hn : n < i) (a b : Fin 1024) :
    k0_pay8 K V (k0_pay19 R) Q' D' O' L' (ix2 a b) = ds n K V Q O D L R b ⟨1024 * i + a.val, by omega⟩ := by
  rw [ds, if_pos (by show _ ≤ 1024 * i + a.val; have := b.isLt; omega)]
  pointwise [k0_pay8, k0_pay6, k0_pay19]
  simp only [hQ, hO, hD, hL]

include hQ hL in
/-- The probabilities of the queries at the keys themselves. -/
theorem own_pr (hn : n = i) (a b : Fin 1024) :
    k0_pay1 (k0_pay24 K R Q' L') (iota Kind.tc S1024x1024 32 [0] iota_S1024x1024_d0_w32) (iota Kind.tc S1024x1024 32 [1] iota_S1024x1024_d1_w32) 0#32 (ix2 a b)
      = pr n K Q L R b ⟨1024 * i + a.val, by omega⟩ := by
  subst hn
  rw [pr]
  pointwise [k0_pay1, k0_pay24, k0_pay19]
  rw [Cert.Words.select_sle_add b.val a.val (by have := b.isLt; omega) (by have := a.isLt; omega)]
  simp only [hQ, hL, Nat.add_le_add_iff_left]

include hQ hO hD hL in
/-- The derivatives of the scores of the queries at the keys themselves. -/
theorem own_ds (hn : n = i) (a b : Fin 1024) :
    k0_pay3 V D' (k0_pay23 D' O') (k0_pay24 K R Q' L') (iota Kind.tc S1024x1024 32 [0] iota_S1024x1024_d0_w32)
        (iota Kind.tc S1024x1024 32 [1] iota_S1024x1024_d1_w32) 0#32 (ix2 a b) = ds n K V Q O D L R b ⟨1024 * i + a.val, by omega⟩ := by
  have h := own_pr n K Q L R i hi Q' L' hQ hL hn a b
  generalize hp : k0_pay24 K R Q' L' = p at h ⊢
  pointwise [k0_pay3, k0_pay23]
  rw [h, pr, ds]
  simp only [hO, hD]
  split
  · rfl
  · rw [zero_mul]
end

variable (m : (ℓ : Loc nD τ sig) → Buf (Elt Ideal) ℓ) (c : Dev nD) (t : Fin cfg0.N)
  (K V : Vec Ideal S1024x128 .bf16) (Q O D : Vec Ideal S4096x128 .bf16) (L : Vec Ideal S1x4096x128 .f32) (R : Vec Ideal S1x1x1024 .f32)

/-- The own block's rows of the queries, outputs or output derivatives. -/
abbrev rows (X : Vec Ideal S4096x128 .bf16) : Vec Ideal S1024x128 .bf16 :=
  View.ld X (Rect.unit (s := S4096x128) (k0_off1 (grid0.coords t)) ![1024, 128] (k0_off1_inb _))
/-- The own block's scores, exponentiated, before the mask. -/
abbrev scores : FVec Ideal S1024x1024 .f32 :=
  k0_pay24 K R (rows t Q) (View.ld L (Rect.unit (s := S1x4096x128) (k0_off2 (grid0.coords t)) ![1, 1024, 1] (k0_off2_inb _)))
abbrev io0 : IVec S1024x1024 32 := iota Kind.tc S1024x1024 32 [0] iota_S1024x1024_d0_w32
abbrev io1 : IVec S1024x1024 32 := iota Kind.tc S1024x1024 32 [1] iota_S1024x1024_d1_w32

/-- What the loop over the later query blocks carries before its trip `j`, from the own block's terms on. -/
def carried (j : ℕ) :=
  st_k0_t1 Variants.none c none (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) (ms0_8 t) (hs0_8 t) (ms0_9 t) (hs0_9 t) K V (k0_pay19 R)
    ((hs0_2 t).unread Q) ((hs0_3 t).unread O) ((hs0_4 t).unread D) ((hs0_5 t).unread L)
    (k0_pay4 V k0_pay20 (rows t Q) (rows t D) (k0_pay23 (rows t D) (rows t O)) (scores t K Q L R) io0 io1 0#32,
      k0_pay2 k0_pay21 (rows t D) (scores t K Q L R) io0 io1 0#32,
      k0_pay5 V k0_pay22 (rows t D) (k0_pay23 (rows t D) (rows t O)) (scores t K Q L R) io0 io1 0#32) j

/-- The own block of queries gives the first terms. -/
theorem carried_zero (b : Fin 1024) :
    (∀ d, (carried c t K V Q O D L R 0).1 (ix2 b d) = ∑ a : Fin 1024, ext (dsQ (grid0.coords t 1).val K V Q O D L R b d) (1024 * (grid0.coords t 1).val + a.val))
      ∧ (∀ d, (carried c t K V Q O D L R 0).2.1 (ix2 b d) = ∑ a : Fin 1024, ext (prD (grid0.coords t 1).val K Q D L R b d) (1024 * (grid0.coords t 1).val + a.val))
      ∧ (carried c t K V Q O D L R 0).2.2 (ix2 0 b) = -∑ a : Fin 1024, ext (ds (grid0.coords t 1).val K V Q O D L R b) (1024 * (grid0.coords t 1).val + a.val) := by
  have hn := coord_lt t
  have hr (X : Vec Ideal S4096x128 .bf16) (a d) : rows t X (ix2 a d) = X (ix2 ⟨1024 * (grid0.coords t 1).val + a.val, by omega⟩ d) := ld_rows X _ _ (off1 t) _ a d _
  have hl (a) := ld_lsum L _ _ (off2 t) (k0_off2_inb _) a (by omega)
  have P (a) := own_pr (grid0.coords t 1).val K Q L R _ hn (rows t Q) _ (hr Q) hl rfl a b
  have S (a) := own_ds (grid0.coords t 1).val K V Q O D L R _ hn (rows t Q) (rows t O) (rows t D) _ (hr Q) (hr O) (hr D) hl rfl a b
  unfold carried
  rw [st_k0_t1_zero]
  dsimp only
  refine ⟨fun d => ?_, fun d => ?_, ?_⟩
  · pointwise [k0_pay4, k0_pay20]
    refine Finset.sum_congr rfl fun a _ => ?_
    rw [S, ext_of_lt _ _ (by omega), dsQ, hr]
  · pointwise [k0_pay2, k0_pay21]
    refine Finset.sum_congr rfl fun a _ => ?_
    rw [P, ext_of_lt _ _ (by omega), prD, hr]
  · pointwise [k0_pay5, k0_pay22]
    rw [zero_sub]
    refine congrArg _ (Finset.sum_congr rfl fun a _ => ?_)
    rw [S, ext_of_lt _ _ (by omega)]

/-- One later block of queries adds that block's terms. -/
theorem carried_succ (j : ℕ) (hj : j < 3 - (grid0.coords t 1).val) (b : Fin 1024) :
    (∀ d, (carried c t K V Q O D L R (j + 1)).1 (ix2 b d) = (carried c t K V Q O D L R j).1 (ix2 b d)
        + ∑ a : Fin 1024, ext (dsQ (grid0.coords t 1).val K V Q O D L R b d) (1024 * ((grid0.coords t 1).val + 1 + j) + a.val))
      ∧ (∀ d, (carried c t K V Q O D L R (j + 1)).2.1 (ix2 b d) = (carried c t K V Q O D L R j).2.1 (ix2 b d)
        + ∑ a : Fin 1024, ext (prD (grid0.coords t 1).val K Q D L R b d) (1024 * ((grid0.coords t 1).val + 1 + j) + a.val))
      ∧ (carried c t K V Q O D L R (j + 1)).2.2 (ix2 0 b) = (carried c t K V Q O D L R j).2.2 (ix2 0 b)
        - ∑ a : Fin 1024, ext (ds (grid0.coords t 1).val K V Q O D L R b) (1024 * ((grid0.coords t 1).val + 1 + j) + a.val) := by
  have hi : (grid0.coords t 1).val + 1 + j < 4 := by omega
  have hk : j < (k0_t1_loop (grid0.coords t)).trips := by rw [trips]; exact hj
  unfold carried
  rw [show j + 1 = (⟨j, hk⟩ : Fin (k0_t1_loop (grid0.coords t)).trips).val + 1 from rfl, st_k0_t1_succ]
  unfold tripR_k0_t1 trip_k0_t1
  dsimp only
  have e3 : _ = ![1024 * ((grid0.coords t 1).val + 1 + j), 0] := off3 t ⟨j, hk⟩
  have e4 : _ = ![0, 1024 * ((grid0.coords t 1).val + 1 + j), 0] := off4 t ⟨j, hk⟩
  have hQ (a d) := (Memref.IsWhole.readAt_unread (hs0_2 t) Q (Rect.unit (s := S4096x128) (k0_off3 (grid0.coords t) ⟨j, hk⟩) ![1024, 128] (k0_off3_inb (grid0.coords t) ⟨j, hk⟩)) _).trans (ld_rows Q _ _ e3 _ a d (by omega))
  have hO (a d) := (Memref.IsWhole.readAt_unread (hs0_3 t) O (Rect.unit (s := S4096x128) (k0_off3 (grid0.coords t) ⟨j, hk⟩) ![1024, 128] (k0_off3_inb (grid0.coords t) ⟨j, hk⟩)) _).trans (ld_rows O _ _ e3 _ a d (by omega))
  have hD (a d) := (Memref.IsWhole.readAt_unread (hs0_4 t) D (Rect.unit (s := S4096x128) (k0_off3 (grid0.coords t) ⟨j, hk⟩) ![1024, 128] (k0_off3_inb (grid0.coords t) ⟨j, hk⟩)) _).trans (ld_rows D _ _ e3 _ a d (by omega))
  have hL (a) := (Memref.IsWhole.readAt_unread (hs0_5 t) L (Rect.unit (s := S1x4096x128) (k0_off4 (grid0.coords t) ⟨j, hk⟩) ![1, 1024, 1] (k0_off4_inb (grid0.coords t) ⟨j, hk⟩)) _).trans (ld_lsum L _ _ e4 _ a (by omega))
  have P (a) := later_pr (grid0.coords t 1).val K Q L R _ hi _ _ hQ hL (by omega) a b
  have S (a) := later_ds (grid0.coords t 1).val K V Q O D L R _ hi _ _ _ _ hQ hO hD hL (by omega) a b
  refine ⟨fun d => ?_, fun d => ?_, ?_⟩
  · pointwise [k0_pay9]
    congr 1
    refine Finset.sum_congr rfl fun a _ => ?_
    rw [S, ext_of_lt _ _ (by omega), dsQ]
    exact congrArg _ (hQ a d)
  · pointwise [k0_pay7]
    congr 1
    refine Finset.sum_congr rfl fun a _ => ?_
    rw [P, ext_of_lt _ _ (by omega), prD]
    exact congrArg _ (hD a d)
  · pointwise [k0_pay10]
    congr 1
    refine Finset.sum_congr rfl fun a _ => ?_
    rw [S, ext_of_lt _ _ (by omega)]

/-- What the loop carries before trip `j`: the terms of the queries from the point's own block on. -/
theorem carried_eq (j : ℕ) (hj : j ≤ 3 - (grid0.coords t 1).val) (b : Fin 1024) :
    (∀ d, (carried c t K V Q O D L R j).1 (ix2 b d)
        = ∑ r ∈ Finset.Ico (1024 * (grid0.coords t 1).val) (1024 * ((grid0.coords t 1).val + 1 + j)), ext (dsQ (grid0.coords t 1).val K V Q O D L R b d) r)
      ∧ (∀ d, (carried c t K V Q O D L R j).2.1 (ix2 b d)
        = ∑ r ∈ Finset.Ico (1024 * (grid0.coords t 1).val) (1024 * ((grid0.coords t 1).val + 1 + j)), ext (prD (grid0.coords t 1).val K Q D L R b d) r)
      ∧ (carried c t K V Q O D L R j).2.2 (ix2 0 b)
        = ∑ i ∈ Finset.Ico (grid0.coords t 1).val ((grid0.coords t 1).val + 1 + j),
            -∑ a : Fin 1024, ext (ds (grid0.coords t 1).val K V Q O D L R b) (1024 * i + a.val) := by
  induction j with
  | zero =>
    have h := carried_zero c t K V Q O D L R b
    refine ⟨fun d => ?_, fun d => ?_, ?_⟩
    · rw [h.1 d, add_zero, sum_block_from _ _ _ _ le_rfl, Finset.Ico_self, Finset.sum_empty, zero_add]
    · rw [h.2.1 d, add_zero, sum_block_from _ _ _ _ le_rfl, Finset.Ico_self, Finset.sum_empty, zero_add]
    · rw [h.2.2, add_zero, Finset.sum_Ico_succ_top le_rfl, Finset.Ico_self, Finset.sum_empty, zero_add]
  | succ j ih =>
    have h := carried_succ c t K V Q O D L R j (by omega) b
    have i := ih (by omega)
    refine ⟨fun d => ?_, fun d => ?_, ?_⟩
    · rw [h.1 d, i.1 d, ← add_assoc, sum_block_from _ _ _ _ (by omega)]
    · rw [h.2.1 d, i.2.1 d, ← add_assoc, sum_block_from _ _ _ _ (by omega)]
    · rw [h.2.2, i.2.2, ← add_assoc, Finset.sum_Ico_succ_top (by omega), sub_eq_add_neg]

/-- What the loop carries out. -/
theorem carried_end (b : Fin 1024) :
    (∀ d, (carried c t K V Q O D L R (k0_t1_loop (grid0.coords t)).trips).1 (ix2 b d) = ∑ r, dsQ (grid0.coords t 1).val K V Q O D L R b d r)
      ∧ (∀ d, (carried c t K V Q O D L R (k0_t1_loop (grid0.coords t)).trips).2.1 (ix2 b d) = ∑ r, prD (grid0.coords t 1).val K Q D L R b d r)
      ∧ (carried c t K V Q O D L R (k0_t1_loop (grid0.coords t)).trips).2.2 (ix2 0 b)
        = ∑ i ∈ Finset.Ico (grid0.coords t 1).val 4, -∑ a : Fin 1024, ext (ds (grid0.coords t 1).val K V Q O D L R b) (1024 * i + a.val) := by
  have hn := coord_lt t
  have h := carried_eq c t K V Q O D L R _ le_rfl b
  rw [show (grid0.coords t 1).val + 1 + (3 - (grid0.coords t 1).val) = 4 by omega] at h
  rw [trips]
  refine ⟨fun d => (h.1 d).trans ?_, fun d => (h.2.1 d).trans ?_, h.2.2⟩
  · refine (sum_eq_Ico _ _ fun r hr => ?_).symm
    rw [dsQ, ds, if_neg (by omega), zero_mul]
  · refine (sum_eq_Ico _ _ fun r hr => ?_).symm
    rw [prD, pr, if_neg (by omega), zero_mul]

/-- A point's block of the keys' gradient. -/
theorem after7 (b : Fin 1024) (d : Fin 128) :
    (dats m 0 c).after 7 t (ix2 b d) = (∑ r, dsQ (grid0.coords t 1).val (iblk m c 0 t) (iblk m c 1 t) (iblk m c 2 t) (iblk m c 3 t) (iblk m c 4 t)
      (iblk m c 5 t) (iblk m c 6 t) b d r) * scale := by
  have C := (carried_end c t (iblk m c 0 t) (iblk m c 1 t) (iblk m c 2 t) (iblk m c 3 t) (iblk m c 4 t) (iblk m c 5 t) (iblk m c 6 t) b).1 d
  rw [after0_7]; unfold outsAt0
  frame_out
  have z := trips2 t
  unfold Scf.Loop.trips at z
  rw [z, st_k0_t2_zero]
  unfold carried at C
  rw [← C]
  pointwise [k0_pay16]

/-- A point's block of the values' gradient. -/
theorem after8 (b : Fin 1024) (d : Fin 128) :
    (dats m 0 c).after 8 t (ix2 b d) = ∑ r, prD (grid0.coords t 1).val (iblk m c 0 t) (iblk m c 2 t) (iblk m c 4 t) (iblk m c 5 t) (iblk m c 6 t) b d r := by
  have C := (carried_end c t (iblk m c 0 t) (iblk m c 1 t) (iblk m c 2 t) (iblk m c 3 t) (iblk m c 4 t) (iblk m c 5 t) (iblk m c 6 t) b).2.1 d
  rw [after0_8]; unfold outsAt0
  frame_out
  have z := trips2 t
  unfold Scf.Loop.trips at z
  rw [z, st_k0_t2_zero]
  unfold carried at C
  rw [← C]
  pointwise [k0_pay17]

/-- A point's block of the keys' share of the forget gates' gradient. -/
theorem after9 (b : Fin 1024) :
    (dats m 0 c).after 9 t (ix3 0 0 b) = ∑ i ∈ Finset.Ico (grid0.coords t 1).val 4, -∑ a : Fin 1024,
      ext (ds (grid0.coords t 1).val (iblk m c 0 t) (iblk m c 1 t) (iblk m c 2 t) (iblk m c 3 t) (iblk m c 4 t) (iblk m c 5 t) (iblk m c 6 t) b) (1024 * i + a.val) := by
  have C := (carried_end c t (iblk m c 0 t) (iblk m c 1 t) (iblk m c 2 t) (iblk m c 3 t) (iblk m c 4 t) (iblk m c 5 t) (iblk m c 6 t) b).2.2
  rw [after0_9]; unfold outsAt0
  frame_out
  have z := trips2 t
  unfold Scf.Loop.trips at z
  rw [z, st_k0_t2_zero]
  unfold carried at C
  rw [← C]
  pointwise [k0_pay18]

end Cert.DkvIdeal.Block
-- ==== Proof.DkvArray.lean ====
/- The three result arrays of the kernel for the gradients of the keys and values, entry by entry, over the arrays the kernel takes. -/
module

public import proofs.«01_k».proof.Proof.DkvBlock

@[expose] public section

set_option maxRecDepth 16384

noncomputable section

namespace Cert.Heads

open Idealize.ShloMosaic

/-- The probability of key `k` at query `r` of head `h`, from the queries and keys `A`, the running sums `R` of the forget gates and the log-sums `L`:
    zero at a later key. -/
def seen (A : (⟨2, ![4096, 6144]⟩ : Shape).Idx → EReal) (R : (⟨3, ![16, 1, 4096]⟩ : Shape).Idx → EReal)
    (L : (⟨3, ![16, 4096, 128]⟩ : Shape).Idx → EReal) (h : Fin 16) (r k : Fin 4096) : EReal :=
  if k.val ≤ r.val then
    Ideal.exp ((∑ x, A (ix2 r (qcol h x)) * A (ix2 k (kcol h x))) * scale - R (ix3 h 0 k) - L (ix3 h r 0))
  else 0

end Cert.Heads

namespace Cert.DkvIdeal.Block

open Idealize.ShloMosaic Idealize.SL.Sem Cert.DkvIdeal Cert.DkvIdeal.Gen Cert.Heads Cert.Sums

variable (m : (ℓ : Loc nD τ sig) → Buf (Elt Ideal) ℓ) (c : Dev nD)

/-- Where each window's block lies, from the point's head and key block. -/
theorem idx : ∀ t : Fin cfg0.N, win0_0.index t = ![(grid0.coords t 1).val, 16 + (grid0.coords t 0).val]
    ∧ win0_1.index t = ![(grid0.coords t 1).val, 32 + (grid0.coords t 0).val] ∧ win0_2.index t = ![0, (grid0.coords t 0).val]
    ∧ win0_3.index t = ![0, (grid0.coords t 0).val] ∧ win0_4.index t = ![0, (grid0.coords t 0).val]
    ∧ win0_5.index t = ![(grid0.coords t 0).val, 0, 0] ∧ win0_6.index t = ![(grid0.coords t 0).val, 0, (grid0.coords t 1).val]
    ∧ win0_7.index t = ![(grid0.coords t 1).val, (grid0.coords t 0).val] ∧ win0_8.index t = ![(grid0.coords t 1).val, (grid0.coords t 0).val]
    ∧ win0_9.index t = ![(grid0.coords t 0).val, 0, (grid0.coords t 1).val] :=
  (by decide +kernel : ∀ t : Fin grid0.N, _)

theorem coord0_lt : ∀ t : Fin cfg0.N, (grid0.coords t 0).val < 16 := (by decide +kernel : ∀ t : Fin grid0.N, _)

/-- The head of a point. -/
def hd (t : Fin cfg0.N) : Fin 16 := ⟨(grid0.coords t 0).val, coord0_lt t⟩
/-- The token of a point's key `b`. -/
def tok (t : Fin cfg0.N) (b : Fin 1024) : Fin 4096 := ⟨1024 * (grid0.coords t 1).val + b.val, by have := coord_lt t; have := b.isLt; omega⟩

variable (t : Fin cfg0.N)

/-- The device's arrays, whatever they hold. -/
abbrev Arrays (c : Dev nD) := (b : Ref sig .tc) → Buf (Elt Ideal) ((c.tc : Thread nD τ).loc b)

theorem opened0 (X : Arrays c) (y : S1024x128.Idx) :
    ((cfg0.win 0).blk t).view.read (Elt Ideal) (X (Pipeline.arrRef spec0 0)) y = X main_arg0 ((win0_0.blk t).view.emb y) := rfl
theorem place0 (b : Fin 1024) (d : Fin 128) : (win0_0.blk t).view.emb (ix2 b d) = ix2 (tok t b) (kcol (hd t) d) := by
  unfold tok kcol hd; blk_ext [(idx t).1]
theorem read0 (b : Fin 1024) (d : Fin 128) : (iblk m c 0 t : Vec Ideal S1024x128 .bf16) (ix2 b d) = V m c main_arg0 (ix2 (tok t b) (kcol (hd t) d)) :=
  (opened0 c t (V m c) _).trans (congrArg (V m c main_arg0) (place0 t b d))
theorem opened1 (X : Arrays c) (y : S1024x128.Idx) :
    ((cfg0.win 1).blk t).view.read (Elt Ideal) (X (Pipeline.arrRef spec0 1)) y = X main_arg0 ((win0_1.blk t).view.emb y) := rfl
theorem place1 (b : Fin 1024) (d : Fin 128) : (win0_1.blk t).view.emb (ix2 b d) = ix2 (tok t b) (vcol (hd t) d) := by
  unfold tok vcol hd; blk_ext [(idx t).2.1]
theorem read1 (b : Fin 1024) (d : Fin 128) : (iblk m c 1 t : Vec Ideal S1024x128 .bf16) (ix2 b d) = V m c main_arg0 (ix2 (tok t b) (vcol (hd t) d)) :=
  (opened1 c t (V m c) _).trans (congrArg (V m c main_arg0) (place1 t b d))
theorem opened2 (X : Arrays c) (y : S4096x128.Idx) :
    ((cfg0.win 2).blk t).view.read (Elt Ideal) (X (Pipeline.arrRef spec0 2)) y = X main_arg0 ((win0_2.blk t).view.emb y) := rfl
theorem place2 (r : Fin 4096) (d : Fin 128) : (win0_2.blk t).view.emb (ix2 r d) = ix2 r (qcol (hd t) d) := by
  unfold qcol hd; blk_ext [(idx t).2.2.1]
theorem read2 (r : Fin 4096) (d : Fin 128) : (iblk m c 2 t : Vec Ideal S4096x128 .bf16) (ix2 r d) = V m c main_arg0 (ix2 r (qcol (hd t) d)) :=
  (opened2 c t (V m c) _).trans (congrArg (V m c main_arg0) (place2 t r d))
theorem opened3 (X : Arrays c) (y : S4096x128.Idx) :
    ((cfg0.win 3).blk t).view.read (Elt Ideal) (X (Pipeline.arrRef spec0 3)) y = X main_v74 ((win0_3.blk t).view.emb y) := rfl
theorem place3 (r : Fin 4096) (d : Fin 128) : (win0_3.blk t).view.emb (ix2 r d) = ix2 r (col (hd t) d) := by
  unfold col hd; blk_ext [(idx t).2.2.2.1]
theorem read3 (r : Fin 4096) (d : Fin 128) : (iblk m c 3 t : Vec Ideal S4096x128 .bf16) (ix2 r d) = V m c main_v74 (ix2 r (col (hd t) d)) :=
  (opened3 c t (V m c) _).trans (congrArg (V m c main_v74) (place3 t r d))
theorem opened4 (X : Arrays c) (y : S4096x128.Idx) :
    ((cfg0.win 4).blk t).view.read (Elt Ideal) (X (Pipeline.arrRef spec0 4)) y = X main_arg2 ((win0_4.blk t).view.emb y) := rfl
theorem place4 (r : Fin 4096) (d : Fin 128) : (win0_4.blk t).view.emb (ix2 r d) = ix2 r (col (hd t) d) := by
  unfold col hd; blk_ext [(idx t).2.2.2.2.1]
theorem read4 (r : Fin 4096) (d : Fin 128) : (iblk m c 4 t : Vec Ideal S4096x128 .bf16) (ix2 r d) = V m c main_arg2 (ix2 r (col (hd t) d)) :=
  (opened4 c t (V m c) _).trans (congrArg (V m c main_arg2) (place4 t r d))
theorem opened5 (X : Arrays c) (y : S1x4096x128.Idx) :
    ((cfg0.win 5).blk t).view.read (Elt Ideal) (X (Pipeline.arrRef spec0 5)) y = X main_v76 ((win0_5.blk t).view.emb y) := rfl
theorem place5 (r : Fin 4096) : (win0_5.blk t).view.emb (ix3 0 r 0) = ix3 (hd t) r 0 := by
  unfold hd; blk_ext [(idx t).2.2.2.2.2.1]
theorem read5 (r : Fin 4096) : (iblk m c 5 t : Vec Ideal S1x4096x128 .f32) (ix3 0 r 0) = V m c main_v76 (ix3 (hd t) r 0) :=
  (opened5 c t (V m c) _).trans (congrArg (V m c main_v76) (place5 t r))
theorem opened6 (X : Arrays c) (y : S1x1x1024.Idx) :
    ((cfg0.win 6).blk t).view.read (Elt Ideal) (X (Pipeline.arrRef spec0 6)) y = X main_arg1 ((win0_6.blk t).view.emb y) := rfl
theorem place6 (b : Fin 1024) : (win0_6.blk t).view.emb (ix3 0 0 b) = ix3 (hd t) 0 (tok t b) := by
  unfold tok hd; blk_ext [(idx t).2.2.2.2.2.2.1]
theorem read6 (b : Fin 1024) : (iblk m c 6 t : Vec Ideal S1x1x1024 .f32) (ix3 0 0 b) = V m c main_arg1 (ix3 (hd t) 0 (tok t b)) :=
  (opened6 c t (V m c) _).trans (congrArg (V m c main_arg1) (place6 t b))

/-- A point's derivative of a score is the array's. -/
theorem ds_eq (b : Fin 1024) (r : Fin 4096) :
    ds (grid0.coords t 1).val (iblk m c 0 t) (iblk m c 1 t) (iblk m c 2 t) (iblk m c 3 t) (iblk m c 4 t) (iblk m c 5 t) (iblk m c 6 t) b r
      = dscore (V m c main_arg0) (V m c main_arg1) (V m c main_arg2) (V m c main_v74) (V m c main_v76) (hd t) r (tok t b) := by
  unfold ds dscore
  simp only [read0, read1, read2, read3, read4, read5, read6]
  rfl

/-- A point's probability is the array's. -/
theorem pr_eq (b : Fin 1024) (r : Fin 4096) :
    pr (grid0.coords t 1).val (iblk m c 0 t) (iblk m c 2 t) (iblk m c 5 t) (iblk m c 6 t) b r
      = seen (V m c main_arg0) (V m c main_arg1) (V m c main_v76) (hd t) r (tok t b) := by
  unfold pr seen
  simp only [read0, read2, read5, read6]
  rfl

/-- The gradient of the keys. -/
theorem array7 : (dats m 0 c).arrAt 7 cfg0.N = fun y : S4096x2048.Idx =>
    (∑ r, dscore (V m c main_arg0) (V m c main_arg1) (V m c main_arg2) (V m c main_v74) (V m c main_v76) (head (y 1)) r (y 0)
      * (V m c main_arg0 : S4096x6144.Idx → EReal) (ix2 r (qcol (head (y 1)) (coord (y 1))))) * scale := by
  refine (dats m 0 c).arrAt_eq_of_covers 7 _ (by decide +kernel) fun t hf y => ?_
  blk_simp
  obtain ⟨b, d, rfl⟩ : ∃ (b : Fin 1024) (d : Fin 128), y = ix2 b d := ⟨y 0, y 1, eq_ix2 y⟩
  rw [after7]
  have e0 : (win0_7.blk t).view.emb (ix2 b d) = ix2 (tok t b) (col (hd t) d) := by
    unfold tok col hd; blk_ext [(idx t).2.2.2.2.2.2.2.1]
  rw [e0]
  unfold dsQ
  simp only [ds_eq, read2]
  show _ = (∑ r, dscore _ _ _ _ _ (head (col (hd t) d)) r (tok t b) * (V m c main_arg0 : S4096x6144.Idx → EReal) (ix2 r (qcol (head (col (hd t) d)) (coord (col (hd t) d))))) * scale
  rw [head_col, coord_col]

/-- The gradient of the values. -/
theorem array8 : (dats m 0 c).arrAt 8 cfg0.N = fun y : S4096x2048.Idx =>
    ∑ r, seen (V m c main_arg0) (V m c main_arg1) (V m c main_v76) (head (y 1)) r (y 0)
      * (V m c main_arg2 : S4096x2048.Idx → EReal) (ix2 r (y 1)) := by
  refine (dats m 0 c).arrAt_eq_of_covers 8 _ (by decide +kernel) fun t hf y => ?_
  blk_simp
  obtain ⟨b, d, rfl⟩ : ∃ (b : Fin 1024) (d : Fin 128), y = ix2 b d := ⟨y 0, y 1, eq_ix2 y⟩
  rw [after8]
  have e0 : (win0_8.blk t).view.emb (ix2 b d) = ix2 (tok t b) (col (hd t) d) := by
    unfold tok col hd; blk_ext [(idx t).2.2.2.2.2.2.2.2.1]
  rw [e0]
  unfold prD
  simp only [pr_eq, read4]
  show _ = ∑ r, seen _ _ _ (head (col (hd t) d)) r (tok t b) * (V m c main_arg2 : S4096x2048.Idx → EReal) (ix2 r (col (hd t) d))
  rw [head_col]

/-- The keys' share of the gradient of the forget gates' running sums: the derivatives of key `k`'s scores taken away, block of queries by block of
    queries. -/
def taken (A : S4096x6144.Idx → EReal) (R : S16x1x4096.Idx → EReal) (D O : S4096x2048.Idx → EReal) (L : S16x4096x128.Idx → EReal) (h : Fin 16) (k : Fin 4096) :
    EReal :=
  ∑ i ∈ Finset.Ico (k.val / 1024) 4, -∑ a : Fin 1024, ext (fun r => dscore A R D O L h r k) (1024 * i + a.val)

theorem after9_taken (b : Fin 1024) : (dats m 0 c).after 9 t (ix3 0 0 b)
    = taken (V m c main_arg0) (V m c main_arg1) (V m c main_arg2) (V m c main_v74) (V m c main_v76) (hd t) (tok t b) := by
  have e1 : (tok t b).val / 1024 = (grid0.coords t 1).val := by unfold tok; show (1024 * _ + b.val) / 1024 = _; omega
  have h : taken (V m c main_arg0) (V m c main_arg1) (V m c main_arg2) (V m c main_v74) (V m c main_v76) (hd t) (tok t b)
      = ∑ i ∈ Finset.Ico (grid0.coords t 1).val 4, -∑ a : Fin 1024,
        ext (ds (grid0.coords t 1).val (iblk m c 0 t) (iblk m c 1 t) (iblk m c 2 t) (iblk m c 3 t) (iblk m c 4 t) (iblk m c 5 t) (iblk m c 6 t) b)
          (1024 * i + a.val) := by
    unfold taken
    rw [e1]
    refine Finset.sum_congr rfl fun i _ => congrArg _ (Finset.sum_congr rfl fun a _ => ?_)
    exact congrArg (fun g => ext g _) (funext fun r => (ds_eq m c t b r).symm)
  exact (after9 m c t b).trans h.symm

/-- The keys' share of the gradient of the forget gates' running sums. -/
theorem array9 : (dats m 0 c).arrAt 9 cfg0.N = fun y : S16x1x4096.Idx =>
    taken (V m c main_arg0) (V m c main_arg1) (V m c main_arg2) (V m c main_v74) (V m c main_v76) (y 0) (y 2) := by
  refine (dats m 0 c).arrAt_eq_of_covers 9 _ (by decide +kernel) fun t hf y => ?_
  blk_simp
  obtain ⟨b, rfl⟩ : ∃ b : Fin 1024, y = ix3 0 0 b := ⟨y 2, by
    refine (eq_ix3 y).trans ?_
    congr 1 <;> exact Subsingleton.elim (α := Fin 1) _ _⟩
  rw [after9_taken]
  have e0 : (win0_9.blk t).view.emb (ix3 0 0 b) = ix3 (hd t) 0 (tok t b) := by
    unfold tok hd; blk_ext [(idx t).2.2.2.2.2.2.2.2.2]
  rw [e0]
  rfl

end Cert.DkvIdeal.Block
-- ==== Proof.DkvEq.lean ====
/- The kernel's three result arrays at arguments that are real numbers. What the forward lines hand the kernel is what they hand the kernel
   for the gradient of the queries. -/
module

public import proofs.«01_k».proof.Proof.DkvArray
public import proofs.«01_k».proof.Proof.DqHost

@[expose] public section

set_option maxRecDepth 16384

noncomputable section

namespace Cert.DkvIdeal.Forward

open Idealize.ShloMosaic Idealize.SL.Sem Cert.DkvIdeal Cert.DkvIdeal.Gen Cert.Heads Cert.Attn Cert.Softmax Cert.Sums
open Cert.DqIdeal.Forward (lse output exps masked top top' total scores sums qheads kheads vheads output_real lse_real)

section
variable (m : (ℓ : Loc nD τ sig) → Buf (Elt Ideal) ℓ) (c : Dev nD)

theorem lse_array : V m c main_v76 = lse (masked (m ((c.tc : Thread nD τ).loc main_arg0)) (m ((c.tc : Thread nD τ).loc main_arg1))) (m ((c.tc : Thread nD τ).loc main_arg1)) := by
  unfold V
  simp only [hostOps0, hostOps0_1, hostOps0_2, hostOps0_3, hostOps0_4, List.flatten_cons, List.flatten_nil, List.cons_append, List.nil_append]
  entry_read
  unfold lse total exps top masked scores sums qheads kheads
  rfl

theorem output_array : V m c main_v74 = output (exps (masked (m ((c.tc : Thread nD τ).loc main_arg0)) (m ((c.tc : Thread nD τ).loc main_arg1)))
    (top' (masked (m ((c.tc : Thread nD τ).loc main_arg0)) (m ((c.tc : Thread nD τ).loc main_arg1))))) (m ((c.tc : Thread nD τ).loc main_arg0)) := by
  unfold V
  simp only [hostOps0, hostOps0_1, hostOps0_2, hostOps0_3, hostOps0_4, List.flatten_cons, List.flatten_nil, List.cons_append, List.nil_append]
  entry_read
  unfold output total exps top' top masked scores sums qheads kheads vheads
  rfl
end

section
variable (a : S4096x6144.Idx → ℝ) (f : S16x1x4096.Idx → ℝ) (e : S4096x2048.Idx → ℝ)

/-- A probability from the row's log-sum. -/
theorem seen_coe (L : S16x4096x128.Idx → EReal) (h : Fin 16) (r k : Fin 4096) (M : ℝ)
    (hL : L (ix3 h r 0) = ((M + Real.log (∑ j, ex (vis r) (x a f h r) M j) - f (ix3 h 0 r) : ℝ) : EReal)) :
    seen (fun i => (a i : EReal)) (fun i => (f i : EReal)) L h r k = (prob (vis r) (x a f h r) k : EReal) := by
  unfold seen
  by_cases hk : k.val ≤ r.val
  · rw [if_pos hk, ← exp_sub_lse (vis r) (x a f h r) (vis_self r) M k hk, hL, scale_eq]
    simp only [← EReal.coe_mul, ← coe_sum, ← EReal.coe_sub, Ideal.exp_coe]
    refine congrArg (fun u : ℝ => ((Real.exp u : ℝ) : EReal)) ?_
    rw [x]; ring
  · rw [if_neg hk, prob_of_not _ _ _ hk]; rfl

/-- Taking real derivatives away block by block takes their sum away. -/
theorem taken_coe (A : S4096x6144.Idx → EReal) (R : S16x1x4096.Idx → EReal) (D O : S4096x2048.Idx → EReal) (L : S16x4096x128.Idx → EReal) (h : Fin 16) (k : Fin 4096)
    (δ : Fin 4096 → ℝ) (hδ : ∀ r, Heads.dscore A R D O L h r k = (δ r : EReal)) :
    Block.taken A R D O L h k = ((-∑ r, δ r : ℝ) : EReal) := by
  have hk := k.isLt
  have e1 : (fun r => Heads.dscore A R D O L h r k) = fun r => (δ r : EReal) := funext hδ
  unfold Block.taken
  rw [sum_neg_blocks _ (fun i => if p : i < 4096 then δ ⟨i, p⟩ else 0) (fun i => by rw [e1, ext]; split <;> simp_all) 1024 _ 4 (by omega),
    ← sum_eq_Ico _ (1024 * (k.val / 1024)) (fun r hr => by rw [Heads.dscore, if_neg (by omega)]), EReal.coe_neg, coe_sum]
  exact congrArg _ (Finset.sum_congr rfl fun r _ => hδ r)
end

variable (m : (ℓ : Loc nD τ sig) → Buf (Elt Ideal) ℓ) (c : Dev nD)
  (a : S4096x6144.Idx → ℝ) (f : S16x1x4096.Idx → ℝ) (e : S4096x2048.Idx → ℝ)
  (ha : m ((c.tc : Thread nD τ).loc main_arg0) = fun i => (a i : EReal))
  (hf : m ((c.tc : Thread nD τ).loc main_arg1) = fun i => (f i : EReal))
  (he : m ((c.tc : Thread nD τ).loc main_arg2) = fun i => (e i : EReal))

include ha hf he in
/-- The derivative of a score, as the kernel has it. -/
theorem ds_real (h : Fin 16) (r k : Fin 4096) :
    Heads.dscore (V m c main_arg0) (V m c main_arg1) (V m c main_arg2) (V m c main_v74) (V m c main_v76) h r k = (ds a f e h r k : EReal) := by
  have h0 : V m c main_arg0 = fun i => (a i : EReal) := (V_main_arg0 m c).trans ha
  have h1 : V m c main_arg1 = fun i => (f i : EReal) := (V_main_arg1 m c).trans hf
  have h2 : V m c main_arg2 = fun i => (e i : EReal) := (V_main_arg2 m c).trans he
  have h3 := output_array m c
  have h4 := lse_array m c
  rw [ha, hf] at h3 h4
  rw [h0, h1, h2, h3, h4]
  obtain ⟨M, hM⟩ := lse_real a f h r 0
  exact dscore_coe a f e _ _ h r k M (fun d => output_real a f h r d) hM

include ha hf in
/-- A probability, as the kernel has it. -/
theorem seen_real (h : Fin 16) (r k : Fin 4096) :
    seen (V m c main_arg0) (V m c main_arg1) (V m c main_v76) h r k = (prob (vis r) (x a f h r) k : EReal) := by
  have h0 : V m c main_arg0 = fun i => (a i : EReal) := (V_main_arg0 m c).trans ha
  have h1 : V m c main_arg1 = fun i => (f i : EReal) := (V_main_arg1 m c).trans hf
  have h4 := lse_array m c
  rw [ha, hf] at h4
  rw [h0, h1, h4]
  obtain ⟨M, hM⟩ := lse_real a f h r 0
  exact seen_coe a f _ h r k M hM

include ha hf he in
theorem keys (y : S4096x2048.Idx) : (dats m 0 c).arrAt 7 cfg0.N y
    = (((∑ r, ds a f e (head (y 1)) r (y 0) * a (ix2 r (qcol (head (y 1)) (coord (y 1))))) * s : ℝ) : EReal) := by
  have h0 : V m c main_arg0 = fun i => (a i : EReal) := (V_main_arg0 m c).trans ha
  refine (congrFun (Block.array7 m c) y).trans ?_
  refine (congrArg (fun u : EReal => u * scale) (Finset.sum_congr rfl fun r _ =>
    congrArg₂ (fun u v : EReal => u * v) (ds_real m c a f e ha hf he (head (y 1)) r (y 0)) (congrFun h0 (ix2 r (qcol (head (y 1)) (coord (y 1))))))).trans ?_
  rw [scale_eq]
  simp only [← EReal.coe_mul, ← coe_sum]

include ha hf he in
theorem values (y : S4096x2048.Idx) : (dats m 0 c).arrAt 8 cfg0.N y
    = ((∑ r, prob (vis r) (x a f (head (y 1)) r) (y 0) * e (ix2 r (y 1)) : ℝ) : EReal) := by
  have h2 : V m c main_arg2 = fun i => (e i : EReal) := (V_main_arg2 m c).trans he
  refine (congrFun (Block.array8 m c) y).trans ?_
  refine (Finset.sum_congr rfl fun r _ =>
    congrArg₂ (fun u v : EReal => u * v) (seen_real m c a f ha hf (head (y 1)) r (y 0)) (congrFun h2 (ix2 r (y 1)))).trans ?_
  simp only [← EReal.coe_mul, ← coe_sum]

include ha hf he in
theorem gates (y : S16x1x4096.Idx) : (dats m 0 c).arrAt 9 cfg0.N y = ((-∑ r, ds a f e (y 0) r (y 2) : ℝ) : EReal) :=
  (congrFun (Block.array9 m c) y).trans (taken_coe _ _ _ _ _ (y 0) (y 2) _ fun r => ds_real m c a f e ha hf he (y 0) r (y 2))

end Cert.DkvIdeal.Forward
-- ==== Proof.DkvRef.lean ====
/- The reference for the gradients of the keys and values, entry by entry, at arguments that are real numbers. Its scores, their
   exponentials and their sums are those of the reference for the gradient of the queries. -/
module

public import proofs.«01_k».proof.Proof.Gen.DkvRefIdeal.Read
public import proofs.«01_k».proof.Proof.DqRef

@[expose] public section

set_option maxRecDepth 16384

noncomputable section

namespace Cert.DkvRefIdeal.Entry

open Idealize.ShloMosaic Idealize.SL.Sem Cert.DkvRefIdeal Cert.DkvRefIdeal.Gen Cert.DkvRefIdeal.Read Cert.Heads Cert.Words Cert.Attn Cert.Softmax
open Cert.DqRefIdeal.Entry (Packed Gates Deriv A' R' D' qcol_eq kcol_eq vcol_eq col_eq less_real masked_at)

section Words
variable (A : Packed) (R : Gates) (D : Deriv) (h : Fin 16) (r k : Fin 4096)

/-- The exponentials are the other reference's. -/
theorem exps_same : val_main_v48 (F := Ideal) A R = Cert.DqRefIdeal.Read.val_main_v48 (F := Ideal) A R := rfl
/-- The mask is the other reference's. -/
theorem mask_same : val_main_v27_1 (F := Ideal) = Cert.DqRefIdeal.Read.val_main_v27_1 (F := Ideal) := rfl
/-- The sums of the exponentials are the other reference's. -/
theorem total_same : val_main_v49 (F := Ideal) A R = Cert.DqRefIdeal.Read.val_main_v49 (F := Ideal) A R := rfl
/-- The derivatives of the probabilities are the other reference's. -/
theorem deriv_same : val_main_v66 (F := Ideal) A D = Cert.DqRefIdeal.Read.val_main_v64 (F := Ideal) A D := rfl
/-- The derivatives of the scores are the other reference's. -/
theorem weighed_same : val_main_v81 (F := Ideal) A R D = Cert.DqRefIdeal.Read.val_main_v77 (F := Ideal) A R D := rfl

theorem prob_at : val_main_v52 (F := Ideal) A R (ix3 h r k)
    = Ideal.div (val_main_v48 (F := Ideal) A R (ix3 h r k)) (val_main_v49 (F := Ideal) A R (ix2 h r)) := by
  unfold val_main_v52 val_main_v51 val_main_v50
  generalize val_main_v49 (F := Ideal) A R = Z
  generalize val_main_v48 (F := Ideal) A R = E
  pointwise []

theorem values_word (j : Fin 2048) : val_main_v92 (F := Ideal) A R D (ix2 k j)
    = ∑ r : Fin 4096, D (ix2 r j) * val_main_v52 (F := Ideal) A R (ix3 (head j) r k) := by
  unfold val_main_v92 val_main_v68 val_main_v67 val_main_v65 val_main_v64 val_main_v63 val_main_v62 val_main_v61
  generalize val_main_v52 (F := Ideal) A R = P
  pointwise [head]

theorem keys_word (j : Fin 2048) : val_main_v91 (F := Ideal) A R D (ix2 k j)
    = ∑ r : Fin 4096, (val_main_v81 (F := Ideal) A R D (ix3 (head j) r k) * scale) * A (ix2 r ⟨j.val, by omega⟩) := by
  unfold val_main_v91 val_main_v90 val_main_v89 val_main_v88 val_main_v87 val_main_v86
  generalize val_main_v81 (F := Ideal) A R D = G
  pointwise [val_main_v8, val_main_v7, val_main_v1, val_main_v0, val_main_cst_15, head]

theorem gates_at : val_main_v93 (F := Ideal) A R D (ix3 h 0 k) = ∑ r, -val_main_v81 (F := Ideal) A R D (ix3 h r k) := by
  unfold val_main_v93 val_main_v85 val_main_v84 val_main_v83 val_main_v82
  generalize val_main_v81 (F := Ideal) A R D = G
  pointwise [val_main_cst_13, val_main_cst_14]
  simp only [Finset.univ_unique, Finset.sum_singleton]
end Words

variable (a : S4096x6144.Idx → ℝ) (f : S16x1x4096.Idx → ℝ) (e : S4096x2048.Idx → ℝ) (h : Fin 16) (r k : Fin 4096)

/-- The probabilities. -/
theorem prob_real : val_main_v52 (F := Ideal) (A' a) (R' f) (ix3 h r k) = (prob (vis r) (x a f h r) k : EReal) := by
  obtain ⟨M, hM⟩ := less_real a f h r
  have hE : ∀ j, val_main_v48 (F := Ideal) (A' a) (R' f) (ix3 h r j) = (ex (vis r) (x a f h r) M j : EReal) := fun j => by
    rw [exps_same, Cert.DqRefIdeal.Entry.exps_at, hM, masked_at, exp_logit]
  have hZ : val_main_v49 (F := Ideal) (A' a) (R' f) (ix2 h r) = ((∑ j, ex (vis r) (x a f h r) M j : ℝ) : EReal) := by
    rw [total_same, Cert.DqRefIdeal.Entry.total_at, coe_sum]
    exact Finset.sum_congr rfl fun j _ => by rw [← exps_same, hE]
  rw [prob_at, hE, hZ]
  exact div_eq_prob (vis r) (x a f h r) (vis_self r) M k

/-- The derivatives of the scores. -/
theorem weighed_real : val_main_v81 (F := Ideal) (A' a) (R' f) (D' e) (ix3 h r k) = (ds a f e h r k : EReal) := by
  rw [weighed_same, Cert.DqRefIdeal.Entry.weighed_real]

/-- The derivative of the keys. -/
theorem keys_array (A : Packed) (R : Gates) (D : Deriv) (ha : A = fun i => (a i : EReal)) (hf : R = fun i => (f i : EReal)) (he : D = fun i => (e i : EReal)) :
    val_main_v91 (F := Ideal) A R D = fun y : S4096x2048.Idx =>
      (((∑ r, ds a f e (head (y 1)) r (y 0) * a (ix2 r (qcol (head (y 1)) (coord (y 1))))) * s : ℝ) : EReal) := by
  subst ha; subst hf; subst he
  refine funext fun y => ?_
  obtain ⟨k, j, rfl⟩ : ∃ (k : Fin 4096) (j : Fin 2048), y = ix2 k j := ⟨y 0, y 1, eq_ix2 y⟩
  refine (keys_word _ _ _ k j).trans ?_
  have c : (⟨j.val, by omega⟩ : Fin 6144) = qcol (head j) (coord j) := Fin.ext (by simp only [qcol, head, coord]; omega)
  simp only [weighed_real, c, scale_eq, ← EReal.coe_mul, ← coe_sum]
  refine congrArg _ ?_
  rw [Finset.sum_mul]
  exact Finset.sum_congr rfl fun r _ => mul_right_comm _ _ _

/-- The derivative of the values. -/
theorem values_array (A : Packed) (R : Gates) (D : Deriv) (ha : A = fun i => (a i : EReal)) (hf : R = fun i => (f i : EReal)) (he : D = fun i => (e i : EReal)) :
    val_main_v92 (F := Ideal) A R D = fun y : S4096x2048.Idx =>
      ((∑ r, prob (vis r) (x a f (head (y 1)) r) (y 0) * e (ix2 r (y 1)) : ℝ) : EReal) := by
  subst ha; subst hf; subst he
  refine funext fun y => ?_
  obtain ⟨k, j, rfl⟩ : ∃ (k : Fin 4096) (j : Fin 2048), y = ix2 k j := ⟨y 0, y 1, eq_ix2 y⟩
  refine (values_word _ _ _ k j).trans ?_
  simp only [prob_real, ← EReal.coe_mul, ← coe_sum]
  exact congrArg _ (Finset.sum_congr rfl fun r _ => mul_comm _ _)

/-- The derivative of the gates' sums along the keys. -/
theorem gates_array (A : Packed) (R : Gates) (D : Deriv) (ha : A = fun i => (a i : EReal)) (hf : R = fun i => (f i : EReal)) (he : D = fun i => (e i : EReal)) :
    val_main_v93 (F := Ideal) A R D = fun y : S16x1x4096.Idx => ((-∑ r, ds a f e (y 0) r (y 2) : ℝ) : EReal) := by
  subst ha; subst hf; subst he
  refine funext fun y => ?_
  obtain ⟨h, k, rfl⟩ : ∃ (h : Fin 16) (k : Fin 4096), y = ix3 h 0 k :=
    ⟨y 0, y 2, (eq_ix3 y).trans (congrArg (fun u => ix3 (y 0) u (y 2)) (Subsingleton.elim (α := Fin 1) _ _))⟩
  refine (gates_at _ _ _ h k).trans ?_
  simp only [weighed_real, ← EReal.coe_neg, ← coe_sum, Finset.sum_neg_distrib]
  rfl

end Cert.DkvRefIdeal.Entry
-- ==== Proof.DkvClaims.lean ====
/- The claims about the gradient of the keys and values. -/
module

public import proofs.«01_k».proof.Defs
public import proofs.«01_k».proof.Proof.DkvEq
public import proofs.«01_k».proof.Proof.DkvRef
public import proofs.«01_k».proof.Proof.Finite
public import proofs.«01_k».proof.Proof.Gen.Dkv
public import proofs.«01_k».proof.Proof.Gen.Dkv.Frame
public import proofs.«01_k».proof.Proof.Gen.DkvRefIdeal.Run
public import proofs.«01_k».proof.Proof.Gen.DkvRefIdeal
public import Idealize.ShloMosaic.Lib.Claim

@[expose] public section

set_option maxRecDepth 16384

noncomputable section

namespace Cert.Proof.Dkv

open Idealize.ShloMosaic Idealize.SL.Sem Cert.Heads Cert.Attn

attribute [local instance] Cert.Dkv.Gen.facts Cert.DkvIdeal.Gen.facts Cert.DkvRefIdeal.Gen.facts Cert.Finite.facts

theorem frame_p : Cert.quiescent_Dkv := fun m ρ _ => Cert.Dkv.Gen.frame m ρ
theorem frame_pi : Cert.quiescent_DkvIdeal := fun m ρ _ => Cert.DkvIdeal.Gen.frame m ρ
theorem frame_pi_finite : Cert.quiescent_DkvIdeal_pre_finite := fun m ρ _ => Cert.DkvIdeal.Gen.frame m ρ
theorem frame_ri : Cert.quiescent_DkvRefIdeal := fun m ρ _ =>
  (θ_run Cert.DkvRefIdeal.defs _ _).mono (fun r h => ⟨fun c => (h c).2.2.2, sem_eq_zero_of_no_sems (by decide) r.2⟩) (Cert.DkvRefIdeal.Value.run (F := Ideal) m ρ)
theorem frame_ri_finite : Cert.quiescent_DkvRefIdeal_pre_finite := fun m ρ _ => frame_ri m ρ trivial
theorem preserves : Cert.preserves_Dkv_DkvIdeal := trivial

/-- Over the extended reals the kernel's results and the reference's are equal wherever every entry of the arguments is a real number. -/
theorem algebraic : Cert.algebraic_DkvIdeal_DkvRefIdeal_pre_finite := by
  intro m g m' g' hpre hagree
  refine ⟨_, _, _, Cert.DkvIdeal.Value.run_blocks m g, ?_⟩
  refine (θ_run Cert.DkvRefIdeal.defs _ _).mono (fun r h c => ?_) (Cert.DkvRefIdeal.Value.run (F := Ideal) m' g')
  obtain ⟨h0, h1, h2, h3⟩ := h c
  obtain ⟨ha, hf, he⟩ := Cert.Finite.real_args _ _ _ (hpre c)
  obtain ⟨e0, e1, e2⟩ := hagree c
  refine ⟨h0.trans ?_, h1.trans ?_, h2.trans ?_, h3⟩
  · refine (Cert.DkvRefIdeal.Read.val_main_v91_eq m' c).trans ?_
    refine (Cert.DkvRefIdeal.Entry.keys_array _ _ _ _ _ _ (e0.trans ha) (e1.trans hf) (e2.trans he)).trans ?_
    exact (funext fun y => Cert.DkvIdeal.Forward.keys m c _ _ _ ha hf he y).symm
  · refine (Cert.DkvRefIdeal.Read.val_main_v92_eq m' c).trans ?_
    refine (Cert.DkvRefIdeal.Entry.values_array _ _ _ _ _ _ (e0.trans ha) (e1.trans hf) (e2.trans he)).trans ?_
    exact (funext fun y => Cert.DkvIdeal.Forward.values m c _ _ _ ha hf he y).symm
  · refine (Cert.DkvRefIdeal.Read.val_main_v93_eq m' c).trans ?_
    refine (Cert.DkvRefIdeal.Entry.gates_array _ _ _ _ _ _ (e0.trans ha) (e1.trans hf) (e2.trans he)).trans ?_
    exact (funext fun y => Cert.DkvIdeal.Forward.gates m c _ _ _ ha hf he y).symm

end Cert.Proof.Dkv
-- ==== Proof.Product.lean ====
/- The three forms of a product of two matrices, entry by entry: `A · B`, `A · Bᵀ` and `Aᵀ · B`. -/
module

public import Idealize.ShloMosaic.PureOps.Ideal
public import Idealize.ShloMosaic.Lib.Pointwise
public import proofs.«01_k».proof.Proof.Sums

@[expose] public section

noncomputable section

namespace Cert.Product

open Idealize.ShloMosaic

/-- A matrix of `M` rows and `N` columns over the extended reals. -/
abbrev Mat (M N : ℕ) := (⟨2, ![M, N]⟩ : Shape).Idx → EReal

variable {M N K : ℕ}

/-- One term of an entry of `A · B`. -/
abbrev termNN (A : Mat M K) (B : Mat K N) (a : Fin M) (b : Fin N) (k : Fin K) : EReal := A (ix2 a k) * B (ix2 k b)

/-- `A · B`. -/
def nn (A : Mat M K) (B : Mat K N) : Mat M N := fun y => ∑ k : Fin K, termNN A B (y 0) (y 1) k
/-- `A · Bᵀ`. -/
def nt (A : Mat M K) (B : Mat N K) : Mat M N := fun y => ∑ k : Fin K, A (ix2 (y 0) k) * B (ix2 (y 1) k)
/-- `Aᵀ · B`. -/
def tn (A : Mat K M) (B : Mat K N) : Mat M N := fun y => ∑ k : Fin K, A (ix2 k (y 0)) * B (ix2 k (y 1))

/-- The sum of two matrices. -/
def add (X Y : Mat M N) : Mat M N := fun y => X y + Y y
/-- A residual `X` and `Y` times a gate `G` on its columns. -/
def gate (X : Mat M N) (G : Mat 1 N) (Y : Mat M N) : Mat M N := fun y => X y + G (ix2 0 (y 1)) * Y y
theorem gate_congr {X X' : Mat M N} {G G' : Mat 1 N} {Y Y' : Mat M N} (hX : X = X') (hG : G = G') (hY : Y = Y') : gate X G Y = gate X' G' Y' := by
  subst hX; subst hG; subst hY; rfl

/-- The sum of the first `n` terms of an entry of `A · B`. -/
def upto (A : Mat M K) (B : Mat K N) (a : Fin M) (b : Fin N) (n : ℕ) : EReal := ∑ k ∈ Finset.range n, Sums.ext (termNN A B a b) k

theorem upto_zero (A : Mat M K) (B : Mat K N) (a : Fin M) (b : Fin N) : upto A B a b 0 = 0 := by simp [upto]

/-- One more block of `L` terms. -/
theorem upto_block (A : Mat M K) (B : Mat K N) (a : Fin M) (b : Fin N) (L n : ℕ) (h : L * (n + 1) ≤ K) :
    upto A B a b (L * (n + 1)) = upto A B a b (L * n)
      + ∑ x : Fin L, termNN A B a b ⟨L * n + x.val, by have := x.isLt; rw [Nat.mul_succ] at h; omega⟩ := by
  unfold upto
  rw [Sums.sum_block]
  exact congrArg₂ (· + ·) rfl (Finset.sum_congr rfl fun x _ => Sums.ext_of_lt _ _ _)

/-- The first block of terms. -/
theorem first_block (A : Mat M K) (B : Mat K N) (a : Fin M) (b : Fin N) (L n : ℕ) (h : L * (n + 1) ≤ K) (h0 : n = 0) :
    ∑ x : Fin L, termNN A B a b ⟨L * n + x.val, by have := x.isLt; rw [Nat.mul_succ] at h; omega⟩ = upto A B a b (L * (n + 1)) := by
  rw [upto_block A B a b L n h]
  subst h0
  exact ((congrArg (· + _) (upto_zero A B a b)).trans (zero_add _)).symm

/-- All the terms are the entry. -/
theorem upto_all (A : Mat M K) (B : Mat K N) (y : (⟨2, ![M, N]⟩ : Shape).Idx) : upto A B (y 0) (y 1) K = nn A B y := by
  unfold upto nn
  exact (Sums.sum_eq_range _ K le_rfl fun k hk => absurd k.isLt (by omega)).symm

end Cert.Product
-- ==== Proof.QkvDx.lean ====
/- The call for the gradient of the attention's input: its result is the product `A · B` of its first two arguments, added to the third.
   A grid point computes one tile of 512 rows and 1024 columns, adding one 3th of the terms. -/
module

public import proofs.«01_k».proof.Defs
public import proofs.«01_k».proof.Proof.Product
public import proofs.«01_k».proof.Proof.Gen.QkvDx
public import proofs.«01_k».proof.Proof.Gen.QkvDx.Frame
public import proofs.«01_k».proof.Proof.Gen.QkvDxIdeal
public import proofs.«01_k».proof.Proof.Gen.QkvDxIdeal.Value
public import proofs.«01_k».proof.Proof.Gen.QkvDxRefIdeal
public import proofs.«01_k».proof.Proof.Gen.QkvDxRefIdeal.Run
public import proofs.«01_k».proof.Proof.Gen.QkvDxRefIdeal.Read
public import Idealize.ShloMosaic.Lib.Pipeline.ValueKit
public import Idealize.ShloMosaic.Lib.Pointwise
public import Idealize.ShloMosaic.Lib.WholeRead
public import Idealize.ShloMosaic.Lib.Claim

@[expose] public section

set_option maxRecDepth 16384

noncomputable section

namespace Cert.QkvDxIdeal.Entry

open Idealize.ShloMosaic Idealize.SL.Sem Cert.QkvDxIdeal Cert.QkvDxIdeal.Gen

variable (m : (ℓ : Loc nD τ sig) → Buf (Elt Ideal) ℓ) (c : Dev nD)

/-- Where each window's block lies. -/
theorem idx : ∀ t : Fin cfg0.N, win0_0.index t = ![t.val / 3 % 8, t.val % 3] ∧ win0_1.index t = ![t.val % 3, t.val / 24] ∧ win0_2.index t = ![t.val / 3 % 8, t.val / 24] ∧ win0_3.index t = ![t.val / 3 % 8, t.val / 24] ∧ t.val < 48 :=
  (by decide +kernel : ∀ t : Fin grid0.N, _)

/-- The product of two blocks. -/
theorem block (A : Vec Ideal S512x2048 .bf16) (B : Vec Ideal S2048x1024 .bf16) (a : Fin 512) (b : Fin 1024) :
    k0_pay1 A B (ix2 a b) = Product.nn A B (ix2 a b) := by
  unfold Product.nn
  pointwise [k0_pay1]
/-- The first block of terms of a tile. -/
theorem first (A : Vec Ideal S512x2048 .bf16) (B : Vec Ideal S2048x1024 .bf16) (a : Fin 512) (b : Fin 1024) :
    k0_pay2 A B (ix2 a b) = Product.nn A B (ix2 a b) := by
  unfold Product.nn
  pointwise [k0_pay2, k0_pay1]
/-- A further block of terms. -/
theorem next (A : Vec Ideal S512x2048 .bf16) (B : Vec Ideal S2048x1024 .bf16) (C : Vec Ideal S512x1024 .f32) (a : Fin 512) (b : Fin 1024) :
    k0_pay3 A B C (ix2 a b) = C (ix2 a b) + Product.nn A B (ix2 a b) := by
  unfold Product.nn
  pointwise [k0_pay3, k0_pay1]
/-- The tile added to the third argument's. -/
theorem added (A B : Vec Ideal S512x1024 .f32) (y : S512x1024.Idx) : k0_pay4 A B y = (B y : EReal) + A y := rfl

variable (t : Fin cfg0.N)

/-- The device's arrays, whatever they hold. -/
abbrev Arrays (c : Dev nD) := (b : Ref sig .tc) → Buf (Elt Ideal) ((c.tc : Thread nD τ).loc b)

/-- The row of the result that a point's row `a` is. -/
def row (a : Fin 512) : Fin 4096 := ⟨512 * (t.val / 3 % 8) + a.val, by have := (idx t).2.2.2.2; have := a.isLt; omega⟩
/-- The column of the result that a point's column `b` is. -/
def col (b : Fin 1024) : Fin 2048 := ⟨1024 * (t.val / 24) + b.val, by have := (idx t).2.2.2.2; have := b.isLt; omega⟩
/-- The term of a sum that a point's term `k` is. -/
def mid (k : Fin 2048) : Fin 6144 := ⟨2048 * (t.val % 3) + k.val, by have := k.isLt; omega⟩
theorem opened0 (X : Arrays c) (y : S512x2048.Idx) :
    ((cfg0.win 0).blk t).view.read (Elt Ideal) (X (Pipeline.arrRef spec0 0)) y = X main_arg0 ((win0_0.blk t).view.emb y) := rfl
theorem place0 (a : Fin 512) (k : Fin 2048) : (win0_0.blk t).view.emb (ix2 a k) = ix2 (row t a) (mid t k) := by
  unfold row mid; blk_ext [(idx t).1]
theorem read0 (a : Fin 512) (k : Fin 2048) : (iblk m c 0 t : Vec Ideal S512x2048 .bf16) (ix2 a k) = V m c main_arg0 (ix2 (row t a) (mid t k)) :=
  (opened0 c t (V m c) _).trans (congrArg (V m c main_arg0) (place0 t a k))
theorem opened1 (X : Arrays c) (y : S2048x1024.Idx) :
    ((cfg0.win 1).blk t).view.read (Elt Ideal) (X (Pipeline.arrRef spec0 1)) y = X main_arg1 ((win0_1.blk t).view.emb y) := rfl
theorem place1 (k : Fin 2048) (b : Fin 1024) : (win0_1.blk t).view.emb (ix2 k b) = ix2 (mid t k) (col t b) := by
  unfold col mid; blk_ext [(idx t).2.1]
theorem read1 (k : Fin 2048) (b : Fin 1024) : (iblk m c 1 t : Vec Ideal S2048x1024 .bf16) (ix2 k b) = V m c main_arg1 (ix2 (mid t k) (col t b)) :=
  (opened1 c t (V m c) _).trans (congrArg (V m c main_arg1) (place1 t k b))
theorem opened2 (X : Arrays c) (y : S512x1024.Idx) :
    ((cfg0.win 2).blk t).view.read (Elt Ideal) (X (Pipeline.arrRef spec0 2)) y = X main_arg2 ((win0_2.blk t).view.emb y) := rfl
theorem place2 (a : Fin 512) (b : Fin 1024) : (win0_2.blk t).view.emb (ix2 a b) = ix2 (row t a) (col t b) := by
  unfold row col; blk_ext [(idx t).2.2.1]
theorem read2 (a : Fin 512) (b : Fin 1024) : (iblk m c 2 t : Vec Ideal S512x1024 .f32) (ix2 a b) = V m c main_arg2 (ix2 (row t a) (col t b)) :=
  (opened2 c t (V m c) _).trans (congrArg (V m c main_arg2) (place2 t a b))

/-- The terms a point adds. -/
theorem part (a : Fin 512) (b : Fin 1024) :
    Product.nn (M := 512) (N := 1024) (K := 2048) (iblk m c 0 t) (iblk m c 1 t) (ix2 a b)
      = ∑ k : Fin 2048, Product.termNN (K := 6144) (V m c main_arg0) (V m c main_arg1) (row t a) (col t b) ⟨2048 * (t.val % 3) + k.val, by have := k.isLt; omega⟩ :=
  Finset.sum_congr rfl fun k _ => congrArg₂ (· * ·) (read0 m c t a k) (read1 m c t k b)

/-- What the accumulator holds after a point: the terms of its tile so far. -/
theorem scratch : ∀ (n : ℕ) (h : n < cfg0.N) (a : Fin 512) (b : Fin 1024), (outsAt0 m c n h).2 (ix2 a b)
    = Product.upto (K := 6144) (V m c main_arg0) (V m c main_arg1) (row ⟨n, h⟩ a) (col ⟨n, h⟩ b) (2048 * (n % 3 + 1)) := by
  intro n
  induction n with
  | zero =>
    intro h a b
    rw [outsAt0_A m c ⟨0, h⟩ rfl (by simp) (by simp)]
    unfold sout0_A_0
    frame_out
    exact (first _ _ a b).trans ((part m c ⟨0, h⟩ a b).trans (Product.first_block _ _ _ _ 2048 (0 % 3) (by decide) rfl))
  | succ n ih =>
    intro h a b
    have h4 : (n + 1) % 3 < 3 := Nat.mod_lt _ (by decide)
    have hN : n + 1 < 48 := (idx ⟨n + 1, h⟩).2.2.2.2
    by_cases h0 : (n + 1) % 3 = 0
    · rw [outsAt0_A m c ⟨n + 1, h⟩ h0 (by dsimp only; omega) (by dsimp only; omega)]
      unfold sout0_A_0
      frame_out
      exact (first _ _ a b).trans ((part m c ⟨n + 1, h⟩ a b).trans (Product.first_block _ _ _ _ 2048 ((n + 1) % 3) (by omega) h0))
    · have er : row ⟨n, Nat.lt_of_succ_lt h⟩ a = row ⟨n + 1, h⟩ a := Fin.ext (by simp only [row]; omega)
      have ec : col ⟨n, Nat.lt_of_succ_lt h⟩ b = col ⟨n + 1, h⟩ b := Fin.ext (by simp only [col]; omega)
      have i := ih (Nat.lt_of_succ_lt h) a b
      rw [er, ec, show n % 3 + 1 = (n + 1) % 3 by omega] at i
      rw [Product.upto_block _ _ _ _ 2048 ((n + 1) % 3) (by omega)]
      by_cases h2 : (n + 1) % 3 = 2
      · rw [outsAt0_C m c ⟨n + 1, h⟩ h0 (by dsimp only; omega) h2]
        unfold sout0_C_0
        frame_out
        exact (next _ _ _ a b).trans (congrArg₂ (· + ·) ((congrFun (Memref.IsWhole.read_unread _ _) _).trans i) (part m c ⟨n + 1, h⟩ a b))
      · rw [outsAt0_B m c ⟨n + 1, h⟩ h0 (by dsimp only; omega) h2]
        unfold sout0_B_0
        frame_out
        exact (next _ _ _ a b).trans (congrArg₂ (· + ·) ((congrFun (Memref.IsWhole.read_unread _ _) _).trans i) (part m c ⟨n + 1, h⟩ a b))

/-- The last point of a tile writes the accumulator back, added to the third argument's tile. -/
theorem result (h : t.val % 3 = 2) (y : S512x1024.Idx) :
    (outsAt0 m c t.val t.isLt).1 y = Product.add (M := 512) (N := 1024) (iblk m c 2 t) (outsAt0 m c t.val t.isLt).2 y := by
  rw [outsAt0_C m c t (by omega) (by omega) h]
  unfold sout0_C_0 out0_C_3
  dsimp only
  frame_out
  exact added _ _ y

/-- The tile the last point of it leaves. -/
theorem after3 (h : t.val % 3 = 2) (a : Fin 512) (b : Fin 1024) :
    (dats m 0 c).after 3 t (ix2 a b) = Product.add (M := 4096) (N := 2048) (V m c main_arg2) (Product.nn (M := 4096) (N := 2048) (K := 6144) (V m c main_arg0) (V m c main_arg1)) (ix2 (row t a) (col t b)) := by
  rw [after0_3]
  have e : (outsAt0 m c t.val t.isLt).2 (ix2 a b) = Product.nn (M := 4096) (N := 2048) (K := 6144) (V m c main_arg0) (V m c main_arg1) (ix2 (row t a) (col t b)) := by
    refine (scratch m c t.val t.isLt a b).trans ?_
    rw [h]
    exact Product.upto_all (K := 6144) _ _ (ix2 (row t a) (col t b))
  exact (result m c t h _).trans (congrArg₂ (· + ·) (read2 m c t a b) e)

/-- The result. -/
theorem array : (dats m 0 c).arrAt 3 cfg0.N = Product.add (M := 4096) (N := 2048) (V m c main_arg2) (Product.nn (M := 4096) (N := 2048) (K := 6144) (V m c main_arg0) (V m c main_arg1)) := by
  refine (dats m 0 c).arrAt_eq_of_covers 3 _ (by decide +kernel) fun t hf y => ?_
  blk_simp
  obtain ⟨a, b, rfl⟩ : ∃ (a : Fin 512) (b : Fin 1024), y = ix2 a b := ⟨y 0, y 1, eq_ix2 y⟩
  refine (after3 m c t ((flush0_3 t).mp hf) a b).trans ?_
  have e0 : (win0_3.blk t).view.emb (ix2 a b) = ix2 (row t a) (col t b) := by
    unfold row col; blk_ext [(idx t).2.2.2.1]
  exact congrArg (Product.add (M := 4096) (N := 2048) (V m c main_arg2) (Product.nn (M := 4096) (N := 2048) (K := 6144) (V m c main_arg0) (V m c main_arg1))) e0.symm

end Cert.QkvDxIdeal.Entry

namespace Cert.QkvDxRefIdeal.Entry

open Idealize.ShloMosaic Idealize.SL.Sem Cert.QkvDxRefIdeal

/-- The reference's product. -/
theorem product (A : (⟨S4096x6144, .bf16⟩ : BufTy).Contents (Elt Ideal)) (B : (⟨S6144x2048, .bf16⟩ : BufTy).Contents (Elt Ideal)) :
    Read.val_main_v5 (F := Ideal) A B = Product.nn (M := 4096) (N := 2048) (K := 6144) A B := by
  funext y
  refine (Read.val_main_v5_apply A B _).trans (Finset.sum_congr rfl fun k _ => ?_)
  exact (congrArg₂ (· * ·) (congrArg A (eq_ix2 _)) (congrArg B (eq_ix2 _)))

/-- The reference's result. -/
theorem result (A : (⟨S4096x6144, .bf16⟩ : BufTy).Contents (Elt Ideal)) (B : (⟨S6144x2048, .bf16⟩ : BufTy).Contents (Elt Ideal)) (X : (⟨S4096x2048, .f32⟩ : BufTy).Contents (Elt Ideal)) :
    Read.val_main_v6 (F := Ideal) A B X = Product.add (M := 4096) (N := 2048) X (Product.nn (M := 4096) (N := 2048) (K := 6144) A B) :=
  funext fun y => congrArg ((X y : EReal) + ·) (congrFun (product A B) y)

end Cert.QkvDxRefIdeal.Entry

namespace Cert.Proof.QkvDx

open Idealize.ShloMosaic Idealize.SL.Sem

attribute [local instance] Cert.QkvDx.Gen.facts Cert.QkvDxIdeal.Gen.facts Cert.QkvDxRefIdeal.Gen.facts

theorem frame_p : Cert.quiescent_QkvDx := fun m ρ _ => Cert.QkvDx.Gen.frame m ρ
theorem frame_pi : Cert.quiescent_QkvDxIdeal := fun m ρ _ => Cert.QkvDxIdeal.Gen.frame m ρ
theorem frame_ri : Cert.quiescent_QkvDxRefIdeal := fun m ρ _ =>
  (θ_run Cert.QkvDxRefIdeal.defs _ _).mono (fun r h => ⟨fun c => (h c).2, sem_eq_zero_of_no_sems (by decide) r.2⟩) (Cert.QkvDxRefIdeal.Value.run (F := Ideal) m ρ)
theorem preserves : Cert.preserves_QkvDx_QkvDxIdeal := trivial

/-- Over the extended reals the call and the reference leave the same result. -/
theorem algebraic : Cert.algebraic_QkvDxIdeal_QkvDxRefIdeal := by
  intro m g m' g' _ hagree
  refine ⟨_, Cert.QkvDxIdeal.Value.run_blocks m g, ?_⟩
  refine (θ_run Cert.QkvDxRefIdeal.defs _ _).mono (fun r h c => ?_) (Cert.QkvDxRefIdeal.Value.run (F := Ideal) m' g')
  obtain ⟨h0, h1⟩ := h c
  obtain ⟨e0, e1, e2⟩ := hagree c
  refine ⟨h0.trans ?_, h1⟩
  exact ((Cert.QkvDxRefIdeal.Entry.result _ _ _).trans (congrArg₂ Product.add e2 (congrArg₂ (Product.nn (M := 4096) (N := 2048) (K := 6144)) e0 e1))).trans (Cert.QkvDxIdeal.Entry.array m c).symm

end Cert.Proof.QkvDx
-- ==== Proof.QkvDw.lean ====
/- The call for the gradient of the attention's input projection: its result is the product `Aᵀ · B` of its first two arguments.
   A grid point computes one tile of 512 rows and 1024 columns. -/
module

public import proofs.«01_k».proof.Defs
public import proofs.«01_k».proof.Proof.Product
public import proofs.«01_k».proof.Proof.Gen.QkvDw
public import proofs.«01_k».proof.Proof.Gen.QkvDw.Frame
public import proofs.«01_k».proof.Proof.Gen.QkvDwIdeal
public import proofs.«01_k».proof.Proof.Gen.QkvDwIdeal.Value
public import proofs.«01_k».proof.Proof.Gen.QkvDwRefIdeal
public import proofs.«01_k».proof.Proof.Gen.QkvDwRefIdeal.Run
public import proofs.«01_k».proof.Proof.Gen.QkvDwRefIdeal.Read
public import Idealize.ShloMosaic.Lib.Pipeline.ValueKit
public import Idealize.ShloMosaic.Lib.Pointwise
public import Idealize.ShloMosaic.Lib.WholeRead
public import Idealize.ShloMosaic.Lib.Claim

@[expose] public section

set_option maxRecDepth 16384

noncomputable section

namespace Cert.QkvDwIdeal.Entry

open Idealize.ShloMosaic Idealize.SL.Sem Cert.QkvDwIdeal Cert.QkvDwIdeal.Gen

variable (m : (ℓ : Loc nD τ sig) → Buf (Elt Ideal) ℓ) (c : Dev nD)

/-- Where each window's block lies. -/
theorem idx : ∀ t : Fin cfg0.N, win0_0.index t = ![0, t.val % 12] ∧ win0_1.index t = ![0, t.val / 12] ∧ win0_2.index t = ![t.val % 12, t.val / 12] ∧ t.val < 24 :=
  (by decide +kernel : ∀ t : Fin grid0.N, _)

/-- The product of two blocks. -/
theorem block (A : Vec Ideal S4096x512 .bf16) (B : Vec Ideal S4096x1024 .bf16) (a : Fin 512) (b : Fin 1024) :
    k0_pay1 A B (ix2 a b) = Product.tn A B (ix2 a b) := by
  unfold Product.tn
  pointwise [k0_pay1]

variable (t : Fin cfg0.N)

/-- The device's arrays, whatever they hold. -/
abbrev Arrays (c : Dev nD) := (b : Ref sig .tc) → Buf (Elt Ideal) ((c.tc : Thread nD τ).loc b)

/-- The row of the result that a point's row `a` is. -/
def row (a : Fin 512) : Fin 6144 := ⟨512 * (t.val % 12) + a.val, by have := (idx t).2.2.2; have := a.isLt; omega⟩
/-- The column of the result that a point's column `b` is. -/
def col (b : Fin 1024) : Fin 2048 := ⟨1024 * (t.val / 12) + b.val, by have := (idx t).2.2.2; have := b.isLt; omega⟩
theorem opened0 (X : Arrays c) (y : S4096x512.Idx) :
    ((cfg0.win 0).blk t).view.read (Elt Ideal) (X (Pipeline.arrRef spec0 0)) y = X main_arg0 ((win0_0.blk t).view.emb y) := rfl
theorem place0 (k : Fin 4096) (a : Fin 512) : (win0_0.blk t).view.emb (ix2 k a) = ix2 (k) (row t a) := by
  unfold row; blk_ext [(idx t).1]
theorem read0 (k : Fin 4096) (a : Fin 512) : (iblk m c 0 t : Vec Ideal S4096x512 .bf16) (ix2 k a) = V m c main_arg0 (ix2 (k) (row t a)) :=
  (opened0 c t (V m c) _).trans (congrArg (V m c main_arg0) (place0 t k a))
theorem opened1 (X : Arrays c) (y : S4096x1024.Idx) :
    ((cfg0.win 1).blk t).view.read (Elt Ideal) (X (Pipeline.arrRef spec0 1)) y = X main_arg1 ((win0_1.blk t).view.emb y) := rfl
theorem place1 (k : Fin 4096) (b : Fin 1024) : (win0_1.blk t).view.emb (ix2 k b) = ix2 (k) (col t b) := by
  unfold col; blk_ext [(idx t).2.1]
theorem read1 (k : Fin 4096) (b : Fin 1024) : (iblk m c 1 t : Vec Ideal S4096x1024 .bf16) (ix2 k b) = V m c main_arg1 (ix2 (k) (col t b)) :=
  (opened1 c t (V m c) _).trans (congrArg (V m c main_arg1) (place1 t k b))

/-- The tile a point leaves. -/
theorem after2 (a : Fin 512) (b : Fin 1024) : (dats m 0 c).after 2 t (ix2 a b) = Product.tn (M := 6144) (N := 2048) (K := 4096) (V m c main_arg0) (V m c main_arg1) (ix2 (row t a) (col t b)) := by
  rw [after0_2]
  unfold out0_2
  frame_out
  exact (block _ _ a b).trans (Finset.sum_congr rfl fun k _ => congrArg₂ (· * ·) (read0 m c t k a) (read1 m c t k b))

/-- The result is the product. -/
theorem array : (dats m 0 c).arrAt 2 cfg0.N = Product.tn (M := 6144) (N := 2048) (K := 4096) (V m c main_arg0) (V m c main_arg1) := by
  refine (dats m 0 c).arrAt_eq_of_covers 2 _ (by decide +kernel) fun t hf y => ?_
  blk_simp
  obtain ⟨a, b, rfl⟩ : ∃ (a : Fin 512) (b : Fin 1024), y = ix2 a b := ⟨y 0, y 1, eq_ix2 y⟩
  refine (after2 m c t a b).trans ?_
  have e0 : (win0_2.blk t).view.emb (ix2 a b) = ix2 (row t a) (col t b) := by
    unfold row col; blk_ext [(idx t).2.2.1]
  exact congrArg (Product.tn (M := 6144) (N := 2048) (K := 4096) (V m c main_arg0) (V m c main_arg1)) e0.symm

end Cert.QkvDwIdeal.Entry

namespace Cert.QkvDwRefIdeal.Entry

open Idealize.ShloMosaic Idealize.SL.Sem Cert.QkvDwRefIdeal

/-- The reference's product. -/
theorem product (A : (⟨S4096x6144, .bf16⟩ : BufTy).Contents (Elt Ideal)) (B : (⟨S4096x2048, .bf16⟩ : BufTy).Contents (Elt Ideal)) :
    Read.val_main_v8 (F := Ideal) A B = Product.tn (M := 6144) (N := 2048) (K := 4096) A B := by
  funext y
  refine (Read.val_main_v5_apply A B _).trans (Finset.sum_congr rfl fun k _ => ?_)
  exact (congrArg₂ (· * ·) (congrArg A (eq_ix2 _)) (congrArg B (eq_ix2 _)))

end Cert.QkvDwRefIdeal.Entry

namespace Cert.Proof.QkvDw

open Idealize.ShloMosaic Idealize.SL.Sem

attribute [local instance] Cert.QkvDw.Gen.facts Cert.QkvDwIdeal.Gen.facts Cert.QkvDwRefIdeal.Gen.facts

theorem frame_p : Cert.quiescent_QkvDw := fun m ρ _ => Cert.QkvDw.Gen.frame m ρ
theorem frame_pi : Cert.quiescent_QkvDwIdeal := fun m ρ _ => Cert.QkvDwIdeal.Gen.frame m ρ
theorem frame_ri : Cert.quiescent_QkvDwRefIdeal := fun m ρ _ =>
  (θ_run Cert.QkvDwRefIdeal.defs _ _).mono (fun r h => ⟨fun c => (h c).2, sem_eq_zero_of_no_sems (by decide) r.2⟩) (Cert.QkvDwRefIdeal.Value.run (F := Ideal) m ρ)
theorem preserves : Cert.preserves_QkvDw_QkvDwIdeal := trivial

/-- Over the extended reals the call and the reference leave the same result. -/
theorem algebraic : Cert.algebraic_QkvDwIdeal_QkvDwRefIdeal := by
  intro m g m' g' _ hagree
  refine ⟨_, Cert.QkvDwIdeal.Value.run_blocks m g, ?_⟩
  refine (θ_run Cert.QkvDwRefIdeal.defs _ _).mono (fun r h c => ?_) (Cert.QkvDwRefIdeal.Value.run (F := Ideal) m' g')
  obtain ⟨h0, h1⟩ := h c
  obtain ⟨e0, e1⟩ := hagree c
  refine ⟨h0.trans ?_, h1⟩
  exact ((Cert.QkvDwRefIdeal.Entry.product _ _).trans (congrArg₂ (Product.tn (M := 6144) (N := 2048) (K := 4096)) e0 e1)).trans (Cert.QkvDwIdeal.Entry.array m c).symm

end Cert.Proof.QkvDw
-- ==== Proof.Qkv.lean ====
/- The call for the queries, keys and values of the attention: its result is the product `A · Bᵀ` of its first two arguments.
   A grid point computes one tile of 1024 rows and 1024 columns. -/
module

public import proofs.«01_k».proof.Defs
public import proofs.«01_k».proof.Proof.Product
public import proofs.«01_k».proof.Proof.Gen.Qkv
public import proofs.«01_k».proof.Proof.Gen.Qkv.Frame
public import proofs.«01_k».proof.Proof.Gen.QkvIdeal
public import proofs.«01_k».proof.Proof.Gen.QkvIdeal.Value
public import proofs.«01_k».proof.Proof.Gen.QkvRefIdeal
public import proofs.«01_k».proof.Proof.Gen.QkvRefIdeal.Run
public import proofs.«01_k».proof.Proof.Gen.QkvRefIdeal.Read
public import Idealize.ShloMosaic.Lib.Pipeline.ValueKit
public import Idealize.ShloMosaic.Lib.Pointwise
public import Idealize.ShloMosaic.Lib.WholeRead
public import Idealize.ShloMosaic.Lib.Claim

@[expose] public section

set_option maxRecDepth 16384

noncomputable section

namespace Cert.QkvIdeal.Entry

open Idealize.ShloMosaic Idealize.SL.Sem Cert.QkvIdeal Cert.QkvIdeal.Gen

variable (m : (ℓ : Loc nD τ sig) → Buf (Elt Ideal) ℓ) (c : Dev nD)

/-- Where each window's block lies. -/
theorem idx : ∀ t : Fin cfg0.N, win0_0.index t = ![t.val % 4, 0] ∧ win0_1.index t = ![t.val / 4, 0] ∧ win0_2.index t = ![t.val % 4, t.val / 4] ∧ t.val < 24 :=
  (by decide +kernel : ∀ t : Fin grid0.N, _)

/-- The product of two blocks. -/
theorem block (A : Vec Ideal S1024x2048 .bf16) (B : Vec Ideal S1024x2048 .bf16) (a : Fin 1024) (b : Fin 1024) :
    k0_pay1 A B (ix2 a b) = Product.nt A B (ix2 a b) := by
  unfold Product.nt
  pointwise [k0_pay1]

variable (t : Fin cfg0.N)

/-- The device's arrays, whatever they hold. -/
abbrev Arrays (c : Dev nD) := (b : Ref sig .tc) → Buf (Elt Ideal) ((c.tc : Thread nD τ).loc b)

/-- The row of the result that a point's row `a` is. -/
def row (a : Fin 1024) : Fin 4096 := ⟨1024 * (t.val % 4) + a.val, by have := (idx t).2.2.2; have := a.isLt; omega⟩
/-- The column of the result that a point's column `b` is. -/
def col (b : Fin 1024) : Fin 6144 := ⟨1024 * (t.val / 4) + b.val, by have := (idx t).2.2.2; have := b.isLt; omega⟩
theorem opened0 (X : Arrays c) (y : S1024x2048.Idx) :
    ((cfg0.win 0).blk t).view.read (Elt Ideal) (X (Pipeline.arrRef spec0 0)) y = X main_arg0 ((win0_0.blk t).view.emb y) := rfl
theorem place0 (a : Fin 1024) (k : Fin 2048) : (win0_0.blk t).view.emb (ix2 a k) = ix2 (row t a) (k) := by
  unfold row; blk_ext [(idx t).1]
theorem read0 (a : Fin 1024) (k : Fin 2048) : (iblk m c 0 t : Vec Ideal S1024x2048 .bf16) (ix2 a k) = V m c main_arg0 (ix2 (row t a) (k)) :=
  (opened0 c t (V m c) _).trans (congrArg (V m c main_arg0) (place0 t a k))
theorem opened1 (X : Arrays c) (y : S1024x2048.Idx) :
    ((cfg0.win 1).blk t).view.read (Elt Ideal) (X (Pipeline.arrRef spec0 1)) y = X main_arg1 ((win0_1.blk t).view.emb y) := rfl
theorem place1 (b : Fin 1024) (k : Fin 2048) : (win0_1.blk t).view.emb (ix2 b k) = ix2 (col t b) (k) := by
  unfold col; blk_ext [(idx t).2.1]
theorem read1 (b : Fin 1024) (k : Fin 2048) : (iblk m c 1 t : Vec Ideal S1024x2048 .bf16) (ix2 b k) = V m c main_arg1 (ix2 (col t b) (k)) :=
  (opened1 c t (V m c) _).trans (congrArg (V m c main_arg1) (place1 t b k))

/-- The tile a point leaves. -/
theorem after2 (a : Fin 1024) (b : Fin 1024) : (dats m 0 c).after 2 t (ix2 a b) = Product.nt (M := 4096) (N := 6144) (K := 2048) (V m c main_arg0) (V m c main_arg1) (ix2 (row t a) (col t b)) := by
  rw [after0_2]
  unfold out0_2
  frame_out
  exact (block _ _ a b).trans (Finset.sum_congr rfl fun k _ => congrArg₂ (· * ·) (read0 m c t a k) (read1 m c t b k))

/-- The result is the product. -/
theorem array : (dats m 0 c).arrAt 2 cfg0.N = Product.nt (M := 4096) (N := 6144) (K := 2048) (V m c main_arg0) (V m c main_arg1) := by
  refine (dats m 0 c).arrAt_eq_of_covers 2 _ (by decide +kernel) fun t hf y => ?_
  blk_simp
  obtain ⟨a, b, rfl⟩ : ∃ (a : Fin 1024) (b : Fin 1024), y = ix2 a b := ⟨y 0, y 1, eq_ix2 y⟩
  refine (after2 m c t a b).trans ?_
  have e0 : (win0_2.blk t).view.emb (ix2 a b) = ix2 (row t a) (col t b) := by
    unfold row col; blk_ext [(idx t).2.2.1]
  exact congrArg (Product.nt (M := 4096) (N := 6144) (K := 2048) (V m c main_arg0) (V m c main_arg1)) e0.symm

end Cert.QkvIdeal.Entry

namespace Cert.QkvRefIdeal.Entry

open Idealize.ShloMosaic Idealize.SL.Sem Cert.QkvRefIdeal

/-- The reference's product. -/
theorem product (A : (⟨S4096x2048, .bf16⟩ : BufTy).Contents (Elt Ideal)) (B : (⟨S6144x2048, .bf16⟩ : BufTy).Contents (Elt Ideal)) :
    Read.val_main_v4 (F := Ideal) A B = Product.nt (M := 4096) (N := 6144) (K := 2048) A B := by
  funext y
  refine (Read.val_main_v3_apply A B _).trans (Finset.sum_congr rfl fun k _ => ?_)
  exact (congrArg₂ (· * ·) (congrArg A (eq_ix2 _)) (congrArg B (eq_ix2 _)))

end Cert.QkvRefIdeal.Entry

namespace Cert.Proof.Qkv

open Idealize.ShloMosaic Idealize.SL.Sem

attribute [local instance] Cert.Qkv.Gen.facts Cert.QkvIdeal.Gen.facts Cert.QkvRefIdeal.Gen.facts

theorem frame_p : Cert.quiescent_Qkv := fun m ρ _ => Cert.Qkv.Gen.frame m ρ
theorem frame_pi : Cert.quiescent_QkvIdeal := fun m ρ _ => Cert.QkvIdeal.Gen.frame m ρ
theorem frame_ri : Cert.quiescent_QkvRefIdeal := fun m ρ _ =>
  (θ_run Cert.QkvRefIdeal.defs _ _).mono (fun r h => ⟨fun c => (h c).2, sem_eq_zero_of_no_sems (by decide) r.2⟩) (Cert.QkvRefIdeal.Value.run (F := Ideal) m ρ)
theorem preserves : Cert.preserves_Qkv_QkvIdeal := trivial

/-- Over the extended reals the call and the reference leave the same result. -/
theorem algebraic : Cert.algebraic_QkvIdeal_QkvRefIdeal := by
  intro m g m' g' _ hagree
  refine ⟨_, Cert.QkvIdeal.Value.run_blocks m g, ?_⟩
  refine (θ_run Cert.QkvRefIdeal.defs _ _).mono (fun r h c => ?_) (Cert.QkvRefIdeal.Value.run (F := Ideal) m' g')
  obtain ⟨h0, h1⟩ := h c
  obtain ⟨e0, e1⟩ := hagree c
  refine ⟨h0.trans ?_, h1⟩
  exact ((Cert.QkvRefIdeal.Entry.product _ _).trans (congrArg₂ (Product.nt (M := 4096) (N := 6144) (K := 2048)) e0 e1)).trans (Cert.QkvIdeal.Entry.array m c).symm

end Cert.Proof.Qkv
-- ==== Proof.OutDx.lean ====
/- The call for the gradient of the mixers' output before its projection: its result is the product `A · Bᵀ` of its first two arguments.
   A grid point computes one tile of 1024 rows and 1024 columns. -/
module

public import proofs.«01_k».proof.Defs
public import proofs.«01_k».proof.Proof.Product
public import proofs.«01_k».proof.Proof.Gen.OutDx
public import proofs.«01_k».proof.Proof.Gen.OutDx.Frame
public import proofs.«01_k».proof.Proof.Gen.OutDxIdeal
public import proofs.«01_k».proof.Proof.Gen.OutDxIdeal.Value
public import proofs.«01_k».proof.Proof.Gen.OutDxRefIdeal
public import proofs.«01_k».proof.Proof.Gen.OutDxRefIdeal.Run
public import proofs.«01_k».proof.Proof.Gen.OutDxRefIdeal.Read
public import Idealize.ShloMosaic.Lib.Pipeline.ValueKit
public import Idealize.ShloMosaic.Lib.Pointwise
public import Idealize.ShloMosaic.Lib.WholeRead
public import Idealize.ShloMosaic.Lib.Claim

@[expose] public section

set_option maxRecDepth 16384

noncomputable section

namespace Cert.OutDxIdeal.Entry

open Idealize.ShloMosaic Idealize.SL.Sem Cert.OutDxIdeal Cert.OutDxIdeal.Gen

variable (m : (ℓ : Loc nD τ sig) → Buf (Elt Ideal) ℓ) (c : Dev nD)

/-- Where each window's block lies. -/
theorem idx : ∀ t : Fin cfg0.N, win0_0.index t = ![t.val % 4, 0] ∧ win0_1.index t = ![t.val / 4, 0] ∧ win0_2.index t = ![t.val % 4, t.val / 4] ∧ t.val < 8 :=
  (by decide +kernel : ∀ t : Fin grid0.N, _)

/-- The product of two blocks. -/
theorem block (A : Vec Ideal S1024x2048 .bf16) (B : Vec Ideal S1024x2048 .bf16) (a : Fin 1024) (b : Fin 1024) :
    k0_pay1 A B (ix2 a b) = Product.nt A B (ix2 a b) := by
  unfold Product.nt
  pointwise [k0_pay1]

variable (t : Fin cfg0.N)

/-- The device's arrays, whatever they hold. -/
abbrev Arrays (c : Dev nD) := (b : Ref sig .tc) → Buf (Elt Ideal) ((c.tc : Thread nD τ).loc b)

/-- The row of the result that a point's row `a` is. -/
def row (a : Fin 1024) : Fin 4096 := ⟨1024 * (t.val % 4) + a.val, by have := (idx t).2.2.2; have := a.isLt; omega⟩
/-- The column of the result that a point's column `b` is. -/
def col (b : Fin 1024) : Fin 2048 := ⟨1024 * (t.val / 4) + b.val, by have := (idx t).2.2.2; have := b.isLt; omega⟩
theorem opened0 (X : Arrays c) (y : S1024x2048.Idx) :
    ((cfg0.win 0).blk t).view.read (Elt Ideal) (X (Pipeline.arrRef spec0 0)) y = X main_arg0 ((win0_0.blk t).view.emb y) := rfl
theorem place0 (a : Fin 1024) (k : Fin 2048) : (win0_0.blk t).view.emb (ix2 a k) = ix2 (row t a) (k) := by
  unfold row; blk_ext [(idx t).1]
theorem read0 (a : Fin 1024) (k : Fin 2048) : (iblk m c 0 t : Vec Ideal S1024x2048 .bf16) (ix2 a k) = V m c main_arg0 (ix2 (row t a) (k)) :=
  (opened0 c t (V m c) _).trans (congrArg (V m c main_arg0) (place0 t a k))
theorem opened1 (X : Arrays c) (y : S1024x2048.Idx) :
    ((cfg0.win 1).blk t).view.read (Elt Ideal) (X (Pipeline.arrRef spec0 1)) y = X main_arg1 ((win0_1.blk t).view.emb y) := rfl
theorem place1 (b : Fin 1024) (k : Fin 2048) : (win0_1.blk t).view.emb (ix2 b k) = ix2 (col t b) (k) := by
  unfold col; blk_ext [(idx t).2.1]
theorem read1 (b : Fin 1024) (k : Fin 2048) : (iblk m c 1 t : Vec Ideal S1024x2048 .bf16) (ix2 b k) = V m c main_arg1 (ix2 (col t b) (k)) :=
  (opened1 c t (V m c) _).trans (congrArg (V m c main_arg1) (place1 t b k))

/-- The tile a point leaves. -/
theorem after2 (a : Fin 1024) (b : Fin 1024) : (dats m 0 c).after 2 t (ix2 a b) = Product.nt (M := 4096) (N := 2048) (K := 2048) (V m c main_arg0) (V m c main_arg1) (ix2 (row t a) (col t b)) := by
  rw [after0_2]
  unfold out0_2
  frame_out
  exact (block _ _ a b).trans (Finset.sum_congr rfl fun k _ => congrArg₂ (· * ·) (read0 m c t a k) (read1 m c t b k))

/-- The result is the product. -/
theorem array : (dats m 0 c).arrAt 2 cfg0.N = Product.nt (M := 4096) (N := 2048) (K := 2048) (V m c main_arg0) (V m c main_arg1) := by
  refine (dats m 0 c).arrAt_eq_of_covers 2 _ (by decide +kernel) fun t hf y => ?_
  blk_simp
  obtain ⟨a, b, rfl⟩ : ∃ (a : Fin 1024) (b : Fin 1024), y = ix2 a b := ⟨y 0, y 1, eq_ix2 y⟩
  refine (after2 m c t a b).trans ?_
  have e0 : (win0_2.blk t).view.emb (ix2 a b) = ix2 (row t a) (col t b) := by
    unfold row col; blk_ext [(idx t).2.2.1]
  exact congrArg (Product.nt (M := 4096) (N := 2048) (K := 2048) (V m c main_arg0) (V m c main_arg1)) e0.symm

end Cert.OutDxIdeal.Entry

namespace Cert.OutDxRefIdeal.Entry

open Idealize.ShloMosaic Idealize.SL.Sem Cert.OutDxRefIdeal

/-- The reference's product. -/
theorem product (A : (⟨S4096x2048, .bf16⟩ : BufTy).Contents (Elt Ideal)) (B : (⟨S2048x2048, .bf16⟩ : BufTy).Contents (Elt Ideal)) :
    Read.val_main_v5 (F := Ideal) A B = Product.nt (M := 4096) (N := 2048) (K := 2048) A B := by
  funext y
  refine (Read.val_main_v4_apply A B _).trans (Finset.sum_congr rfl fun k _ => ?_)
  exact (congrArg₂ (· * ·) (congrArg A (eq_ix2 _)) (congrArg B (eq_ix2 _)))

end Cert.OutDxRefIdeal.Entry

namespace Cert.Proof.OutDx

open Idealize.ShloMosaic Idealize.SL.Sem

attribute [local instance] Cert.OutDx.Gen.facts Cert.OutDxIdeal.Gen.facts Cert.OutDxRefIdeal.Gen.facts

theorem frame_p : Cert.quiescent_OutDx := fun m ρ _ => Cert.OutDx.Gen.frame m ρ
theorem frame_pi : Cert.quiescent_OutDxIdeal := fun m ρ _ => Cert.OutDxIdeal.Gen.frame m ρ
theorem frame_ri : Cert.quiescent_OutDxRefIdeal := fun m ρ _ =>
  (θ_run Cert.OutDxRefIdeal.defs _ _).mono (fun r h => ⟨fun c => (h c).2, sem_eq_zero_of_no_sems (by decide) r.2⟩) (Cert.OutDxRefIdeal.Value.run (F := Ideal) m ρ)
theorem preserves : Cert.preserves_OutDx_OutDxIdeal := trivial

/-- Over the extended reals the call and the reference leave the same result. -/
theorem algebraic : Cert.algebraic_OutDxIdeal_OutDxRefIdeal := by
  intro m g m' g' _ hagree
  refine ⟨_, Cert.OutDxIdeal.Value.run_blocks m g, ?_⟩
  refine (θ_run Cert.OutDxRefIdeal.defs _ _).mono (fun r h c => ?_) (Cert.OutDxRefIdeal.Value.run (F := Ideal) m' g')
  obtain ⟨h0, h1⟩ := h c
  obtain ⟨e0, e1⟩ := hagree c
  refine ⟨h0.trans ?_, h1⟩
  exact ((Cert.OutDxRefIdeal.Entry.product _ _).trans (congrArg₂ (Product.nt (M := 4096) (N := 2048) (K := 2048)) e0 e1)).trans (Cert.OutDxIdeal.Entry.array m c).symm

end Cert.Proof.OutDx
-- ==== Proof.OutDw.lean ====
/- The call for the gradient of the mixers' output projection: its result is the product `Aᵀ · B` of its first two arguments.
   A grid point computes one tile of 512 rows and 1024 columns. -/
module

public import proofs.«01_k».proof.Defs
public import proofs.«01_k».proof.Proof.Product
public import proofs.«01_k».proof.Proof.Gen.OutDw
public import proofs.«01_k».proof.Proof.Gen.OutDw.Frame
public import proofs.«01_k».proof.Proof.Gen.OutDwIdeal
public import proofs.«01_k».proof.Proof.Gen.OutDwIdeal.Value
public import proofs.«01_k».proof.Proof.Gen.OutDwRefIdeal
public import proofs.«01_k».proof.Proof.Gen.OutDwRefIdeal.Run
public import proofs.«01_k».proof.Proof.Gen.OutDwRefIdeal.Read
public import Idealize.ShloMosaic.Lib.Pipeline.ValueKit
public import Idealize.ShloMosaic.Lib.Pointwise
public import Idealize.ShloMosaic.Lib.WholeRead
public import Idealize.ShloMosaic.Lib.Claim

@[expose] public section

set_option maxRecDepth 16384

noncomputable section

namespace Cert.OutDwIdeal.Entry

open Idealize.ShloMosaic Idealize.SL.Sem Cert.OutDwIdeal Cert.OutDwIdeal.Gen

variable (m : (ℓ : Loc nD τ sig) → Buf (Elt Ideal) ℓ) (c : Dev nD)

/-- Where each window's block lies. -/
theorem idx : ∀ t : Fin cfg0.N, win0_0.index t = ![0, t.val % 4] ∧ win0_1.index t = ![0, t.val / 4] ∧ win0_2.index t = ![t.val % 4, t.val / 4] ∧ t.val < 8 :=
  (by decide +kernel : ∀ t : Fin grid0.N, _)

/-- The product of two blocks. -/
theorem block (A : Vec Ideal S4096x512 .bf16) (B : Vec Ideal S4096x1024 .bf16) (a : Fin 512) (b : Fin 1024) :
    k0_pay1 A B (ix2 a b) = Product.tn A B (ix2 a b) := by
  unfold Product.tn
  pointwise [k0_pay1]

variable (t : Fin cfg0.N)

/-- The device's arrays, whatever they hold. -/
abbrev Arrays (c : Dev nD) := (b : Ref sig .tc) → Buf (Elt Ideal) ((c.tc : Thread nD τ).loc b)

/-- The row of the result that a point's row `a` is. -/
def row (a : Fin 512) : Fin 2048 := ⟨512 * (t.val % 4) + a.val, by have := (idx t).2.2.2; have := a.isLt; omega⟩
/-- The column of the result that a point's column `b` is. -/
def col (b : Fin 1024) : Fin 2048 := ⟨1024 * (t.val / 4) + b.val, by have := (idx t).2.2.2; have := b.isLt; omega⟩
theorem opened0 (X : Arrays c) (y : S4096x512.Idx) :
    ((cfg0.win 0).blk t).view.read (Elt Ideal) (X (Pipeline.arrRef spec0 0)) y = X main_arg0 ((win0_0.blk t).view.emb y) := rfl
theorem place0 (k : Fin 4096) (a : Fin 512) : (win0_0.blk t).view.emb (ix2 k a) = ix2 (k) (row t a) := by
  unfold row; blk_ext [(idx t).1]
theorem read0 (k : Fin 4096) (a : Fin 512) : (iblk m c 0 t : Vec Ideal S4096x512 .bf16) (ix2 k a) = V m c main_arg0 (ix2 (k) (row t a)) :=
  (opened0 c t (V m c) _).trans (congrArg (V m c main_arg0) (place0 t k a))
theorem opened1 (X : Arrays c) (y : S4096x1024.Idx) :
    ((cfg0.win 1).blk t).view.read (Elt Ideal) (X (Pipeline.arrRef spec0 1)) y = X main_arg1 ((win0_1.blk t).view.emb y) := rfl
theorem place1 (k : Fin 4096) (b : Fin 1024) : (win0_1.blk t).view.emb (ix2 k b) = ix2 (k) (col t b) := by
  unfold col; blk_ext [(idx t).2.1]
theorem read1 (k : Fin 4096) (b : Fin 1024) : (iblk m c 1 t : Vec Ideal S4096x1024 .bf16) (ix2 k b) = V m c main_arg1 (ix2 (k) (col t b)) :=
  (opened1 c t (V m c) _).trans (congrArg (V m c main_arg1) (place1 t k b))

/-- The tile a point leaves. -/
theorem after2 (a : Fin 512) (b : Fin 1024) : (dats m 0 c).after 2 t (ix2 a b) = Product.tn (M := 2048) (N := 2048) (K := 4096) (V m c main_arg0) (V m c main_arg1) (ix2 (row t a) (col t b)) := by
  rw [after0_2]
  unfold out0_2
  frame_out
  exact (block _ _ a b).trans (Finset.sum_congr rfl fun k _ => congrArg₂ (· * ·) (read0 m c t k a) (read1 m c t k b))

/-- The result is the product. -/
theorem array : (dats m 0 c).arrAt 2 cfg0.N = Product.tn (M := 2048) (N := 2048) (K := 4096) (V m c main_arg0) (V m c main_arg1) := by
  refine (dats m 0 c).arrAt_eq_of_covers 2 _ (by decide +kernel) fun t hf y => ?_
  blk_simp
  obtain ⟨a, b, rfl⟩ : ∃ (a : Fin 512) (b : Fin 1024), y = ix2 a b := ⟨y 0, y 1, eq_ix2 y⟩
  refine (after2 m c t a b).trans ?_
  have e0 : (win0_2.blk t).view.emb (ix2 a b) = ix2 (row t a) (col t b) := by
    unfold row col; blk_ext [(idx t).2.2.1]
  exact congrArg (Product.tn (M := 2048) (N := 2048) (K := 4096) (V m c main_arg0) (V m c main_arg1)) e0.symm

end Cert.OutDwIdeal.Entry

namespace Cert.OutDwRefIdeal.Entry

open Idealize.ShloMosaic Idealize.SL.Sem Cert.OutDwRefIdeal

/-- The reference's product. -/
theorem product (A : (⟨S4096x2048, .bf16⟩ : BufTy).Contents (Elt Ideal)) (B : (⟨S4096x2048, .bf16⟩ : BufTy).Contents (Elt Ideal)) :
    Read.val_main_v6 (F := Ideal) A B = Product.tn (M := 2048) (N := 2048) (K := 4096) A B := by
  funext y
  refine (Read.val_main_v4_apply A B _).trans (Finset.sum_congr rfl fun k _ => ?_)
  exact (mul_comm _ _).trans (congrArg₂ (· * ·) (congrArg A (eq_ix2 _)) (congrArg B (eq_ix2 _)))

end Cert.OutDwRefIdeal.Entry

namespace Cert.Proof.OutDw

open Idealize.ShloMosaic Idealize.SL.Sem

attribute [local instance] Cert.OutDw.Gen.facts Cert.OutDwIdeal.Gen.facts Cert.OutDwRefIdeal.Gen.facts

theorem frame_p : Cert.quiescent_OutDw := fun m ρ _ => Cert.OutDw.Gen.frame m ρ
theorem frame_pi : Cert.quiescent_OutDwIdeal := fun m ρ _ => Cert.OutDwIdeal.Gen.frame m ρ
theorem frame_ri : Cert.quiescent_OutDwRefIdeal := fun m ρ _ =>
  (θ_run Cert.OutDwRefIdeal.defs _ _).mono (fun r h => ⟨fun c => (h c).2, sem_eq_zero_of_no_sems (by decide) r.2⟩) (Cert.OutDwRefIdeal.Value.run (F := Ideal) m ρ)
theorem preserves : Cert.preserves_OutDw_OutDwIdeal := trivial

/-- Over the extended reals the call and the reference leave the same result. -/
theorem algebraic : Cert.algebraic_OutDwIdeal_OutDwRefIdeal := by
  intro m g m' g' _ hagree
  refine ⟨_, Cert.OutDwIdeal.Value.run_blocks m g, ?_⟩
  refine (θ_run Cert.OutDwRefIdeal.defs _ _).mono (fun r h c => ?_) (Cert.OutDwRefIdeal.Value.run (F := Ideal) m' g')
  obtain ⟨h0, h1⟩ := h c
  obtain ⟨e0, e1⟩ := hagree c
  refine ⟨h0.trans ?_, h1⟩
  exact ((Cert.OutDwRefIdeal.Entry.product _ _).trans (congrArg₂ (Product.tn (M := 2048) (N := 2048) (K := 4096)) e0 e1)).trans (Cert.OutDwIdeal.Entry.array m c).symm

end Cert.Proof.OutDw
-- ==== Proof.Out.lean ====
/- The call for the mixers' output projection, gated and added to the residual: its result is the product `A · B` of its first two arguments, and the third plus the product times the fourth.
   A grid point computes one tile of 1024 rows and 1024 columns. -/
module

public import proofs.«01_k».proof.Defs
public import proofs.«01_k».proof.Proof.Product
public import proofs.«01_k».proof.Proof.Gen.Out
public import proofs.«01_k».proof.Proof.Gen.Out.Frame
public import proofs.«01_k».proof.Proof.Gen.OutIdeal
public import proofs.«01_k».proof.Proof.Gen.OutIdeal.Value
public import proofs.«01_k».proof.Proof.Gen.OutRefIdeal
public import proofs.«01_k».proof.Proof.Gen.OutRefIdeal.Run
public import proofs.«01_k».proof.Proof.Gen.OutRefIdeal.Read
public import Idealize.ShloMosaic.Lib.Pipeline.ValueKit
public import Idealize.ShloMosaic.Lib.Pointwise
public import Idealize.ShloMosaic.Lib.WholeRead
public import Idealize.ShloMosaic.Lib.Claim

@[expose] public section

set_option maxRecDepth 16384

noncomputable section

namespace Cert.OutIdeal.Entry

open Idealize.ShloMosaic Idealize.SL.Sem Cert.OutIdeal Cert.OutIdeal.Gen

variable (m : (ℓ : Loc nD τ sig) → Buf (Elt Ideal) ℓ) (c : Dev nD)

/-- Where each window's block lies. -/
theorem idx : ∀ t : Fin cfg0.N, win0_0.index t = ![t.val % 4, 0] ∧ win0_1.index t = ![0, t.val / 4] ∧ win0_2.index t = ![t.val % 4, t.val / 4] ∧ win0_3.index t = ![0, t.val / 4] ∧ win0_4.index t = ![t.val % 4, t.val / 4] ∧ win0_5.index t = ![t.val % 4, t.val / 4] ∧ t.val < 8 :=
  (by decide +kernel : ∀ t : Fin grid0.N, _)

/-- The product of two blocks. -/
theorem block (A : Vec Ideal S1024x2048 .bf16) (B : Vec Ideal S2048x1024 .bf16) (a : Fin 1024) (b : Fin 1024) :
    k0_pay1 A B (ix2 a b) = Product.nn A B (ix2 a b) := by
  unfold Product.nn
  pointwise [k0_pay1]
/-- The product of two blocks, times the gate's columns, added to the residual's block. -/
theorem gated (A : Vec Ideal S1024x2048 .bf16) (B : Vec Ideal S2048x1024 .bf16) (G : Vec Ideal S1x1024 .f32) (X : Vec Ideal S1024x1024 .f32) (a : Fin 1024) (b : Fin 1024) :
    k0_pay2 A B G X (ix2 a b) = (X (ix2 a b) : EReal) + (G (ix2 0 b) : EReal) * Product.nn A B (ix2 a b) := by
  unfold Product.nn
  pointwise [k0_pay2, k0_pay1]
/-- The product of two blocks in the narrower format. -/
theorem narrow (A : Vec Ideal S1024x2048 .bf16) (B : Vec Ideal S2048x1024 .bf16) (a : Fin 1024) (b : Fin 1024) :
    k0_pay3 A B (ix2 a b) = Product.nn A B (ix2 a b) := block A B a b

variable (t : Fin cfg0.N)

/-- The device's arrays, whatever they hold. -/
abbrev Arrays (c : Dev nD) := (b : Ref sig .tc) → Buf (Elt Ideal) ((c.tc : Thread nD τ).loc b)

/-- The row of the result that a point's row `a` is. -/
def row (a : Fin 1024) : Fin 4096 := ⟨1024 * (t.val % 4) + a.val, by have := (idx t).2.2.2.2.2.2; have := a.isLt; omega⟩
/-- The column of the result that a point's column `b` is. -/
def col (b : Fin 1024) : Fin 2048 := ⟨1024 * (t.val / 4) + b.val, by have := (idx t).2.2.2.2.2.2; have := b.isLt; omega⟩
theorem opened0 (X : Arrays c) (y : S1024x2048.Idx) :
    ((cfg0.win 0).blk t).view.read (Elt Ideal) (X (Pipeline.arrRef spec0 0)) y = X main_arg0 ((win0_0.blk t).view.emb y) := rfl
theorem place0 (a : Fin 1024) (k : Fin 2048) : (win0_0.blk t).view.emb (ix2 a k) = ix2 (row t a) (k) := by
  unfold row; blk_ext [(idx t).1]
theorem read0 (a : Fin 1024) (k : Fin 2048) : (iblk m c 0 t : Vec Ideal S1024x2048 .bf16) (ix2 a k) = V m c main_arg0 (ix2 (row t a) (k)) :=
  (opened0 c t (V m c) _).trans (congrArg (V m c main_arg0) (place0 t a k))
theorem opened1 (X : Arrays c) (y : S2048x1024.Idx) :
    ((cfg0.win 1).blk t).view.read (Elt Ideal) (X (Pipeline.arrRef spec0 1)) y = X main_arg1 ((win0_1.blk t).view.emb y) := rfl
theorem place1 (k : Fin 2048) (b : Fin 1024) : (win0_1.blk t).view.emb (ix2 k b) = ix2 (k) (col t b) := by
  unfold col; blk_ext [(idx t).2.1]
theorem read1 (k : Fin 2048) (b : Fin 1024) : (iblk m c 1 t : Vec Ideal S2048x1024 .bf16) (ix2 k b) = V m c main_arg1 (ix2 (k) (col t b)) :=
  (opened1 c t (V m c) _).trans (congrArg (V m c main_arg1) (place1 t k b))
theorem opened2 (X : Arrays c) (y : S1024x1024.Idx) :
    ((cfg0.win 2).blk t).view.read (Elt Ideal) (X (Pipeline.arrRef spec0 2)) y = X main_arg2 ((win0_2.blk t).view.emb y) := rfl
theorem place2 (a : Fin 1024) (b : Fin 1024) : (win0_2.blk t).view.emb (ix2 a b) = ix2 (row t a) (col t b) := by
  unfold row col; blk_ext [(idx t).2.2.1]
theorem read2 (a : Fin 1024) (b : Fin 1024) : (iblk m c 2 t : Vec Ideal S1024x1024 .f32) (ix2 a b) = V m c main_arg2 (ix2 (row t a) (col t b)) :=
  (opened2 c t (V m c) _).trans (congrArg (V m c main_arg2) (place2 t a b))
theorem opened3 (X : Arrays c) (y : S1x1024.Idx) :
    ((cfg0.win 3).blk t).view.read (Elt Ideal) (X (Pipeline.arrRef spec0 3)) y = X main_arg3 ((win0_3.blk t).view.emb y) := rfl
theorem place3 (b : Fin 1024) : (win0_3.blk t).view.emb (ix2 0 b) = ix2 0 (col t b) := by
  unfold col; blk_ext [(idx t).2.2.2.1]
theorem read3 (b : Fin 1024) : (iblk m c 3 t : Vec Ideal S1x1024 .f32) (ix2 0 b) = V m c main_arg3 (ix2 0 (col t b)) :=
  (opened3 c t (V m c) _).trans (congrArg (V m c main_arg3) (place3 t b))

/-- A point's tile of the product. -/
theorem tile (a : Fin 1024) (b : Fin 1024) :
    Product.nn (M := 1024) (N := 1024) (K := 2048) (iblk m c 0 t) (iblk m c 1 t) (ix2 a b) = Product.nn (M := 4096) (N := 2048) (K := 2048) (V m c main_arg0) (V m c main_arg1) (ix2 (row t a) (col t b)) :=
  Finset.sum_congr rfl fun k _ => congrArg₂ (· * ·) (read0 m c t a k) (read1 m c t k b)

theorem after4 (a : Fin 1024) (b : Fin 1024) : (dats m 0 c).after 4 t (ix2 a b) = Product.nn (M := 4096) (N := 2048) (K := 2048) (V m c main_arg0) (V m c main_arg1) (ix2 (row t a) (col t b)) := by
  rw [after0_4]
  unfold out0_4
  frame_out
  exact (narrow _ _ a b).trans (tile m c t a b)

theorem after5 (a : Fin 1024) (b : Fin 1024) : (dats m 0 c).after 5 t (ix2 a b) = Product.gate (M := 4096) (N := 2048) (V m c main_arg2) (V m c main_arg3) (Product.nn (M := 4096) (N := 2048) (K := 2048) (V m c main_arg0) (V m c main_arg1)) (ix2 (row t a) (col t b)) := by
  rw [after0_5]
  unfold out0_5
  frame_out
  exact (gated _ _ _ _ a b).trans (congrArg₂ (· + ·) (read2 m c t a b) (congrArg₂ (· * ·) (read3 m c t b) (tile m c t a b)))

/-- The first result is the product. -/
theorem array4 : (dats m 0 c).arrAt 4 cfg0.N = Product.nn (M := 4096) (N := 2048) (K := 2048) (V m c main_arg0) (V m c main_arg1) := by
  refine (dats m 0 c).arrAt_eq_of_covers 4 _ (by decide +kernel) fun t hf y => ?_
  blk_simp
  obtain ⟨a, b, rfl⟩ : ∃ (a : Fin 1024) (b : Fin 1024), y = ix2 a b := ⟨y 0, y 1, eq_ix2 y⟩
  refine (after4 m c t a b).trans ?_
  have e0 : (win0_4.blk t).view.emb (ix2 a b) = ix2 (row t a) (col t b) := by
    unfold row col; blk_ext [(idx t).2.2.2.2.1]
  exact congrArg (Product.nn (M := 4096) (N := 2048) (K := 2048) (V m c main_arg0) (V m c main_arg1)) e0.symm

/-- The second result is the residual and the gated product. -/
theorem array5 : (dats m 0 c).arrAt 5 cfg0.N = Product.gate (M := 4096) (N := 2048) (V m c main_arg2) (V m c main_arg3) (Product.nn (M := 4096) (N := 2048) (K := 2048) (V m c main_arg0) (V m c main_arg1)) := by
  refine (dats m 0 c).arrAt_eq_of_covers 5 _ (by decide +kernel) fun t hf y => ?_
  blk_simp
  obtain ⟨a, b, rfl⟩ : ∃ (a : Fin 1024) (b : Fin 1024), y = ix2 a b := ⟨y 0, y 1, eq_ix2 y⟩
  refine (after5 m c t a b).trans ?_
  have e0 : (win0_5.blk t).view.emb (ix2 a b) = ix2 (row t a) (col t b) := by
    unfold row col; blk_ext [(idx t).2.2.2.2.2.1]
  exact congrArg (Product.gate (M := 4096) (N := 2048) (V m c main_arg2) (V m c main_arg3) (Product.nn (M := 4096) (N := 2048) (K := 2048) (V m c main_arg0) (V m c main_arg1))) e0.symm

end Cert.OutIdeal.Entry

namespace Cert.OutRefIdeal.Entry

open Idealize.ShloMosaic Idealize.SL.Sem Cert.OutRefIdeal

/-- The reference's product. -/
theorem product (A : (⟨S4096x2048, .bf16⟩ : BufTy).Contents (Elt Ideal)) (B : (⟨S2048x2048, .bf16⟩ : BufTy).Contents (Elt Ideal)) :
    Read.val_main_v2 (F := Ideal) A B = Product.nn (M := 4096) (N := 2048) (K := 2048) A B := by
  funext y
  refine (Read.val_main_v2_apply A B _).trans (Finset.sum_congr rfl fun k _ => ?_)
  exact (congrArg₂ (· * ·) (congrArg A (eq_ix2 _)) (congrArg B (eq_ix2 _)))

/-- The reference's second result. -/
theorem result (A : (⟨S4096x2048, .bf16⟩ : BufTy).Contents (Elt Ideal)) (B : (⟨S2048x2048, .bf16⟩ : BufTy).Contents (Elt Ideal)) (X : (⟨S4096x2048, .f32⟩ : BufTy).Contents (Elt Ideal)) (G : (⟨S1x2048, .f32⟩ : BufTy).Contents (Elt Ideal)) :
    Read.val_main_v6 (F := Ideal) A B X G = Product.gate (M := 4096) (N := 2048) X G (Product.nn (M := 4096) (N := 2048) (K := 2048) A B) := by
  funext y
  refine congrArg ((X y : EReal) + ·) (congrArg₂ (· * ·) (congrArg G ?_) (congrFun (product A B) y))
  funext a
  fin_cases a <;> rfl

end Cert.OutRefIdeal.Entry

namespace Cert.Proof.Out

open Idealize.ShloMosaic Idealize.SL.Sem

attribute [local instance] Cert.Out.Gen.facts Cert.OutIdeal.Gen.facts Cert.OutRefIdeal.Gen.facts

theorem frame_p : Cert.quiescent_Out := fun m ρ _ => Cert.Out.Gen.frame m ρ
theorem frame_pi : Cert.quiescent_OutIdeal := fun m ρ _ => Cert.OutIdeal.Gen.frame m ρ
theorem frame_ri : Cert.quiescent_OutRefIdeal := fun m ρ _ =>
  (θ_run Cert.OutRefIdeal.defs _ _).mono (fun r h => ⟨fun c => (h c).2.2, sem_eq_zero_of_no_sems (by decide) r.2⟩) (Cert.OutRefIdeal.Value.run (F := Ideal) m ρ)
theorem preserves : Cert.preserves_Out_OutIdeal := trivial

/-- Over the extended reals the call and the reference leave the same result. -/
theorem algebraic : Cert.algebraic_OutIdeal_OutRefIdeal := by
  intro m g m' g' _ hagree
  refine ⟨_, _, Cert.OutIdeal.Value.run_blocks m g, ?_⟩
  refine (θ_run Cert.OutRefIdeal.defs _ _).mono (fun r h c => ?_) (Cert.OutRefIdeal.Value.run (F := Ideal) m' g')
  obtain ⟨h0, h1, h2⟩ := h c
  obtain ⟨e0, e1, e2, e3⟩ := hagree c
  have p := congrArg₂ (Product.nn (M := 4096) (N := 2048) (K := 2048)) e0 e1
  refine ⟨h0.trans ?_, h1.trans ?_, h2⟩
  · exact ((Cert.OutRefIdeal.Entry.product _ _).trans p).trans (Cert.OutIdeal.Entry.array4 m c).symm
  · exact ((Cert.OutRefIdeal.Entry.result _ _ _ _).trans (Product.gate_congr e2 e3 p)).trans (Cert.OutIdeal.Entry.array5 m c).symm

end Cert.Proof.Out
-- ==== Proof.GmInDx.lean ====
/- The call for the gradient of the gated mixer's input: its result is the product `A · B` of its first two arguments.
   A grid point computes one tile of 512 rows and 1024 columns, adding one 2th of the terms. -/
module

public import proofs.«01_k».proof.Defs
public import proofs.«01_k».proof.Proof.Product
public import proofs.«01_k».proof.Proof.Gen.GmInDx
public import proofs.«01_k».proof.Proof.Gen.GmInDx.Frame
public import proofs.«01_k».proof.Proof.Gen.GmInDxIdeal
public import proofs.«01_k».proof.Proof.Gen.GmInDxIdeal.Value
public import proofs.«01_k».proof.Proof.Gen.GmInDxRefIdeal
public import proofs.«01_k».proof.Proof.Gen.GmInDxRefIdeal.Run
public import proofs.«01_k».proof.Proof.Gen.GmInDxRefIdeal.Read
public import Idealize.ShloMosaic.Lib.Pipeline.ValueKit
public import Idealize.ShloMosaic.Lib.Pointwise
public import Idealize.ShloMosaic.Lib.WholeRead
public import Idealize.ShloMosaic.Lib.Claim

@[expose] public section

set_option maxRecDepth 16384

noncomputable section

namespace Cert.GmInDxIdeal.Entry

open Idealize.ShloMosaic Idealize.SL.Sem Cert.GmInDxIdeal Cert.GmInDxIdeal.Gen

variable (m : (ℓ : Loc nD τ sig) → Buf (Elt Ideal) ℓ) (c : Dev nD)

/-- Where each window's block lies. -/
theorem idx : ∀ t : Fin cfg0.N, win0_0.index t = ![t.val / 2 % 8, t.val % 2] ∧ win0_1.index t = ![t.val % 2, t.val / 16] ∧ win0_2.index t = ![t.val / 2 % 8, t.val / 16] ∧ t.val < 32 :=
  (by decide +kernel : ∀ t : Fin grid0.N, _)

/-- The product of two blocks. -/
theorem block (A : Vec Ideal S512x2048 .bf16) (B : Vec Ideal S2048x1024 .bf16) (a : Fin 512) (b : Fin 1024) :
    k0_pay1 A B (ix2 a b) = Product.nn A B (ix2 a b) := by
  unfold Product.nn
  pointwise [k0_pay1]
/-- The first block of terms of a tile. -/
theorem first (A : Vec Ideal S512x2048 .bf16) (B : Vec Ideal S2048x1024 .bf16) (a : Fin 512) (b : Fin 1024) :
    k0_pay2 A B (ix2 a b) = Product.nn A B (ix2 a b) := by
  unfold Product.nn
  pointwise [k0_pay2, k0_pay1]
/-- A further block of terms. -/
theorem next (A : Vec Ideal S512x2048 .bf16) (B : Vec Ideal S2048x1024 .bf16) (C : Vec Ideal S512x1024 .f32) (a : Fin 512) (b : Fin 1024) :
    k0_pay3 A B C (ix2 a b) = C (ix2 a b) + Product.nn A B (ix2 a b) := by
  unfold Product.nn
  pointwise [k0_pay3, k0_pay1]

variable (t : Fin cfg0.N)

/-- The device's arrays, whatever they hold. -/
abbrev Arrays (c : Dev nD) := (b : Ref sig .tc) → Buf (Elt Ideal) ((c.tc : Thread nD τ).loc b)

/-- The row of the result that a point's row `a` is. -/
def row (a : Fin 512) : Fin 4096 := ⟨512 * (t.val / 2 % 8) + a.val, by have := (idx t).2.2.2; have := a.isLt; omega⟩
/-- The column of the result that a point's column `b` is. -/
def col (b : Fin 1024) : Fin 2048 := ⟨1024 * (t.val / 16) + b.val, by have := (idx t).2.2.2; have := b.isLt; omega⟩
/-- The term of a sum that a point's term `k` is. -/
def mid (k : Fin 2048) : Fin 4096 := ⟨2048 * (t.val % 2) + k.val, by have := k.isLt; omega⟩
theorem opened0 (X : Arrays c) (y : S512x2048.Idx) :
    ((cfg0.win 0).blk t).view.read (Elt Ideal) (X (Pipeline.arrRef spec0 0)) y = X main_arg0 ((win0_0.blk t).view.emb y) := rfl
theorem place0 (a : Fin 512) (k : Fin 2048) : (win0_0.blk t).view.emb (ix2 a k) = ix2 (row t a) (mid t k) := by
  unfold row mid; blk_ext [(idx t).1]
theorem read0 (a : Fin 512) (k : Fin 2048) : (iblk m c 0 t : Vec Ideal S512x2048 .bf16) (ix2 a k) = V m c main_arg0 (ix2 (row t a) (mid t k)) :=
  (opened0 c t (V m c) _).trans (congrArg (V m c main_arg0) (place0 t a k))
theorem opened1 (X : Arrays c) (y : S2048x1024.Idx) :
    ((cfg0.win 1).blk t).view.read (Elt Ideal) (X (Pipeline.arrRef spec0 1)) y = X main_arg1 ((win0_1.blk t).view.emb y) := rfl
theorem place1 (k : Fin 2048) (b : Fin 1024) : (win0_1.blk t).view.emb (ix2 k b) = ix2 (mid t k) (col t b) := by
  unfold col mid; blk_ext [(idx t).2.1]
theorem read1 (k : Fin 2048) (b : Fin 1024) : (iblk m c 1 t : Vec Ideal S2048x1024 .bf16) (ix2 k b) = V m c main_arg1 (ix2 (mid t k) (col t b)) :=
  (opened1 c t (V m c) _).trans (congrArg (V m c main_arg1) (place1 t k b))

/-- The terms a point adds. -/
theorem part (a : Fin 512) (b : Fin 1024) :
    Product.nn (M := 512) (N := 1024) (K := 2048) (iblk m c 0 t) (iblk m c 1 t) (ix2 a b)
      = ∑ k : Fin 2048, Product.termNN (K := 4096) (V m c main_arg0) (V m c main_arg1) (row t a) (col t b) ⟨2048 * (t.val % 2) + k.val, by have := k.isLt; omega⟩ :=
  Finset.sum_congr rfl fun k _ => congrArg₂ (· * ·) (read0 m c t a k) (read1 m c t k b)

/-- What the accumulator holds after a point: the terms of its tile so far. -/
theorem scratch : ∀ (n : ℕ) (h : n < cfg0.N) (a : Fin 512) (b : Fin 1024), (outsAt0 m c n h).2 (ix2 a b)
    = Product.upto (K := 4096) (V m c main_arg0) (V m c main_arg1) (row ⟨n, h⟩ a) (col ⟨n, h⟩ b) (2048 * (n % 2 + 1)) := by
  intro n
  induction n with
  | zero =>
    intro h a b
    rw [outsAt0_A m c ⟨0, h⟩ rfl (by simp) (by simp)]
    unfold sout0_A_0
    frame_out
    exact (first _ _ a b).trans ((part m c ⟨0, h⟩ a b).trans (Product.first_block _ _ _ _ 2048 (0 % 2) (by decide) rfl))
  | succ n ih =>
    intro h a b
    have h4 : (n + 1) % 2 < 2 := Nat.mod_lt _ (by decide)
    have hN : n + 1 < 32 := (idx ⟨n + 1, h⟩).2.2.2
    by_cases h0 : (n + 1) % 2 = 0
    · rw [outsAt0_A m c ⟨n + 1, h⟩ h0 (by dsimp only; omega) (by dsimp only; omega)]
      unfold sout0_A_0
      frame_out
      exact (first _ _ a b).trans ((part m c ⟨n + 1, h⟩ a b).trans (Product.first_block _ _ _ _ 2048 ((n + 1) % 2) (by omega) h0))
    · have er : row ⟨n, Nat.lt_of_succ_lt h⟩ a = row ⟨n + 1, h⟩ a := Fin.ext (by simp only [row]; omega)
      have ec : col ⟨n, Nat.lt_of_succ_lt h⟩ b = col ⟨n + 1, h⟩ b := Fin.ext (by simp only [col]; omega)
      have i := ih (Nat.lt_of_succ_lt h) a b
      rw [er, ec, show n % 2 + 1 = (n + 1) % 2 by omega] at i
      rw [Product.upto_block _ _ _ _ 2048 ((n + 1) % 2) (by omega)]
      rw [outsAt0_B m c ⟨n + 1, h⟩ h0 (by dsimp only; omega) (by dsimp only; omega)]
      unfold sout0_B_0
      frame_out
      exact (next _ _ _ a b).trans (congrArg₂ (· + ·) ((congrFun (Memref.IsWhole.read_unread _ _) _).trans i) (part m c ⟨n + 1, h⟩ a b))

/-- The last point of a tile writes the accumulator back. -/
theorem result (h : t.val % 2 = 1) (y : S512x1024.Idx) : (outsAt0 m c t.val t.isLt).1 y = (outsAt0 m c t.val t.isLt).2 y := by
  rw [outsAt0_B m c t (by omega) h h]
  unfold sout0_B_0 out0_B_2
  dsimp only
  frame_out

/-- The tile the last point of it leaves. -/
theorem after2 (h : t.val % 2 = 1) (a : Fin 512) (b : Fin 1024) :
    (dats m 0 c).after 2 t (ix2 a b) = Product.nn (M := 4096) (N := 2048) (K := 4096) (V m c main_arg0) (V m c main_arg1) (ix2 (row t a) (col t b)) := by
  rw [after0_2]
  have e : (outsAt0 m c t.val t.isLt).2 (ix2 a b) = Product.nn (M := 4096) (N := 2048) (K := 4096) (V m c main_arg0) (V m c main_arg1) (ix2 (row t a) (col t b)) := by
    refine (scratch m c t.val t.isLt a b).trans ?_
    rw [h]
    exact Product.upto_all (K := 4096) _ _ (ix2 (row t a) (col t b))
  exact (result m c t h _).trans e

/-- The result. -/
theorem array : (dats m 0 c).arrAt 2 cfg0.N = Product.nn (M := 4096) (N := 2048) (K := 4096) (V m c main_arg0) (V m c main_arg1) := by
  refine (dats m 0 c).arrAt_eq_of_covers 2 _ (by decide +kernel) fun t hf y => ?_
  blk_simp
  obtain ⟨a, b, rfl⟩ : ∃ (a : Fin 512) (b : Fin 1024), y = ix2 a b := ⟨y 0, y 1, eq_ix2 y⟩
  refine (after2 m c t ((flush0_2 t).mp hf) a b).trans ?_
  have e0 : (win0_2.blk t).view.emb (ix2 a b) = ix2 (row t a) (col t b) := by
    unfold row col; blk_ext [(idx t).2.2.1]
  exact congrArg (Product.nn (M := 4096) (N := 2048) (K := 4096) (V m c main_arg0) (V m c main_arg1)) e0.symm

end Cert.GmInDxIdeal.Entry

namespace Cert.GmInDxRefIdeal.Entry

open Idealize.ShloMosaic Idealize.SL.Sem Cert.GmInDxRefIdeal

/-- The reference's product. -/
theorem product (A : (⟨S4096x4096, .bf16⟩ : BufTy).Contents (Elt Ideal)) (B : (⟨S4096x2048, .bf16⟩ : BufTy).Contents (Elt Ideal)) :
    Read.val_main_v5 (F := Ideal) A B = Product.nn (M := 4096) (N := 2048) (K := 4096) A B := by
  funext y
  refine (Read.val_main_v5_apply A B _).trans (Finset.sum_congr rfl fun k _ => ?_)
  exact (congrArg₂ (· * ·) (congrArg A (eq_ix2 _)) (congrArg B (eq_ix2 _)))

end Cert.GmInDxRefIdeal.Entry

namespace Cert.Proof.GmInDx

open Idealize.ShloMosaic Idealize.SL.Sem

attribute [local instance] Cert.GmInDx.Gen.facts Cert.GmInDxIdeal.Gen.facts Cert.GmInDxRefIdeal.Gen.facts

theorem frame_p : Cert.quiescent_GmInDx := fun m ρ _ => Cert.GmInDx.Gen.frame m ρ
theorem frame_pi : Cert.quiescent_GmInDxIdeal := fun m ρ _ => Cert.GmInDxIdeal.Gen.frame m ρ
theorem frame_ri : Cert.quiescent_GmInDxRefIdeal := fun m ρ _ =>
  (θ_run Cert.GmInDxRefIdeal.defs _ _).mono (fun r h => ⟨fun c => (h c).2, sem_eq_zero_of_no_sems (by decide) r.2⟩) (Cert.GmInDxRefIdeal.Value.run (F := Ideal) m ρ)
theorem preserves : Cert.preserves_GmInDx_GmInDxIdeal := trivial

/-- Over the extended reals the call and the reference leave the same result. -/
theorem algebraic : Cert.algebraic_GmInDxIdeal_GmInDxRefIdeal := by
  intro m g m' g' _ hagree
  refine ⟨_, Cert.GmInDxIdeal.Value.run_blocks m g, ?_⟩
  refine (θ_run Cert.GmInDxRefIdeal.defs _ _).mono (fun r h c => ?_) (Cert.GmInDxRefIdeal.Value.run (F := Ideal) m' g')
  obtain ⟨h0, h1⟩ := h c
  obtain ⟨e0, e1⟩ := hagree c
  refine ⟨h0.trans ?_, h1⟩
  exact ((Cert.GmInDxRefIdeal.Entry.product _ _).trans (congrArg₂ (Product.nn (M := 4096) (N := 2048) (K := 4096)) e0 e1)).trans (Cert.GmInDxIdeal.Entry.array m c).symm

end Cert.Proof.GmInDx
-- ==== Proof.GmInDw.lean ====
/- The call for the gradient of the gated mixer's input projection: its result is the product `Aᵀ · B` of its first two arguments.
   A grid point computes one tile of 512 rows and 1024 columns. -/
module

public import proofs.«01_k».proof.Defs
public import proofs.«01_k».proof.Proof.Product
public import proofs.«01_k».proof.Proof.Gen.GmInDw
public import proofs.«01_k».proof.Proof.Gen.GmInDw.Frame
public import proofs.«01_k».proof.Proof.Gen.GmInDwIdeal
public import proofs.«01_k».proof.Proof.Gen.GmInDwIdeal.Value
public import proofs.«01_k».proof.Proof.Gen.GmInDwRefIdeal
public import proofs.«01_k».proof.Proof.Gen.GmInDwRefIdeal.Run
public import proofs.«01_k».proof.Proof.Gen.GmInDwRefIdeal.Read
public import Idealize.ShloMosaic.Lib.Pipeline.ValueKit
public import Idealize.ShloMosaic.Lib.Pointwise
public import Idealize.ShloMosaic.Lib.WholeRead
public import Idealize.ShloMosaic.Lib.Claim

@[expose] public section

set_option maxRecDepth 16384

noncomputable section

namespace Cert.GmInDwIdeal.Entry

open Idealize.ShloMosaic Idealize.SL.Sem Cert.GmInDwIdeal Cert.GmInDwIdeal.Gen

variable (m : (ℓ : Loc nD τ sig) → Buf (Elt Ideal) ℓ) (c : Dev nD)

/-- Where each window's block lies. -/
theorem idx : ∀ t : Fin cfg0.N, win0_0.index t = ![0, t.val % 8] ∧ win0_1.index t = ![0, t.val / 8] ∧ win0_2.index t = ![t.val % 8, t.val / 8] ∧ t.val < 16 :=
  (by decide +kernel : ∀ t : Fin grid0.N, _)

/-- The product of two blocks. -/
theorem block (A : Vec Ideal S4096x512 .bf16) (B : Vec Ideal S4096x1024 .bf16) (a : Fin 512) (b : Fin 1024) :
    k0_pay1 A B (ix2 a b) = Product.tn A B (ix2 a b) := by
  unfold Product.tn
  pointwise [k0_pay1]

variable (t : Fin cfg0.N)

/-- The device's arrays, whatever they hold. -/
abbrev Arrays (c : Dev nD) := (b : Ref sig .tc) → Buf (Elt Ideal) ((c.tc : Thread nD τ).loc b)

/-- The row of the result that a point's row `a` is. -/
def row (a : Fin 512) : Fin 4096 := ⟨512 * (t.val % 8) + a.val, by have := (idx t).2.2.2; have := a.isLt; omega⟩
/-- The column of the result that a point's column `b` is. -/
def col (b : Fin 1024) : Fin 2048 := ⟨1024 * (t.val / 8) + b.val, by have := (idx t).2.2.2; have := b.isLt; omega⟩
theorem opened0 (X : Arrays c) (y : S4096x512.Idx) :
    ((cfg0.win 0).blk t).view.read (Elt Ideal) (X (Pipeline.arrRef spec0 0)) y = X main_arg0 ((win0_0.blk t).view.emb y) := rfl
theorem place0 (k : Fin 4096) (a : Fin 512) : (win0_0.blk t).view.emb (ix2 k a) = ix2 (k) (row t a) := by
  unfold row; blk_ext [(idx t).1]
theorem read0 (k : Fin 4096) (a : Fin 512) : (iblk m c 0 t : Vec Ideal S4096x512 .bf16) (ix2 k a) = V m c main_arg0 (ix2 (k) (row t a)) :=
  (opened0 c t (V m c) _).trans (congrArg (V m c main_arg0) (place0 t k a))
theorem opened1 (X : Arrays c) (y : S4096x1024.Idx) :
    ((cfg0.win 1).blk t).view.read (Elt Ideal) (X (Pipeline.arrRef spec0 1)) y = X main_arg1 ((win0_1.blk t).view.emb y) := rfl
theorem place1 (k : Fin 4096) (b : Fin 1024) : (win0_1.blk t).view.emb (ix2 k b) = ix2 (k) (col t b) := by
  unfold col; blk_ext [(idx t).2.1]
theorem read1 (k : Fin 4096) (b : Fin 1024) : (iblk m c 1 t : Vec Ideal S4096x1024 .bf16) (ix2 k b) = V m c main_arg1 (ix2 (k) (col t b)) :=
  (opened1 c t (V m c) _).trans (congrArg (V m c main_arg1) (place1 t k b))

/-- The tile a point leaves. -/
theorem after2 (a : Fin 512) (b : Fin 1024) : (dats m 0 c).after 2 t (ix2 a b) = Product.tn (M := 4096) (N := 2048) (K := 4096) (V m c main_arg0) (V m c main_arg1) (ix2 (row t a) (col t b)) := by
  rw [after0_2]
  unfold out0_2
  frame_out
  exact (block _ _ a b).trans (Finset.sum_congr rfl fun k _ => congrArg₂ (· * ·) (read0 m c t k a) (read1 m c t k b))

/-- The result is the product. -/
theorem array : (dats m 0 c).arrAt 2 cfg0.N = Product.tn (M := 4096) (N := 2048) (K := 4096) (V m c main_arg0) (V m c main_arg1) := by
  refine (dats m 0 c).arrAt_eq_of_covers 2 _ (by decide +kernel) fun t hf y => ?_
  blk_simp
  obtain ⟨a, b, rfl⟩ : ∃ (a : Fin 512) (b : Fin 1024), y = ix2 a b := ⟨y 0, y 1, eq_ix2 y⟩
  refine (after2 m c t a b).trans ?_
  have e0 : (win0_2.blk t).view.emb (ix2 a b) = ix2 (row t a) (col t b) := by
    unfold row col; blk_ext [(idx t).2.2.1]
  exact congrArg (Product.tn (M := 4096) (N := 2048) (K := 4096) (V m c main_arg0) (V m c main_arg1)) e0.symm

end Cert.GmInDwIdeal.Entry

namespace Cert.GmInDwRefIdeal.Entry

open Idealize.ShloMosaic Idealize.SL.Sem Cert.GmInDwRefIdeal

/-- The reference's product. -/
theorem product (A : (⟨S4096x4096, .bf16⟩ : BufTy).Contents (Elt Ideal)) (B : (⟨S4096x2048, .bf16⟩ : BufTy).Contents (Elt Ideal)) :
    Read.val_main_v8 (F := Ideal) A B = Product.tn (M := 4096) (N := 2048) (K := 4096) A B := by
  funext y
  refine (Read.val_main_v5_apply A B _).trans (Finset.sum_congr rfl fun k _ => ?_)
  exact (congrArg₂ (· * ·) (congrArg A (eq_ix2 _)) (congrArg B (eq_ix2 _)))

end Cert.GmInDwRefIdeal.Entry

namespace Cert.Proof.GmInDw

open Idealize.ShloMosaic Idealize.SL.Sem

attribute [local instance] Cert.GmInDw.Gen.facts Cert.GmInDwIdeal.Gen.facts Cert.GmInDwRefIdeal.Gen.facts

theorem frame_p : Cert.quiescent_GmInDw := fun m ρ _ => Cert.GmInDw.Gen.frame m ρ
theorem frame_pi : Cert.quiescent_GmInDwIdeal := fun m ρ _ => Cert.GmInDwIdeal.Gen.frame m ρ
theorem frame_ri : Cert.quiescent_GmInDwRefIdeal := fun m ρ _ =>
  (θ_run Cert.GmInDwRefIdeal.defs _ _).mono (fun r h => ⟨fun c => (h c).2, sem_eq_zero_of_no_sems (by decide) r.2⟩) (Cert.GmInDwRefIdeal.Value.run (F := Ideal) m ρ)
theorem preserves : Cert.preserves_GmInDw_GmInDwIdeal := trivial

/-- Over the extended reals the call and the reference leave the same result. -/
theorem algebraic : Cert.algebraic_GmInDwIdeal_GmInDwRefIdeal := by
  intro m g m' g' _ hagree
  refine ⟨_, Cert.GmInDwIdeal.Value.run_blocks m g, ?_⟩
  refine (θ_run Cert.GmInDwRefIdeal.defs _ _).mono (fun r h c => ?_) (Cert.GmInDwRefIdeal.Value.run (F := Ideal) m' g')
  obtain ⟨h0, h1⟩ := h c
  obtain ⟨e0, e1⟩ := hagree c
  refine ⟨h0.trans ?_, h1⟩
  exact ((Cert.GmInDwRefIdeal.Entry.product _ _).trans (congrArg₂ (Product.tn (M := 4096) (N := 2048) (K := 4096)) e0 e1)).trans (Cert.GmInDwIdeal.Entry.array m c).symm

end Cert.Proof.GmInDw
-- ==== Proof.GmIn.lean ====
/- The call for the gated mixer's first product: its result is the product `A · Bᵀ` of its first two arguments.
   A grid point computes one tile of 1024 rows and 1024 columns. -/
module

public import proofs.«01_k».proof.Defs
public import proofs.«01_k».proof.Proof.Product
public import proofs.«01_k».proof.Proof.Gen.GmIn
public import proofs.«01_k».proof.Proof.Gen.GmIn.Frame
public import proofs.«01_k».proof.Proof.Gen.GmInIdeal
public import proofs.«01_k».proof.Proof.Gen.GmInIdeal.Value
public import proofs.«01_k».proof.Proof.Gen.GmInRefIdeal
public import proofs.«01_k».proof.Proof.Gen.GmInRefIdeal.Run
public import proofs.«01_k».proof.Proof.Gen.GmInRefIdeal.Read
public import Idealize.ShloMosaic.Lib.Pipeline.ValueKit
public import Idealize.ShloMosaic.Lib.Pointwise
public import Idealize.ShloMosaic.Lib.WholeRead
public import Idealize.ShloMosaic.Lib.Claim

@[expose] public section

set_option maxRecDepth 16384

noncomputable section

namespace Cert.GmInIdeal.Entry

open Idealize.ShloMosaic Idealize.SL.Sem Cert.GmInIdeal Cert.GmInIdeal.Gen

variable (m : (ℓ : Loc nD τ sig) → Buf (Elt Ideal) ℓ) (c : Dev nD)

/-- Where each window's block lies. -/
theorem idx : ∀ t : Fin cfg0.N, win0_0.index t = ![t.val % 4, 0] ∧ win0_1.index t = ![t.val / 4, 0] ∧ win0_2.index t = ![t.val % 4, t.val / 4] ∧ t.val < 16 :=
  (by decide +kernel : ∀ t : Fin grid0.N, _)

/-- The product of two blocks. -/
theorem block (A : Vec Ideal S1024x2048 .bf16) (B : Vec Ideal S1024x2048 .bf16) (a : Fin 1024) (b : Fin 1024) :
    k0_pay1 A B (ix2 a b) = Product.nt A B (ix2 a b) := by
  unfold Product.nt
  pointwise [k0_pay1]

variable (t : Fin cfg0.N)

/-- The device's arrays, whatever they hold. -/
abbrev Arrays (c : Dev nD) := (b : Ref sig .tc) → Buf (Elt Ideal) ((c.tc : Thread nD τ).loc b)

/-- The row of the result that a point's row `a` is. -/
def row (a : Fin 1024) : Fin 4096 := ⟨1024 * (t.val % 4) + a.val, by have := (idx t).2.2.2; have := a.isLt; omega⟩
/-- The column of the result that a point's column `b` is. -/
def col (b : Fin 1024) : Fin 4096 := ⟨1024 * (t.val / 4) + b.val, by have := (idx t).2.2.2; have := b.isLt; omega⟩
theorem opened0 (X : Arrays c) (y : S1024x2048.Idx) :
    ((cfg0.win 0).blk t).view.read (Elt Ideal) (X (Pipeline.arrRef spec0 0)) y = X main_arg0 ((win0_0.blk t).view.emb y) := rfl
theorem place0 (a : Fin 1024) (k : Fin 2048) : (win0_0.blk t).view.emb (ix2 a k) = ix2 (row t a) (k) := by
  unfold row; blk_ext [(idx t).1]
theorem read0 (a : Fin 1024) (k : Fin 2048) : (iblk m c 0 t : Vec Ideal S1024x2048 .bf16) (ix2 a k) = V m c main_arg0 (ix2 (row t a) (k)) :=
  (opened0 c t (V m c) _).trans (congrArg (V m c main_arg0) (place0 t a k))
theorem opened1 (X : Arrays c) (y : S1024x2048.Idx) :
    ((cfg0.win 1).blk t).view.read (Elt Ideal) (X (Pipeline.arrRef spec0 1)) y = X main_arg1 ((win0_1.blk t).view.emb y) := rfl
theorem place1 (b : Fin 1024) (k : Fin 2048) : (win0_1.blk t).view.emb (ix2 b k) = ix2 (col t b) (k) := by
  unfold col; blk_ext [(idx t).2.1]
theorem read1 (b : Fin 1024) (k : Fin 2048) : (iblk m c 1 t : Vec Ideal S1024x2048 .bf16) (ix2 b k) = V m c main_arg1 (ix2 (col t b) (k)) :=
  (opened1 c t (V m c) _).trans (congrArg (V m c main_arg1) (place1 t b k))

/-- The tile a point leaves. -/
theorem after2 (a : Fin 1024) (b : Fin 1024) : (dats m 0 c).after 2 t (ix2 a b) = Product.nt (M := 4096) (N := 4096) (K := 2048) (V m c main_arg0) (V m c main_arg1) (ix2 (row t a) (col t b)) := by
  rw [after0_2]
  unfold out0_2
  frame_out
  exact (block _ _ a b).trans (Finset.sum_congr rfl fun k _ => congrArg₂ (· * ·) (read0 m c t a k) (read1 m c t b k))

/-- The result is the product. -/
theorem array : (dats m 0 c).arrAt 2 cfg0.N = Product.nt (M := 4096) (N := 4096) (K := 2048) (V m c main_arg0) (V m c main_arg1) := by
  refine (dats m 0 c).arrAt_eq_of_covers 2 _ (by decide +kernel) fun t hf y => ?_
  blk_simp
  obtain ⟨a, b, rfl⟩ : ∃ (a : Fin 1024) (b : Fin 1024), y = ix2 a b := ⟨y 0, y 1, eq_ix2 y⟩
  refine (after2 m c t a b).trans ?_
  have e0 : (win0_2.blk t).view.emb (ix2 a b) = ix2 (row t a) (col t b) := by
    unfold row col; blk_ext [(idx t).2.2.1]
  exact congrArg (Product.nt (M := 4096) (N := 4096) (K := 2048) (V m c main_arg0) (V m c main_arg1)) e0.symm

end Cert.GmInIdeal.Entry

namespace Cert.GmInRefIdeal.Entry

open Idealize.ShloMosaic Idealize.SL.Sem Cert.GmInRefIdeal

/-- The reference's product. -/
theorem product (A : (⟨S4096x2048, .bf16⟩ : BufTy).Contents (Elt Ideal)) (B : (⟨S4096x2048, .bf16⟩ : BufTy).Contents (Elt Ideal)) :
    Read.val_main_v4 (F := Ideal) A B = Product.nt (M := 4096) (N := 4096) (K := 2048) A B := by
  funext y
  refine (Read.val_main_v3_apply A B _).trans (Finset.sum_congr rfl fun k _ => ?_)
  exact (congrArg₂ (· * ·) (congrArg A (eq_ix2 _)) (congrArg B (eq_ix2 _)))

end Cert.GmInRefIdeal.Entry

namespace Cert.Proof.GmIn

open Idealize.ShloMosaic Idealize.SL.Sem

attribute [local instance] Cert.GmIn.Gen.facts Cert.GmInIdeal.Gen.facts Cert.GmInRefIdeal.Gen.facts

theorem frame_p : Cert.quiescent_GmIn := fun m ρ _ => Cert.GmIn.Gen.frame m ρ
theorem frame_pi : Cert.quiescent_GmInIdeal := fun m ρ _ => Cert.GmInIdeal.Gen.frame m ρ
theorem frame_ri : Cert.quiescent_GmInRefIdeal := fun m ρ _ =>
  (θ_run Cert.GmInRefIdeal.defs _ _).mono (fun r h => ⟨fun c => (h c).2, sem_eq_zero_of_no_sems (by decide) r.2⟩) (Cert.GmInRefIdeal.Value.run (F := Ideal) m ρ)
theorem preserves : Cert.preserves_GmIn_GmInIdeal := trivial

/-- Over the extended reals the call and the reference leave the same result. -/
theorem algebraic : Cert.algebraic_GmInIdeal_GmInRefIdeal := by
  intro m g m' g' _ hagree
  refine ⟨_, Cert.GmInIdeal.Value.run_blocks m g, ?_⟩
  refine (θ_run Cert.GmInRefIdeal.defs _ _).mono (fun r h c => ?_) (Cert.GmInRefIdeal.Value.run (F := Ideal) m' g')
  obtain ⟨h0, h1⟩ := h c
  obtain ⟨e0, e1⟩ := hagree c
  refine ⟨h0.trans ?_, h1⟩
  exact ((Cert.GmInRefIdeal.Entry.product _ _).trans (congrArg₂ (Product.nt (M := 4096) (N := 4096) (K := 2048)) e0 e1)).trans (Cert.GmInIdeal.Entry.array m c).symm

end Cert.Proof.GmIn
-- ==== Proof.ForgetDx.lean ====
/- The call for the forget gates' share of the gradient of the attention's input: its result is the product `A · B` of its first two arguments.
   A grid point computes one tile of 1024 rows and 1024 columns. -/
module

public import proofs.«01_k».proof.Defs
public import proofs.«01_k».proof.Proof.Product
public import proofs.«01_k».proof.Proof.Gen.ForgetDx
public import proofs.«01_k».proof.Proof.Gen.ForgetDx.Frame
public import proofs.«01_k».proof.Proof.Gen.ForgetDxIdeal
public import proofs.«01_k».proof.Proof.Gen.ForgetDxIdeal.Value
public import proofs.«01_k».proof.Proof.Gen.ForgetDxRefIdeal
public import proofs.«01_k».proof.Proof.Gen.ForgetDxRefIdeal.Run
public import proofs.«01_k».proof.Proof.Gen.ForgetDxRefIdeal.Read
public import Idealize.ShloMosaic.Lib.Pipeline.ValueKit
public import Idealize.ShloMosaic.Lib.Pointwise
public import Idealize.ShloMosaic.Lib.WholeRead
public import Idealize.ShloMosaic.Lib.Claim

@[expose] public section

set_option maxRecDepth 16384

noncomputable section

namespace Cert.ForgetDxIdeal.Entry

open Idealize.ShloMosaic Idealize.SL.Sem Cert.ForgetDxIdeal Cert.ForgetDxIdeal.Gen

variable (m : (ℓ : Loc nD τ sig) → Buf (Elt Ideal) ℓ) (c : Dev nD)

/-- Where each window's block lies. -/
theorem idx : ∀ t : Fin cfg0.N, win0_0.index t = ![t.val % 4, 0] ∧ win0_1.index t = ![0, t.val / 4] ∧ win0_2.index t = ![t.val % 4, t.val / 4] ∧ t.val < 8 :=
  (by decide +kernel : ∀ t : Fin grid0.N, _)

/-- The product of two blocks. -/
theorem block (A : Vec Ideal S1024x128 .bf16) (B : Vec Ideal S128x1024 .bf16) (a : Fin 1024) (b : Fin 1024) :
    k0_pay1 A B (ix2 a b) = Product.nn A B (ix2 a b) := by
  unfold Product.nn
  pointwise [k0_pay1]

variable (t : Fin cfg0.N)

/-- The device's arrays, whatever they hold. -/
abbrev Arrays (c : Dev nD) := (b : Ref sig .tc) → Buf (Elt Ideal) ((c.tc : Thread nD τ).loc b)

/-- The row of the result that a point's row `a` is. -/
def row (a : Fin 1024) : Fin 4096 := ⟨1024 * (t.val % 4) + a.val, by have := (idx t).2.2.2; have := a.isLt; omega⟩
/-- The column of the result that a point's column `b` is. -/
def col (b : Fin 1024) : Fin 2048 := ⟨1024 * (t.val / 4) + b.val, by have := (idx t).2.2.2; have := b.isLt; omega⟩
theorem opened0 (X : Arrays c) (y : S1024x128.Idx) :
    ((cfg0.win 0).blk t).view.read (Elt Ideal) (X (Pipeline.arrRef spec0 0)) y = X main_arg0 ((win0_0.blk t).view.emb y) := rfl
theorem place0 (a : Fin 1024) (k : Fin 128) : (win0_0.blk t).view.emb (ix2 a k) = ix2 (row t a) (k) := by
  unfold row; blk_ext [(idx t).1]
theorem read0 (a : Fin 1024) (k : Fin 128) : (iblk m c 0 t : Vec Ideal S1024x128 .bf16) (ix2 a k) = V m c main_arg0 (ix2 (row t a) (k)) :=
  (opened0 c t (V m c) _).trans (congrArg (V m c main_arg0) (place0 t a k))
theorem opened1 (X : Arrays c) (y : S128x1024.Idx) :
    ((cfg0.win 1).blk t).view.read (Elt Ideal) (X (Pipeline.arrRef spec0 1)) y = X main_arg1 ((win0_1.blk t).view.emb y) := rfl
theorem place1 (k : Fin 128) (b : Fin 1024) : (win0_1.blk t).view.emb (ix2 k b) = ix2 (k) (col t b) := by
  unfold col; blk_ext [(idx t).2.1]
theorem read1 (k : Fin 128) (b : Fin 1024) : (iblk m c 1 t : Vec Ideal S128x1024 .bf16) (ix2 k b) = V m c main_arg1 (ix2 (k) (col t b)) :=
  (opened1 c t (V m c) _).trans (congrArg (V m c main_arg1) (place1 t k b))

/-- The tile a point leaves. -/
theorem after2 (a : Fin 1024) (b : Fin 1024) : (dats m 0 c).after 2 t (ix2 a b) = Product.nn (M := 4096) (N := 2048) (K := 128) (V m c main_arg0) (V m c main_arg1) (ix2 (row t a) (col t b)) := by
  rw [after0_2]
  unfold out0_2
  frame_out
  exact (block _ _ a b).trans (Finset.sum_congr rfl fun k _ => congrArg₂ (· * ·) (read0 m c t a k) (read1 m c t k b))

/-- The result is the product. -/
theorem array : (dats m 0 c).arrAt 2 cfg0.N = Product.nn (M := 4096) (N := 2048) (K := 128) (V m c main_arg0) (V m c main_arg1) := by
  refine (dats m 0 c).arrAt_eq_of_covers 2 _ (by decide +kernel) fun t hf y => ?_
  blk_simp
  obtain ⟨a, b, rfl⟩ : ∃ (a : Fin 1024) (b : Fin 1024), y = ix2 a b := ⟨y 0, y 1, eq_ix2 y⟩
  refine (after2 m c t a b).trans ?_
  have e0 : (win0_2.blk t).view.emb (ix2 a b) = ix2 (row t a) (col t b) := by
    unfold row col; blk_ext [(idx t).2.2.1]
  exact congrArg (Product.nn (M := 4096) (N := 2048) (K := 128) (V m c main_arg0) (V m c main_arg1)) e0.symm

end Cert.ForgetDxIdeal.Entry

namespace Cert.ForgetDxRefIdeal.Entry

open Idealize.ShloMosaic Idealize.SL.Sem Cert.ForgetDxRefIdeal

/-- The reference's product. -/
theorem product (A : (⟨S4096x128, .bf16⟩ : BufTy).Contents (Elt Ideal)) (B : (⟨S128x2048, .bf16⟩ : BufTy).Contents (Elt Ideal)) :
    Read.val_main_v5 (F := Ideal) A B = Product.nn (M := 4096) (N := 2048) (K := 128) A B := by
  funext y
  refine (Read.val_main_v5_apply A B _).trans (Finset.sum_congr rfl fun k _ => ?_)
  exact (congrArg₂ (· * ·) (congrArg A (eq_ix2 _)) (congrArg B (eq_ix2 _)))

end Cert.ForgetDxRefIdeal.Entry

namespace Cert.Proof.ForgetDx

open Idealize.ShloMosaic Idealize.SL.Sem

attribute [local instance] Cert.ForgetDx.Gen.facts Cert.ForgetDxIdeal.Gen.facts Cert.ForgetDxRefIdeal.Gen.facts

theorem frame_p : Cert.quiescent_ForgetDx := fun m ρ _ => Cert.ForgetDx.Gen.frame m ρ
theorem frame_pi : Cert.quiescent_ForgetDxIdeal := fun m ρ _ => Cert.ForgetDxIdeal.Gen.frame m ρ
theorem frame_ri : Cert.quiescent_ForgetDxRefIdeal := fun m ρ _ =>
  (θ_run Cert.ForgetDxRefIdeal.defs _ _).mono (fun r h => ⟨fun c => (h c).2, sem_eq_zero_of_no_sems (by decide) r.2⟩) (Cert.ForgetDxRefIdeal.Value.run (F := Ideal) m ρ)
theorem preserves : Cert.preserves_ForgetDx_ForgetDxIdeal := trivial

/-- Over the extended reals the call and the reference leave the same result. -/
theorem algebraic : Cert.algebraic_ForgetDxIdeal_ForgetDxRefIdeal := by
  intro m g m' g' _ hagree
  refine ⟨_, Cert.ForgetDxIdeal.Value.run_blocks m g, ?_⟩
  refine (θ_run Cert.ForgetDxRefIdeal.defs _ _).mono (fun r h c => ?_) (Cert.ForgetDxRefIdeal.Value.run (F := Ideal) m' g')
  obtain ⟨h0, h1⟩ := h c
  obtain ⟨e0, e1⟩ := hagree c
  refine ⟨h0.trans ?_, h1⟩
  exact ((Cert.ForgetDxRefIdeal.Entry.product _ _).trans (congrArg₂ (Product.nn (M := 4096) (N := 2048) (K := 128)) e0 e1)).trans (Cert.ForgetDxIdeal.Entry.array m c).symm

end Cert.Proof.ForgetDx
-- ==== Proof.ForgetDw.lean ====
/- The call for the gradient of the forget gates' projection: its result is the product `Aᵀ · B` of its first two arguments.
   A grid point computes one tile of 128 rows and 1024 columns. -/
module

public import proofs.«01_k».proof.Defs
public import proofs.«01_k».proof.Proof.Product
public import proofs.«01_k».proof.Proof.Gen.ForgetDw
public import proofs.«01_k».proof.Proof.Gen.ForgetDw.Frame
public import proofs.«01_k».proof.Proof.Gen.ForgetDwIdeal
public import proofs.«01_k».proof.Proof.Gen.ForgetDwIdeal.Value
public import proofs.«01_k».proof.Proof.Gen.ForgetDwRefIdeal
public import proofs.«01_k».proof.Proof.Gen.ForgetDwRefIdeal.Run
public import proofs.«01_k».proof.Proof.Gen.ForgetDwRefIdeal.Read
public import Idealize.ShloMosaic.Lib.Pipeline.ValueKit
public import Idealize.ShloMosaic.Lib.Pointwise
public import Idealize.ShloMosaic.Lib.WholeRead
public import Idealize.ShloMosaic.Lib.Claim

@[expose] public section

set_option maxRecDepth 16384

noncomputable section

namespace Cert.ForgetDwIdeal.Entry

open Idealize.ShloMosaic Idealize.SL.Sem Cert.ForgetDwIdeal Cert.ForgetDwIdeal.Gen

variable (m : (ℓ : Loc nD τ sig) → Buf (Elt Ideal) ℓ) (c : Dev nD)

/-- Where each window's block lies. -/
theorem idx : ∀ t : Fin cfg0.N, win0_0.index t = ![0, t.val % 1] ∧ win0_1.index t = ![0, t.val / 1] ∧ win0_2.index t = ![t.val % 1, t.val / 1] ∧ t.val < 2 :=
  (by decide +kernel : ∀ t : Fin grid0.N, _)

/-- The product of two blocks. -/
theorem block (A : Vec Ideal S4096x128 .bf16) (B : Vec Ideal S4096x1024 .bf16) (a : Fin 128) (b : Fin 1024) :
    k0_pay1 A B (ix2 a b) = Product.tn A B (ix2 a b) := by
  unfold Product.tn
  pointwise [k0_pay1]

variable (t : Fin cfg0.N)

/-- The device's arrays, whatever they hold. -/
abbrev Arrays (c : Dev nD) := (b : Ref sig .tc) → Buf (Elt Ideal) ((c.tc : Thread nD τ).loc b)

/-- The row of the result that a point's row `a` is. -/
def row (a : Fin 128) : Fin 128 := ⟨128 * (t.val % 1) + a.val, by have := (idx t).2.2.2; have := a.isLt; omega⟩
/-- The column of the result that a point's column `b` is. -/
def col (b : Fin 1024) : Fin 2048 := ⟨1024 * (t.val / 1) + b.val, by have := (idx t).2.2.2; have := b.isLt; omega⟩
theorem opened0 (X : Arrays c) (y : S4096x128.Idx) :
    ((cfg0.win 0).blk t).view.read (Elt Ideal) (X (Pipeline.arrRef spec0 0)) y = X main_arg0 ((win0_0.blk t).view.emb y) := rfl
theorem place0 (k : Fin 4096) (a : Fin 128) : (win0_0.blk t).view.emb (ix2 k a) = ix2 (k) (row t a) := by
  unfold row; blk_ext [(idx t).1]
theorem read0 (k : Fin 4096) (a : Fin 128) : (iblk m c 0 t : Vec Ideal S4096x128 .bf16) (ix2 k a) = V m c main_arg0 (ix2 (k) (row t a)) :=
  (opened0 c t (V m c) _).trans (congrArg (V m c main_arg0) (place0 t k a))
theorem opened1 (X : Arrays c) (y : S4096x1024.Idx) :
    ((cfg0.win 1).blk t).view.read (Elt Ideal) (X (Pipeline.arrRef spec0 1)) y = X main_arg1 ((win0_1.blk t).view.emb y) := rfl
theorem place1 (k : Fin 4096) (b : Fin 1024) : (win0_1.blk t).view.emb (ix2 k b) = ix2 (k) (col t b) := by
  unfold col; blk_ext [(idx t).2.1]
theorem read1 (k : Fin 4096) (b : Fin 1024) : (iblk m c 1 t : Vec Ideal S4096x1024 .bf16) (ix2 k b) = V m c main_arg1 (ix2 (k) (col t b)) :=
  (opened1 c t (V m c) _).trans (congrArg (V m c main_arg1) (place1 t k b))

/-- The tile a point leaves. -/
theorem after2 (a : Fin 128) (b : Fin 1024) : (dats m 0 c).after 2 t (ix2 a b) = Product.tn (M := 128) (N := 2048) (K := 4096) (V m c main_arg0) (V m c main_arg1) (ix2 (row t a) (col t b)) := by
  rw [after0_2]
  unfold out0_2
  frame_out
  exact (block _ _ a b).trans (Finset.sum_congr rfl fun k _ => congrArg₂ (· * ·) (read0 m c t k a) (read1 m c t k b))

/-- The result is the product. -/
theorem array : (dats m 0 c).arrAt 2 cfg0.N = Product.tn (M := 128) (N := 2048) (K := 4096) (V m c main_arg0) (V m c main_arg1) := by
  refine (dats m 0 c).arrAt_eq_of_covers 2 _ (by decide +kernel) fun t hf y => ?_
  blk_simp
  obtain ⟨a, b, rfl⟩ : ∃ (a : Fin 128) (b : Fin 1024), y = ix2 a b := ⟨y 0, y 1, eq_ix2 y⟩
  refine (after2 m c t a b).trans ?_
  have e0 : (win0_2.blk t).view.emb (ix2 a b) = ix2 (row t a) (col t b) := by
    unfold row col; blk_ext [(idx t).2.2.1]
  exact congrArg (Product.tn (M := 128) (N := 2048) (K := 4096) (V m c main_arg0) (V m c main_arg1)) e0.symm

end Cert.ForgetDwIdeal.Entry

namespace Cert.ForgetDwRefIdeal.Entry

open Idealize.ShloMosaic Idealize.SL.Sem Cert.ForgetDwRefIdeal

/-- The reference's product. -/
theorem product (A : (⟨S4096x128, .bf16⟩ : BufTy).Contents (Elt Ideal)) (B : (⟨S4096x2048, .bf16⟩ : BufTy).Contents (Elt Ideal)) :
    Read.val_main_v8 (F := Ideal) A B = Product.tn (M := 128) (N := 2048) (K := 4096) A B := by
  funext y
  refine (Read.val_main_v5_apply A B _).trans (Finset.sum_congr rfl fun k _ => ?_)
  exact (congrArg₂ (· * ·) (congrArg A (eq_ix2 _)) (congrArg B (eq_ix2 _)))

end Cert.ForgetDwRefIdeal.Entry

namespace Cert.Proof.ForgetDw

open Idealize.ShloMosaic Idealize.SL.Sem

attribute [local instance] Cert.ForgetDw.Gen.facts Cert.ForgetDwIdeal.Gen.facts Cert.ForgetDwRefIdeal.Gen.facts

theorem frame_p : Cert.quiescent_ForgetDw := fun m ρ _ => Cert.ForgetDw.Gen.frame m ρ
theorem frame_pi : Cert.quiescent_ForgetDwIdeal := fun m ρ _ => Cert.ForgetDwIdeal.Gen.frame m ρ
theorem frame_ri : Cert.quiescent_ForgetDwRefIdeal := fun m ρ _ =>
  (θ_run Cert.ForgetDwRefIdeal.defs _ _).mono (fun r h => ⟨fun c => (h c).2, sem_eq_zero_of_no_sems (by decide) r.2⟩) (Cert.ForgetDwRefIdeal.Value.run (F := Ideal) m ρ)
theorem preserves : Cert.preserves_ForgetDw_ForgetDwIdeal := trivial

/-- Over the extended reals the call and the reference leave the same result. -/
theorem algebraic : Cert.algebraic_ForgetDwIdeal_ForgetDwRefIdeal := by
  intro m g m' g' _ hagree
  refine ⟨_, Cert.ForgetDwIdeal.Value.run_blocks m g, ?_⟩
  refine (θ_run Cert.ForgetDwRefIdeal.defs _ _).mono (fun r h c => ?_) (Cert.ForgetDwRefIdeal.Value.run (F := Ideal) m' g')
  obtain ⟨h0, h1⟩ := h c
  obtain ⟨e0, e1⟩ := hagree c
  refine ⟨h0.trans ?_, h1⟩
  exact ((Cert.ForgetDwRefIdeal.Entry.product _ _).trans (congrArg₂ (Product.tn (M := 128) (N := 2048) (K := 4096)) e0 e1)).trans (Cert.ForgetDwIdeal.Entry.array m c).symm

end Cert.Proof.ForgetDw
-- ==== Proof.Forget.lean ====
/- The call for the logits of the forget gates: its result is the product `A · Bᵀ` of its first two arguments.
   A grid point computes one tile of 1024 rows and 128 columns. -/
module

public import proofs.«01_k».proof.Defs
public import proofs.«01_k».proof.Proof.Product
public import proofs.«01_k».proof.Proof.Gen.Forget
public import proofs.«01_k».proof.Proof.Gen.Forget.Frame
public import proofs.«01_k».proof.Proof.Gen.ForgetIdeal
public import proofs.«01_k».proof.Proof.Gen.ForgetIdeal.Value
public import proofs.«01_k».proof.Proof.Gen.ForgetRefIdeal
public import proofs.«01_k».proof.Proof.Gen.ForgetRefIdeal.Run
public import proofs.«01_k».proof.Proof.Gen.ForgetRefIdeal.Read
public import Idealize.ShloMosaic.Lib.Pipeline.ValueKit
public import Idealize.ShloMosaic.Lib.Pointwise
public import Idealize.ShloMosaic.Lib.WholeRead
public import Idealize.ShloMosaic.Lib.Claim

@[expose] public section

set_option maxRecDepth 16384

noncomputable section

namespace Cert.ForgetIdeal.Entry

open Idealize.ShloMosaic Idealize.SL.Sem Cert.ForgetIdeal Cert.ForgetIdeal.Gen

variable (m : (ℓ : Loc nD τ sig) → Buf (Elt Ideal) ℓ) (c : Dev nD)

/-- Where each window's block lies. -/
theorem idx : ∀ t : Fin cfg0.N, win0_0.index t = ![t.val % 4, 0] ∧ win0_1.index t = ![t.val / 4, 0] ∧ win0_2.index t = ![t.val % 4, t.val / 4] ∧ t.val < 4 :=
  (by decide +kernel : ∀ t : Fin grid0.N, _)

/-- The product of two blocks. -/
theorem block (A : Vec Ideal S1024x2048 .bf16) (B : Vec Ideal S128x2048 .bf16) (a : Fin 1024) (b : Fin 128) :
    k0_pay1 A B (ix2 a b) = Product.nt A B (ix2 a b) := by
  unfold Product.nt
  pointwise [k0_pay1]

variable (t : Fin cfg0.N)

/-- The device's arrays, whatever they hold. -/
abbrev Arrays (c : Dev nD) := (b : Ref sig .tc) → Buf (Elt Ideal) ((c.tc : Thread nD τ).loc b)

/-- The row of the result that a point's row `a` is. -/
def row (a : Fin 1024) : Fin 4096 := ⟨1024 * (t.val % 4) + a.val, by have := (idx t).2.2.2; have := a.isLt; omega⟩
/-- The column of the result that a point's column `b` is. -/
def col (b : Fin 128) : Fin 128 := ⟨128 * (t.val / 4) + b.val, by have := (idx t).2.2.2; have := b.isLt; omega⟩
theorem opened0 (X : Arrays c) (y : S1024x2048.Idx) :
    ((cfg0.win 0).blk t).view.read (Elt Ideal) (X (Pipeline.arrRef spec0 0)) y = X main_arg0 ((win0_0.blk t).view.emb y) := rfl
theorem place0 (a : Fin 1024) (k : Fin 2048) : (win0_0.blk t).view.emb (ix2 a k) = ix2 (row t a) (k) := by
  unfold row; blk_ext [(idx t).1]
theorem read0 (a : Fin 1024) (k : Fin 2048) : (iblk m c 0 t : Vec Ideal S1024x2048 .bf16) (ix2 a k) = V m c main_arg0 (ix2 (row t a) (k)) :=
  (opened0 c t (V m c) _).trans (congrArg (V m c main_arg0) (place0 t a k))
theorem opened1 (X : Arrays c) (y : S128x2048.Idx) :
    ((cfg0.win 1).blk t).view.read (Elt Ideal) (X (Pipeline.arrRef spec0 1)) y = X main_arg1 ((win0_1.blk t).view.emb y) := rfl
theorem place1 (b : Fin 128) (k : Fin 2048) : (win0_1.blk t).view.emb (ix2 b k) = ix2 (col t b) (k) := by
  unfold col; blk_ext [(idx t).2.1]
theorem read1 (b : Fin 128) (k : Fin 2048) : (iblk m c 1 t : Vec Ideal S128x2048 .bf16) (ix2 b k) = V m c main_arg1 (ix2 (col t b) (k)) :=
  (opened1 c t (V m c) _).trans (congrArg (V m c main_arg1) (place1 t b k))

/-- The tile a point leaves. -/
theorem after2 (a : Fin 1024) (b : Fin 128) : (dats m 0 c).after 2 t (ix2 a b) = Product.nt (M := 4096) (N := 128) (K := 2048) (V m c main_arg0) (V m c main_arg1) (ix2 (row t a) (col t b)) := by
  rw [after0_2]
  unfold out0_2
  frame_out
  exact (block _ _ a b).trans (Finset.sum_congr rfl fun k _ => congrArg₂ (· * ·) (read0 m c t a k) (read1 m c t b k))

/-- The result is the product. -/
theorem array : (dats m 0 c).arrAt 2 cfg0.N = Product.nt (M := 4096) (N := 128) (K := 2048) (V m c main_arg0) (V m c main_arg1) := by
  refine (dats m 0 c).arrAt_eq_of_covers 2 _ (by decide +kernel) fun t hf y => ?_
  blk_simp
  obtain ⟨a, b, rfl⟩ : ∃ (a : Fin 1024) (b : Fin 128), y = ix2 a b := ⟨y 0, y 1, eq_ix2 y⟩
  refine (after2 m c t a b).trans ?_
  have e0 : (win0_2.blk t).view.emb (ix2 a b) = ix2 (row t a) (col t b) := by
    unfold row col; blk_ext [(idx t).2.2.1]
  exact congrArg (Product.nt (M := 4096) (N := 128) (K := 2048) (V m c main_arg0) (V m c main_arg1)) e0.symm

end Cert.ForgetIdeal.Entry

namespace Cert.ForgetRefIdeal.Entry

open Idealize.ShloMosaic Idealize.SL.Sem Cert.ForgetRefIdeal

/-- The reference's product. -/
theorem product (A : (⟨S4096x2048, .bf16⟩ : BufTy).Contents (Elt Ideal)) (B : (⟨S128x2048, .bf16⟩ : BufTy).Contents (Elt Ideal)) :
    Read.val_main_v3 (F := Ideal) A B = Product.nt (M := 4096) (N := 128) (K := 2048) A B := by
  funext y
  refine (Read.val_main_v3_apply A B _).trans (Finset.sum_congr rfl fun k _ => ?_)
  exact (congrArg₂ (· * ·) (congrArg A (eq_ix2 _)) (congrArg B (eq_ix2 _)))

end Cert.ForgetRefIdeal.Entry

namespace Cert.Proof.Forget

open Idealize.ShloMosaic Idealize.SL.Sem

attribute [local instance] Cert.Forget.Gen.facts Cert.ForgetIdeal.Gen.facts Cert.ForgetRefIdeal.Gen.facts

theorem frame_p : Cert.quiescent_Forget := fun m ρ _ => Cert.Forget.Gen.frame m ρ
theorem frame_pi : Cert.quiescent_ForgetIdeal := fun m ρ _ => Cert.ForgetIdeal.Gen.frame m ρ
theorem frame_ri : Cert.quiescent_ForgetRefIdeal := fun m ρ _ =>
  (θ_run Cert.ForgetRefIdeal.defs _ _).mono (fun r h => ⟨fun c => (h c).2, sem_eq_zero_of_no_sems (by decide) r.2⟩) (Cert.ForgetRefIdeal.Value.run (F := Ideal) m ρ)
theorem preserves : Cert.preserves_Forget_ForgetIdeal := trivial

/-- Over the extended reals the call and the reference leave the same result. -/
theorem algebraic : Cert.algebraic_ForgetIdeal_ForgetRefIdeal := by
  intro m g m' g' _ hagree
  refine ⟨_, Cert.ForgetIdeal.Value.run_blocks m g, ?_⟩
  refine (θ_run Cert.ForgetRefIdeal.defs _ _).mono (fun r h c => ?_) (Cert.ForgetRefIdeal.Value.run (F := Ideal) m' g')
  obtain ⟨h0, h1⟩ := h c
  obtain ⟨e0, e1⟩ := hagree c
  refine ⟨h0.trans ?_, h1⟩
  exact ((Cert.ForgetRefIdeal.Entry.product _ _).trans (congrArg₂ (Product.nt (M := 4096) (N := 128) (K := 2048)) e0 e1)).trans (Cert.ForgetIdeal.Entry.array m c).symm

end Cert.Proof.Forget
-- ==== Proof.FfnOutDx.lean ====
/- The call for the gradient of the feed-forward network's hidden activations: its result is the product `A · Bᵀ` of its first two arguments.
   A grid point computes one tile of 1024 rows and 512 columns. -/
module

public import proofs.«01_k».proof.Defs
public import proofs.«01_k».proof.Proof.Product
public import proofs.«01_k».proof.Proof.Gen.FfnOutDx
public import proofs.«01_k».proof.Proof.Gen.FfnOutDx.Frame
public import proofs.«01_k».proof.Proof.Gen.FfnOutDxIdeal
public import proofs.«01_k».proof.Proof.Gen.FfnOutDxIdeal.Value
public import proofs.«01_k».proof.Proof.Gen.FfnOutDxRefIdeal
public import proofs.«01_k».proof.Proof.Gen.FfnOutDxRefIdeal.Run
public import proofs.«01_k».proof.Proof.Gen.FfnOutDxRefIdeal.Read
public import Idealize.ShloMosaic.Lib.Pipeline.ValueKit
public import Idealize.ShloMosaic.Lib.Pointwise
public import Idealize.ShloMosaic.Lib.WholeRead
public import Idealize.ShloMosaic.Lib.Claim

@[expose] public section

set_option maxRecDepth 16384

noncomputable section

namespace Cert.FfnOutDxIdeal.Entry

open Idealize.ShloMosaic Idealize.SL.Sem Cert.FfnOutDxIdeal Cert.FfnOutDxIdeal.Gen

variable (m : (ℓ : Loc nD τ sig) → Buf (Elt Ideal) ℓ) (c : Dev nD)

/-- Where each window's block lies. -/
theorem idx : ∀ t : Fin cfg0.N, win0_0.index t = ![t.val % 4, 0] ∧ win0_1.index t = ![t.val / 4, 0] ∧ win0_2.index t = ![t.val % 4, t.val / 4] ∧ t.val < 44 :=
  (by decide +kernel : ∀ t : Fin grid0.N, _)

/-- The product of two blocks. -/
theorem block (A : Vec Ideal S1024x2048 .bf16) (B : Vec Ideal S512x2048 .bf16) (a : Fin 1024) (b : Fin 512) :
    k0_pay1 A B (ix2 a b) = Product.nt A B (ix2 a b) := by
  unfold Product.nt
  pointwise [k0_pay1]

variable (t : Fin cfg0.N)

/-- The device's arrays, whatever they hold. -/
abbrev Arrays (c : Dev nD) := (b : Ref sig .tc) → Buf (Elt Ideal) ((c.tc : Thread nD τ).loc b)

/-- The row of the result that a point's row `a` is. -/
def row (a : Fin 1024) : Fin 4096 := ⟨1024 * (t.val % 4) + a.val, by have := (idx t).2.2.2; have := a.isLt; omega⟩
/-- The column of the result that a point's column `b` is. -/
def col (b : Fin 512) : Fin 5632 := ⟨512 * (t.val / 4) + b.val, by have := (idx t).2.2.2; have := b.isLt; omega⟩
theorem opened0 (X : Arrays c) (y : S1024x2048.Idx) :
    ((cfg0.win 0).blk t).view.read (Elt Ideal) (X (Pipeline.arrRef spec0 0)) y = X main_arg0 ((win0_0.blk t).view.emb y) := rfl
theorem place0 (a : Fin 1024) (k : Fin 2048) : (win0_0.blk t).view.emb (ix2 a k) = ix2 (row t a) (k) := by
  unfold row; blk_ext [(idx t).1]
theorem read0 (a : Fin 1024) (k : Fin 2048) : (iblk m c 0 t : Vec Ideal S1024x2048 .bf16) (ix2 a k) = V m c main_arg0 (ix2 (row t a) (k)) :=
  (opened0 c t (V m c) _).trans (congrArg (V m c main_arg0) (place0 t a k))
theorem opened1 (X : Arrays c) (y : S512x2048.Idx) :
    ((cfg0.win 1).blk t).view.read (Elt Ideal) (X (Pipeline.arrRef spec0 1)) y = X main_arg1 ((win0_1.blk t).view.emb y) := rfl
theorem place1 (b : Fin 512) (k : Fin 2048) : (win0_1.blk t).view.emb (ix2 b k) = ix2 (col t b) (k) := by
  unfold col; blk_ext [(idx t).2.1]
theorem read1 (b : Fin 512) (k : Fin 2048) : (iblk m c 1 t : Vec Ideal S512x2048 .bf16) (ix2 b k) = V m c main_arg1 (ix2 (col t b) (k)) :=
  (opened1 c t (V m c) _).trans (congrArg (V m c main_arg1) (place1 t b k))

/-- The tile a point leaves. -/
theorem after2 (a : Fin 1024) (b : Fin 512) : (dats m 0 c).after 2 t (ix2 a b) = Product.nt (M := 4096) (N := 5632) (K := 2048) (V m c main_arg0) (V m c main_arg1) (ix2 (row t a) (col t b)) := by
  rw [after0_2]
  unfold out0_2
  frame_out
  exact (block _ _ a b).trans (Finset.sum_congr rfl fun k _ => congrArg₂ (· * ·) (read0 m c t a k) (read1 m c t b k))

/-- The result is the product. -/
theorem array : (dats m 0 c).arrAt 2 cfg0.N = Product.nt (M := 4096) (N := 5632) (K := 2048) (V m c main_arg0) (V m c main_arg1) := by
  refine (dats m 0 c).arrAt_eq_of_covers 2 _ (by decide +kernel) fun t hf y => ?_
  blk_simp
  obtain ⟨a, b, rfl⟩ : ∃ (a : Fin 1024) (b : Fin 512), y = ix2 a b := ⟨y 0, y 1, eq_ix2 y⟩
  refine (after2 m c t a b).trans ?_
  have e0 : (win0_2.blk t).view.emb (ix2 a b) = ix2 (row t a) (col t b) := by
    unfold row col; blk_ext [(idx t).2.2.1]
  exact congrArg (Product.nt (M := 4096) (N := 5632) (K := 2048) (V m c main_arg0) (V m c main_arg1)) e0.symm

end Cert.FfnOutDxIdeal.Entry

namespace Cert.FfnOutDxRefIdeal.Entry

open Idealize.ShloMosaic Idealize.SL.Sem Cert.FfnOutDxRefIdeal

/-- The reference's product. -/
theorem product (A : (⟨S4096x2048, .bf16⟩ : BufTy).Contents (Elt Ideal)) (B : (⟨S5632x2048, .bf16⟩ : BufTy).Contents (Elt Ideal)) :
    Read.val_main_v5 (F := Ideal) A B = Product.nt (M := 4096) (N := 5632) (K := 2048) A B := by
  funext y
  refine (Read.val_main_v4_apply A B _).trans (Finset.sum_congr rfl fun k _ => ?_)
  exact (congrArg₂ (· * ·) (congrArg A (eq_ix2 _)) (congrArg B (eq_ix2 _)))

end Cert.FfnOutDxRefIdeal.Entry

namespace Cert.Proof.FfnOutDx

open Idealize.ShloMosaic Idealize.SL.Sem

attribute [local instance] Cert.FfnOutDx.Gen.facts Cert.FfnOutDxIdeal.Gen.facts Cert.FfnOutDxRefIdeal.Gen.facts

theorem frame_p : Cert.quiescent_FfnOutDx := fun m ρ _ => Cert.FfnOutDx.Gen.frame m ρ
theorem frame_pi : Cert.quiescent_FfnOutDxIdeal := fun m ρ _ => Cert.FfnOutDxIdeal.Gen.frame m ρ
theorem frame_ri : Cert.quiescent_FfnOutDxRefIdeal := fun m ρ _ =>
  (θ_run Cert.FfnOutDxRefIdeal.defs _ _).mono (fun r h => ⟨fun c => (h c).2, sem_eq_zero_of_no_sems (by decide) r.2⟩) (Cert.FfnOutDxRefIdeal.Value.run (F := Ideal) m ρ)
theorem preserves : Cert.preserves_FfnOutDx_FfnOutDxIdeal := trivial

/-- Over the extended reals the call and the reference leave the same result. -/
theorem algebraic : Cert.algebraic_FfnOutDxIdeal_FfnOutDxRefIdeal := by
  intro m g m' g' _ hagree
  refine ⟨_, Cert.FfnOutDxIdeal.Value.run_blocks m g, ?_⟩
  refine (θ_run Cert.FfnOutDxRefIdeal.defs _ _).mono (fun r h c => ?_) (Cert.FfnOutDxRefIdeal.Value.run (F := Ideal) m' g')
  obtain ⟨h0, h1⟩ := h c
  obtain ⟨e0, e1⟩ := hagree c
  refine ⟨h0.trans ?_, h1⟩
  exact ((Cert.FfnOutDxRefIdeal.Entry.product _ _).trans (congrArg₂ (Product.nt (M := 4096) (N := 5632) (K := 2048)) e0 e1)).trans (Cert.FfnOutDxIdeal.Entry.array m c).symm

end Cert.Proof.FfnOutDx
-- ==== Proof.FfnOutDw.lean ====
/- The call for the gradient of the feed-forward network's second weight: its result is the product `Aᵀ · B` of its first two arguments.
   A grid point computes one tile of 512 rows and 1024 columns. -/
module

public import proofs.«01_k».proof.Defs
public import proofs.«01_k».proof.Proof.Product
public import proofs.«01_k».proof.Proof.Gen.FfnOutDw
public import proofs.«01_k».proof.Proof.Gen.FfnOutDw.Frame
public import proofs.«01_k».proof.Proof.Gen.FfnOutDwIdeal
public import proofs.«01_k».proof.Proof.Gen.FfnOutDwIdeal.Value
public import proofs.«01_k».proof.Proof.Gen.FfnOutDwRefIdeal
public import proofs.«01_k».proof.Proof.Gen.FfnOutDwRefIdeal.Run
public import proofs.«01_k».proof.Proof.Gen.FfnOutDwRefIdeal.Read
public import Idealize.ShloMosaic.Lib.Pipeline.ValueKit
public import Idealize.ShloMosaic.Lib.Pointwise
public import Idealize.ShloMosaic.Lib.WholeRead
public import Idealize.ShloMosaic.Lib.Claim

@[expose] public section

set_option maxRecDepth 16384

noncomputable section

namespace Cert.FfnOutDwIdeal.Entry

open Idealize.ShloMosaic Idealize.SL.Sem Cert.FfnOutDwIdeal Cert.FfnOutDwIdeal.Gen

variable (m : (ℓ : Loc nD τ sig) → Buf (Elt Ideal) ℓ) (c : Dev nD)

/-- Where each window's block lies. -/
theorem idx : ∀ t : Fin cfg0.N, win0_0.index t = ![0, t.val % 11] ∧ win0_1.index t = ![0, t.val / 11] ∧ win0_2.index t = ![t.val % 11, t.val / 11] ∧ t.val < 22 :=
  (by decide +kernel : ∀ t : Fin grid0.N, _)

/-- The product of two blocks. -/
theorem block (A : Vec Ideal S4096x512 .bf16) (B : Vec Ideal S4096x1024 .bf16) (a : Fin 512) (b : Fin 1024) :
    k0_pay1 A B (ix2 a b) = Product.tn A B (ix2 a b) := by
  unfold Product.tn
  pointwise [k0_pay1]

variable (t : Fin cfg0.N)

/-- The device's arrays, whatever they hold. -/
abbrev Arrays (c : Dev nD) := (b : Ref sig .tc) → Buf (Elt Ideal) ((c.tc : Thread nD τ).loc b)

/-- The row of the result that a point's row `a` is. -/
def row (a : Fin 512) : Fin 5632 := ⟨512 * (t.val % 11) + a.val, by have := (idx t).2.2.2; have := a.isLt; omega⟩
/-- The column of the result that a point's column `b` is. -/
def col (b : Fin 1024) : Fin 2048 := ⟨1024 * (t.val / 11) + b.val, by have := (idx t).2.2.2; have := b.isLt; omega⟩
theorem opened0 (X : Arrays c) (y : S4096x512.Idx) :
    ((cfg0.win 0).blk t).view.read (Elt Ideal) (X (Pipeline.arrRef spec0 0)) y = X main_arg0 ((win0_0.blk t).view.emb y) := rfl
theorem place0 (k : Fin 4096) (a : Fin 512) : (win0_0.blk t).view.emb (ix2 k a) = ix2 (k) (row t a) := by
  unfold row; blk_ext [(idx t).1]
theorem read0 (k : Fin 4096) (a : Fin 512) : (iblk m c 0 t : Vec Ideal S4096x512 .bf16) (ix2 k a) = V m c main_arg0 (ix2 (k) (row t a)) :=
  (opened0 c t (V m c) _).trans (congrArg (V m c main_arg0) (place0 t k a))
theorem opened1 (X : Arrays c) (y : S4096x1024.Idx) :
    ((cfg0.win 1).blk t).view.read (Elt Ideal) (X (Pipeline.arrRef spec0 1)) y = X main_arg1 ((win0_1.blk t).view.emb y) := rfl
theorem place1 (k : Fin 4096) (b : Fin 1024) : (win0_1.blk t).view.emb (ix2 k b) = ix2 (k) (col t b) := by
  unfold col; blk_ext [(idx t).2.1]
theorem read1 (k : Fin 4096) (b : Fin 1024) : (iblk m c 1 t : Vec Ideal S4096x1024 .bf16) (ix2 k b) = V m c main_arg1 (ix2 (k) (col t b)) :=
  (opened1 c t (V m c) _).trans (congrArg (V m c main_arg1) (place1 t k b))

/-- The tile a point leaves. -/
theorem after2 (a : Fin 512) (b : Fin 1024) : (dats m 0 c).after 2 t (ix2 a b) = Product.tn (M := 5632) (N := 2048) (K := 4096) (V m c main_arg0) (V m c main_arg1) (ix2 (row t a) (col t b)) := by
  rw [after0_2]
  unfold out0_2
  frame_out
  exact (block _ _ a b).trans (Finset.sum_congr rfl fun k _ => congrArg₂ (· * ·) (read0 m c t k a) (read1 m c t k b))

/-- The result is the product. -/
theorem array : (dats m 0 c).arrAt 2 cfg0.N = Product.tn (M := 5632) (N := 2048) (K := 4096) (V m c main_arg0) (V m c main_arg1) := by
  refine (dats m 0 c).arrAt_eq_of_covers 2 _ (by decide +kernel) fun t hf y => ?_
  blk_simp
  obtain ⟨a, b, rfl⟩ : ∃ (a : Fin 512) (b : Fin 1024), y = ix2 a b := ⟨y 0, y 1, eq_ix2 y⟩
  refine (after2 m c t a b).trans ?_
  have e0 : (win0_2.blk t).view.emb (ix2 a b) = ix2 (row t a) (col t b) := by
    unfold row col; blk_ext [(idx t).2.2.1]
  exact congrArg (Product.tn (M := 5632) (N := 2048) (K := 4096) (V m c main_arg0) (V m c main_arg1)) e0.symm

end Cert.FfnOutDwIdeal.Entry

namespace Cert.FfnOutDwRefIdeal.Entry

open Idealize.ShloMosaic Idealize.SL.Sem Cert.FfnOutDwRefIdeal

/-- The reference's product. -/
theorem product (A : (⟨S4096x5632, .bf16⟩ : BufTy).Contents (Elt Ideal)) (B : (⟨S4096x2048, .bf16⟩ : BufTy).Contents (Elt Ideal)) :
    Read.val_main_v6 (F := Ideal) A B = Product.tn (M := 5632) (N := 2048) (K := 4096) A B := by
  funext y
  refine (Read.val_main_v4_apply A B _).trans (Finset.sum_congr rfl fun k _ => ?_)
  exact (mul_comm _ _).trans (congrArg₂ (· * ·) (congrArg A (eq_ix2 _)) (congrArg B (eq_ix2 _)))

end Cert.FfnOutDwRefIdeal.Entry

namespace Cert.Proof.FfnOutDw

open Idealize.ShloMosaic Idealize.SL.Sem

attribute [local instance] Cert.FfnOutDw.Gen.facts Cert.FfnOutDwIdeal.Gen.facts Cert.FfnOutDwRefIdeal.Gen.facts

theorem frame_p : Cert.quiescent_FfnOutDw := fun m ρ _ => Cert.FfnOutDw.Gen.frame m ρ
theorem frame_pi : Cert.quiescent_FfnOutDwIdeal := fun m ρ _ => Cert.FfnOutDwIdeal.Gen.frame m ρ
theorem frame_ri : Cert.quiescent_FfnOutDwRefIdeal := fun m ρ _ =>
  (θ_run Cert.FfnOutDwRefIdeal.defs _ _).mono (fun r h => ⟨fun c => (h c).2, sem_eq_zero_of_no_sems (by decide) r.2⟩) (Cert.FfnOutDwRefIdeal.Value.run (F := Ideal) m ρ)
theorem preserves : Cert.preserves_FfnOutDw_FfnOutDwIdeal := trivial

/-- Over the extended reals the call and the reference leave the same result. -/
theorem algebraic : Cert.algebraic_FfnOutDwIdeal_FfnOutDwRefIdeal := by
  intro m g m' g' _ hagree
  refine ⟨_, Cert.FfnOutDwIdeal.Value.run_blocks m g, ?_⟩
  refine (θ_run Cert.FfnOutDwRefIdeal.defs _ _).mono (fun r h c => ?_) (Cert.FfnOutDwRefIdeal.Value.run (F := Ideal) m' g')
  obtain ⟨h0, h1⟩ := h c
  obtain ⟨e0, e1⟩ := hagree c
  refine ⟨h0.trans ?_, h1⟩
  exact ((Cert.FfnOutDwRefIdeal.Entry.product _ _).trans (congrArg₂ (Product.tn (M := 5632) (N := 2048) (K := 4096)) e0 e1)).trans (Cert.FfnOutDwIdeal.Entry.array m c).symm

end Cert.Proof.FfnOutDw
-- ==== Proof.FfnOut.lean ====
/- The call for the feed-forward network's second product, gated and added to the residual: its result is the product `A · B` of its first two arguments, and the third plus the product times the fourth.
   A grid point computes one tile of 512 rows and 1024 columns. -/
module

public import proofs.«01_k».proof.Defs
public import proofs.«01_k».proof.Proof.Product
public import proofs.«01_k».proof.Proof.Gen.FfnOut
public import proofs.«01_k».proof.Proof.Gen.FfnOut.Frame
public import proofs.«01_k».proof.Proof.Gen.FfnOutIdeal
public import proofs.«01_k».proof.Proof.Gen.FfnOutIdeal.Value
public import proofs.«01_k».proof.Proof.Gen.FfnOutRefIdeal
public import proofs.«01_k».proof.Proof.Gen.FfnOutRefIdeal.Run
public import proofs.«01_k».proof.Proof.Gen.FfnOutRefIdeal.Read
public import Idealize.ShloMosaic.Lib.Pipeline.ValueKit
public import Idealize.ShloMosaic.Lib.Pointwise
public import Idealize.ShloMosaic.Lib.WholeRead
public import Idealize.ShloMosaic.Lib.Claim

@[expose] public section

set_option maxRecDepth 16384

noncomputable section

namespace Cert.FfnOutIdeal.Entry

open Idealize.ShloMosaic Idealize.SL.Sem Cert.FfnOutIdeal Cert.FfnOutIdeal.Gen

variable (m : (ℓ : Loc nD τ sig) → Buf (Elt Ideal) ℓ) (c : Dev nD)

/-- Where each window's block lies. -/
theorem idx : ∀ t : Fin cfg0.N, win0_0.index t = ![t.val % 8, 0] ∧ win0_1.index t = ![0, t.val / 8] ∧ win0_2.index t = ![t.val % 8, t.val / 8] ∧ win0_3.index t = ![0, t.val / 8] ∧ win0_4.index t = ![t.val % 8, t.val / 8] ∧ win0_5.index t = ![t.val % 8, t.val / 8] ∧ t.val < 16 :=
  (by decide +kernel : ∀ t : Fin grid0.N, _)

/-- The product of two blocks. -/
theorem block (A : Vec Ideal S512x5632 .bf16) (B : Vec Ideal S5632x1024 .bf16) (a : Fin 512) (b : Fin 1024) :
    k0_pay1 A B (ix2 a b) = Product.nn A B (ix2 a b) := by
  unfold Product.nn
  pointwise [k0_pay1]
/-- The product of two blocks, times the gate's columns, added to the residual's block. -/
theorem gated (A : Vec Ideal S512x5632 .bf16) (B : Vec Ideal S5632x1024 .bf16) (G : Vec Ideal S1x1024 .f32) (X : Vec Ideal S512x1024 .f32) (a : Fin 512) (b : Fin 1024) :
    k0_pay2 A B G X (ix2 a b) = (X (ix2 a b) : EReal) + (G (ix2 0 b) : EReal) * Product.nn A B (ix2 a b) := by
  unfold Product.nn
  pointwise [k0_pay2, k0_pay1]
/-- The product of two blocks in the narrower format. -/
theorem narrow (A : Vec Ideal S512x5632 .bf16) (B : Vec Ideal S5632x1024 .bf16) (a : Fin 512) (b : Fin 1024) :
    k0_pay3 A B (ix2 a b) = Product.nn A B (ix2 a b) := block A B a b

variable (t : Fin cfg0.N)

/-- The device's arrays, whatever they hold. -/
abbrev Arrays (c : Dev nD) := (b : Ref sig .tc) → Buf (Elt Ideal) ((c.tc : Thread nD τ).loc b)

/-- The row of the result that a point's row `a` is. -/
def row (a : Fin 512) : Fin 4096 := ⟨512 * (t.val % 8) + a.val, by have := (idx t).2.2.2.2.2.2; have := a.isLt; omega⟩
/-- The column of the result that a point's column `b` is. -/
def col (b : Fin 1024) : Fin 2048 := ⟨1024 * (t.val / 8) + b.val, by have := (idx t).2.2.2.2.2.2; have := b.isLt; omega⟩
theorem opened0 (X : Arrays c) (y : S512x5632.Idx) :
    ((cfg0.win 0).blk t).view.read (Elt Ideal) (X (Pipeline.arrRef spec0 0)) y = X main_arg0 ((win0_0.blk t).view.emb y) := rfl
theorem place0 (a : Fin 512) (k : Fin 5632) : (win0_0.blk t).view.emb (ix2 a k) = ix2 (row t a) (k) := by
  unfold row; blk_ext [(idx t).1]
theorem read0 (a : Fin 512) (k : Fin 5632) : (iblk m c 0 t : Vec Ideal S512x5632 .bf16) (ix2 a k) = V m c main_arg0 (ix2 (row t a) (k)) :=
  (opened0 c t (V m c) _).trans (congrArg (V m c main_arg0) (place0 t a k))
theorem opened1 (X : Arrays c) (y : S5632x1024.Idx) :
    ((cfg0.win 1).blk t).view.read (Elt Ideal) (X (Pipeline.arrRef spec0 1)) y = X main_arg1 ((win0_1.blk t).view.emb y) := rfl
theorem place1 (k : Fin 5632) (b : Fin 1024) : (win0_1.blk t).view.emb (ix2 k b) = ix2 (k) (col t b) := by
  unfold col; blk_ext [(idx t).2.1]
theorem read1 (k : Fin 5632) (b : Fin 1024) : (iblk m c 1 t : Vec Ideal S5632x1024 .bf16) (ix2 k b) = V m c main_arg1 (ix2 (k) (col t b)) :=
  (opened1 c t (V m c) _).trans (congrArg (V m c main_arg1) (place1 t k b))
theorem opened2 (X : Arrays c) (y : S512x1024.Idx) :
    ((cfg0.win 2).blk t).view.read (Elt Ideal) (X (Pipeline.arrRef spec0 2)) y = X main_arg2 ((win0_2.blk t).view.emb y) := rfl
theorem place2 (a : Fin 512) (b : Fin 1024) : (win0_2.blk t).view.emb (ix2 a b) = ix2 (row t a) (col t b) := by
  unfold row col; blk_ext [(idx t).2.2.1]
theorem read2 (a : Fin 512) (b : Fin 1024) : (iblk m c 2 t : Vec Ideal S512x1024 .f32) (ix2 a b) = V m c main_arg2 (ix2 (row t a) (col t b)) :=
  (opened2 c t (V m c) _).trans (congrArg (V m c main_arg2) (place2 t a b))
theorem opened3 (X : Arrays c) (y : S1x1024.Idx) :
    ((cfg0.win 3).blk t).view.read (Elt Ideal) (X (Pipeline.arrRef spec0 3)) y = X main_arg3 ((win0_3.blk t).view.emb y) := rfl
theorem place3 (b : Fin 1024) : (win0_3.blk t).view.emb (ix2 0 b) = ix2 0 (col t b) := by
  unfold col; blk_ext [(idx t).2.2.2.1]
theorem read3 (b : Fin 1024) : (iblk m c 3 t : Vec Ideal S1x1024 .f32) (ix2 0 b) = V m c main_arg3 (ix2 0 (col t b)) :=
  (opened3 c t (V m c) _).trans (congrArg (V m c main_arg3) (place3 t b))

/-- A point's tile of the product. -/
theorem tile (a : Fin 512) (b : Fin 1024) :
    Product.nn (M := 512) (N := 1024) (K := 5632) (iblk m c 0 t) (iblk m c 1 t) (ix2 a b) = Product.nn (M := 4096) (N := 2048) (K := 5632) (V m c main_arg0) (V m c main_arg1) (ix2 (row t a) (col t b)) :=
  Finset.sum_congr rfl fun k _ => congrArg₂ (· * ·) (read0 m c t a k) (read1 m c t k b)

theorem after4 (a : Fin 512) (b : Fin 1024) : (dats m 0 c).after 4 t (ix2 a b) = Product.nn (M := 4096) (N := 2048) (K := 5632) (V m c main_arg0) (V m c main_arg1) (ix2 (row t a) (col t b)) := by
  rw [after0_4]
  unfold out0_4
  frame_out
  exact (narrow _ _ a b).trans (tile m c t a b)

theorem after5 (a : Fin 512) (b : Fin 1024) : (dats m 0 c).after 5 t (ix2 a b) = Product.gate (M := 4096) (N := 2048) (V m c main_arg2) (V m c main_arg3) (Product.nn (M := 4096) (N := 2048) (K := 5632) (V m c main_arg0) (V m c main_arg1)) (ix2 (row t a) (col t b)) := by
  rw [after0_5]
  unfold out0_5
  frame_out
  exact (gated _ _ _ _ a b).trans (congrArg₂ (· + ·) (read2 m c t a b) (congrArg₂ (· * ·) (read3 m c t b) (tile m c t a b)))

/-- The first result is the product. -/
theorem array4 : (dats m 0 c).arrAt 4 cfg0.N = Product.nn (M := 4096) (N := 2048) (K := 5632) (V m c main_arg0) (V m c main_arg1) := by
  refine (dats m 0 c).arrAt_eq_of_covers 4 _ (by decide +kernel) fun t hf y => ?_
  blk_simp
  obtain ⟨a, b, rfl⟩ : ∃ (a : Fin 512) (b : Fin 1024), y = ix2 a b := ⟨y 0, y 1, eq_ix2 y⟩
  refine (after4 m c t a b).trans ?_
  have e0 : (win0_4.blk t).view.emb (ix2 a b) = ix2 (row t a) (col t b) := by
    unfold row col; blk_ext [(idx t).2.2.2.2.1]
  exact congrArg (Product.nn (M := 4096) (N := 2048) (K := 5632) (V m c main_arg0) (V m c main_arg1)) e0.symm

/-- The second result is the residual and the gated product. -/
theorem array5 : (dats m 0 c).arrAt 5 cfg0.N = Product.gate (M := 4096) (N := 2048) (V m c main_arg2) (V m c main_arg3) (Product.nn (M := 4096) (N := 2048) (K := 5632) (V m c main_arg0) (V m c main_arg1)) := by
  refine (dats m 0 c).arrAt_eq_of_covers 5 _ (by decide +kernel) fun t hf y => ?_
  blk_simp
  obtain ⟨a, b, rfl⟩ : ∃ (a : Fin 512) (b : Fin 1024), y = ix2 a b := ⟨y 0, y 1, eq_ix2 y⟩
  refine (after5 m c t a b).trans ?_
  have e0 : (win0_5.blk t).view.emb (ix2 a b) = ix2 (row t a) (col t b) := by
    unfold row col; blk_ext [(idx t).2.2.2.2.2.1]
  exact congrArg (Product.gate (M := 4096) (N := 2048) (V m c main_arg2) (V m c main_arg3) (Product.nn (M := 4096) (N := 2048) (K := 5632) (V m c main_arg0) (V m c main_arg1))) e0.symm

end Cert.FfnOutIdeal.Entry

namespace Cert.FfnOutRefIdeal.Entry

open Idealize.ShloMosaic Idealize.SL.Sem Cert.FfnOutRefIdeal

/-- The reference's product. -/
theorem product (A : (⟨S4096x5632, .bf16⟩ : BufTy).Contents (Elt Ideal)) (B : (⟨S5632x2048, .bf16⟩ : BufTy).Contents (Elt Ideal)) :
    Read.val_main_v2 (F := Ideal) A B = Product.nn (M := 4096) (N := 2048) (K := 5632) A B := by
  funext y
  refine (Read.val_main_v2_apply A B _).trans (Finset.sum_congr rfl fun k _ => ?_)
  exact (congrArg₂ (· * ·) (congrArg A (eq_ix2 _)) (congrArg B (eq_ix2 _)))

/-- The reference's second result. -/
theorem result (A : (⟨S4096x5632, .bf16⟩ : BufTy).Contents (Elt Ideal)) (B : (⟨S5632x2048, .bf16⟩ : BufTy).Contents (Elt Ideal)) (X : (⟨S4096x2048, .f32⟩ : BufTy).Contents (Elt Ideal)) (G : (⟨S1x2048, .f32⟩ : BufTy).Contents (Elt Ideal)) :
    Read.val_main_v6 (F := Ideal) A B X G = Product.gate (M := 4096) (N := 2048) X G (Product.nn (M := 4096) (N := 2048) (K := 5632) A B) := by
  funext y
  refine congrArg ((X y : EReal) + ·) (congrArg₂ (· * ·) (congrArg G ?_) (congrFun (product A B) y))
  funext a
  fin_cases a <;> rfl

end Cert.FfnOutRefIdeal.Entry

namespace Cert.Proof.FfnOut

open Idealize.ShloMosaic Idealize.SL.Sem

attribute [local instance] Cert.FfnOut.Gen.facts Cert.FfnOutIdeal.Gen.facts Cert.FfnOutRefIdeal.Gen.facts

theorem frame_p : Cert.quiescent_FfnOut := fun m ρ _ => Cert.FfnOut.Gen.frame m ρ
theorem frame_pi : Cert.quiescent_FfnOutIdeal := fun m ρ _ => Cert.FfnOutIdeal.Gen.frame m ρ
theorem frame_ri : Cert.quiescent_FfnOutRefIdeal := fun m ρ _ =>
  (θ_run Cert.FfnOutRefIdeal.defs _ _).mono (fun r h => ⟨fun c => (h c).2.2, sem_eq_zero_of_no_sems (by decide) r.2⟩) (Cert.FfnOutRefIdeal.Value.run (F := Ideal) m ρ)
theorem preserves : Cert.preserves_FfnOut_FfnOutIdeal := trivial

/-- Over the extended reals the call and the reference leave the same result. -/
theorem algebraic : Cert.algebraic_FfnOutIdeal_FfnOutRefIdeal := by
  intro m g m' g' _ hagree
  refine ⟨_, _, Cert.FfnOutIdeal.Value.run_blocks m g, ?_⟩
  refine (θ_run Cert.FfnOutRefIdeal.defs _ _).mono (fun r h c => ?_) (Cert.FfnOutRefIdeal.Value.run (F := Ideal) m' g')
  obtain ⟨h0, h1, h2⟩ := h c
  obtain ⟨e0, e1, e2, e3⟩ := hagree c
  have p := congrArg₂ (Product.nn (M := 4096) (N := 2048) (K := 5632)) e0 e1
  refine ⟨h0.trans ?_, h1.trans ?_, h2⟩
  · exact ((Cert.FfnOutRefIdeal.Entry.product _ _).trans p).trans (Cert.FfnOutIdeal.Entry.array4 m c).symm
  · exact ((Cert.FfnOutRefIdeal.Entry.result _ _ _ _).trans (Product.gate_congr e2 e3 p)).trans (Cert.FfnOutIdeal.Entry.array5 m c).symm

end Cert.Proof.FfnOut
-- ==== Proof.FfnInDx.lean ====
/- The call for the gradient of the feed-forward network's input: its result is the product `A · B` of its first two arguments.
   A grid point computes one tile of 512 rows and 1024 columns, adding one 4th of the terms. -/
module

public import proofs.«01_k».proof.Defs
public import proofs.«01_k».proof.Proof.Product
public import proofs.«01_k».proof.Proof.Gen.FfnInDx
public import proofs.«01_k».proof.Proof.Gen.FfnInDx.Frame
public import proofs.«01_k».proof.Proof.Gen.FfnInDxIdeal
public import proofs.«01_k».proof.Proof.Gen.FfnInDxIdeal.Value
public import proofs.«01_k».proof.Proof.Gen.FfnInDxRefIdeal
public import proofs.«01_k».proof.Proof.Gen.FfnInDxRefIdeal.Run
public import proofs.«01_k».proof.Proof.Gen.FfnInDxRefIdeal.Read
public import Idealize.ShloMosaic.Lib.Pipeline.ValueKit
public import Idealize.ShloMosaic.Lib.Pointwise
public import Idealize.ShloMosaic.Lib.WholeRead
public import Idealize.ShloMosaic.Lib.Claim

@[expose] public section

set_option maxRecDepth 16384

noncomputable section

namespace Cert.FfnInDxIdeal.Entry

open Idealize.ShloMosaic Idealize.SL.Sem Cert.FfnInDxIdeal Cert.FfnInDxIdeal.Gen

variable (m : (ℓ : Loc nD τ sig) → Buf (Elt Ideal) ℓ) (c : Dev nD)

/-- Where each window's block lies. -/
theorem idx : ∀ t : Fin cfg0.N, win0_0.index t = ![t.val / 4 % 8, t.val % 4] ∧ win0_1.index t = ![t.val % 4, t.val / 32] ∧ win0_2.index t = ![t.val / 4 % 8, t.val / 32] ∧ t.val < 64 :=
  (by decide +kernel : ∀ t : Fin grid0.N, _)

/-- The product of two blocks. -/
theorem block (A : Vec Ideal S512x2816 .bf16) (B : Vec Ideal S2816x1024 .bf16) (a : Fin 512) (b : Fin 1024) :
    k0_pay1 A B (ix2 a b) = Product.nn A B (ix2 a b) := by
  unfold Product.nn
  pointwise [k0_pay1]
/-- The first block of terms of a tile. -/
theorem first (A : Vec Ideal S512x2816 .bf16) (B : Vec Ideal S2816x1024 .bf16) (a : Fin 512) (b : Fin 1024) :
    k0_pay2 A B (ix2 a b) = Product.nn A B (ix2 a b) := by
  unfold Product.nn
  pointwise [k0_pay2, k0_pay1]
/-- A further block of terms. -/
theorem next (A : Vec Ideal S512x2816 .bf16) (B : Vec Ideal S2816x1024 .bf16) (C : Vec Ideal S512x1024 .f32) (a : Fin 512) (b : Fin 1024) :
    k0_pay3 A B C (ix2 a b) = C (ix2 a b) + Product.nn A B (ix2 a b) := by
  unfold Product.nn
  pointwise [k0_pay3, k0_pay1]

variable (t : Fin cfg0.N)

/-- The device's arrays, whatever they hold. -/
abbrev Arrays (c : Dev nD) := (b : Ref sig .tc) → Buf (Elt Ideal) ((c.tc : Thread nD τ).loc b)

/-- The row of the result that a point's row `a` is. -/
def row (a : Fin 512) : Fin 4096 := ⟨512 * (t.val / 4 % 8) + a.val, by have := (idx t).2.2.2; have := a.isLt; omega⟩
/-- The column of the result that a point's column `b` is. -/
def col (b : Fin 1024) : Fin 2048 := ⟨1024 * (t.val / 32) + b.val, by have := (idx t).2.2.2; have := b.isLt; omega⟩
/-- The term of a sum that a point's term `k` is. -/
def mid (k : Fin 2816) : Fin 11264 := ⟨2816 * (t.val % 4) + k.val, by have := k.isLt; omega⟩
theorem opened0 (X : Arrays c) (y : S512x2816.Idx) :
    ((cfg0.win 0).blk t).view.read (Elt Ideal) (X (Pipeline.arrRef spec0 0)) y = X main_arg0 ((win0_0.blk t).view.emb y) := rfl
theorem place0 (a : Fin 512) (k : Fin 2816) : (win0_0.blk t).view.emb (ix2 a k) = ix2 (row t a) (mid t k) := by
  unfold row mid; blk_ext [(idx t).1]
theorem read0 (a : Fin 512) (k : Fin 2816) : (iblk m c 0 t : Vec Ideal S512x2816 .bf16) (ix2 a k) = V m c main_arg0 (ix2 (row t a) (mid t k)) :=
  (opened0 c t (V m c) _).trans (congrArg (V m c main_arg0) (place0 t a k))
theorem opened1 (X : Arrays c) (y : S2816x1024.Idx) :
    ((cfg0.win 1).blk t).view.read (Elt Ideal) (X (Pipeline.arrRef spec0 1)) y = X main_arg1 ((win0_1.blk t).view.emb y) := rfl
theorem place1 (k : Fin 2816) (b : Fin 1024) : (win0_1.blk t).view.emb (ix2 k b) = ix2 (mid t k) (col t b) := by
  unfold col mid; blk_ext [(idx t).2.1]
theorem read1 (k : Fin 2816) (b : Fin 1024) : (iblk m c 1 t : Vec Ideal S2816x1024 .bf16) (ix2 k b) = V m c main_arg1 (ix2 (mid t k) (col t b)) :=
  (opened1 c t (V m c) _).trans (congrArg (V m c main_arg1) (place1 t k b))

/-- The terms a point adds. -/
theorem part (a : Fin 512) (b : Fin 1024) :
    Product.nn (M := 512) (N := 1024) (K := 2816) (iblk m c 0 t) (iblk m c 1 t) (ix2 a b)
      = ∑ k : Fin 2816, Product.termNN (K := 11264) (V m c main_arg0) (V m c main_arg1) (row t a) (col t b) ⟨2816 * (t.val % 4) + k.val, by have := k.isLt; omega⟩ :=
  Finset.sum_congr rfl fun k _ => congrArg₂ (· * ·) (read0 m c t a k) (read1 m c t k b)

/-- What the accumulator holds after a point: the terms of its tile so far. -/
theorem scratch : ∀ (n : ℕ) (h : n < cfg0.N) (a : Fin 512) (b : Fin 1024), (outsAt0 m c n h).2 (ix2 a b)
    = Product.upto (K := 11264) (V m c main_arg0) (V m c main_arg1) (row ⟨n, h⟩ a) (col ⟨n, h⟩ b) (2816 * (n % 4 + 1)) := by
  intro n
  induction n with
  | zero =>
    intro h a b
    rw [outsAt0_A m c ⟨0, h⟩ rfl (by simp) (by simp)]
    unfold sout0_A_0
    frame_out
    exact (first _ _ a b).trans ((part m c ⟨0, h⟩ a b).trans (Product.first_block _ _ _ _ 2816 (0 % 4) (by decide) rfl))
  | succ n ih =>
    intro h a b
    have h4 : (n + 1) % 4 < 4 := Nat.mod_lt _ (by decide)
    have hN : n + 1 < 64 := (idx ⟨n + 1, h⟩).2.2.2
    by_cases h0 : (n + 1) % 4 = 0
    · rw [outsAt0_A m c ⟨n + 1, h⟩ h0 (by dsimp only; omega) (by dsimp only; omega)]
      unfold sout0_A_0
      frame_out
      exact (first _ _ a b).trans ((part m c ⟨n + 1, h⟩ a b).trans (Product.first_block _ _ _ _ 2816 ((n + 1) % 4) (by omega) h0))
    · have er : row ⟨n, Nat.lt_of_succ_lt h⟩ a = row ⟨n + 1, h⟩ a := Fin.ext (by simp only [row]; omega)
      have ec : col ⟨n, Nat.lt_of_succ_lt h⟩ b = col ⟨n + 1, h⟩ b := Fin.ext (by simp only [col]; omega)
      have i := ih (Nat.lt_of_succ_lt h) a b
      rw [er, ec, show n % 4 + 1 = (n + 1) % 4 by omega] at i
      rw [Product.upto_block _ _ _ _ 2816 ((n + 1) % 4) (by omega)]
      by_cases h2 : (n + 1) % 4 = 3
      · rw [outsAt0_C m c ⟨n + 1, h⟩ h0 (by dsimp only; omega) h2]
        unfold sout0_C_0
        frame_out
        exact (next _ _ _ a b).trans (congrArg₂ (· + ·) ((congrFun (Memref.IsWhole.read_unread _ _) _).trans i) (part m c ⟨n + 1, h⟩ a b))
      · rw [outsAt0_B m c ⟨n + 1, h⟩ h0 (by dsimp only; omega) h2]
        unfold sout0_B_0
        frame_out
        exact (next _ _ _ a b).trans (congrArg₂ (· + ·) ((congrFun (Memref.IsWhole.read_unread _ _) _).trans i) (part m c ⟨n + 1, h⟩ a b))

/-- The last point of a tile writes the accumulator back. -/
theorem result (h : t.val % 4 = 3) (y : S512x1024.Idx) : (outsAt0 m c t.val t.isLt).1 y = (outsAt0 m c t.val t.isLt).2 y := by
  rw [outsAt0_C m c t (by omega) (by omega) h]
  unfold sout0_C_0 out0_C_2
  dsimp only
  frame_out

/-- The tile the last point of it leaves. -/
theorem after2 (h : t.val % 4 = 3) (a : Fin 512) (b : Fin 1024) :
    (dats m 0 c).after 2 t (ix2 a b) = Product.nn (M := 4096) (N := 2048) (K := 11264) (V m c main_arg0) (V m c main_arg1) (ix2 (row t a) (col t b)) := by
  rw [after0_2]
  have e : (outsAt0 m c t.val t.isLt).2 (ix2 a b) = Product.nn (M := 4096) (N := 2048) (K := 11264) (V m c main_arg0) (V m c main_arg1) (ix2 (row t a) (col t b)) := by
    refine (scratch m c t.val t.isLt a b).trans ?_
    rw [h]
    exact Product.upto_all (K := 11264) _ _ (ix2 (row t a) (col t b))
  exact (result m c t h _).trans e

/-- The result. -/
theorem array : (dats m 0 c).arrAt 2 cfg0.N = Product.nn (M := 4096) (N := 2048) (K := 11264) (V m c main_arg0) (V m c main_arg1) := by
  refine (dats m 0 c).arrAt_eq_of_covers 2 _ (by decide +kernel) fun t hf y => ?_
  blk_simp
  obtain ⟨a, b, rfl⟩ : ∃ (a : Fin 512) (b : Fin 1024), y = ix2 a b := ⟨y 0, y 1, eq_ix2 y⟩
  refine (after2 m c t ((flush0_2 t).mp hf) a b).trans ?_
  have e0 : (win0_2.blk t).view.emb (ix2 a b) = ix2 (row t a) (col t b) := by
    unfold row col; blk_ext [(idx t).2.2.1]
  exact congrArg (Product.nn (M := 4096) (N := 2048) (K := 11264) (V m c main_arg0) (V m c main_arg1)) e0.symm

end Cert.FfnInDxIdeal.Entry

namespace Cert.FfnInDxRefIdeal.Entry

open Idealize.ShloMosaic Idealize.SL.Sem Cert.FfnInDxRefIdeal

/-- The reference's product. -/
theorem product (A : (⟨S4096x11264, .bf16⟩ : BufTy).Contents (Elt Ideal)) (B : (⟨S11264x2048, .bf16⟩ : BufTy).Contents (Elt Ideal)) :
    Read.val_main_v5 (F := Ideal) A B = Product.nn (M := 4096) (N := 2048) (K := 11264) A B := by
  funext y
  refine (Read.val_main_v5_apply A B _).trans (Finset.sum_congr rfl fun k _ => ?_)
  exact (congrArg₂ (· * ·) (congrArg A (eq_ix2 _)) (congrArg B (eq_ix2 _)))

end Cert.FfnInDxRefIdeal.Entry

namespace Cert.Proof.FfnInDx

open Idealize.ShloMosaic Idealize.SL.Sem

attribute [local instance] Cert.FfnInDx.Gen.facts Cert.FfnInDxIdeal.Gen.facts Cert.FfnInDxRefIdeal.Gen.facts

theorem frame_p : Cert.quiescent_FfnInDx := fun m ρ _ => Cert.FfnInDx.Gen.frame m ρ
theorem frame_pi : Cert.quiescent_FfnInDxIdeal := fun m ρ _ => Cert.FfnInDxIdeal.Gen.frame m ρ
theorem frame_ri : Cert.quiescent_FfnInDxRefIdeal := fun m ρ _ =>
  (θ_run Cert.FfnInDxRefIdeal.defs _ _).mono (fun r h => ⟨fun c => (h c).2, sem_eq_zero_of_no_sems (by decide) r.2⟩) (Cert.FfnInDxRefIdeal.Value.run (F := Ideal) m ρ)
theorem preserves : Cert.preserves_FfnInDx_FfnInDxIdeal := trivial

/-- Over the extended reals the call and the reference leave the same result. -/
theorem algebraic : Cert.algebraic_FfnInDxIdeal_FfnInDxRefIdeal := by
  intro m g m' g' _ hagree
  refine ⟨_, Cert.FfnInDxIdeal.Value.run_blocks m g, ?_⟩
  refine (θ_run Cert.FfnInDxRefIdeal.defs _ _).mono (fun r h c => ?_) (Cert.FfnInDxRefIdeal.Value.run (F := Ideal) m' g')
  obtain ⟨h0, h1⟩ := h c
  obtain ⟨e0, e1⟩ := hagree c
  refine ⟨h0.trans ?_, h1⟩
  exact ((Cert.FfnInDxRefIdeal.Entry.product _ _).trans (congrArg₂ (Product.nn (M := 4096) (N := 2048) (K := 11264)) e0 e1)).trans (Cert.FfnInDxIdeal.Entry.array m c).symm

end Cert.Proof.FfnInDx
-- ==== Proof.FfnInDw.lean ====
/- The call for the gradient of the feed-forward network's first weight: its result is the product `Aᵀ · B` of its first two arguments.
   A grid point computes one tile of 512 rows and 1024 columns. -/
module

public import proofs.«01_k».proof.Defs
public import proofs.«01_k».proof.Proof.Product
public import proofs.«01_k».proof.Proof.Gen.FfnInDw
public import proofs.«01_k».proof.Proof.Gen.FfnInDw.Frame
public import proofs.«01_k».proof.Proof.Gen.FfnInDwIdeal
public import proofs.«01_k».proof.Proof.Gen.FfnInDwIdeal.Value
public import proofs.«01_k».proof.Proof.Gen.FfnInDwRefIdeal
public import proofs.«01_k».proof.Proof.Gen.FfnInDwRefIdeal.Run
public import proofs.«01_k».proof.Proof.Gen.FfnInDwRefIdeal.Read
public import Idealize.ShloMosaic.Lib.Pipeline.ValueKit
public import Idealize.ShloMosaic.Lib.Pointwise
public import Idealize.ShloMosaic.Lib.WholeRead
public import Idealize.ShloMosaic.Lib.Claim

@[expose] public section

set_option maxRecDepth 16384

noncomputable section

namespace Cert.FfnInDwIdeal.Entry

open Idealize.ShloMosaic Idealize.SL.Sem Cert.FfnInDwIdeal Cert.FfnInDwIdeal.Gen

variable (m : (ℓ : Loc nD τ sig) → Buf (Elt Ideal) ℓ) (c : Dev nD)

/-- Where each window's block lies. -/
theorem idx : ∀ t : Fin cfg0.N, win0_0.index t = ![0, t.val % 22] ∧ win0_1.index t = ![0, t.val / 22] ∧ win0_2.index t = ![t.val % 22, t.val / 22] ∧ t.val < 44 :=
  (by decide +kernel : ∀ t : Fin grid0.N, _)

/-- The product of two blocks. -/
theorem block (A : Vec Ideal S4096x512 .bf16) (B : Vec Ideal S4096x1024 .bf16) (a : Fin 512) (b : Fin 1024) :
    k0_pay1 A B (ix2 a b) = Product.tn A B (ix2 a b) := by
  unfold Product.tn
  pointwise [k0_pay1]

variable (t : Fin cfg0.N)

/-- The device's arrays, whatever they hold. -/
abbrev Arrays (c : Dev nD) := (b : Ref sig .tc) → Buf (Elt Ideal) ((c.tc : Thread nD τ).loc b)

/-- The row of the result that a point's row `a` is. -/
def row (a : Fin 512) : Fin 11264 := ⟨512 * (t.val % 22) + a.val, by have := (idx t).2.2.2; have := a.isLt; omega⟩
/-- The column of the result that a point's column `b` is. -/
def col (b : Fin 1024) : Fin 2048 := ⟨1024 * (t.val / 22) + b.val, by have := (idx t).2.2.2; have := b.isLt; omega⟩
theorem opened0 (X : Arrays c) (y : S4096x512.Idx) :
    ((cfg0.win 0).blk t).view.read (Elt Ideal) (X (Pipeline.arrRef spec0 0)) y = X main_arg0 ((win0_0.blk t).view.emb y) := rfl
theorem place0 (k : Fin 4096) (a : Fin 512) : (win0_0.blk t).view.emb (ix2 k a) = ix2 (k) (row t a) := by
  unfold row; blk_ext [(idx t).1]
theorem read0 (k : Fin 4096) (a : Fin 512) : (iblk m c 0 t : Vec Ideal S4096x512 .bf16) (ix2 k a) = V m c main_arg0 (ix2 (k) (row t a)) :=
  (opened0 c t (V m c) _).trans (congrArg (V m c main_arg0) (place0 t k a))
theorem opened1 (X : Arrays c) (y : S4096x1024.Idx) :
    ((cfg0.win 1).blk t).view.read (Elt Ideal) (X (Pipeline.arrRef spec0 1)) y = X main_arg1 ((win0_1.blk t).view.emb y) := rfl
theorem place1 (k : Fin 4096) (b : Fin 1024) : (win0_1.blk t).view.emb (ix2 k b) = ix2 (k) (col t b) := by
  unfold col; blk_ext [(idx t).2.1]
theorem read1 (k : Fin 4096) (b : Fin 1024) : (iblk m c 1 t : Vec Ideal S4096x1024 .bf16) (ix2 k b) = V m c main_arg1 (ix2 (k) (col t b)) :=
  (opened1 c t (V m c) _).trans (congrArg (V m c main_arg1) (place1 t k b))

/-- The tile a point leaves. -/
theorem after2 (a : Fin 512) (b : Fin 1024) : (dats m 0 c).after 2 t (ix2 a b) = Product.tn (M := 11264) (N := 2048) (K := 4096) (V m c main_arg0) (V m c main_arg1) (ix2 (row t a) (col t b)) := by
  rw [after0_2]
  unfold out0_2
  frame_out
  exact (block _ _ a b).trans (Finset.sum_congr rfl fun k _ => congrArg₂ (· * ·) (read0 m c t k a) (read1 m c t k b))

/-- The result is the product. -/
theorem array : (dats m 0 c).arrAt 2 cfg0.N = Product.tn (M := 11264) (N := 2048) (K := 4096) (V m c main_arg0) (V m c main_arg1) := by
  refine (dats m 0 c).arrAt_eq_of_covers 2 _ (by decide +kernel) fun t hf y => ?_
  blk_simp
  obtain ⟨a, b, rfl⟩ : ∃ (a : Fin 512) (b : Fin 1024), y = ix2 a b := ⟨y 0, y 1, eq_ix2 y⟩
  refine (after2 m c t a b).trans ?_
  have e0 : (win0_2.blk t).view.emb (ix2 a b) = ix2 (row t a) (col t b) := by
    unfold row col; blk_ext [(idx t).2.2.1]
  exact congrArg (Product.tn (M := 11264) (N := 2048) (K := 4096) (V m c main_arg0) (V m c main_arg1)) e0.symm

end Cert.FfnInDwIdeal.Entry

namespace Cert.FfnInDwRefIdeal.Entry

open Idealize.ShloMosaic Idealize.SL.Sem Cert.FfnInDwRefIdeal

/-- The reference's product. -/
theorem product (A : (⟨S4096x11264, .bf16⟩ : BufTy).Contents (Elt Ideal)) (B : (⟨S4096x2048, .bf16⟩ : BufTy).Contents (Elt Ideal)) :
    Read.val_main_v8 (F := Ideal) A B = Product.tn (M := 11264) (N := 2048) (K := 4096) A B := by
  funext y
  refine (Read.val_main_v5_apply A B _).trans (Finset.sum_congr rfl fun k _ => ?_)
  exact (congrArg₂ (· * ·) (congrArg A (eq_ix2 _)) (congrArg B (eq_ix2 _)))

end Cert.FfnInDwRefIdeal.Entry

namespace Cert.Proof.FfnInDw

open Idealize.ShloMosaic Idealize.SL.Sem

attribute [local instance] Cert.FfnInDw.Gen.facts Cert.FfnInDwIdeal.Gen.facts Cert.FfnInDwRefIdeal.Gen.facts

theorem frame_p : Cert.quiescent_FfnInDw := fun m ρ _ => Cert.FfnInDw.Gen.frame m ρ
theorem frame_pi : Cert.quiescent_FfnInDwIdeal := fun m ρ _ => Cert.FfnInDwIdeal.Gen.frame m ρ
theorem frame_ri : Cert.quiescent_FfnInDwRefIdeal := fun m ρ _ =>
  (θ_run Cert.FfnInDwRefIdeal.defs _ _).mono (fun r h => ⟨fun c => (h c).2, sem_eq_zero_of_no_sems (by decide) r.2⟩) (Cert.FfnInDwRefIdeal.Value.run (F := Ideal) m ρ)
theorem preserves : Cert.preserves_FfnInDw_FfnInDwIdeal := trivial

/-- Over the extended reals the call and the reference leave the same result. -/
theorem algebraic : Cert.algebraic_FfnInDwIdeal_FfnInDwRefIdeal := by
  intro m g m' g' _ hagree
  refine ⟨_, Cert.FfnInDwIdeal.Value.run_blocks m g, ?_⟩
  refine (θ_run Cert.FfnInDwRefIdeal.defs _ _).mono (fun r h c => ?_) (Cert.FfnInDwRefIdeal.Value.run (F := Ideal) m' g')
  obtain ⟨h0, h1⟩ := h c
  obtain ⟨e0, e1⟩ := hagree c
  refine ⟨h0.trans ?_, h1⟩
  exact ((Cert.FfnInDwRefIdeal.Entry.product _ _).trans (congrArg₂ (Product.tn (M := 11264) (N := 2048) (K := 4096)) e0 e1)).trans (Cert.FfnInDwIdeal.Entry.array m c).symm

end Cert.Proof.FfnInDw
-- ==== Proof.FfnIn.lean ====
/- The call for the feed-forward network's first product: its result is the product `A · Bᵀ` of its first two arguments.
   A grid point computes one tile of 1024 rows and 1024 columns. -/
module

public import proofs.«01_k».proof.Defs
public import proofs.«01_k».proof.Proof.Product
public import proofs.«01_k».proof.Proof.Gen.FfnIn
public import proofs.«01_k».proof.Proof.Gen.FfnIn.Frame
public import proofs.«01_k».proof.Proof.Gen.FfnInIdeal
public import proofs.«01_k».proof.Proof.Gen.FfnInIdeal.Value
public import proofs.«01_k».proof.Proof.Gen.FfnInRefIdeal
public import proofs.«01_k».proof.Proof.Gen.FfnInRefIdeal.Run
public import proofs.«01_k».proof.Proof.Gen.FfnInRefIdeal.Read
public import Idealize.ShloMosaic.Lib.Pipeline.ValueKit
public import Idealize.ShloMosaic.Lib.Pointwise
public import Idealize.ShloMosaic.Lib.WholeRead
public import Idealize.ShloMosaic.Lib.Claim

@[expose] public section

set_option maxRecDepth 16384

noncomputable section

namespace Cert.FfnInIdeal.Entry

open Idealize.ShloMosaic Idealize.SL.Sem Cert.FfnInIdeal Cert.FfnInIdeal.Gen

variable (m : (ℓ : Loc nD τ sig) → Buf (Elt Ideal) ℓ) (c : Dev nD)

/-- Where each window's block lies. -/
theorem idx : ∀ t : Fin cfg0.N, win0_0.index t = ![t.val % 4, 0] ∧ win0_1.index t = ![t.val / 4, 0] ∧ win0_2.index t = ![t.val % 4, t.val / 4] ∧ t.val < 44 :=
  (by decide +kernel : ∀ t : Fin grid0.N, _)

/-- The product of two blocks. -/
theorem block (A : Vec Ideal S1024x2048 .bf16) (B : Vec Ideal S1024x2048 .bf16) (a : Fin 1024) (b : Fin 1024) :
    k0_pay1 A B (ix2 a b) = Product.nt A B (ix2 a b) := by
  unfold Product.nt
  pointwise [k0_pay1]

variable (t : Fin cfg0.N)

/-- The device's arrays, whatever they hold. -/
abbrev Arrays (c : Dev nD) := (b : Ref sig .tc) → Buf (Elt Ideal) ((c.tc : Thread nD τ).loc b)

/-- The row of the result that a point's row `a` is. -/
def row (a : Fin 1024) : Fin 4096 := ⟨1024 * (t.val % 4) + a.val, by have := (idx t).2.2.2; have := a.isLt; omega⟩
/-- The column of the result that a point's column `b` is. -/
def col (b : Fin 1024) : Fin 11264 := ⟨1024 * (t.val / 4) + b.val, by have := (idx t).2.2.2; have := b.isLt; omega⟩
theorem opened0 (X : Arrays c) (y : S1024x2048.Idx) :
    ((cfg0.win 0).blk t).view.read (Elt Ideal) (X (Pipeline.arrRef spec0 0)) y = X main_arg0 ((win0_0.blk t).view.emb y) := rfl
theorem place0 (a : Fin 1024) (k : Fin 2048) : (win0_0.blk t).view.emb (ix2 a k) = ix2 (row t a) (k) := by
  unfold row; blk_ext [(idx t).1]
theorem read0 (a : Fin 1024) (k : Fin 2048) : (iblk m c 0 t : Vec Ideal S1024x2048 .bf16) (ix2 a k) = V m c main_arg0 (ix2 (row t a) (k)) :=
  (opened0 c t (V m c) _).trans (congrArg (V m c main_arg0) (place0 t a k))
theorem opened1 (X : Arrays c) (y : S1024x2048.Idx) :
    ((cfg0.win 1).blk t).view.read (Elt Ideal) (X (Pipeline.arrRef spec0 1)) y = X main_arg1 ((win0_1.blk t).view.emb y) := rfl
theorem place1 (b : Fin 1024) (k : Fin 2048) : (win0_1.blk t).view.emb (ix2 b k) = ix2 (col t b) (k) := by
  unfold col; blk_ext [(idx t).2.1]
theorem read1 (b : Fin 1024) (k : Fin 2048) : (iblk m c 1 t : Vec Ideal S1024x2048 .bf16) (ix2 b k) = V m c main_arg1 (ix2 (col t b) (k)) :=
  (opened1 c t (V m c) _).trans (congrArg (V m c main_arg1) (place1 t b k))

/-- The tile a point leaves. -/
theorem after2 (a : Fin 1024) (b : Fin 1024) : (dats m 0 c).after 2 t (ix2 a b) = Product.nt (M := 4096) (N := 11264) (K := 2048) (V m c main_arg0) (V m c main_arg1) (ix2 (row t a) (col t b)) := by
  rw [after0_2]
  unfold out0_2
  frame_out
  exact (block _ _ a b).trans (Finset.sum_congr rfl fun k _ => congrArg₂ (· * ·) (read0 m c t a k) (read1 m c t b k))

/-- The result is the product. -/
theorem array : (dats m 0 c).arrAt 2 cfg0.N = Product.nt (M := 4096) (N := 11264) (K := 2048) (V m c main_arg0) (V m c main_arg1) := by
  refine (dats m 0 c).arrAt_eq_of_covers 2 _ (by decide +kernel) fun t hf y => ?_
  blk_simp
  obtain ⟨a, b, rfl⟩ : ∃ (a : Fin 1024) (b : Fin 1024), y = ix2 a b := ⟨y 0, y 1, eq_ix2 y⟩
  refine (after2 m c t a b).trans ?_
  have e0 : (win0_2.blk t).view.emb (ix2 a b) = ix2 (row t a) (col t b) := by
    unfold row col; blk_ext [(idx t).2.2.1]
  exact congrArg (Product.nt (M := 4096) (N := 11264) (K := 2048) (V m c main_arg0) (V m c main_arg1)) e0.symm

end Cert.FfnInIdeal.Entry

namespace Cert.FfnInRefIdeal.Entry

open Idealize.ShloMosaic Idealize.SL.Sem Cert.FfnInRefIdeal

/-- The reference's product. -/
theorem product (A : (⟨S4096x2048, .bf16⟩ : BufTy).Contents (Elt Ideal)) (B : (⟨S11264x2048, .bf16⟩ : BufTy).Contents (Elt Ideal)) :
    Read.val_main_v4 (F := Ideal) A B = Product.nt (M := 4096) (N := 11264) (K := 2048) A B := by
  funext y
  refine (Read.val_main_v3_apply A B _).trans (Finset.sum_congr rfl fun k _ => ?_)
  exact (congrArg₂ (· * ·) (congrArg A (eq_ix2 _)) (congrArg B (eq_ix2 _)))

end Cert.FfnInRefIdeal.Entry

namespace Cert.Proof.FfnIn

open Idealize.ShloMosaic Idealize.SL.Sem

attribute [local instance] Cert.FfnIn.Gen.facts Cert.FfnInIdeal.Gen.facts Cert.FfnInRefIdeal.Gen.facts

theorem frame_p : Cert.quiescent_FfnIn := fun m ρ _ => Cert.FfnIn.Gen.frame m ρ
theorem frame_pi : Cert.quiescent_FfnInIdeal := fun m ρ _ => Cert.FfnInIdeal.Gen.frame m ρ
theorem frame_ri : Cert.quiescent_FfnInRefIdeal := fun m ρ _ =>
  (θ_run Cert.FfnInRefIdeal.defs _ _).mono (fun r h => ⟨fun c => (h c).2, sem_eq_zero_of_no_sems (by decide) r.2⟩) (Cert.FfnInRefIdeal.Value.run (F := Ideal) m ρ)
theorem preserves : Cert.preserves_FfnIn_FfnInIdeal := trivial

/-- Over the extended reals the call and the reference leave the same result. -/
theorem algebraic : Cert.algebraic_FfnInIdeal_FfnInRefIdeal := by
  intro m g m' g' _ hagree
  refine ⟨_, Cert.FfnInIdeal.Value.run_blocks m g, ?_⟩
  refine (θ_run Cert.FfnInRefIdeal.defs _ _).mono (fun r h c => ?_) (Cert.FfnInRefIdeal.Value.run (F := Ideal) m' g')
  obtain ⟨h0, h1⟩ := h c
  obtain ⟨e0, e1⟩ := hagree c
  refine ⟨h0.trans ?_, h1⟩
  exact ((Cert.FfnInRefIdeal.Entry.product _ _).trans (congrArg₂ (Product.nt (M := 4096) (N := 11264) (K := 2048)) e0 e1)).trans (Cert.FfnInIdeal.Entry.array m c).symm

end Cert.Proof.FfnIn
-- ==== Proof.lean ====
/- The claims of `Cert.Claim`, assembled. -/
module

public import proofs.«01_k».proof.Defs
public import proofs.«01_k».proof.Proof.Gen.DkvIdeal.Value
public import proofs.«01_k».proof.Proof.Gen.DkvRefIdeal.Run
public import proofs.«01_k».proof.Proof.Gen.DkvRefIdeal.Read
public import proofs.«01_k».proof.Proof.Gen.Dkv
public import proofs.«01_k».proof.Proof.Gen.Dkv.Skeleton
public import proofs.«01_k».proof.Proof.Gen.Dkv.Loops
public import proofs.«01_k».proof.Proof.Gen.Dkv.Launch
public import proofs.«01_k».proof.Proof.Gen.Dkv.Points
public import proofs.«01_k».proof.Proof.Gen.Dkv.Frame
public import proofs.«01_k».proof.Proof.Gen.DkvIdeal
public import proofs.«01_k».proof.Proof.Gen.DkvIdeal.Skeleton
public import proofs.«01_k».proof.Proof.Gen.DkvIdeal.Loops
public import proofs.«01_k».proof.Proof.Gen.DkvIdeal.Launch
public import proofs.«01_k».proof.Proof.Gen.DkvIdeal.Points
public import proofs.«01_k».proof.Proof.Gen.DkvIdeal.Frame
public import proofs.«01_k».proof.Proof.Gen.DkvRefIdeal
public import proofs.«01_k».proof.Proof.Gen.DqIdeal.Value
public import proofs.«01_k».proof.Proof.Gen.DqRefIdeal.Run
public import proofs.«01_k».proof.Proof.Gen.DqRefIdeal.Read
public import proofs.«01_k».proof.Proof.Gen.Dq
public import proofs.«01_k».proof.Proof.Gen.Dq.Skeleton
public import proofs.«01_k».proof.Proof.Gen.Dq.Loops
public import proofs.«01_k».proof.Proof.Gen.Dq.Launch
public import proofs.«01_k».proof.Proof.Gen.Dq.Points
public import proofs.«01_k».proof.Proof.Gen.Dq.Frame
public import proofs.«01_k».proof.Proof.Gen.DqIdeal
public import proofs.«01_k».proof.Proof.Gen.DqIdeal.Skeleton
public import proofs.«01_k».proof.Proof.Gen.DqIdeal.Loops
public import proofs.«01_k».proof.Proof.Gen.DqIdeal.Launch
public import proofs.«01_k».proof.Proof.Gen.DqIdeal.Points
public import proofs.«01_k».proof.Proof.Gen.DqIdeal.Frame
public import proofs.«01_k».proof.Proof.Gen.DqRefIdeal
public import proofs.«01_k».proof.Proof.Gen.FfnOutDx.Frame
public import proofs.«01_k».proof.Proof.Gen.FfnOutDx
public import proofs.«01_k».proof.Proof.Gen.FfnOutDxIdeal.Value
public import proofs.«01_k».proof.Proof.Gen.FfnOutDxIdeal
public import proofs.«01_k».proof.Proof.Gen.FfnOutDxRefIdeal.Run
public import proofs.«01_k».proof.Proof.Gen.FfnOutDxRefIdeal.Read
public import proofs.«01_k».proof.Proof.Gen.FfnOutDxRefIdeal
public import proofs.«01_k».proof.Proof.Gen.FfnOutDw.Frame
public import proofs.«01_k».proof.Proof.Gen.FfnOutDw
public import proofs.«01_k».proof.Proof.Gen.FfnOutDwIdeal.Value
public import proofs.«01_k».proof.Proof.Gen.FfnOutDwIdeal
public import proofs.«01_k».proof.Proof.Gen.FfnOutDwRefIdeal.Run
public import proofs.«01_k».proof.Proof.Gen.FfnOutDwRefIdeal.Read
public import proofs.«01_k».proof.Proof.Gen.FfnOutDwRefIdeal
public import proofs.«01_k».proof.Proof.Gen.FfnInDx.Frame
public import proofs.«01_k».proof.Proof.Gen.FfnInDx
public import proofs.«01_k».proof.Proof.Gen.FfnInDxIdeal.Value
public import proofs.«01_k».proof.Proof.Gen.FfnInDxIdeal
public import proofs.«01_k».proof.Proof.Gen.FfnInDxRefIdeal.Run
public import proofs.«01_k».proof.Proof.Gen.FfnInDxRefIdeal.Read
public import proofs.«01_k».proof.Proof.Gen.FfnInDxRefIdeal
public import proofs.«01_k».proof.Proof.Gen.FfnInDw.Frame
public import proofs.«01_k».proof.Proof.Gen.FfnInDw
public import proofs.«01_k».proof.Proof.Gen.FfnInDwIdeal.Value
public import proofs.«01_k».proof.Proof.Gen.FfnInDwIdeal
public import proofs.«01_k».proof.Proof.Gen.FfnInDwRefIdeal.Run
public import proofs.«01_k».proof.Proof.Gen.FfnInDwRefIdeal.Read
public import proofs.«01_k».proof.Proof.Gen.FfnInDwRefIdeal
public import proofs.«01_k».proof.Proof.Gen.OutDx.Frame
public import proofs.«01_k».proof.Proof.Gen.OutDx
public import proofs.«01_k».proof.Proof.Gen.OutDxIdeal.Value
public import proofs.«01_k».proof.Proof.Gen.OutDxIdeal
public import proofs.«01_k».proof.Proof.Gen.OutDxRefIdeal.Run
public import proofs.«01_k».proof.Proof.Gen.OutDxRefIdeal.Read
public import proofs.«01_k».proof.Proof.Gen.OutDxRefIdeal
public import proofs.«01_k».proof.Proof.Gen.OutDw.Frame
public import proofs.«01_k».proof.Proof.Gen.OutDw
public import proofs.«01_k».proof.Proof.Gen.OutDwIdeal.Value
public import proofs.«01_k».proof.Proof.Gen.OutDwIdeal
public import proofs.«01_k».proof.Proof.Gen.OutDwRefIdeal.Run
public import proofs.«01_k».proof.Proof.Gen.OutDwRefIdeal.Read
public import proofs.«01_k».proof.Proof.Gen.OutDwRefIdeal
public import proofs.«01_k».proof.Proof.Gen.QkvDx.Frame
public import proofs.«01_k».proof.Proof.Gen.QkvDx
public import proofs.«01_k».proof.Proof.Gen.QkvDxIdeal.Value
public import proofs.«01_k».proof.Proof.Gen.QkvDxIdeal
public import proofs.«01_k».proof.Proof.Gen.QkvDxRefIdeal.Run
public import proofs.«01_k».proof.Proof.Gen.QkvDxRefIdeal.Read
public import proofs.«01_k».proof.Proof.Gen.QkvDxRefIdeal
public import proofs.«01_k».proof.Proof.Gen.QkvDw.Frame
public import proofs.«01_k».proof.Proof.Gen.QkvDw
public import proofs.«01_k».proof.Proof.Gen.QkvDwIdeal.Value
public import proofs.«01_k».proof.Proof.Gen.QkvDwIdeal
public import proofs.«01_k».proof.Proof.Gen.QkvDwRefIdeal.Run
public import proofs.«01_k».proof.Proof.Gen.QkvDwRefIdeal.Read
public import proofs.«01_k».proof.Proof.Gen.QkvDwRefIdeal
public import proofs.«01_k».proof.Proof.Gen.ForgetDx.Frame
public import proofs.«01_k».proof.Proof.Gen.ForgetDx
public import proofs.«01_k».proof.Proof.Gen.ForgetDxIdeal.Value
public import proofs.«01_k».proof.Proof.Gen.ForgetDxIdeal
public import proofs.«01_k».proof.Proof.Gen.ForgetDxRefIdeal.Run
public import proofs.«01_k».proof.Proof.Gen.ForgetDxRefIdeal.Read
public import proofs.«01_k».proof.Proof.Gen.ForgetDxRefIdeal
public import proofs.«01_k».proof.Proof.Gen.ForgetDw.Frame
public import proofs.«01_k».proof.Proof.Gen.ForgetDw
public import proofs.«01_k».proof.Proof.Gen.ForgetDwIdeal.Value
public import proofs.«01_k».proof.Proof.Gen.ForgetDwIdeal
public import proofs.«01_k».proof.Proof.Gen.ForgetDwRefIdeal.Run
public import proofs.«01_k».proof.Proof.Gen.ForgetDwRefIdeal.Read
public import proofs.«01_k».proof.Proof.Gen.ForgetDwRefIdeal
public import proofs.«01_k».proof.Proof.Gen.GmInDx.Frame
public import proofs.«01_k».proof.Proof.Gen.GmInDx
public import proofs.«01_k».proof.Proof.Gen.GmInDxIdeal.Value
public import proofs.«01_k».proof.Proof.Gen.GmInDxIdeal
public import proofs.«01_k».proof.Proof.Gen.GmInDxRefIdeal.Run
public import proofs.«01_k».proof.Proof.Gen.GmInDxRefIdeal.Read
public import proofs.«01_k».proof.Proof.Gen.GmInDxRefIdeal
public import proofs.«01_k».proof.Proof.Gen.GmInDw.Frame
public import proofs.«01_k».proof.Proof.Gen.GmInDw
public import proofs.«01_k».proof.Proof.Gen.GmInDwIdeal.Value
public import proofs.«01_k».proof.Proof.Gen.GmInDwIdeal
public import proofs.«01_k».proof.Proof.Gen.GmInDwRefIdeal.Run
public import proofs.«01_k».proof.Proof.Gen.GmInDwRefIdeal.Read
public import proofs.«01_k».proof.Proof.Gen.GmInDwRefIdeal
public import proofs.«01_k».proof.Proof.Gen.FfnIn.Frame
public import proofs.«01_k».proof.Proof.Gen.FfnIn
public import proofs.«01_k».proof.Proof.Gen.FfnInIdeal.Value
public import proofs.«01_k».proof.Proof.Gen.FfnInIdeal
public import proofs.«01_k».proof.Proof.Gen.FfnInRefIdeal.Run
public import proofs.«01_k».proof.Proof.Gen.FfnInRefIdeal.Read
public import proofs.«01_k».proof.Proof.Gen.FfnInRefIdeal
public import proofs.«01_k».proof.Proof.Gen.FfnOut.Frame
public import proofs.«01_k».proof.Proof.Gen.FfnOut
public import proofs.«01_k».proof.Proof.Gen.FfnOutIdeal.Value
public import proofs.«01_k».proof.Proof.Gen.FfnOutIdeal
public import proofs.«01_k».proof.Proof.Gen.FfnOutRefIdeal.Run
public import proofs.«01_k».proof.Proof.Gen.FfnOutRefIdeal.Read
public import proofs.«01_k».proof.Proof.Gen.FfnOutRefIdeal
public import proofs.«01_k».proof.Proof.Gen.Qkv.Frame
public import proofs.«01_k».proof.Proof.Gen.Qkv
public import proofs.«01_k».proof.Proof.Gen.QkvIdeal.Value
public import proofs.«01_k».proof.Proof.Gen.QkvIdeal
public import proofs.«01_k».proof.Proof.Gen.QkvRefIdeal.Run
public import proofs.«01_k».proof.Proof.Gen.QkvRefIdeal.Read
public import proofs.«01_k».proof.Proof.Gen.QkvRefIdeal
public import proofs.«01_k».proof.Proof.Gen.Forget.Frame
public import proofs.«01_k».proof.Proof.Gen.Forget
public import proofs.«01_k».proof.Proof.Gen.ForgetIdeal.Value
public import proofs.«01_k».proof.Proof.Gen.ForgetIdeal
public import proofs.«01_k».proof.Proof.Gen.ForgetRefIdeal.Run
public import proofs.«01_k».proof.Proof.Gen.ForgetRefIdeal.Read
public import proofs.«01_k».proof.Proof.Gen.ForgetRefIdeal
public import proofs.«01_k».proof.Proof.Gen.Out.Frame
public import proofs.«01_k».proof.Proof.Gen.Out
public import proofs.«01_k».proof.Proof.Gen.OutIdeal.Value
public import proofs.«01_k».proof.Proof.Gen.OutIdeal
public import proofs.«01_k».proof.Proof.Gen.OutRefIdeal.Run
public import proofs.«01_k».proof.Proof.Gen.OutRefIdeal.Read
public import proofs.«01_k».proof.Proof.Gen.OutRefIdeal
public import proofs.«01_k».proof.Proof.Gen.GmIn.Frame
public import proofs.«01_k».proof.Proof.Gen.GmIn
public import proofs.«01_k».proof.Proof.Gen.GmInIdeal.Value
public import proofs.«01_k».proof.Proof.Gen.GmInIdeal
public import proofs.«01_k».proof.Proof.Gen.GmInRefIdeal.Run
public import proofs.«01_k».proof.Proof.Gen.GmInRefIdeal.Read
public import proofs.«01_k».proof.Proof.Gen.GmInRefIdeal
public import proofs.«01_k».proof.Proof.FwdClaims
public import proofs.«01_k».proof.Proof.NormBwd
public import proofs.«01_k».proof.Proof.NormMod
public import proofs.«01_k».proof.Proof.NormFirst
public import proofs.«01_k».proof.Proof.DqClaims
public import proofs.«01_k».proof.Proof.DkvClaims
public import proofs.«01_k».proof.Proof.QkvDx
public import proofs.«01_k».proof.Proof.QkvDw
public import proofs.«01_k».proof.Proof.Qkv
public import proofs.«01_k».proof.Proof.OutDx
public import proofs.«01_k».proof.Proof.OutDw
public import proofs.«01_k».proof.Proof.Out
public import proofs.«01_k».proof.Proof.GmInDx
public import proofs.«01_k».proof.Proof.GmInDw
public import proofs.«01_k».proof.Proof.GmIn
public import proofs.«01_k».proof.Proof.ForgetDx
public import proofs.«01_k».proof.Proof.ForgetDw
public import proofs.«01_k».proof.Proof.Forget
public import proofs.«01_k».proof.Proof.FfnOutDx
public import proofs.«01_k».proof.Proof.FfnOutDw
public import proofs.«01_k».proof.Proof.FfnOut
public import proofs.«01_k».proof.Proof.FfnInDx
public import proofs.«01_k».proof.Proof.FfnInDw
public import proofs.«01_k».proof.Proof.FfnIn
public import Idealize.ShloMosaic.Adequacy
public import Idealize.ShloMosaic.Init

@[expose] public section

noncomputable section

namespace Cert.Proof

theorem claim : Cert.Claim := ⟨Cert.Dq.Gen.facts, Cert.DqIdeal.Gen.facts, Cert.DqRefIdeal.Gen.facts, Cert.Dkv.Gen.facts, Cert.DkvIdeal.Gen.facts, Cert.DkvRefIdeal.Gen.facts, Cert.Fwd.Gen.facts, Cert.FwdIdeal.Gen.facts, Cert.FwdRefIdeal.Gen.facts, Cert.FfnOutDx.Gen.facts, Cert.FfnOutDxIdeal.Gen.facts, Cert.FfnOutDxRefIdeal.Gen.facts, Cert.FfnOutDw.Gen.facts, Cert.FfnOutDwIdeal.Gen.facts, Cert.FfnOutDwRefIdeal.Gen.facts, Cert.FfnInDx.Gen.facts, Cert.FfnInDxIdeal.Gen.facts, Cert.FfnInDxRefIdeal.Gen.facts, Cert.FfnInDw.Gen.facts, Cert.FfnInDwIdeal.Gen.facts, Cert.FfnInDwRefIdeal.Gen.facts, Cert.OutDx.Gen.facts, Cert.OutDxIdeal.Gen.facts, Cert.OutDxRefIdeal.Gen.facts, Cert.OutDw.Gen.facts, Cert.OutDwIdeal.Gen.facts, Cert.OutDwRefIdeal.Gen.facts, Cert.QkvDx.Gen.facts, Cert.QkvDxIdeal.Gen.facts, Cert.QkvDxRefIdeal.Gen.facts, Cert.QkvDw.Gen.facts, Cert.QkvDwIdeal.Gen.facts, Cert.QkvDwRefIdeal.Gen.facts, Cert.ForgetDx.Gen.facts, Cert.ForgetDxIdeal.Gen.facts, Cert.ForgetDxRefIdeal.Gen.facts, Cert.ForgetDw.Gen.facts, Cert.ForgetDwIdeal.Gen.facts, Cert.ForgetDwRefIdeal.Gen.facts, Cert.GmInDx.Gen.facts, Cert.GmInDxIdeal.Gen.facts, Cert.GmInDxRefIdeal.Gen.facts, Cert.GmInDw.Gen.facts, Cert.GmInDwIdeal.Gen.facts, Cert.GmInDwRefIdeal.Gen.facts, Cert.FfnIn.Gen.facts, Cert.FfnInIdeal.Gen.facts, Cert.FfnInRefIdeal.Gen.facts, Cert.FfnOut.Gen.facts, Cert.FfnOutIdeal.Gen.facts, Cert.FfnOutRefIdeal.Gen.facts, Cert.Qkv.Gen.facts, Cert.QkvIdeal.Gen.facts, Cert.QkvRefIdeal.Gen.facts, Cert.Forget.Gen.facts, Cert.ForgetIdeal.Gen.facts, Cert.ForgetRefIdeal.Gen.facts, Cert.Out.Gen.facts, Cert.OutIdeal.Gen.facts, Cert.OutRefIdeal.Gen.facts, Cert.GmIn.Gen.facts, Cert.GmInIdeal.Gen.facts, Cert.GmInRefIdeal.Gen.facts, Cert.NormMod.Gen.facts, Cert.NormModIdeal.Gen.facts, Cert.NormModRefIdeal.Gen.facts, Cert.NormBwd.Gen.facts, Cert.NormBwdIdeal.Gen.facts, Cert.NormBwdRefIdeal.Gen.facts, Cert.NormFirst.Gen.facts, Cert.NormFirstIdeal.Gen.facts, Cert.NormFirstRefIdeal.Gen.facts, Cert.Finite.facts, Cert.Proof.Fwd.finite_facts,
  Dq.frame_p, Dq.frame_pi, Dq.frame_pi_finite, Dq.frame_ri, Dq.frame_ri_finite, Dkv.frame_p, Dkv.frame_pi, Dkv.frame_pi_finite,
  Dkv.frame_ri, Dkv.frame_ri_finite, Fwd.frame_p, Fwd.frame_pi, Fwd.frame_pi_finite, Fwd.frame_ri, Fwd.frame_ri_finite, FfnOutDx.frame_p,
  FfnOutDx.frame_pi, FfnOutDx.frame_ri, FfnOutDw.frame_p, FfnOutDw.frame_pi, FfnOutDw.frame_ri, FfnInDx.frame_p, FfnInDx.frame_pi, FfnInDx.frame_ri,
  FfnInDw.frame_p, FfnInDw.frame_pi, FfnInDw.frame_ri, OutDx.frame_p, OutDx.frame_pi, OutDx.frame_ri, OutDw.frame_p, OutDw.frame_pi,
  OutDw.frame_ri, QkvDx.frame_p, QkvDx.frame_pi, QkvDx.frame_ri, QkvDw.frame_p, QkvDw.frame_pi, QkvDw.frame_ri, ForgetDx.frame_p,
  ForgetDx.frame_pi, ForgetDx.frame_ri, ForgetDw.frame_p, ForgetDw.frame_pi, ForgetDw.frame_ri, GmInDx.frame_p, GmInDx.frame_pi, GmInDx.frame_ri,
  GmInDw.frame_p, GmInDw.frame_pi, GmInDw.frame_ri, FfnIn.frame_p, FfnIn.frame_pi, FfnIn.frame_ri, FfnOut.frame_p, FfnOut.frame_pi,
  FfnOut.frame_ri, Qkv.frame_p, Qkv.frame_pi, Qkv.frame_ri, Forget.frame_p, Forget.frame_pi, Forget.frame_ri, Out.frame_p,
  Out.frame_pi, Out.frame_ri, GmIn.frame_p, GmIn.frame_pi, GmIn.frame_ri, NormMod.frame_p, NormMod.frame_pi, NormMod.frame_ri,
  NormBwd.frame_p, NormBwd.frame_pi, NormBwd.frame_ri, NormFirst.frame_p, NormFirst.frame_pi, NormFirst.frame_ri, Dq.preserves, Dq.algebraic,
  Dkv.preserves, Dkv.algebraic, Fwd.preserves, Fwd.algebraic, FfnOutDx.preserves, FfnOutDx.algebraic, FfnOutDw.preserves, FfnOutDw.algebraic,
  FfnInDx.preserves, FfnInDx.algebraic, FfnInDw.preserves, FfnInDw.algebraic, OutDx.preserves, OutDx.algebraic, OutDw.preserves, OutDw.algebraic,
  QkvDx.preserves, QkvDx.algebraic, QkvDw.preserves, QkvDw.algebraic, ForgetDx.preserves, ForgetDx.algebraic, ForgetDw.preserves, ForgetDw.algebraic,
  GmInDx.preserves, GmInDx.algebraic, GmInDw.preserves, GmInDw.algebraic, FfnIn.preserves, FfnIn.algebraic, FfnOut.preserves, FfnOut.algebraic,
  Qkv.preserves, Qkv.algebraic, Forget.preserves, Forget.algebraic, Out.preserves, Out.algebraic, GmIn.preserves, GmIn.algebraic,
  NormMod.preserves, NormMod.algebraic, NormBwd.preserves, NormBwd.algebraic, NormFirst.preserves, NormFirst.algebraic⟩

end Cert.Proof

end
